-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_DwoKernel (m : (ℓ : Loc Cert.DwoKernel.nD Cert.DwoKernel.τ Cert.DwoKernel.sig) → Buf (Elt Bits) ℓ) : Prop :=
  True

def Pre_DwoKernelIdeal (m : (ℓ : Loc Cert.DwoKernelIdeal.nD Cert.DwoKernelIdeal.τ Cert.DwoKernelIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_DwiKernel (m : (ℓ : Loc Cert.DwiKernel.nD Cert.DwiKernel.τ Cert.DwiKernel.sig) → Buf (Elt Bits) ℓ) : Prop :=
  True

def Pre_DwiKernelIdeal (m : (ℓ : Loc Cert.DwiKernelIdeal.nD Cert.DwiKernelIdeal.τ Cert.DwiKernelIdeal.sig) → Buf (Elt Ideal) ℓ) : Prop :=
  True

def Pre_DwiReferenceIdeal (m : (ℓ : Loc Cert.DwiReferenceIdeal.nD Cert.DwiReferenceIdeal.τ Cert.DwiReferenceIdeal.sig) → Buf (Elt Ideal) ℓ) : Prop :=
  True

def Pre_DmKernel (m : (ℓ : Loc Cert.DmKernel.nD Cert.DmKernel.τ Cert.DmKernel.sig) → Buf (Elt Bits) ℓ) : Prop :=
  True

def Pre_DmKernelIdeal (m : (ℓ : Loc Cert.DmKernelIdeal.nD Cert.DmKernelIdeal.τ Cert.DmKernelIdeal.sig) → Buf (Elt Ideal) ℓ) : Prop :=
  True

def Pre_DmReferenceIdeal (m : (ℓ : Loc Cert.DmReferenceIdeal.nD Cert.DmReferenceIdeal.τ Cert.DmReferenceIdeal.sig) → Buf (Elt Ideal) ℓ) : Prop :=
  True

def Pre_DwmKernel (m : (ℓ : Loc Cert.DwmKernel.nD Cert.DwmKernel.τ Cert.DwmKernel.sig) → Buf (Elt Bits) ℓ) : Prop :=
  True

def Pre_DwmKernelIdeal (m : (ℓ : Loc Cert.DwmKernelIdeal.nD Cert.DwmKernelIdeal.τ Cert.DwmKernelIdeal.sig) → Buf (Elt Ideal) ℓ) : Prop :=
  True

def Pre_DwmReferenceIdeal (m : (ℓ : Loc Cert.DwmReferenceIdeal.nD Cert.DwmReferenceIdeal.τ Cert.DwmReferenceIdeal.sig) → Buf (Elt Ideal) ℓ) : Prop :=
  True

def Pre_DyaKernel (m : (ℓ : Loc Cert.DyaKernel.nD Cert.DyaKernel.τ Cert.DyaKernel.sig) → Buf (Elt Bits) ℓ) : Prop :=
  True

def Pre_DyaKernelIdeal (m : (ℓ : Loc Cert.DyaKernelIdeal.nD Cert.DyaKernelIdeal.τ Cert.DyaKernelIdeal.sig) → Buf (Elt Ideal) ℓ) : Prop :=
  True

def Pre_DyaReferenceIdeal (m : (ℓ : Loc Cert.DyaReferenceIdeal.nD Cert.DyaReferenceIdeal.τ Cert.DyaReferenceIdeal.sig) → Buf (Elt Ideal) ℓ) : Prop :=
  True

def Pre_DwaKernel (m : (ℓ : Loc Cert.DwaKernel.nD Cert.DwaKernel.τ Cert.DwaKernel.sig) → Buf (Elt Bits) ℓ) : Prop :=
  True

def Pre_DwaKernelIdeal (m : (ℓ : Loc Cert.DwaKernelIdeal.nD Cert.DwaKernelIdeal.τ Cert.DwaKernelIdeal.sig) → Buf (Elt Ideal) ℓ) : Prop :=
  True

def Pre_DwaReferenceIdeal (m : (ℓ : Loc Cert.DwaReferenceIdeal.nD Cert.DwaReferenceIdeal.τ Cert.DwaReferenceIdeal.sig) → Buf (Elt Ideal) ℓ) : Prop :=
  True

def Pre_DygKernel (m : (ℓ : Loc Cert.DygKernel.nD Cert.DygKernel.τ Cert.DygKernel.sig) → Buf (Elt Bits) ℓ) : Prop :=
  True

def Pre_DygKernelIdeal (m : (ℓ : Loc Cert.DygKernelIdeal.nD Cert.DygKernelIdeal.τ Cert.DygKernelIdeal.sig) → Buf (Elt Ideal) ℓ) : Prop :=
  True

def Pre_DygReferenceIdeal (m : (ℓ : Loc Cert.DygReferenceIdeal.nD Cert.DygReferenceIdeal.τ Cert.DygReferenceIdeal.sig) → Buf (Elt Ideal) ℓ) : Prop :=
  True

def Pre_DwgKernel (m : (ℓ : Loc Cert.DwgKernel.nD Cert.DwgKernel.τ Cert.DwgKernel.sig) → Buf (Elt Bits) ℓ) : Prop :=
  True

def Pre_DwgKernelIdeal (m : (ℓ : Loc Cert.DwgKernelIdeal.nD Cert.DwgKernelIdeal.τ Cert.DwgKernelIdeal.sig) → Buf (Elt Ideal) ℓ) : Prop :=
  True

def Pre_DwgReferenceIdeal (m : (ℓ : Loc Cert.DwgReferenceIdeal.nD Cert.DwgReferenceIdeal.τ Cert.DwgReferenceIdeal.sig) → Buf (Elt Ideal) ℓ) : Prop :=
  True

def Pre_DzKernel (m : (ℓ : Loc Cert.DzKernel.nD Cert.DzKernel.τ Cert.DzKernel.sig) → Buf (Elt Bits) ℓ) : Prop :=
  True

def Pre_DzKernelIdeal (m : (ℓ : Loc Cert.DzKernelIdeal.nD Cert.DzKernelIdeal.τ Cert.DzKernelIdeal.sig) → Buf (Elt Ideal) ℓ) : Prop :=
  True

def Pre_DzReferenceIdeal (m : (ℓ : Loc Cert.DzReferenceIdeal.nD Cert.DzReferenceIdeal.τ Cert.DzReferenceIdeal.sig) → Buf (Elt Ideal) ℓ) : Prop :=
  True

def Pre_DwzKernel (m : (ℓ : Loc Cert.DwzKernel.nD Cert.DwzKernel.τ Cert.DwzKernel.sig) → Buf (Elt Bits) ℓ) : Prop :=
  True

def Pre_DwzKernelIdeal (m : (ℓ : Loc Cert.DwzKernelIdeal.nD Cert.DwzKernelIdeal.τ Cert.DwzKernelIdeal.sig) → Buf (Elt Ideal) ℓ) : Prop :=
  True

def Pre_DwzReferenceIdeal (m : (ℓ : Loc Cert.DwzReferenceIdeal.nD Cert.DwzReferenceIdeal.τ Cert.DwzReferenceIdeal.sig) → Buf (Elt Ideal) ℓ) : Prop :=
  True

def Pre_FzKernel (m : (ℓ : Loc Cert.FzKernel.nD Cert.FzKernel.τ Cert.FzKernel.sig) → Buf (Elt Bits) ℓ) : Prop :=
  True

def Pre_FzKernelIdeal (m : (ℓ : Loc Cert.FzKernelIdeal.nD Cert.FzKernelIdeal.τ Cert.FzKernelIdeal.sig) → Buf (Elt Ideal) ℓ) : Prop :=
  True

def Pre_FzReferenceIdeal (m : (ℓ : Loc Cert.FzReferenceIdeal.nD Cert.FzReferenceIdeal.τ Cert.FzReferenceIdeal.sig) → Buf (Elt Ideal) ℓ) : Prop :=
  True

def Pre_FgKernel (m : (ℓ : Loc Cert.FgKernel.nD Cert.FgKernel.τ Cert.FgKernel.sig) → Buf (Elt Bits) ℓ) : Prop :=
  True

def Pre_FgKernelIdeal (m : (ℓ : Loc Cert.FgKernelIdeal.nD Cert.FgKernelIdeal.τ Cert.FgKernelIdeal.sig) → Buf (Elt Ideal) ℓ) : Prop :=
  True

def Pre_FgReferenceIdeal (m : (ℓ : Loc Cert.FgReferenceIdeal.nD Cert.FgReferenceIdeal.τ Cert.FgReferenceIdeal.sig) → Buf (Elt Ideal) ℓ) : Prop :=
  True

def Pre_FaKernel (m : (ℓ : Loc Cert.FaKernel.nD Cert.FaKernel.τ Cert.FaKernel.sig) → Buf (Elt Bits) ℓ) : Prop :=
  True

def Pre_FaKernelIdeal (m : (ℓ : Loc Cert.FaKernelIdeal.nD Cert.FaKernelIdeal.τ Cert.FaKernelIdeal.sig) → Buf (Elt Ideal) ℓ) : Prop :=
  True

def Pre_FaReferenceIdeal (m : (ℓ : Loc Cert.FaReferenceIdeal.nD Cert.FaReferenceIdeal.τ Cert.FaReferenceIdeal.sig) → Buf (Elt Ideal) ℓ) : Prop :=
  True

def Pre_FmKernel (m : (ℓ : Loc Cert.FmKernel.nD Cert.FmKernel.τ Cert.FmKernel.sig) → Buf (Elt Bits) ℓ) : Prop :=
  True

def Pre_FmKernelIdeal (m : (ℓ : Loc Cert.FmKernelIdeal.nD Cert.FmKernelIdeal.τ Cert.FmKernelIdeal.sig) → Buf (Elt Ideal) ℓ) : Prop :=
  True

def Pre_FmReferenceIdeal (m : (ℓ : Loc Cert.FmReferenceIdeal.nD Cert.FmReferenceIdeal.τ Cert.FmReferenceIdeal.sig) → Buf (Elt Ideal) ℓ) : Prop :=
  True

def Pre_FiKernel (m : (ℓ : Loc Cert.FiKernel.nD Cert.FiKernel.τ Cert.FiKernel.sig) → Buf (Elt Bits) ℓ) : Prop :=
  True

def Pre_FiKernelIdeal (m : (ℓ : Loc Cert.FiKernelIdeal.nD Cert.FiKernelIdeal.τ Cert.FiKernelIdeal.sig) → Buf (Elt Ideal) ℓ) : Prop :=
  True

def Pre_FiReferenceIdeal (m : (ℓ : Loc Cert.FiReferenceIdeal.nD Cert.FiReferenceIdeal.τ Cert.FiReferenceIdeal.sig) → Buf (Elt Ideal) ℓ) : Prop :=
  True

def Pre_FoKernel (m : (ℓ : Loc Cert.FoKernel.nD Cert.FoKernel.τ Cert.FoKernel.sig) → Buf (Elt Bits) ℓ) : Prop :=
  True

def Pre_FoKernelIdeal (m : (ℓ : Loc Cert.FoKernelIdeal.nD Cert.FoKernelIdeal.τ Cert.FoKernelIdeal.sig) → Buf (Elt Ideal) ℓ) : Prop :=
  True

def Pre_FoReferenceIdeal (m : (ℓ : Loc Cert.FoReferenceIdeal.nD Cert.FoReferenceIdeal.τ Cert.FoReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_SwbKernel (m : (ℓ : Loc Cert.SwbKernel.nD Cert.SwbKernel.τ Cert.SwbKernel.sig) → Buf (Elt Bits) ℓ) : Prop :=
  True

def Pre_SwbKernelIdeal (m : (ℓ : Loc Cert.SwbKernelIdeal.nD Cert.SwbKernelIdeal.τ Cert.SwbKernelIdeal.sig) → Buf (Elt Ideal) ℓ) : Prop :=
  True

def Pre_SwbKernelIdeal_finite_swb [hPre_finite_swb : Cert.Pre_finite_swb.Facts] (m : (ℓ : Loc Cert.SwbKernelIdeal.nD Cert.SwbKernelIdeal.τ Cert.SwbKernelIdeal.sig) → Buf (Elt Ideal) ℓ) : Prop :=
  ∀ c : Dev Cert.SwbKernelIdeal.nD,
    (Cert.Pre_finite_swb.fn (F := Ideal) (m ((c.tc : Thread Cert.SwbKernelIdeal.nD Cert.SwbKernelIdeal.τ).loc Cert.SwbKernelIdeal.main_arg0)) (m ((c.tc : Thread Cert.SwbKernelIdeal.nD Cert.SwbKernelIdeal.τ).loc Cert.SwbKernelIdeal.main_arg1))) = (fun _ => 1#1)

def Pre_SwbReferenceIdeal (m : (ℓ : Loc Cert.SwbReferenceIdeal.nD Cert.SwbReferenceIdeal.τ Cert.SwbReferenceIdeal.sig) → Buf (Elt Ideal) ℓ) : Prop :=
  True

def Pre_SwbReferenceIdeal_finite_swb [hPre_finite_swb : Cert.Pre_finite_swb.Facts] (m : (ℓ : Loc Cert.SwbReferenceIdeal.nD Cert.SwbReferenceIdeal.τ Cert.SwbReferenceIdeal.sig) → Buf (Elt Ideal) ℓ) : Prop :=
  ∀ c : Dev Cert.SwbReferenceIdeal.nD,
    (Cert.Pre_finite_swb.fn (F := Ideal) (m ((c.tc : Thread Cert.SwbReferenceIdeal.nD Cert.SwbReferenceIdeal.τ).loc Cert.SwbReferenceIdeal.main_arg0)) (m ((c.tc : Thread Cert.SwbReferenceIdeal.nD Cert.SwbReferenceIdeal.τ).loc Cert.SwbReferenceIdeal.main_arg1))) = (fun _ => 1#1)

def Pre_NbKernel (m : (ℓ : Loc Cert.NbKernel.nD Cert.NbKernel.τ Cert.NbKernel.sig) → Buf (Elt Bits) ℓ) : Prop :=
  True

def Pre_NbKernelIdeal (m : (ℓ : Loc Cert.NbKernelIdeal.nD Cert.NbKernelIdeal.τ Cert.NbKernelIdeal.sig) → Buf (Elt Ideal) ℓ) : Prop :=
  True

def Pre_NbReferenceIdeal (m : (ℓ : Loc Cert.NbReferenceIdeal.nD Cert.NbReferenceIdeal.τ Cert.NbReferenceIdeal.sig) → Buf (Elt Ideal) ℓ) : Prop :=
  True

def Pre_GbKernel (m : (ℓ : Loc Cert.GbKernel.nD Cert.GbKernel.τ Cert.GbKernel.sig) → Buf (Elt Bits) ℓ) : Prop :=
  True

def Pre_GbKernelIdeal (m : (ℓ : Loc Cert.GbKernelIdeal.nD Cert.GbKernelIdeal.τ Cert.GbKernelIdeal.sig) → Buf (Elt Ideal) ℓ) : Prop :=
  True

def Pre_GbReferenceIdeal (m : (ℓ : Loc Cert.GbReferenceIdeal.nD Cert.GbReferenceIdeal.τ Cert.GbReferenceIdeal.sig) → Buf (Elt Ideal) ℓ) : Prop :=
  True

def Pre_GebKernel (m : (ℓ : Loc Cert.GebKernel.nD Cert.GebKernel.τ Cert.GebKernel.sig) → Buf (Elt Bits) ℓ) : Prop :=
  True

def Pre_GebKernelIdeal (m : (ℓ : Loc Cert.GebKernelIdeal.nD Cert.GebKernelIdeal.τ Cert.GebKernelIdeal.sig) → Buf (Elt Ideal) ℓ) : Prop :=
  True

def Pre_GebReferenceIdeal (m : (ℓ : Loc Cert.GebReferenceIdeal.nD Cert.GebReferenceIdeal.τ Cert.GebReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GeluKernel (m : (ℓ : Loc Cert.GeluKernel.nD Cert.GeluKernel.τ Cert.GeluKernel.sig) → Buf (Elt Bits) ℓ) : Prop :=
  True

def Pre_GeluKernelIdeal (m : (ℓ : Loc Cert.GeluKernelIdeal.nD Cert.GeluKernelIdeal.τ Cert.GeluKernelIdeal.sig) → Buf (Elt Ideal) ℓ) : Prop :=
  True

def Pre_GeluReferenceIdeal (m : (ℓ : Loc Cert.GeluReferenceIdeal.nD Cert.GeluReferenceIdeal.τ Cert.GeluReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_SwfKernel (m : (ℓ : Loc Cert.SwfKernel.nD Cert.SwfKernel.τ Cert.SwfKernel.sig) → Buf (Elt Bits) ℓ) : Prop :=
  True

def Pre_SwfKernelIdeal (m : (ℓ : Loc Cert.SwfKernelIdeal.nD Cert.SwfKernelIdeal.τ Cert.SwfKernelIdeal.sig) → Buf (Elt Ideal) ℓ) : Prop :=
  True

def Pre_SwfReferenceIdeal (m : (ℓ : Loc Cert.SwfReferenceIdeal.nD Cert.SwfReferenceIdeal.τ Cert.SwfReferenceIdeal.sig) → Buf (Elt Ideal) ℓ) : Prop :=
  True

def Pre_UaKernel (m : (ℓ : Loc Cert.UaKernel.nD Cert.UaKernel.τ Cert.UaKernel.sig) → Buf (Elt Bits) ℓ) : Prop :=
  True

def Pre_UaKernelIdeal (m : (ℓ : Loc Cert.UaKernelIdeal.nD Cert.UaKernelIdeal.τ Cert.UaKernelIdeal.sig) → Buf (Elt Ideal) ℓ) : Prop :=
  True

def Pre_UaReferenceIdeal (m : (ℓ : Loc Cert.UaReferenceIdeal.nD Cert.UaReferenceIdeal.τ Cert.UaReferenceIdeal.sig) → Buf (Elt Ideal) ℓ) : Prop :=
  True

def Pre_UbKernel (m : (ℓ : Loc Cert.UbKernel.nD Cert.UbKernel.τ Cert.UbKernel.sig) → Buf (Elt Bits) ℓ) : Prop :=
  True

def Pre_UbKernelIdeal (m : (ℓ : Loc Cert.UbKernelIdeal.nD Cert.UbKernelIdeal.τ Cert.UbKernelIdeal.sig) → Buf (Elt Ideal) ℓ) : Prop :=
  True

def Pre_UbReferenceIdeal (m : (ℓ : Loc Cert.UbReferenceIdeal.nD Cert.UbReferenceIdeal.τ Cert.UbReferenceIdeal.sig) → Buf (Elt Ideal) ℓ) : Prop :=
  True

def Pre_UcKernel (m : (ℓ : Loc Cert.UcKernel.nD Cert.UcKernel.τ Cert.UcKernel.sig) → Buf (Elt Bits) ℓ) : Prop :=
  True

def Pre_UcKernelIdeal (m : (ℓ : Loc Cert.UcKernelIdeal.nD Cert.UcKernelIdeal.τ Cert.UcKernelIdeal.sig) → Buf (Elt Ideal) ℓ) : Prop :=
  True

def Pre_UcReferenceIdeal (m : (ℓ : Loc Cert.UcReferenceIdeal.nD Cert.UcReferenceIdeal.τ Cert.UcReferenceIdeal.sig) → Buf (Elt Ideal) ℓ) : Prop :=
  True

def Pre_UdKernel (m : (ℓ : Loc Cert.UdKernel.nD Cert.UdKernel.τ Cert.UdKernel.sig) → Buf (Elt Bits) ℓ) : Prop :=
  True

def Pre_UdKernelIdeal (m : (ℓ : Loc Cert.UdKernelIdeal.nD Cert.UdKernelIdeal.τ Cert.UdKernelIdeal.sig) → Buf (Elt Ideal) ℓ) : Prop :=
  True

def Pre_UdReferenceIdeal (m : (ℓ : Loc Cert.UdReferenceIdeal.nD Cert.UdReferenceIdeal.τ Cert.UdReferenceIdeal.sig) → Buf (Elt Ideal) ℓ) : Prop :=
  True

def Pre_UeKernel (m : (ℓ : Loc Cert.UeKernel.nD Cert.UeKernel.τ Cert.UeKernel.sig) → Buf (Elt Bits) ℓ) : Prop :=
  True

def Pre_UeKernelIdeal (m : (ℓ : Loc Cert.UeKernelIdeal.nD Cert.UeKernelIdeal.τ Cert.UeKernelIdeal.sig) → Buf (Elt Ideal) ℓ) : Prop :=
  True

def Pre_UeReferenceIdeal (m : (ℓ : Loc Cert.UeReferenceIdeal.nD Cert.UeReferenceIdeal.τ Cert.UeReferenceIdeal.sig) → Buf (Elt Ideal) ℓ) : Prop :=
  True

def Pre_UfKernel (m : (ℓ : Loc Cert.UfKernel.nD Cert.UfKernel.τ Cert.UfKernel.sig) → Buf (Elt Bits) ℓ) : Prop :=
  True

def Pre_UfKernelIdeal (m : (ℓ : Loc Cert.UfKernelIdeal.nD Cert.UfKernelIdeal.τ Cert.UfKernelIdeal.sig) → Buf (Elt Ideal) ℓ) : Prop :=
  True

def Pre_UfReferenceIdeal (m : (ℓ : Loc Cert.UfReferenceIdeal.nD Cert.UfReferenceIdeal.τ Cert.UfReferenceIdeal.sig) → Buf (Elt Ideal) ℓ) : Prop :=
  True

def Pre_UgKernel (m : (ℓ : Loc Cert.UgKernel.nD Cert.UgKernel.τ Cert.UgKernel.sig) → Buf (Elt Bits) ℓ) : Prop :=
  True

def Pre_UgKernelIdeal (m : (ℓ : Loc Cert.UgKernelIdeal.nD Cert.UgKernelIdeal.τ Cert.UgKernelIdeal.sig) → Buf (Elt Ideal) ℓ) : Prop :=
  True

def Pre_UgReferenceIdeal (m : (ℓ : Loc Cert.UgReferenceIdeal.nD Cert.UgReferenceIdeal.τ Cert.UgReferenceIdeal.sig) → Buf (Elt Ideal) ℓ) : Prop :=
  True

def Pre_UhKernel (m : (ℓ : Loc Cert.UhKernel.nD Cert.UhKernel.τ Cert.UhKernel.sig) → Buf (Elt Bits) ℓ) : Prop :=
  True

def Pre_UhKernelIdeal (m : (ℓ : Loc Cert.UhKernelIdeal.nD Cert.UhKernelIdeal.τ Cert.UhKernelIdeal.sig) → Buf (Elt Ideal) ℓ) : Prop :=
  True

def Pre_UhReferenceIdeal (m : (ℓ : Loc Cert.UhReferenceIdeal.nD Cert.UhReferenceIdeal.τ Cert.UhReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1))
      ∧ r.2.sem = fun _ => 0)

def quiescent_DwoKernel [hDwoKernel : Cert.DwoKernel.Facts] : Prop :=
  ∀ (m : (ℓ : Loc Cert.DwoKernel.nD Cert.DwoKernel.τ Cert.DwoKernel.sig) → Buf (Elt Bits) ℓ) (g : Dev Cert.DwoKernel.nD → PrngReg), Pre_DwoKernel m →
    θ_run (Cert.DwoKernel.defs (F := Bits)) (onTc (τ := Cert.DwoKernel.τ) (Cert.DwoKernel.main (F := Bits))) ⟨m, fun _ => 0, g⟩ (fun r => (∀ c : Dev Cert.DwoKernel.nD,
      r.2.mem ((c.tc : Thread Cert.DwoKernel.nD Cert.DwoKernel.τ).loc Cert.DwoKernel.main_arg0) = m ((c.tc : Thread Cert.DwoKernel.nD Cert.DwoKernel.τ).loc Cert.DwoKernel.main_arg0)
      ∧ r.2.mem ((c.tc : Thread Cert.DwoKernel.nD Cert.DwoKernel.τ).loc Cert.DwoKernel.main_arg1) = m ((c.tc : Thread Cert.DwoKernel.nD Cert.DwoKernel.τ).loc Cert.DwoKernel.main_arg1))
      ∧ r.2.sem = fun _ => 0)

def quiescent_DwoKernelIdeal [hDwoKernelIdeal : Cert.DwoKernelIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg), Pre_DwoKernelIdeal m →
    θ_run (Cert.DwoKernelIdeal.defs (F := Ideal)) (onTc (τ := Cert.DwoKernelIdeal.τ) (Cert.DwoKernelIdeal.main (F := Ideal))) ⟨m, fun _ => 0, g⟩ (fun r => (∀ c : Dev Cert.DwoKernelIdeal.nD,
      r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
      ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_DwiKernel [hDwiKernel : Cert.DwiKernel.Facts] : Prop :=
  ∀ (m : (ℓ : Loc Cert.DwiKernel.nD Cert.DwiKernel.τ Cert.DwiKernel.sig) → Buf (Elt Bits) ℓ) (g : Dev Cert.DwiKernel.nD → PrngReg), Pre_DwiKernel m →
    θ_run (Cert.DwiKernel.defs (F := Bits)) (onTc (τ := Cert.DwiKernel.τ) (Cert.DwiKernel.main (F := Bits))) ⟨m, fun _ => 0, g⟩ (fun r => (∀ c : Dev Cert.DwiKernel.nD,
      r.2.mem ((c.tc : Thread Cert.DwiKernel.nD Cert.DwiKernel.τ).loc Cert.DwiKernel.main_arg0) = m ((c.tc : Thread Cert.DwiKernel.nD Cert.DwiKernel.τ).loc Cert.DwiKernel.main_arg0)
      ∧ r.2.mem ((c.tc : Thread Cert.DwiKernel.nD Cert.DwiKernel.τ).loc Cert.DwiKernel.main_arg1) = m ((c.tc : Thread Cert.DwiKernel.nD Cert.DwiKernel.τ).loc Cert.DwiKernel.main_arg1))
      ∧ r.2.sem = fun _ => 0)

def quiescent_DwiKernelIdeal [hDwiKernelIdeal : Cert.DwiKernelIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg), Pre_DwiKernelIdeal m →
    θ_run (Cert.DwiKernelIdeal.defs (F := Ideal)) (onTc (τ := Cert.DwiKernelIdeal.τ) (Cert.DwiKernelIdeal.main (F := Ideal))) ⟨m, fun _ => 0, g⟩ (fun r => (∀ c : Dev Cert.DwiKernelIdeal.nD,
      r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
      ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1))
      ∧ r.2.sem = fun _ => 0)

def quiescent_DwiReferenceIdeal [hDwiReferenceIdeal : Cert.DwiReferenceIdeal.Facts] : Prop :=
  ∀ (m : (ℓ : Loc Cert.DwiReferenceIdeal.nD Cert.DwiReferenceIdeal.τ Cert.DwiReferenceIdeal.sig) → Buf (Elt Ideal) ℓ) (g : Dev Cert.DwiReferenceIdeal.nD → PrngReg), Pre_DwiReferenceIdeal m →
    θ_run (Cert.DwiReferenceIdeal.defs (F := Ideal)) (onTc (τ := Cert.DwiReferenceIdeal.τ) (Cert.DwiReferenceIdeal.main (F := Ideal))) ⟨m, fun _ => 0, g⟩ (fun r => (∀ c : Dev Cert.DwiReferenceIdeal.nD,
      r.2.mem ((c.tc : Thread Cert.DwiReferenceIdeal.nD Cert.DwiReferenceIdeal.τ).loc Cert.DwiReferenceIdeal.main_arg0) = m ((c.tc : Thread Cert.DwiReferenceIdeal.nD Cert.DwiReferenceIdeal.τ).loc Cert.DwiReferenceIdeal.main_arg0)
      ∧ r.2.mem ((c.tc : Thread Cert.DwiReferenceIdeal.nD Cert.DwiReferenceIdeal.τ).loc Cert.DwiReferenceIdeal.main_arg1) = m ((c.tc : Thread Cert.DwiReferenceIdeal.nD Cert.DwiReferenceIdeal.τ).loc Cert.DwiReferenceIdeal.main_arg1))
      ∧ r.2.sem = fun _ => 0)

def quiescent_DmKernel [hDmKernel : Cert.DmKernel.Facts] : Prop :=
  ∀ (m : (ℓ : Loc Cert.DmKernel.nD Cert.DmKernel.τ Cert.DmKernel.sig) → Buf (Elt Bits) ℓ) (g : Dev Cert.DmKernel.nD → PrngReg), Pre_DmKernel m →
    θ_run (Cert.DmKernel.defs (F := Bits)) (onTc (τ := Cert.DmKernel.τ) (Cert.DmKernel.main (F := Bits))) ⟨m, fun _ => 0, g⟩ (fun r => (∀ c : Dev Cert.DmKernel.nD,
      r.2.mem ((c.tc : Thread Cert.DmKernel.nD Cert.DmKernel.τ).loc Cert.DmKernel.main_arg0) = m ((c.tc : Thread Cert.DmKernel.nD Cert.DmKernel.τ).loc Cert.DmKernel.main_arg0)
      ∧ r.2.mem ((c.tc : Thread Cert.DmKernel.nD Cert.DmKernel.τ).loc Cert.DmKernel.main_arg1) = m ((c.tc : Thread Cert.DmKernel.nD Cert.DmKernel.τ).loc Cert.DmKernel.main_arg1))
      ∧ r.2.sem = fun _ => 0)

def quiescent_DmKernelIdeal [hDmKernelIdeal : Cert.DmKernelIdeal.Facts] : Prop :=
  ∀ (m : (ℓ : Loc Cert.DmKernelIdeal.nD Cert.DmKernelIdeal.τ Cert.DmKernelIdeal.sig) → Buf (Elt Ideal) ℓ) (g : Dev Cert.DmKernelIdeal.nD → PrngReg), Pre_DmKernelIdeal m →
    θ_run (Cert.DmKernelIdeal.defs (F := Ideal)) (onTc (τ := Cert.DmKernelIdeal.τ) (Cert.DmKernelIdeal.main (F := Ideal))) ⟨m, fun _ => 0, g⟩ (fun r => (∀ c : Dev Cert.DmKernelIdeal.nD,
      r.2.mem ((c.tc : Thread Cert.DmKernelIdeal.nD Cert.DmKernelIdeal.τ).loc Cert.DmKernelIdeal.main_arg0) = m ((c.tc : Thread Cert.DmKernelIdeal.nD Cert.DmKernelIdeal.τ).loc Cert.DmKernelIdeal.main_arg0)
      ∧ r.2.mem ((c.tc : Thread Cert.DmKernelIdeal.nD Cert.DmKernelIdeal.τ).loc Cert.DmKernelIdeal.main_arg1) = m ((c.tc : Thread Cert.DmKernelIdeal.nD Cert.DmKernelIdeal.τ).loc Cert.DmKernelIdeal.main_arg1))
      ∧ r.2.sem = fun _ => 0)

def quiescent_DmReferenceIdeal [hDmReferenceIdeal : Cert.DmReferenceIdeal.Facts] : Prop :=
  ∀ (m : (ℓ : Loc Cert.DmReferenceIdeal.nD Cert.DmReferenceIdeal.τ Cert.DmReferenceIdeal.sig) → Buf (Elt Ideal) ℓ) (g : Dev Cert.DmReferenceIdeal.nD → PrngReg), Pre_DmReferenceIdeal m →
    θ_run (Cert.DmReferenceIdeal.defs (F := Ideal)) (onTc (τ := Cert.DmReferenceIdeal.τ) (Cert.DmReferenceIdeal.main (F := Ideal))) ⟨m, fun _ => 0, g⟩ (fun r => (∀ c : Dev Cert.DmReferenceIdeal.nD,
      r.2.mem ((c.tc : Thread Cert.DmReferenceIdeal.nD Cert.DmReferenceIdeal.τ).loc Cert.DmReferenceIdeal.main_arg0) = m ((c.tc : Thread Cert.DmReferenceIdeal.nD Cert.DmReferenceIdeal.τ).loc Cert.DmReferenceIdeal.main_arg0)
      ∧ r.2.mem ((c.tc : Thread Cert.DmReferenceIdeal.nD Cert.DmReferenceIdeal.τ).loc Cert.DmReferenceIdeal.main_arg1) = m ((c.tc : Thread Cert.DmReferenceIdeal.nD Cert.DmReferenceIdeal.τ).loc Cert.DmReferenceIdeal.main_arg1))
      ∧ r.2.sem = fun _ => 0)

def quiescent_DwmKernel [hDwmKernel : Cert.DwmKernel.Facts] : Prop :=
  ∀ (m : (ℓ : Loc Cert.DwmKernel.nD Cert.DwmKernel.τ Cert.DwmKernel.sig) → Buf (Elt Bits) ℓ) (g : Dev Cert.DwmKernel.nD → PrngReg), Pre_DwmKernel m →
    θ_run (Cert.DwmKernel.defs (F := Bits)) (onTc (τ := Cert.DwmKernel.τ) (Cert.DwmKernel.main (F := Bits))) ⟨m, fun _ => 0, g⟩ (fun r => (∀ c : Dev Cert.DwmKernel.nD,
      r.2.mem ((c.tc : Thread Cert.DwmKernel.nD Cert.DwmKernel.τ).loc Cert.DwmKernel.main_arg0) = m ((c.tc : Thread Cert.DwmKernel.nD Cert.DwmKernel.τ).loc Cert.DwmKernel.main_arg0)
      ∧ r.2.mem ((c.tc : Thread Cert.DwmKernel.nD Cert.DwmKernel.τ).loc Cert.DwmKernel.main_arg1) = m ((c.tc : Thread Cert.DwmKernel.nD Cert.DwmKernel.τ).loc Cert.DwmKernel.main_arg1))
      ∧ r.2.sem = fun _ => 0)

def quiescent_DwmKernelIdeal [hDwmKernelIdeal : Cert.DwmKernelIdeal.Facts] : Prop :=
  ∀ (m : (ℓ : Loc Cert.DwmKernelIdeal.nD Cert.DwmKernelIdeal.τ Cert.DwmKernelIdeal.sig) → Buf (Elt Ideal) ℓ) (g : Dev Cert.DwmKernelIdeal.nD → PrngReg), Pre_DwmKernelIdeal m →
    θ_run (Cert.DwmKernelIdeal.defs (F := Ideal)) (onTc (τ := Cert.DwmKernelIdeal.τ) (Cert.DwmKernelIdeal.main (F := Ideal))) ⟨m, fun _ => 0, g⟩ (fun r => (∀ c : Dev Cert.DwmKernelIdeal.nD,
      r.2.mem ((c.tc : Thread Cert.DwmKernelIdeal.nD Cert.DwmKernelIdeal.τ).loc Cert.DwmKernelIdeal.main_arg0) = m ((c.tc : Thread Cert.DwmKernelIdeal.nD Cert.DwmKernelIdeal.τ).loc Cert.DwmKernelIdeal.main_arg0)
      ∧ r.2.mem ((c.tc : Thread Cert.DwmKernelIdeal.nD Cert.DwmKernelIdeal.τ).loc Cert.DwmKernelIdeal.main_arg1) = m ((c.tc : Thread Cert.DwmKernelIdeal.nD Cert.DwmKernelIdeal.τ).loc Cert.DwmKernelIdeal.main_arg1))
      ∧ r.2.sem = fun _ => 0)

def quiescent_DwmReferenceIdeal [hDwmReferenceIdeal : Cert.DwmReferenceIdeal.Facts] : Prop :=
  ∀ (m : (ℓ : Loc Cert.DwmReferenceIdeal.nD Cert.DwmReferenceIdeal.τ Cert.DwmReferenceIdeal.sig) → Buf (Elt Ideal) ℓ) (g : Dev Cert.DwmReferenceIdeal.nD → PrngReg), Pre_DwmReferenceIdeal m →
    θ_run (Cert.DwmReferenceIdeal.defs (F := Ideal)) (onTc (τ := Cert.DwmReferenceIdeal.τ) (Cert.DwmReferenceIdeal.main (F := Ideal))) ⟨m, fun _ => 0, g⟩ (fun r => (∀ c : Dev Cert.DwmReferenceIdeal.nD,
      r.2.mem ((c.tc : Thread Cert.DwmReferenceIdeal.nD Cert.DwmReferenceIdeal.τ).loc Cert.DwmReferenceIdeal.main_arg0) = m ((c.tc : Thread Cert.DwmReferenceIdeal.nD Cert.DwmReferenceIdeal.τ).loc Cert.DwmReferenceIdeal.main_arg0)
      ∧ r.2.mem ((c.tc : Thread Cert.DwmReferenceIdeal.nD Cert.DwmReferenceIdeal.τ).loc Cert.DwmReferenceIdeal.main_arg1) = m ((c.tc : Thread Cert.DwmReferenceIdeal.nD Cert.DwmReferenceIdeal.τ).loc Cert.DwmReferenceIdeal.main_arg1))
      ∧ r.2.sem = fun _ => 0)

def quiescent_DyaKernel [hDyaKernel : Cert.DyaKernel.Facts] : Prop :=
  ∀ (m : (ℓ : Loc Cert.DyaKernel.nD Cert.DyaKernel.τ Cert.DyaKernel.sig) → Buf (Elt Bits) ℓ) (g : Dev Cert.DyaKernel.nD → PrngReg), Pre_DyaKernel m →
    θ_run (Cert.DyaKernel.defs (F := Bits)) (onTc (τ := Cert.DyaKernel.τ) (Cert.DyaKernel.main (F := Bits))) ⟨m, fun _ => 0, g⟩ (fun r => (∀ c : Dev Cert.DyaKernel.nD,
      r.2.mem ((c.tc : Thread Cert.DyaKernel.nD Cert.DyaKernel.τ).loc Cert.DyaKernel.main_arg0) = m ((c.tc : Thread Cert.DyaKernel.nD Cert.DyaKernel.τ).loc Cert.DyaKernel.main_arg0)
      ∧ r.2.mem ((c.tc : Thread Cert.DyaKernel.nD Cert.DyaKernel.τ).loc Cert.DyaKernel.main_arg1) = m ((c.tc : Thread Cert.DyaKernel.nD Cert.DyaKernel.τ).loc Cert.DyaKernel.main_arg1))
      ∧ r.2.sem = fun _ => 0)

def quiescent_DyaKernelIdeal [hDyaKernelIdeal : Cert.DyaKernelIdeal.Facts] : Prop :=
  ∀ (m : (ℓ : Loc Cert.DyaKernelIdeal.nD Cert.DyaKernelIdeal.τ Cert.DyaKernelIdeal.sig) → Buf (Elt Ideal) ℓ) (g : Dev Cert.DyaKernelIdeal.nD → PrngReg), Pre_DyaKernelIdeal m →
    θ_run (Cert.DyaKernelIdeal.defs (F := Ideal)) (onTc (τ := Cert.DyaKernelIdeal.τ) (Cert.DyaKernelIdeal.main (F := Ideal))) ⟨m, fun _ => 0, g⟩ (fun r => (∀ c : Dev Cert.DyaKernelIdeal.nD,
      r.2.mem ((c.tc : Thread Cert.DyaKernelIdeal.nD Cert.DyaKernelIdeal.τ).loc Cert.DyaKernelIdeal.main_arg0) = m ((c.tc : Thread Cert.DyaKernelIdeal.nD Cert.DyaKernelIdeal.τ).loc Cert.DyaKernelIdeal.main_arg0)
      ∧ r.2.mem ((c.tc : Thread Cert.DyaKernelIdeal.nD Cert.DyaKernelIdeal.τ).loc Cert.DyaKernelIdeal.main_arg1) = m ((c.tc : Thread Cert.DyaKernelIdeal.nD Cert.DyaKernelIdeal.τ).loc Cert.DyaKernelIdeal.main_arg1))
      ∧ r.2.sem = fun _ => 0)

def quiescent_DyaReferenceIdeal [hDyaReferenceIdeal : Cert.DyaReferenceIdeal.Facts] : Prop :=
  ∀ (m : (ℓ : Loc Cert.DyaReferenceIdeal.nD Cert.DyaReferenceIdeal.τ Cert.DyaReferenceIdeal.sig) → Buf (Elt Ideal) ℓ) (g : Dev Cert.DyaReferenceIdeal.nD → PrngReg), Pre_DyaReferenceIdeal m →
    θ_run (Cert.DyaReferenceIdeal.defs (F := Ideal)) (onTc (τ := Cert.DyaReferenceIdeal.τ) (Cert.DyaReferenceIdeal.main (F := Ideal))) ⟨m, fun _ => 0, g⟩ (fun r => (∀ c : Dev Cert.DyaReferenceIdeal.nD,
      r.2.mem ((c.tc : Thread Cert.DyaReferenceIdeal.nD Cert.DyaReferenceIdeal.τ).loc Cert.DyaReferenceIdeal.main_arg0) = m ((c.tc : Thread Cert.DyaReferenceIdeal.nD Cert.DyaReferenceIdeal.τ).loc Cert.DyaReferenceIdeal.main_arg0)
      ∧ r.2.mem ((c.tc : Thread Cert.DyaReferenceIdeal.nD Cert.DyaReferenceIdeal.τ).loc Cert.DyaReferenceIdeal.main_arg1) = m ((c.tc : Thread Cert.DyaReferenceIdeal.nD Cert.DyaReferenceIdeal.τ).loc Cert.DyaReferenceIdeal.main_arg1))
      ∧ r.2.sem = fun _ => 0)

def quiescent_DwaKernel [hDwaKernel : Cert.DwaKernel.Facts] : Prop :=
  ∀ (m : (ℓ : Loc Cert.DwaKernel.nD Cert.DwaKernel.τ Cert.DwaKernel.sig) → Buf (Elt Bits) ℓ) (g : Dev Cert.DwaKernel.nD → PrngReg), Pre_DwaKernel m →
    θ_run (Cert.DwaKernel.defs (F := Bits)) (onTc (τ := Cert.DwaKernel.τ) (Cert.DwaKernel.main (F := Bits))) ⟨m, fun _ => 0, g⟩ (fun r => (∀ c : Dev Cert.DwaKernel.nD,
      r.2.mem ((c.tc : Thread Cert.DwaKernel.nD Cert.DwaKernel.τ).loc Cert.DwaKernel.main_arg0) = m ((c.tc : Thread Cert.DwaKernel.nD Cert.DwaKernel.τ).loc Cert.DwaKernel.main_arg0)
      ∧ r.2.mem ((c.tc : Thread Cert.DwaKernel.nD Cert.DwaKernel.τ).loc Cert.DwaKernel.main_arg1) = m ((c.tc : Thread Cert.DwaKernel.nD Cert.DwaKernel.τ).loc Cert.DwaKernel.main_arg1))
      ∧ r.2.sem = fun _ => 0)

def quiescent_DwaKernelIdeal [hDwaKernelIdeal : Cert.DwaKernelIdeal.Facts] : Prop :=
  ∀ (m : (ℓ : Loc Cert.DwaKernelIdeal.nD Cert.DwaKernelIdeal.τ Cert.DwaKernelIdeal.sig) → Buf (Elt Ideal) ℓ) (g : Dev Cert.DwaKernelIdeal.nD → PrngReg), Pre_DwaKernelIdeal m →
    θ_run (Cert.DwaKernelIdeal.defs (F := Ideal)) (onTc (τ := Cert.DwaKernelIdeal.τ) (Cert.DwaKernelIdeal.main (F := Ideal))) ⟨m, fun _ => 0, g⟩ (fun r => (∀ c : Dev Cert.DwaKernelIdeal.nD,
      r.2.mem ((c.tc : Thread Cert.DwaKernelIdeal.nD Cert.DwaKernelIdeal.τ).loc Cert.DwaKernelIdeal.main_arg0) = m ((c.tc : Thread Cert.DwaKernelIdeal.nD Cert.DwaKernelIdeal.τ).loc Cert.DwaKernelIdeal.main_arg0)
      ∧ r.2.mem ((c.tc : Thread Cert.DwaKernelIdeal.nD Cert.DwaKernelIdeal.τ).loc Cert.DwaKernelIdeal.main_arg1) = m ((c.tc : Thread Cert.DwaKernelIdeal.nD Cert.DwaKernelIdeal.τ).loc Cert.DwaKernelIdeal.main_arg1))
      ∧ r.2.sem = fun _ => 0)

def quiescent_DwaReferenceIdeal [hDwaReferenceIdeal : Cert.DwaReferenceIdeal.Facts] : Prop :=
  ∀ (m : (ℓ : Loc Cert.DwaReferenceIdeal.nD Cert.DwaReferenceIdeal.τ Cert.DwaReferenceIdeal.sig) → Buf (Elt Ideal) ℓ) (g : Dev Cert.DwaReferenceIdeal.nD → PrngReg), Pre_DwaReferenceIdeal m →
    θ_run (Cert.DwaReferenceIdeal.defs (F := Ideal)) (onTc (τ := Cert.DwaReferenceIdeal.τ) (Cert.DwaReferenceIdeal.main (F := Ideal))) ⟨m, fun _ => 0, g⟩ (fun r => (∀ c : Dev Cert.DwaReferenceIdeal.nD,
      r.2.mem ((c.tc : Thread Cert.DwaReferenceIdeal.nD Cert.DwaReferenceIdeal.τ).loc Cert.DwaReferenceIdeal.main_arg0) = m ((c.tc : Thread Cert.DwaReferenceIdeal.nD Cert.DwaReferenceIdeal.τ).loc Cert.DwaReferenceIdeal.main_arg0)
      ∧ r.2.mem ((c.tc : Thread Cert.DwaReferenceIdeal.nD Cert.DwaReferenceIdeal.τ).loc Cert.DwaReferenceIdeal.main_arg1) = m ((c.tc : Thread Cert.DwaReferenceIdeal.nD Cert.DwaReferenceIdeal.τ).loc Cert.DwaReferenceIdeal.main_arg1))
      ∧ r.2.sem = fun _ => 0)

def quiescent_DygKernel [hDygKernel : Cert.DygKernel.Facts] : Prop :=
  ∀ (m : (ℓ : Loc Cert.DygKernel.nD Cert.DygKernel.τ Cert.DygKernel.sig) → Buf (Elt Bits) ℓ) (g : Dev Cert.DygKernel.nD → PrngReg), Pre_DygKernel m →
    θ_run (Cert.DygKernel.defs (F := Bits)) (onTc (τ := Cert.DygKernel.τ) (Cert.DygKernel.main (F := Bits))) ⟨m, fun _ => 0, g⟩ (fun r => (∀ c : Dev Cert.DygKernel.nD,
      r.2.mem ((c.tc : Thread Cert.DygKernel.nD Cert.DygKernel.τ).loc Cert.DygKernel.main_arg0) = m ((c.tc : Thread Cert.DygKernel.nD Cert.DygKernel.τ).loc Cert.DygKernel.main_arg0)
      ∧ r.2.mem ((c.tc : Thread Cert.DygKernel.nD Cert.DygKernel.τ).loc Cert.DygKernel.main_arg1) = m ((c.tc : Thread Cert.DygKernel.nD Cert.DygKernel.τ).loc Cert.DygKernel.main_arg1))
      ∧ r.2.sem = fun _ => 0)

def quiescent_DygKernelIdeal [hDygKernelIdeal : Cert.DygKernelIdeal.Facts] : Prop :=
  ∀ (m : (ℓ : Loc Cert.DygKernelIdeal.nD Cert.DygKernelIdeal.τ Cert.DygKernelIdeal.sig) → Buf (Elt Ideal) ℓ) (g : Dev Cert.DygKernelIdeal.nD → PrngReg), Pre_DygKernelIdeal m →
    θ_run (Cert.DygKernelIdeal.defs (F := Ideal)) (onTc (τ := Cert.DygKernelIdeal.τ) (Cert.DygKernelIdeal.main (F := Ideal))) ⟨m, fun _ => 0, g⟩ (fun r => (∀ c : Dev Cert.DygKernelIdeal.nD,
      r.2.mem ((c.tc : Thread Cert.DygKernelIdeal.nD Cert.DygKernelIdeal.τ).loc Cert.DygKernelIdeal.main_arg0) = m ((c.tc : Thread Cert.DygKernelIdeal.nD Cert.DygKernelIdeal.τ).loc Cert.DygKernelIdeal.main_arg0)
      ∧ r.2.mem ((c.tc : Thread Cert.DygKernelIdeal.nD Cert.DygKernelIdeal.τ).loc Cert.DygKernelIdeal.main_arg1) = m ((c.tc : Thread Cert.DygKernelIdeal.nD Cert.DygKernelIdeal.τ).loc Cert.DygKernelIdeal.main_arg1))
      ∧ r.2.sem = fun _ => 0)

def quiescent_DygReferenceIdeal [hDygReferenceIdeal : Cert.DygReferenceIdeal.Facts] : Prop :=
  ∀ (m : (ℓ : Loc Cert.DygReferenceIdeal.nD Cert.DygReferenceIdeal.τ Cert.DygReferenceIdeal.sig) → Buf (Elt Ideal) ℓ) (g : Dev Cert.DygReferenceIdeal.nD → PrngReg), Pre_DygReferenceIdeal m →
    θ_run (Cert.DygReferenceIdeal.defs (F := Ideal)) (onTc (τ := Cert.DygReferenceIdeal.τ) (Cert.DygReferenceIdeal.main (F := Ideal))) ⟨m, fun _ => 0, g⟩ (fun r => (∀ c : Dev Cert.DygReferenceIdeal.nD,
      r.2.mem ((c.tc : Thread Cert.DygReferenceIdeal.nD Cert.DygReferenceIdeal.τ).loc Cert.DygReferenceIdeal.main_arg0) = m ((c.tc : Thread Cert.DygReferenceIdeal.nD Cert.DygReferenceIdeal.τ).loc Cert.DygReferenceIdeal.main_arg0)
      ∧ r.2.mem ((c.tc : Thread Cert.DygReferenceIdeal.nD Cert.DygReferenceIdeal.τ).loc Cert.DygReferenceIdeal.main_arg1) = m ((c.tc : Thread Cert.DygReferenceIdeal.nD Cert.DygReferenceIdeal.τ).loc Cert.DygReferenceIdeal.main_arg1))
      ∧ r.2.sem = fun _ => 0)

def quiescent_DwgKernel [hDwgKernel : Cert.DwgKernel.Facts] : Prop :=
  ∀ (m : (ℓ : Loc Cert.DwgKernel.nD Cert.DwgKernel.τ Cert.DwgKernel.sig) → Buf (Elt Bits) ℓ) (g : Dev Cert.DwgKernel.nD → PrngReg), Pre_DwgKernel m →
    θ_run (Cert.DwgKernel.defs (F := Bits)) (onTc (τ := Cert.DwgKernel.τ) (Cert.DwgKernel.main (F := Bits))) ⟨m, fun _ => 0, g⟩ (fun r => (∀ c : Dev Cert.DwgKernel.nD,
      r.2.mem ((c.tc : Thread Cert.DwgKernel.nD Cert.DwgKernel.τ).loc Cert.DwgKernel.main_arg0) = m ((c.tc : Thread Cert.DwgKernel.nD Cert.DwgKernel.τ).loc Cert.DwgKernel.main_arg0)
      ∧ r.2.mem ((c.tc : Thread Cert.DwgKernel.nD Cert.DwgKernel.τ).loc Cert.DwgKernel.main_arg1) = m ((c.tc : Thread Cert.DwgKernel.nD Cert.DwgKernel.τ).loc Cert.DwgKernel.main_arg1))
      ∧ r.2.sem = fun _ => 0)

def quiescent_DwgKernelIdeal [hDwgKernelIdeal : Cert.DwgKernelIdeal.Facts] : Prop :=
  ∀ (m : (ℓ : Loc Cert.DwgKernelIdeal.nD Cert.DwgKernelIdeal.τ Cert.DwgKernelIdeal.sig) → Buf (Elt Ideal) ℓ) (g : Dev Cert.DwgKernelIdeal.nD → PrngReg), Pre_DwgKernelIdeal m →
    θ_run (Cert.DwgKernelIdeal.defs (F := Ideal)) (onTc (τ := Cert.DwgKernelIdeal.τ) (Cert.DwgKernelIdeal.main (F := Ideal))) ⟨m, fun _ => 0, g⟩ (fun r => (∀ c : Dev Cert.DwgKernelIdeal.nD,
      r.2.mem ((c.tc : Thread Cert.DwgKernelIdeal.nD Cert.DwgKernelIdeal.τ).loc Cert.DwgKernelIdeal.main_arg0) = m ((c.tc : Thread Cert.DwgKernelIdeal.nD Cert.DwgKernelIdeal.τ).loc Cert.DwgKernelIdeal.main_arg0)
      ∧ r.2.mem ((c.tc : Thread Cert.DwgKernelIdeal.nD Cert.DwgKernelIdeal.τ).loc Cert.DwgKernelIdeal.main_arg1) = m ((c.tc : Thread Cert.DwgKernelIdeal.nD Cert.DwgKernelIdeal.τ).loc Cert.DwgKernelIdeal.main_arg1))
      ∧ r.2.sem = fun _ => 0)

def quiescent_DwgReferenceIdeal [hDwgReferenceIdeal : Cert.DwgReferenceIdeal.Facts] : Prop :=
  ∀ (m : (ℓ : Loc Cert.DwgReferenceIdeal.nD Cert.DwgReferenceIdeal.τ Cert.DwgReferenceIdeal.sig) → Buf (Elt Ideal) ℓ) (g : Dev Cert.DwgReferenceIdeal.nD → PrngReg), Pre_DwgReferenceIdeal m →
    θ_run (Cert.DwgReferenceIdeal.defs (F := Ideal)) (onTc (τ := Cert.DwgReferenceIdeal.τ) (Cert.DwgReferenceIdeal.main (F := Ideal))) ⟨m, fun _ => 0, g⟩ (fun r => (∀ c : Dev Cert.DwgReferenceIdeal.nD,
      r.2.mem ((c.tc : Thread Cert.DwgReferenceIdeal.nD Cert.DwgReferenceIdeal.τ).loc Cert.DwgReferenceIdeal.main_arg0) = m ((c.tc : Thread Cert.DwgReferenceIdeal.nD Cert.DwgReferenceIdeal.τ).loc Cert.DwgReferenceIdeal.main_arg0)
      ∧ r.2.mem ((c.tc : Thread Cert.DwgReferenceIdeal.nD Cert.DwgReferenceIdeal.τ).loc Cert.DwgReferenceIdeal.main_arg1) = m ((c.tc : Thread Cert.DwgReferenceIdeal.nD Cert.DwgReferenceIdeal.τ).loc Cert.DwgReferenceIdeal.main_arg1))
      ∧ r.2.sem = fun _ => 0)

def quiescent_DzKernel [hDzKernel : Cert.DzKernel.Facts] : Prop :=
  ∀ (m : (ℓ : Loc Cert.DzKernel.nD Cert.DzKernel.τ Cert.DzKernel.sig) → Buf (Elt Bits) ℓ) (g : Dev Cert.DzKernel.nD → PrngReg), Pre_DzKernel m →
    θ_run (Cert.DzKernel.defs (F := Bits)) (onTc (τ := Cert.DzKernel.τ) (Cert.DzKernel.main (F := Bits))) ⟨m, fun _ => 0, g⟩ (fun r => (∀ c : Dev Cert.DzKernel.nD,
      r.2.mem ((c.tc : Thread Cert.DzKernel.nD Cert.DzKernel.τ).loc Cert.DzKernel.main_arg0) = m ((c.tc : Thread Cert.DzKernel.nD Cert.DzKernel.τ).loc Cert.DzKernel.main_arg0)
      ∧ r.2.mem ((c.tc : Thread Cert.DzKernel.nD Cert.DzKernel.τ).loc Cert.DzKernel.main_arg1) = m ((c.tc : Thread Cert.DzKernel.nD Cert.DzKernel.τ).loc Cert.DzKernel.main_arg1))
      ∧ r.2.sem = fun _ => 0)

def quiescent_DzKernelIdeal [hDzKernelIdeal : Cert.DzKernelIdeal.Facts] : Prop :=
  ∀ (m : (ℓ : Loc Cert.DzKernelIdeal.nD Cert.DzKernelIdeal.τ Cert.DzKernelIdeal.sig) → Buf (Elt Ideal) ℓ) (g : Dev Cert.DzKernelIdeal.nD → PrngReg), Pre_DzKernelIdeal m →
    θ_run (Cert.DzKernelIdeal.defs (F := Ideal)) (onTc (τ := Cert.DzKernelIdeal.τ) (Cert.DzKernelIdeal.main (F := Ideal))) ⟨m, fun _ => 0, g⟩ (fun r => (∀ c : Dev Cert.DzKernelIdeal.nD,
      r.2.mem ((c.tc : Thread Cert.DzKernelIdeal.nD Cert.DzKernelIdeal.τ).loc Cert.DzKernelIdeal.main_arg0) = m ((c.tc : Thread Cert.DzKernelIdeal.nD Cert.DzKernelIdeal.τ).loc Cert.DzKernelIdeal.main_arg0)
      ∧ r.2.mem ((c.tc : Thread Cert.DzKernelIdeal.nD Cert.DzKernelIdeal.τ).loc Cert.DzKernelIdeal.main_arg1) = m ((c.tc : Thread Cert.DzKernelIdeal.nD Cert.DzKernelIdeal.τ).loc Cert.DzKernelIdeal.main_arg1))
      ∧ r.2.sem = fun _ => 0)

def quiescent_DzReferenceIdeal [hDzReferenceIdeal : Cert.DzReferenceIdeal.Facts] : Prop :=
  ∀ (m : (ℓ : Loc Cert.DzReferenceIdeal.nD Cert.DzReferenceIdeal.τ Cert.DzReferenceIdeal.sig) → Buf (Elt Ideal) ℓ) (g : Dev Cert.DzReferenceIdeal.nD → PrngReg), Pre_DzReferenceIdeal m →
    θ_run (Cert.DzReferenceIdeal.defs (F := Ideal)) (onTc (τ := Cert.DzReferenceIdeal.τ) (Cert.DzReferenceIdeal.main (F := Ideal))) ⟨m, fun _ => 0, g⟩ (fun r => (∀ c : Dev Cert.DzReferenceIdeal.nD,
      r.2.mem ((c.tc : Thread Cert.DzReferenceIdeal.nD Cert.DzReferenceIdeal.τ).loc Cert.DzReferenceIdeal.main_arg0) = m ((c.tc : Thread Cert.DzReferenceIdeal.nD Cert.DzReferenceIdeal.τ).loc Cert.DzReferenceIdeal.main_arg0)
      ∧ r.2.mem ((c.tc : Thread Cert.DzReferenceIdeal.nD Cert.DzReferenceIdeal.τ).loc Cert.DzReferenceIdeal.main_arg1) = m ((c.tc : Thread Cert.DzReferenceIdeal.nD Cert.DzReferenceIdeal.τ).loc Cert.DzReferenceIdeal.main_arg1))
      ∧ r.2.sem = fun _ => 0)

def quiescent_DwzKernel [hDwzKernel : Cert.DwzKernel.Facts] : Prop :=
  ∀ (m : (ℓ : Loc Cert.DwzKernel.nD Cert.DwzKernel.τ Cert.DwzKernel.sig) → Buf (Elt Bits) ℓ) (g : Dev Cert.DwzKernel.nD → PrngReg), Pre_DwzKernel m →
    θ_run (Cert.DwzKernel.defs (F := Bits)) (onTc (τ := Cert.DwzKernel.τ) (Cert.DwzKernel.main (F := Bits))) ⟨m, fun _ => 0, g⟩ (fun r => (∀ c : Dev Cert.DwzKernel.nD,
      r.2.mem ((c.tc : Thread Cert.DwzKernel.nD Cert.DwzKernel.τ).loc Cert.DwzKernel.main_arg0) = m ((c.tc : Thread Cert.DwzKernel.nD Cert.DwzKernel.τ).loc Cert.DwzKernel.main_arg0)
      ∧ r.2.mem ((c.tc : Thread Cert.DwzKernel.nD Cert.DwzKernel.τ).loc Cert.DwzKernel.main_arg1) = m ((c.tc : Thread Cert.DwzKernel.nD Cert.DwzKernel.τ).loc Cert.DwzKernel.main_arg1))
      ∧ r.2.sem = fun _ => 0)

def quiescent_DwzKernelIdeal [hDwzKernelIdeal : Cert.DwzKernelIdeal.Facts] : Prop :=
  ∀ (m : (ℓ : Loc Cert.DwzKernelIdeal.nD Cert.DwzKernelIdeal.τ Cert.DwzKernelIdeal.sig) → Buf (Elt Ideal) ℓ) (g : Dev Cert.DwzKernelIdeal.nD → PrngReg), Pre_DwzKernelIdeal m →
    θ_run (Cert.DwzKernelIdeal.defs (F := Ideal)) (onTc (τ := Cert.DwzKernelIdeal.τ) (Cert.DwzKernelIdeal.main (F := Ideal))) ⟨m, fun _ => 0, g⟩ (fun r => (∀ c : Dev Cert.DwzKernelIdeal.nD,
      r.2.mem ((c.tc : Thread Cert.DwzKernelIdeal.nD Cert.DwzKernelIdeal.τ).loc Cert.DwzKernelIdeal.main_arg0) = m ((c.tc : Thread Cert.DwzKernelIdeal.nD Cert.DwzKernelIdeal.τ).loc Cert.DwzKernelIdeal.main_arg0)
      ∧ r.2.mem ((c.tc : Thread Cert.DwzKernelIdeal.nD Cert.DwzKernelIdeal.τ).loc Cert.DwzKernelIdeal.main_arg1) = m ((c.tc : Thread Cert.DwzKernelIdeal.nD Cert.DwzKernelIdeal.τ).loc Cert.DwzKernelIdeal.main_arg1))
      ∧ r.2.sem = fun _ => 0)

def quiescent_DwzReferenceIdeal [hDwzReferenceIdeal : Cert.DwzReferenceIdeal.Facts] : Prop :=
  ∀ (m : (ℓ : Loc Cert.DwzReferenceIdeal.nD Cert.DwzReferenceIdeal.τ Cert.DwzReferenceIdeal.sig) → Buf (Elt Ideal) ℓ) (g : Dev Cert.DwzReferenceIdeal.nD → PrngReg), Pre_DwzReferenceIdeal m →
    θ_run (Cert.DwzReferenceIdeal.defs (F := Ideal)) (onTc (τ := Cert.DwzReferenceIdeal.τ) (Cert.DwzReferenceIdeal.main (F := Ideal))) ⟨m, fun _ => 0, g⟩ (fun r => (∀ c : Dev Cert.DwzReferenceIdeal.nD,
      r.2.mem ((c.tc : Thread Cert.DwzReferenceIdeal.nD Cert.DwzReferenceIdeal.τ).loc Cert.DwzReferenceIdeal.main_arg0) = m ((c.tc : Thread Cert.DwzReferenceIdeal.nD Cert.DwzReferenceIdeal.τ).loc Cert.DwzReferenceIdeal.main_arg0)
      ∧ r.2.mem ((c.tc : Thread Cert.DwzReferenceIdeal.nD Cert.DwzReferenceIdeal.τ).loc Cert.DwzReferenceIdeal.main_arg1) = m ((c.tc : Thread Cert.DwzReferenceIdeal.nD Cert.DwzReferenceIdeal.τ).loc Cert.DwzReferenceIdeal.main_arg1))
      ∧ r.2.sem = fun _ => 0)

def quiescent_FzKernel [hFzKernel : Cert.FzKernel.Facts] : Prop :=
  ∀ (m : (ℓ : Loc Cert.FzKernel.nD Cert.FzKernel.τ Cert.FzKernel.sig) → Buf (Elt Bits) ℓ) (g : Dev Cert.FzKernel.nD → PrngReg), Pre_FzKernel m →
    θ_run (Cert.FzKernel.defs (F := Bits)) (onTc (τ := Cert.FzKernel.τ) (Cert.FzKernel.main (F := Bits))) ⟨m, fun _ => 0, g⟩ (fun r => (∀ c : Dev Cert.FzKernel.nD,
      r.2.mem ((c.tc : Thread Cert.FzKernel.nD Cert.FzKernel.τ).loc Cert.FzKernel.main_arg0) = m ((c.tc : Thread Cert.FzKernel.nD Cert.FzKernel.τ).loc Cert.FzKernel.main_arg0)
      ∧ r.2.mem ((c.tc : Thread Cert.FzKernel.nD Cert.FzKernel.τ).loc Cert.FzKernel.main_arg1) = m ((c.tc : Thread Cert.FzKernel.nD Cert.FzKernel.τ).loc Cert.FzKernel.main_arg1))
      ∧ r.2.sem = fun _ => 0)

def quiescent_FzKernelIdeal [hFzKernelIdeal : Cert.FzKernelIdeal.Facts] : Prop :=
  ∀ (m : (ℓ : Loc Cert.FzKernelIdeal.nD Cert.FzKernelIdeal.τ Cert.FzKernelIdeal.sig) → Buf (Elt Ideal) ℓ) (g : Dev Cert.FzKernelIdeal.nD → PrngReg), Pre_FzKernelIdeal m →
    θ_run (Cert.FzKernelIdeal.defs (F := Ideal)) (onTc (τ := Cert.FzKernelIdeal.τ) (Cert.FzKernelIdeal.main (F := Ideal))) ⟨m, fun _ => 0, g⟩ (fun r => (∀ c : Dev Cert.FzKernelIdeal.nD,
      r.2.mem ((c.tc : Thread Cert.FzKernelIdeal.nD Cert.FzKernelIdeal.τ).loc Cert.FzKernelIdeal.main_arg0) = m ((c.tc : Thread Cert.FzKernelIdeal.nD Cert.FzKernelIdeal.τ).loc Cert.FzKernelIdeal.main_arg0)
      ∧ r.2.mem ((c.tc : Thread Cert.FzKernelIdeal.nD Cert.FzKernelIdeal.τ).loc Cert.FzKernelIdeal.main_arg1) = m ((c.tc : Thread Cert.FzKernelIdeal.nD Cert.FzKernelIdeal.τ).loc Cert.FzKernelIdeal.main_arg1))
      ∧ r.2.sem = fun _ => 0)

def quiescent_FzReferenceIdeal [hFzReferenceIdeal : Cert.FzReferenceIdeal.Facts] : Prop :=
  ∀ (m : (ℓ : Loc Cert.FzReferenceIdeal.nD Cert.FzReferenceIdeal.τ Cert.FzReferenceIdeal.sig) → Buf (Elt Ideal) ℓ) (g : Dev Cert.FzReferenceIdeal.nD → PrngReg), Pre_FzReferenceIdeal m →
    θ_run (Cert.FzReferenceIdeal.defs (F := Ideal)) (onTc (τ := Cert.FzReferenceIdeal.τ) (Cert.FzReferenceIdeal.main (F := Ideal))) ⟨m, fun _ => 0, g⟩ (fun r => (∀ c : Dev Cert.FzReferenceIdeal.nD,
      r.2.mem ((c.tc : Thread Cert.FzReferenceIdeal.nD Cert.FzReferenceIdeal.τ).loc Cert.FzReferenceIdeal.main_arg0) = m ((c.tc : Thread Cert.FzReferenceIdeal.nD Cert.FzReferenceIdeal.τ).loc Cert.FzReferenceIdeal.main_arg0)
      ∧ r.2.mem ((c.tc : Thread Cert.FzReferenceIdeal.nD Cert.FzReferenceIdeal.τ).loc Cert.FzReferenceIdeal.main_arg1) = m ((c.tc : Thread Cert.FzReferenceIdeal.nD Cert.FzReferenceIdeal.τ).loc Cert.FzReferenceIdeal.main_arg1))
      ∧ r.2.sem = fun _ => 0)

def quiescent_FgKernel [hFgKernel : Cert.FgKernel.Facts] : Prop :=
  ∀ (m : (ℓ : Loc Cert.FgKernel.nD Cert.FgKernel.τ Cert.FgKernel.sig) → Buf (Elt Bits) ℓ) (g : Dev Cert.FgKernel.nD → PrngReg), Pre_FgKernel m →
    θ_run (Cert.FgKernel.defs (F := Bits)) (onTc (τ := Cert.FgKernel.τ) (Cert.FgKernel.main (F := Bits))) ⟨m, fun _ => 0, g⟩ (fun r => (∀ c : Dev Cert.FgKernel.nD,
      r.2.mem ((c.tc : Thread Cert.FgKernel.nD Cert.FgKernel.τ).loc Cert.FgKernel.main_arg0) = m ((c.tc : Thread Cert.FgKernel.nD Cert.FgKernel.τ).loc Cert.FgKernel.main_arg0)
      ∧ r.2.mem ((c.tc : Thread Cert.FgKernel.nD Cert.FgKernel.τ).loc Cert.FgKernel.main_arg1) = m ((c.tc : Thread Cert.FgKernel.nD Cert.FgKernel.τ).loc Cert.FgKernel.main_arg1))
      ∧ r.2.sem = fun _ => 0)

def quiescent_FgKernelIdeal [hFgKernelIdeal : Cert.FgKernelIdeal.Facts] : Prop :=
  ∀ (m : (ℓ : Loc Cert.FgKernelIdeal.nD Cert.FgKernelIdeal.τ Cert.FgKernelIdeal.sig) → Buf (Elt Ideal) ℓ) (g : Dev Cert.FgKernelIdeal.nD → PrngReg), Pre_FgKernelIdeal m →
    θ_run (Cert.FgKernelIdeal.defs (F := Ideal)) (onTc (τ := Cert.FgKernelIdeal.τ) (Cert.FgKernelIdeal.main (F := Ideal))) ⟨m, fun _ => 0, g⟩ (fun r => (∀ c : Dev Cert.FgKernelIdeal.nD,
      r.2.mem ((c.tc : Thread Cert.FgKernelIdeal.nD Cert.FgKernelIdeal.τ).loc Cert.FgKernelIdeal.main_arg0) = m ((c.tc : Thread Cert.FgKernelIdeal.nD Cert.FgKernelIdeal.τ).loc Cert.FgKernelIdeal.main_arg0)
      ∧ r.2.mem ((c.tc : Thread Cert.FgKernelIdeal.nD Cert.FgKernelIdeal.τ).loc Cert.FgKernelIdeal.main_arg1) = m ((c.tc : Thread Cert.FgKernelIdeal.nD Cert.FgKernelIdeal.τ).loc Cert.FgKernelIdeal.main_arg1))
      ∧ r.2.sem = fun _ => 0)

def quiescent_FgReferenceIdeal [hFgReferenceIdeal : Cert.FgReferenceIdeal.Facts] : Prop :=
  ∀ (m : (ℓ : Loc Cert.FgReferenceIdeal.nD Cert.FgReferenceIdeal.τ Cert.FgReferenceIdeal.sig) → Buf (Elt Ideal) ℓ) (g : Dev Cert.FgReferenceIdeal.nD → PrngReg), Pre_FgReferenceIdeal m →
    θ_run (Cert.FgReferenceIdeal.defs (F := Ideal)) (onTc (τ := Cert.FgReferenceIdeal.τ) (Cert.FgReferenceIdeal.main (F := Ideal))) ⟨m, fun _ => 0, g⟩ (fun r => (∀ c : Dev Cert.FgReferenceIdeal.nD,
      r.2.mem ((c.tc : Thread Cert.FgReferenceIdeal.nD Cert.FgReferenceIdeal.τ).loc Cert.FgReferenceIdeal.main_arg0) = m ((c.tc : Thread Cert.FgReferenceIdeal.nD Cert.FgReferenceIdeal.τ).loc Cert.FgReferenceIdeal.main_arg0)
      ∧ r.2.mem ((c.tc : Thread Cert.FgReferenceIdeal.nD Cert.FgReferenceIdeal.τ).loc Cert.FgReferenceIdeal.main_arg1) = m ((c.tc : Thread Cert.FgReferenceIdeal.nD Cert.FgReferenceIdeal.τ).loc Cert.FgReferenceIdeal.main_arg1))
      ∧ r.2.sem = fun _ => 0)

def quiescent_FaKernel [hFaKernel : Cert.FaKernel.Facts] : Prop :=
  ∀ (m : (ℓ : Loc Cert.FaKernel.nD Cert.FaKernel.τ Cert.FaKernel.sig) → Buf (Elt Bits) ℓ) (g : Dev Cert.FaKernel.nD → PrngReg), Pre_FaKernel m →
    θ_run (Cert.FaKernel.defs (F := Bits)) (onTc (τ := Cert.FaKernel.τ) (Cert.FaKernel.main (F := Bits))) ⟨m, fun _ => 0, g⟩ (fun r => (∀ c : Dev Cert.FaKernel.nD,
      r.2.mem ((c.tc : Thread Cert.FaKernel.nD Cert.FaKernel.τ).loc Cert.FaKernel.main_arg0) = m ((c.tc : Thread Cert.FaKernel.nD Cert.FaKernel.τ).loc Cert.FaKernel.main_arg0)
      ∧ r.2.mem ((c.tc : Thread Cert.FaKernel.nD Cert.FaKernel.τ).loc Cert.FaKernel.main_arg1) = m ((c.tc : Thread Cert.FaKernel.nD Cert.FaKernel.τ).loc Cert.FaKernel.main_arg1))
      ∧ r.2.sem = fun _ => 0)

def quiescent_FaKernelIdeal [hFaKernelIdeal : Cert.FaKernelIdeal.Facts] : Prop :=
  ∀ (m : (ℓ : Loc Cert.FaKernelIdeal.nD Cert.FaKernelIdeal.τ Cert.FaKernelIdeal.sig) → Buf (Elt Ideal) ℓ) (g : Dev Cert.FaKernelIdeal.nD → PrngReg), Pre_FaKernelIdeal m →
    θ_run (Cert.FaKernelIdeal.defs (F := Ideal)) (onTc (τ := Cert.FaKernelIdeal.τ) (Cert.FaKernelIdeal.main (F := Ideal))) ⟨m, fun _ => 0, g⟩ (fun r => (∀ c : Dev Cert.FaKernelIdeal.nD,
      r.2.mem ((c.tc : Thread Cert.FaKernelIdeal.nD Cert.FaKernelIdeal.τ).loc Cert.FaKernelIdeal.main_arg0) = m ((c.tc : Thread Cert.FaKernelIdeal.nD Cert.FaKernelIdeal.τ).loc Cert.FaKernelIdeal.main_arg0)
      ∧ r.2.mem ((c.tc : Thread Cert.FaKernelIdeal.nD Cert.FaKernelIdeal.τ).loc Cert.FaKernelIdeal.main_arg1) = m ((c.tc : Thread Cert.FaKernelIdeal.nD Cert.FaKernelIdeal.τ).loc Cert.FaKernelIdeal.main_arg1))
      ∧ r.2.sem = fun _ => 0)

def quiescent_FaReferenceIdeal [hFaReferenceIdeal : Cert.FaReferenceIdeal.Facts] : Prop :=
  ∀ (m : (ℓ : Loc Cert.FaReferenceIdeal.nD Cert.FaReferenceIdeal.τ Cert.FaReferenceIdeal.sig) → Buf (Elt Ideal) ℓ) (g : Dev Cert.FaReferenceIdeal.nD → PrngReg), Pre_FaReferenceIdeal m →
    θ_run (Cert.FaReferenceIdeal.defs (F := Ideal)) (onTc (τ := Cert.FaReferenceIdeal.τ) (Cert.FaReferenceIdeal.main (F := Ideal))) ⟨m, fun _ => 0, g⟩ (fun r => (∀ c : Dev Cert.FaReferenceIdeal.nD,
      r.2.mem ((c.tc : Thread Cert.FaReferenceIdeal.nD Cert.FaReferenceIdeal.τ).loc Cert.FaReferenceIdeal.main_arg0) = m ((c.tc : Thread Cert.FaReferenceIdeal.nD Cert.FaReferenceIdeal.τ).loc Cert.FaReferenceIdeal.main_arg0)
      ∧ r.2.mem ((c.tc : Thread Cert.FaReferenceIdeal.nD Cert.FaReferenceIdeal.τ).loc Cert.FaReferenceIdeal.main_arg1) = m ((c.tc : Thread Cert.FaReferenceIdeal.nD Cert.FaReferenceIdeal.τ).loc Cert.FaReferenceIdeal.main_arg1))
      ∧ r.2.sem = fun _ => 0)

def quiescent_FmKernel [hFmKernel : Cert.FmKernel.Facts] : Prop :=
  ∀ (m : (ℓ : Loc Cert.FmKernel.nD Cert.FmKernel.τ Cert.FmKernel.sig) → Buf (Elt Bits) ℓ) (g : Dev Cert.FmKernel.nD → PrngReg), Pre_FmKernel m →
    θ_run (Cert.FmKernel.defs (F := Bits)) (onTc (τ := Cert.FmKernel.τ) (Cert.FmKernel.main (F := Bits))) ⟨m, fun _ => 0, g⟩ (fun r => (∀ c : Dev Cert.FmKernel.nD,
      r.2.mem ((c.tc : Thread Cert.FmKernel.nD Cert.FmKernel.τ).loc Cert.FmKernel.main_arg0) = m ((c.tc : Thread Cert.FmKernel.nD Cert.FmKernel.τ).loc Cert.FmKernel.main_arg0)
      ∧ r.2.mem ((c.tc : Thread Cert.FmKernel.nD Cert.FmKernel.τ).loc Cert.FmKernel.main_arg1) = m ((c.tc : Thread Cert.FmKernel.nD Cert.FmKernel.τ).loc Cert.FmKernel.main_arg1)
      ∧ r.2.mem ((c.tc : Thread Cert.FmKernel.nD Cert.FmKernel.τ).loc Cert.FmKernel.main_arg2) = m ((c.tc : Thread Cert.FmKernel.nD Cert.FmKernel.τ).loc Cert.FmKernel.main_arg2))
      ∧ r.2.sem = fun _ => 0)

def quiescent_FmKernelIdeal [hFmKernelIdeal : Cert.FmKernelIdeal.Facts] : Prop :=
  ∀ (m : (ℓ : Loc Cert.FmKernelIdeal.nD Cert.FmKernelIdeal.τ Cert.FmKernelIdeal.sig) → Buf (Elt Ideal) ℓ) (g : Dev Cert.FmKernelIdeal.nD → PrngReg), Pre_FmKernelIdeal m →
    θ_run (Cert.FmKernelIdeal.defs (F := Ideal)) (onTc (τ := Cert.FmKernelIdeal.τ) (Cert.FmKernelIdeal.main (F := Ideal))) ⟨m, fun _ => 0, g⟩ (fun r => (∀ c : Dev Cert.FmKernelIdeal.nD,
      r.2.mem ((c.tc : Thread Cert.FmKernelIdeal.nD Cert.FmKernelIdeal.τ).loc Cert.FmKernelIdeal.main_arg0) = m ((c.tc : Thread Cert.FmKernelIdeal.nD Cert.FmKernelIdeal.τ).loc Cert.FmKernelIdeal.main_arg0)
      ∧ r.2.mem ((c.tc : Thread Cert.FmKernelIdeal.nD Cert.FmKernelIdeal.τ).loc Cert.FmKernelIdeal.main_arg1) = m ((c.tc : Thread Cert.FmKernelIdeal.nD Cert.FmKernelIdeal.τ).loc Cert.FmKernelIdeal.main_arg1)
      ∧ r.2.mem ((c.tc : Thread Cert.FmKernelIdeal.nD Cert.FmKernelIdeal.τ).loc Cert.FmKernelIdeal.main_arg2) = m ((c.tc : Thread Cert.FmKernelIdeal.nD Cert.FmKernelIdeal.τ).loc Cert.FmKernelIdeal.main_arg2))
      ∧ r.2.sem = fun _ => 0)

def quiescent_FmReferenceIdeal [hFmReferenceIdeal : Cert.FmReferenceIdeal.Facts] : Prop :=
  ∀ (m : (ℓ : Loc Cert.FmReferenceIdeal.nD Cert.FmReferenceIdeal.τ Cert.FmReferenceIdeal.sig) → Buf (Elt Ideal) ℓ) (g : Dev Cert.FmReferenceIdeal.nD → PrngReg), Pre_FmReferenceIdeal m →
    θ_run (Cert.FmReferenceIdeal.defs (F := Ideal)) (onTc (τ := Cert.FmReferenceIdeal.τ) (Cert.FmReferenceIdeal.main (F := Ideal))) ⟨m, fun _ => 0, g⟩ (fun r => (∀ c : Dev Cert.FmReferenceIdeal.nD,
      r.2.mem ((c.tc : Thread Cert.FmReferenceIdeal.nD Cert.FmReferenceIdeal.τ).loc Cert.FmReferenceIdeal.main_arg0) = m ((c.tc : Thread Cert.FmReferenceIdeal.nD Cert.FmReferenceIdeal.τ).loc Cert.FmReferenceIdeal.main_arg0)
      ∧ r.2.mem ((c.tc : Thread Cert.FmReferenceIdeal.nD Cert.FmReferenceIdeal.τ).loc Cert.FmReferenceIdeal.main_arg1) = m ((c.tc : Thread Cert.FmReferenceIdeal.nD Cert.FmReferenceIdeal.τ).loc Cert.FmReferenceIdeal.main_arg1)
      ∧ r.2.mem ((c.tc : Thread Cert.FmReferenceIdeal.nD Cert.FmReferenceIdeal.τ).loc Cert.FmReferenceIdeal.main_arg2) = m ((c.tc : Thread Cert.FmReferenceIdeal.nD Cert.FmReferenceIdeal.τ).loc Cert.FmReferenceIdeal.main_arg2))
      ∧ r.2.sem = fun _ => 0)

def quiescent_FiKernel [hFiKernel : Cert.FiKernel.Facts] : Prop :=
  ∀ (m : (ℓ : Loc Cert.FiKernel.nD Cert.FiKernel.τ Cert.FiKernel.sig) → Buf (Elt Bits) ℓ) (g : Dev Cert.FiKernel.nD → PrngReg), Pre_FiKernel m →
    θ_run (Cert.FiKernel.defs (F := Bits)) (onTc (τ := Cert.FiKernel.τ) (Cert.FiKernel.main (F := Bits))) ⟨m, fun _ => 0, g⟩ (fun r => (∀ c : Dev Cert.FiKernel.nD,
      r.2.mem ((c.tc : Thread Cert.FiKernel.nD Cert.FiKernel.τ).loc Cert.FiKernel.main_arg0) = m ((c.tc : Thread Cert.FiKernel.nD Cert.FiKernel.τ).loc Cert.FiKernel.main_arg0)
      ∧ r.2.mem ((c.tc : Thread Cert.FiKernel.nD Cert.FiKernel.τ).loc Cert.FiKernel.main_arg1) = m ((c.tc : Thread Cert.FiKernel.nD Cert.FiKernel.τ).loc Cert.FiKernel.main_arg1))
      ∧ r.2.sem = fun _ => 0)

def quiescent_FiKernelIdeal [hFiKernelIdeal : Cert.FiKernelIdeal.Facts] : Prop :=
  ∀ (m : (ℓ : Loc Cert.FiKernelIdeal.nD Cert.FiKernelIdeal.τ Cert.FiKernelIdeal.sig) → Buf (Elt Ideal) ℓ) (g : Dev Cert.FiKernelIdeal.nD → PrngReg), Pre_FiKernelIdeal m →
    θ_run (Cert.FiKernelIdeal.defs (F := Ideal)) (onTc (τ := Cert.FiKernelIdeal.τ) (Cert.FiKernelIdeal.main (F := Ideal))) ⟨m, fun _ => 0, g⟩ (fun r => (∀ c : Dev Cert.FiKernelIdeal.nD,
      r.2.mem ((c.tc : Thread Cert.FiKernelIdeal.nD Cert.FiKernelIdeal.τ).loc Cert.FiKernelIdeal.main_arg0) = m ((c.tc : Thread Cert.FiKernelIdeal.nD Cert.FiKernelIdeal.τ).loc Cert.FiKernelIdeal.main_arg0)
      ∧ r.2.mem ((c.tc : Thread Cert.FiKernelIdeal.nD Cert.FiKernelIdeal.τ).loc Cert.FiKernelIdeal.main_arg1) = m ((c.tc : Thread Cert.FiKernelIdeal.nD Cert.FiKernelIdeal.τ).loc Cert.FiKernelIdeal.main_arg1))
      ∧ r.2.sem = fun _ => 0)

def quiescent_FiReferenceIdeal [hFiReferenceIdeal : Cert.FiReferenceIdeal.Facts] : Prop :=
  ∀ (m : (ℓ : Loc Cert.FiReferenceIdeal.nD Cert.FiReferenceIdeal.τ Cert.FiReferenceIdeal.sig) → Buf (Elt Ideal) ℓ) (g : Dev Cert.FiReferenceIdeal.nD → PrngReg), Pre_FiReferenceIdeal m →
    θ_run (Cert.FiReferenceIdeal.defs (F := Ideal)) (onTc (τ := Cert.FiReferenceIdeal.τ) (Cert.FiReferenceIdeal.main (F := Ideal))) ⟨m, fun _ => 0, g⟩ (fun r => (∀ c : Dev Cert.FiReferenceIdeal.nD,
      r.2.mem ((c.tc : Thread Cert.FiReferenceIdeal.nD Cert.FiReferenceIdeal.τ).loc Cert.FiReferenceIdeal.main_arg0) = m ((c.tc : Thread Cert.FiReferenceIdeal.nD Cert.FiReferenceIdeal.τ).loc Cert.FiReferenceIdeal.main_arg0)
      ∧ r.2.mem ((c.tc : Thread Cert.FiReferenceIdeal.nD Cert.FiReferenceIdeal.τ).loc Cert.FiReferenceIdeal.main_arg1) = m ((c.tc : Thread Cert.FiReferenceIdeal.nD Cert.FiReferenceIdeal.τ).loc Cert.FiReferenceIdeal.main_arg1))
      ∧ r.2.sem = fun _ => 0)

def quiescent_FoKernel [hFoKernel : Cert.FoKernel.Facts] : Prop :=
  ∀ (m : (ℓ : Loc Cert.FoKernel.nD Cert.FoKernel.τ Cert.FoKernel.sig) → Buf (Elt Bits) ℓ) (g : Dev Cert.FoKernel.nD → PrngReg), Pre_FoKernel m →
    θ_run (Cert.FoKernel.defs (F := Bits)) (onTc (τ := Cert.FoKernel.τ) (Cert.FoKernel.main (F := Bits))) ⟨m, fun _ => 0, g⟩ (fun r => (∀ c : Dev Cert.FoKernel.nD,
      r.2.mem ((c.tc : Thread Cert.FoKernel.nD Cert.FoKernel.τ).loc Cert.FoKernel.main_arg0) = m ((c.tc : Thread Cert.FoKernel.nD Cert.FoKernel.τ).loc Cert.FoKernel.main_arg0)
      ∧ r.2.mem ((c.tc : Thread Cert.FoKernel.nD Cert.FoKernel.τ).loc Cert.FoKernel.main_arg1) = m ((c.tc : Thread Cert.FoKernel.nD Cert.FoKernel.τ).loc Cert.FoKernel.main_arg1)
      ∧ r.2.mem ((c.tc : Thread Cert.FoKernel.nD Cert.FoKernel.τ).loc Cert.FoKernel.main_arg2) = m ((c.tc : Thread Cert.FoKernel.nD Cert.FoKernel.τ).loc Cert.FoKernel.main_arg2))
      ∧ r.2.sem = fun _ => 0)

def quiescent_FoKernelIdeal [hFoKernelIdeal : Cert.FoKernelIdeal.Facts] : Prop :=
  ∀ (m : (ℓ : Loc Cert.FoKernelIdeal.nD Cert.FoKernelIdeal.τ Cert.FoKernelIdeal.sig) → Buf (Elt Ideal) ℓ) (g : Dev Cert.FoKernelIdeal.nD → PrngReg), Pre_FoKernelIdeal m →
    θ_run (Cert.FoKernelIdeal.defs (F := Ideal)) (onTc (τ := Cert.FoKernelIdeal.τ) (Cert.FoKernelIdeal.main (F := Ideal))) ⟨m, fun _ => 0, g⟩ (fun r => (∀ c : Dev Cert.FoKernelIdeal.nD,
      r.2.mem ((c.tc : Thread Cert.FoKernelIdeal.nD Cert.FoKernelIdeal.τ).loc Cert.FoKernelIdeal.main_arg0) = m ((c.tc : Thread Cert.FoKernelIdeal.nD Cert.FoKernelIdeal.τ).loc Cert.FoKernelIdeal.main_arg0)
      ∧ r.2.mem ((c.tc : Thread Cert.FoKernelIdeal.nD Cert.FoKernelIdeal.τ).loc Cert.FoKernelIdeal.main_arg1) = m ((c.tc : Thread Cert.FoKernelIdeal.nD Cert.FoKernelIdeal.τ).loc Cert.FoKernelIdeal.main_arg1)
      ∧ r.2.mem ((c.tc : Thread Cert.FoKernelIdeal.nD Cert.FoKernelIdeal.τ).loc Cert.FoKernelIdeal.main_arg2) = m ((c.tc : Thread Cert.FoKernelIdeal.nD Cert.FoKernelIdeal.τ).loc Cert.FoKernelIdeal.main_arg2))
      ∧ r.2.sem = fun _ => 0)

def quiescent_FoReferenceIdeal [hFoReferenceIdeal : Cert.FoReferenceIdeal.Facts] : Prop :=
  ∀ (m : (ℓ : Loc Cert.FoReferenceIdeal.nD Cert.FoReferenceIdeal.τ Cert.FoReferenceIdeal.sig) → Buf (Elt Ideal) ℓ) (g : Dev Cert.FoReferenceIdeal.nD → PrngReg), Pre_FoReferenceIdeal m →
    θ_run (Cert.FoReferenceIdeal.defs (F := Ideal)) (onTc (τ := Cert.FoReferenceIdeal.τ) (Cert.FoReferenceIdeal.main (F := Ideal))) ⟨m, fun _ => 0, g⟩ (fun r => (∀ c : Dev Cert.FoReferenceIdeal.nD,
      r.2.mem ((c.tc : Thread Cert.FoReferenceIdeal.nD Cert.FoReferenceIdeal.τ).loc Cert.FoReferenceIdeal.main_arg0) = m ((c.tc : Thread Cert.FoReferenceIdeal.nD Cert.FoReferenceIdeal.τ).loc Cert.FoReferenceIdeal.main_arg0)
      ∧ r.2.mem ((c.tc : Thread Cert.FoReferenceIdeal.nD Cert.FoReferenceIdeal.τ).loc Cert.FoReferenceIdeal.main_arg1) = m ((c.tc : Thread Cert.FoReferenceIdeal.nD Cert.FoReferenceIdeal.τ).loc Cert.FoReferenceIdeal.main_arg1)
      ∧ r.2.mem ((c.tc : Thread Cert.FoReferenceIdeal.nD Cert.FoReferenceIdeal.τ).loc Cert.FoReferenceIdeal.main_arg2) = m ((c.tc : Thread Cert.FoReferenceIdeal.nD Cert.FoReferenceIdeal.τ).loc Cert.FoReferenceIdeal.main_arg2))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_SwbKernel [hSwbKernel : Cert.SwbKernel.Facts] : Prop :=
  ∀ (m : (ℓ : Loc Cert.SwbKernel.nD Cert.SwbKernel.τ Cert.SwbKernel.sig) → Buf (Elt Bits) ℓ) (g : Dev Cert.SwbKernel.nD → PrngReg), Pre_SwbKernel m →
    θ_run (Cert.SwbKernel.defs (F := Bits)) (onTc (τ := Cert.SwbKernel.τ) (Cert.SwbKernel.main (F := Bits))) ⟨m, fun _ => 0, g⟩ (fun r => (∀ c : Dev Cert.SwbKernel.nD,
      r.2.mem ((c.tc : Thread Cert.SwbKernel.nD Cert.SwbKernel.τ).loc Cert.SwbKernel.main_arg0) = m ((c.tc : Thread Cert.SwbKernel.nD Cert.SwbKernel.τ).loc Cert.SwbKernel.main_arg0)
      ∧ r.2.mem ((c.tc : Thread Cert.SwbKernel.nD Cert.SwbKernel.τ).loc Cert.SwbKernel.main_arg1) = m ((c.tc : Thread Cert.SwbKernel.nD Cert.SwbKernel.τ).loc Cert.SwbKernel.main_arg1))
      ∧ r.2.sem = fun _ => 0)

def quiescent_SwbKernelIdeal [hSwbKernelIdeal : Cert.SwbKernelIdeal.Facts] : Prop :=
  ∀ (m : (ℓ : Loc Cert.SwbKernelIdeal.nD Cert.SwbKernelIdeal.τ Cert.SwbKernelIdeal.sig) → Buf (Elt Ideal) ℓ) (g : Dev Cert.SwbKernelIdeal.nD → PrngReg), Pre_SwbKernelIdeal m →
    θ_run (Cert.SwbKernelIdeal.defs (F := Ideal)) (onTc (τ := Cert.SwbKernelIdeal.τ) (Cert.SwbKernelIdeal.main (F := Ideal))) ⟨m, fun _ => 0, g⟩ (fun r => (∀ c : Dev Cert.SwbKernelIdeal.nD,
      r.2.mem ((c.tc : Thread Cert.SwbKernelIdeal.nD Cert.SwbKernelIdeal.τ).loc Cert.SwbKernelIdeal.main_arg0) = m ((c.tc : Thread Cert.SwbKernelIdeal.nD Cert.SwbKernelIdeal.τ).loc Cert.SwbKernelIdeal.main_arg0)
      ∧ r.2.mem ((c.tc : Thread Cert.SwbKernelIdeal.nD Cert.SwbKernelIdeal.τ).loc Cert.SwbKernelIdeal.main_arg1) = m ((c.tc : Thread Cert.SwbKernelIdeal.nD Cert.SwbKernelIdeal.τ).loc Cert.SwbKernelIdeal.main_arg1))
      ∧ r.2.sem = fun _ => 0)

def quiescent_SwbKernelIdeal_pre_finite_swb [hSwbKernelIdeal : Cert.SwbKernelIdeal.Facts] [hPre_finite_swb : Cert.Pre_finite_swb.Facts] : Prop :=
  ∀ (m : (ℓ : Loc Cert.SwbKernelIdeal.nD Cert.SwbKernelIdeal.τ Cert.SwbKernelIdeal.sig) → Buf (Elt Ideal) ℓ) (g : Dev Cert.SwbKernelIdeal.nD → PrngReg), Pre_SwbKernelIdeal_finite_swb m →
    θ_run (Cert.SwbKernelIdeal.defs (F := Ideal)) (onTc (τ := Cert.SwbKernelIdeal.τ) (Cert.SwbKernelIdeal.main (F := Ideal))) ⟨m, fun _ => 0, g⟩ (fun r => (∀ c : Dev Cert.SwbKernelIdeal.nD,
      r.2.mem ((c.tc : Thread Cert.SwbKernelIdeal.nD Cert.SwbKernelIdeal.τ).loc Cert.SwbKernelIdeal.main_arg0) = m ((c.tc : Thread Cert.SwbKernelIdeal.nD Cert.SwbKernelIdeal.τ).loc Cert.SwbKernelIdeal.main_arg0)
      ∧ r.2.mem ((c.tc : Thread Cert.SwbKernelIdeal.nD Cert.SwbKernelIdeal.τ).loc Cert.SwbKernelIdeal.main_arg1) = m ((c.tc : Thread Cert.SwbKernelIdeal.nD Cert.SwbKernelIdeal.τ).loc Cert.SwbKernelIdeal.main_arg1))
      ∧ r.2.sem = fun _ => 0)

def quiescent_SwbReferenceIdeal [hSwbReferenceIdeal : Cert.SwbReferenceIdeal.Facts] : Prop :=
  ∀ (m : (ℓ : Loc Cert.SwbReferenceIdeal.nD Cert.SwbReferenceIdeal.τ Cert.SwbReferenceIdeal.sig) → Buf (Elt Ideal) ℓ) (g : Dev Cert.SwbReferenceIdeal.nD → PrngReg), Pre_SwbReferenceIdeal m →
    θ_run (Cert.SwbReferenceIdeal.defs (F := Ideal)) (onTc (τ := Cert.SwbReferenceIdeal.τ) (Cert.SwbReferenceIdeal.main (F := Ideal))) ⟨m, fun _ => 0, g⟩ (fun r => (∀ c : Dev Cert.SwbReferenceIdeal.nD,
      r.2.mem ((c.tc : Thread Cert.SwbReferenceIdeal.nD Cert.SwbReferenceIdeal.τ).loc Cert.SwbReferenceIdeal.main_arg0) = m ((c.tc : Thread Cert.SwbReferenceIdeal.nD Cert.SwbReferenceIdeal.τ).loc Cert.SwbReferenceIdeal.main_arg0)
      ∧ r.2.mem ((c.tc : Thread Cert.SwbReferenceIdeal.nD Cert.SwbReferenceIdeal.τ).loc Cert.SwbReferenceIdeal.main_arg1) = m ((c.tc : Thread Cert.SwbReferenceIdeal.nD Cert.SwbReferenceIdeal.τ).loc Cert.SwbReferenceIdeal.main_arg1))
      ∧ r.2.sem = fun _ => 0)

def quiescent_SwbReferenceIdeal_pre_finite_swb [hSwbReferenceIdeal : Cert.SwbReferenceIdeal.Facts] [hPre_finite_swb : Cert.Pre_finite_swb.Facts] : Prop :=
  ∀ (m : (ℓ : Loc Cert.SwbReferenceIdeal.nD Cert.SwbReferenceIdeal.τ Cert.SwbReferenceIdeal.sig) → Buf (Elt Ideal) ℓ) (g : Dev Cert.SwbReferenceIdeal.nD → PrngReg), Pre_SwbReferenceIdeal_finite_swb m →
    θ_run (Cert.SwbReferenceIdeal.defs (F := Ideal)) (onTc (τ := Cert.SwbReferenceIdeal.τ) (Cert.SwbReferenceIdeal.main (F := Ideal))) ⟨m, fun _ => 0, g⟩ (fun r => (∀ c : Dev Cert.SwbReferenceIdeal.nD,
      r.2.mem ((c.tc : Thread Cert.SwbReferenceIdeal.nD Cert.SwbReferenceIdeal.τ).loc Cert.SwbReferenceIdeal.main_arg0) = m ((c.tc : Thread Cert.SwbReferenceIdeal.nD Cert.SwbReferenceIdeal.τ).loc Cert.SwbReferenceIdeal.main_arg0)
      ∧ r.2.mem ((c.tc : Thread Cert.SwbReferenceIdeal.nD Cert.SwbReferenceIdeal.τ).loc Cert.SwbReferenceIdeal.main_arg1) = m ((c.tc : Thread Cert.SwbReferenceIdeal.nD Cert.SwbReferenceIdeal.τ).loc Cert.SwbReferenceIdeal.main_arg1))
      ∧ r.2.sem = fun _ => 0)

def quiescent_NbKernel [hNbKernel : Cert.NbKernel.Facts] : Prop :=
  ∀ (m : (ℓ : Loc Cert.NbKernel.nD Cert.NbKernel.τ Cert.NbKernel.sig) → Buf (Elt Bits) ℓ) (g : Dev Cert.NbKernel.nD → PrngReg), Pre_NbKernel m →
    θ_run (Cert.NbKernel.defs (F := Bits)) (onTc (τ := Cert.NbKernel.τ) (Cert.NbKernel.main (F := Bits))) ⟨m, fun _ => 0, g⟩ (fun r => (∀ c : Dev Cert.NbKernel.nD,
      r.2.mem ((c.tc : Thread Cert.NbKernel.nD Cert.NbKernel.τ).loc Cert.NbKernel.main_arg0) = m ((c.tc : Thread Cert.NbKernel.nD Cert.NbKernel.τ).loc Cert.NbKernel.main_arg0)
      ∧ r.2.mem ((c.tc : Thread Cert.NbKernel.nD Cert.NbKernel.τ).loc Cert.NbKernel.main_arg1) = m ((c.tc : Thread Cert.NbKernel.nD Cert.NbKernel.τ).loc Cert.NbKernel.main_arg1)
      ∧ r.2.mem ((c.tc : Thread Cert.NbKernel.nD Cert.NbKernel.τ).loc Cert.NbKernel.main_arg2) = m ((c.tc : Thread Cert.NbKernel.nD Cert.NbKernel.τ).loc Cert.NbKernel.main_arg2)
      ∧ r.2.mem ((c.tc : Thread Cert.NbKernel.nD Cert.NbKernel.τ).loc Cert.NbKernel.main_arg3) = m ((c.tc : Thread Cert.NbKernel.nD Cert.NbKernel.τ).loc Cert.NbKernel.main_arg3))
      ∧ r.2.sem = fun _ => 0)

def quiescent_NbKernelIdeal [hNbKernelIdeal : Cert.NbKernelIdeal.Facts] : Prop :=
  ∀ (m : (ℓ : Loc Cert.NbKernelIdeal.nD Cert.NbKernelIdeal.τ Cert.NbKernelIdeal.sig) → Buf (Elt Ideal) ℓ) (g : Dev Cert.NbKernelIdeal.nD → PrngReg), Pre_NbKernelIdeal m →
    θ_run (Cert.NbKernelIdeal.defs (F := Ideal)) (onTc (τ := Cert.NbKernelIdeal.τ) (Cert.NbKernelIdeal.main (F := Ideal))) ⟨m, fun _ => 0, g⟩ (fun r => (∀ c : Dev Cert.NbKernelIdeal.nD,
      r.2.mem ((c.tc : Thread Cert.NbKernelIdeal.nD Cert.NbKernelIdeal.τ).loc Cert.NbKernelIdeal.main_arg0) = m ((c.tc : Thread Cert.NbKernelIdeal.nD Cert.NbKernelIdeal.τ).loc Cert.NbKernelIdeal.main_arg0)
      ∧ r.2.mem ((c.tc : Thread Cert.NbKernelIdeal.nD Cert.NbKernelIdeal.τ).loc Cert.NbKernelIdeal.main_arg1) = m ((c.tc : Thread Cert.NbKernelIdeal.nD Cert.NbKernelIdeal.τ).loc Cert.NbKernelIdeal.main_arg1)
      ∧ r.2.mem ((c.tc : Thread Cert.NbKernelIdeal.nD Cert.NbKernelIdeal.τ).loc Cert.NbKernelIdeal.main_arg2) = m ((c.tc : Thread Cert.NbKernelIdeal.nD Cert.NbKernelIdeal.τ).loc Cert.NbKernelIdeal.main_arg2)
      ∧ r.2.mem ((c.tc : Thread Cert.NbKernelIdeal.nD Cert.NbKernelIdeal.τ).loc Cert.NbKernelIdeal.main_arg3) = m ((c.tc : Thread Cert.NbKernelIdeal.nD Cert.NbKernelIdeal.τ).loc Cert.NbKernelIdeal.main_arg3))
      ∧ r.2.sem = fun _ => 0)

def quiescent_NbReferenceIdeal [hNbReferenceIdeal : Cert.NbReferenceIdeal.Facts] : Prop :=
  ∀ (m : (ℓ : Loc Cert.NbReferenceIdeal.nD Cert.NbReferenceIdeal.τ Cert.NbReferenceIdeal.sig) → Buf (Elt Ideal) ℓ) (g : Dev Cert.NbReferenceIdeal.nD → PrngReg), Pre_NbReferenceIdeal m →
    θ_run (Cert.NbReferenceIdeal.defs (F := Ideal)) (onTc (τ := Cert.NbReferenceIdeal.τ) (Cert.NbReferenceIdeal.main (F := Ideal))) ⟨m, fun _ => 0, g⟩ (fun r => (∀ c : Dev Cert.NbReferenceIdeal.nD,
      r.2.mem ((c.tc : Thread Cert.NbReferenceIdeal.nD Cert.NbReferenceIdeal.τ).loc Cert.NbReferenceIdeal.main_arg0) = m ((c.tc : Thread Cert.NbReferenceIdeal.nD Cert.NbReferenceIdeal.τ).loc Cert.NbReferenceIdeal.main_arg0)
      ∧ r.2.mem ((c.tc : Thread Cert.NbReferenceIdeal.nD Cert.NbReferenceIdeal.τ).loc Cert.NbReferenceIdeal.main_arg1) = m ((c.tc : Thread Cert.NbReferenceIdeal.nD Cert.NbReferenceIdeal.τ).loc Cert.NbReferenceIdeal.main_arg1)
      ∧ r.2.mem ((c.tc : Thread Cert.NbReferenceIdeal.nD Cert.NbReferenceIdeal.τ).loc Cert.NbReferenceIdeal.main_arg2) = m ((c.tc : Thread Cert.NbReferenceIdeal.nD Cert.NbReferenceIdeal.τ).loc Cert.NbReferenceIdeal.main_arg2)
      ∧ r.2.mem ((c.tc : Thread Cert.NbReferenceIdeal.nD Cert.NbReferenceIdeal.τ).loc Cert.NbReferenceIdeal.main_arg3) = m ((c.tc : Thread Cert.NbReferenceIdeal.nD Cert.NbReferenceIdeal.τ).loc Cert.NbReferenceIdeal.main_arg3))
      ∧ r.2.sem = fun _ => 0)

def quiescent_GbKernel [hGbKernel : Cert.GbKernel.Facts] : Prop :=
  ∀ (m : (ℓ : Loc Cert.GbKernel.nD Cert.GbKernel.τ Cert.GbKernel.sig) → Buf (Elt Bits) ℓ) (g : Dev Cert.GbKernel.nD → PrngReg), Pre_GbKernel m →
    θ_run (Cert.GbKernel.defs (F := Bits)) (onTc (τ := Cert.GbKernel.τ) (Cert.GbKernel.main (F := Bits))) ⟨m, fun _ => 0, g⟩ (fun r => (∀ c : Dev Cert.GbKernel.nD,
      r.2.mem ((c.tc : Thread Cert.GbKernel.nD Cert.GbKernel.τ).loc Cert.GbKernel.main_arg0) = m ((c.tc : Thread Cert.GbKernel.nD Cert.GbKernel.τ).loc Cert.GbKernel.main_arg0)
      ∧ r.2.mem ((c.tc : Thread Cert.GbKernel.nD Cert.GbKernel.τ).loc Cert.GbKernel.main_arg1) = m ((c.tc : Thread Cert.GbKernel.nD Cert.GbKernel.τ).loc Cert.GbKernel.main_arg1)
      ∧ r.2.mem ((c.tc : Thread Cert.GbKernel.nD Cert.GbKernel.τ).loc Cert.GbKernel.main_arg2) = m ((c.tc : Thread Cert.GbKernel.nD Cert.GbKernel.τ).loc Cert.GbKernel.main_arg2)
      ∧ r.2.mem ((c.tc : Thread Cert.GbKernel.nD Cert.GbKernel.τ).loc Cert.GbKernel.main_arg3) = m ((c.tc : Thread Cert.GbKernel.nD Cert.GbKernel.τ).loc Cert.GbKernel.main_arg3))
      ∧ r.2.sem = fun _ => 0)

def quiescent_GbKernelIdeal [hGbKernelIdeal : Cert.GbKernelIdeal.Facts] : Prop :=
  ∀ (m : (ℓ : Loc Cert.GbKernelIdeal.nD Cert.GbKernelIdeal.τ Cert.GbKernelIdeal.sig) → Buf (Elt Ideal) ℓ) (g : Dev Cert.GbKernelIdeal.nD → PrngReg), Pre_GbKernelIdeal m →
    θ_run (Cert.GbKernelIdeal.defs (F := Ideal)) (onTc (τ := Cert.GbKernelIdeal.τ) (Cert.GbKernelIdeal.main (F := Ideal))) ⟨m, fun _ => 0, g⟩ (fun r => (∀ c : Dev Cert.GbKernelIdeal.nD,
      r.2.mem ((c.tc : Thread Cert.GbKernelIdeal.nD Cert.GbKernelIdeal.τ).loc Cert.GbKernelIdeal.main_arg0) = m ((c.tc : Thread Cert.GbKernelIdeal.nD Cert.GbKernelIdeal.τ).loc Cert.GbKernelIdeal.main_arg0)
      ∧ r.2.mem ((c.tc : Thread Cert.GbKernelIdeal.nD Cert.GbKernelIdeal.τ).loc Cert.GbKernelIdeal.main_arg1) = m ((c.tc : Thread Cert.GbKernelIdeal.nD Cert.GbKernelIdeal.τ).loc Cert.GbKernelIdeal.main_arg1)
      ∧ r.2.mem ((c.tc : Thread Cert.GbKernelIdeal.nD Cert.GbKernelIdeal.τ).loc Cert.GbKernelIdeal.main_arg2) = m ((c.tc : Thread Cert.GbKernelIdeal.nD Cert.GbKernelIdeal.τ).loc Cert.GbKernelIdeal.main_arg2)
      ∧ r.2.mem ((c.tc : Thread Cert.GbKernelIdeal.nD Cert.GbKernelIdeal.τ).loc Cert.GbKernelIdeal.main_arg3) = m ((c.tc : Thread Cert.GbKernelIdeal.nD Cert.GbKernelIdeal.τ).loc Cert.GbKernelIdeal.main_arg3))
      ∧ r.2.sem = fun _ => 0)

def quiescent_GbReferenceIdeal [hGbReferenceIdeal : Cert.GbReferenceIdeal.Facts] : Prop :=
  ∀ (m : (ℓ : Loc Cert.GbReferenceIdeal.nD Cert.GbReferenceIdeal.τ Cert.GbReferenceIdeal.sig) → Buf (Elt Ideal) ℓ) (g : Dev Cert.GbReferenceIdeal.nD → PrngReg), Pre_GbReferenceIdeal m →
    θ_run (Cert.GbReferenceIdeal.defs (F := Ideal)) (onTc (τ := Cert.GbReferenceIdeal.τ) (Cert.GbReferenceIdeal.main (F := Ideal))) ⟨m, fun _ => 0, g⟩ (fun r => (∀ c : Dev Cert.GbReferenceIdeal.nD,
      r.2.mem ((c.tc : Thread Cert.GbReferenceIdeal.nD Cert.GbReferenceIdeal.τ).loc Cert.GbReferenceIdeal.main_arg0) = m ((c.tc : Thread Cert.GbReferenceIdeal.nD Cert.GbReferenceIdeal.τ).loc Cert.GbReferenceIdeal.main_arg0)
      ∧ r.2.mem ((c.tc : Thread Cert.GbReferenceIdeal.nD Cert.GbReferenceIdeal.τ).loc Cert.GbReferenceIdeal.main_arg1) = m ((c.tc : Thread Cert.GbReferenceIdeal.nD Cert.GbReferenceIdeal.τ).loc Cert.GbReferenceIdeal.main_arg1)
      ∧ r.2.mem ((c.tc : Thread Cert.GbReferenceIdeal.nD Cert.GbReferenceIdeal.τ).loc Cert.GbReferenceIdeal.main_arg2) = m ((c.tc : Thread Cert.GbReferenceIdeal.nD Cert.GbReferenceIdeal.τ).loc Cert.GbReferenceIdeal.main_arg2)
      ∧ r.2.mem ((c.tc : Thread Cert.GbReferenceIdeal.nD Cert.GbReferenceIdeal.τ).loc Cert.GbReferenceIdeal.main_arg3) = m ((c.tc : Thread Cert.GbReferenceIdeal.nD Cert.GbReferenceIdeal.τ).loc Cert.GbReferenceIdeal.main_arg3))
      ∧ r.2.sem = fun _ => 0)

def quiescent_GebKernel [hGebKernel : Cert.GebKernel.Facts] : Prop :=
  ∀ (m : (ℓ : Loc Cert.GebKernel.nD Cert.GebKernel.τ Cert.GebKernel.sig) → Buf (Elt Bits) ℓ) (g : Dev Cert.GebKernel.nD → PrngReg), Pre_GebKernel m →
    θ_run (Cert.GebKernel.defs (F := Bits)) (onTc (τ := Cert.GebKernel.τ) (Cert.GebKernel.main (F := Bits))) ⟨m, fun _ => 0, g⟩ (fun r => (∀ c : Dev Cert.GebKernel.nD,
      r.2.mem ((c.tc : Thread Cert.GebKernel.nD Cert.GebKernel.τ).loc Cert.GebKernel.main_arg0) = m ((c.tc : Thread Cert.GebKernel.nD Cert.GebKernel.τ).loc Cert.GebKernel.main_arg0)
      ∧ r.2.mem ((c.tc : Thread Cert.GebKernel.nD Cert.GebKernel.τ).loc Cert.GebKernel.main_arg1) = m ((c.tc : Thread Cert.GebKernel.nD Cert.GebKernel.τ).loc Cert.GebKernel.main_arg1)
      ∧ r.2.mem ((c.tc : Thread Cert.GebKernel.nD Cert.GebKernel.τ).loc Cert.GebKernel.main_arg2) = m ((c.tc : Thread Cert.GebKernel.nD Cert.GebKernel.τ).loc Cert.GebKernel.main_arg2))
      ∧ r.2.sem = fun _ => 0)

def quiescent_GebKernelIdeal [hGebKernelIdeal : Cert.GebKernelIdeal.Facts] : Prop :=
  ∀ (m : (ℓ : Loc Cert.GebKernelIdeal.nD Cert.GebKernelIdeal.τ Cert.GebKernelIdeal.sig) → Buf (Elt Ideal) ℓ) (g : Dev Cert.GebKernelIdeal.nD → PrngReg), Pre_GebKernelIdeal m →
    θ_run (Cert.GebKernelIdeal.defs (F := Ideal)) (onTc (τ := Cert.GebKernelIdeal.τ) (Cert.GebKernelIdeal.main (F := Ideal))) ⟨m, fun _ => 0, g⟩ (fun r => (∀ c : Dev Cert.GebKernelIdeal.nD,
      r.2.mem ((c.tc : Thread Cert.GebKernelIdeal.nD Cert.GebKernelIdeal.τ).loc Cert.GebKernelIdeal.main_arg0) = m ((c.tc : Thread Cert.GebKernelIdeal.nD Cert.GebKernelIdeal.τ).loc Cert.GebKernelIdeal.main_arg0)
      ∧ r.2.mem ((c.tc : Thread Cert.GebKernelIdeal.nD Cert.GebKernelIdeal.τ).loc Cert.GebKernelIdeal.main_arg1) = m ((c.tc : Thread Cert.GebKernelIdeal.nD Cert.GebKernelIdeal.τ).loc Cert.GebKernelIdeal.main_arg1)
      ∧ r.2.mem ((c.tc : Thread Cert.GebKernelIdeal.nD Cert.GebKernelIdeal.τ).loc Cert.GebKernelIdeal.main_arg2) = m ((c.tc : Thread Cert.GebKernelIdeal.nD Cert.GebKernelIdeal.τ).loc Cert.GebKernelIdeal.main_arg2))
      ∧ r.2.sem = fun _ => 0)

def quiescent_GebReferenceIdeal [hGebReferenceIdeal : Cert.GebReferenceIdeal.Facts] : Prop :=
  ∀ (m : (ℓ : Loc Cert.GebReferenceIdeal.nD Cert.GebReferenceIdeal.τ Cert.GebReferenceIdeal.sig) → Buf (Elt Ideal) ℓ) (g : Dev Cert.GebReferenceIdeal.nD → PrngReg), Pre_GebReferenceIdeal m →
    θ_run (Cert.GebReferenceIdeal.defs (F := Ideal)) (onTc (τ := Cert.GebReferenceIdeal.τ) (Cert.GebReferenceIdeal.main (F := Ideal))) ⟨m, fun _ => 0, g⟩ (fun r => (∀ c : Dev Cert.GebReferenceIdeal.nD,
      r.2.mem ((c.tc : Thread Cert.GebReferenceIdeal.nD Cert.GebReferenceIdeal.τ).loc Cert.GebReferenceIdeal.main_arg0) = m ((c.tc : Thread Cert.GebReferenceIdeal.nD Cert.GebReferenceIdeal.τ).loc Cert.GebReferenceIdeal.main_arg0)
      ∧ r.2.mem ((c.tc : Thread Cert.GebReferenceIdeal.nD Cert.GebReferenceIdeal.τ).loc Cert.GebReferenceIdeal.main_arg1) = m ((c.tc : Thread Cert.GebReferenceIdeal.nD Cert.GebReferenceIdeal.τ).loc Cert.GebReferenceIdeal.main_arg1)
      ∧ r.2.mem ((c.tc : Thread Cert.GebReferenceIdeal.nD Cert.GebReferenceIdeal.τ).loc Cert.GebReferenceIdeal.main_arg2) = m ((c.tc : Thread Cert.GebReferenceIdeal.nD Cert.GebReferenceIdeal.τ).loc Cert.GebReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_GeluKernel [hGeluKernel : Cert.GeluKernel.Facts] : Prop :=
  ∀ (m : (ℓ : Loc Cert.GeluKernel.nD Cert.GeluKernel.τ Cert.GeluKernel.sig) → Buf (Elt Bits) ℓ) (g : Dev Cert.GeluKernel.nD → PrngReg), Pre_GeluKernel m →
    θ_run (Cert.GeluKernel.defs (F := Bits)) (onTc (τ := Cert.GeluKernel.τ) (Cert.GeluKernel.main (F := Bits))) ⟨m, fun _ => 0, g⟩ (fun r => (∀ c : Dev Cert.GeluKernel.nD,
      r.2.mem ((c.tc : Thread Cert.GeluKernel.nD Cert.GeluKernel.τ).loc Cert.GeluKernel.main_arg0) = m ((c.tc : Thread Cert.GeluKernel.nD Cert.GeluKernel.τ).loc Cert.GeluKernel.main_arg0))
      ∧ r.2.sem = fun _ => 0)

def quiescent_GeluKernelIdeal [hGeluKernelIdeal : Cert.GeluKernelIdeal.Facts] : Prop :=
  ∀ (m : (ℓ : Loc Cert.GeluKernelIdeal.nD Cert.GeluKernelIdeal.τ Cert.GeluKernelIdeal.sig) → Buf (Elt Ideal) ℓ) (g : Dev Cert.GeluKernelIdeal.nD → PrngReg), Pre_GeluKernelIdeal m →
    θ_run (Cert.GeluKernelIdeal.defs (F := Ideal)) (onTc (τ := Cert.GeluKernelIdeal.τ) (Cert.GeluKernelIdeal.main (F := Ideal))) ⟨m, fun _ => 0, g⟩ (fun r => (∀ c : Dev Cert.GeluKernelIdeal.nD,
      r.2.mem ((c.tc : Thread Cert.GeluKernelIdeal.nD Cert.GeluKernelIdeal.τ).loc Cert.GeluKernelIdeal.main_arg0) = m ((c.tc : Thread Cert.GeluKernelIdeal.nD Cert.GeluKernelIdeal.τ).loc Cert.GeluKernelIdeal.main_arg0))
      ∧ r.2.sem = fun _ => 0)

def quiescent_GeluReferenceIdeal [hGeluReferenceIdeal : Cert.GeluReferenceIdeal.Facts] : Prop :=
  ∀ (m : (ℓ : Loc Cert.GeluReferenceIdeal.nD Cert.GeluReferenceIdeal.τ Cert.GeluReferenceIdeal.sig) → Buf (Elt Ideal) ℓ) (g : Dev Cert.GeluReferenceIdeal.nD → PrngReg), Pre_GeluReferenceIdeal m →
    θ_run (Cert.GeluReferenceIdeal.defs (F := Ideal)) (onTc (τ := Cert.GeluReferenceIdeal.τ) (Cert.GeluReferenceIdeal.main (F := Ideal))) ⟨m, fun _ => 0, g⟩ (fun r => (∀ c : Dev Cert.GeluReferenceIdeal.nD,
      r.2.mem ((c.tc : Thread Cert.GeluReferenceIdeal.nD Cert.GeluReferenceIdeal.τ).loc Cert.GeluReferenceIdeal.main_arg0) = m ((c.tc : Thread Cert.GeluReferenceIdeal.nD Cert.GeluReferenceIdeal.τ).loc Cert.GeluReferenceIdeal.main_arg0))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3))
      ∧ r.2.sem = fun _ => 0)

def quiescent_SwfKernel [hSwfKernel : Cert.SwfKernel.Facts] : Prop :=
  ∀ (m : (ℓ : Loc Cert.SwfKernel.nD Cert.SwfKernel.τ Cert.SwfKernel.sig) → Buf (Elt Bits) ℓ) (g : Dev Cert.SwfKernel.nD → PrngReg), Pre_SwfKernel m →
    θ_run (Cert.SwfKernel.defs (F := Bits)) (onTc (τ := Cert.SwfKernel.τ) (Cert.SwfKernel.main (F := Bits))) ⟨m, fun _ => 0, g⟩ (fun r => (∀ c : Dev Cert.SwfKernel.nD,
      r.2.mem ((c.tc : Thread Cert.SwfKernel.nD Cert.SwfKernel.τ).loc Cert.SwfKernel.main_arg0) = m ((c.tc : Thread Cert.SwfKernel.nD Cert.SwfKernel.τ).loc Cert.SwfKernel.main_arg0))
      ∧ r.2.sem = fun _ => 0)

def quiescent_SwfKernelIdeal [hSwfKernelIdeal : Cert.SwfKernelIdeal.Facts] : Prop :=
  ∀ (m : (ℓ : Loc Cert.SwfKernelIdeal.nD Cert.SwfKernelIdeal.τ Cert.SwfKernelIdeal.sig) → Buf (Elt Ideal) ℓ) (g : Dev Cert.SwfKernelIdeal.nD → PrngReg), Pre_SwfKernelIdeal m →
    θ_run (Cert.SwfKernelIdeal.defs (F := Ideal)) (onTc (τ := Cert.SwfKernelIdeal.τ) (Cert.SwfKernelIdeal.main (F := Ideal))) ⟨m, fun _ => 0, g⟩ (fun r => (∀ c : Dev Cert.SwfKernelIdeal.nD,
      r.2.mem ((c.tc : Thread Cert.SwfKernelIdeal.nD Cert.SwfKernelIdeal.τ).loc Cert.SwfKernelIdeal.main_arg0) = m ((c.tc : Thread Cert.SwfKernelIdeal.nD Cert.SwfKernelIdeal.τ).loc Cert.SwfKernelIdeal.main_arg0))
      ∧ r.2.sem = fun _ => 0)

def quiescent_SwfReferenceIdeal [hSwfReferenceIdeal : Cert.SwfReferenceIdeal.Facts] : Prop :=
  ∀ (m : (ℓ : Loc Cert.SwfReferenceIdeal.nD Cert.SwfReferenceIdeal.τ Cert.SwfReferenceIdeal.sig) → Buf (Elt Ideal) ℓ) (g : Dev Cert.SwfReferenceIdeal.nD → PrngReg), Pre_SwfReferenceIdeal m →
    θ_run (Cert.SwfReferenceIdeal.defs (F := Ideal)) (onTc (τ := Cert.SwfReferenceIdeal.τ) (Cert.SwfReferenceIdeal.main (F := Ideal))) ⟨m, fun _ => 0, g⟩ (fun r => (∀ c : Dev Cert.SwfReferenceIdeal.nD,
      r.2.mem ((c.tc : Thread Cert.SwfReferenceIdeal.nD Cert.SwfReferenceIdeal.τ).loc Cert.SwfReferenceIdeal.main_arg0) = m ((c.tc : Thread Cert.SwfReferenceIdeal.nD Cert.SwfReferenceIdeal.τ).loc Cert.SwfReferenceIdeal.main_arg0))
      ∧ r.2.sem = fun _ => 0)

def quiescent_UaKernel [hUaKernel : Cert.UaKernel.Facts] : Prop :=
  ∀ (m : (ℓ : Loc Cert.UaKernel.nD Cert.UaKernel.τ Cert.UaKernel.sig) → Buf (Elt Bits) ℓ) (g : Dev Cert.UaKernel.nD → PrngReg), Pre_UaKernel m →
    θ_run (Cert.UaKernel.defs (F := Bits)) (onTc (τ := Cert.UaKernel.τ) (Cert.UaKernel.main (F := Bits))) ⟨m, fun _ => 0, g⟩ (fun r => (∀ c : Dev Cert.UaKernel.nD,
      r.2.mem ((c.tc : Thread Cert.UaKernel.nD Cert.UaKernel.τ).loc Cert.UaKernel.main_arg0) = m ((c.tc : Thread Cert.UaKernel.nD Cert.UaKernel.τ).loc Cert.UaKernel.main_arg0)
      ∧ r.2.mem ((c.tc : Thread Cert.UaKernel.nD Cert.UaKernel.τ).loc Cert.UaKernel.main_arg1) = m ((c.tc : Thread Cert.UaKernel.nD Cert.UaKernel.τ).loc Cert.UaKernel.main_arg1)
      ∧ r.2.mem ((c.tc : Thread Cert.UaKernel.nD Cert.UaKernel.τ).loc Cert.UaKernel.main_arg2) = m ((c.tc : Thread Cert.UaKernel.nD Cert.UaKernel.τ).loc Cert.UaKernel.main_arg2)
      ∧ r.2.mem ((c.tc : Thread Cert.UaKernel.nD Cert.UaKernel.τ).loc Cert.UaKernel.main_arg3) = m ((c.tc : Thread Cert.UaKernel.nD Cert.UaKernel.τ).loc Cert.UaKernel.main_arg3))
      ∧ r.2.sem = fun _ => 0)

def quiescent_UaKernelIdeal [hUaKernelIdeal : Cert.UaKernelIdeal.Facts] : Prop :=
  ∀ (m : (ℓ : Loc Cert.UaKernelIdeal.nD Cert.UaKernelIdeal.τ Cert.UaKernelIdeal.sig) → Buf (Elt Ideal) ℓ) (g : Dev Cert.UaKernelIdeal.nD → PrngReg), Pre_UaKernelIdeal m →
    θ_run (Cert.UaKernelIdeal.defs (F := Ideal)) (onTc (τ := Cert.UaKernelIdeal.τ) (Cert.UaKernelIdeal.main (F := Ideal))) ⟨m, fun _ => 0, g⟩ (fun r => (∀ c : Dev Cert.UaKernelIdeal.nD,
      r.2.mem ((c.tc : Thread Cert.UaKernelIdeal.nD Cert.UaKernelIdeal.τ).loc Cert.UaKernelIdeal.main_arg0) = m ((c.tc : Thread Cert.UaKernelIdeal.nD Cert.UaKernelIdeal.τ).loc Cert.UaKernelIdeal.main_arg0)
      ∧ r.2.mem ((c.tc : Thread Cert.UaKernelIdeal.nD Cert.UaKernelIdeal.τ).loc Cert.UaKernelIdeal.main_arg1) = m ((c.tc : Thread Cert.UaKernelIdeal.nD Cert.UaKernelIdeal.τ).loc Cert.UaKernelIdeal.main_arg1)
      ∧ r.2.mem ((c.tc : Thread Cert.UaKernelIdeal.nD Cert.UaKernelIdeal.τ).loc Cert.UaKernelIdeal.main_arg2) = m ((c.tc : Thread Cert.UaKernelIdeal.nD Cert.UaKernelIdeal.τ).loc Cert.UaKernelIdeal.main_arg2)
      ∧ r.2.mem ((c.tc : Thread Cert.UaKernelIdeal.nD Cert.UaKernelIdeal.τ).loc Cert.UaKernelIdeal.main_arg3) = m ((c.tc : Thread Cert.UaKernelIdeal.nD Cert.UaKernelIdeal.τ).loc Cert.UaKernelIdeal.main_arg3))
      ∧ r.2.sem = fun _ => 0)

def quiescent_UaReferenceIdeal [hUaReferenceIdeal : Cert.UaReferenceIdeal.Facts] : Prop :=
  ∀ (m : (ℓ : Loc Cert.UaReferenceIdeal.nD Cert.UaReferenceIdeal.τ Cert.UaReferenceIdeal.sig) → Buf (Elt Ideal) ℓ) (g : Dev Cert.UaReferenceIdeal.nD → PrngReg), Pre_UaReferenceIdeal m →
    θ_run (Cert.UaReferenceIdeal.defs (F := Ideal)) (onTc (τ := Cert.UaReferenceIdeal.τ) (Cert.UaReferenceIdeal.main (F := Ideal))) ⟨m, fun _ => 0, g⟩ (fun r => (∀ c : Dev Cert.UaReferenceIdeal.nD,
      r.2.mem ((c.tc : Thread Cert.UaReferenceIdeal.nD Cert.UaReferenceIdeal.τ).loc Cert.UaReferenceIdeal.main_arg0) = m ((c.tc : Thread Cert.UaReferenceIdeal.nD Cert.UaReferenceIdeal.τ).loc Cert.UaReferenceIdeal.main_arg0)
      ∧ r.2.mem ((c.tc : Thread Cert.UaReferenceIdeal.nD Cert.UaReferenceIdeal.τ).loc Cert.UaReferenceIdeal.main_arg1) = m ((c.tc : Thread Cert.UaReferenceIdeal.nD Cert.UaReferenceIdeal.τ).loc Cert.UaReferenceIdeal.main_arg1)
      ∧ r.2.mem ((c.tc : Thread Cert.UaReferenceIdeal.nD Cert.UaReferenceIdeal.τ).loc Cert.UaReferenceIdeal.main_arg2) = m ((c.tc : Thread Cert.UaReferenceIdeal.nD Cert.UaReferenceIdeal.τ).loc Cert.UaReferenceIdeal.main_arg2)
      ∧ r.2.mem ((c.tc : Thread Cert.UaReferenceIdeal.nD Cert.UaReferenceIdeal.τ).loc Cert.UaReferenceIdeal.main_arg3) = m ((c.tc : Thread Cert.UaReferenceIdeal.nD Cert.UaReferenceIdeal.τ).loc Cert.UaReferenceIdeal.main_arg3))
      ∧ r.2.sem = fun _ => 0)

def quiescent_UbKernel [hUbKernel : Cert.UbKernel.Facts] : Prop :=
  ∀ (m : (ℓ : Loc Cert.UbKernel.nD Cert.UbKernel.τ Cert.UbKernel.sig) → Buf (Elt Bits) ℓ) (g : Dev Cert.UbKernel.nD → PrngReg), Pre_UbKernel m →
    θ_run (Cert.UbKernel.defs (F := Bits)) (onTc (τ := Cert.UbKernel.τ) (Cert.UbKernel.main (F := Bits))) ⟨m, fun _ => 0, g⟩ (fun r => (∀ c : Dev Cert.UbKernel.nD,
      r.2.mem ((c.tc : Thread Cert.UbKernel.nD Cert.UbKernel.τ).loc Cert.UbKernel.main_arg0) = m ((c.tc : Thread Cert.UbKernel.nD Cert.UbKernel.τ).loc Cert.UbKernel.main_arg0)
      ∧ r.2.mem ((c.tc : Thread Cert.UbKernel.nD Cert.UbKernel.τ).loc Cert.UbKernel.main_arg1) = m ((c.tc : Thread Cert.UbKernel.nD Cert.UbKernel.τ).loc Cert.UbKernel.main_arg1)
      ∧ r.2.mem ((c.tc : Thread Cert.UbKernel.nD Cert.UbKernel.τ).loc Cert.UbKernel.main_arg2) = m ((c.tc : Thread Cert.UbKernel.nD Cert.UbKernel.τ).loc Cert.UbKernel.main_arg2)
      ∧ r.2.mem ((c.tc : Thread Cert.UbKernel.nD Cert.UbKernel.τ).loc Cert.UbKernel.main_arg3) = m ((c.tc : Thread Cert.UbKernel.nD Cert.UbKernel.τ).loc Cert.UbKernel.main_arg3))
      ∧ r.2.sem = fun _ => 0)

def quiescent_UbKernelIdeal [hUbKernelIdeal : Cert.UbKernelIdeal.Facts] : Prop :=
  ∀ (m : (ℓ : Loc Cert.UbKernelIdeal.nD Cert.UbKernelIdeal.τ Cert.UbKernelIdeal.sig) → Buf (Elt Ideal) ℓ) (g : Dev Cert.UbKernelIdeal.nD → PrngReg), Pre_UbKernelIdeal m →
    θ_run (Cert.UbKernelIdeal.defs (F := Ideal)) (onTc (τ := Cert.UbKernelIdeal.τ) (Cert.UbKernelIdeal.main (F := Ideal))) ⟨m, fun _ => 0, g⟩ (fun r => (∀ c : Dev Cert.UbKernelIdeal.nD,
      r.2.mem ((c.tc : Thread Cert.UbKernelIdeal.nD Cert.UbKernelIdeal.τ).loc Cert.UbKernelIdeal.main_arg0) = m ((c.tc : Thread Cert.UbKernelIdeal.nD Cert.UbKernelIdeal.τ).loc Cert.UbKernelIdeal.main_arg0)
      ∧ r.2.mem ((c.tc : Thread Cert.UbKernelIdeal.nD Cert.UbKernelIdeal.τ).loc Cert.UbKernelIdeal.main_arg1) = m ((c.tc : Thread Cert.UbKernelIdeal.nD Cert.UbKernelIdeal.τ).loc Cert.UbKernelIdeal.main_arg1)
      ∧ r.2.mem ((c.tc : Thread Cert.UbKernelIdeal.nD Cert.UbKernelIdeal.τ).loc Cert.UbKernelIdeal.main_arg2) = m ((c.tc : Thread Cert.UbKernelIdeal.nD Cert.UbKernelIdeal.τ).loc Cert.UbKernelIdeal.main_arg2)
      ∧ r.2.mem ((c.tc : Thread Cert.UbKernelIdeal.nD Cert.UbKernelIdeal.τ).loc Cert.UbKernelIdeal.main_arg3) = m ((c.tc : Thread Cert.UbKernelIdeal.nD Cert.UbKernelIdeal.τ).loc Cert.UbKernelIdeal.main_arg3))
      ∧ r.2.sem = fun _ => 0)

def quiescent_UbReferenceIdeal [hUbReferenceIdeal : Cert.UbReferenceIdeal.Facts] : Prop :=
  ∀ (m : (ℓ : Loc Cert.UbReferenceIdeal.nD Cert.UbReferenceIdeal.τ Cert.UbReferenceIdeal.sig) → Buf (Elt Ideal) ℓ) (g : Dev Cert.UbReferenceIdeal.nD → PrngReg), Pre_UbReferenceIdeal m →
    θ_run (Cert.UbReferenceIdeal.defs (F := Ideal)) (onTc (τ := Cert.UbReferenceIdeal.τ) (Cert.UbReferenceIdeal.main (F := Ideal))) ⟨m, fun _ => 0, g⟩ (fun r => (∀ c : Dev Cert.UbReferenceIdeal.nD,
      r.2.mem ((c.tc : Thread Cert.UbReferenceIdeal.nD Cert.UbReferenceIdeal.τ).loc Cert.UbReferenceIdeal.main_arg0) = m ((c.tc : Thread Cert.UbReferenceIdeal.nD Cert.UbReferenceIdeal.τ).loc Cert.UbReferenceIdeal.main_arg0)
      ∧ r.2.mem ((c.tc : Thread Cert.UbReferenceIdeal.nD Cert.UbReferenceIdeal.τ).loc Cert.UbReferenceIdeal.main_arg1) = m ((c.tc : Thread Cert.UbReferenceIdeal.nD Cert.UbReferenceIdeal.τ).loc Cert.UbReferenceIdeal.main_arg1)
      ∧ r.2.mem ((c.tc : Thread Cert.UbReferenceIdeal.nD Cert.UbReferenceIdeal.τ).loc Cert.UbReferenceIdeal.main_arg2) = m ((c.tc : Thread Cert.UbReferenceIdeal.nD Cert.UbReferenceIdeal.τ).loc Cert.UbReferenceIdeal.main_arg2)
      ∧ r.2.mem ((c.tc : Thread Cert.UbReferenceIdeal.nD Cert.UbReferenceIdeal.τ).loc Cert.UbReferenceIdeal.main_arg3) = m ((c.tc : Thread Cert.UbReferenceIdeal.nD Cert.UbReferenceIdeal.τ).loc Cert.UbReferenceIdeal.main_arg3))
      ∧ r.2.sem = fun _ => 0)

def quiescent_UcKernel [hUcKernel : Cert.UcKernel.Facts] : Prop :=
  ∀ (m : (ℓ : Loc Cert.UcKernel.nD Cert.UcKernel.τ Cert.UcKernel.sig) → Buf (Elt Bits) ℓ) (g : Dev Cert.UcKernel.nD → PrngReg), Pre_UcKernel m →
    θ_run (Cert.UcKernel.defs (F := Bits)) (onTc (τ := Cert.UcKernel.τ) (Cert.UcKernel.main (F := Bits))) ⟨m, fun _ => 0, g⟩ (fun r => (∀ c : Dev Cert.UcKernel.nD,
      r.2.mem ((c.tc : Thread Cert.UcKernel.nD Cert.UcKernel.τ).loc Cert.UcKernel.main_arg0) = m ((c.tc : Thread Cert.UcKernel.nD Cert.UcKernel.τ).loc Cert.UcKernel.main_arg0)
      ∧ r.2.mem ((c.tc : Thread Cert.UcKernel.nD Cert.UcKernel.τ).loc Cert.UcKernel.main_arg1) = m ((c.tc : Thread Cert.UcKernel.nD Cert.UcKernel.τ).loc Cert.UcKernel.main_arg1)
      ∧ r.2.mem ((c.tc : Thread Cert.UcKernel.nD Cert.UcKernel.τ).loc Cert.UcKernel.main_arg2) = m ((c.tc : Thread Cert.UcKernel.nD Cert.UcKernel.τ).loc Cert.UcKernel.main_arg2)
      ∧ r.2.mem ((c.tc : Thread Cert.UcKernel.nD Cert.UcKernel.τ).loc Cert.UcKernel.main_arg3) = m ((c.tc : Thread Cert.UcKernel.nD Cert.UcKernel.τ).loc Cert.UcKernel.main_arg3))
      ∧ r.2.sem = fun _ => 0)

def quiescent_UcKernelIdeal [hUcKernelIdeal : Cert.UcKernelIdeal.Facts] : Prop :=
  ∀ (m : (ℓ : Loc Cert.UcKernelIdeal.nD Cert.UcKernelIdeal.τ Cert.UcKernelIdeal.sig) → Buf (Elt Ideal) ℓ) (g : Dev Cert.UcKernelIdeal.nD → PrngReg), Pre_UcKernelIdeal m →
    θ_run (Cert.UcKernelIdeal.defs (F := Ideal)) (onTc (τ := Cert.UcKernelIdeal.τ) (Cert.UcKernelIdeal.main (F := Ideal))) ⟨m, fun _ => 0, g⟩ (fun r => (∀ c : Dev Cert.UcKernelIdeal.nD,
      r.2.mem ((c.tc : Thread Cert.UcKernelIdeal.nD Cert.UcKernelIdeal.τ).loc Cert.UcKernelIdeal.main_arg0) = m ((c.tc : Thread Cert.UcKernelIdeal.nD Cert.UcKernelIdeal.τ).loc Cert.UcKernelIdeal.main_arg0)
      ∧ r.2.mem ((c.tc : Thread Cert.UcKernelIdeal.nD Cert.UcKernelIdeal.τ).loc Cert.UcKernelIdeal.main_arg1) = m ((c.tc : Thread Cert.UcKernelIdeal.nD Cert.UcKernelIdeal.τ).loc Cert.UcKernelIdeal.main_arg1)
      ∧ r.2.mem ((c.tc : Thread Cert.UcKernelIdeal.nD Cert.UcKernelIdeal.τ).loc Cert.UcKernelIdeal.main_arg2) = m ((c.tc : Thread Cert.UcKernelIdeal.nD Cert.UcKernelIdeal.τ).loc Cert.UcKernelIdeal.main_arg2)
      ∧ r.2.mem ((c.tc : Thread Cert.UcKernelIdeal.nD Cert.UcKernelIdeal.τ).loc Cert.UcKernelIdeal.main_arg3) = m ((c.tc : Thread Cert.UcKernelIdeal.nD Cert.UcKernelIdeal.τ).loc Cert.UcKernelIdeal.main_arg3))
      ∧ r.2.sem = fun _ => 0)

def quiescent_UcReferenceIdeal [hUcReferenceIdeal : Cert.UcReferenceIdeal.Facts] : Prop :=
  ∀ (m : (ℓ : Loc Cert.UcReferenceIdeal.nD Cert.UcReferenceIdeal.τ Cert.UcReferenceIdeal.sig) → Buf (Elt Ideal) ℓ) (g : Dev Cert.UcReferenceIdeal.nD → PrngReg), Pre_UcReferenceIdeal m →
    θ_run (Cert.UcReferenceIdeal.defs (F := Ideal)) (onTc (τ := Cert.UcReferenceIdeal.τ) (Cert.UcReferenceIdeal.main (F := Ideal))) ⟨m, fun _ => 0, g⟩ (fun r => (∀ c : Dev Cert.UcReferenceIdeal.nD,
      r.2.mem ((c.tc : Thread Cert.UcReferenceIdeal.nD Cert.UcReferenceIdeal.τ).loc Cert.UcReferenceIdeal.main_arg0) = m ((c.tc : Thread Cert.UcReferenceIdeal.nD Cert.UcReferenceIdeal.τ).loc Cert.UcReferenceIdeal.main_arg0)
      ∧ r.2.mem ((c.tc : Thread Cert.UcReferenceIdeal.nD Cert.UcReferenceIdeal.τ).loc Cert.UcReferenceIdeal.main_arg1) = m ((c.tc : Thread Cert.UcReferenceIdeal.nD Cert.UcReferenceIdeal.τ).loc Cert.UcReferenceIdeal.main_arg1)
      ∧ r.2.mem ((c.tc : Thread Cert.UcReferenceIdeal.nD Cert.UcReferenceIdeal.τ).loc Cert.UcReferenceIdeal.main_arg2) = m ((c.tc : Thread Cert.UcReferenceIdeal.nD Cert.UcReferenceIdeal.τ).loc Cert.UcReferenceIdeal.main_arg2)
      ∧ r.2.mem ((c.tc : Thread Cert.UcReferenceIdeal.nD Cert.UcReferenceIdeal.τ).loc Cert.UcReferenceIdeal.main_arg3) = m ((c.tc : Thread Cert.UcReferenceIdeal.nD Cert.UcReferenceIdeal.τ).loc Cert.UcReferenceIdeal.main_arg3))
      ∧ r.2.sem = fun _ => 0)

def quiescent_UdKernel [hUdKernel : Cert.UdKernel.Facts] : Prop :=
  ∀ (m : (ℓ : Loc Cert.UdKernel.nD Cert.UdKernel.τ Cert.UdKernel.sig) → Buf (Elt Bits) ℓ) (g : Dev Cert.UdKernel.nD → PrngReg), Pre_UdKernel m →
    θ_run (Cert.UdKernel.defs (F := Bits)) (onTc (τ := Cert.UdKernel.τ) (Cert.UdKernel.main (F := Bits))) ⟨m, fun _ => 0, g⟩ (fun r => (∀ c : Dev Cert.UdKernel.nD,
      r.2.mem ((c.tc : Thread Cert.UdKernel.nD Cert.UdKernel.τ).loc Cert.UdKernel.main_arg0) = m ((c.tc : Thread Cert.UdKernel.nD Cert.UdKernel.τ).loc Cert.UdKernel.main_arg0)
      ∧ r.2.mem ((c.tc : Thread Cert.UdKernel.nD Cert.UdKernel.τ).loc Cert.UdKernel.main_arg1) = m ((c.tc : Thread Cert.UdKernel.nD Cert.UdKernel.τ).loc Cert.UdKernel.main_arg1)
      ∧ r.2.mem ((c.tc : Thread Cert.UdKernel.nD Cert.UdKernel.τ).loc Cert.UdKernel.main_arg2) = m ((c.tc : Thread Cert.UdKernel.nD Cert.UdKernel.τ).loc Cert.UdKernel.main_arg2)
      ∧ r.2.mem ((c.tc : Thread Cert.UdKernel.nD Cert.UdKernel.τ).loc Cert.UdKernel.main_arg3) = m ((c.tc : Thread Cert.UdKernel.nD Cert.UdKernel.τ).loc Cert.UdKernel.main_arg3))
      ∧ r.2.sem = fun _ => 0)

def quiescent_UdKernelIdeal [hUdKernelIdeal : Cert.UdKernelIdeal.Facts] : Prop :=
  ∀ (m : (ℓ : Loc Cert.UdKernelIdeal.nD Cert.UdKernelIdeal.τ Cert.UdKernelIdeal.sig) → Buf (Elt Ideal) ℓ) (g : Dev Cert.UdKernelIdeal.nD → PrngReg), Pre_UdKernelIdeal m →
    θ_run (Cert.UdKernelIdeal.defs (F := Ideal)) (onTc (τ := Cert.UdKernelIdeal.τ) (Cert.UdKernelIdeal.main (F := Ideal))) ⟨m, fun _ => 0, g⟩ (fun r => (∀ c : Dev Cert.UdKernelIdeal.nD,
      r.2.mem ((c.tc : Thread Cert.UdKernelIdeal.nD Cert.UdKernelIdeal.τ).loc Cert.UdKernelIdeal.main_arg0) = m ((c.tc : Thread Cert.UdKernelIdeal.nD Cert.UdKernelIdeal.τ).loc Cert.UdKernelIdeal.main_arg0)
      ∧ r.2.mem ((c.tc : Thread Cert.UdKernelIdeal.nD Cert.UdKernelIdeal.τ).loc Cert.UdKernelIdeal.main_arg1) = m ((c.tc : Thread Cert.UdKernelIdeal.nD Cert.UdKernelIdeal.τ).loc Cert.UdKernelIdeal.main_arg1)
      ∧ r.2.mem ((c.tc : Thread Cert.UdKernelIdeal.nD Cert.UdKernelIdeal.τ).loc Cert.UdKernelIdeal.main_arg2) = m ((c.tc : Thread Cert.UdKernelIdeal.nD Cert.UdKernelIdeal.τ).loc Cert.UdKernelIdeal.main_arg2)
      ∧ r.2.mem ((c.tc : Thread Cert.UdKernelIdeal.nD Cert.UdKernelIdeal.τ).loc Cert.UdKernelIdeal.main_arg3) = m ((c.tc : Thread Cert.UdKernelIdeal.nD Cert.UdKernelIdeal.τ).loc Cert.UdKernelIdeal.main_arg3))
      ∧ r.2.sem = fun _ => 0)

def quiescent_UdReferenceIdeal [hUdReferenceIdeal : Cert.UdReferenceIdeal.Facts] : Prop :=
  ∀ (m : (ℓ : Loc Cert.UdReferenceIdeal.nD Cert.UdReferenceIdeal.τ Cert.UdReferenceIdeal.sig) → Buf (Elt Ideal) ℓ) (g : Dev Cert.UdReferenceIdeal.nD → PrngReg), Pre_UdReferenceIdeal m →
    θ_run (Cert.UdReferenceIdeal.defs (F := Ideal)) (onTc (τ := Cert.UdReferenceIdeal.τ) (Cert.UdReferenceIdeal.main (F := Ideal))) ⟨m, fun _ => 0, g⟩ (fun r => (∀ c : Dev Cert.UdReferenceIdeal.nD,
      r.2.mem ((c.tc : Thread Cert.UdReferenceIdeal.nD Cert.UdReferenceIdeal.τ).loc Cert.UdReferenceIdeal.main_arg0) = m ((c.tc : Thread Cert.UdReferenceIdeal.nD Cert.UdReferenceIdeal.τ).loc Cert.UdReferenceIdeal.main_arg0)
      ∧ r.2.mem ((c.tc : Thread Cert.UdReferenceIdeal.nD Cert.UdReferenceIdeal.τ).loc Cert.UdReferenceIdeal.main_arg1) = m ((c.tc : Thread Cert.UdReferenceIdeal.nD Cert.UdReferenceIdeal.τ).loc Cert.UdReferenceIdeal.main_arg1)
      ∧ r.2.mem ((c.tc : Thread Cert.UdReferenceIdeal.nD Cert.UdReferenceIdeal.τ).loc Cert.UdReferenceIdeal.main_arg2) = m ((c.tc : Thread Cert.UdReferenceIdeal.nD Cert.UdReferenceIdeal.τ).loc Cert.UdReferenceIdeal.main_arg2)
      ∧ r.2.mem ((c.tc : Thread Cert.UdReferenceIdeal.nD Cert.UdReferenceIdeal.τ).loc Cert.UdReferenceIdeal.main_arg3) = m ((c.tc : Thread Cert.UdReferenceIdeal.nD Cert.UdReferenceIdeal.τ).loc Cert.UdReferenceIdeal.main_arg3))
      ∧ r.2.sem = fun _ => 0)

def quiescent_UeKernel [hUeKernel : Cert.UeKernel.Facts] : Prop :=
  ∀ (m : (ℓ : Loc Cert.UeKernel.nD Cert.UeKernel.τ Cert.UeKernel.sig) → Buf (Elt Bits) ℓ) (g : Dev Cert.UeKernel.nD → PrngReg), Pre_UeKernel m →
    θ_run (Cert.UeKernel.defs (F := Bits)) (onTc (τ := Cert.UeKernel.τ) (Cert.UeKernel.main (F := Bits))) ⟨m, fun _ => 0, g⟩ (fun r => (∀ c : Dev Cert.UeKernel.nD,
      r.2.mem ((c.tc : Thread Cert.UeKernel.nD Cert.UeKernel.τ).loc Cert.UeKernel.main_arg0) = m ((c.tc : Thread Cert.UeKernel.nD Cert.UeKernel.τ).loc Cert.UeKernel.main_arg0)
      ∧ r.2.mem ((c.tc : Thread Cert.UeKernel.nD Cert.UeKernel.τ).loc Cert.UeKernel.main_arg1) = m ((c.tc : Thread Cert.UeKernel.nD Cert.UeKernel.τ).loc Cert.UeKernel.main_arg1)
      ∧ r.2.mem ((c.tc : Thread Cert.UeKernel.nD Cert.UeKernel.τ).loc Cert.UeKernel.main_arg2) = m ((c.tc : Thread Cert.UeKernel.nD Cert.UeKernel.τ).loc Cert.UeKernel.main_arg2)
      ∧ r.2.mem ((c.tc : Thread Cert.UeKernel.nD Cert.UeKernel.τ).loc Cert.UeKernel.main_arg3) = m ((c.tc : Thread Cert.UeKernel.nD Cert.UeKernel.τ).loc Cert.UeKernel.main_arg3))
      ∧ r.2.sem = fun _ => 0)

def quiescent_UeKernelIdeal [hUeKernelIdeal : Cert.UeKernelIdeal.Facts] : Prop :=
  ∀ (m : (ℓ : Loc Cert.UeKernelIdeal.nD Cert.UeKernelIdeal.τ Cert.UeKernelIdeal.sig) → Buf (Elt Ideal) ℓ) (g : Dev Cert.UeKernelIdeal.nD → PrngReg), Pre_UeKernelIdeal m →
    θ_run (Cert.UeKernelIdeal.defs (F := Ideal)) (onTc (τ := Cert.UeKernelIdeal.τ) (Cert.UeKernelIdeal.main (F := Ideal))) ⟨m, fun _ => 0, g⟩ (fun r => (∀ c : Dev Cert.UeKernelIdeal.nD,
      r.2.mem ((c.tc : Thread Cert.UeKernelIdeal.nD Cert.UeKernelIdeal.τ).loc Cert.UeKernelIdeal.main_arg0) = m ((c.tc : Thread Cert.UeKernelIdeal.nD Cert.UeKernelIdeal.τ).loc Cert.UeKernelIdeal.main_arg0)
      ∧ r.2.mem ((c.tc : Thread Cert.UeKernelIdeal.nD Cert.UeKernelIdeal.τ).loc Cert.UeKernelIdeal.main_arg1) = m ((c.tc : Thread Cert.UeKernelIdeal.nD Cert.UeKernelIdeal.τ).loc Cert.UeKernelIdeal.main_arg1)
      ∧ r.2.mem ((c.tc : Thread Cert.UeKernelIdeal.nD Cert.UeKernelIdeal.τ).loc Cert.UeKernelIdeal.main_arg2) = m ((c.tc : Thread Cert.UeKernelIdeal.nD Cert.UeKernelIdeal.τ).loc Cert.UeKernelIdeal.main_arg2)
      ∧ r.2.mem ((c.tc : Thread Cert.UeKernelIdeal.nD Cert.UeKernelIdeal.τ).loc Cert.UeKernelIdeal.main_arg3) = m ((c.tc : Thread Cert.UeKernelIdeal.nD Cert.UeKernelIdeal.τ).loc Cert.UeKernelIdeal.main_arg3))
      ∧ r.2.sem = fun _ => 0)

def quiescent_UeReferenceIdeal [hUeReferenceIdeal : Cert.UeReferenceIdeal.Facts] : Prop :=
  ∀ (m : (ℓ : Loc Cert.UeReferenceIdeal.nD Cert.UeReferenceIdeal.τ Cert.UeReferenceIdeal.sig) → Buf (Elt Ideal) ℓ) (g : Dev Cert.UeReferenceIdeal.nD → PrngReg), Pre_UeReferenceIdeal m →
    θ_run (Cert.UeReferenceIdeal.defs (F := Ideal)) (onTc (τ := Cert.UeReferenceIdeal.τ) (Cert.UeReferenceIdeal.main (F := Ideal))) ⟨m, fun _ => 0, g⟩ (fun r => (∀ c : Dev Cert.UeReferenceIdeal.nD,
      r.2.mem ((c.tc : Thread Cert.UeReferenceIdeal.nD Cert.UeReferenceIdeal.τ).loc Cert.UeReferenceIdeal.main_arg0) = m ((c.tc : Thread Cert.UeReferenceIdeal.nD Cert.UeReferenceIdeal.τ).loc Cert.UeReferenceIdeal.main_arg0)
      ∧ r.2.mem ((c.tc : Thread Cert.UeReferenceIdeal.nD Cert.UeReferenceIdeal.τ).loc Cert.UeReferenceIdeal.main_arg1) = m ((c.tc : Thread Cert.UeReferenceIdeal.nD Cert.UeReferenceIdeal.τ).loc Cert.UeReferenceIdeal.main_arg1)
      ∧ r.2.mem ((c.tc : Thread Cert.UeReferenceIdeal.nD Cert.UeReferenceIdeal.τ).loc Cert.UeReferenceIdeal.main_arg2) = m ((c.tc : Thread Cert.UeReferenceIdeal.nD Cert.UeReferenceIdeal.τ).loc Cert.UeReferenceIdeal.main_arg2)
      ∧ r.2.mem ((c.tc : Thread Cert.UeReferenceIdeal.nD Cert.UeReferenceIdeal.τ).loc Cert.UeReferenceIdeal.main_arg3) = m ((c.tc : Thread Cert.UeReferenceIdeal.nD Cert.UeReferenceIdeal.τ).loc Cert.UeReferenceIdeal.main_arg3))
      ∧ r.2.sem = fun _ => 0)

def quiescent_UfKernel [hUfKernel : Cert.UfKernel.Facts] : Prop :=
  ∀ (m : (ℓ : Loc Cert.UfKernel.nD Cert.UfKernel.τ Cert.UfKernel.sig) → Buf (Elt Bits) ℓ) (g : Dev Cert.UfKernel.nD → PrngReg), Pre_UfKernel m →
    θ_run (Cert.UfKernel.defs (F := Bits)) (onTc (τ := Cert.UfKernel.τ) (Cert.UfKernel.main (F := Bits))) ⟨m, fun _ => 0, g⟩ (fun r => (∀ c : Dev Cert.UfKernel.nD,
      r.2.mem ((c.tc : Thread Cert.UfKernel.nD Cert.UfKernel.τ).loc Cert.UfKernel.main_arg0) = m ((c.tc : Thread Cert.UfKernel.nD Cert.UfKernel.τ).loc Cert.UfKernel.main_arg0)
      ∧ r.2.mem ((c.tc : Thread Cert.UfKernel.nD Cert.UfKernel.τ).loc Cert.UfKernel.main_arg1) = m ((c.tc : Thread Cert.UfKernel.nD Cert.UfKernel.τ).loc Cert.UfKernel.main_arg1)
      ∧ r.2.mem ((c.tc : Thread Cert.UfKernel.nD Cert.UfKernel.τ).loc Cert.UfKernel.main_arg2) = m ((c.tc : Thread Cert.UfKernel.nD Cert.UfKernel.τ).loc Cert.UfKernel.main_arg2)
      ∧ r.2.mem ((c.tc : Thread Cert.UfKernel.nD Cert.UfKernel.τ).loc Cert.UfKernel.main_arg3) = m ((c.tc : Thread Cert.UfKernel.nD Cert.UfKernel.τ).loc Cert.UfKernel.main_arg3))
      ∧ r.2.sem = fun _ => 0)

def quiescent_UfKernelIdeal [hUfKernelIdeal : Cert.UfKernelIdeal.Facts] : Prop :=
  ∀ (m : (ℓ : Loc Cert.UfKernelIdeal.nD Cert.UfKernelIdeal.τ Cert.UfKernelIdeal.sig) → Buf (Elt Ideal) ℓ) (g : Dev Cert.UfKernelIdeal.nD → PrngReg), Pre_UfKernelIdeal m →
    θ_run (Cert.UfKernelIdeal.defs (F := Ideal)) (onTc (τ := Cert.UfKernelIdeal.τ) (Cert.UfKernelIdeal.main (F := Ideal))) ⟨m, fun _ => 0, g⟩ (fun r => (∀ c : Dev Cert.UfKernelIdeal.nD,
      r.2.mem ((c.tc : Thread Cert.UfKernelIdeal.nD Cert.UfKernelIdeal.τ).loc Cert.UfKernelIdeal.main_arg0) = m ((c.tc : Thread Cert.UfKernelIdeal.nD Cert.UfKernelIdeal.τ).loc Cert.UfKernelIdeal.main_arg0)
      ∧ r.2.mem ((c.tc : Thread Cert.UfKernelIdeal.nD Cert.UfKernelIdeal.τ).loc Cert.UfKernelIdeal.main_arg1) = m ((c.tc : Thread Cert.UfKernelIdeal.nD Cert.UfKernelIdeal.τ).loc Cert.UfKernelIdeal.main_arg1)
      ∧ r.2.mem ((c.tc : Thread Cert.UfKernelIdeal.nD Cert.UfKernelIdeal.τ).loc Cert.UfKernelIdeal.main_arg2) = m ((c.tc : Thread Cert.UfKernelIdeal.nD Cert.UfKernelIdeal.τ).loc Cert.UfKernelIdeal.main_arg2)
      ∧ r.2.mem ((c.tc : Thread Cert.UfKernelIdeal.nD Cert.UfKernelIdeal.τ).loc Cert.UfKernelIdeal.main_arg3) = m ((c.tc : Thread Cert.UfKernelIdeal.nD Cert.UfKernelIdeal.τ).loc Cert.UfKernelIdeal.main_arg3))
      ∧ r.2.sem = fun _ => 0)

def quiescent_UfReferenceIdeal [hUfReferenceIdeal : Cert.UfReferenceIdeal.Facts] : Prop :=
  ∀ (m : (ℓ : Loc Cert.UfReferenceIdeal.nD Cert.UfReferenceIdeal.τ Cert.UfReferenceIdeal.sig) → Buf (Elt Ideal) ℓ) (g : Dev Cert.UfReferenceIdeal.nD → PrngReg), Pre_UfReferenceIdeal m →
    θ_run (Cert.UfReferenceIdeal.defs (F := Ideal)) (onTc (τ := Cert.UfReferenceIdeal.τ) (Cert.UfReferenceIdeal.main (F := Ideal))) ⟨m, fun _ => 0, g⟩ (fun r => (∀ c : Dev Cert.UfReferenceIdeal.nD,
      r.2.mem ((c.tc : Thread Cert.UfReferenceIdeal.nD Cert.UfReferenceIdeal.τ).loc Cert.UfReferenceIdeal.main_arg0) = m ((c.tc : Thread Cert.UfReferenceIdeal.nD Cert.UfReferenceIdeal.τ).loc Cert.UfReferenceIdeal.main_arg0)
      ∧ r.2.mem ((c.tc : Thread Cert.UfReferenceIdeal.nD Cert.UfReferenceIdeal.τ).loc Cert.UfReferenceIdeal.main_arg1) = m ((c.tc : Thread Cert.UfReferenceIdeal.nD Cert.UfReferenceIdeal.τ).loc Cert.UfReferenceIdeal.main_arg1)
      ∧ r.2.mem ((c.tc : Thread Cert.UfReferenceIdeal.nD Cert.UfReferenceIdeal.τ).loc Cert.UfReferenceIdeal.main_arg2) = m ((c.tc : Thread Cert.UfReferenceIdeal.nD Cert.UfReferenceIdeal.τ).loc Cert.UfReferenceIdeal.main_arg2)
      ∧ r.2.mem ((c.tc : Thread Cert.UfReferenceIdeal.nD Cert.UfReferenceIdeal.τ).loc Cert.UfReferenceIdeal.main_arg3) = m ((c.tc : Thread Cert.UfReferenceIdeal.nD Cert.UfReferenceIdeal.τ).loc Cert.UfReferenceIdeal.main_arg3))
      ∧ r.2.sem = fun _ => 0)

def quiescent_UgKernel [hUgKernel : Cert.UgKernel.Facts] : Prop :=
  ∀ (m : (ℓ : Loc Cert.UgKernel.nD Cert.UgKernel.τ Cert.UgKernel.sig) → Buf (Elt Bits) ℓ) (g : Dev Cert.UgKernel.nD → PrngReg), Pre_UgKernel m →
    θ_run (Cert.UgKernel.defs (F := Bits)) (onTc (τ := Cert.UgKernel.τ) (Cert.UgKernel.main (F := Bits))) ⟨m, fun _ => 0, g⟩ (fun r => (∀ c : Dev Cert.UgKernel.nD,
      r.2.mem ((c.tc : Thread Cert.UgKernel.nD Cert.UgKernel.τ).loc Cert.UgKernel.main_arg0) = m ((c.tc : Thread Cert.UgKernel.nD Cert.UgKernel.τ).loc Cert.UgKernel.main_arg0)
      ∧ r.2.mem ((c.tc : Thread Cert.UgKernel.nD Cert.UgKernel.τ).loc Cert.UgKernel.main_arg1) = m ((c.tc : Thread Cert.UgKernel.nD Cert.UgKernel.τ).loc Cert.UgKernel.main_arg1)
      ∧ r.2.mem ((c.tc : Thread Cert.UgKernel.nD Cert.UgKernel.τ).loc Cert.UgKernel.main_arg2) = m ((c.tc : Thread Cert.UgKernel.nD Cert.UgKernel.τ).loc Cert.UgKernel.main_arg2)
      ∧ r.2.mem ((c.tc : Thread Cert.UgKernel.nD Cert.UgKernel.τ).loc Cert.UgKernel.main_arg3) = m ((c.tc : Thread Cert.UgKernel.nD Cert.UgKernel.τ).loc Cert.UgKernel.main_arg3))
      ∧ r.2.sem = fun _ => 0)

def quiescent_UgKernelIdeal [hUgKernelIdeal : Cert.UgKernelIdeal.Facts] : Prop :=
  ∀ (m : (ℓ : Loc Cert.UgKernelIdeal.nD Cert.UgKernelIdeal.τ Cert.UgKernelIdeal.sig) → Buf (Elt Ideal) ℓ) (g : Dev Cert.UgKernelIdeal.nD → PrngReg), Pre_UgKernelIdeal m →
    θ_run (Cert.UgKernelIdeal.defs (F := Ideal)) (onTc (τ := Cert.UgKernelIdeal.τ) (Cert.UgKernelIdeal.main (F := Ideal))) ⟨m, fun _ => 0, g⟩ (fun r => (∀ c : Dev Cert.UgKernelIdeal.nD,
      r.2.mem ((c.tc : Thread Cert.UgKernelIdeal.nD Cert.UgKernelIdeal.τ).loc Cert.UgKernelIdeal.main_arg0) = m ((c.tc : Thread Cert.UgKernelIdeal.nD Cert.UgKernelIdeal.τ).loc Cert.UgKernelIdeal.main_arg0)
      ∧ r.2.mem ((c.tc : Thread Cert.UgKernelIdeal.nD Cert.UgKernelIdeal.τ).loc Cert.UgKernelIdeal.main_arg1) = m ((c.tc : Thread Cert.UgKernelIdeal.nD Cert.UgKernelIdeal.τ).loc Cert.UgKernelIdeal.main_arg1)
      ∧ r.2.mem ((c.tc : Thread Cert.UgKernelIdeal.nD Cert.UgKernelIdeal.τ).loc Cert.UgKernelIdeal.main_arg2) = m ((c.tc : Thread Cert.UgKernelIdeal.nD Cert.UgKernelIdeal.τ).loc Cert.UgKernelIdeal.main_arg2)
      ∧ r.2.mem ((c.tc : Thread Cert.UgKernelIdeal.nD Cert.UgKernelIdeal.τ).loc Cert.UgKernelIdeal.main_arg3) = m ((c.tc : Thread Cert.UgKernelIdeal.nD Cert.UgKernelIdeal.τ).loc Cert.UgKernelIdeal.main_arg3))
      ∧ r.2.sem = fun _ => 0)

def quiescent_UgReferenceIdeal [hUgReferenceIdeal : Cert.UgReferenceIdeal.Facts] : Prop :=
  ∀ (m : (ℓ : Loc Cert.UgReferenceIdeal.nD Cert.UgReferenceIdeal.τ Cert.UgReferenceIdeal.sig) → Buf (Elt Ideal) ℓ) (g : Dev Cert.UgReferenceIdeal.nD → PrngReg), Pre_UgReferenceIdeal m →
    θ_run (Cert.UgReferenceIdeal.defs (F := Ideal)) (onTc (τ := Cert.UgReferenceIdeal.τ) (Cert.UgReferenceIdeal.main (F := Ideal))) ⟨m, fun _ => 0, g⟩ (fun r => (∀ c : Dev Cert.UgReferenceIdeal.nD,
      r.2.mem ((c.tc : Thread Cert.UgReferenceIdeal.nD Cert.UgReferenceIdeal.τ).loc Cert.UgReferenceIdeal.main_arg0) = m ((c.tc : Thread Cert.UgReferenceIdeal.nD Cert.UgReferenceIdeal.τ).loc Cert.UgReferenceIdeal.main_arg0)
      ∧ r.2.mem ((c.tc : Thread Cert.UgReferenceIdeal.nD Cert.UgReferenceIdeal.τ).loc Cert.UgReferenceIdeal.main_arg1) = m ((c.tc : Thread Cert.UgReferenceIdeal.nD Cert.UgReferenceIdeal.τ).loc Cert.UgReferenceIdeal.main_arg1)
      ∧ r.2.mem ((c.tc : Thread Cert.UgReferenceIdeal.nD Cert.UgReferenceIdeal.τ).loc Cert.UgReferenceIdeal.main_arg2) = m ((c.tc : Thread Cert.UgReferenceIdeal.nD Cert.UgReferenceIdeal.τ).loc Cert.UgReferenceIdeal.main_arg2)
      ∧ r.2.mem ((c.tc : Thread Cert.UgReferenceIdeal.nD Cert.UgReferenceIdeal.τ).loc Cert.UgReferenceIdeal.main_arg3) = m ((c.tc : Thread Cert.UgReferenceIdeal.nD Cert.UgReferenceIdeal.τ).loc Cert.UgReferenceIdeal.main_arg3))
      ∧ r.2.sem = fun _ => 0)

def quiescent_UhKernel [hUhKernel : Cert.UhKernel.Facts] : Prop :=
  ∀ (m : (ℓ : Loc Cert.UhKernel.nD Cert.UhKernel.τ Cert.UhKernel.sig) → Buf (Elt Bits) ℓ) (g : Dev Cert.UhKernel.nD → PrngReg), Pre_UhKernel m →
    θ_run (Cert.UhKernel.defs (F := Bits)) (onTc (τ := Cert.UhKernel.τ) (Cert.UhKernel.main (F := Bits))) ⟨m, fun _ => 0, g⟩ (fun r => (∀ c : Dev Cert.UhKernel.nD,
      r.2.mem ((c.tc : Thread Cert.UhKernel.nD Cert.UhKernel.τ).loc Cert.UhKernel.main_arg0) = m ((c.tc : Thread Cert.UhKernel.nD Cert.UhKernel.τ).loc Cert.UhKernel.main_arg0)
      ∧ r.2.mem ((c.tc : Thread Cert.UhKernel.nD Cert.UhKernel.τ).loc Cert.UhKernel.main_arg1) = m ((c.tc : Thread Cert.UhKernel.nD Cert.UhKernel.τ).loc Cert.UhKernel.main_arg1)
      ∧ r.2.mem ((c.tc : Thread Cert.UhKernel.nD Cert.UhKernel.τ).loc Cert.UhKernel.main_arg2) = m ((c.tc : Thread Cert.UhKernel.nD Cert.UhKernel.τ).loc Cert.UhKernel.main_arg2)
      ∧ r.2.mem ((c.tc : Thread Cert.UhKernel.nD Cert.UhKernel.τ).loc Cert.UhKernel.main_arg3) = m ((c.tc : Thread Cert.UhKernel.nD Cert.UhKernel.τ).loc Cert.UhKernel.main_arg3))
      ∧ r.2.sem = fun _ => 0)

def quiescent_UhKernelIdeal [hUhKernelIdeal : Cert.UhKernelIdeal.Facts] : Prop :=
  ∀ (m : (ℓ : Loc Cert.UhKernelIdeal.nD Cert.UhKernelIdeal.τ Cert.UhKernelIdeal.sig) → Buf (Elt Ideal) ℓ) (g : Dev Cert.UhKernelIdeal.nD → PrngReg), Pre_UhKernelIdeal m →
    θ_run (Cert.UhKernelIdeal.defs (F := Ideal)) (onTc (τ := Cert.UhKernelIdeal.τ) (Cert.UhKernelIdeal.main (F := Ideal))) ⟨m, fun _ => 0, g⟩ (fun r => (∀ c : Dev Cert.UhKernelIdeal.nD,
      r.2.mem ((c.tc : Thread Cert.UhKernelIdeal.nD Cert.UhKernelIdeal.τ).loc Cert.UhKernelIdeal.main_arg0) = m ((c.tc : Thread Cert.UhKernelIdeal.nD Cert.UhKernelIdeal.τ).loc Cert.UhKernelIdeal.main_arg0)
      ∧ r.2.mem ((c.tc : Thread Cert.UhKernelIdeal.nD Cert.UhKernelIdeal.τ).loc Cert.UhKernelIdeal.main_arg1) = m ((c.tc : Thread Cert.UhKernelIdeal.nD Cert.UhKernelIdeal.τ).loc Cert.UhKernelIdeal.main_arg1)
      ∧ r.2.mem ((c.tc : Thread Cert.UhKernelIdeal.nD Cert.UhKernelIdeal.τ).loc Cert.UhKernelIdeal.main_arg2) = m ((c.tc : Thread Cert.UhKernelIdeal.nD Cert.UhKernelIdeal.τ).loc Cert.UhKernelIdeal.main_arg2)
      ∧ r.2.mem ((c.tc : Thread Cert.UhKernelIdeal.nD Cert.UhKernelIdeal.τ).loc Cert.UhKernelIdeal.main_arg3) = m ((c.tc : Thread Cert.UhKernelIdeal.nD Cert.UhKernelIdeal.τ).loc Cert.UhKernelIdeal.main_arg3))
      ∧ r.2.sem = fun _ => 0)

def quiescent_UhReferenceIdeal [hUhReferenceIdeal : Cert.UhReferenceIdeal.Facts] : Prop :=
  ∀ (m : (ℓ : Loc Cert.UhReferenceIdeal.nD Cert.UhReferenceIdeal.τ Cert.UhReferenceIdeal.sig) → Buf (Elt Ideal) ℓ) (g : Dev Cert.UhReferenceIdeal.nD → PrngReg), Pre_UhReferenceIdeal m →
    θ_run (Cert.UhReferenceIdeal.defs (F := Ideal)) (onTc (τ := Cert.UhReferenceIdeal.τ) (Cert.UhReferenceIdeal.main (F := Ideal))) ⟨m, fun _ => 0, g⟩ (fun r => (∀ c : Dev Cert.UhReferenceIdeal.nD,
      r.2.mem ((c.tc : Thread Cert.UhReferenceIdeal.nD Cert.UhReferenceIdeal.τ).loc Cert.UhReferenceIdeal.main_arg0) = m ((c.tc : Thread Cert.UhReferenceIdeal.nD Cert.UhReferenceIdeal.τ).loc Cert.UhReferenceIdeal.main_arg0)
      ∧ r.2.mem ((c.tc : Thread Cert.UhReferenceIdeal.nD Cert.UhReferenceIdeal.τ).loc Cert.UhReferenceIdeal.main_arg1) = m ((c.tc : Thread Cert.UhReferenceIdeal.nD Cert.UhReferenceIdeal.τ).loc Cert.UhReferenceIdeal.main_arg1)
      ∧ r.2.mem ((c.tc : Thread Cert.UhReferenceIdeal.nD Cert.UhReferenceIdeal.τ).loc Cert.UhReferenceIdeal.main_arg2) = m ((c.tc : Thread Cert.UhReferenceIdeal.nD Cert.UhReferenceIdeal.τ).loc Cert.UhReferenceIdeal.main_arg2)
      ∧ r.2.mem ((c.tc : Thread Cert.UhReferenceIdeal.nD Cert.UhReferenceIdeal.τ).loc Cert.UhReferenceIdeal.main_arg3) = m ((c.tc : Thread Cert.UhReferenceIdeal.nD Cert.UhReferenceIdeal.τ).loc Cert.UhReferenceIdeal.main_arg3))
      ∧ r.2.sem = fun _ => 0)

def preserves_Kernel_KernelIdeal : Prop :=
  IdealRules.named_const.Statement Cert.KernelIdeal.κ "mask" .f32 0xF149F2CA#32 ⊥

def preserves_DactKernel_DactKernelIdeal : Prop :=
  True

def algebraic_DactKernelIdeal_DactReferenceIdeal [hDactKernelIdeal : Cert.DactKernelIdeal.Facts] [hDactReferenceIdeal : Cert.DactReferenceIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)) →
    ∃ (v0 : (c : Dev Cert.DactKernelIdeal.nD) → Buf (Elt Ideal) ((c.tc : Thread Cert.DactKernelIdeal.nD Cert.DactKernelIdeal.τ).loc Cert.DactKernelIdeal.main_v0)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v0) = v0 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v6) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1))

def preserves_DwoKernel_DwoKernelIdeal : Prop :=
  True

def algebraic_DwoKernelIdeal_DwoReferenceIdeal [hDwoKernelIdeal : Cert.DwoKernelIdeal.Facts] [hDwoReferenceIdeal : Cert.DwoReferenceIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoKernelIdeal m →
    (∀ c : Dev Cert.DwoKernelIdeal.nD,
      m' ((c.tc : Thread Cert.DwoReferenceIdeal.nD Cert.DwoReferenceIdeal.τ).loc Cert.DwoReferenceIdeal.main_arg0) = m ((c.tc : Thread Cert.DwoKernelIdeal.nD Cert.DwoKernelIdeal.τ).loc Cert.DwoKernelIdeal.main_arg0)
      ∧ m' ((c.tc : Thread Cert.DwoReferenceIdeal.nD Cert.DwoReferenceIdeal.τ).loc Cert.DwoReferenceIdeal.main_arg1) = m ((c.tc : Thread Cert.DwoKernelIdeal.nD Cert.DwoKernelIdeal.τ).loc Cert.DwoKernelIdeal.main_arg1)) →
    ∃ (v0 : (c : Dev Cert.DwoKernelIdeal.nD) → Buf (Elt Ideal) ((c.tc : Thread Cert.DwoKernelIdeal.nD Cert.DwoKernelIdeal.τ).loc Cert.DwoKernelIdeal.main_v0)),
      θ_run (Cert.DwoKernelIdeal.defs (F := Ideal)) (onTc (τ := Cert.DwoKernelIdeal.τ) (Cert.DwoKernelIdeal.main (F := Ideal))) ⟨m, fun _ => 0, g⟩ (fun r => ∀ c : Dev Cert.DwoKernelIdeal.nD,
          r.2.mem ((c.tc : Thread Cert.DwoKernelIdeal.nD Cert.DwoKernelIdeal.τ).loc Cert.DwoKernelIdeal.main_v0) = v0 c
          ∧ r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
          ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v6) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)) →
    ∃ (v0 : (c : Dev Cert.DhKernelIdeal.nD) → Buf (Elt Ideal) ((c.tc : Thread Cert.DhKernelIdeal.nD Cert.DhKernelIdeal.τ).loc Cert.DhKernelIdeal.main_v0)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v0) = v0 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v10) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1))

def preserves_DwiKernel_DwiKernelIdeal : Prop :=
  True

def algebraic_DwiKernelIdeal_DwiReferenceIdeal [hDwiKernelIdeal : Cert.DwiKernelIdeal.Facts] [hDwiReferenceIdeal : Cert.DwiReferenceIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg)
    (m' : (ℓ : Loc Cert.DwiReferenceIdeal.nD Cert.DwiReferenceIdeal.τ Cert.DwiReferenceIdeal.sig) → Buf (Elt Ideal) ℓ) (g' : Dev Cert.DwiReferenceIdeal.nD → PrngReg), Pre_DwiKernelIdeal m →
    (∀ c : Dev Cert.DwiKernelIdeal.nD,
      m' ((c.tc : Thread Cert.DwiReferenceIdeal.nD Cert.DwiReferenceIdeal.τ).loc Cert.DwiReferenceIdeal.main_arg0) = m ((c.tc : Thread Cert.DwiKernelIdeal.nD Cert.DwiKernelIdeal.τ).loc Cert.DwiKernelIdeal.main_arg0)
      ∧ m' ((c.tc : Thread Cert.DwiReferenceIdeal.nD Cert.DwiReferenceIdeal.τ).loc Cert.DwiReferenceIdeal.main_arg1) = m ((c.tc : Thread Cert.DwiKernelIdeal.nD Cert.DwiKernelIdeal.τ).loc Cert.DwiKernelIdeal.main_arg1)) →
    ∃ (v0 : (c : Dev Cert.DwiKernelIdeal.nD) → Buf (Elt Ideal) ((c.tc : Thread Cert.DwiKernelIdeal.nD Cert.DwiKernelIdeal.τ).loc Cert.DwiKernelIdeal.main_v0)),
      θ_run (Cert.DwiKernelIdeal.defs (F := Ideal)) (onTc (τ := Cert.DwiKernelIdeal.τ) (Cert.DwiKernelIdeal.main (F := Ideal))) ⟨m, fun _ => 0, g⟩ (fun r => ∀ c : Dev Cert.DwiKernelIdeal.nD,
          r.2.mem ((c.tc : Thread Cert.DwiKernelIdeal.nD Cert.DwiKernelIdeal.τ).loc Cert.DwiKernelIdeal.main_v0) = v0 c
          ∧ r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
          ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1))
      ∧ θ_run (Cert.DwiReferenceIdeal.defs (F := Ideal)) (onTc (τ := Cert.DwiReferenceIdeal.τ) (Cert.DwiReferenceIdeal.main (F := Ideal))) ⟨m', fun _ => 0, g'⟩ (fun r => ∀ c : Dev Cert.DwiReferenceIdeal.nD,
          r.2.mem ((c.tc : Thread Cert.DwiReferenceIdeal.nD Cert.DwiReferenceIdeal.τ).loc Cert.DwiReferenceIdeal.main_v11) = v0 c
          ∧ r.2.mem ((c.tc : Thread Cert.DwiReferenceIdeal.nD Cert.DwiReferenceIdeal.τ).loc Cert.DwiReferenceIdeal.main_arg0) = m' ((c.tc : Thread Cert.DwiReferenceIdeal.nD Cert.DwiReferenceIdeal.τ).loc Cert.DwiReferenceIdeal.main_arg0)
          ∧ r.2.mem ((c.tc : Thread Cert.DwiReferenceIdeal.nD Cert.DwiReferenceIdeal.τ).loc Cert.DwiReferenceIdeal.main_arg1) = m' ((c.tc : Thread Cert.DwiReferenceIdeal.nD Cert.DwiReferenceIdeal.τ).loc Cert.DwiReferenceIdeal.main_arg1))

def preserves_DmKernel_DmKernelIdeal : Prop :=
  True

def algebraic_DmKernelIdeal_DmReferenceIdeal [hDmKernelIdeal : Cert.DmKernelIdeal.Facts] [hDmReferenceIdeal : Cert.DmReferenceIdeal.Facts] : Prop :=
  ∀ (m : (ℓ : Loc Cert.DmKernelIdeal.nD Cert.DmKernelIdeal.τ Cert.DmKernelIdeal.sig) → Buf (Elt Ideal) ℓ) (g : Dev Cert.DmKernelIdeal.nD → PrngReg)
    (m' : (ℓ : Loc Cert.DmReferenceIdeal.nD Cert.DmReferenceIdeal.τ Cert.DmReferenceIdeal.sig) → Buf (Elt Ideal) ℓ) (g' : Dev Cert.DmReferenceIdeal.nD → PrngReg), Pre_DmKernelIdeal m →
    (∀ c : Dev Cert.DmKernelIdeal.nD,
      m' ((c.tc : Thread Cert.DmReferenceIdeal.nD Cert.DmReferenceIdeal.τ).loc Cert.DmReferenceIdeal.main_arg0) = m ((c.tc : Thread Cert.DmKernelIdeal.nD Cert.DmKernelIdeal.τ).loc Cert.DmKernelIdeal.main_arg0)
      ∧ m' ((c.tc : Thread Cert.DmReferenceIdeal.nD Cert.DmReferenceIdeal.τ).loc Cert.DmReferenceIdeal.main_arg1) = m ((c.tc : Thread Cert.DmKernelIdeal.nD Cert.DmKernelIdeal.τ).loc Cert.DmKernelIdeal.main_arg1)) →
    ∃ (v0 : (c : Dev Cert.DmKernelIdeal.nD) → Buf (Elt Ideal) ((c.tc : Thread Cert.DmKernelIdeal.nD Cert.DmKernelIdeal.τ).loc Cert.DmKernelIdeal.main_v0)),
      θ_run (Cert.DmKernelIdeal.defs (F := Ideal)) (onTc (τ := Cert.DmKernelIdeal.τ) (Cert.DmKernelIdeal.main (F := Ideal))) ⟨m, fun _ => 0, g⟩ (fun r => ∀ c : Dev Cert.DmKernelIdeal.nD,
          r.2.mem ((c.tc : Thread Cert.DmKernelIdeal.nD Cert.DmKernelIdeal.τ).loc Cert.DmKernelIdeal.main_v0) = v0 c
          ∧ r.2.mem ((c.tc : Thread Cert.DmKernelIdeal.nD Cert.DmKernelIdeal.τ).loc Cert.DmKernelIdeal.main_arg0) = m ((c.tc : Thread Cert.DmKernelIdeal.nD Cert.DmKernelIdeal.τ).loc Cert.DmKernelIdeal.main_arg0)
          ∧ r.2.mem ((c.tc : Thread Cert.DmKernelIdeal.nD Cert.DmKernelIdeal.τ).loc Cert.DmKernelIdeal.main_arg1) = m ((c.tc : Thread Cert.DmKernelIdeal.nD Cert.DmKernelIdeal.τ).loc Cert.DmKernelIdeal.main_arg1))
      ∧ θ_run (Cert.DmReferenceIdeal.defs (F := Ideal)) (onTc (τ := Cert.DmReferenceIdeal.τ) (Cert.DmReferenceIdeal.main (F := Ideal))) ⟨m', fun _ => 0, g'⟩ (fun r => ∀ c : Dev Cert.DmReferenceIdeal.nD,
          r.2.mem ((c.tc : Thread Cert.DmReferenceIdeal.nD Cert.DmReferenceIdeal.τ).loc Cert.DmReferenceIdeal.main_v6) = v0 c
          ∧ r.2.mem ((c.tc : Thread Cert.DmReferenceIdeal.nD Cert.DmReferenceIdeal.τ).loc Cert.DmReferenceIdeal.main_arg0) = m' ((c.tc : Thread Cert.DmReferenceIdeal.nD Cert.DmReferenceIdeal.τ).loc Cert.DmReferenceIdeal.main_arg0)
          ∧ r.2.mem ((c.tc : Thread Cert.DmReferenceIdeal.nD Cert.DmReferenceIdeal.τ).loc Cert.DmReferenceIdeal.main_arg1) = m' ((c.tc : Thread Cert.DmReferenceIdeal.nD Cert.DmReferenceIdeal.τ).loc Cert.DmReferenceIdeal.main_arg1))

def preserves_DwmKernel_DwmKernelIdeal : Prop :=
  True

def algebraic_DwmKernelIdeal_DwmReferenceIdeal [hDwmKernelIdeal : Cert.DwmKernelIdeal.Facts] [hDwmReferenceIdeal : Cert.DwmReferenceIdeal.Facts] : Prop :=
  ∀ (m : (ℓ : Loc Cert.DwmKernelIdeal.nD Cert.DwmKernelIdeal.τ Cert.DwmKernelIdeal.sig) → Buf (Elt Ideal) ℓ) (g : Dev Cert.DwmKernelIdeal.nD → PrngReg)
    (m' : (ℓ : Loc Cert.DwmReferenceIdeal.nD Cert.DwmReferenceIdeal.τ Cert.DwmReferenceIdeal.sig) → Buf (Elt Ideal) ℓ) (g' : Dev Cert.DwmReferenceIdeal.nD → PrngReg), Pre_DwmKernelIdeal m →
    (∀ c : Dev Cert.DwmKernelIdeal.nD,
      m' ((c.tc : Thread Cert.DwmReferenceIdeal.nD Cert.DwmReferenceIdeal.τ).loc Cert.DwmReferenceIdeal.main_arg0) = m ((c.tc : Thread Cert.DwmKernelIdeal.nD Cert.DwmKernelIdeal.τ).loc Cert.DwmKernelIdeal.main_arg0)
      ∧ m' ((c.tc : Thread Cert.DwmReferenceIdeal.nD Cert.DwmReferenceIdeal.τ).loc Cert.DwmReferenceIdeal.main_arg1) = m ((c.tc : Thread Cert.DwmKernelIdeal.nD Cert.DwmKernelIdeal.τ).loc Cert.DwmKernelIdeal.main_arg1)) →
    ∃ (v0 : (c : Dev Cert.DwmKernelIdeal.nD) → Buf (Elt Ideal) ((c.tc : Thread Cert.DwmKernelIdeal.nD Cert.DwmKernelIdeal.τ).loc Cert.DwmKernelIdeal.main_v0)),
      θ_run (Cert.DwmKernelIdeal.defs (F := Ideal)) (onTc (τ := Cert.DwmKernelIdeal.τ) (Cert.DwmKernelIdeal.main (F := Ideal))) ⟨m, fun _ => 0, g⟩ (fun r => ∀ c : Dev Cert.DwmKernelIdeal.nD,
          r.2.mem ((c.tc : Thread Cert.DwmKernelIdeal.nD Cert.DwmKernelIdeal.τ).loc Cert.DwmKernelIdeal.main_v0) = v0 c
          ∧ r.2.mem ((c.tc : Thread Cert.DwmKernelIdeal.nD Cert.DwmKernelIdeal.τ).loc Cert.DwmKernelIdeal.main_arg0) = m ((c.tc : Thread Cert.DwmKernelIdeal.nD Cert.DwmKernelIdeal.τ).loc Cert.DwmKernelIdeal.main_arg0)
          ∧ r.2.mem ((c.tc : Thread Cert.DwmKernelIdeal.nD Cert.DwmKernelIdeal.τ).loc Cert.DwmKernelIdeal.main_arg1) = m ((c.tc : Thread Cert.DwmKernelIdeal.nD Cert.DwmKernelIdeal.τ).loc Cert.DwmKernelIdeal.main_arg1))
      ∧ θ_run (Cert.DwmReferenceIdeal.defs (F := Ideal)) (onTc (τ := Cert.DwmReferenceIdeal.τ) (Cert.DwmReferenceIdeal.main (F := Ideal))) ⟨m', fun _ => 0, g'⟩ (fun r => ∀ c : Dev Cert.DwmReferenceIdeal.nD,
          r.2.mem ((c.tc : Thread Cert.DwmReferenceIdeal.nD Cert.DwmReferenceIdeal.τ).loc Cert.DwmReferenceIdeal.main_v6) = v0 c
          ∧ r.2.mem ((c.tc : Thread Cert.DwmReferenceIdeal.nD Cert.DwmReferenceIdeal.τ).loc Cert.DwmReferenceIdeal.main_arg0) = m' ((c.tc : Thread Cert.DwmReferenceIdeal.nD Cert.DwmReferenceIdeal.τ).loc Cert.DwmReferenceIdeal.main_arg0)
          ∧ r.2.mem ((c.tc : Thread Cert.DwmReferenceIdeal.nD Cert.DwmReferenceIdeal.τ).loc Cert.DwmReferenceIdeal.main_arg1) = m' ((c.tc : Thread Cert.DwmReferenceIdeal.nD Cert.DwmReferenceIdeal.τ).loc Cert.DwmReferenceIdeal.main_arg1))

def preserves_DyaKernel_DyaKernelIdeal : Prop :=
  True

def algebraic_DyaKernelIdeal_DyaReferenceIdeal [hDyaKernelIdeal : Cert.DyaKernelIdeal.Facts] [hDyaReferenceIdeal : Cert.DyaReferenceIdeal.Facts] : Prop :=
  ∀ (m : (ℓ : Loc Cert.DyaKernelIdeal.nD Cert.DyaKernelIdeal.τ Cert.DyaKernelIdeal.sig) → Buf (Elt Ideal) ℓ) (g : Dev Cert.DyaKernelIdeal.nD → PrngReg)
    (m' : (ℓ : Loc Cert.DyaReferenceIdeal.nD Cert.DyaReferenceIdeal.τ Cert.DyaReferenceIdeal.sig) → Buf (Elt Ideal) ℓ) (g' : Dev Cert.DyaReferenceIdeal.nD → PrngReg), Pre_DyaKernelIdeal m →
    (∀ c : Dev Cert.DyaKernelIdeal.nD,
      m' ((c.tc : Thread Cert.DyaReferenceIdeal.nD Cert.DyaReferenceIdeal.τ).loc Cert.DyaReferenceIdeal.main_arg0) = m ((c.tc : Thread Cert.DyaKernelIdeal.nD Cert.DyaKernelIdeal.τ).loc Cert.DyaKernelIdeal.main_arg0)
      ∧ m' ((c.tc : Thread Cert.DyaReferenceIdeal.nD Cert.DyaReferenceIdeal.τ).loc Cert.DyaReferenceIdeal.main_arg1) = m ((c.tc : Thread Cert.DyaKernelIdeal.nD Cert.DyaKernelIdeal.τ).loc Cert.DyaKernelIdeal.main_arg1)) →
    ∃ (v0 : (c : Dev Cert.DyaKernelIdeal.nD) → Buf (Elt Ideal) ((c.tc : Thread Cert.DyaKernelIdeal.nD Cert.DyaKernelIdeal.τ).loc Cert.DyaKernelIdeal.main_v0)),
      θ_run (Cert.DyaKernelIdeal.defs (F := Ideal)) (onTc (τ := Cert.DyaKernelIdeal.τ) (Cert.DyaKernelIdeal.main (F := Ideal))) ⟨m, fun _ => 0, g⟩ (fun r => ∀ c : Dev Cert.DyaKernelIdeal.nD,
          r.2.mem ((c.tc : Thread Cert.DyaKernelIdeal.nD Cert.DyaKernelIdeal.τ).loc Cert.DyaKernelIdeal.main_v0) = v0 c
          ∧ r.2.mem ((c.tc : Thread Cert.DyaKernelIdeal.nD Cert.DyaKernelIdeal.τ).loc Cert.DyaKernelIdeal.main_arg0) = m ((c.tc : Thread Cert.DyaKernelIdeal.nD Cert.DyaKernelIdeal.τ).loc Cert.DyaKernelIdeal.main_arg0)
          ∧ r.2.mem ((c.tc : Thread Cert.DyaKernelIdeal.nD Cert.DyaKernelIdeal.τ).loc Cert.DyaKernelIdeal.main_arg1) = m ((c.tc : Thread Cert.DyaKernelIdeal.nD Cert.DyaKernelIdeal.τ).loc Cert.DyaKernelIdeal.main_arg1))
      ∧ θ_run (Cert.DyaReferenceIdeal.defs (F := Ideal)) (onTc (τ := Cert.DyaReferenceIdeal.τ) (Cert.DyaReferenceIdeal.main (F := Ideal))) ⟨m', fun _ => 0, g'⟩ (fun r => ∀ c : Dev Cert.DyaReferenceIdeal.nD,
          r.2.mem ((c.tc : Thread Cert.DyaReferenceIdeal.nD Cert.DyaReferenceIdeal.τ).loc Cert.DyaReferenceIdeal.main_v8) = v0 c
          ∧ r.2.mem ((c.tc : Thread Cert.DyaReferenceIdeal.nD Cert.DyaReferenceIdeal.τ).loc Cert.DyaReferenceIdeal.main_arg0) = m' ((c.tc : Thread Cert.DyaReferenceIdeal.nD Cert.DyaReferenceIdeal.τ).loc Cert.DyaReferenceIdeal.main_arg0)
          ∧ r.2.mem ((c.tc : Thread Cert.DyaReferenceIdeal.nD Cert.DyaReferenceIdeal.τ).loc Cert.DyaReferenceIdeal.main_arg1) = m' ((c.tc : Thread Cert.DyaReferenceIdeal.nD Cert.DyaReferenceIdeal.τ).loc Cert.DyaReferenceIdeal.main_arg1))

def preserves_DwaKernel_DwaKernelIdeal : Prop :=
  True

def algebraic_DwaKernelIdeal_DwaReferenceIdeal [hDwaKernelIdeal : Cert.DwaKernelIdeal.Facts] [hDwaReferenceIdeal : Cert.DwaReferenceIdeal.Facts] : Prop :=
  ∀ (m : (ℓ : Loc Cert.DwaKernelIdeal.nD Cert.DwaKernelIdeal.τ Cert.DwaKernelIdeal.sig) → Buf (Elt Ideal) ℓ) (g : Dev Cert.DwaKernelIdeal.nD → PrngReg)
    (m' : (ℓ : Loc Cert.DwaReferenceIdeal.nD Cert.DwaReferenceIdeal.τ Cert.DwaReferenceIdeal.sig) → Buf (Elt Ideal) ℓ) (g' : Dev Cert.DwaReferenceIdeal.nD → PrngReg), Pre_DwaKernelIdeal m →
    (∀ c : Dev Cert.DwaKernelIdeal.nD,
      m' ((c.tc : Thread Cert.DwaReferenceIdeal.nD Cert.DwaReferenceIdeal.τ).loc Cert.DwaReferenceIdeal.main_arg0) = m ((c.tc : Thread Cert.DwaKernelIdeal.nD Cert.DwaKernelIdeal.τ).loc Cert.DwaKernelIdeal.main_arg0)
      ∧ m' ((c.tc : Thread Cert.DwaReferenceIdeal.nD Cert.DwaReferenceIdeal.τ).loc Cert.DwaReferenceIdeal.main_arg1) = m ((c.tc : Thread Cert.DwaKernelIdeal.nD Cert.DwaKernelIdeal.τ).loc Cert.DwaKernelIdeal.main_arg1)) →
    ∃ (v0 : (c : Dev Cert.DwaKernelIdeal.nD) → Buf (Elt Ideal) ((c.tc : Thread Cert.DwaKernelIdeal.nD Cert.DwaKernelIdeal.τ).loc Cert.DwaKernelIdeal.main_v0)),
      θ_run (Cert.DwaKernelIdeal.defs (F := Ideal)) (onTc (τ := Cert.DwaKernelIdeal.τ) (Cert.DwaKernelIdeal.main (F := Ideal))) ⟨m, fun _ => 0, g⟩ (fun r => ∀ c : Dev Cert.DwaKernelIdeal.nD,
          r.2.mem ((c.tc : Thread Cert.DwaKernelIdeal.nD Cert.DwaKernelIdeal.τ).loc Cert.DwaKernelIdeal.main_v0) = v0 c
          ∧ r.2.mem ((c.tc : Thread Cert.DwaKernelIdeal.nD Cert.DwaKernelIdeal.τ).loc Cert.DwaKernelIdeal.main_arg0) = m ((c.tc : Thread Cert.DwaKernelIdeal.nD Cert.DwaKernelIdeal.τ).loc Cert.DwaKernelIdeal.main_arg0)
          ∧ r.2.mem ((c.tc : Thread Cert.DwaKernelIdeal.nD Cert.DwaKernelIdeal.τ).loc Cert.DwaKernelIdeal.main_arg1) = m ((c.tc : Thread Cert.DwaKernelIdeal.nD Cert.DwaKernelIdeal.τ).loc Cert.DwaKernelIdeal.main_arg1))
      ∧ θ_run (Cert.DwaReferenceIdeal.defs (F := Ideal)) (onTc (τ := Cert.DwaReferenceIdeal.τ) (Cert.DwaReferenceIdeal.main (F := Ideal))) ⟨m', fun _ => 0, g'⟩ (fun r => ∀ c : Dev Cert.DwaReferenceIdeal.nD,
          r.2.mem ((c.tc : Thread Cert.DwaReferenceIdeal.nD Cert.DwaReferenceIdeal.τ).loc Cert.DwaReferenceIdeal.main_v8) = v0 c
          ∧ r.2.mem ((c.tc : Thread Cert.DwaReferenceIdeal.nD Cert.DwaReferenceIdeal.τ).loc Cert.DwaReferenceIdeal.main_arg0) = m' ((c.tc : Thread Cert.DwaReferenceIdeal.nD Cert.DwaReferenceIdeal.τ).loc Cert.DwaReferenceIdeal.main_arg0)
          ∧ r.2.mem ((c.tc : Thread Cert.DwaReferenceIdeal.nD Cert.DwaReferenceIdeal.τ).loc Cert.DwaReferenceIdeal.main_arg1) = m' ((c.tc : Thread Cert.DwaReferenceIdeal.nD Cert.DwaReferenceIdeal.τ).loc Cert.DwaReferenceIdeal.main_arg1))

def preserves_DygKernel_DygKernelIdeal : Prop :=
  True

def algebraic_DygKernelIdeal_DygReferenceIdeal [hDygKernelIdeal : Cert.DygKernelIdeal.Facts] [hDygReferenceIdeal : Cert.DygReferenceIdeal.Facts] : Prop :=
  ∀ (m : (ℓ : Loc Cert.DygKernelIdeal.nD Cert.DygKernelIdeal.τ Cert.DygKernelIdeal.sig) → Buf (Elt Ideal) ℓ) (g : Dev Cert.DygKernelIdeal.nD → PrngReg)
    (m' : (ℓ : Loc Cert.DygReferenceIdeal.nD Cert.DygReferenceIdeal.τ Cert.DygReferenceIdeal.sig) → Buf (Elt Ideal) ℓ) (g' : Dev Cert.DygReferenceIdeal.nD → PrngReg), Pre_DygKernelIdeal m →
    (∀ c : Dev Cert.DygKernelIdeal.nD,
      m' ((c.tc : Thread Cert.DygReferenceIdeal.nD Cert.DygReferenceIdeal.τ).loc Cert.DygReferenceIdeal.main_arg0) = m ((c.tc : Thread Cert.DygKernelIdeal.nD Cert.DygKernelIdeal.τ).loc Cert.DygKernelIdeal.main_arg0)
      ∧ m' ((c.tc : Thread Cert.DygReferenceIdeal.nD Cert.DygReferenceIdeal.τ).loc Cert.DygReferenceIdeal.main_arg1) = m ((c.tc : Thread Cert.DygKernelIdeal.nD Cert.DygKernelIdeal.τ).loc Cert.DygKernelIdeal.main_arg1)) →
    ∃ (v0 : (c : Dev Cert.DygKernelIdeal.nD) → Buf (Elt Ideal) ((c.tc : Thread Cert.DygKernelIdeal.nD Cert.DygKernelIdeal.τ).loc Cert.DygKernelIdeal.main_v0)),
      θ_run (Cert.DygKernelIdeal.defs (F := Ideal)) (onTc (τ := Cert.DygKernelIdeal.τ) (Cert.DygKernelIdeal.main (F := Ideal))) ⟨m, fun _ => 0, g⟩ (fun r => ∀ c : Dev Cert.DygKernelIdeal.nD,
          r.2.mem ((c.tc : Thread Cert.DygKernelIdeal.nD Cert.DygKernelIdeal.τ).loc Cert.DygKernelIdeal.main_v0) = v0 c
          ∧ r.2.mem ((c.tc : Thread Cert.DygKernelIdeal.nD Cert.DygKernelIdeal.τ).loc Cert.DygKernelIdeal.main_arg0) = m ((c.tc : Thread Cert.DygKernelIdeal.nD Cert.DygKernelIdeal.τ).loc Cert.DygKernelIdeal.main_arg0)
          ∧ r.2.mem ((c.tc : Thread Cert.DygKernelIdeal.nD Cert.DygKernelIdeal.τ).loc Cert.DygKernelIdeal.main_arg1) = m ((c.tc : Thread Cert.DygKernelIdeal.nD Cert.DygKernelIdeal.τ).loc Cert.DygKernelIdeal.main_arg1))
      ∧ θ_run (Cert.DygReferenceIdeal.defs (F := Ideal)) (onTc (τ := Cert.DygReferenceIdeal.τ) (Cert.DygReferenceIdeal.main (F := Ideal))) ⟨m', fun _ => 0, g'⟩ (fun r => ∀ c : Dev Cert.DygReferenceIdeal.nD,
          r.2.mem ((c.tc : Thread Cert.DygReferenceIdeal.nD Cert.DygReferenceIdeal.τ).loc Cert.DygReferenceIdeal.main_v5) = v0 c
          ∧ r.2.mem ((c.tc : Thread Cert.DygReferenceIdeal.nD Cert.DygReferenceIdeal.τ).loc Cert.DygReferenceIdeal.main_arg0) = m' ((c.tc : Thread Cert.DygReferenceIdeal.nD Cert.DygReferenceIdeal.τ).loc Cert.DygReferenceIdeal.main_arg0)
          ∧ r.2.mem ((c.tc : Thread Cert.DygReferenceIdeal.nD Cert.DygReferenceIdeal.τ).loc Cert.DygReferenceIdeal.main_arg1) = m' ((c.tc : Thread Cert.DygReferenceIdeal.nD Cert.DygReferenceIdeal.τ).loc Cert.DygReferenceIdeal.main_arg1))

def preserves_DwgKernel_DwgKernelIdeal : Prop :=
  True

def algebraic_DwgKernelIdeal_DwgReferenceIdeal [hDwgKernelIdeal : Cert.DwgKernelIdeal.Facts] [hDwgReferenceIdeal : Cert.DwgReferenceIdeal.Facts] : Prop :=
  ∀ (m : (ℓ : Loc Cert.DwgKernelIdeal.nD Cert.DwgKernelIdeal.τ Cert.DwgKernelIdeal.sig) → Buf (Elt Ideal) ℓ) (g : Dev Cert.DwgKernelIdeal.nD → PrngReg)
    (m' : (ℓ : Loc Cert.DwgReferenceIdeal.nD Cert.DwgReferenceIdeal.τ Cert.DwgReferenceIdeal.sig) → Buf (Elt Ideal) ℓ) (g' : Dev Cert.DwgReferenceIdeal.nD → PrngReg), Pre_DwgKernelIdeal m →
    (∀ c : Dev Cert.DwgKernelIdeal.nD,
      m' ((c.tc : Thread Cert.DwgReferenceIdeal.nD Cert.DwgReferenceIdeal.τ).loc Cert.DwgReferenceIdeal.main_arg0) = m ((c.tc : Thread Cert.DwgKernelIdeal.nD Cert.DwgKernelIdeal.τ).loc Cert.DwgKernelIdeal.main_arg0)
      ∧ m' ((c.tc : Thread Cert.DwgReferenceIdeal.nD Cert.DwgReferenceIdeal.τ).loc Cert.DwgReferenceIdeal.main_arg1) = m ((c.tc : Thread Cert.DwgKernelIdeal.nD Cert.DwgKernelIdeal.τ).loc Cert.DwgKernelIdeal.main_arg1)) →
    ∃ (v0 : (c : Dev Cert.DwgKernelIdeal.nD) → Buf (Elt Ideal) ((c.tc : Thread Cert.DwgKernelIdeal.nD Cert.DwgKernelIdeal.τ).loc Cert.DwgKernelIdeal.main_v0)),
      θ_run (Cert.DwgKernelIdeal.defs (F := Ideal)) (onTc (τ := Cert.DwgKernelIdeal.τ) (Cert.DwgKernelIdeal.main (F := Ideal))) ⟨m, fun _ => 0, g⟩ (fun r => ∀ c : Dev Cert.DwgKernelIdeal.nD,
          r.2.mem ((c.tc : Thread Cert.DwgKernelIdeal.nD Cert.DwgKernelIdeal.τ).loc Cert.DwgKernelIdeal.main_v0) = v0 c
          ∧ r.2.mem ((c.tc : Thread Cert.DwgKernelIdeal.nD Cert.DwgKernelIdeal.τ).loc Cert.DwgKernelIdeal.main_arg0) = m ((c.tc : Thread Cert.DwgKernelIdeal.nD Cert.DwgKernelIdeal.τ).loc Cert.DwgKernelIdeal.main_arg0)
          ∧ r.2.mem ((c.tc : Thread Cert.DwgKernelIdeal.nD Cert.DwgKernelIdeal.τ).loc Cert.DwgKernelIdeal.main_arg1) = m ((c.tc : Thread Cert.DwgKernelIdeal.nD Cert.DwgKernelIdeal.τ).loc Cert.DwgKernelIdeal.main_arg1))
      ∧ θ_run (Cert.DwgReferenceIdeal.defs (F := Ideal)) (onTc (τ := Cert.DwgReferenceIdeal.τ) (Cert.DwgReferenceIdeal.main (F := Ideal))) ⟨m', fun _ => 0, g'⟩ (fun r => ∀ c : Dev Cert.DwgReferenceIdeal.nD,
          r.2.mem ((c.tc : Thread Cert.DwgReferenceIdeal.nD Cert.DwgReferenceIdeal.τ).loc Cert.DwgReferenceIdeal.main_v6) = v0 c
          ∧ r.2.mem ((c.tc : Thread Cert.DwgReferenceIdeal.nD Cert.DwgReferenceIdeal.τ).loc Cert.DwgReferenceIdeal.main_arg0) = m' ((c.tc : Thread Cert.DwgReferenceIdeal.nD Cert.DwgReferenceIdeal.τ).loc Cert.DwgReferenceIdeal.main_arg0)
          ∧ r.2.mem ((c.tc : Thread Cert.DwgReferenceIdeal.nD Cert.DwgReferenceIdeal.τ).loc Cert.DwgReferenceIdeal.main_arg1) = m' ((c.tc : Thread Cert.DwgReferenceIdeal.nD Cert.DwgReferenceIdeal.τ).loc Cert.DwgReferenceIdeal.main_arg1))

def preserves_DzKernel_DzKernelIdeal : Prop :=
  True

def algebraic_DzKernelIdeal_DzReferenceIdeal [hDzKernelIdeal : Cert.DzKernelIdeal.Facts] [hDzReferenceIdeal : Cert.DzReferenceIdeal.Facts] : Prop :=
  ∀ (m : (ℓ : Loc Cert.DzKernelIdeal.nD Cert.DzKernelIdeal.τ Cert.DzKernelIdeal.sig) → Buf (Elt Ideal) ℓ) (g : Dev Cert.DzKernelIdeal.nD → PrngReg)
    (m' : (ℓ : Loc Cert.DzReferenceIdeal.nD Cert.DzReferenceIdeal.τ Cert.DzReferenceIdeal.sig) → Buf (Elt Ideal) ℓ) (g' : Dev Cert.DzReferenceIdeal.nD → PrngReg), Pre_DzKernelIdeal m →
    (∀ c : Dev Cert.DzKernelIdeal.nD,
      m' ((c.tc : Thread Cert.DzReferenceIdeal.nD Cert.DzReferenceIdeal.τ).loc Cert.DzReferenceIdeal.main_arg0) = m ((c.tc : Thread Cert.DzKernelIdeal.nD Cert.DzKernelIdeal.τ).loc Cert.DzKernelIdeal.main_arg0)
      ∧ m' ((c.tc : Thread Cert.DzReferenceIdeal.nD Cert.DzReferenceIdeal.τ).loc Cert.DzReferenceIdeal.main_arg1) = m ((c.tc : Thread Cert.DzKernelIdeal.nD Cert.DzKernelIdeal.τ).loc Cert.DzKernelIdeal.main_arg1)) →
    ∃ (v0 : (c : Dev Cert.DzKernelIdeal.nD) → Buf (Elt Ideal) ((c.tc : Thread Cert.DzKernelIdeal.nD Cert.DzKernelIdeal.τ).loc Cert.DzKernelIdeal.main_v0)),
      θ_run (Cert.DzKernelIdeal.defs (F := Ideal)) (onTc (τ := Cert.DzKernelIdeal.τ) (Cert.DzKernelIdeal.main (F := Ideal))) ⟨m, fun _ => 0, g⟩ (fun r => ∀ c : Dev Cert.DzKernelIdeal.nD,
          r.2.mem ((c.tc : Thread Cert.DzKernelIdeal.nD Cert.DzKernelIdeal.τ).loc Cert.DzKernelIdeal.main_v0) = v0 c
          ∧ r.2.mem ((c.tc : Thread Cert.DzKernelIdeal.nD Cert.DzKernelIdeal.τ).loc Cert.DzKernelIdeal.main_arg0) = m ((c.tc : Thread Cert.DzKernelIdeal.nD Cert.DzKernelIdeal.τ).loc Cert.DzKernelIdeal.main_arg0)
          ∧ r.2.mem ((c.tc : Thread Cert.DzKernelIdeal.nD Cert.DzKernelIdeal.τ).loc Cert.DzKernelIdeal.main_arg1) = m ((c.tc : Thread Cert.DzKernelIdeal.nD Cert.DzKernelIdeal.τ).loc Cert.DzKernelIdeal.main_arg1))
      ∧ θ_run (Cert.DzReferenceIdeal.defs (F := Ideal)) (onTc (τ := Cert.DzReferenceIdeal.τ) (Cert.DzReferenceIdeal.main (F := Ideal))) ⟨m', fun _ => 0, g'⟩ (fun r => ∀ c : Dev Cert.DzReferenceIdeal.nD,
          r.2.mem ((c.tc : Thread Cert.DzReferenceIdeal.nD Cert.DzReferenceIdeal.τ).loc Cert.DzReferenceIdeal.main_v7) = v0 c
          ∧ r.2.mem ((c.tc : Thread Cert.DzReferenceIdeal.nD Cert.DzReferenceIdeal.τ).loc Cert.DzReferenceIdeal.main_arg0) = m' ((c.tc : Thread Cert.DzReferenceIdeal.nD Cert.DzReferenceIdeal.τ).loc Cert.DzReferenceIdeal.main_arg0)
          ∧ r.2.mem ((c.tc : Thread Cert.DzReferenceIdeal.nD Cert.DzReferenceIdeal.τ).loc Cert.DzReferenceIdeal.main_arg1) = m' ((c.tc : Thread Cert.DzReferenceIdeal.nD Cert.DzReferenceIdeal.τ).loc Cert.DzReferenceIdeal.main_arg1))

def preserves_DwzKernel_DwzKernelIdeal : Prop :=
  True

def algebraic_DwzKernelIdeal_DwzReferenceIdeal [hDwzKernelIdeal : Cert.DwzKernelIdeal.Facts] [hDwzReferenceIdeal : Cert.DwzReferenceIdeal.Facts] : Prop :=
  ∀ (m : (ℓ : Loc Cert.DwzKernelIdeal.nD Cert.DwzKernelIdeal.τ Cert.DwzKernelIdeal.sig) → Buf (Elt Ideal) ℓ) (g : Dev Cert.DwzKernelIdeal.nD → PrngReg)
    (m' : (ℓ : Loc Cert.DwzReferenceIdeal.nD Cert.DwzReferenceIdeal.τ Cert.DwzReferenceIdeal.sig) → Buf (Elt Ideal) ℓ) (g' : Dev Cert.DwzReferenceIdeal.nD → PrngReg), Pre_DwzKernelIdeal m →
    (∀ c : Dev Cert.DwzKernelIdeal.nD,
      m' ((c.tc : Thread Cert.DwzReferenceIdeal.nD Cert.DwzReferenceIdeal.τ).loc Cert.DwzReferenceIdeal.main_arg0) = m ((c.tc : Thread Cert.DwzKernelIdeal.nD Cert.DwzKernelIdeal.τ).loc Cert.DwzKernelIdeal.main_arg0)
      ∧ m' ((c.tc : Thread Cert.DwzReferenceIdeal.nD Cert.DwzReferenceIdeal.τ).loc Cert.DwzReferenceIdeal.main_arg1) = m ((c.tc : Thread Cert.DwzKernelIdeal.nD Cert.DwzKernelIdeal.τ).loc Cert.DwzKernelIdeal.main_arg1)) →
    ∃ (v0 : (c : Dev Cert.DwzKernelIdeal.nD) → Buf (Elt Ideal) ((c.tc : Thread Cert.DwzKernelIdeal.nD Cert.DwzKernelIdeal.τ).loc Cert.DwzKernelIdeal.main_v0)),
      θ_run (Cert.DwzKernelIdeal.defs (F := Ideal)) (onTc (τ := Cert.DwzKernelIdeal.τ) (Cert.DwzKernelIdeal.main (F := Ideal))) ⟨m, fun _ => 0, g⟩ (fun r => ∀ c : Dev Cert.DwzKernelIdeal.nD,
          r.2.mem ((c.tc : Thread Cert.DwzKernelIdeal.nD Cert.DwzKernelIdeal.τ).loc Cert.DwzKernelIdeal.main_v0) = v0 c
          ∧ r.2.mem ((c.tc : Thread Cert.DwzKernelIdeal.nD Cert.DwzKernelIdeal.τ).loc Cert.DwzKernelIdeal.main_arg0) = m ((c.tc : Thread Cert.DwzKernelIdeal.nD Cert.DwzKernelIdeal.τ).loc Cert.DwzKernelIdeal.main_arg0)
          ∧ r.2.mem ((c.tc : Thread Cert.DwzKernelIdeal.nD Cert.DwzKernelIdeal.τ).loc Cert.DwzKernelIdeal.main_arg1) = m ((c.tc : Thread Cert.DwzKernelIdeal.nD Cert.DwzKernelIdeal.τ).loc Cert.DwzKernelIdeal.main_arg1))
      ∧ θ_run (Cert.DwzReferenceIdeal.defs (F := Ideal)) (onTc (τ := Cert.DwzReferenceIdeal.τ) (Cert.DwzReferenceIdeal.main (F := Ideal))) ⟨m', fun _ => 0, g'⟩ (fun r => ∀ c : Dev Cert.DwzReferenceIdeal.nD,
          r.2.mem ((c.tc : Thread Cert.DwzReferenceIdeal.nD Cert.DwzReferenceIdeal.τ).loc Cert.DwzReferenceIdeal.main_v8) = v0 c
          ∧ r.2.mem ((c.tc : Thread Cert.DwzReferenceIdeal.nD Cert.DwzReferenceIdeal.τ).loc Cert.DwzReferenceIdeal.main_arg0) = m' ((c.tc : Thread Cert.DwzReferenceIdeal.nD Cert.DwzReferenceIdeal.τ).loc Cert.DwzReferenceIdeal.main_arg0)
          ∧ r.2.mem ((c.tc : Thread Cert.DwzReferenceIdeal.nD Cert.DwzReferenceIdeal.τ).loc Cert.DwzReferenceIdeal.main_arg1) = m' ((c.tc : Thread Cert.DwzReferenceIdeal.nD Cert.DwzReferenceIdeal.τ).loc Cert.DwzReferenceIdeal.main_arg1))

def preserves_FzKernel_FzKernelIdeal : Prop :=
  True

def algebraic_FzKernelIdeal_FzReferenceIdeal [hFzKernelIdeal : Cert.FzKernelIdeal.Facts] [hFzReferenceIdeal : Cert.FzReferenceIdeal.Facts] : Prop :=
  ∀ (m : (ℓ : Loc Cert.FzKernelIdeal.nD Cert.FzKernelIdeal.τ Cert.FzKernelIdeal.sig) → Buf (Elt Ideal) ℓ) (g : Dev Cert.FzKernelIdeal.nD → PrngReg)
    (m' : (ℓ : Loc Cert.FzReferenceIdeal.nD Cert.FzReferenceIdeal.τ Cert.FzReferenceIdeal.sig) → Buf (Elt Ideal) ℓ) (g' : Dev Cert.FzReferenceIdeal.nD → PrngReg), Pre_FzKernelIdeal m →
    (∀ c : Dev Cert.FzKernelIdeal.nD,
      m' ((c.tc : Thread Cert.FzReferenceIdeal.nD Cert.FzReferenceIdeal.τ).loc Cert.FzReferenceIdeal.main_arg0) = m ((c.tc : Thread Cert.FzKernelIdeal.nD Cert.FzKernelIdeal.τ).loc Cert.FzKernelIdeal.main_arg0)
      ∧ m' ((c.tc : Thread Cert.FzReferenceIdeal.nD Cert.FzReferenceIdeal.τ).loc Cert.FzReferenceIdeal.main_arg1) = m ((c.tc : Thread Cert.FzKernelIdeal.nD Cert.FzKernelIdeal.τ).loc Cert.FzKernelIdeal.main_arg1)) →
    ∃ (v0 : (c : Dev Cert.FzKernelIdeal.nD) → Buf (Elt Ideal) ((c.tc : Thread Cert.FzKernelIdeal.nD Cert.FzKernelIdeal.τ).loc Cert.FzKernelIdeal.main_v0)),
      θ_run (Cert.FzKernelIdeal.defs (F := Ideal)) (onTc (τ := Cert.FzKernelIdeal.τ) (Cert.FzKernelIdeal.main (F := Ideal))) ⟨m, fun _ => 0, g⟩ (fun r => ∀ c : Dev Cert.FzKernelIdeal.nD,
          r.2.mem ((c.tc : Thread Cert.FzKernelIdeal.nD Cert.FzKernelIdeal.τ).loc Cert.FzKernelIdeal.main_v0) = v0 c
          ∧ r.2.mem ((c.tc : Thread Cert.FzKernelIdeal.nD Cert.FzKernelIdeal.τ).loc Cert.FzKernelIdeal.main_arg0) = m ((c.tc : Thread Cert.FzKernelIdeal.nD Cert.FzKernelIdeal.τ).loc Cert.FzKernelIdeal.main_arg0)
          ∧ r.2.mem ((c.tc : Thread Cert.FzKernelIdeal.nD Cert.FzKernelIdeal.τ).loc Cert.FzKernelIdeal.main_arg1) = m ((c.tc : Thread Cert.FzKernelIdeal.nD Cert.FzKernelIdeal.τ).loc Cert.FzKernelIdeal.main_arg1))
      ∧ θ_run (Cert.FzReferenceIdeal.defs (F := Ideal)) (onTc (τ := Cert.FzReferenceIdeal.τ) (Cert.FzReferenceIdeal.main (F := Ideal))) ⟨m', fun _ => 0, g'⟩ (fun r => ∀ c : Dev Cert.FzReferenceIdeal.nD,
          r.2.mem ((c.tc : Thread Cert.FzReferenceIdeal.nD Cert.FzReferenceIdeal.τ).loc Cert.FzReferenceIdeal.main_v5) = v0 c
          ∧ r.2.mem ((c.tc : Thread Cert.FzReferenceIdeal.nD Cert.FzReferenceIdeal.τ).loc Cert.FzReferenceIdeal.main_arg0) = m' ((c.tc : Thread Cert.FzReferenceIdeal.nD Cert.FzReferenceIdeal.τ).loc Cert.FzReferenceIdeal.main_arg0)
          ∧ r.2.mem ((c.tc : Thread Cert.FzReferenceIdeal.nD Cert.FzReferenceIdeal.τ).loc Cert.FzReferenceIdeal.main_arg1) = m' ((c.tc : Thread Cert.FzReferenceIdeal.nD Cert.FzReferenceIdeal.τ).loc Cert.FzReferenceIdeal.main_arg1))

def preserves_FgKernel_FgKernelIdeal : Prop :=
  True

def algebraic_FgKernelIdeal_FgReferenceIdeal [hFgKernelIdeal : Cert.FgKernelIdeal.Facts] [hFgReferenceIdeal : Cert.FgReferenceIdeal.Facts] : Prop :=
  ∀ (m : (ℓ : Loc Cert.FgKernelIdeal.nD Cert.FgKernelIdeal.τ Cert.FgKernelIdeal.sig) → Buf (Elt Ideal) ℓ) (g : Dev Cert.FgKernelIdeal.nD → PrngReg)
    (m' : (ℓ : Loc Cert.FgReferenceIdeal.nD Cert.FgReferenceIdeal.τ Cert.FgReferenceIdeal.sig) → Buf (Elt Ideal) ℓ) (g' : Dev Cert.FgReferenceIdeal.nD → PrngReg), Pre_FgKernelIdeal m →
    (∀ c : Dev Cert.FgKernelIdeal.nD,
      m' ((c.tc : Thread Cert.FgReferenceIdeal.nD Cert.FgReferenceIdeal.τ).loc Cert.FgReferenceIdeal.main_arg0) = m ((c.tc : Thread Cert.FgKernelIdeal.nD Cert.FgKernelIdeal.τ).loc Cert.FgKernelIdeal.main_arg0)
      ∧ m' ((c.tc : Thread Cert.FgReferenceIdeal.nD Cert.FgReferenceIdeal.τ).loc Cert.FgReferenceIdeal.main_arg1) = m ((c.tc : Thread Cert.FgKernelIdeal.nD Cert.FgKernelIdeal.τ).loc Cert.FgKernelIdeal.main_arg1)) →
    ∃ (v0 : (c : Dev Cert.FgKernelIdeal.nD) → Buf (Elt Ideal) ((c.tc : Thread Cert.FgKernelIdeal.nD Cert.FgKernelIdeal.τ).loc Cert.FgKernelIdeal.main_v0)),
      θ_run (Cert.FgKernelIdeal.defs (F := Ideal)) (onTc (τ := Cert.FgKernelIdeal.τ) (Cert.FgKernelIdeal.main (F := Ideal))) ⟨m, fun _ => 0, g⟩ (fun r => ∀ c : Dev Cert.FgKernelIdeal.nD,
          r.2.mem ((c.tc : Thread Cert.FgKernelIdeal.nD Cert.FgKernelIdeal.τ).loc Cert.FgKernelIdeal.main_v0) = v0 c
          ∧ r.2.mem ((c.tc : Thread Cert.FgKernelIdeal.nD Cert.FgKernelIdeal.τ).loc Cert.FgKernelIdeal.main_arg0) = m ((c.tc : Thread Cert.FgKernelIdeal.nD Cert.FgKernelIdeal.τ).loc Cert.FgKernelIdeal.main_arg0)
          ∧ r.2.mem ((c.tc : Thread Cert.FgKernelIdeal.nD Cert.FgKernelIdeal.τ).loc Cert.FgKernelIdeal.main_arg1) = m ((c.tc : Thread Cert.FgKernelIdeal.nD Cert.FgKernelIdeal.τ).loc Cert.FgKernelIdeal.main_arg1))
      ∧ θ_run (Cert.FgReferenceIdeal.defs (F := Ideal)) (onTc (τ := Cert.FgReferenceIdeal.τ) (Cert.FgReferenceIdeal.main (F := Ideal))) ⟨m', fun _ => 0, g'⟩ (fun r => ∀ c : Dev Cert.FgReferenceIdeal.nD,
          r.2.mem ((c.tc : Thread Cert.FgReferenceIdeal.nD Cert.FgReferenceIdeal.τ).loc Cert.FgReferenceIdeal.main_v3) = v0 c
          ∧ r.2.mem ((c.tc : Thread Cert.FgReferenceIdeal.nD Cert.FgReferenceIdeal.τ).loc Cert.FgReferenceIdeal.main_arg0) = m' ((c.tc : Thread Cert.FgReferenceIdeal.nD Cert.FgReferenceIdeal.τ).loc Cert.FgReferenceIdeal.main_arg0)
          ∧ r.2.mem ((c.tc : Thread Cert.FgReferenceIdeal.nD Cert.FgReferenceIdeal.τ).loc Cert.FgReferenceIdeal.main_arg1) = m' ((c.tc : Thread Cert.FgReferenceIdeal.nD Cert.FgReferenceIdeal.τ).loc Cert.FgReferenceIdeal.main_arg1))

def preserves_FaKernel_FaKernelIdeal : Prop :=
  True

def algebraic_FaKernelIdeal_FaReferenceIdeal [hFaKernelIdeal : Cert.FaKernelIdeal.Facts] [hFaReferenceIdeal : Cert.FaReferenceIdeal.Facts] : Prop :=
  ∀ (m : (ℓ : Loc Cert.FaKernelIdeal.nD Cert.FaKernelIdeal.τ Cert.FaKernelIdeal.sig) → Buf (Elt Ideal) ℓ) (g : Dev Cert.FaKernelIdeal.nD → PrngReg)
    (m' : (ℓ : Loc Cert.FaReferenceIdeal.nD Cert.FaReferenceIdeal.τ Cert.FaReferenceIdeal.sig) → Buf (Elt Ideal) ℓ) (g' : Dev Cert.FaReferenceIdeal.nD → PrngReg), Pre_FaKernelIdeal m →
    (∀ c : Dev Cert.FaKernelIdeal.nD,
      m' ((c.tc : Thread Cert.FaReferenceIdeal.nD Cert.FaReferenceIdeal.τ).loc Cert.FaReferenceIdeal.main_arg0) = m ((c.tc : Thread Cert.FaKernelIdeal.nD Cert.FaKernelIdeal.τ).loc Cert.FaKernelIdeal.main_arg0)
      ∧ m' ((c.tc : Thread Cert.FaReferenceIdeal.nD Cert.FaReferenceIdeal.τ).loc Cert.FaReferenceIdeal.main_arg1) = m ((c.tc : Thread Cert.FaKernelIdeal.nD Cert.FaKernelIdeal.τ).loc Cert.FaKernelIdeal.main_arg1)) →
    ∃ (v0 : (c : Dev Cert.FaKernelIdeal.nD) → Buf (Elt Ideal) ((c.tc : Thread Cert.FaKernelIdeal.nD Cert.FaKernelIdeal.τ).loc Cert.FaKernelIdeal.main_v0)),
      θ_run (Cert.FaKernelIdeal.defs (F := Ideal)) (onTc (τ := Cert.FaKernelIdeal.τ) (Cert.FaKernelIdeal.main (F := Ideal))) ⟨m, fun _ => 0, g⟩ (fun r => ∀ c : Dev Cert.FaKernelIdeal.nD,
          r.2.mem ((c.tc : Thread Cert.FaKernelIdeal.nD Cert.FaKernelIdeal.τ).loc Cert.FaKernelIdeal.main_v0) = v0 c
          ∧ r.2.mem ((c.tc : Thread Cert.FaKernelIdeal.nD Cert.FaKernelIdeal.τ).loc Cert.FaKernelIdeal.main_arg0) = m ((c.tc : Thread Cert.FaKernelIdeal.nD Cert.FaKernelIdeal.τ).loc Cert.FaKernelIdeal.main_arg0)
          ∧ r.2.mem ((c.tc : Thread Cert.FaKernelIdeal.nD Cert.FaKernelIdeal.τ).loc Cert.FaKernelIdeal.main_arg1) = m ((c.tc : Thread Cert.FaKernelIdeal.nD Cert.FaKernelIdeal.τ).loc Cert.FaKernelIdeal.main_arg1))
      ∧ θ_run (Cert.FaReferenceIdeal.defs (F := Ideal)) (onTc (τ := Cert.FaReferenceIdeal.τ) (Cert.FaReferenceIdeal.main (F := Ideal))) ⟨m', fun _ => 0, g'⟩ (fun r => ∀ c : Dev Cert.FaReferenceIdeal.nD,
          r.2.mem ((c.tc : Thread Cert.FaReferenceIdeal.nD Cert.FaReferenceIdeal.τ).loc Cert.FaReferenceIdeal.main_v6) = v0 c
          ∧ r.2.mem ((c.tc : Thread Cert.FaReferenceIdeal.nD Cert.FaReferenceIdeal.τ).loc Cert.FaReferenceIdeal.main_arg0) = m' ((c.tc : Thread Cert.FaReferenceIdeal.nD Cert.FaReferenceIdeal.τ).loc Cert.FaReferenceIdeal.main_arg0)
          ∧ r.2.mem ((c.tc : Thread Cert.FaReferenceIdeal.nD Cert.FaReferenceIdeal.τ).loc Cert.FaReferenceIdeal.main_arg1) = m' ((c.tc : Thread Cert.FaReferenceIdeal.nD Cert.FaReferenceIdeal.τ).loc Cert.FaReferenceIdeal.main_arg1))

def preserves_FmKernel_FmKernelIdeal : Prop :=
  True

def algebraic_FmKernelIdeal_FmReferenceIdeal [hFmKernelIdeal : Cert.FmKernelIdeal.Facts] [hFmReferenceIdeal : Cert.FmReferenceIdeal.Facts] : Prop :=
  ∀ (m : (ℓ : Loc Cert.FmKernelIdeal.nD Cert.FmKernelIdeal.τ Cert.FmKernelIdeal.sig) → Buf (Elt Ideal) ℓ) (g : Dev Cert.FmKernelIdeal.nD → PrngReg)
    (m' : (ℓ : Loc Cert.FmReferenceIdeal.nD Cert.FmReferenceIdeal.τ Cert.FmReferenceIdeal.sig) → Buf (Elt Ideal) ℓ) (g' : Dev Cert.FmReferenceIdeal.nD → PrngReg), Pre_FmKernelIdeal m →
    (∀ c : Dev Cert.FmKernelIdeal.nD,
      m' ((c.tc : Thread Cert.FmReferenceIdeal.nD Cert.FmReferenceIdeal.τ).loc Cert.FmReferenceIdeal.main_arg0) = m ((c.tc : Thread Cert.FmKernelIdeal.nD Cert.FmKernelIdeal.τ).loc Cert.FmKernelIdeal.main_arg0)
      ∧ m' ((c.tc : Thread Cert.FmReferenceIdeal.nD Cert.FmReferenceIdeal.τ).loc Cert.FmReferenceIdeal.main_arg1) = m ((c.tc : Thread Cert.FmKernelIdeal.nD Cert.FmKernelIdeal.τ).loc Cert.FmKernelIdeal.main_arg1)
      ∧ m' ((c.tc : Thread Cert.FmReferenceIdeal.nD Cert.FmReferenceIdeal.τ).loc Cert.FmReferenceIdeal.main_arg2) = m ((c.tc : Thread Cert.FmKernelIdeal.nD Cert.FmKernelIdeal.τ).loc Cert.FmKernelIdeal.main_arg2)) →
    ∃ (v0 : (c : Dev Cert.FmKernelIdeal.nD) → Buf (Elt Ideal) ((c.tc : Thread Cert.FmKernelIdeal.nD Cert.FmKernelIdeal.τ).loc Cert.FmKernelIdeal.main_v0)),
      θ_run (Cert.FmKernelIdeal.defs (F := Ideal)) (onTc (τ := Cert.FmKernelIdeal.τ) (Cert.FmKernelIdeal.main (F := Ideal))) ⟨m, fun _ => 0, g⟩ (fun r => ∀ c : Dev Cert.FmKernelIdeal.nD,
          r.2.mem ((c.tc : Thread Cert.FmKernelIdeal.nD Cert.FmKernelIdeal.τ).loc Cert.FmKernelIdeal.main_v0) = v0 c
          ∧ r.2.mem ((c.tc : Thread Cert.FmKernelIdeal.nD Cert.FmKernelIdeal.τ).loc Cert.FmKernelIdeal.main_arg0) = m ((c.tc : Thread Cert.FmKernelIdeal.nD Cert.FmKernelIdeal.τ).loc Cert.FmKernelIdeal.main_arg0)
          ∧ r.2.mem ((c.tc : Thread Cert.FmKernelIdeal.nD Cert.FmKernelIdeal.τ).loc Cert.FmKernelIdeal.main_arg1) = m ((c.tc : Thread Cert.FmKernelIdeal.nD Cert.FmKernelIdeal.τ).loc Cert.FmKernelIdeal.main_arg1)
          ∧ r.2.mem ((c.tc : Thread Cert.FmKernelIdeal.nD Cert.FmKernelIdeal.τ).loc Cert.FmKernelIdeal.main_arg2) = m ((c.tc : Thread Cert.FmKernelIdeal.nD Cert.FmKernelIdeal.τ).loc Cert.FmKernelIdeal.main_arg2))
      ∧ θ_run (Cert.FmReferenceIdeal.defs (F := Ideal)) (onTc (τ := Cert.FmReferenceIdeal.τ) (Cert.FmReferenceIdeal.main (F := Ideal))) ⟨m', fun _ => 0, g'⟩ (fun r => ∀ c : Dev Cert.FmReferenceIdeal.nD,
          r.2.mem ((c.tc : Thread Cert.FmReferenceIdeal.nD Cert.FmReferenceIdeal.τ).loc Cert.FmReferenceIdeal.main_v4) = v0 c
          ∧ r.2.mem ((c.tc : Thread Cert.FmReferenceIdeal.nD Cert.FmReferenceIdeal.τ).loc Cert.FmReferenceIdeal.main_arg0) = m' ((c.tc : Thread Cert.FmReferenceIdeal.nD Cert.FmReferenceIdeal.τ).loc Cert.FmReferenceIdeal.main_arg0)
          ∧ r.2.mem ((c.tc : Thread Cert.FmReferenceIdeal.nD Cert.FmReferenceIdeal.τ).loc Cert.FmReferenceIdeal.main_arg1) = m' ((c.tc : Thread Cert.FmReferenceIdeal.nD Cert.FmReferenceIdeal.τ).loc Cert.FmReferenceIdeal.main_arg1)
          ∧ r.2.mem ((c.tc : Thread Cert.FmReferenceIdeal.nD Cert.FmReferenceIdeal.τ).loc Cert.FmReferenceIdeal.main_arg2) = m' ((c.tc : Thread Cert.FmReferenceIdeal.nD Cert.FmReferenceIdeal.τ).loc Cert.FmReferenceIdeal.main_arg2))

def preserves_FiKernel_FiKernelIdeal : Prop :=
  True

def algebraic_FiKernelIdeal_FiReferenceIdeal [hFiKernelIdeal : Cert.FiKernelIdeal.Facts] [hFiReferenceIdeal : Cert.FiReferenceIdeal.Facts] : Prop :=
  ∀ (m : (ℓ : Loc Cert.FiKernelIdeal.nD Cert.FiKernelIdeal.τ Cert.FiKernelIdeal.sig) → Buf (Elt Ideal) ℓ) (g : Dev Cert.FiKernelIdeal.nD → PrngReg)
    (m' : (ℓ : Loc Cert.FiReferenceIdeal.nD Cert.FiReferenceIdeal.τ Cert.FiReferenceIdeal.sig) → Buf (Elt Ideal) ℓ) (g' : Dev Cert.FiReferenceIdeal.nD → PrngReg), Pre_FiKernelIdeal m →
    (∀ c : Dev Cert.FiKernelIdeal.nD,
      m' ((c.tc : Thread Cert.FiReferenceIdeal.nD Cert.FiReferenceIdeal.τ).loc Cert.FiReferenceIdeal.main_arg0) = m ((c.tc : Thread Cert.FiKernelIdeal.nD Cert.FiKernelIdeal.τ).loc Cert.FiKernelIdeal.main_arg0)
      ∧ m' ((c.tc : Thread Cert.FiReferenceIdeal.nD Cert.FiReferenceIdeal.τ).loc Cert.FiReferenceIdeal.main_arg1) = m ((c.tc : Thread Cert.FiKernelIdeal.nD Cert.FiKernelIdeal.τ).loc Cert.FiKernelIdeal.main_arg1)) →
    ∃ (v0 : (c : Dev Cert.FiKernelIdeal.nD) → Buf (Elt Ideal) ((c.tc : Thread Cert.FiKernelIdeal.nD Cert.FiKernelIdeal.τ).loc Cert.FiKernelIdeal.main_v0)),
      θ_run (Cert.FiKernelIdeal.defs (F := Ideal)) (onTc (τ := Cert.FiKernelIdeal.τ) (Cert.FiKernelIdeal.main (F := Ideal))) ⟨m, fun _ => 0, g⟩ (fun r => ∀ c : Dev Cert.FiKernelIdeal.nD,
          r.2.mem ((c.tc : Thread Cert.FiKernelIdeal.nD Cert.FiKernelIdeal.τ).loc Cert.FiKernelIdeal.main_v0) = v0 c
          ∧ r.2.mem ((c.tc : Thread Cert.FiKernelIdeal.nD Cert.FiKernelIdeal.τ).loc Cert.FiKernelIdeal.main_arg0) = m ((c.tc : Thread Cert.FiKernelIdeal.nD Cert.FiKernelIdeal.τ).loc Cert.FiKernelIdeal.main_arg0)
          ∧ r.2.mem ((c.tc : Thread Cert.FiKernelIdeal.nD Cert.FiKernelIdeal.τ).loc Cert.FiKernelIdeal.main_arg1) = m ((c.tc : Thread Cert.FiKernelIdeal.nD Cert.FiKernelIdeal.τ).loc Cert.FiKernelIdeal.main_arg1))
      ∧ θ_run (Cert.FiReferenceIdeal.defs (F := Ideal)) (onTc (τ := Cert.FiReferenceIdeal.τ) (Cert.FiReferenceIdeal.main (F := Ideal))) ⟨m', fun _ => 0, g'⟩ (fun r => ∀ c : Dev Cert.FiReferenceIdeal.nD,
          r.2.mem ((c.tc : Thread Cert.FiReferenceIdeal.nD Cert.FiReferenceIdeal.τ).loc Cert.FiReferenceIdeal.main_v6) = v0 c
          ∧ r.2.mem ((c.tc : Thread Cert.FiReferenceIdeal.nD Cert.FiReferenceIdeal.τ).loc Cert.FiReferenceIdeal.main_arg0) = m' ((c.tc : Thread Cert.FiReferenceIdeal.nD Cert.FiReferenceIdeal.τ).loc Cert.FiReferenceIdeal.main_arg0)
          ∧ r.2.mem ((c.tc : Thread Cert.FiReferenceIdeal.nD Cert.FiReferenceIdeal.τ).loc Cert.FiReferenceIdeal.main_arg1) = m' ((c.tc : Thread Cert.FiReferenceIdeal.nD Cert.FiReferenceIdeal.τ).loc Cert.FiReferenceIdeal.main_arg1))

def preserves_FoKernel_FoKernelIdeal : Prop :=
  True

def algebraic_FoKernelIdeal_FoReferenceIdeal [hFoKernelIdeal : Cert.FoKernelIdeal.Facts] [hFoReferenceIdeal : Cert.FoReferenceIdeal.Facts] : Prop :=
  ∀ (m : (ℓ : Loc Cert.FoKernelIdeal.nD Cert.FoKernelIdeal.τ Cert.FoKernelIdeal.sig) → Buf (Elt Ideal) ℓ) (g : Dev Cert.FoKernelIdeal.nD → PrngReg)
    (m' : (ℓ : Loc Cert.FoReferenceIdeal.nD Cert.FoReferenceIdeal.τ Cert.FoReferenceIdeal.sig) → Buf (Elt Ideal) ℓ) (g' : Dev Cert.FoReferenceIdeal.nD → PrngReg), Pre_FoKernelIdeal m →
    (∀ c : Dev Cert.FoKernelIdeal.nD,
      m' ((c.tc : Thread Cert.FoReferenceIdeal.nD Cert.FoReferenceIdeal.τ).loc Cert.FoReferenceIdeal.main_arg0) = m ((c.tc : Thread Cert.FoKernelIdeal.nD Cert.FoKernelIdeal.τ).loc Cert.FoKernelIdeal.main_arg0)
      ∧ m' ((c.tc : Thread Cert.FoReferenceIdeal.nD Cert.FoReferenceIdeal.τ).loc Cert.FoReferenceIdeal.main_arg1) = m ((c.tc : Thread Cert.FoKernelIdeal.nD Cert.FoKernelIdeal.τ).loc Cert.FoKernelIdeal.main_arg1)
      ∧ m' ((c.tc : Thread Cert.FoReferenceIdeal.nD Cert.FoReferenceIdeal.τ).loc Cert.FoReferenceIdeal.main_arg2) = m ((c.tc : Thread Cert.FoKernelIdeal.nD Cert.FoKernelIdeal.τ).loc Cert.FoKernelIdeal.main_arg2)) →
    ∃ (v0 : (c : Dev Cert.FoKernelIdeal.nD) → Buf (Elt Ideal) ((c.tc : Thread Cert.FoKernelIdeal.nD Cert.FoKernelIdeal.τ).loc Cert.FoKernelIdeal.main_v0)),
      θ_run (Cert.FoKernelIdeal.defs (F := Ideal)) (onTc (τ := Cert.FoKernelIdeal.τ) (Cert.FoKernelIdeal.main (F := Ideal))) ⟨m, fun _ => 0, g⟩ (fun r => ∀ c : Dev Cert.FoKernelIdeal.nD,
          r.2.mem ((c.tc : Thread Cert.FoKernelIdeal.nD Cert.FoKernelIdeal.τ).loc Cert.FoKernelIdeal.main_v0) = v0 c
          ∧ r.2.mem ((c.tc : Thread Cert.FoKernelIdeal.nD Cert.FoKernelIdeal.τ).loc Cert.FoKernelIdeal.main_arg0) = m ((c.tc : Thread Cert.FoKernelIdeal.nD Cert.FoKernelIdeal.τ).loc Cert.FoKernelIdeal.main_arg0)
          ∧ r.2.mem ((c.tc : Thread Cert.FoKernelIdeal.nD Cert.FoKernelIdeal.τ).loc Cert.FoKernelIdeal.main_arg1) = m ((c.tc : Thread Cert.FoKernelIdeal.nD Cert.FoKernelIdeal.τ).loc Cert.FoKernelIdeal.main_arg1)
          ∧ r.2.mem ((c.tc : Thread Cert.FoKernelIdeal.nD Cert.FoKernelIdeal.τ).loc Cert.FoKernelIdeal.main_arg2) = m ((c.tc : Thread Cert.FoKernelIdeal.nD Cert.FoKernelIdeal.τ).loc Cert.FoKernelIdeal.main_arg2))
      ∧ θ_run (Cert.FoReferenceIdeal.defs (F := Ideal)) (onTc (τ := Cert.FoReferenceIdeal.τ) (Cert.FoReferenceIdeal.main (F := Ideal))) ⟨m', fun _ => 0, g'⟩ (fun r => ∀ c : Dev Cert.FoReferenceIdeal.nD,
          r.2.mem ((c.tc : Thread Cert.FoReferenceIdeal.nD Cert.FoReferenceIdeal.τ).loc Cert.FoReferenceIdeal.main_v4) = v0 c
          ∧ r.2.mem ((c.tc : Thread Cert.FoReferenceIdeal.nD Cert.FoReferenceIdeal.τ).loc Cert.FoReferenceIdeal.main_arg0) = m' ((c.tc : Thread Cert.FoReferenceIdeal.nD Cert.FoReferenceIdeal.τ).loc Cert.FoReferenceIdeal.main_arg0)
          ∧ r.2.mem ((c.tc : Thread Cert.FoReferenceIdeal.nD Cert.FoReferenceIdeal.τ).loc Cert.FoReferenceIdeal.main_arg1) = m' ((c.tc : Thread Cert.FoReferenceIdeal.nD Cert.FoReferenceIdeal.τ).loc Cert.FoReferenceIdeal.main_arg1)
          ∧ r.2.mem ((c.tc : Thread Cert.FoReferenceIdeal.nD Cert.FoReferenceIdeal.τ).loc Cert.FoReferenceIdeal.main_arg2) = m' ((c.tc : Thread Cert.FoReferenceIdeal.nD Cert.FoReferenceIdeal.τ).loc Cert.FoReferenceIdeal.main_arg2))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v0_0)) (v1 : (c : Dev Cert.GateKernelIdeal.nD) → Buf (Elt Ideal) ((c.tc : Thread Cert.GateKernelIdeal.nD Cert.GateKernelIdeal.τ).loc Cert.GateKernelIdeal.main_v0_1)) (v2 : (c : Dev Cert.GateKernelIdeal.nD) → Buf (Elt Ideal) ((c.tc : Thread Cert.GateKernelIdeal.nD Cert.GateKernelIdeal.τ).loc Cert.GateKernelIdeal.main_v0_2)) (v3 : (c : Dev Cert.GateKernelIdeal.nD) → Buf (Elt Ideal) ((c.tc : Thread Cert.GateKernelIdeal.nD Cert.GateKernelIdeal.τ).loc Cert.GateKernelIdeal.main_v0_3)) (v4 : (c : Dev Cert.GateKernelIdeal.nD) → Buf (Elt Ideal) ((c.tc : Thread Cert.GateKernelIdeal.nD Cert.GateKernelIdeal.τ).loc Cert.GateKernelIdeal.main_v0_4)) (v5 : (c : Dev Cert.GateKernelIdeal.nD) → Buf (Elt Ideal) ((c.tc : Thread Cert.GateKernelIdeal.nD Cert.GateKernelIdeal.τ).loc Cert.GateKernelIdeal.main_v0_5)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0_0) = v0 c
          ∧ r.2.mem ((c.tc : Thread Cert.GateKernelIdeal.nD Cert.GateKernelIdeal.τ).loc Cert.GateKernelIdeal.main_v0_1) = v1 c
          ∧ r.2.mem ((c.tc : Thread Cert.GateKernelIdeal.nD Cert.GateKernelIdeal.τ).loc Cert.GateKernelIdeal.main_v0_2) = v2 c
          ∧ r.2.mem ((c.tc : Thread Cert.GateKernelIdeal.nD Cert.GateKernelIdeal.τ).loc Cert.GateKernelIdeal.main_v0_3) = v3 c
          ∧ r.2.mem ((c.tc : Thread Cert.GateKernelIdeal.nD Cert.GateKernelIdeal.τ).loc Cert.GateKernelIdeal.main_v0_4) = v4 c
          ∧ r.2.mem ((c.tc : Thread Cert.GateKernelIdeal.nD Cert.GateKernelIdeal.τ).loc Cert.GateKernelIdeal.main_v0_5) = v5 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v42) = v0 c
          ∧ r.2.mem ((c.tc : Thread Cert.GateReferenceIdeal.nD Cert.GateReferenceIdeal.τ).loc Cert.GateReferenceIdeal.main_v43) = v1 c
          ∧ r.2.mem ((c.tc : Thread Cert.GateReferenceIdeal.nD Cert.GateReferenceIdeal.τ).loc Cert.GateReferenceIdeal.main_v44) = v2 c
          ∧ r.2.mem ((c.tc : Thread Cert.GateReferenceIdeal.nD Cert.GateReferenceIdeal.τ).loc Cert.GateReferenceIdeal.main_v45) = v3 c
          ∧ r.2.mem ((c.tc : Thread Cert.GateReferenceIdeal.nD Cert.GateReferenceIdeal.τ).loc Cert.GateReferenceIdeal.main_v41) = v4 c
          ∧ r.2.mem ((c.tc : Thread Cert.GateReferenceIdeal.nD Cert.GateReferenceIdeal.τ).loc Cert.GateReferenceIdeal.main_v36) = v5 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_SwbKernel_SwbKernelIdeal : Prop :=
  True

def algebraic_SwbKernelIdeal_SwbReferenceIdeal_pre_finite_swb [hSwbKernelIdeal : Cert.SwbKernelIdeal.Facts] [hSwbReferenceIdeal : Cert.SwbReferenceIdeal.Facts] [hPre_finite_swb : Cert.Pre_finite_swb.Facts] : Prop :=
  ∀ (m : (ℓ : Loc Cert.SwbKernelIdeal.nD Cert.SwbKernelIdeal.τ Cert.SwbKernelIdeal.sig) → Buf (Elt Ideal) ℓ) (g : Dev Cert.SwbKernelIdeal.nD → PrngReg)
    (m' : (ℓ : Loc Cert.SwbReferenceIdeal.nD Cert.SwbReferenceIdeal.τ Cert.SwbReferenceIdeal.sig) → Buf (Elt Ideal) ℓ) (g' : Dev Cert.SwbReferenceIdeal.nD → PrngReg), Pre_SwbKernelIdeal_finite_swb m →
    (∀ c : Dev Cert.SwbKernelIdeal.nD,
      m' ((c.tc : Thread Cert.SwbReferenceIdeal.nD Cert.SwbReferenceIdeal.τ).loc Cert.SwbReferenceIdeal.main_arg0) = m ((c.tc : Thread Cert.SwbKernelIdeal.nD Cert.SwbKernelIdeal.τ).loc Cert.SwbKernelIdeal.main_arg0)
      ∧ m' ((c.tc : Thread Cert.SwbReferenceIdeal.nD Cert.SwbReferenceIdeal.τ).loc Cert.SwbReferenceIdeal.main_arg1) = m ((c.tc : Thread Cert.SwbKernelIdeal.nD Cert.SwbKernelIdeal.τ).loc Cert.SwbKernelIdeal.main_arg1)) →
    ∃ (v0 : (c : Dev Cert.SwbKernelIdeal.nD) → Buf (Elt Ideal) ((c.tc : Thread Cert.SwbKernelIdeal.nD Cert.SwbKernelIdeal.τ).loc Cert.SwbKernelIdeal.main_v0)),
      θ_run (Cert.SwbKernelIdeal.defs (F := Ideal)) (onTc (τ := Cert.SwbKernelIdeal.τ) (Cert.SwbKernelIdeal.main (F := Ideal))) ⟨m, fun _ => 0, g⟩ (fun r => ∀ c : Dev Cert.SwbKernelIdeal.nD,
          r.2.mem ((c.tc : Thread Cert.SwbKernelIdeal.nD Cert.SwbKernelIdeal.τ).loc Cert.SwbKernelIdeal.main_v0) = v0 c
          ∧ r.2.mem ((c.tc : Thread Cert.SwbKernelIdeal.nD Cert.SwbKernelIdeal.τ).loc Cert.SwbKernelIdeal.main_arg0) = m ((c.tc : Thread Cert.SwbKernelIdeal.nD Cert.SwbKernelIdeal.τ).loc Cert.SwbKernelIdeal.main_arg0)
          ∧ r.2.mem ((c.tc : Thread Cert.SwbKernelIdeal.nD Cert.SwbKernelIdeal.τ).loc Cert.SwbKernelIdeal.main_arg1) = m ((c.tc : Thread Cert.SwbKernelIdeal.nD Cert.SwbKernelIdeal.τ).loc Cert.SwbKernelIdeal.main_arg1))
      ∧ θ_run (Cert.SwbReferenceIdeal.defs (F := Ideal)) (onTc (τ := Cert.SwbReferenceIdeal.τ) (Cert.SwbReferenceIdeal.main (F := Ideal))) ⟨m', fun _ => 0, g'⟩ (fun r => ∀ c : Dev Cert.SwbReferenceIdeal.nD,
          r.2.mem ((c.tc : Thread Cert.SwbReferenceIdeal.nD Cert.SwbReferenceIdeal.τ).loc Cert.SwbReferenceIdeal.main_v15) = v0 c
          ∧ r.2.mem ((c.tc : Thread Cert.SwbReferenceIdeal.nD Cert.SwbReferenceIdeal.τ).loc Cert.SwbReferenceIdeal.main_arg0) = m' ((c.tc : Thread Cert.SwbReferenceIdeal.nD Cert.SwbReferenceIdeal.τ).loc Cert.SwbReferenceIdeal.main_arg0)
          ∧ r.2.mem ((c.tc : Thread Cert.SwbReferenceIdeal.nD Cert.SwbReferenceIdeal.τ).loc Cert.SwbReferenceIdeal.main_arg1) = m' ((c.tc : Thread Cert.SwbReferenceIdeal.nD Cert.SwbReferenceIdeal.τ).loc Cert.SwbReferenceIdeal.main_arg1))

def preserves_NbKernel_NbKernelIdeal : Prop :=
  True

def algebraic_NbKernelIdeal_NbReferenceIdeal [hNbKernelIdeal : Cert.NbKernelIdeal.Facts] [hNbReferenceIdeal : Cert.NbReferenceIdeal.Facts] : Prop :=
  ∀ (m : (ℓ : Loc Cert.NbKernelIdeal.nD Cert.NbKernelIdeal.τ Cert.NbKernelIdeal.sig) → Buf (Elt Ideal) ℓ) (g : Dev Cert.NbKernelIdeal.nD → PrngReg)
    (m' : (ℓ : Loc Cert.NbReferenceIdeal.nD Cert.NbReferenceIdeal.τ Cert.NbReferenceIdeal.sig) → Buf (Elt Ideal) ℓ) (g' : Dev Cert.NbReferenceIdeal.nD → PrngReg), Pre_NbKernelIdeal m →
    (∀ c : Dev Cert.NbKernelIdeal.nD,
      m' ((c.tc : Thread Cert.NbReferenceIdeal.nD Cert.NbReferenceIdeal.τ).loc Cert.NbReferenceIdeal.main_arg0) = m ((c.tc : Thread Cert.NbKernelIdeal.nD Cert.NbKernelIdeal.τ).loc Cert.NbKernelIdeal.main_arg0)
      ∧ m' ((c.tc : Thread Cert.NbReferenceIdeal.nD Cert.NbReferenceIdeal.τ).loc Cert.NbReferenceIdeal.main_arg1) = m ((c.tc : Thread Cert.NbKernelIdeal.nD Cert.NbKernelIdeal.τ).loc Cert.NbKernelIdeal.main_arg1)
      ∧ m' ((c.tc : Thread Cert.NbReferenceIdeal.nD Cert.NbReferenceIdeal.τ).loc Cert.NbReferenceIdeal.main_arg2) = m ((c.tc : Thread Cert.NbKernelIdeal.nD Cert.NbKernelIdeal.τ).loc Cert.NbKernelIdeal.main_arg2)
      ∧ m' ((c.tc : Thread Cert.NbReferenceIdeal.nD Cert.NbReferenceIdeal.τ).loc Cert.NbReferenceIdeal.main_arg3) = m ((c.tc : Thread Cert.NbKernelIdeal.nD Cert.NbKernelIdeal.τ).loc Cert.NbKernelIdeal.main_arg3)) →
    ∃ (v0 : (c : Dev Cert.NbKernelIdeal.nD) → Buf (Elt Ideal) ((c.tc : Thread Cert.NbKernelIdeal.nD Cert.NbKernelIdeal.τ).loc Cert.NbKernelIdeal.main_v0_0)) (v1 : (c : Dev Cert.NbKernelIdeal.nD) → Buf (Elt Ideal) ((c.tc : Thread Cert.NbKernelIdeal.nD Cert.NbKernelIdeal.τ).loc Cert.NbKernelIdeal.main_v0_1)) (v2 : (c : Dev Cert.NbKernelIdeal.nD) → Buf (Elt Ideal) ((c.tc : Thread Cert.NbKernelIdeal.nD Cert.NbKernelIdeal.τ).loc Cert.NbKernelIdeal.main_v0_2)),
      θ_run (Cert.NbKernelIdeal.defs (F := Ideal)) (onTc (τ := Cert.NbKernelIdeal.τ) (Cert.NbKernelIdeal.main (F := Ideal))) ⟨m, fun _ => 0, g⟩ (fun r => ∀ c : Dev Cert.NbKernelIdeal.nD,
          r.2.mem ((c.tc : Thread Cert.NbKernelIdeal.nD Cert.NbKernelIdeal.τ).loc Cert.NbKernelIdeal.main_v0_0) = v0 c
          ∧ r.2.mem ((c.tc : Thread Cert.NbKernelIdeal.nD Cert.NbKernelIdeal.τ).loc Cert.NbKernelIdeal.main_v0_1) = v1 c
          ∧ r.2.mem ((c.tc : Thread Cert.NbKernelIdeal.nD Cert.NbKernelIdeal.τ).loc Cert.NbKernelIdeal.main_v0_2) = v2 c
          ∧ r.2.mem ((c.tc : Thread Cert.NbKernelIdeal.nD Cert.NbKernelIdeal.τ).loc Cert.NbKernelIdeal.main_arg0) = m ((c.tc : Thread Cert.NbKernelIdeal.nD Cert.NbKernelIdeal.τ).loc Cert.NbKernelIdeal.main_arg0)
          ∧ r.2.mem ((c.tc : Thread Cert.NbKernelIdeal.nD Cert.NbKernelIdeal.τ).loc Cert.NbKernelIdeal.main_arg1) = m ((c.tc : Thread Cert.NbKernelIdeal.nD Cert.NbKernelIdeal.τ).loc Cert.NbKernelIdeal.main_arg1)
          ∧ r.2.mem ((c.tc : Thread Cert.NbKernelIdeal.nD Cert.NbKernelIdeal.τ).loc Cert.NbKernelIdeal.main_arg2) = m ((c.tc : Thread Cert.NbKernelIdeal.nD Cert.NbKernelIdeal.τ).loc Cert.NbKernelIdeal.main_arg2)
          ∧ r.2.mem ((c.tc : Thread Cert.NbKernelIdeal.nD Cert.NbKernelIdeal.τ).loc Cert.NbKernelIdeal.main_arg3) = m ((c.tc : Thread Cert.NbKernelIdeal.nD Cert.NbKernelIdeal.τ).loc Cert.NbKernelIdeal.main_arg3))
      ∧ θ_run (Cert.NbReferenceIdeal.defs (F := Ideal)) (onTc (τ := Cert.NbReferenceIdeal.τ) (Cert.NbReferenceIdeal.main (F := Ideal))) ⟨m', fun _ => 0, g'⟩ (fun r => ∀ c : Dev Cert.NbReferenceIdeal.nD,
          r.2.mem ((c.tc : Thread Cert.NbReferenceIdeal.nD Cert.NbReferenceIdeal.τ).loc Cert.NbReferenceIdeal.main_v34) = v0 c
          ∧ r.2.mem ((c.tc : Thread Cert.NbReferenceIdeal.nD Cert.NbReferenceIdeal.τ).loc Cert.NbReferenceIdeal.main_v35) = v1 c
          ∧ r.2.mem ((c.tc : Thread Cert.NbReferenceIdeal.nD Cert.NbReferenceIdeal.τ).loc Cert.NbReferenceIdeal.main_v17) = v2 c
          ∧ r.2.mem ((c.tc : Thread Cert.NbReferenceIdeal.nD Cert.NbReferenceIdeal.τ).loc Cert.NbReferenceIdeal.main_arg0) = m' ((c.tc : Thread Cert.NbReferenceIdeal.nD Cert.NbReferenceIdeal.τ).loc Cert.NbReferenceIdeal.main_arg0)
          ∧ r.2.mem ((c.tc : Thread Cert.NbReferenceIdeal.nD Cert.NbReferenceIdeal.τ).loc Cert.NbReferenceIdeal.main_arg1) = m' ((c.tc : Thread Cert.NbReferenceIdeal.nD Cert.NbReferenceIdeal.τ).loc Cert.NbReferenceIdeal.main_arg1)
          ∧ r.2.mem ((c.tc : Thread Cert.NbReferenceIdeal.nD Cert.NbReferenceIdeal.τ).loc Cert.NbReferenceIdeal.main_arg2) = m' ((c.tc : Thread Cert.NbReferenceIdeal.nD Cert.NbReferenceIdeal.τ).loc Cert.NbReferenceIdeal.main_arg2)
          ∧ r.2.mem ((c.tc : Thread Cert.NbReferenceIdeal.nD Cert.NbReferenceIdeal.τ).loc Cert.NbReferenceIdeal.main_arg3) = m' ((c.tc : Thread Cert.NbReferenceIdeal.nD Cert.NbReferenceIdeal.τ).loc Cert.NbReferenceIdeal.main_arg3))

def preserves_GbKernel_GbKernelIdeal : Prop :=
  True

def algebraic_GbKernelIdeal_GbReferenceIdeal [hGbKernelIdeal : Cert.GbKernelIdeal.Facts] [hGbReferenceIdeal : Cert.GbReferenceIdeal.Facts] : Prop :=
  ∀ (m : (ℓ : Loc Cert.GbKernelIdeal.nD Cert.GbKernelIdeal.τ Cert.GbKernelIdeal.sig) → Buf (Elt Ideal) ℓ) (g : Dev Cert.GbKernelIdeal.nD → PrngReg)
    (m' : (ℓ : Loc Cert.GbReferenceIdeal.nD Cert.GbReferenceIdeal.τ Cert.GbReferenceIdeal.sig) → Buf (Elt Ideal) ℓ) (g' : Dev Cert.GbReferenceIdeal.nD → PrngReg), Pre_GbKernelIdeal m →
    (∀ c : Dev Cert.GbKernelIdeal.nD,
      m' ((c.tc : Thread Cert.GbReferenceIdeal.nD Cert.GbReferenceIdeal.τ).loc Cert.GbReferenceIdeal.main_arg0) = m ((c.tc : Thread Cert.GbKernelIdeal.nD Cert.GbKernelIdeal.τ).loc Cert.GbKernelIdeal.main_arg0)
      ∧ m' ((c.tc : Thread Cert.GbReferenceIdeal.nD Cert.GbReferenceIdeal.τ).loc Cert.GbReferenceIdeal.main_arg1) = m ((c.tc : Thread Cert.GbKernelIdeal.nD Cert.GbKernelIdeal.τ).loc Cert.GbKernelIdeal.main_arg1)
      ∧ m' ((c.tc : Thread Cert.GbReferenceIdeal.nD Cert.GbReferenceIdeal.τ).loc Cert.GbReferenceIdeal.main_arg2) = m ((c.tc : Thread Cert.GbKernelIdeal.nD Cert.GbKernelIdeal.τ).loc Cert.GbKernelIdeal.main_arg2)
      ∧ m' ((c.tc : Thread Cert.GbReferenceIdeal.nD Cert.GbReferenceIdeal.τ).loc Cert.GbReferenceIdeal.main_arg3) = m ((c.tc : Thread Cert.GbKernelIdeal.nD Cert.GbKernelIdeal.τ).loc Cert.GbKernelIdeal.main_arg3)) →
    ∃ (v0 : (c : Dev Cert.GbKernelIdeal.nD) → Buf (Elt Ideal) ((c.tc : Thread Cert.GbKernelIdeal.nD Cert.GbKernelIdeal.τ).loc Cert.GbKernelIdeal.main_v0_0)) (v1 : (c : Dev Cert.GbKernelIdeal.nD) → Buf (Elt Ideal) ((c.tc : Thread Cert.GbKernelIdeal.nD Cert.GbKernelIdeal.τ).loc Cert.GbKernelIdeal.main_v0_1)) (v2 : (c : Dev Cert.GbKernelIdeal.nD) → Buf (Elt Ideal) ((c.tc : Thread Cert.GbKernelIdeal.nD Cert.GbKernelIdeal.τ).loc Cert.GbKernelIdeal.main_v0_2)),
      θ_run (Cert.GbKernelIdeal.defs (F := Ideal)) (onTc (τ := Cert.GbKernelIdeal.τ) (Cert.GbKernelIdeal.main (F := Ideal))) ⟨m, fun _ => 0, g⟩ (fun r => ∀ c : Dev Cert.GbKernelIdeal.nD,
          r.2.mem ((c.tc : Thread Cert.GbKernelIdeal.nD Cert.GbKernelIdeal.τ).loc Cert.GbKernelIdeal.main_v0_0) = v0 c
          ∧ r.2.mem ((c.tc : Thread Cert.GbKernelIdeal.nD Cert.GbKernelIdeal.τ).loc Cert.GbKernelIdeal.main_v0_1) = v1 c
          ∧ r.2.mem ((c.tc : Thread Cert.GbKernelIdeal.nD Cert.GbKernelIdeal.τ).loc Cert.GbKernelIdeal.main_v0_2) = v2 c
          ∧ r.2.mem ((c.tc : Thread Cert.GbKernelIdeal.nD Cert.GbKernelIdeal.τ).loc Cert.GbKernelIdeal.main_arg0) = m ((c.tc : Thread Cert.GbKernelIdeal.nD Cert.GbKernelIdeal.τ).loc Cert.GbKernelIdeal.main_arg0)
          ∧ r.2.mem ((c.tc : Thread Cert.GbKernelIdeal.nD Cert.GbKernelIdeal.τ).loc Cert.GbKernelIdeal.main_arg1) = m ((c.tc : Thread Cert.GbKernelIdeal.nD Cert.GbKernelIdeal.τ).loc Cert.GbKernelIdeal.main_arg1)
          ∧ r.2.mem ((c.tc : Thread Cert.GbKernelIdeal.nD Cert.GbKernelIdeal.τ).loc Cert.GbKernelIdeal.main_arg2) = m ((c.tc : Thread Cert.GbKernelIdeal.nD Cert.GbKernelIdeal.τ).loc Cert.GbKernelIdeal.main_arg2)
          ∧ r.2.mem ((c.tc : Thread Cert.GbKernelIdeal.nD Cert.GbKernelIdeal.τ).loc Cert.GbKernelIdeal.main_arg3) = m ((c.tc : Thread Cert.GbKernelIdeal.nD Cert.GbKernelIdeal.τ).loc Cert.GbKernelIdeal.main_arg3))
      ∧ θ_run (Cert.GbReferenceIdeal.defs (F := Ideal)) (onTc (τ := Cert.GbReferenceIdeal.τ) (Cert.GbReferenceIdeal.main (F := Ideal))) ⟨m', fun _ => 0, g'⟩ (fun r => ∀ c : Dev Cert.GbReferenceIdeal.nD,
          r.2.mem ((c.tc : Thread Cert.GbReferenceIdeal.nD Cert.GbReferenceIdeal.τ).loc Cert.GbReferenceIdeal.main_v27) = v0 c
          ∧ r.2.mem ((c.tc : Thread Cert.GbReferenceIdeal.nD Cert.GbReferenceIdeal.τ).loc Cert.GbReferenceIdeal.main_v31) = v1 c
          ∧ r.2.mem ((c.tc : Thread Cert.GbReferenceIdeal.nD Cert.GbReferenceIdeal.τ).loc Cert.GbReferenceIdeal.main_v30) = v2 c
          ∧ r.2.mem ((c.tc : Thread Cert.GbReferenceIdeal.nD Cert.GbReferenceIdeal.τ).loc Cert.GbReferenceIdeal.main_arg0) = m' ((c.tc : Thread Cert.GbReferenceIdeal.nD Cert.GbReferenceIdeal.τ).loc Cert.GbReferenceIdeal.main_arg0)
          ∧ r.2.mem ((c.tc : Thread Cert.GbReferenceIdeal.nD Cert.GbReferenceIdeal.τ).loc Cert.GbReferenceIdeal.main_arg1) = m' ((c.tc : Thread Cert.GbReferenceIdeal.nD Cert.GbReferenceIdeal.τ).loc Cert.GbReferenceIdeal.main_arg1)
          ∧ r.2.mem ((c.tc : Thread Cert.GbReferenceIdeal.nD Cert.GbReferenceIdeal.τ).loc Cert.GbReferenceIdeal.main_arg2) = m' ((c.tc : Thread Cert.GbReferenceIdeal.nD Cert.GbReferenceIdeal.τ).loc Cert.GbReferenceIdeal.main_arg2)
          ∧ r.2.mem ((c.tc : Thread Cert.GbReferenceIdeal.nD Cert.GbReferenceIdeal.τ).loc Cert.GbReferenceIdeal.main_arg3) = m' ((c.tc : Thread Cert.GbReferenceIdeal.nD Cert.GbReferenceIdeal.τ).loc Cert.GbReferenceIdeal.main_arg3))

def preserves_GebKernel_GebKernelIdeal : Prop :=
  True

def algebraic_GebKernelIdeal_GebReferenceIdeal [hGebKernelIdeal : Cert.GebKernelIdeal.Facts] [hGebReferenceIdeal : Cert.GebReferenceIdeal.Facts] : Prop :=
  ∀ (m : (ℓ : Loc Cert.GebKernelIdeal.nD Cert.GebKernelIdeal.τ Cert.GebKernelIdeal.sig) → Buf (Elt Ideal) ℓ) (g : Dev Cert.GebKernelIdeal.nD → PrngReg)
    (m' : (ℓ : Loc Cert.GebReferenceIdeal.nD Cert.GebReferenceIdeal.τ Cert.GebReferenceIdeal.sig) → Buf (Elt Ideal) ℓ) (g' : Dev Cert.GebReferenceIdeal.nD → PrngReg), Pre_GebKernelIdeal m →
    (∀ c : Dev Cert.GebKernelIdeal.nD,
      m' ((c.tc : Thread Cert.GebReferenceIdeal.nD Cert.GebReferenceIdeal.τ).loc Cert.GebReferenceIdeal.main_arg0) = m ((c.tc : Thread Cert.GebKernelIdeal.nD Cert.GebKernelIdeal.τ).loc Cert.GebKernelIdeal.main_arg0)
      ∧ m' ((c.tc : Thread Cert.GebReferenceIdeal.nD Cert.GebReferenceIdeal.τ).loc Cert.GebReferenceIdeal.main_arg1) = m ((c.tc : Thread Cert.GebKernelIdeal.nD Cert.GebKernelIdeal.τ).loc Cert.GebKernelIdeal.main_arg1)
      ∧ m' ((c.tc : Thread Cert.GebReferenceIdeal.nD Cert.GebReferenceIdeal.τ).loc Cert.GebReferenceIdeal.main_arg2) = m ((c.tc : Thread Cert.GebKernelIdeal.nD Cert.GebKernelIdeal.τ).loc Cert.GebKernelIdeal.main_arg2)) →
    ∃ (v0 : (c : Dev Cert.GebKernelIdeal.nD) → Buf (Elt Ideal) ((c.tc : Thread Cert.GebKernelIdeal.nD Cert.GebKernelIdeal.τ).loc Cert.GebKernelIdeal.main_v0)),
      θ_run (Cert.GebKernelIdeal.defs (F := Ideal)) (onTc (τ := Cert.GebKernelIdeal.τ) (Cert.GebKernelIdeal.main (F := Ideal))) ⟨m, fun _ => 0, g⟩ (fun r => ∀ c : Dev Cert.GebKernelIdeal.nD,
          r.2.mem ((c.tc : Thread Cert.GebKernelIdeal.nD Cert.GebKernelIdeal.τ).loc Cert.GebKernelIdeal.main_v0) = v0 c
          ∧ r.2.mem ((c.tc : Thread Cert.GebKernelIdeal.nD Cert.GebKernelIdeal.τ).loc Cert.GebKernelIdeal.main_arg0) = m ((c.tc : Thread Cert.GebKernelIdeal.nD Cert.GebKernelIdeal.τ).loc Cert.GebKernelIdeal.main_arg0)
          ∧ r.2.mem ((c.tc : Thread Cert.GebKernelIdeal.nD Cert.GebKernelIdeal.τ).loc Cert.GebKernelIdeal.main_arg1) = m ((c.tc : Thread Cert.GebKernelIdeal.nD Cert.GebKernelIdeal.τ).loc Cert.GebKernelIdeal.main_arg1)
          ∧ r.2.mem ((c.tc : Thread Cert.GebKernelIdeal.nD Cert.GebKernelIdeal.τ).loc Cert.GebKernelIdeal.main_arg2) = m ((c.tc : Thread Cert.GebKernelIdeal.nD Cert.GebKernelIdeal.τ).loc Cert.GebKernelIdeal.main_arg2))
      ∧ θ_run (Cert.GebReferenceIdeal.defs (F := Ideal)) (onTc (τ := Cert.GebReferenceIdeal.τ) (Cert.GebReferenceIdeal.main (F := Ideal))) ⟨m', fun _ => 0, g'⟩ (fun r => ∀ c : Dev Cert.GebReferenceIdeal.nD,
          r.2.mem ((c.tc : Thread Cert.GebReferenceIdeal.nD Cert.GebReferenceIdeal.τ).loc Cert.GebReferenceIdeal.main_v33) = v0 c
          ∧ r.2.mem ((c.tc : Thread Cert.GebReferenceIdeal.nD Cert.GebReferenceIdeal.τ).loc Cert.GebReferenceIdeal.main_arg0) = m' ((c.tc : Thread Cert.GebReferenceIdeal.nD Cert.GebReferenceIdeal.τ).loc Cert.GebReferenceIdeal.main_arg0)
          ∧ r.2.mem ((c.tc : Thread Cert.GebReferenceIdeal.nD Cert.GebReferenceIdeal.τ).loc Cert.GebReferenceIdeal.main_arg1) = m' ((c.tc : Thread Cert.GebReferenceIdeal.nD Cert.GebReferenceIdeal.τ).loc Cert.GebReferenceIdeal.main_arg1)
          ∧ r.2.mem ((c.tc : Thread Cert.GebReferenceIdeal.nD Cert.GebReferenceIdeal.τ).loc Cert.GebReferenceIdeal.main_arg2) = m' ((c.tc : Thread Cert.GebReferenceIdeal.nD Cert.GebReferenceIdeal.τ).loc Cert.GebReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v0)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_GeluKernel_GeluKernelIdeal : Prop :=
  True

def algebraic_GeluKernelIdeal_GeluReferenceIdeal [hGeluKernelIdeal : Cert.GeluKernelIdeal.Facts] [hGeluReferenceIdeal : Cert.GeluReferenceIdeal.Facts] : Prop :=
  ∀ (m : (ℓ : Loc Cert.GeluKernelIdeal.nD Cert.GeluKernelIdeal.τ Cert.GeluKernelIdeal.sig) → Buf (Elt Ideal) ℓ) (g : Dev Cert.GeluKernelIdeal.nD → PrngReg)
    (m' : (ℓ : Loc Cert.GeluReferenceIdeal.nD Cert.GeluReferenceIdeal.τ Cert.GeluReferenceIdeal.sig) → Buf (Elt Ideal) ℓ) (g' : Dev Cert.GeluReferenceIdeal.nD → PrngReg), Pre_GeluKernelIdeal m →
    (∀ c : Dev Cert.GeluKernelIdeal.nD,
      m' ((c.tc : Thread Cert.GeluReferenceIdeal.nD Cert.GeluReferenceIdeal.τ).loc Cert.GeluReferenceIdeal.main_arg0) = m ((c.tc : Thread Cert.GeluKernelIdeal.nD Cert.GeluKernelIdeal.τ).loc Cert.GeluKernelIdeal.main_arg0)) →
    ∃ (v0 : (c : Dev Cert.GeluKernelIdeal.nD) → Buf (Elt Ideal) ((c.tc : Thread Cert.GeluKernelIdeal.nD Cert.GeluKernelIdeal.τ).loc Cert.GeluKernelIdeal.main_v0)),
      θ_run (Cert.GeluKernelIdeal.defs (F := Ideal)) (onTc (τ := Cert.GeluKernelIdeal.τ) (Cert.GeluKernelIdeal.main (F := Ideal))) ⟨m, fun _ => 0, g⟩ (fun r => ∀ c : Dev Cert.GeluKernelIdeal.nD,
          r.2.mem ((c.tc : Thread Cert.GeluKernelIdeal.nD Cert.GeluKernelIdeal.τ).loc Cert.GeluKernelIdeal.main_v0) = v0 c
          ∧ r.2.mem ((c.tc : Thread Cert.GeluKernelIdeal.nD Cert.GeluKernelIdeal.τ).loc Cert.GeluKernelIdeal.main_arg0) = m ((c.tc : Thread Cert.GeluKernelIdeal.nD Cert.GeluKernelIdeal.τ).loc Cert.GeluKernelIdeal.main_arg0))
      ∧ θ_run (Cert.GeluReferenceIdeal.defs (F := Ideal)) (onTc (τ := Cert.GeluReferenceIdeal.τ) (Cert.GeluReferenceIdeal.main (F := Ideal))) ⟨m', fun _ => 0, g'⟩ (fun r => ∀ c : Dev Cert.GeluReferenceIdeal.nD,
          r.2.mem ((c.tc : Thread Cert.GeluReferenceIdeal.nD Cert.GeluReferenceIdeal.τ).loc Cert.GeluReferenceIdeal.main_v13) = v0 c
          ∧ r.2.mem ((c.tc : Thread Cert.GeluReferenceIdeal.nD Cert.GeluReferenceIdeal.τ).loc Cert.GeluReferenceIdeal.main_arg0) = m' ((c.tc : Thread Cert.GeluReferenceIdeal.nD Cert.GeluReferenceIdeal.τ).loc Cert.GeluReferenceIdeal.main_arg0))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)) →
    ∃ (v0 : (c : Dev Cert.GluKernelIdeal.nD) → Buf (Elt Ideal) ((c.tc : Thread Cert.GluKernelIdeal.nD Cert.GluKernelIdeal.τ).loc Cert.GluKernelIdeal.main_v0)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v0) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v22) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)) →
    ∃ (v0 : (c : Dev Cert.MergeKernelIdeal.nD) → Buf (Elt Ideal) ((c.tc : Thread Cert.MergeKernelIdeal.nD Cert.MergeKernelIdeal.τ).loc Cert.MergeKernelIdeal.main_v0)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v25) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3))

def preserves_SwfKernel_SwfKernelIdeal : Prop :=
  True

def algebraic_SwfKernelIdeal_SwfReferenceIdeal [hSwfKernelIdeal : Cert.SwfKernelIdeal.Facts] [hSwfReferenceIdeal : Cert.SwfReferenceIdeal.Facts] : Prop :=
  ∀ (m : (ℓ : Loc Cert.SwfKernelIdeal.nD Cert.SwfKernelIdeal.τ Cert.SwfKernelIdeal.sig) → Buf (Elt Ideal) ℓ) (g : Dev Cert.SwfKernelIdeal.nD → PrngReg)
    (m' : (ℓ : Loc Cert.SwfReferenceIdeal.nD Cert.SwfReferenceIdeal.τ Cert.SwfReferenceIdeal.sig) → Buf (Elt Ideal) ℓ) (g' : Dev Cert.SwfReferenceIdeal.nD → PrngReg), Pre_SwfKernelIdeal m →
    (∀ c : Dev Cert.SwfKernelIdeal.nD,
      m' ((c.tc : Thread Cert.SwfReferenceIdeal.nD Cert.SwfReferenceIdeal.τ).loc Cert.SwfReferenceIdeal.main_arg0) = m ((c.tc : Thread Cert.SwfKernelIdeal.nD Cert.SwfKernelIdeal.τ).loc Cert.SwfKernelIdeal.main_arg0)) →
    ∃ (v0 : (c : Dev Cert.SwfKernelIdeal.nD) → Buf (Elt Ideal) ((c.tc : Thread Cert.SwfKernelIdeal.nD Cert.SwfKernelIdeal.τ).loc Cert.SwfKernelIdeal.main_v0)),
      θ_run (Cert.SwfKernelIdeal.defs (F := Ideal)) (onTc (τ := Cert.SwfKernelIdeal.τ) (Cert.SwfKernelIdeal.main (F := Ideal))) ⟨m, fun _ => 0, g⟩ (fun r => ∀ c : Dev Cert.SwfKernelIdeal.nD,
          r.2.mem ((c.tc : Thread Cert.SwfKernelIdeal.nD Cert.SwfKernelIdeal.τ).loc Cert.SwfKernelIdeal.main_v0) = v0 c
          ∧ r.2.mem ((c.tc : Thread Cert.SwfKernelIdeal.nD Cert.SwfKernelIdeal.τ).loc Cert.SwfKernelIdeal.main_arg0) = m ((c.tc : Thread Cert.SwfKernelIdeal.nD Cert.SwfKernelIdeal.τ).loc Cert.SwfKernelIdeal.main_arg0))
      ∧ θ_run (Cert.SwfReferenceIdeal.defs (F := Ideal)) (onTc (τ := Cert.SwfReferenceIdeal.τ) (Cert.SwfReferenceIdeal.main (F := Ideal))) ⟨m', fun _ => 0, g'⟩ (fun r => ∀ c : Dev Cert.SwfReferenceIdeal.nD,
          r.2.mem ((c.tc : Thread Cert.SwfReferenceIdeal.nD Cert.SwfReferenceIdeal.τ).loc Cert.SwfReferenceIdeal.main_v5) = v0 c
          ∧ r.2.mem ((c.tc : Thread Cert.SwfReferenceIdeal.nD Cert.SwfReferenceIdeal.τ).loc Cert.SwfReferenceIdeal.main_arg0) = m' ((c.tc : Thread Cert.SwfReferenceIdeal.nD Cert.SwfReferenceIdeal.τ).loc Cert.SwfReferenceIdeal.main_arg0))

def preserves_UaKernel_UaKernelIdeal : Prop :=
  True

def algebraic_UaKernelIdeal_UaReferenceIdeal [hUaKernelIdeal : Cert.UaKernelIdeal.Facts] [hUaReferenceIdeal : Cert.UaReferenceIdeal.Facts] : Prop :=
  ∀ (m : (ℓ : Loc Cert.UaKernelIdeal.nD Cert.UaKernelIdeal.τ Cert.UaKernelIdeal.sig) → Buf (Elt Ideal) ℓ) (g : Dev Cert.UaKernelIdeal.nD → PrngReg)
    (m' : (ℓ : Loc Cert.UaReferenceIdeal.nD Cert.UaReferenceIdeal.τ Cert.UaReferenceIdeal.sig) → Buf (Elt Ideal) ℓ) (g' : Dev Cert.UaReferenceIdeal.nD → PrngReg), Pre_UaKernelIdeal m →
    (∀ c : Dev Cert.UaKernelIdeal.nD,
      m' ((c.tc : Thread Cert.UaReferenceIdeal.nD Cert.UaReferenceIdeal.τ).loc Cert.UaReferenceIdeal.main_arg0) = m ((c.tc : Thread Cert.UaKernelIdeal.nD Cert.UaKernelIdeal.τ).loc Cert.UaKernelIdeal.main_arg0)
      ∧ m' ((c.tc : Thread Cert.UaReferenceIdeal.nD Cert.UaReferenceIdeal.τ).loc Cert.UaReferenceIdeal.main_arg1) = m ((c.tc : Thread Cert.UaKernelIdeal.nD Cert.UaKernelIdeal.τ).loc Cert.UaKernelIdeal.main_arg1)
      ∧ m' ((c.tc : Thread Cert.UaReferenceIdeal.nD Cert.UaReferenceIdeal.τ).loc Cert.UaReferenceIdeal.main_arg2) = m ((c.tc : Thread Cert.UaKernelIdeal.nD Cert.UaKernelIdeal.τ).loc Cert.UaKernelIdeal.main_arg2)
      ∧ m' ((c.tc : Thread Cert.UaReferenceIdeal.nD Cert.UaReferenceIdeal.τ).loc Cert.UaReferenceIdeal.main_arg3) = m ((c.tc : Thread Cert.UaKernelIdeal.nD Cert.UaKernelIdeal.τ).loc Cert.UaKernelIdeal.main_arg3)) →
    ∃ (v0 : (c : Dev Cert.UaKernelIdeal.nD) → Buf (Elt Ideal) ((c.tc : Thread Cert.UaKernelIdeal.nD Cert.UaKernelIdeal.τ).loc Cert.UaKernelIdeal.main_v0_0)) (v1 : (c : Dev Cert.UaKernelIdeal.nD) → Buf (Elt Ideal) ((c.tc : Thread Cert.UaKernelIdeal.nD Cert.UaKernelIdeal.τ).loc Cert.UaKernelIdeal.main_v0_1)) (v2 : (c : Dev Cert.UaKernelIdeal.nD) → Buf (Elt Ideal) ((c.tc : Thread Cert.UaKernelIdeal.nD Cert.UaKernelIdeal.τ).loc Cert.UaKernelIdeal.main_v0_2)),
      θ_run (Cert.UaKernelIdeal.defs (F := Ideal)) (onTc (τ := Cert.UaKernelIdeal.τ) (Cert.UaKernelIdeal.main (F := Ideal))) ⟨m, fun _ => 0, g⟩ (fun r => ∀ c : Dev Cert.UaKernelIdeal.nD,
          r.2.mem ((c.tc : Thread Cert.UaKernelIdeal.nD Cert.UaKernelIdeal.τ).loc Cert.UaKernelIdeal.main_v0_0) = v0 c
          ∧ r.2.mem ((c.tc : Thread Cert.UaKernelIdeal.nD Cert.UaKernelIdeal.τ).loc Cert.UaKernelIdeal.main_v0_1) = v1 c
          ∧ r.2.mem ((c.tc : Thread Cert.UaKernelIdeal.nD Cert.UaKernelIdeal.τ).loc Cert.UaKernelIdeal.main_v0_2) = v2 c
          ∧ r.2.mem ((c.tc : Thread Cert.UaKernelIdeal.nD Cert.UaKernelIdeal.τ).loc Cert.UaKernelIdeal.main_arg0) = m ((c.tc : Thread Cert.UaKernelIdeal.nD Cert.UaKernelIdeal.τ).loc Cert.UaKernelIdeal.main_arg0)
          ∧ r.2.mem ((c.tc : Thread Cert.UaKernelIdeal.nD Cert.UaKernelIdeal.τ).loc Cert.UaKernelIdeal.main_arg1) = m ((c.tc : Thread Cert.UaKernelIdeal.nD Cert.UaKernelIdeal.τ).loc Cert.UaKernelIdeal.main_arg1)
          ∧ r.2.mem ((c.tc : Thread Cert.UaKernelIdeal.nD Cert.UaKernelIdeal.τ).loc Cert.UaKernelIdeal.main_arg2) = m ((c.tc : Thread Cert.UaKernelIdeal.nD Cert.UaKernelIdeal.τ).loc Cert.UaKernelIdeal.main_arg2)
          ∧ r.2.mem ((c.tc : Thread Cert.UaKernelIdeal.nD Cert.UaKernelIdeal.τ).loc Cert.UaKernelIdeal.main_arg3) = m ((c.tc : Thread Cert.UaKernelIdeal.nD Cert.UaKernelIdeal.τ).loc Cert.UaKernelIdeal.main_arg3))
      ∧ θ_run (Cert.UaReferenceIdeal.defs (F := Ideal)) (onTc (τ := Cert.UaReferenceIdeal.τ) (Cert.UaReferenceIdeal.main (F := Ideal))) ⟨m', fun _ => 0, g'⟩ (fun r => ∀ c : Dev Cert.UaReferenceIdeal.nD,
          r.2.mem ((c.tc : Thread Cert.UaReferenceIdeal.nD Cert.UaReferenceIdeal.τ).loc Cert.UaReferenceIdeal.main_v23) = v0 c
          ∧ r.2.mem ((c.tc : Thread Cert.UaReferenceIdeal.nD Cert.UaReferenceIdeal.τ).loc Cert.UaReferenceIdeal.main_v4) = v1 c
          ∧ r.2.mem ((c.tc : Thread Cert.UaReferenceIdeal.nD Cert.UaReferenceIdeal.τ).loc Cert.UaReferenceIdeal.main_v10) = v2 c
          ∧ r.2.mem ((c.tc : Thread Cert.UaReferenceIdeal.nD Cert.UaReferenceIdeal.τ).loc Cert.UaReferenceIdeal.main_arg0) = m' ((c.tc : Thread Cert.UaReferenceIdeal.nD Cert.UaReferenceIdeal.τ).loc Cert.UaReferenceIdeal.main_arg0)
          ∧ r.2.mem ((c.tc : Thread Cert.UaReferenceIdeal.nD Cert.UaReferenceIdeal.τ).loc Cert.UaReferenceIdeal.main_arg1) = m' ((c.tc : Thread Cert.UaReferenceIdeal.nD Cert.UaReferenceIdeal.τ).loc Cert.UaReferenceIdeal.main_arg1)
          ∧ r.2.mem ((c.tc : Thread Cert.UaReferenceIdeal.nD Cert.UaReferenceIdeal.τ).loc Cert.UaReferenceIdeal.main_arg2) = m' ((c.tc : Thread Cert.UaReferenceIdeal.nD Cert.UaReferenceIdeal.τ).loc Cert.UaReferenceIdeal.main_arg2)
          ∧ r.2.mem ((c.tc : Thread Cert.UaReferenceIdeal.nD Cert.UaReferenceIdeal.τ).loc Cert.UaReferenceIdeal.main_arg3) = m' ((c.tc : Thread Cert.UaReferenceIdeal.nD Cert.UaReferenceIdeal.τ).loc Cert.UaReferenceIdeal.main_arg3))

def preserves_UbKernel_UbKernelIdeal : Prop :=
  True

def algebraic_UbKernelIdeal_UbReferenceIdeal [hUbKernelIdeal : Cert.UbKernelIdeal.Facts] [hUbReferenceIdeal : Cert.UbReferenceIdeal.Facts] : Prop :=
  ∀ (m : (ℓ : Loc Cert.UbKernelIdeal.nD Cert.UbKernelIdeal.τ Cert.UbKernelIdeal.sig) → Buf (Elt Ideal) ℓ) (g : Dev Cert.UbKernelIdeal.nD → PrngReg)
    (m' : (ℓ : Loc Cert.UbReferenceIdeal.nD Cert.UbReferenceIdeal.τ Cert.UbReferenceIdeal.sig) → Buf (Elt Ideal) ℓ) (g' : Dev Cert.UbReferenceIdeal.nD → PrngReg), Pre_UbKernelIdeal m →
    (∀ c : Dev Cert.UbKernelIdeal.nD,
      m' ((c.tc : Thread Cert.UbReferenceIdeal.nD Cert.UbReferenceIdeal.τ).loc Cert.UbReferenceIdeal.main_arg0) = m ((c.tc : Thread Cert.UbKernelIdeal.nD Cert.UbKernelIdeal.τ).loc Cert.UbKernelIdeal.main_arg0)
      ∧ m' ((c.tc : Thread Cert.UbReferenceIdeal.nD Cert.UbReferenceIdeal.τ).loc Cert.UbReferenceIdeal.main_arg1) = m ((c.tc : Thread Cert.UbKernelIdeal.nD Cert.UbKernelIdeal.τ).loc Cert.UbKernelIdeal.main_arg1)
      ∧ m' ((c.tc : Thread Cert.UbReferenceIdeal.nD Cert.UbReferenceIdeal.τ).loc Cert.UbReferenceIdeal.main_arg2) = m ((c.tc : Thread Cert.UbKernelIdeal.nD Cert.UbKernelIdeal.τ).loc Cert.UbKernelIdeal.main_arg2)
      ∧ m' ((c.tc : Thread Cert.UbReferenceIdeal.nD Cert.UbReferenceIdeal.τ).loc Cert.UbReferenceIdeal.main_arg3) = m ((c.tc : Thread Cert.UbKernelIdeal.nD Cert.UbKernelIdeal.τ).loc Cert.UbKernelIdeal.main_arg3)) →
    ∃ (v0 : (c : Dev Cert.UbKernelIdeal.nD) → Buf (Elt Ideal) ((c.tc : Thread Cert.UbKernelIdeal.nD Cert.UbKernelIdeal.τ).loc Cert.UbKernelIdeal.main_v0_0)) (v1 : (c : Dev Cert.UbKernelIdeal.nD) → Buf (Elt Ideal) ((c.tc : Thread Cert.UbKernelIdeal.nD Cert.UbKernelIdeal.τ).loc Cert.UbKernelIdeal.main_v0_1)) (v2 : (c : Dev Cert.UbKernelIdeal.nD) → Buf (Elt Ideal) ((c.tc : Thread Cert.UbKernelIdeal.nD Cert.UbKernelIdeal.τ).loc Cert.UbKernelIdeal.main_v0_2)),
      θ_run (Cert.UbKernelIdeal.defs (F := Ideal)) (onTc (τ := Cert.UbKernelIdeal.τ) (Cert.UbKernelIdeal.main (F := Ideal))) ⟨m, fun _ => 0, g⟩ (fun r => ∀ c : Dev Cert.UbKernelIdeal.nD,
          r.2.mem ((c.tc : Thread Cert.UbKernelIdeal.nD Cert.UbKernelIdeal.τ).loc Cert.UbKernelIdeal.main_v0_0) = v0 c
          ∧ r.2.mem ((c.tc : Thread Cert.UbKernelIdeal.nD Cert.UbKernelIdeal.τ).loc Cert.UbKernelIdeal.main_v0_1) = v1 c
          ∧ r.2.mem ((c.tc : Thread Cert.UbKernelIdeal.nD Cert.UbKernelIdeal.τ).loc Cert.UbKernelIdeal.main_v0_2) = v2 c
          ∧ r.2.mem ((c.tc : Thread Cert.UbKernelIdeal.nD Cert.UbKernelIdeal.τ).loc Cert.UbKernelIdeal.main_arg0) = m ((c.tc : Thread Cert.UbKernelIdeal.nD Cert.UbKernelIdeal.τ).loc Cert.UbKernelIdeal.main_arg0)
          ∧ r.2.mem ((c.tc : Thread Cert.UbKernelIdeal.nD Cert.UbKernelIdeal.τ).loc Cert.UbKernelIdeal.main_arg1) = m ((c.tc : Thread Cert.UbKernelIdeal.nD Cert.UbKernelIdeal.τ).loc Cert.UbKernelIdeal.main_arg1)
          ∧ r.2.mem ((c.tc : Thread Cert.UbKernelIdeal.nD Cert.UbKernelIdeal.τ).loc Cert.UbKernelIdeal.main_arg2) = m ((c.tc : Thread Cert.UbKernelIdeal.nD Cert.UbKernelIdeal.τ).loc Cert.UbKernelIdeal.main_arg2)
          ∧ r.2.mem ((c.tc : Thread Cert.UbKernelIdeal.nD Cert.UbKernelIdeal.τ).loc Cert.UbKernelIdeal.main_arg3) = m ((c.tc : Thread Cert.UbKernelIdeal.nD Cert.UbKernelIdeal.τ).loc Cert.UbKernelIdeal.main_arg3))
      ∧ θ_run (Cert.UbReferenceIdeal.defs (F := Ideal)) (onTc (τ := Cert.UbReferenceIdeal.τ) (Cert.UbReferenceIdeal.main (F := Ideal))) ⟨m', fun _ => 0, g'⟩ (fun r => ∀ c : Dev Cert.UbReferenceIdeal.nD,
          r.2.mem ((c.tc : Thread Cert.UbReferenceIdeal.nD Cert.UbReferenceIdeal.τ).loc Cert.UbReferenceIdeal.main_v23) = v0 c
          ∧ r.2.mem ((c.tc : Thread Cert.UbReferenceIdeal.nD Cert.UbReferenceIdeal.τ).loc Cert.UbReferenceIdeal.main_v4) = v1 c
          ∧ r.2.mem ((c.tc : Thread Cert.UbReferenceIdeal.nD Cert.UbReferenceIdeal.τ).loc Cert.UbReferenceIdeal.main_v10) = v2 c
          ∧ r.2.mem ((c.tc : Thread Cert.UbReferenceIdeal.nD Cert.UbReferenceIdeal.τ).loc Cert.UbReferenceIdeal.main_arg0) = m' ((c.tc : Thread Cert.UbReferenceIdeal.nD Cert.UbReferenceIdeal.τ).loc Cert.UbReferenceIdeal.main_arg0)
          ∧ r.2.mem ((c.tc : Thread Cert.UbReferenceIdeal.nD Cert.UbReferenceIdeal.τ).loc Cert.UbReferenceIdeal.main_arg1) = m' ((c.tc : Thread Cert.UbReferenceIdeal.nD Cert.UbReferenceIdeal.τ).loc Cert.UbReferenceIdeal.main_arg1)
          ∧ r.2.mem ((c.tc : Thread Cert.UbReferenceIdeal.nD Cert.UbReferenceIdeal.τ).loc Cert.UbReferenceIdeal.main_arg2) = m' ((c.tc : Thread Cert.UbReferenceIdeal.nD Cert.UbReferenceIdeal.τ).loc Cert.UbReferenceIdeal.main_arg2)
          ∧ r.2.mem ((c.tc : Thread Cert.UbReferenceIdeal.nD Cert.UbReferenceIdeal.τ).loc Cert.UbReferenceIdeal.main_arg3) = m' ((c.tc : Thread Cert.UbReferenceIdeal.nD Cert.UbReferenceIdeal.τ).loc Cert.UbReferenceIdeal.main_arg3))

def preserves_UcKernel_UcKernelIdeal : Prop :=
  True

def algebraic_UcKernelIdeal_UcReferenceIdeal [hUcKernelIdeal : Cert.UcKernelIdeal.Facts] [hUcReferenceIdeal : Cert.UcReferenceIdeal.Facts] : Prop :=
  ∀ (m : (ℓ : Loc Cert.UcKernelIdeal.nD Cert.UcKernelIdeal.τ Cert.UcKernelIdeal.sig) → Buf (Elt Ideal) ℓ) (g : Dev Cert.UcKernelIdeal.nD → PrngReg)
    (m' : (ℓ : Loc Cert.UcReferenceIdeal.nD Cert.UcReferenceIdeal.τ Cert.UcReferenceIdeal.sig) → Buf (Elt Ideal) ℓ) (g' : Dev Cert.UcReferenceIdeal.nD → PrngReg), Pre_UcKernelIdeal m →
    (∀ c : Dev Cert.UcKernelIdeal.nD,
      m' ((c.tc : Thread Cert.UcReferenceIdeal.nD Cert.UcReferenceIdeal.τ).loc Cert.UcReferenceIdeal.main_arg0) = m ((c.tc : Thread Cert.UcKernelIdeal.nD Cert.UcKernelIdeal.τ).loc Cert.UcKernelIdeal.main_arg0)
      ∧ m' ((c.tc : Thread Cert.UcReferenceIdeal.nD Cert.UcReferenceIdeal.τ).loc Cert.UcReferenceIdeal.main_arg1) = m ((c.tc : Thread Cert.UcKernelIdeal.nD Cert.UcKernelIdeal.τ).loc Cert.UcKernelIdeal.main_arg1)
      ∧ m' ((c.tc : Thread Cert.UcReferenceIdeal.nD Cert.UcReferenceIdeal.τ).loc Cert.UcReferenceIdeal.main_arg2) = m ((c.tc : Thread Cert.UcKernelIdeal.nD Cert.UcKernelIdeal.τ).loc Cert.UcKernelIdeal.main_arg2)
      ∧ m' ((c.tc : Thread Cert.UcReferenceIdeal.nD Cert.UcReferenceIdeal.τ).loc Cert.UcReferenceIdeal.main_arg3) = m ((c.tc : Thread Cert.UcKernelIdeal.nD Cert.UcKernelIdeal.τ).loc Cert.UcKernelIdeal.main_arg3)) →
    ∃ (v0 : (c : Dev Cert.UcKernelIdeal.nD) → Buf (Elt Ideal) ((c.tc : Thread Cert.UcKernelIdeal.nD Cert.UcKernelIdeal.τ).loc Cert.UcKernelIdeal.main_v0_0)) (v1 : (c : Dev Cert.UcKernelIdeal.nD) → Buf (Elt Ideal) ((c.tc : Thread Cert.UcKernelIdeal.nD Cert.UcKernelIdeal.τ).loc Cert.UcKernelIdeal.main_v0_1)) (v2 : (c : Dev Cert.UcKernelIdeal.nD) → Buf (Elt Ideal) ((c.tc : Thread Cert.UcKernelIdeal.nD Cert.UcKernelIdeal.τ).loc Cert.UcKernelIdeal.main_v0_2)),
      θ_run (Cert.UcKernelIdeal.defs (F := Ideal)) (onTc (τ := Cert.UcKernelIdeal.τ) (Cert.UcKernelIdeal.main (F := Ideal))) ⟨m, fun _ => 0, g⟩ (fun r => ∀ c : Dev Cert.UcKernelIdeal.nD,
          r.2.mem ((c.tc : Thread Cert.UcKernelIdeal.nD Cert.UcKernelIdeal.τ).loc Cert.UcKernelIdeal.main_v0_0) = v0 c
          ∧ r.2.mem ((c.tc : Thread Cert.UcKernelIdeal.nD Cert.UcKernelIdeal.τ).loc Cert.UcKernelIdeal.main_v0_1) = v1 c
          ∧ r.2.mem ((c.tc : Thread Cert.UcKernelIdeal.nD Cert.UcKernelIdeal.τ).loc Cert.UcKernelIdeal.main_v0_2) = v2 c
          ∧ r.2.mem ((c.tc : Thread Cert.UcKernelIdeal.nD Cert.UcKernelIdeal.τ).loc Cert.UcKernelIdeal.main_arg0) = m ((c.tc : Thread Cert.UcKernelIdeal.nD Cert.UcKernelIdeal.τ).loc Cert.UcKernelIdeal.main_arg0)
          ∧ r.2.mem ((c.tc : Thread Cert.UcKernelIdeal.nD Cert.UcKernelIdeal.τ).loc Cert.UcKernelIdeal.main_arg1) = m ((c.tc : Thread Cert.UcKernelIdeal.nD Cert.UcKernelIdeal.τ).loc Cert.UcKernelIdeal.main_arg1)
          ∧ r.2.mem ((c.tc : Thread Cert.UcKernelIdeal.nD Cert.UcKernelIdeal.τ).loc Cert.UcKernelIdeal.main_arg2) = m ((c.tc : Thread Cert.UcKernelIdeal.nD Cert.UcKernelIdeal.τ).loc Cert.UcKernelIdeal.main_arg2)
          ∧ r.2.mem ((c.tc : Thread Cert.UcKernelIdeal.nD Cert.UcKernelIdeal.τ).loc Cert.UcKernelIdeal.main_arg3) = m ((c.tc : Thread Cert.UcKernelIdeal.nD Cert.UcKernelIdeal.τ).loc Cert.UcKernelIdeal.main_arg3))
      ∧ θ_run (Cert.UcReferenceIdeal.defs (F := Ideal)) (onTc (τ := Cert.UcReferenceIdeal.τ) (Cert.UcReferenceIdeal.main (F := Ideal))) ⟨m', fun _ => 0, g'⟩ (fun r => ∀ c : Dev Cert.UcReferenceIdeal.nD,
          r.2.mem ((c.tc : Thread Cert.UcReferenceIdeal.nD Cert.UcReferenceIdeal.τ).loc Cert.UcReferenceIdeal.main_v23) = v0 c
          ∧ r.2.mem ((c.tc : Thread Cert.UcReferenceIdeal.nD Cert.UcReferenceIdeal.τ).loc Cert.UcReferenceIdeal.main_v4) = v1 c
          ∧ r.2.mem ((c.tc : Thread Cert.UcReferenceIdeal.nD Cert.UcReferenceIdeal.τ).loc Cert.UcReferenceIdeal.main_v10) = v2 c
          ∧ r.2.mem ((c.tc : Thread Cert.UcReferenceIdeal.nD Cert.UcReferenceIdeal.τ).loc Cert.UcReferenceIdeal.main_arg0) = m' ((c.tc : Thread Cert.UcReferenceIdeal.nD Cert.UcReferenceIdeal.τ).loc Cert.UcReferenceIdeal.main_arg0)
          ∧ r.2.mem ((c.tc : Thread Cert.UcReferenceIdeal.nD Cert.UcReferenceIdeal.τ).loc Cert.UcReferenceIdeal.main_arg1) = m' ((c.tc : Thread Cert.UcReferenceIdeal.nD Cert.UcReferenceIdeal.τ).loc Cert.UcReferenceIdeal.main_arg1)
          ∧ r.2.mem ((c.tc : Thread Cert.UcReferenceIdeal.nD Cert.UcReferenceIdeal.τ).loc Cert.UcReferenceIdeal.main_arg2) = m' ((c.tc : Thread Cert.UcReferenceIdeal.nD Cert.UcReferenceIdeal.τ).loc Cert.UcReferenceIdeal.main_arg2)
          ∧ r.2.mem ((c.tc : Thread Cert.UcReferenceIdeal.nD Cert.UcReferenceIdeal.τ).loc Cert.UcReferenceIdeal.main_arg3) = m' ((c.tc : Thread Cert.UcReferenceIdeal.nD Cert.UcReferenceIdeal.τ).loc Cert.UcReferenceIdeal.main_arg3))

def preserves_UdKernel_UdKernelIdeal : Prop :=
  True

def algebraic_UdKernelIdeal_UdReferenceIdeal [hUdKernelIdeal : Cert.UdKernelIdeal.Facts] [hUdReferenceIdeal : Cert.UdReferenceIdeal.Facts] : Prop :=
  ∀ (m : (ℓ : Loc Cert.UdKernelIdeal.nD Cert.UdKernelIdeal.τ Cert.UdKernelIdeal.sig) → Buf (Elt Ideal) ℓ) (g : Dev Cert.UdKernelIdeal.nD → PrngReg)
    (m' : (ℓ : Loc Cert.UdReferenceIdeal.nD Cert.UdReferenceIdeal.τ Cert.UdReferenceIdeal.sig) → Buf (Elt Ideal) ℓ) (g' : Dev Cert.UdReferenceIdeal.nD → PrngReg), Pre_UdKernelIdeal m →
    (∀ c : Dev Cert.UdKernelIdeal.nD,
      m' ((c.tc : Thread Cert.UdReferenceIdeal.nD Cert.UdReferenceIdeal.τ).loc Cert.UdReferenceIdeal.main_arg0) = m ((c.tc : Thread Cert.UdKernelIdeal.nD Cert.UdKernelIdeal.τ).loc Cert.UdKernelIdeal.main_arg0)
      ∧ m' ((c.tc : Thread Cert.UdReferenceIdeal.nD Cert.UdReferenceIdeal.τ).loc Cert.UdReferenceIdeal.main_arg1) = m ((c.tc : Thread Cert.UdKernelIdeal.nD Cert.UdKernelIdeal.τ).loc Cert.UdKernelIdeal.main_arg1)
      ∧ m' ((c.tc : Thread Cert.UdReferenceIdeal.nD Cert.UdReferenceIdeal.τ).loc Cert.UdReferenceIdeal.main_arg2) = m ((c.tc : Thread Cert.UdKernelIdeal.nD Cert.UdKernelIdeal.τ).loc Cert.UdKernelIdeal.main_arg2)
      ∧ m' ((c.tc : Thread Cert.UdReferenceIdeal.nD Cert.UdReferenceIdeal.τ).loc Cert.UdReferenceIdeal.main_arg3) = m ((c.tc : Thread Cert.UdKernelIdeal.nD Cert.UdKernelIdeal.τ).loc Cert.UdKernelIdeal.main_arg3)) →
    ∃ (v0 : (c : Dev Cert.UdKernelIdeal.nD) → Buf (Elt Ideal) ((c.tc : Thread Cert.UdKernelIdeal.nD Cert.UdKernelIdeal.τ).loc Cert.UdKernelIdeal.main_v0_0)) (v1 : (c : Dev Cert.UdKernelIdeal.nD) → Buf (Elt Ideal) ((c.tc : Thread Cert.UdKernelIdeal.nD Cert.UdKernelIdeal.τ).loc Cert.UdKernelIdeal.main_v0_1)) (v2 : (c : Dev Cert.UdKernelIdeal.nD) → Buf (Elt Ideal) ((c.tc : Thread Cert.UdKernelIdeal.nD Cert.UdKernelIdeal.τ).loc Cert.UdKernelIdeal.main_v0_2)),
      θ_run (Cert.UdKernelIdeal.defs (F := Ideal)) (onTc (τ := Cert.UdKernelIdeal.τ) (Cert.UdKernelIdeal.main (F := Ideal))) ⟨m, fun _ => 0, g⟩ (fun r => ∀ c : Dev Cert.UdKernelIdeal.nD,
          r.2.mem ((c.tc : Thread Cert.UdKernelIdeal.nD Cert.UdKernelIdeal.τ).loc Cert.UdKernelIdeal.main_v0_0) = v0 c
          ∧ r.2.mem ((c.tc : Thread Cert.UdKernelIdeal.nD Cert.UdKernelIdeal.τ).loc Cert.UdKernelIdeal.main_v0_1) = v1 c
          ∧ r.2.mem ((c.tc : Thread Cert.UdKernelIdeal.nD Cert.UdKernelIdeal.τ).loc Cert.UdKernelIdeal.main_v0_2) = v2 c
          ∧ r.2.mem ((c.tc : Thread Cert.UdKernelIdeal.nD Cert.UdKernelIdeal.τ).loc Cert.UdKernelIdeal.main_arg0) = m ((c.tc : Thread Cert.UdKernelIdeal.nD Cert.UdKernelIdeal.τ).loc Cert.UdKernelIdeal.main_arg0)
          ∧ r.2.mem ((c.tc : Thread Cert.UdKernelIdeal.nD Cert.UdKernelIdeal.τ).loc Cert.UdKernelIdeal.main_arg1) = m ((c.tc : Thread Cert.UdKernelIdeal.nD Cert.UdKernelIdeal.τ).loc Cert.UdKernelIdeal.main_arg1)
          ∧ r.2.mem ((c.tc : Thread Cert.UdKernelIdeal.nD Cert.UdKernelIdeal.τ).loc Cert.UdKernelIdeal.main_arg2) = m ((c.tc : Thread Cert.UdKernelIdeal.nD Cert.UdKernelIdeal.τ).loc Cert.UdKernelIdeal.main_arg2)
          ∧ r.2.mem ((c.tc : Thread Cert.UdKernelIdeal.nD Cert.UdKernelIdeal.τ).loc Cert.UdKernelIdeal.main_arg3) = m ((c.tc : Thread Cert.UdKernelIdeal.nD Cert.UdKernelIdeal.τ).loc Cert.UdKernelIdeal.main_arg3))
      ∧ θ_run (Cert.UdReferenceIdeal.defs (F := Ideal)) (onTc (τ := Cert.UdReferenceIdeal.τ) (Cert.UdReferenceIdeal.main (F := Ideal))) ⟨m', fun _ => 0, g'⟩ (fun r => ∀ c : Dev Cert.UdReferenceIdeal.nD,
          r.2.mem ((c.tc : Thread Cert.UdReferenceIdeal.nD Cert.UdReferenceIdeal.τ).loc Cert.UdReferenceIdeal.main_v23) = v0 c
          ∧ r.2.mem ((c.tc : Thread Cert.UdReferenceIdeal.nD Cert.UdReferenceIdeal.τ).loc Cert.UdReferenceIdeal.main_v4) = v1 c
          ∧ r.2.mem ((c.tc : Thread Cert.UdReferenceIdeal.nD Cert.UdReferenceIdeal.τ).loc Cert.UdReferenceIdeal.main_v10) = v2 c
          ∧ r.2.mem ((c.tc : Thread Cert.UdReferenceIdeal.nD Cert.UdReferenceIdeal.τ).loc Cert.UdReferenceIdeal.main_arg0) = m' ((c.tc : Thread Cert.UdReferenceIdeal.nD Cert.UdReferenceIdeal.τ).loc Cert.UdReferenceIdeal.main_arg0)
          ∧ r.2.mem ((c.tc : Thread Cert.UdReferenceIdeal.nD Cert.UdReferenceIdeal.τ).loc Cert.UdReferenceIdeal.main_arg1) = m' ((c.tc : Thread Cert.UdReferenceIdeal.nD Cert.UdReferenceIdeal.τ).loc Cert.UdReferenceIdeal.main_arg1)
          ∧ r.2.mem ((c.tc : Thread Cert.UdReferenceIdeal.nD Cert.UdReferenceIdeal.τ).loc Cert.UdReferenceIdeal.main_arg2) = m' ((c.tc : Thread Cert.UdReferenceIdeal.nD Cert.UdReferenceIdeal.τ).loc Cert.UdReferenceIdeal.main_arg2)
          ∧ r.2.mem ((c.tc : Thread Cert.UdReferenceIdeal.nD Cert.UdReferenceIdeal.τ).loc Cert.UdReferenceIdeal.main_arg3) = m' ((c.tc : Thread Cert.UdReferenceIdeal.nD Cert.UdReferenceIdeal.τ).loc Cert.UdReferenceIdeal.main_arg3))

def preserves_UeKernel_UeKernelIdeal : Prop :=
  True

def algebraic_UeKernelIdeal_UeReferenceIdeal [hUeKernelIdeal : Cert.UeKernelIdeal.Facts] [hUeReferenceIdeal : Cert.UeReferenceIdeal.Facts] : Prop :=
  ∀ (m : (ℓ : Loc Cert.UeKernelIdeal.nD Cert.UeKernelIdeal.τ Cert.UeKernelIdeal.sig) → Buf (Elt Ideal) ℓ) (g : Dev Cert.UeKernelIdeal.nD → PrngReg)
    (m' : (ℓ : Loc Cert.UeReferenceIdeal.nD Cert.UeReferenceIdeal.τ Cert.UeReferenceIdeal.sig) → Buf (Elt Ideal) ℓ) (g' : Dev Cert.UeReferenceIdeal.nD → PrngReg), Pre_UeKernelIdeal m →
    (∀ c : Dev Cert.UeKernelIdeal.nD,
      m' ((c.tc : Thread Cert.UeReferenceIdeal.nD Cert.UeReferenceIdeal.τ).loc Cert.UeReferenceIdeal.main_arg0) = m ((c.tc : Thread Cert.UeKernelIdeal.nD Cert.UeKernelIdeal.τ).loc Cert.UeKernelIdeal.main_arg0)
      ∧ m' ((c.tc : Thread Cert.UeReferenceIdeal.nD Cert.UeReferenceIdeal.τ).loc Cert.UeReferenceIdeal.main_arg1) = m ((c.tc : Thread Cert.UeKernelIdeal.nD Cert.UeKernelIdeal.τ).loc Cert.UeKernelIdeal.main_arg1)
      ∧ m' ((c.tc : Thread Cert.UeReferenceIdeal.nD Cert.UeReferenceIdeal.τ).loc Cert.UeReferenceIdeal.main_arg2) = m ((c.tc : Thread Cert.UeKernelIdeal.nD Cert.UeKernelIdeal.τ).loc Cert.UeKernelIdeal.main_arg2)
      ∧ m' ((c.tc : Thread Cert.UeReferenceIdeal.nD Cert.UeReferenceIdeal.τ).loc Cert.UeReferenceIdeal.main_arg3) = m ((c.tc : Thread Cert.UeKernelIdeal.nD Cert.UeKernelIdeal.τ).loc Cert.UeKernelIdeal.main_arg3)) →
    ∃ (v0 : (c : Dev Cert.UeKernelIdeal.nD) → Buf (Elt Ideal) ((c.tc : Thread Cert.UeKernelIdeal.nD Cert.UeKernelIdeal.τ).loc Cert.UeKernelIdeal.main_v0_0)) (v1 : (c : Dev Cert.UeKernelIdeal.nD) → Buf (Elt Ideal) ((c.tc : Thread Cert.UeKernelIdeal.nD Cert.UeKernelIdeal.τ).loc Cert.UeKernelIdeal.main_v0_1)) (v2 : (c : Dev Cert.UeKernelIdeal.nD) → Buf (Elt Ideal) ((c.tc : Thread Cert.UeKernelIdeal.nD Cert.UeKernelIdeal.τ).loc Cert.UeKernelIdeal.main_v0_2)),
      θ_run (Cert.UeKernelIdeal.defs (F := Ideal)) (onTc (τ := Cert.UeKernelIdeal.τ) (Cert.UeKernelIdeal.main (F := Ideal))) ⟨m, fun _ => 0, g⟩ (fun r => ∀ c : Dev Cert.UeKernelIdeal.nD,
          r.2.mem ((c.tc : Thread Cert.UeKernelIdeal.nD Cert.UeKernelIdeal.τ).loc Cert.UeKernelIdeal.main_v0_0) = v0 c
          ∧ r.2.mem ((c.tc : Thread Cert.UeKernelIdeal.nD Cert.UeKernelIdeal.τ).loc Cert.UeKernelIdeal.main_v0_1) = v1 c
          ∧ r.2.mem ((c.tc : Thread Cert.UeKernelIdeal.nD Cert.UeKernelIdeal.τ).loc Cert.UeKernelIdeal.main_v0_2) = v2 c
          ∧ r.2.mem ((c.tc : Thread Cert.UeKernelIdeal.nD Cert.UeKernelIdeal.τ).loc Cert.UeKernelIdeal.main_arg0) = m ((c.tc : Thread Cert.UeKernelIdeal.nD Cert.UeKernelIdeal.τ).loc Cert.UeKernelIdeal.main_arg0)
          ∧ r.2.mem ((c.tc : Thread Cert.UeKernelIdeal.nD Cert.UeKernelIdeal.τ).loc Cert.UeKernelIdeal.main_arg1) = m ((c.tc : Thread Cert.UeKernelIdeal.nD Cert.UeKernelIdeal.τ).loc Cert.UeKernelIdeal.main_arg1)
          ∧ r.2.mem ((c.tc : Thread Cert.UeKernelIdeal.nD Cert.UeKernelIdeal.τ).loc Cert.UeKernelIdeal.main_arg2) = m ((c.tc : Thread Cert.UeKernelIdeal.nD Cert.UeKernelIdeal.τ).loc Cert.UeKernelIdeal.main_arg2)
          ∧ r.2.mem ((c.tc : Thread Cert.UeKernelIdeal.nD Cert.UeKernelIdeal.τ).loc Cert.UeKernelIdeal.main_arg3) = m ((c.tc : Thread Cert.UeKernelIdeal.nD Cert.UeKernelIdeal.τ).loc Cert.UeKernelIdeal.main_arg3))
      ∧ θ_run (Cert.UeReferenceIdeal.defs (F := Ideal)) (onTc (τ := Cert.UeReferenceIdeal.τ) (Cert.UeReferenceIdeal.main (F := Ideal))) ⟨m', fun _ => 0, g'⟩ (fun r => ∀ c : Dev Cert.UeReferenceIdeal.nD,
          r.2.mem ((c.tc : Thread Cert.UeReferenceIdeal.nD Cert.UeReferenceIdeal.τ).loc Cert.UeReferenceIdeal.main_v23) = v0 c
          ∧ r.2.mem ((c.tc : Thread Cert.UeReferenceIdeal.nD Cert.UeReferenceIdeal.τ).loc Cert.UeReferenceIdeal.main_v4) = v1 c
          ∧ r.2.mem ((c.tc : Thread Cert.UeReferenceIdeal.nD Cert.UeReferenceIdeal.τ).loc Cert.UeReferenceIdeal.main_v10) = v2 c
          ∧ r.2.mem ((c.tc : Thread Cert.UeReferenceIdeal.nD Cert.UeReferenceIdeal.τ).loc Cert.UeReferenceIdeal.main_arg0) = m' ((c.tc : Thread Cert.UeReferenceIdeal.nD Cert.UeReferenceIdeal.τ).loc Cert.UeReferenceIdeal.main_arg0)
          ∧ r.2.mem ((c.tc : Thread Cert.UeReferenceIdeal.nD Cert.UeReferenceIdeal.τ).loc Cert.UeReferenceIdeal.main_arg1) = m' ((c.tc : Thread Cert.UeReferenceIdeal.nD Cert.UeReferenceIdeal.τ).loc Cert.UeReferenceIdeal.main_arg1)
          ∧ r.2.mem ((c.tc : Thread Cert.UeReferenceIdeal.nD Cert.UeReferenceIdeal.τ).loc Cert.UeReferenceIdeal.main_arg2) = m' ((c.tc : Thread Cert.UeReferenceIdeal.nD Cert.UeReferenceIdeal.τ).loc Cert.UeReferenceIdeal.main_arg2)
          ∧ r.2.mem ((c.tc : Thread Cert.UeReferenceIdeal.nD Cert.UeReferenceIdeal.τ).loc Cert.UeReferenceIdeal.main_arg3) = m' ((c.tc : Thread Cert.UeReferenceIdeal.nD Cert.UeReferenceIdeal.τ).loc Cert.UeReferenceIdeal.main_arg3))

def preserves_UfKernel_UfKernelIdeal : Prop :=
  True

def algebraic_UfKernelIdeal_UfReferenceIdeal [hUfKernelIdeal : Cert.UfKernelIdeal.Facts] [hUfReferenceIdeal : Cert.UfReferenceIdeal.Facts] : Prop :=
  ∀ (m : (ℓ : Loc Cert.UfKernelIdeal.nD Cert.UfKernelIdeal.τ Cert.UfKernelIdeal.sig) → Buf (Elt Ideal) ℓ) (g : Dev Cert.UfKernelIdeal.nD → PrngReg)
    (m' : (ℓ : Loc Cert.UfReferenceIdeal.nD Cert.UfReferenceIdeal.τ Cert.UfReferenceIdeal.sig) → Buf (Elt Ideal) ℓ) (g' : Dev Cert.UfReferenceIdeal.nD → PrngReg), Pre_UfKernelIdeal m →
    (∀ c : Dev Cert.UfKernelIdeal.nD,
      m' ((c.tc : Thread Cert.UfReferenceIdeal.nD Cert.UfReferenceIdeal.τ).loc Cert.UfReferenceIdeal.main_arg0) = m ((c.tc : Thread Cert.UfKernelIdeal.nD Cert.UfKernelIdeal.τ).loc Cert.UfKernelIdeal.main_arg0)
      ∧ m' ((c.tc : Thread Cert.UfReferenceIdeal.nD Cert.UfReferenceIdeal.τ).loc Cert.UfReferenceIdeal.main_arg1) = m ((c.tc : Thread Cert.UfKernelIdeal.nD Cert.UfKernelIdeal.τ).loc Cert.UfKernelIdeal.main_arg1)
      ∧ m' ((c.tc : Thread Cert.UfReferenceIdeal.nD Cert.UfReferenceIdeal.τ).loc Cert.UfReferenceIdeal.main_arg2) = m ((c.tc : Thread Cert.UfKernelIdeal.nD Cert.UfKernelIdeal.τ).loc Cert.UfKernelIdeal.main_arg2)
      ∧ m' ((c.tc : Thread Cert.UfReferenceIdeal.nD Cert.UfReferenceIdeal.τ).loc Cert.UfReferenceIdeal.main_arg3) = m ((c.tc : Thread Cert.UfKernelIdeal.nD Cert.UfKernelIdeal.τ).loc Cert.UfKernelIdeal.main_arg3)) →
    ∃ (v0 : (c : Dev Cert.UfKernelIdeal.nD) → Buf (Elt Ideal) ((c.tc : Thread Cert.UfKernelIdeal.nD Cert.UfKernelIdeal.τ).loc Cert.UfKernelIdeal.main_v0_0)) (v1 : (c : Dev Cert.UfKernelIdeal.nD) → Buf (Elt Ideal) ((c.tc : Thread Cert.UfKernelIdeal.nD Cert.UfKernelIdeal.τ).loc Cert.UfKernelIdeal.main_v0_1)) (v2 : (c : Dev Cert.UfKernelIdeal.nD) → Buf (Elt Ideal) ((c.tc : Thread Cert.UfKernelIdeal.nD Cert.UfKernelIdeal.τ).loc Cert.UfKernelIdeal.main_v0_2)),
      θ_run (Cert.UfKernelIdeal.defs (F := Ideal)) (onTc (τ := Cert.UfKernelIdeal.τ) (Cert.UfKernelIdeal.main (F := Ideal))) ⟨m, fun _ => 0, g⟩ (fun r => ∀ c : Dev Cert.UfKernelIdeal.nD,
          r.2.mem ((c.tc : Thread Cert.UfKernelIdeal.nD Cert.UfKernelIdeal.τ).loc Cert.UfKernelIdeal.main_v0_0) = v0 c
          ∧ r.2.mem ((c.tc : Thread Cert.UfKernelIdeal.nD Cert.UfKernelIdeal.τ).loc Cert.UfKernelIdeal.main_v0_1) = v1 c
          ∧ r.2.mem ((c.tc : Thread Cert.UfKernelIdeal.nD Cert.UfKernelIdeal.τ).loc Cert.UfKernelIdeal.main_v0_2) = v2 c
          ∧ r.2.mem ((c.tc : Thread Cert.UfKernelIdeal.nD Cert.UfKernelIdeal.τ).loc Cert.UfKernelIdeal.main_arg0) = m ((c.tc : Thread Cert.UfKernelIdeal.nD Cert.UfKernelIdeal.τ).loc Cert.UfKernelIdeal.main_arg0)
          ∧ r.2.mem ((c.tc : Thread Cert.UfKernelIdeal.nD Cert.UfKernelIdeal.τ).loc Cert.UfKernelIdeal.main_arg1) = m ((c.tc : Thread Cert.UfKernelIdeal.nD Cert.UfKernelIdeal.τ).loc Cert.UfKernelIdeal.main_arg1)
          ∧ r.2.mem ((c.tc : Thread Cert.UfKernelIdeal.nD Cert.UfKernelIdeal.τ).loc Cert.UfKernelIdeal.main_arg2) = m ((c.tc : Thread Cert.UfKernelIdeal.nD Cert.UfKernelIdeal.τ).loc Cert.UfKernelIdeal.main_arg2)
          ∧ r.2.mem ((c.tc : Thread Cert.UfKernelIdeal.nD Cert.UfKernelIdeal.τ).loc Cert.UfKernelIdeal.main_arg3) = m ((c.tc : Thread Cert.UfKernelIdeal.nD Cert.UfKernelIdeal.τ).loc Cert.UfKernelIdeal.main_arg3))
      ∧ θ_run (Cert.UfReferenceIdeal.defs (F := Ideal)) (onTc (τ := Cert.UfReferenceIdeal.τ) (Cert.UfReferenceIdeal.main (F := Ideal))) ⟨m', fun _ => 0, g'⟩ (fun r => ∀ c : Dev Cert.UfReferenceIdeal.nD,
          r.2.mem ((c.tc : Thread Cert.UfReferenceIdeal.nD Cert.UfReferenceIdeal.τ).loc Cert.UfReferenceIdeal.main_v23) = v0 c
          ∧ r.2.mem ((c.tc : Thread Cert.UfReferenceIdeal.nD Cert.UfReferenceIdeal.τ).loc Cert.UfReferenceIdeal.main_v4) = v1 c
          ∧ r.2.mem ((c.tc : Thread Cert.UfReferenceIdeal.nD Cert.UfReferenceIdeal.τ).loc Cert.UfReferenceIdeal.main_v10) = v2 c
          ∧ r.2.mem ((c.tc : Thread Cert.UfReferenceIdeal.nD Cert.UfReferenceIdeal.τ).loc Cert.UfReferenceIdeal.main_arg0) = m' ((c.tc : Thread Cert.UfReferenceIdeal.nD Cert.UfReferenceIdeal.τ).loc Cert.UfReferenceIdeal.main_arg0)
          ∧ r.2.mem ((c.tc : Thread Cert.UfReferenceIdeal.nD Cert.UfReferenceIdeal.τ).loc Cert.UfReferenceIdeal.main_arg1) = m' ((c.tc : Thread Cert.UfReferenceIdeal.nD Cert.UfReferenceIdeal.τ).loc Cert.UfReferenceIdeal.main_arg1)
          ∧ r.2.mem ((c.tc : Thread Cert.UfReferenceIdeal.nD Cert.UfReferenceIdeal.τ).loc Cert.UfReferenceIdeal.main_arg2) = m' ((c.tc : Thread Cert.UfReferenceIdeal.nD Cert.UfReferenceIdeal.τ).loc Cert.UfReferenceIdeal.main_arg2)
          ∧ r.2.mem ((c.tc : Thread Cert.UfReferenceIdeal.nD Cert.UfReferenceIdeal.τ).loc Cert.UfReferenceIdeal.main_arg3) = m' ((c.tc : Thread Cert.UfReferenceIdeal.nD Cert.UfReferenceIdeal.τ).loc Cert.UfReferenceIdeal.main_arg3))

def preserves_UgKernel_UgKernelIdeal : Prop :=
  True

def algebraic_UgKernelIdeal_UgReferenceIdeal [hUgKernelIdeal : Cert.UgKernelIdeal.Facts] [hUgReferenceIdeal : Cert.UgReferenceIdeal.Facts] : Prop :=
  ∀ (m : (ℓ : Loc Cert.UgKernelIdeal.nD Cert.UgKernelIdeal.τ Cert.UgKernelIdeal.sig) → Buf (Elt Ideal) ℓ) (g : Dev Cert.UgKernelIdeal.nD → PrngReg)
    (m' : (ℓ : Loc Cert.UgReferenceIdeal.nD Cert.UgReferenceIdeal.τ Cert.UgReferenceIdeal.sig) → Buf (Elt Ideal) ℓ) (g' : Dev Cert.UgReferenceIdeal.nD → PrngReg), Pre_UgKernelIdeal m →
    (∀ c : Dev Cert.UgKernelIdeal.nD,
      m' ((c.tc : Thread Cert.UgReferenceIdeal.nD Cert.UgReferenceIdeal.τ).loc Cert.UgReferenceIdeal.main_arg0) = m ((c.tc : Thread Cert.UgKernelIdeal.nD Cert.UgKernelIdeal.τ).loc Cert.UgKernelIdeal.main_arg0)
      ∧ m' ((c.tc : Thread Cert.UgReferenceIdeal.nD Cert.UgReferenceIdeal.τ).loc Cert.UgReferenceIdeal.main_arg1) = m ((c.tc : Thread Cert.UgKernelIdeal.nD Cert.UgKernelIdeal.τ).loc Cert.UgKernelIdeal.main_arg1)
      ∧ m' ((c.tc : Thread Cert.UgReferenceIdeal.nD Cert.UgReferenceIdeal.τ).loc Cert.UgReferenceIdeal.main_arg2) = m ((c.tc : Thread Cert.UgKernelIdeal.nD Cert.UgKernelIdeal.τ).loc Cert.UgKernelIdeal.main_arg2)
      ∧ m' ((c.tc : Thread Cert.UgReferenceIdeal.nD Cert.UgReferenceIdeal.τ).loc Cert.UgReferenceIdeal.main_arg3) = m ((c.tc : Thread Cert.UgKernelIdeal.nD Cert.UgKernelIdeal.τ).loc Cert.UgKernelIdeal.main_arg3)) →
    ∃ (v0 : (c : Dev Cert.UgKernelIdeal.nD) → Buf (Elt Ideal) ((c.tc : Thread Cert.UgKernelIdeal.nD Cert.UgKernelIdeal.τ).loc Cert.UgKernelIdeal.main_v0_0)) (v1 : (c : Dev Cert.UgKernelIdeal.nD) → Buf (Elt Ideal) ((c.tc : Thread Cert.UgKernelIdeal.nD Cert.UgKernelIdeal.τ).loc Cert.UgKernelIdeal.main_v0_1)) (v2 : (c : Dev Cert.UgKernelIdeal.nD) → Buf (Elt Ideal) ((c.tc : Thread Cert.UgKernelIdeal.nD Cert.UgKernelIdeal.τ).loc Cert.UgKernelIdeal.main_v0_2)),
      θ_run (Cert.UgKernelIdeal.defs (F := Ideal)) (onTc (τ := Cert.UgKernelIdeal.τ) (Cert.UgKernelIdeal.main (F := Ideal))) ⟨m, fun _ => 0, g⟩ (fun r => ∀ c : Dev Cert.UgKernelIdeal.nD,
          r.2.mem ((c.tc : Thread Cert.UgKernelIdeal.nD Cert.UgKernelIdeal.τ).loc Cert.UgKernelIdeal.main_v0_0) = v0 c
          ∧ r.2.mem ((c.tc : Thread Cert.UgKernelIdeal.nD Cert.UgKernelIdeal.τ).loc Cert.UgKernelIdeal.main_v0_1) = v1 c
          ∧ r.2.mem ((c.tc : Thread Cert.UgKernelIdeal.nD Cert.UgKernelIdeal.τ).loc Cert.UgKernelIdeal.main_v0_2) = v2 c
          ∧ r.2.mem ((c.tc : Thread Cert.UgKernelIdeal.nD Cert.UgKernelIdeal.τ).loc Cert.UgKernelIdeal.main_arg0) = m ((c.tc : Thread Cert.UgKernelIdeal.nD Cert.UgKernelIdeal.τ).loc Cert.UgKernelIdeal.main_arg0)
          ∧ r.2.mem ((c.tc : Thread Cert.UgKernelIdeal.nD Cert.UgKernelIdeal.τ).loc Cert.UgKernelIdeal.main_arg1) = m ((c.tc : Thread Cert.UgKernelIdeal.nD Cert.UgKernelIdeal.τ).loc Cert.UgKernelIdeal.main_arg1)
          ∧ r.2.mem ((c.tc : Thread Cert.UgKernelIdeal.nD Cert.UgKernelIdeal.τ).loc Cert.UgKernelIdeal.main_arg2) = m ((c.tc : Thread Cert.UgKernelIdeal.nD Cert.UgKernelIdeal.τ).loc Cert.UgKernelIdeal.main_arg2)
          ∧ r.2.mem ((c.tc : Thread Cert.UgKernelIdeal.nD Cert.UgKernelIdeal.τ).loc Cert.UgKernelIdeal.main_arg3) = m ((c.tc : Thread Cert.UgKernelIdeal.nD Cert.UgKernelIdeal.τ).loc Cert.UgKernelIdeal.main_arg3))
      ∧ θ_run (Cert.UgReferenceIdeal.defs (F := Ideal)) (onTc (τ := Cert.UgReferenceIdeal.τ) (Cert.UgReferenceIdeal.main (F := Ideal))) ⟨m', fun _ => 0, g'⟩ (fun r => ∀ c : Dev Cert.UgReferenceIdeal.nD,
          r.2.mem ((c.tc : Thread Cert.UgReferenceIdeal.nD Cert.UgReferenceIdeal.τ).loc Cert.UgReferenceIdeal.main_v23) = v0 c
          ∧ r.2.mem ((c.tc : Thread Cert.UgReferenceIdeal.nD Cert.UgReferenceIdeal.τ).loc Cert.UgReferenceIdeal.main_v4) = v1 c
          ∧ r.2.mem ((c.tc : Thread Cert.UgReferenceIdeal.nD Cert.UgReferenceIdeal.τ).loc Cert.UgReferenceIdeal.main_v10) = v2 c
          ∧ r.2.mem ((c.tc : Thread Cert.UgReferenceIdeal.nD Cert.UgReferenceIdeal.τ).loc Cert.UgReferenceIdeal.main_arg0) = m' ((c.tc : Thread Cert.UgReferenceIdeal.nD Cert.UgReferenceIdeal.τ).loc Cert.UgReferenceIdeal.main_arg0)
          ∧ r.2.mem ((c.tc : Thread Cert.UgReferenceIdeal.nD Cert.UgReferenceIdeal.τ).loc Cert.UgReferenceIdeal.main_arg1) = m' ((c.tc : Thread Cert.UgReferenceIdeal.nD Cert.UgReferenceIdeal.τ).loc Cert.UgReferenceIdeal.main_arg1)
          ∧ r.2.mem ((c.tc : Thread Cert.UgReferenceIdeal.nD Cert.UgReferenceIdeal.τ).loc Cert.UgReferenceIdeal.main_arg2) = m' ((c.tc : Thread Cert.UgReferenceIdeal.nD Cert.UgReferenceIdeal.τ).loc Cert.UgReferenceIdeal.main_arg2)
          ∧ r.2.mem ((c.tc : Thread Cert.UgReferenceIdeal.nD Cert.UgReferenceIdeal.τ).loc Cert.UgReferenceIdeal.main_arg3) = m' ((c.tc : Thread Cert.UgReferenceIdeal.nD Cert.UgReferenceIdeal.τ).loc Cert.UgReferenceIdeal.main_arg3))

def preserves_UhKernel_UhKernelIdeal : Prop :=
  True

def algebraic_UhKernelIdeal_UhReferenceIdeal [hUhKernelIdeal : Cert.UhKernelIdeal.Facts] [hUhReferenceIdeal : Cert.UhReferenceIdeal.Facts] : Prop :=
  ∀ (m : (ℓ : Loc Cert.UhKernelIdeal.nD Cert.UhKernelIdeal.τ Cert.UhKernelIdeal.sig) → Buf (Elt Ideal) ℓ) (g : Dev Cert.UhKernelIdeal.nD → PrngReg)
    (m' : (ℓ : Loc Cert.UhReferenceIdeal.nD Cert.UhReferenceIdeal.τ Cert.UhReferenceIdeal.sig) → Buf (Elt Ideal) ℓ) (g' : Dev Cert.UhReferenceIdeal.nD → PrngReg), Pre_UhKernelIdeal m →
    (∀ c : Dev Cert.UhKernelIdeal.nD,
      m' ((c.tc : Thread Cert.UhReferenceIdeal.nD Cert.UhReferenceIdeal.τ).loc Cert.UhReferenceIdeal.main_arg0) = m ((c.tc : Thread Cert.UhKernelIdeal.nD Cert.UhKernelIdeal.τ).loc Cert.UhKernelIdeal.main_arg0)
      ∧ m' ((c.tc : Thread Cert.UhReferenceIdeal.nD Cert.UhReferenceIdeal.τ).loc Cert.UhReferenceIdeal.main_arg1) = m ((c.tc : Thread Cert.UhKernelIdeal.nD Cert.UhKernelIdeal.τ).loc Cert.UhKernelIdeal.main_arg1)
      ∧ m' ((c.tc : Thread Cert.UhReferenceIdeal.nD Cert.UhReferenceIdeal.τ).loc Cert.UhReferenceIdeal.main_arg2) = m ((c.tc : Thread Cert.UhKernelIdeal.nD Cert.UhKernelIdeal.τ).loc Cert.UhKernelIdeal.main_arg2)
      ∧ m' ((c.tc : Thread Cert.UhReferenceIdeal.nD Cert.UhReferenceIdeal.τ).loc Cert.UhReferenceIdeal.main_arg3) = m ((c.tc : Thread Cert.UhKernelIdeal.nD Cert.UhKernelIdeal.τ).loc Cert.UhKernelIdeal.main_arg3)) →
    ∃ (v0 : (c : Dev Cert.UhKernelIdeal.nD) → Buf (Elt Ideal) ((c.tc : Thread Cert.UhKernelIdeal.nD Cert.UhKernelIdeal.τ).loc Cert.UhKernelIdeal.main_v0_0)) (v1 : (c : Dev Cert.UhKernelIdeal.nD) → Buf (Elt Ideal) ((c.tc : Thread Cert.UhKernelIdeal.nD Cert.UhKernelIdeal.τ).loc Cert.UhKernelIdeal.main_v0_1)) (v2 : (c : Dev Cert.UhKernelIdeal.nD) → Buf (Elt Ideal) ((c.tc : Thread Cert.UhKernelIdeal.nD Cert.UhKernelIdeal.τ).loc Cert.UhKernelIdeal.main_v0_2)),
      θ_run (Cert.UhKernelIdeal.defs (F := Ideal)) (onTc (τ := Cert.UhKernelIdeal.τ) (Cert.UhKernelIdeal.main (F := Ideal))) ⟨m, fun _ => 0, g⟩ (fun r => ∀ c : Dev Cert.UhKernelIdeal.nD,
          r.2.mem ((c.tc : Thread Cert.UhKernelIdeal.nD Cert.UhKernelIdeal.τ).loc Cert.UhKernelIdeal.main_v0_0) = v0 c
          ∧ r.2.mem ((c.tc : Thread Cert.UhKernelIdeal.nD Cert.UhKernelIdeal.τ).loc Cert.UhKernelIdeal.main_v0_1) = v1 c
          ∧ r.2.mem ((c.tc : Thread Cert.UhKernelIdeal.nD Cert.UhKernelIdeal.τ).loc Cert.UhKernelIdeal.main_v0_2) = v2 c
          ∧ r.2.mem ((c.tc : Thread Cert.UhKernelIdeal.nD Cert.UhKernelIdeal.τ).loc Cert.UhKernelIdeal.main_arg0) = m ((c.tc : Thread Cert.UhKernelIdeal.nD Cert.UhKernelIdeal.τ).loc Cert.UhKernelIdeal.main_arg0)
          ∧ r.2.mem ((c.tc : Thread Cert.UhKernelIdeal.nD Cert.UhKernelIdeal.τ).loc Cert.UhKernelIdeal.main_arg1) = m ((c.tc : Thread Cert.UhKernelIdeal.nD Cert.UhKernelIdeal.τ).loc Cert.UhKernelIdeal.main_arg1)
          ∧ r.2.mem ((c.tc : Thread Cert.UhKernelIdeal.nD Cert.UhKernelIdeal.τ).loc Cert.UhKernelIdeal.main_arg2) = m ((c.tc : Thread Cert.UhKernelIdeal.nD Cert.UhKernelIdeal.τ).loc Cert.UhKernelIdeal.main_arg2)
          ∧ r.2.mem ((c.tc : Thread Cert.UhKernelIdeal.nD Cert.UhKernelIdeal.τ).loc Cert.UhKernelIdeal.main_arg3) = m ((c.tc : Thread Cert.UhKernelIdeal.nD Cert.UhKernelIdeal.τ).loc Cert.UhKernelIdeal.main_arg3))
      ∧ θ_run (Cert.UhReferenceIdeal.defs (F := Ideal)) (onTc (τ := Cert.UhReferenceIdeal.τ) (Cert.UhReferenceIdeal.main (F := Ideal))) ⟨m', fun _ => 0, g'⟩ (fun r => ∀ c : Dev Cert.UhReferenceIdeal.nD,
          r.2.mem ((c.tc : Thread Cert.UhReferenceIdeal.nD Cert.UhReferenceIdeal.τ).loc Cert.UhReferenceIdeal.main_v23) = v0 c
          ∧ r.2.mem ((c.tc : Thread Cert.UhReferenceIdeal.nD Cert.UhReferenceIdeal.τ).loc Cert.UhReferenceIdeal.main_v4) = v1 c
          ∧ r.2.mem ((c.tc : Thread Cert.UhReferenceIdeal.nD Cert.UhReferenceIdeal.τ).loc Cert.UhReferenceIdeal.main_v10) = v2 c
          ∧ r.2.mem ((c.tc : Thread Cert.UhReferenceIdeal.nD Cert.UhReferenceIdeal.τ).loc Cert.UhReferenceIdeal.main_arg0) = m' ((c.tc : Thread Cert.UhReferenceIdeal.nD Cert.UhReferenceIdeal.τ).loc Cert.UhReferenceIdeal.main_arg0)
          ∧ r.2.mem ((c.tc : Thread Cert.UhReferenceIdeal.nD Cert.UhReferenceIdeal.τ).loc Cert.UhReferenceIdeal.main_arg1) = m' ((c.tc : Thread Cert.UhReferenceIdeal.nD Cert.UhReferenceIdeal.τ).loc Cert.UhReferenceIdeal.main_arg1)
          ∧ r.2.mem ((c.tc : Thread Cert.UhReferenceIdeal.nD Cert.UhReferenceIdeal.τ).loc Cert.UhReferenceIdeal.main_arg2) = m' ((c.tc : Thread Cert.UhReferenceIdeal.nD Cert.UhReferenceIdeal.τ).loc Cert.UhReferenceIdeal.main_arg2)
          ∧ r.2.mem ((c.tc : Thread Cert.UhReferenceIdeal.nD Cert.UhReferenceIdeal.τ).loc Cert.UhReferenceIdeal.main_arg3) = m' ((c.tc : Thread Cert.UhReferenceIdeal.nD Cert.UhReferenceIdeal.τ).loc Cert.UhReferenceIdeal.main_arg3))

def Claim : Prop :=
  ∃ (hKernel : Cert.Kernel.Facts) (hKernelIdeal : Cert.KernelIdeal.Facts) (hDactKernel : Cert.DactKernel.Facts) (hDactKernelIdeal : Cert.DactKernelIdeal.Facts) (hDactReferenceIdeal : Cert.DactReferenceIdeal.Facts) (hDwoKernel : Cert.DwoKernel.Facts) (hDwoKernelIdeal : Cert.DwoKernelIdeal.Facts) (hDwoReferenceIdeal : Cert.DwoReferenceIdeal.Facts) (hDhKernel : Cert.DhKernel.Facts) (hDhKernelIdeal : Cert.DhKernelIdeal.Facts) (hDhReferenceIdeal : Cert.DhReferenceIdeal.Facts) (hDwiKernel : Cert.DwiKernel.Facts) (hDwiKernelIdeal : Cert.DwiKernelIdeal.Facts) (hDwiReferenceIdeal : Cert.DwiReferenceIdeal.Facts) (hDmKernel : Cert.DmKernel.Facts) (hDmKernelIdeal : Cert.DmKernelIdeal.Facts) (hDmReferenceIdeal : Cert.DmReferenceIdeal.Facts) (hDwmKernel : Cert.DwmKernel.Facts) (hDwmKernelIdeal : Cert.DwmKernelIdeal.Facts) (hDwmReferenceIdeal : Cert.DwmReferenceIdeal.Facts) (hDyaKernel : Cert.DyaKernel.Facts) (hDyaKernelIdeal : Cert.DyaKernelIdeal.Facts) (hDyaReferenceIdeal : Cert.DyaReferenceIdeal.Facts) (hDwaKernel : Cert.DwaKernel.Facts) (hDwaKernelIdeal : Cert.DwaKernelIdeal.Facts) (hDwaReferenceIdeal : Cert.DwaReferenceIdeal.Facts) (hDygKernel : Cert.DygKernel.Facts) (hDygKernelIdeal : Cert.DygKernelIdeal.Facts) (hDygReferenceIdeal : Cert.DygReferenceIdeal.Facts) (hDwgKernel : Cert.DwgKernel.Facts) (hDwgKernelIdeal : Cert.DwgKernelIdeal.Facts) (hDwgReferenceIdeal : Cert.DwgReferenceIdeal.Facts) (hDzKernel : Cert.DzKernel.Facts) (hDzKernelIdeal : Cert.DzKernelIdeal.Facts) (hDzReferenceIdeal : Cert.DzReferenceIdeal.Facts) (hDwzKernel : Cert.DwzKernel.Facts) (hDwzKernelIdeal : Cert.DwzKernelIdeal.Facts) (hDwzReferenceIdeal : Cert.DwzReferenceIdeal.Facts) (hFzKernel : Cert.FzKernel.Facts) (hFzKernelIdeal : Cert.FzKernelIdeal.Facts) (hFzReferenceIdeal : Cert.FzReferenceIdeal.Facts) (hFgKernel : Cert.FgKernel.Facts) (hFgKernelIdeal : Cert.FgKernelIdeal.Facts) (hFgReferenceIdeal : Cert.FgReferenceIdeal.Facts) (hFaKernel : Cert.FaKernel.Facts) (hFaKernelIdeal : Cert.FaKernelIdeal.Facts) (hFaReferenceIdeal : Cert.FaReferenceIdeal.Facts) (hFmKernel : Cert.FmKernel.Facts) (hFmKernelIdeal : Cert.FmKernelIdeal.Facts) (hFmReferenceIdeal : Cert.FmReferenceIdeal.Facts) (hFiKernel : Cert.FiKernel.Facts) (hFiKernelIdeal : Cert.FiKernelIdeal.Facts) (hFiReferenceIdeal : Cert.FiReferenceIdeal.Facts) (hFoKernel : Cert.FoKernel.Facts) (hFoKernelIdeal : Cert.FoKernelIdeal.Facts) (hFoReferenceIdeal : Cert.FoReferenceIdeal.Facts) (hGateKernel : Cert.GateKernel.Facts) (hGateKernelIdeal : Cert.GateKernelIdeal.Facts) (hGateReferenceIdeal : Cert.GateReferenceIdeal.Facts) (hSwbKernel : Cert.SwbKernel.Facts) (hSwbKernelIdeal : Cert.SwbKernelIdeal.Facts) (hSwbReferenceIdeal : Cert.SwbReferenceIdeal.Facts) (hNbKernel : Cert.NbKernel.Facts) (hNbKernelIdeal : Cert.NbKernelIdeal.Facts) (hNbReferenceIdeal : Cert.NbReferenceIdeal.Facts) (hGbKernel : Cert.GbKernel.Facts) (hGbKernelIdeal : Cert.GbKernelIdeal.Facts) (hGbReferenceIdeal : Cert.GbReferenceIdeal.Facts) (hGebKernel : Cert.GebKernel.Facts) (hGebKernelIdeal : Cert.GebKernelIdeal.Facts) (hGebReferenceIdeal : Cert.GebReferenceIdeal.Facts) (hNormKernel : Cert.NormKernel.Facts) (hNormKernelIdeal : Cert.NormKernelIdeal.Facts) (hNormReferenceIdeal : Cert.NormReferenceIdeal.Facts) (hGeluKernel : Cert.GeluKernel.Facts) (hGeluKernelIdeal : Cert.GeluKernelIdeal.Facts) (hGeluReferenceIdeal : Cert.GeluReferenceIdeal.Facts) (hGluKernel : Cert.GluKernel.Facts) (hGluKernelIdeal : Cert.GluKernelIdeal.Facts) (hGluReferenceIdeal : Cert.GluReferenceIdeal.Facts) (hMergeKernel : Cert.MergeKernel.Facts) (hMergeKernelIdeal : Cert.MergeKernelIdeal.Facts) (hMergeReferenceIdeal : Cert.MergeReferenceIdeal.Facts) (hSwfKernel : Cert.SwfKernel.Facts) (hSwfKernelIdeal : Cert.SwfKernelIdeal.Facts) (hSwfReferenceIdeal : Cert.SwfReferenceIdeal.Facts) (hUaKernel : Cert.UaKernel.Facts) (hUaKernelIdeal : Cert.UaKernelIdeal.Facts) (hUaReferenceIdeal : Cert.UaReferenceIdeal.Facts) (hUbKernel : Cert.UbKernel.Facts) (hUbKernelIdeal : Cert.UbKernelIdeal.Facts) (hUbReferenceIdeal : Cert.UbReferenceIdeal.Facts) (hUcKernel : Cert.UcKernel.Facts) (hUcKernelIdeal : Cert.UcKernelIdeal.Facts) (hUcReferenceIdeal : Cert.UcReferenceIdeal.Facts) (hUdKernel : Cert.UdKernel.Facts) (hUdKernelIdeal : Cert.UdKernelIdeal.Facts) (hUdReferenceIdeal : Cert.UdReferenceIdeal.Facts) (hUeKernel : Cert.UeKernel.Facts) (hUeKernelIdeal : Cert.UeKernelIdeal.Facts) (hUeReferenceIdeal : Cert.UeReferenceIdeal.Facts) (hUfKernel : Cert.UfKernel.Facts) (hUfKernelIdeal : Cert.UfKernelIdeal.Facts) (hUfReferenceIdeal : Cert.UfReferenceIdeal.Facts) (hUgKernel : Cert.UgKernel.Facts) (hUgKernelIdeal : Cert.UgKernelIdeal.Facts) (hUgReferenceIdeal : Cert.UgReferenceIdeal.Facts) (hUhKernel : Cert.UhKernel.Facts) (hUhKernelIdeal : Cert.UhKernelIdeal.Facts) (hUhReferenceIdeal : Cert.UhReferenceIdeal.Facts) (hPre_finite_swb : Cert.Pre_finite_swb.Facts),
    quiescent_Kernel (hKernel := hKernel)
    ∧ quiescent_KernelIdeal (hKernelIdeal := hKernelIdeal)
    ∧ quiescent_DactKernel (hDactKernel := hDactKernel)
    ∧ quiescent_DactKernelIdeal (hDactKernelIdeal := hDactKernelIdeal)
    ∧ quiescent_DactReferenceIdeal (hDactReferenceIdeal := hDactReferenceIdeal)
    ∧ quiescent_DwoKernel (hDwoKernel := hDwoKernel)
    ∧ quiescent_DwoKernelIdeal (hDwoKernelIdeal := hDwoKernelIdeal)
    ∧ quiescent_DwoReferenceIdeal (hDwoReferenceIdeal := hDwoReferenceIdeal)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_DwiKernel (hDwiKernel := hDwiKernel)
    ∧ quiescent_DwiKernelIdeal (hDwiKernelIdeal := hDwiKernelIdeal)
    ∧ quiescent_DwiReferenceIdeal (hDwiReferenceIdeal := hDwiReferenceIdeal)
    ∧ quiescent_DmKernel (hDmKernel := hDmKernel)
    ∧ quiescent_DmKernelIdeal (hDmKernelIdeal := hDmKernelIdeal)
    ∧ quiescent_DmReferenceIdeal (hDmReferenceIdeal := hDmReferenceIdeal)
    ∧ quiescent_DwmKernel (hDwmKernel := hDwmKernel)
    ∧ quiescent_DwmKernelIdeal (hDwmKernelIdeal := hDwmKernelIdeal)
    ∧ quiescent_DwmReferenceIdeal (hDwmReferenceIdeal := hDwmReferenceIdeal)
    ∧ quiescent_DyaKernel (hDyaKernel := hDyaKernel)
    ∧ quiescent_DyaKernelIdeal (hDyaKernelIdeal := hDyaKernelIdeal)
    ∧ quiescent_DyaReferenceIdeal (hDyaReferenceIdeal := hDyaReferenceIdeal)
    ∧ quiescent_DwaKernel (hDwaKernel := hDwaKernel)
    ∧ quiescent_DwaKernelIdeal (hDwaKernelIdeal := hDwaKernelIdeal)
    ∧ quiescent_DwaReferenceIdeal (hDwaReferenceIdeal := hDwaReferenceIdeal)
    ∧ quiescent_DygKernel (hDygKernel := hDygKernel)
    ∧ quiescent_DygKernelIdeal (hDygKernelIdeal := hDygKernelIdeal)
    ∧ quiescent_DygReferenceIdeal (hDygReferenceIdeal := hDygReferenceIdeal)
    ∧ quiescent_DwgKernel (hDwgKernel := hDwgKernel)
    ∧ quiescent_DwgKernelIdeal (hDwgKernelIdeal := hDwgKernelIdeal)
    ∧ quiescent_DwgReferenceIdeal (hDwgReferenceIdeal := hDwgReferenceIdeal)
    ∧ quiescent_DzKernel (hDzKernel := hDzKernel)
    ∧ quiescent_DzKernelIdeal (hDzKernelIdeal := hDzKernelIdeal)
    ∧ quiescent_DzReferenceIdeal (hDzReferenceIdeal := hDzReferenceIdeal)
    ∧ quiescent_DwzKernel (hDwzKernel := hDwzKernel)
    ∧ quiescent_DwzKernelIdeal (hDwzKernelIdeal := hDwzKernelIdeal)
    ∧ quiescent_DwzReferenceIdeal (hDwzReferenceIdeal := hDwzReferenceIdeal)
    ∧ quiescent_FzKernel (hFzKernel := hFzKernel)
    ∧ quiescent_FzKernelIdeal (hFzKernelIdeal := hFzKernelIdeal)
    ∧ quiescent_FzReferenceIdeal (hFzReferenceIdeal := hFzReferenceIdeal)
    ∧ quiescent_FgKernel (hFgKernel := hFgKernel)
    ∧ quiescent_FgKernelIdeal (hFgKernelIdeal := hFgKernelIdeal)
    ∧ quiescent_FgReferenceIdeal (hFgReferenceIdeal := hFgReferenceIdeal)
    ∧ quiescent_FaKernel (hFaKernel := hFaKernel)
    ∧ quiescent_FaKernelIdeal (hFaKernelIdeal := hFaKernelIdeal)
    ∧ quiescent_FaReferenceIdeal (hFaReferenceIdeal := hFaReferenceIdeal)
    ∧ quiescent_FmKernel (hFmKernel := hFmKernel)
    ∧ quiescent_FmKernelIdeal (hFmKernelIdeal := hFmKernelIdeal)
    ∧ quiescent_FmReferenceIdeal (hFmReferenceIdeal := hFmReferenceIdeal)
    ∧ quiescent_FiKernel (hFiKernel := hFiKernel)
    ∧ quiescent_FiKernelIdeal (hFiKernelIdeal := hFiKernelIdeal)
    ∧ quiescent_FiReferenceIdeal (hFiReferenceIdeal := hFiReferenceIdeal)
    ∧ quiescent_FoKernel (hFoKernel := hFoKernel)
    ∧ quiescent_FoKernelIdeal (hFoKernelIdeal := hFoKernelIdeal)
    ∧ quiescent_FoReferenceIdeal (hFoReferenceIdeal := hFoReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_SwbKernel (hSwbKernel := hSwbKernel)
    ∧ quiescent_SwbKernelIdeal (hSwbKernelIdeal := hSwbKernelIdeal)
    ∧ quiescent_SwbKernelIdeal_pre_finite_swb (hSwbKernelIdeal := hSwbKernelIdeal) (hPre_finite_swb := hPre_finite_swb)
    ∧ quiescent_SwbReferenceIdeal (hSwbReferenceIdeal := hSwbReferenceIdeal)
    ∧ quiescent_SwbReferenceIdeal_pre_finite_swb (hSwbReferenceIdeal := hSwbReferenceIdeal) (hPre_finite_swb := hPre_finite_swb)
    ∧ quiescent_NbKernel (hNbKernel := hNbKernel)
    ∧ quiescent_NbKernelIdeal (hNbKernelIdeal := hNbKernelIdeal)
    ∧ quiescent_NbReferenceIdeal (hNbReferenceIdeal := hNbReferenceIdeal)
    ∧ quiescent_GbKernel (hGbKernel := hGbKernel)
    ∧ quiescent_GbKernelIdeal (hGbKernelIdeal := hGbKernelIdeal)
    ∧ quiescent_GbReferenceIdeal (hGbReferenceIdeal := hGbReferenceIdeal)
    ∧ quiescent_GebKernel (hGebKernel := hGebKernel)
    ∧ quiescent_GebKernelIdeal (hGebKernelIdeal := hGebKernelIdeal)
    ∧ quiescent_GebReferenceIdeal (hGebReferenceIdeal := hGebReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GeluKernel (hGeluKernel := hGeluKernel)
    ∧ quiescent_GeluKernelIdeal (hGeluKernelIdeal := hGeluKernelIdeal)
    ∧ quiescent_GeluReferenceIdeal (hGeluReferenceIdeal := hGeluReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_SwfKernel (hSwfKernel := hSwfKernel)
    ∧ quiescent_SwfKernelIdeal (hSwfKernelIdeal := hSwfKernelIdeal)
    ∧ quiescent_SwfReferenceIdeal (hSwfReferenceIdeal := hSwfReferenceIdeal)
    ∧ quiescent_UaKernel (hUaKernel := hUaKernel)
    ∧ quiescent_UaKernelIdeal (hUaKernelIdeal := hUaKernelIdeal)
    ∧ quiescent_UaReferenceIdeal (hUaReferenceIdeal := hUaReferenceIdeal)
    ∧ quiescent_UbKernel (hUbKernel := hUbKernel)
    ∧ quiescent_UbKernelIdeal (hUbKernelIdeal := hUbKernelIdeal)
    ∧ quiescent_UbReferenceIdeal (hUbReferenceIdeal := hUbReferenceIdeal)
    ∧ quiescent_UcKernel (hUcKernel := hUcKernel)
    ∧ quiescent_UcKernelIdeal (hUcKernelIdeal := hUcKernelIdeal)
    ∧ quiescent_UcReferenceIdeal (hUcReferenceIdeal := hUcReferenceIdeal)
    ∧ quiescent_UdKernel (hUdKernel := hUdKernel)
    ∧ quiescent_UdKernelIdeal (hUdKernelIdeal := hUdKernelIdeal)
    ∧ quiescent_UdReferenceIdeal (hUdReferenceIdeal := hUdReferenceIdeal)
    ∧ quiescent_UeKernel (hUeKernel := hUeKernel)
    ∧ quiescent_UeKernelIdeal (hUeKernelIdeal := hUeKernelIdeal)
    ∧ quiescent_UeReferenceIdeal (hUeReferenceIdeal := hUeReferenceIdeal)
    ∧ quiescent_UfKernel (hUfKernel := hUfKernel)
    ∧ quiescent_UfKernelIdeal (hUfKernelIdeal := hUfKernelIdeal)
    ∧ quiescent_UfReferenceIdeal (hUfReferenceIdeal := hUfReferenceIdeal)
    ∧ quiescent_UgKernel (hUgKernel := hUgKernel)
    ∧ quiescent_UgKernelIdeal (hUgKernelIdeal := hUgKernelIdeal)
    ∧ quiescent_UgReferenceIdeal (hUgReferenceIdeal := hUgReferenceIdeal)
    ∧ quiescent_UhKernel (hUhKernel := hUhKernel)
    ∧ quiescent_UhKernelIdeal (hUhKernelIdeal := hUhKernelIdeal)
    ∧ quiescent_UhReferenceIdeal (hUhReferenceIdeal := hUhReferenceIdeal)
    ∧ preserves_Kernel_KernelIdeal
    ∧ preserves_DactKernel_DactKernelIdeal
    ∧ algebraic_DactKernelIdeal_DactReferenceIdeal (hDactKernelIdeal := hDactKernelIdeal) (hDactReferenceIdeal := hDactReferenceIdeal)
    ∧ preserves_DwoKernel_DwoKernelIdeal
    ∧ algebraic_DwoKernelIdeal_DwoReferenceIdeal (hDwoKernelIdeal := hDwoKernelIdeal) (hDwoReferenceIdeal := hDwoReferenceIdeal)
    ∧ preserves_DhKernel_DhKernelIdeal
    ∧ algebraic_DhKernelIdeal_DhReferenceIdeal (hDhKernelIdeal := hDhKernelIdeal) (hDhReferenceIdeal := hDhReferenceIdeal)
    ∧ preserves_DwiKernel_DwiKernelIdeal
    ∧ algebraic_DwiKernelIdeal_DwiReferenceIdeal (hDwiKernelIdeal := hDwiKernelIdeal) (hDwiReferenceIdeal := hDwiReferenceIdeal)
    ∧ preserves_DmKernel_DmKernelIdeal
    ∧ algebraic_DmKernelIdeal_DmReferenceIdeal (hDmKernelIdeal := hDmKernelIdeal) (hDmReferenceIdeal := hDmReferenceIdeal)
    ∧ preserves_DwmKernel_DwmKernelIdeal
    ∧ algebraic_DwmKernelIdeal_DwmReferenceIdeal (hDwmKernelIdeal := hDwmKernelIdeal) (hDwmReferenceIdeal := hDwmReferenceIdeal)
    ∧ preserves_DyaKernel_DyaKernelIdeal
    ∧ algebraic_DyaKernelIdeal_DyaReferenceIdeal (hDyaKernelIdeal := hDyaKernelIdeal) (hDyaReferenceIdeal := hDyaReferenceIdeal)
    ∧ preserves_DwaKernel_DwaKernelIdeal
    ∧ algebraic_DwaKernelIdeal_DwaReferenceIdeal (hDwaKernelIdeal := hDwaKernelIdeal) (hDwaReferenceIdeal := hDwaReferenceIdeal)
    ∧ preserves_DygKernel_DygKernelIdeal
    ∧ algebraic_DygKernelIdeal_DygReferenceIdeal (hDygKernelIdeal := hDygKernelIdeal) (hDygReferenceIdeal := hDygReferenceIdeal)
    ∧ preserves_DwgKernel_DwgKernelIdeal
    ∧ algebraic_DwgKernelIdeal_DwgReferenceIdeal (hDwgKernelIdeal := hDwgKernelIdeal) (hDwgReferenceIdeal := hDwgReferenceIdeal)
    ∧ preserves_DzKernel_DzKernelIdeal
    ∧ algebraic_DzKernelIdeal_DzReferenceIdeal (hDzKernelIdeal := hDzKernelIdeal) (hDzReferenceIdeal := hDzReferenceIdeal)
    ∧ preserves_DwzKernel_DwzKernelIdeal
    ∧ algebraic_DwzKernelIdeal_DwzReferenceIdeal (hDwzKernelIdeal := hDwzKernelIdeal) (hDwzReferenceIdeal := hDwzReferenceIdeal)
    ∧ preserves_FzKernel_FzKernelIdeal
    ∧ algebraic_FzKernelIdeal_FzReferenceIdeal (hFzKernelIdeal := hFzKernelIdeal) (hFzReferenceIdeal := hFzReferenceIdeal)
    ∧ preserves_FgKernel_FgKernelIdeal
    ∧ algebraic_FgKernelIdeal_FgReferenceIdeal (hFgKernelIdeal := hFgKernelIdeal) (hFgReferenceIdeal := hFgReferenceIdeal)
    ∧ preserves_FaKernel_FaKernelIdeal
    ∧ algebraic_FaKernelIdeal_FaReferenceIdeal (hFaKernelIdeal := hFaKernelIdeal) (hFaReferenceIdeal := hFaReferenceIdeal)
    ∧ preserves_FmKernel_FmKernelIdeal
    ∧ algebraic_FmKernelIdeal_FmReferenceIdeal (hFmKernelIdeal := hFmKernelIdeal) (hFmReferenceIdeal := hFmReferenceIdeal)
    ∧ preserves_FiKernel_FiKernelIdeal
    ∧ algebraic_FiKernelIdeal_FiReferenceIdeal (hFiKernelIdeal := hFiKernelIdeal) (hFiReferenceIdeal := hFiReferenceIdeal)
    ∧ preserves_FoKernel_FoKernelIdeal
    ∧ algebraic_FoKernelIdeal_FoReferenceIdeal (hFoKernelIdeal := hFoKernelIdeal) (hFoReferenceIdeal := hFoReferenceIdeal)
    ∧ preserves_GateKernel_GateKernelIdeal
    ∧ algebraic_GateKernelIdeal_GateReferenceIdeal (hGateKernelIdeal := hGateKernelIdeal) (hGateReferenceIdeal := hGateReferenceIdeal)
    ∧ preserves_SwbKernel_SwbKernelIdeal
    ∧ algebraic_SwbKernelIdeal_SwbReferenceIdeal_pre_finite_swb (hSwbKernelIdeal := hSwbKernelIdeal) (hSwbReferenceIdeal := hSwbReferenceIdeal) (hPre_finite_swb := hPre_finite_swb)
    ∧ preserves_NbKernel_NbKernelIdeal
    ∧ algebraic_NbKernelIdeal_NbReferenceIdeal (hNbKernelIdeal := hNbKernelIdeal) (hNbReferenceIdeal := hNbReferenceIdeal)
    ∧ preserves_GbKernel_GbKernelIdeal
    ∧ algebraic_GbKernelIdeal_GbReferenceIdeal (hGbKernelIdeal := hGbKernelIdeal) (hGbReferenceIdeal := hGbReferenceIdeal)
    ∧ preserves_GebKernel_GebKernelIdeal
    ∧ algebraic_GebKernelIdeal_GebReferenceIdeal (hGebKernelIdeal := hGebKernelIdeal) (hGebReferenceIdeal := hGebReferenceIdeal)
    ∧ preserves_NormKernel_NormKernelIdeal
    ∧ algebraic_NormKernelIdeal_NormReferenceIdeal (hNormKernelIdeal := hNormKernelIdeal) (hNormReferenceIdeal := hNormReferenceIdeal)
    ∧ preserves_GeluKernel_GeluKernelIdeal
    ∧ algebraic_GeluKernelIdeal_GeluReferenceIdeal (hGeluKernelIdeal := hGeluKernelIdeal) (hGeluReferenceIdeal := hGeluReferenceIdeal)
    ∧ preserves_GluKernel_GluKernelIdeal
    ∧ algebraic_GluKernelIdeal_GluReferenceIdeal (hGluKernelIdeal := hGluKernelIdeal) (hGluReferenceIdeal := hGluReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_SwfKernel_SwfKernelIdeal
    ∧ algebraic_SwfKernelIdeal_SwfReferenceIdeal (hSwfKernelIdeal := hSwfKernelIdeal) (hSwfReferenceIdeal := hSwfReferenceIdeal)
    ∧ preserves_UaKernel_UaKernelIdeal
    ∧ algebraic_UaKernelIdeal_UaReferenceIdeal (hUaKernelIdeal := hUaKernelIdeal) (hUaReferenceIdeal := hUaReferenceIdeal)
    ∧ preserves_UbKernel_UbKernelIdeal
    ∧ algebraic_UbKernelIdeal_UbReferenceIdeal (hUbKernelIdeal := hUbKernelIdeal) (hUbReferenceIdeal := hUbReferenceIdeal)
    ∧ preserves_UcKernel_UcKernelIdeal
    ∧ algebraic_UcKernelIdeal_UcReferenceIdeal (hUcKernelIdeal := hUcKernelIdeal) (hUcReferenceIdeal := hUcReferenceIdeal)
    ∧ preserves_UdKernel_UdKernelIdeal
    ∧ algebraic_UdKernelIdeal_UdReferenceIdeal (hUdKernelIdeal := hUdKernelIdeal) (hUdReferenceIdeal := hUdReferenceIdeal)
    ∧ preserves_UeKernel_UeKernelIdeal
    ∧ algebraic_UeKernelIdeal_UeReferenceIdeal (hUeKernelIdeal := hUeKernelIdeal) (hUeReferenceIdeal := hUeReferenceIdeal)
    ∧ preserves_UfKernel_UfKernelIdeal
    ∧ algebraic_UfKernelIdeal_UfReferenceIdeal (hUfKernelIdeal := hUfKernelIdeal) (hUfReferenceIdeal := hUfReferenceIdeal)
    ∧ preserves_UgKernel_UgKernelIdeal
    ∧ algebraic_UgKernelIdeal_UgReferenceIdeal (hUgKernelIdeal := hUgKernelIdeal) (hUgReferenceIdeal := hUgReferenceIdeal)
    ∧ preserves_UhKernel_UhKernelIdeal
    ∧ algebraic_UhKernelIdeal_UhReferenceIdeal (hUhKernelIdeal := hUhKernelIdeal) (hUhReferenceIdeal := hUhReferenceIdeal)
-- ==== Pre_finite_swb.lean ====
abbrev S4096x11264 : Shape := ⟨2, ![4096, 11264]⟩
abbrev S4096x5632 : Shape := ⟨2, ![4096, 5632]⟩
abbrev S_ : Shape := ⟨0, ![]⟩

class Facts : Prop where
  slices_S4096x11264_S4096x5632_0_5632 : S4096x11264.Slices ![0, 5632] S4096x5632
  bitsLt_bf16_f32 : FTy.bits .bf16 < FTy.bits .f32
  bcast_S_S4096x5632 : S_.BroadcastsInDim S4096x5632 (![] : Fin 0 → Fin S4096x5632.rank)

variable [Facts]

def fn {F : FTy → Type} [FloatOps F] (main_arg0 : FVec F S4096x11264 .bf16) (main_arg1 : FVec F S4096x5632 .bf16) : IVec S4096x5632 1 :=
  let main_v0 : FVec F S4096x5632 .bf16 := (extractStridedSlice S4096x5632 ![0, 5632] · slices_S4096x11264_S4096x5632_0_5632) main_arg0
  let main_v1 : FVec F S4096x5632 .f32 := (extf .f32 · bitsLt_bf16_f32) main_v0
  let main_v2 : FVec F S4096x5632 .f32 := Host.absf main_v1
  let main_cst : FVec F S_ .f32 := constant S_ .f32 0x7F7F0000#32
  let main_v3 : FVec F S4096x5632 .f32 := broadcastInDim S4096x5632 ![] bcast_S_S4096x5632 main_cst
  let main_v4 : IVec S4096x5632 1 := cmpf .ole main_v2 main_v3
  let main_v5 : FVec F S4096x5632 .f32 := (extf .f32 · bitsLt_bf16_f32) main_arg1
  let main_v6 : FVec F S4096x5632 .f32 := Host.absf main_v5
  let main_cst_0 : FVec F S_ .f32 := constant S_ .f32 0x7F7F0000#32
  let main_v7 : FVec F S4096x5632 .f32 := broadcastInDim S4096x5632 ![] bcast_S_S4096x5632 main_cst_0
  let main_v8 : IVec S4096x5632 1 := cmpf .ole main_v6 main_v7
  let main_v9 : IVec S4096x5632 1 := andi main_v4 main_v8
  main_v9
-- ==== Kernel.lean ====
abbrev S4096x6656 : Shape := ⟨2, ![4096, 6656]⟩
abbrev S4096x1024 : Shape := ⟨2, ![4096, 1024]⟩
abbrev S1x64 : Shape := ⟨2, ![1, 64]⟩
abbrev S16 : Shape := ⟨1, ![16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S16x1x1 : Shape := ⟨3, ![16, 1, 1]⟩
abbrev S16x128x256 : Shape := ⟨3, ![16, 128, 256]⟩
abbrev S4x4x1x1 : Shape := ⟨4, ![4, 4, 1, 1]⟩
abbrev S4x4x128x128 : Shape := ⟨4, ![4, 4, 128, 128]⟩
abbrev S16x128 : Shape := ⟨2, ![16, 128]⟩
abbrev S64x1 : Shape := ⟨2, ![64, 1]⟩
abbrev S16x1x128x1 : Shape := ⟨4, ![16, 1, 128, 1]⟩
abbrev S1x64x1x1 : Shape := ⟨4, ![1, 64, 1, 1]⟩
abbrev S16x64x128x1 : Shape := ⟨4, ![16, 64, 128, 1]⟩
abbrev S1024x128 : Shape := ⟨2, ![1024, 128]⟩
abbrev S4x512x256 : Shape := ⟨3, ![4, 512, 256]⟩
abbrev S4x512x128 : Shape := ⟨3, ![4, 512, 128]⟩
abbrev S1x1x1x64 : Shape := ⟨4, ![1, 1, 1, 64]⟩
abbrev S1x1x16x64 : Shape := ⟨4, ![1, 1, 16, 64]⟩
abbrev S1x1024 : Shape := ⟨2, ![1, 1024]⟩
abbrev S1x1x4x64 : Shape := ⟨4, ![1, 1, 4, 64]⟩
abbrev S128x1024 : Shape := ⟨2, ![128, 1024]⟩
abbrev S4x4 : Shape := ⟨2, ![4, 4]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S64x128 : Shape := ⟨2, ![64, 128]⟩
abbrev S1x64x1x128 : Shape := ⟨4, ![1, 64, 1, 128]⟩
abbrev S16x64x1x128 : Shape := ⟨4, ![16, 64, 1, 128]⟩
abbrev S4x64x1x128 : Shape := ⟨4, ![4, 64, 1, 128]⟩
abbrev S256x128 : Shape := ⟨2, ![256, 128]⟩
abbrev S4096x512 : Shape := ⟨2, ![4096, 512]⟩
abbrev S1x16 : Shape := ⟨2, ![1, 16]⟩
abbrev S128x512 : Shape := ⟨2, ![128, 512]⟩
abbrev S512x256 : Shape := ⟨2, ![512, 256]⟩
abbrev S128x128 : Shape := ⟨2, ![128, 128]⟩
abbrev S256x64 : Shape := ⟨2, ![256, 64]⟩
abbrev S128x64 : Shape := ⟨2, ![128, 64]⟩
abbrev S512x64 : Shape := ⟨2, ![512, 64]⟩
abbrev S1x512x256 : Shape := ⟨3, ![1, 512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1024 : Shape := ⟨1, ![1024]⟩
abbrev S8x1024 : Shape := ⟨2, ![8, 1024]⟩
abbrev S8x128 : Shape := ⟨2, ![8, 128]⟩
abbrev S8x256 : Shape := ⟨2, ![8, 256]⟩

abbrev nBuf : Space → Nat
  | .hbm => 121
  | .vmem => 33
  | .smem => 0
  | _ => 0

abbrev bufTy : (tb : Table) → Fin (tcTables nBuf tb) → BufTy
  | .hbm, ⟨0, _⟩ => ⟨S4096x6656, .f32⟩
  | .hbm, ⟨1, _⟩ => ⟨S4096x1024, .bf16⟩
  | .hbm, ⟨2, _⟩ => ⟨S1x64, .f32⟩
  | .hbm, ⟨3, _⟩ => ⟨S1x64, .f32⟩
  | .hbm, ⟨4, _⟩ => ⟨S16, .f32⟩
  | .hbm, ⟨5, _⟩ => ⟨S128, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S1x256, .i32⟩
  | .hbm, ⟨11, _⟩ => ⟨S1x256, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S128x256, .f32⟩
  | .hbm, ⟨16, _⟩ => ⟨S_, .f32⟩
  | .hbm, ⟨17, _⟩ => ⟨S128x256, .f32⟩
  | .hbm, ⟨18, _⟩ => ⟨S128x256, .i1⟩
  | .hbm, ⟨19, _⟩ => ⟨S_, .f32⟩
  | .hbm, ⟨20, _⟩ => ⟨S128x256, .f32⟩
  | .hbm, ⟨21, _⟩ => ⟨S128x256, .i1⟩
  | .hbm, ⟨22, _⟩ => ⟨S128x256, .i1⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S1x128x256, .i1⟩
  | .hbm, ⟨38, _⟩ => ⟨S16x1x1, .f32⟩
  | .hbm, ⟨39, _⟩ => ⟨S16x1x1, .f32⟩
  | .hbm, ⟨40, _⟩ => ⟨S1x128x256, .f32⟩
  | .hbm, ⟨41, _⟩ => ⟨S16x128x256, .f32⟩
  | .hbm, ⟨42, _⟩ => ⟨S16x128x256, .f32⟩
  | .hbm, ⟨43, _⟩ => ⟨S16x128x256, .f32⟩
  | .hbm, ⟨44, _⟩ => ⟨S_, .f32⟩
  | .hbm, ⟨45, _⟩ => ⟨S_, .f32⟩
  | .hbm, ⟨46, _⟩ => ⟨S16x128x256, .i1⟩
  | .hbm, ⟨47, _⟩ => ⟨S16x128x256, .f32⟩
  | .hbm, ⟨48, _⟩ => ⟨S16x128x256, .f32⟩
  | .hbm, ⟨49, _⟩ => ⟨S4x4x1x1, .f32⟩
  | .hbm, ⟨50, _⟩ => ⟨S4x4x128x128, .f32⟩
  | .hbm, ⟨51, _⟩ => ⟨S16x128, .i32⟩
  | .hbm, ⟨52, _⟩ => ⟨S16x128, .i32⟩
  | .hbm, ⟨53, _⟩ => ⟨S_, .i32⟩
  | .hbm, ⟨54, _⟩ => ⟨S16x128, .i32⟩
  | .hbm, ⟨55, _⟩ => ⟨S16x128, .i32⟩
  | .hbm, ⟨56, _⟩ => ⟨S16x128, .i1⟩
  | .hbm, ⟨57, _⟩ => ⟨S16x128, .f32⟩
  | .hbm, ⟨58, _⟩ => ⟨S_, .f32⟩
  | .hbm, ⟨59, _⟩ => ⟨S64x1, .f32⟩
  | .hbm, ⟨60, _⟩ => ⟨S16x1x128x1, .f32⟩
  | .hbm, ⟨61, _⟩ => ⟨S1x64x1x1, .f32⟩
  | .hbm, ⟨62, _⟩ => ⟨S16x64x128x1, .f32⟩
  | .hbm, ⟨63, _⟩ => ⟨S16x64x128x1, .f32⟩
  | .hbm, ⟨64, _⟩ => ⟨S16x64x128x1, .f32⟩
  | .hbm, ⟨65, _⟩ => ⟨S1024x128, .f32⟩
  | .hbm, ⟨66, _⟩ => ⟨S1024x128, .bf16⟩
  | .hbm, ⟨67, _⟩ => ⟨S4x512x256, .f32⟩
  | .hbm, ⟨68, _⟩ => ⟨S4x512x128, .f32⟩
  | .hbm, ⟨69, _⟩ => ⟨S1x1x1x64, .f32⟩
  | .hbm, ⟨70, _⟩ => ⟨S1x1x16x64, .f32⟩
  | .hbm, ⟨71, _⟩ => ⟨S1x1024, .f32⟩
  | .hbm, ⟨72, _⟩ => ⟨S1x1x1x64, .f32⟩
  | .hbm, ⟨73, _⟩ => ⟨S1x1x4x64, .f32⟩
  | .hbm, ⟨74, _⟩ => ⟨S1x256, .f32⟩
  | .hbm, ⟨75, _⟩ => ⟨S128x1024, .bf16⟩
  | .hbm, ⟨76, _⟩ => ⟨S4x4, .i32⟩
  | .hbm, ⟨77, _⟩ => ⟨S4x4, .i32⟩
  | .hbm, ⟨78, _⟩ => ⟨S_, .i32⟩
  | .hbm, ⟨79, _⟩ => ⟨S4x4, .i32⟩
  | .hbm, ⟨80, _⟩ => ⟨S4x4, .i32⟩
  | .hbm, ⟨81, _⟩ => ⟨S4x4, .i1⟩
  | .hbm, ⟨82, _⟩ => ⟨S4x4, .f32⟩
  | .hbm, ⟨83, _⟩ => ⟨S_, .f32⟩
  | .hbm, ⟨84, _⟩ => ⟨S64x64, .f32⟩
  | .hbm, ⟨85, _⟩ => ⟨S4x1x4x1, .f32⟩
  | .hbm, ⟨86, _⟩ => ⟨S1x64x1x64, .f32⟩
  | .hbm, ⟨87, _⟩ => ⟨S4x64x4x64, .f32⟩
  | .hbm, ⟨88, _⟩ => ⟨S4x64x4x64, .f32⟩
  | .hbm, ⟨89, _⟩ => ⟨S4x64x4x64, .f32⟩
  | .hbm, ⟨90, _⟩ => ⟨S256x256, .f32⟩
  | .hbm, ⟨91, _⟩ => ⟨S256x256, .bf16⟩
  | .hbm, ⟨92, _⟩ => ⟨S64x128, .i32⟩
  | .hbm, ⟨93, _⟩ => ⟨S64x128, .i32⟩
  | .hbm, ⟨94, _⟩ => ⟨S_, .i32⟩
  | .hbm, ⟨95, _⟩ => ⟨S64x128, .i32⟩
  | .hbm, ⟨96, _⟩ => ⟨S64x128, .i32⟩
  | .hbm, ⟨97, _⟩ => ⟨S64x128, .i1⟩
  | .hbm, ⟨98, _⟩ => ⟨S64x128, .f32⟩
  | .hbm, ⟨99, _⟩ => ⟨S1x64x1x128, .f32⟩
  | .hbm, ⟨100, _⟩ => ⟨S16x64x1x128, .f32⟩
  | .hbm, ⟨101, _⟩ => ⟨S1024x128, .f32⟩
  | .hbm, ⟨102, _⟩ => ⟨S1024x128, .bf16⟩
  | .hbm, ⟨103, _⟩ => ⟨S64x128, .i32⟩
  | .hbm, ⟨104, _⟩ => ⟨S64x128, .i32⟩
  | .hbm, ⟨105, _⟩ => ⟨S_, .i32⟩
  | .hbm, ⟨106, _⟩ => ⟨S64x128, .i32⟩
  | .hbm, ⟨107, _⟩ => ⟨S64x128, .i32⟩
  | .hbm, ⟨108, _⟩ => ⟨S64x128, .i1⟩
  | .hbm, ⟨109, _⟩ => ⟨S64x128, .f32⟩
  | .hbm, ⟨110, _⟩ => ⟨S1x64x1x128, .f32⟩
  | .hbm, ⟨111, _⟩ => ⟨S4x64x1x128, .f32⟩
  | .hbm, ⟨112, _⟩ => ⟨S256x128, .f32⟩
  | .hbm, ⟨113, _⟩ => ⟨S256x128, .bf16⟩
  | .hbm, ⟨114, _⟩ => ⟨S_, .bf16⟩
  | .hbm, ⟨115, _⟩ => ⟨S256x128, .bf16⟩
  | .hbm, ⟨116, _⟩ => ⟨S4096x1024, .bf16⟩
  | .hbm, ⟨117, _⟩ => ⟨S4096x512, .bf16⟩
  | .hbm, ⟨118, _⟩ => ⟨S1x64, .f32⟩
  | .hbm, ⟨119, _⟩ => ⟨S1x64, .f32⟩
  | .hbm, ⟨120, _⟩ => ⟨S1x16, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .bf16⟩
  | .local _ .vmem, ⟨11, _⟩ => ⟨S128x1024, .bf16⟩
  | .local _ .vmem, ⟨12, _⟩ => ⟨S1x1024, .f32⟩
  | .local _ .vmem, ⟨13, _⟩ => ⟨S1x256, .f32⟩
  | .local _ .vmem, ⟨14, _⟩ => ⟨S4x512x128, .f32⟩
  | .local _ .vmem, ⟨15, _⟩ => ⟨S4x512x256, .f32⟩
  | .local _ .vmem, ⟨16, _⟩ => ⟨S1024x128, .bf16⟩
  | .local _ .vmem, ⟨17, _⟩ => ⟨S128x1024, .bf16⟩
  | .local _ .vmem, ⟨18, _⟩ => ⟨S256x256, .bf16⟩
  | .local _ .vmem, ⟨19, _⟩ => ⟨S1024x128, .bf16⟩
  | .local _ .vmem, ⟨20, _⟩ => ⟨S256x128, .bf16⟩
  | .local _ .vmem, ⟨21, _⟩ => ⟨S256x128, .bf16⟩
  | .local _ .vmem, ⟨22, _⟩ => ⟨S128x1024, .bf16⟩
  | .local _ .vmem, ⟨23, _⟩ => ⟨S128x1024, .bf16⟩
  | .local _ .vmem, ⟨24, _⟩ => ⟨S128x512, .bf16⟩
  | .local _ .vmem, ⟨25, _⟩ => ⟨S128x512, .bf16⟩
  | .local _ .vmem, ⟨26, _⟩ => ⟨S1x64, .f32⟩
  | .local _ .vmem, ⟨27, _⟩ => ⟨S1x64, .f32⟩
  | .local _ .vmem, ⟨28, _⟩ => ⟨S1x16, .f32⟩
  | .local _ .vmem, ⟨29, _⟩ => ⟨S128x512, .f32⟩
  | .local _ .vmem, ⟨30, _⟩ => ⟨S128x1024, .f32⟩
  | .local _ .vmem, ⟨31, _⟩ => ⟨S256x256, .f32⟩
  | .local _ .vmem, ⟨32, _⟩ => ⟨S256x256, .f32⟩
  | _, _ => ⟨S4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_11 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_12 : Ref sig .tc := ⟨.hbm, 114, rfl⟩
abbrev main_v82 : Ref sig .tc := ⟨.hbm, 115, rfl⟩
abbrev main_v83_0 : Ref sig .tc := ⟨.hbm, 116, rfl⟩
abbrev main_v83_1 : Ref sig .tc := ⟨.hbm, 117, rfl⟩
abbrev main_v83_2 : Ref sig .tc := ⟨.hbm, 118, rfl⟩
abbrev main_v83_3 : Ref sig .tc := ⟨.hbm, 119, rfl⟩
abbrev main_v83_4 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem19_0 : DmaSem sig := 27
abbrev cc0_sem20_0 : DmaSem sig := 28

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "mask" => some ⊥
  | _ => none
-- ==== DactKernel.lean ====
abbrev S4096x2048 : Shape := ⟨2, ![4096, 2048]⟩
abbrev S1x1x5632x2048 : Shape := ⟨4, ![1, 1, 5632, 2048]⟩
abbrev S4096x5632 : Shape := ⟨2, ![4096, 5632]⟩
abbrev S1024x2048 : Shape := ⟨2, ![1024, 2048]⟩
abbrev S1x1x1408x2048 : Shape := ⟨4, ![1, 1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x1x5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S4096x2048 : Shape := ⟨2, ![4096, 2048]⟩
abbrev S1x1x5632x2048 : Shape := ⟨4, ![1, 1, 5632, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1x5632x2048, .bf16⟩
  | .hbm, ⟨2, _⟩ => ⟨S5632x2048, .bf16⟩
  | .hbm, ⟨3, _⟩ => ⟨S_, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S4096x5632, .f32⟩
  | .hbm, ⟨9, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwoKernel.lean ====
abbrev S4096x5632 : Shape := ⟨2, ![4096, 5632]⟩
abbrev S4096x2048 : Shape := ⟨2, ![4096, 2048]⟩
abbrev S1x1x5632x2048 : Shape := ⟨4, ![1, 1, 5632, 2048]⟩
abbrev S4096x512 : Shape := ⟨2, ![4096, 512]⟩
abbrev S4096x1024 : Shape := ⟨2, ![4096, 1024]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1x1x5632x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x512x1024, .f32⟩
  | .local _ .vmem, ⟨5, _⟩ => ⟨S1x1x512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S1x1x5632x2048 : Shape := ⟨4, ![1, 1, 5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S1x1x5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DhKernel.lean ====
abbrev S4096x11264 : Shape := ⟨2, ![4096, 11264]⟩
abbrev S4x1x2048x2816 : Shape := ⟨4, ![4, 1, 2048, 2816]⟩
abbrev S4096x2048 : Shape := ⟨2, ![4096, 2048]⟩
abbrev S512x11264 : Shape := ⟨2, ![512, 11264]⟩
abbrev S4x1x512x2816 : Shape := ⟨4, ![4, 1, 512, 2816]⟩
abbrev S512x512 : Shape := ⟨2, ![512, 512]⟩
abbrev S512x1408 : Shape := ⟨2, ![512, 1408]⟩
abbrev S1x1x512x1408 : Shape := ⟨4, ![1, 1, 512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4x1x2048x2816, .bf16⟩
  | .hbm, ⟨2, _⟩ => ⟨S4096x2048, .f32⟩
  | .local _ .vmem, ⟨0, _⟩ => ⟨S512x11264, .bf16⟩
  | .local _ .vmem, ⟨1, _⟩ => ⟨S512x11264, .bf16⟩
  | .local _ .vmem, ⟨2, _⟩ => ⟨S4x1x512x2816, .bf16⟩
  | .local _ .vmem, ⟨3, _⟩ => ⟨S4x1x512x2816, .bf16⟩
  | .local _ .vmem, ⟨4, _⟩ => ⟨S512x512, .f32⟩
  | .local _ .vmem, ⟨5, _⟩ => ⟨S512x512, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DhReferenceIdeal.lean ====
abbrev S4096x11264 : Shape := ⟨2, ![4096, 11264]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x4x2x1408 : Shape := ⟨4, ![4096, 4, 2, 1408]⟩
abbrev S4096x2x4x1408 : Shape := ⟨4, ![4096, 2, 4, 1408]⟩
abbrev S_ : Shape := ⟨0, ![]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4x1x2048x2816, .bf16⟩
  | .hbm, ⟨2, _⟩ => ⟨S4x2048x2816, .bf16⟩
  | .hbm, ⟨3, _⟩ => ⟨S2048x4x2816, .bf16⟩
  | .hbm, ⟨4, _⟩ => ⟨S2048x11264, .bf16⟩
  | .hbm, ⟨5, _⟩ => ⟨S4096x4x2x1408, .bf16⟩
  | .hbm, ⟨6, _⟩ => ⟨S4096x2x4x1408, .bf16⟩
  | .hbm, ⟨7, _⟩ => ⟨S4096x11264, .bf16⟩
  | .hbm, ⟨8, _⟩ => ⟨S_, .f32⟩
  | .hbm, ⟨9, _⟩ => ⟨S4096x2048, .f32⟩
  | .hbm, ⟨10, _⟩ => ⟨S2048x11264, .f32⟩
  | .hbm, ⟨11, _⟩ => ⟨S4096x11264, .f32⟩
  | .hbm, ⟨12, _⟩ => ⟨S4096x11264, .f32⟩
  | .hbm, ⟨13, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwiKernel.lean ====
abbrev S4096x2048 : Shape := ⟨2, ![4096, 2048]⟩
abbrev S4096x11264 : Shape := ⟨2, ![4096, 11264]⟩
abbrev S1x4x2048x2816 : Shape := ⟨4, ![1, 4, 2048, 2816]⟩
abbrev S4096x512 : Shape := ⟨2, ![4096, 512]⟩
abbrev S4096x1408 : Shape := ⟨2, ![4096, 1408]⟩
abbrev S1x1x512x1408 : Shape := ⟨4, ![1, 1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S1x4x2048x2816, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x1x512x1408, .f32⟩
  | .local _ .vmem, ⟨5, _⟩ => ⟨S1x1x512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c2_i32 : BitVec 32 := 2#32
  let v1 : BitVec 32 := Scalar.muli c2_i32 arg1
  let c4_i32_0 : BitVec 32 := 4#32
  let v2 : BitVec 32 := Scalar.subi arg1 c4_i32_0
  let c2_i32_1 : BitVec 32 := 2#32
  let v3 : BitVec 32 := Scalar.muli c2_i32_1 v2
  let c1_i32 : BitVec 32 := 1#32
  let v4 : BitVec 32 := Scalar.addi v3 c1_i32
  let v5 : BitVec 32 := Scalar.select v0 v1 v4
  let c0_i32 : BitVec 32 := 0#32
  ![arg2.toNat, v5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwiReferenceIdeal.lean ====
abbrev S4096x2048 : Shape := ⟨2, ![4096, 2048]⟩
abbrev S4096x11264 : Shape := ⟨2, ![4096, 11264]⟩
abbrev S4096x4x2x1408 : Shape := ⟨4, ![4096, 4, 2, 1408]⟩
abbrev S4096x2x4x1408 : Shape := ⟨4, ![4096, 2, 4, 1408]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S1x4x2048x2816 : Shape := ⟨4, ![1, 4, 2048, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4096x4x2x1408, .bf16⟩
  | .hbm, ⟨3, _⟩ => ⟨S4096x2x4x1408, .bf16⟩
  | .hbm, ⟨4, _⟩ => ⟨S4096x11264, .bf16⟩
  | .hbm, ⟨5, _⟩ => ⟨S_, .f32⟩
  | .hbm, ⟨6, _⟩ => ⟨S2048x11264, .f32⟩
  | .hbm, ⟨7, _⟩ => ⟨S4096x2048, .f32⟩
  | .hbm, ⟨8, _⟩ => ⟨S4096x11264, .f32⟩
  | .hbm, ⟨9, _⟩ => ⟨S4096x11264, .f32⟩
  | .hbm, ⟨10, _⟩ => ⟨S11264x2048, .f32⟩
  | .hbm, ⟨11, _⟩ => ⟨S2048x11264, .f32⟩
  | .hbm, ⟨12, _⟩ => ⟨S2048x4x2816, .f32⟩
  | .hbm, ⟨13, _⟩ => ⟨S4x2048x2816, .f32⟩
  | .hbm, ⟨14, _⟩ => ⟨S1x4x2048x2816, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DmKernel.lean ====
abbrev S4096x2048 : Shape := ⟨2, ![4096, 2048]⟩
abbrev S1x1x2048x2048 : Shape := ⟨4, ![1, 1, 2048, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x1x2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmReferenceIdeal.lean ====
abbrev S4096x2048 : Shape := ⟨2, ![4096, 2048]⟩
abbrev S1x1x2048x2048 : Shape := ⟨4, ![1, 1, 2048, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1x2048x2048, .bf16⟩
  | .hbm, ⟨2, _⟩ => ⟨S2048x2048, .bf16⟩
  | .hbm, ⟨3, _⟩ => ⟨S_, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwmKernel.lean ====
abbrev S4096x2048 : Shape := ⟨2, ![4096, 2048]⟩
abbrev S1x1x2048x2048 : Shape := ⟨4, ![1, 1, 2048, 2048]⟩
abbrev S4096x512 : Shape := ⟨2, ![4096, 512]⟩
abbrev S4096x1024 : Shape := ⟨2, ![4096, 1024]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x1x2048x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x512x1024, .f32⟩
  | .local _ .vmem, ⟨5, _⟩ => ⟨S1x1x512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwmReferenceIdeal.lean ====
abbrev S4096x2048 : Shape := ⟨2, ![4096, 2048]⟩
abbrev S_ : Shape := ⟨0, ![]⟩
abbrev S2048x2048 : Shape := ⟨2, ![2048, 2048]⟩
abbrev S1x1x2048x2048 : Shape := ⟨4, ![1, 1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S1x1x2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DyaKernel.lean ====
abbrev S4096x2048 : Shape := ⟨2, ![4096, 2048]⟩
abbrev S4x1x1024x512 : Shape := ⟨4, ![4, 1, 1024, 512]⟩
abbrev S4096x1024 : Shape := ⟨2, ![4096, 1024]⟩
abbrev S1024x2048 : Shape := ⟨2, ![1024, 2048]⟩
abbrev S1024x1024 : Shape := ⟨2, ![1024, 1024]⟩
abbrev S1024x512 : Shape := ⟨2, ![1024, 512]⟩
abbrev S1x1x1024x512 : Shape := ⟨4, ![1, 1, 1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4x1x1024x512, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S4x1x1024x512, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DyaReferenceIdeal.lean ====
abbrev S4096x2048 : Shape := ⟨2, ![4096, 2048]⟩
abbrev S4x1x1024x512 : Shape := ⟨4, ![4, 1, 1024, 512]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1x1024x512, .bf16⟩
  | .hbm, ⟨2, _⟩ => ⟨S4x1024x512, .bf16⟩
  | .hbm, ⟨3, _⟩ => ⟨S1024x4x512, .bf16⟩
  | .hbm, ⟨4, _⟩ => ⟨S1024x2048, .bf16⟩
  | .hbm, ⟨5, _⟩ => ⟨S_, .f32⟩
  | .hbm, ⟨6, _⟩ => ⟨S4096x1024, .f32⟩
  | .hbm, ⟨7, _⟩ => ⟨S1024x2048, .f32⟩
  | .hbm, ⟨8, _⟩ => ⟨S4096x2048, .f32⟩
  | .hbm, ⟨9, _⟩ => ⟨S4096x2048, .f32⟩
  | .hbm, ⟨10, _⟩ => ⟨S4096x1024, .f32⟩
  | .hbm, ⟨11, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwaKernel.lean ====
abbrev S4096x1024 : Shape := ⟨2, ![4096, 1024]⟩
abbrev S4096x2048 : Shape := ⟨2, ![4096, 2048]⟩
abbrev S1x4x1024x512 : Shape := ⟨4, ![1, 4, 1024, 512]⟩
abbrev S4096x512 : Shape := ⟨2, ![4096, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1x4x1024x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x1x512x512, .f32⟩
  | .local _ .vmem, ⟨5, _⟩ => ⟨S1x1x512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwaReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩
abbrev S1x4x1024x512 : Shape := ⟨4, ![1, 4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S1x4x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DygKernel.lean ====
abbrev S4096x1024 : Shape := ⟨2, ![4096, 1024]⟩
abbrev S1x1x1024x1024 : Shape := ⟨4, ![1, 1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DygReferenceIdeal.lean ====
abbrev S4096x1024 : Shape := ⟨2, ![4096, 1024]⟩
abbrev S1x1x1024x1024 : Shape := ⟨4, ![1, 1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S1024x1024, .bf16⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwgKernel.lean ====
abbrev S4096x1024 : Shape := ⟨2, ![4096, 1024]⟩
abbrev S1x1x1024x1024 : Shape := ⟨4, ![1, 1, 1024, 1024]⟩
abbrev S4096x512 : Shape := ⟨2, ![4096, 512]⟩
abbrev S1x1x512x1024 : Shape := ⟨4, ![1, 1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgReferenceIdeal.lean ====
abbrev S4096x1024 : Shape := ⟨2, ![4096, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DzKernel.lean ====
abbrev S4096x6656 : Shape := ⟨2, ![4096, 6656]⟩
abbrev S4x1x2048x1664 : Shape := ⟨4, ![4, 1, 2048, 1664]⟩
abbrev S4096x2048 : Shape := ⟨2, ![4096, 2048]⟩
abbrev S1024x6656 : Shape := ⟨2, ![1024, 6656]⟩
abbrev S4x1x512x1664 : Shape := ⟨4, ![4, 1, 512, 1664]⟩
abbrev S1024x512 : Shape := ⟨2, ![1024, 512]⟩
abbrev S1024x1664 : Shape := ⟨2, ![1024, 1664]⟩
abbrev S1x1x512x1664 : Shape := ⟨4, ![1, 1, 512, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x6656, .bf16⟩
  | .hbm, ⟨1, _⟩ => ⟨S4x1x2048x1664, .bf16⟩
  | .hbm, ⟨2, _⟩ => ⟨S4096x2048, .f32⟩
  | .local _ .vmem, ⟨0, _⟩ => ⟨S1024x6656, .bf16⟩
  | .local _ .vmem, ⟨1, _⟩ => ⟨S1024x6656, .bf16⟩
  | .local _ .vmem, ⟨2, _⟩ => ⟨S4x1x512x1664, .bf16⟩
  | .local _ .vmem, ⟨3, _⟩ => ⟨S4x1x512x1664, .bf16⟩
  | .local _ .vmem, ⟨4, _⟩ => ⟨S1024x512, .f32⟩
  | .local _ .vmem, ⟨5, _⟩ => ⟨S1024x512, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1x512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DzReferenceIdeal.lean ====
abbrev S4096x6656 : Shape := ⟨2, ![4096, 6656]⟩
abbrev S4x1x2048x1664 : Shape := ⟨4, ![4, 1, 2048, 1664]⟩
abbrev S4x2048x1664 : Shape := ⟨3, ![4, 2048, 1664]⟩
abbrev S2048x4x1664 : Shape := ⟨3, ![2048, 4, 1664]⟩
abbrev S2048x6656 : Shape := ⟨2, ![2048, 6656]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S4x1x2048x1664, .bf16⟩
  | .hbm, ⟨2, _⟩ => ⟨S4x2048x1664, .bf16⟩
  | .hbm, ⟨3, _⟩ => ⟨S2048x4x1664, .bf16⟩
  | .hbm, ⟨4, _⟩ => ⟨S2048x6656, .bf16⟩
  | .hbm, ⟨5, _⟩ => ⟨S_, .f32⟩
  | .hbm, ⟨6, _⟩ => ⟨S4096x2048, .f32⟩
  | .hbm, ⟨7, _⟩ => ⟨S2048x6656, .f32⟩
  | .hbm, ⟨8, _⟩ => ⟨S4096x6656, .f32⟩
  | .hbm, ⟨9, _⟩ => ⟨S4096x6656, .f32⟩
  | .hbm, ⟨10, _⟩ => ⟨S4096x2048, .f32⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwzKernel.lean ====
abbrev S4096x2048 : Shape := ⟨2, ![4096, 2048]⟩
abbrev S4096x6656 : Shape := ⟨2, ![4096, 6656]⟩
abbrev S1x4x2048x1664 : Shape := ⟨4, ![1, 4, 2048, 1664]⟩
abbrev S4096x512 : Shape := ⟨2, ![4096, 512]⟩
abbrev S4096x1664 : Shape := ⟨2, ![4096, 1664]⟩
abbrev S1x1x512x1664 : Shape := ⟨4, ![1, 1, 512, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6656, .bf16⟩
  | .hbm, ⟨2, _⟩ => ⟨S1x4x2048x1664, .f32⟩
  | .local _ .vmem, ⟨0, _⟩ => ⟨S4096x512, .bf16⟩
  | .local _ .vmem, ⟨1, _⟩ => ⟨S4096x512, .bf16⟩
  | .local _ .vmem, ⟨2, _⟩ => ⟨S4096x1664, .bf16⟩
  | .local _ .vmem, ⟨3, _⟩ => ⟨S4096x1664, .bf16⟩
  | .local _ .vmem, ⟨4, _⟩ => ⟨S1x1x512x1664, .f32⟩
  | .local _ .vmem, ⟨5, _⟩ => ⟨S1x1x512x1664, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwzReferenceIdeal.lean ====
abbrev S4096x2048 : Shape := ⟨2, ![4096, 2048]⟩
abbrev S4096x6656 : Shape := ⟨2, ![4096, 6656]⟩
abbrev S_ : Shape := ⟨0, ![]⟩
abbrev S2048x6656 : Shape := ⟨2, ![2048, 6656]⟩
abbrev S6656x2048 : Shape := ⟨2, ![6656, 2048]⟩
abbrev S2048x4x1664 : Shape := ⟨3, ![2048, 4, 1664]⟩
abbrev S4x2048x1664 : Shape := ⟨3, ![4, 2048, 1664]⟩
abbrev S1x4x2048x1664 : Shape := ⟨4, ![1, 4, 2048, 1664]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6656, .bf16⟩
  | .hbm, ⟨2, _⟩ => ⟨S_, .f32⟩
  | .hbm, ⟨3, _⟩ => ⟨S2048x6656, .f32⟩
  | .hbm, ⟨4, _⟩ => ⟨S4096x2048, .f32⟩
  | .hbm, ⟨5, _⟩ => ⟨S4096x6656, .f32⟩
  | .hbm, ⟨6, _⟩ => ⟨S4096x6656, .f32⟩
  | .hbm, ⟨7, _⟩ => ⟨S6656x2048, .f32⟩
  | .hbm, ⟨8, _⟩ => ⟨S2048x6656, .f32⟩
  | .hbm, ⟨9, _⟩ => ⟨S2048x4x1664, .f32⟩
  | .hbm, ⟨10, _⟩ => ⟨S4x2048x1664, .f32⟩
  | .hbm, ⟨11, _⟩ => ⟨S1x4x2048x1664, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FzKernel.lean ====
abbrev S4096x2048 : Shape := ⟨2, ![4096, 2048]⟩
abbrev S4x1x2048x1664 : Shape := ⟨4, ![4, 1, 2048, 1664]⟩
abbrev S4096x6656 : Shape := ⟨2, ![4096, 6656]⟩
abbrev S1024x2048 : Shape := ⟨2, ![1024, 2048]⟩
abbrev S1x1x2048x1664 : Shape := ⟨4, ![1, 1, 2048, 1664]⟩
abbrev S1024x1664 : Shape := ⟨2, ![1024, 1664]⟩
abbrev S2048x1664 : Shape := ⟨2, ![2048, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x1x2048x1664, .bf16⟩
  | .hbm, ⟨2, _⟩ => ⟨S4096x6656, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1664, .bf16⟩
  | .local _ .vmem, ⟨3, _⟩ => ⟨S1x1x2048x1664, .bf16⟩
  | .local _ .vmem, ⟨4, _⟩ => ⟨S1024x1664, .f32⟩
  | .local _ .vmem, ⟨5, _⟩ => ⟨S1024x1664, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FzReferenceIdeal.lean ====
abbrev S4096x2048 : Shape := ⟨2, ![4096, 2048]⟩
abbrev S4x1x2048x1664 : Shape := ⟨4, ![4, 1, 2048, 1664]⟩
abbrev S4x2048x1664 : Shape := ⟨3, ![4, 2048, 1664]⟩
abbrev S2048x4x1664 : Shape := ⟨3, ![2048, 4, 1664]⟩
abbrev S2048x6656 : Shape := ⟨2, ![2048, 6656]⟩
abbrev S4096x6656 : Shape := ⟨2, ![4096, 6656]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1x2048x1664, .bf16⟩
  | .hbm, ⟨2, _⟩ => ⟨S4x2048x1664, .bf16⟩
  | .hbm, ⟨3, _⟩ => ⟨S2048x4x1664, .bf16⟩
  | .hbm, ⟨4, _⟩ => ⟨S2048x6656, .bf16⟩
  | .hbm, ⟨5, _⟩ => ⟨S4096x2048, .f32⟩
  | .hbm, ⟨6, _⟩ => ⟨S2048x6656, .f32⟩
  | .hbm, ⟨7, _⟩ => ⟨S4096x6656, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FgKernel.lean ====
abbrev S4096x1024 : Shape := ⟨2, ![4096, 1024]⟩
abbrev S1x1x1024x1024 : Shape := ⟨4, ![1, 1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FgReferenceIdeal.lean ====
abbrev S4096x1024 : Shape := ⟨2, ![4096, 1024]⟩
abbrev S1x1x1024x1024 : Shape := ⟨4, ![1, 1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S1024x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FaKernel.lean ====
abbrev S4096x1024 : Shape := ⟨2, ![4096, 1024]⟩
abbrev S4x1x1024x512 : Shape := ⟨4, ![4, 1, 1024, 512]⟩
abbrev S4096x2048 : Shape := ⟨2, ![4096, 2048]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x512, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FaReferenceIdeal.lean ====
abbrev S4096x1024 : Shape := ⟨2, ![4096, 1024]⟩
abbrev S4x1x1024x512 : Shape := ⟨4, ![4, 1, 1024, 512]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x512, .bf16⟩
  | .hbm, ⟨2, _⟩ => ⟨S4x1024x512, .bf16⟩
  | .hbm, ⟨3, _⟩ => ⟨S1024x4x512, .bf16⟩
  | .hbm, ⟨4, _⟩ => ⟨S1024x2048, .bf16⟩
  | .hbm, ⟨5, _⟩ => ⟨S4096x1024, .f32⟩
  | .hbm, ⟨6, _⟩ => ⟨S1024x2048, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== FmKernel.lean ====
abbrev S4096x2048 : Shape := ⟨2, ![4096, 2048]⟩
abbrev S1x1x2048x2048 : Shape := ⟨4, ![1, 1, 2048, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x1x2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FmReferenceIdeal.lean ====
abbrev S4096x2048 : Shape := ⟨2, ![4096, 2048]⟩
abbrev S1x1x2048x2048 : Shape := ⟨4, ![1, 1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1x2048x2048, .bf16⟩
  | .hbm, ⟨2, _⟩ => ⟨S4096x2048, .f32⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FiKernel.lean ====
abbrev S4096x2048 : Shape := ⟨2, ![4096, 2048]⟩
abbrev S4x1x2048x2816 : Shape := ⟨4, ![4, 1, 2048, 2816]⟩
abbrev S4096x11264 : Shape := ⟨2, ![4096, 11264]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x1x2048x2816, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FiReferenceIdeal.lean ====
abbrev S4096x2048 : Shape := ⟨2, ![4096, 2048]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1x2048x2816, .bf16⟩
  | .hbm, ⟨2, _⟩ => ⟨S4x2048x2816, .bf16⟩
  | .hbm, ⟨3, _⟩ => ⟨S2048x4x2816, .bf16⟩
  | .hbm, ⟨4, _⟩ => ⟨S2048x11264, .bf16⟩
  | .hbm, ⟨5, _⟩ => ⟨S4096x2048, .f32⟩
  | .hbm, ⟨6, _⟩ => ⟨S2048x11264, .f32⟩
  | .hbm, ⟨7, _⟩ => ⟨S4096x11264, .f32⟩
  | .hbm, ⟨8, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== FoKernel.lean ====
abbrev S4096x5632 : Shape := ⟨2, ![4096, 5632]⟩
abbrev S1x1x5632x2048 : Shape := ⟨4, ![1, 1, 5632, 2048]⟩
abbrev S4096x2048 : Shape := ⟨2, ![4096, 2048]⟩
abbrev S1024x5632 : Shape := ⟨2, ![1024, 5632]⟩
abbrev S1x1x5632x512 : Shape := ⟨4, ![1, 1, 5632, 512]⟩
abbrev S1024x512 : Shape := ⟨2, ![1024, 512]⟩
abbrev S5632x512 : Shape := ⟨2, ![5632, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S1x1x5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x1x5632x512, .bf16⟩
  | .local _ .vmem, ⟨3, _⟩ => ⟨S1x1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FoReferenceIdeal.lean ====
abbrev S4096x5632 : Shape := ⟨2, ![4096, 5632]⟩
abbrev S1x1x5632x2048 : Shape := ⟨4, ![1, 1, 5632, 2048]⟩
abbrev S4096x2048 : Shape := ⟨2, ![4096, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x1x5632x2048, .bf16⟩
  | .hbm, ⟨2, _⟩ => ⟨S4096x2048, .f32⟩
  | .hbm, ⟨3, _⟩ => ⟨S5632x2048, .bf16⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateKernel.lean ====
abbrev S4096x6656 : Shape := ⟨2, ![4096, 6656]⟩
abbrev S1x4096 : Shape := ⟨2, ![1, 4096]⟩
abbrev S4096x2048 : Shape := ⟨2, ![4096, 2048]⟩
abbrev S1x2048 : Shape := ⟨2, ![1, 2048]⟩
abbrev S512x512 : Shape := ⟨2, ![512, 512]⟩
abbrev S1x512 : Shape := ⟨2, ![1, 512]⟩
abbrev S512 : Shape := ⟨1, ![512]⟩

abbrev nBuf : Space → Nat
  | .hbm => 11
  | .vmem => 26
  | .smem => 0
  | _ => 0

abbrev bufTy : (tb : Table) → Fin (tcTables nBuf tb) → BufTy
  | .hbm, ⟨0, _⟩ => ⟨S4096x6656, .f32⟩
  | .hbm, ⟨1, _⟩ => ⟨S1x4096, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S1x2048, .f32⟩
  | .hbm, ⟨10, _⟩ => ⟨S1x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GateReferenceIdeal.lean ====
abbrev S4096x6656 : Shape := ⟨2, ![4096, 6656]⟩
abbrev S1x4096 : Shape := ⟨2, ![1, 4096]⟩
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 59
  | .vmem => 0
  | .smem => 0
  | _ => 0

abbrev bufTy : (tb : Table) → Fin (tcTables nBuf tb) → BufTy
  | .hbm, ⟨0, _⟩ => ⟨S4096x6656, .f32⟩
  | .hbm, ⟨1, _⟩ => ⟨S1x4096, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x2048, .bf16⟩
  | .hbm, ⟨56, _⟩ => ⟨S4096x2048, .bf16⟩
  | .hbm, ⟨57, _⟩ => ⟨S4096x2048, .bf16⟩
  | .hbm, ⟨58, _⟩ => ⟨S4096x2048, .bf16⟩
  | _, _ => ⟨S4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== SwbKernel.lean ====
abbrev S4096x11264 : Shape := ⟨2, ![4096, 11264]⟩
abbrev S4096x5632 : Shape := ⟨2, ![4096, 5632]⟩
abbrev S256x1408 : Shape := ⟨2, ![256, 1408]⟩
abbrev S256x2816 : Shape := ⟨2, ![256, 2816]⟩

abbrev nBuf : Space → Nat
  | .hbm => 3
  | .vmem => 8
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .hbm, ⟨2, _⟩ => ⟨S4096x11264, .bf16⟩
  | .local _ .vmem, ⟨0, _⟩ => ⟨S256x1408, .bf16⟩
  | .local _ .vmem, ⟨1, _⟩ => ⟨S256x1408, .bf16⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | .local _ .vmem, ⟨6, _⟩ => ⟨S256x2816, .bf16⟩
  | .local _ .vmem, ⟨7, _⟩ => ⟨S256x2816, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwbReferenceIdeal.lean ====
abbrev S4096x11264 : Shape := ⟨2, ![4096, 11264]⟩
abbrev S4096x5632 : Shape := ⟨2, ![4096, 5632]⟩
abbrev S_ : Shape := ⟨0, ![]⟩
abbrev S4096x2x4x1408 : Shape := ⟨4, ![4096, 2, 4, 1408]⟩
abbrev S4096x4x2x1408 : Shape := ⟨4, ![4096, 4, 2, 1408]⟩

abbrev nBuf : Space → Nat
  | .hbm => 35
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .hbm, ⟨2, _⟩ => ⟨S4096x11264, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x11264, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S_, .f32⟩
  | .hbm, ⟨29, _⟩ => ⟨S4096x11264, .f32⟩
  | .hbm, ⟨30, _⟩ => ⟨S4096x11264, .f32⟩
  | .hbm, ⟨31, _⟩ => ⟨S4096x2x4x1408, .f32⟩
  | .hbm, ⟨32, _⟩ => ⟨S4096x4x2x1408, .f32⟩
  | .hbm, ⟨33, _⟩ => ⟨S4096x11264, .f32⟩
  | .hbm, ⟨34, _⟩ => ⟨S4096x11264, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== NbKernel.lean ====
abbrev S4096x2048 : Shape := ⟨2, ![4096, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== NbReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== GbKernel.lean ====
abbrev S4096x1024 : Shape := ⟨2, ![4096, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== GbReferenceIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== GebKernel.lean ====
abbrev S4096x1024 : Shape := ⟨2, ![4096, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GebReferenceIdeal.lean ====
abbrev S4096x1024 : Shape := ⟨2, ![4096, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== NormKernel.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GeluKernel.lean ====
abbrev S4096x1024 : Shape := ⟨2, ![4096, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== GeluReferenceIdeal.lean ====
abbrev S4096x1024 : Shape := ⟨2, ![4096, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GluKernel.lean ====
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluReferenceIdeal.lean ====
abbrev S4096x1024 : Shape := ⟨2, ![4096, 1024]⟩
abbrev S1x1024 : Shape := ⟨2, ![1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== MergeKernel.lean ====
abbrev S4096x6656 : Shape := ⟨2, ![4096, 6656]⟩
abbrev S1x4096 : Shape := ⟨2, ![1, 4096]⟩
abbrev S4096x2048 : Shape := ⟨2, ![4096, 2048]⟩
abbrev S1024x512 : Shape := ⟨2, ![1024, 512]⟩
abbrev S1x512 : Shape := ⟨2, ![1, 512]⟩

abbrev nBuf : Space → Nat
  | .hbm => 5
  | .vmem => 14
  | .smem => 0
  | _ => 0

abbrev bufTy : (tb : Table) → Fin (tcTables nBuf tb) → BufTy
  | .hbm, ⟨0, _⟩ => ⟨S4096x6656, .f32⟩
  | .hbm, ⟨1, _⟩ => ⟨S1x4096, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S4096x6656 : Shape := ⟨2, ![4096, 6656]⟩
abbrev S1x4096 : Shape := ⟨2, ![1, 4096]⟩
abbrev S4096x2048 : Shape := ⟨2, ![4096, 2048]⟩
abbrev S1x2048 : Shape := ⟨2, ![1, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x6656, .f32⟩
  | .hbm, ⟨1, _⟩ => ⟨S1x4096, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== SwfKernel.lean ====
abbrev S4096x11264 : Shape := ⟨2, ![4096, 11264]⟩
abbrev S4096x5632 : Shape := ⟨2, ![4096, 5632]⟩
abbrev S512x1408 : Shape := ⟨2, ![512, 1408]⟩

abbrev nBuf : Space → Nat
  | .hbm => 2
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwfReferenceIdeal.lean ====
abbrev S4096x11264 : Shape := ⟨2, ![4096, 11264]⟩
abbrev S4096x5632 : Shape := ⟨2, ![4096, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S_, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== UaKernel.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UaKernelIdeal.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UaReferenceIdeal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UbKernel.lean ====
abbrev S2x4096 : Shape := ⟨2, ![2, 4096]⟩

abbrev nBuf : Space → Nat
  | .hbm => 7
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S2x4096, .f32⟩
  | .hbm, ⟨2, _⟩ => ⟨S2x4096, .f32⟩
  | .hbm, ⟨3, _⟩ => ⟨S2x4096, .f32⟩
  | .hbm, ⟨4, _⟩ => ⟨S2x4096, .f32⟩
  | .hbm, ⟨5, _⟩ => ⟨S2x4096, .f32⟩
  | .hbm, ⟨6, _⟩ => ⟨S2x4096, .f32⟩
  | .local _ .vmem, ⟨0, _⟩ => ⟨S2x4096, .f32⟩
  | .local _ .vmem, ⟨1, _⟩ => ⟨S2x4096, .f32⟩
  | .local _ .vmem, ⟨2, _⟩ => ⟨S2x4096, .f32⟩
  | .local _ .vmem, ⟨3, _⟩ => ⟨S2x4096, .f32⟩
  | .local _ .vmem, ⟨4, _⟩ => ⟨S2x4096, .f32⟩
  | .local _ .vmem, ⟨5, _⟩ => ⟨S2x4096, .f32⟩
  | .local _ .vmem, ⟨6, _⟩ => ⟨S2x4096, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UbKernelIdeal.lean ====
abbrev S2x4096 : Shape := ⟨2, ![2, 4096]⟩

abbrev nBuf : Space → Nat
  | .hbm => 7
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S2x4096, .f32⟩
  | .hbm, ⟨2, _⟩ => ⟨S2x4096, .f32⟩
  | .hbm, ⟨3, _⟩ => ⟨S2x4096, .f32⟩
  | .hbm, ⟨4, _⟩ => ⟨S2x4096, .f32⟩
  | .hbm, ⟨5, _⟩ => ⟨S2x4096, .f32⟩
  | .hbm, ⟨6, _⟩ => ⟨S2x4096, .f32⟩
  | .local _ .vmem, ⟨0, _⟩ => ⟨S2x4096, .f32⟩
  | .local _ .vmem, ⟨1, _⟩ => ⟨S2x4096, .f32⟩
  | .local _ .vmem, ⟨2, _⟩ => ⟨S2x4096, .f32⟩
  | .local _ .vmem, ⟨3, _⟩ => ⟨S2x4096, .f32⟩
  | .local _ .vmem, ⟨4, _⟩ => ⟨S2x4096, .f32⟩
  | .local _ .vmem, ⟨5, _⟩ => ⟨S2x4096, .f32⟩
  | .local _ .vmem, ⟨6, _⟩ => ⟨S2x4096, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UbReferenceIdeal.lean ====
abbrev S2x4096 : Shape := ⟨2, ![2, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096, .f32⟩
  | .hbm, ⟨2, _⟩ => ⟨S2x4096, .f32⟩
  | .hbm, ⟨3, _⟩ => ⟨S2x4096, .f32⟩
  | .hbm, ⟨4, _⟩ => ⟨S_, .f32⟩
  | .hbm, ⟨5, _⟩ => ⟨S2x4096, .f32⟩
  | .hbm, ⟨6, _⟩ => ⟨S2x4096, .f32⟩
  | .hbm, ⟨7, _⟩ => ⟨S_, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S_, .f32⟩
  | .hbm, ⟨12, _⟩ => ⟨S2x4096, .f32⟩
  | .hbm, ⟨13, _⟩ => ⟨S2x4096, .f32⟩
  | .hbm, ⟨14, _⟩ => ⟨S2x4096, .f32⟩
  | .hbm, ⟨15, _⟩ => ⟨S_, .f32⟩
  | .hbm, ⟨16, _⟩ => ⟨S2x4096, .f32⟩
  | .hbm, ⟨17, _⟩ => ⟨S2x4096, .f32⟩
  | .hbm, ⟨18, _⟩ => ⟨S2x4096, .f32⟩
  | .hbm, ⟨19, _⟩ => ⟨S_, .f32⟩
  | .hbm, ⟨20, _⟩ => ⟨S2x4096, .f32⟩
  | .hbm, ⟨21, _⟩ => ⟨S2x4096, .f32⟩
  | .hbm, ⟨22, _⟩ => ⟨S_, .f32⟩
  | .hbm, ⟨23, _⟩ => ⟨S2x4096, .f32⟩
  | .hbm, ⟨24, _⟩ => ⟨S2x4096, .f32⟩
  | .hbm, ⟨25, _⟩ => ⟨S2x4096, .f32⟩
  | .hbm, ⟨26, _⟩ => ⟨S_, .f32⟩
  | .hbm, ⟨27, _⟩ => ⟨S2x4096, .f32⟩
  | .hbm, ⟨28, _⟩ => ⟨S2x4096, .f32⟩
  | .hbm, ⟨29, _⟩ => ⟨S2x4096, .f32⟩
  | .hbm, ⟨30, _⟩ => ⟨S_, .f32⟩
  | .hbm, ⟨31, _⟩ => ⟨S2x4096, .f32⟩
  | .hbm, ⟨32, _⟩ => ⟨S2x4096, .f32⟩
  | .hbm, ⟨33, _⟩ => ⟨S2x4096, .f32⟩
  | .hbm, ⟨34, _⟩ => ⟨S_, .f32⟩
  | .hbm, ⟨35, _⟩ => ⟨S2x4096, .f32⟩
  | .hbm, ⟨36, _⟩ => ⟨S2x4096, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UcKernel.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UcKernelIdeal.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UcReferenceIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UdKernel.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UdKernelIdeal.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UdReferenceIdeal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UeKernel.lean ====
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UeKernelIdeal.lean ====
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UeReferenceIdeal.lean ====
abbrev S128x64 : Shape := ⟨2, ![128, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S_, .f32⟩
  | .hbm, ⟨5, _⟩ => ⟨S128x64, .f32⟩
  | .hbm, ⟨6, _⟩ => ⟨S128x64, .f32⟩
  | .hbm, ⟨7, _⟩ => ⟨S_, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S_, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S_, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S_, .f32⟩
  | .hbm, ⟨20, _⟩ => ⟨S128x64, .f32⟩
  | .hbm, ⟨21, _⟩ => ⟨S128x64, .f32⟩
  | .hbm, ⟨22, _⟩ => ⟨S_, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S_, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S_, .f32⟩
  | .hbm, ⟨35, _⟩ => ⟨S128x64, .f32⟩
  | .hbm, ⟨36, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UfKernel.lean ====
abbrev S8192x16 : Shape := ⟨2, ![8192, 16]⟩
abbrev S1024x16 : Shape := ⟨2, ![1024, 16]⟩

abbrev nBuf : Space → Nat
  | .hbm => 7
  | .vmem => 14
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S8192x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UfKernelIdeal.lean ====
abbrev S8192x16 : Shape := ⟨2, ![8192, 16]⟩
abbrev S1024x16 : Shape := ⟨2, ![1024, 16]⟩

abbrev nBuf : Space → Nat
  | .hbm => 7
  | .vmem => 14
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S8192x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UfReferenceIdeal.lean ====
abbrev S8192x16 : Shape := ⟨2, ![8192, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S_, .f32⟩
  | .hbm, ⟨5, _⟩ => ⟨S8192x16, .f32⟩
  | .hbm, ⟨6, _⟩ => ⟨S8192x16, .f32⟩
  | .hbm, ⟨7, _⟩ => ⟨S_, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S_, .f32⟩
  | .hbm, ⟨12, _⟩ => ⟨S8192x16, .f32⟩
  | .hbm, ⟨13, _⟩ => ⟨S8192x16, .f32⟩
  | .hbm, ⟨14, _⟩ => ⟨S8192x16, .f32⟩
  | .hbm, ⟨15, _⟩ => ⟨S_, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S_, .f32⟩
  | .hbm, ⟨20, _⟩ => ⟨S8192x16, .f32⟩
  | .hbm, ⟨21, _⟩ => ⟨S8192x16, .f32⟩
  | .hbm, ⟨22, _⟩ => ⟨S_, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S_, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S_, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S_, .f32⟩
  | .hbm, ⟨35, _⟩ => ⟨S8192x16, .f32⟩
  | .hbm, ⟨36, _⟩ => ⟨S8192x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UgKernel.lean ====
abbrev S2048x64 : Shape := ⟨2, ![2048, 64]⟩
abbrev S1024x64 : Shape := ⟨2, ![1024, 64]⟩

abbrev nBuf : Space → Nat
  | .hbm => 7
  | .vmem => 14
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UgKernelIdeal.lean ====
abbrev S2048x64 : Shape := ⟨2, ![2048, 64]⟩
abbrev S1024x64 : Shape := ⟨2, ![1024, 64]⟩

abbrev nBuf : Space → Nat
  | .hbm => 7
  | .vmem => 14
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UgReferenceIdeal.lean ====
abbrev S2048x64 : Shape := ⟨2, ![2048, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S2048x64, .f32⟩
  | .hbm, ⟨6, _⟩ => ⟨S2048x64, .f32⟩
  | .hbm, ⟨7, _⟩ => ⟨S_, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S_, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S_, .f32⟩
  | .hbm, ⟨20, _⟩ => ⟨S2048x64, .f32⟩
  | .hbm, ⟨21, _⟩ => ⟨S2048x64, .f32⟩
  | .hbm, ⟨22, _⟩ => ⟨S_, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S_, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S_, .f32⟩
  | .hbm, ⟨35, _⟩ => ⟨S2048x64, .f32⟩
  | .hbm, ⟨36, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UhKernel.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== UhReferenceIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.KFrame.Runs.lean ====
/- What the runs of the kernel's body share: the contents of the arrays when the region is entered, the branch conditions
   in closed form over the 33 grid points, and the staging and scratch buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- the blocks' long axes are walked one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is of the clipped KIND (its block does not tile its array `S4096x6656`), but no block the grid
    reaches is cut, so no part of its staging buffer is left unfilled by a fetch. A default for such a part, which
    nothing reads. -/
def dflt0_0 : (cfg0.win 0).block.Idx → Elt F (cfg0.win 0).elt := fun _ => Classical.choice inferInstance
/-- What input window 0's current staging buffer holds when the body runs at `t`: its block read off the array,
    filled over `dflt0_0` (block-typed, where `iblk` is typed at the cut). -/
def X0_0 (c : Dev nD) (t : Fin cfg0.N) : (cfg0.win 0).block.Idx → Elt F (cfg0.win 0).elt :=
  (cfg0.win 0).fill (cfg0.grid.coords t) dflt0_0 (iblk m c 0 t)
/-- At every point the cut's extent is the block's, decided over the grid: no transfer of input window 0 is cut. -/
theorem xsize0_0 : ∀ t : Fin cfg0.N, ∀ a, (cfg0.win 0).xsize (cfg0.grid.coords t) a = (cfg0.win 0).size a := by decide +kernel
/-- Every index of input window 0's block is moved at every point. -/
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
/-- A fill of input window 0's block covers the whole buffer, whatever it held. -/
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- Input window 0's current staging buffer holds `X0_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_0`). -/
theorem before0_0_of {c : Dev nD} (dat : Dat τ (Elt F) Unit ℕ (UR sig nD τ) ℕ cfg0 c) (hA : dat.A 0 = V m c (Pipeline.arrRef spec0 0))
    (hafter : ∀ t, dat.after 0 t = X0_0 m c t) (t : Fin cfg0.N) (d) : dat.before 0 t d = X0_0 m c t :=
  (dat.before_in_eq_fetched 0 rfl (fun _ => rfl)
      (fun t t' h => funext fun a => congrArg (fun n => Pipeline.Clip.of n ((cfg0.win 0).size a) (S4096x6656.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 4 rfl).trans ((hA c 4).trans (V_main_arg0 m c)),
      (Pipeline.RDat.FramePost.arr_in h c 5 rfl).trans ((hA c 5).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin cfg0.N, cond0_1 (grid0.coords t) ↔ t.val < 32 :=
  (by decide +kernel : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x512x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x64 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x64 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x16 .f32 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S128x512 .f32 := Memref.whole cc0_scratch0
abbrev scM0_1 : Memref sig .tc .vmem S128x1024 .f32 := Memref.whole cc0_scratch1
abbrev scM0_2 : Memref sig .tc .vmem S256x256 .f32 := Memref.whole cc0_scratch2
abbrev scM0_3 : Memref sig .tc .vmem S256x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KFrame.RunA.lean ====
/- The run of the kernel's body at the first grid point. -/
module

public import proofs.«01_k».proof.Proof.KFrame.Runs

@[expose] public section

-- the blocks' long axes are walked one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE A (`scf.if` 0 taken, `scf.if` 1 taken, `scf.if` 2 not taken: points 0): on whole staging memrefs — the inputs' at their contents,
    the FORGOTTEN outputs' (16, 17, 18, 19, 20) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x256 .f32) (harg8 : arg8.IsWhole) (arg9 : Memref sig .tc .vmem S4x512x128 .f32) (harg9 : arg9.IsWhole) (arg10 : Memref sig .tc .vmem S4x512x256 .f32) (harg10 : arg10.IsWhole) (arg11 : Memref sig .tc .vmem S1024x128 .bf16) (harg11 : arg11.IsWhole) (arg12 : Memref sig .tc .vmem S128x1024 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S128x1024 .bf16) (harg17 : arg17.IsWhole) (arg18 : Memref sig .tc .vmem S128x512 .bf16) (harg18 : arg18.IsWhole) (arg19 : Memref sig .tc .vmem S1x64 .f32) (harg19 : arg19.IsWhole) (arg20 : Memref sig .tc .vmem S1x64 .f32) (harg20 : arg20.IsWhole) (arg21 : Memref sig .tc .vmem S1x16 .f32) (harg21 : arg21.IsWhole) (arg22 : Memref sig .tc .vmem S128x512 .f32) (harg22 : arg22.IsWhole) (arg23 : Memref sig .tc .vmem S128x1024 .f32) (harg23 : arg23.IsWhole) (arg24 : Memref sig .tc .vmem S256x256 .f32) (harg24 : arg24.IsWhole) (arg25 : Memref sig .tc .vmem S256x256 .f32) (harg25 : arg25.IsWhole) (hc0 : cond0_0 i) (hc1 : cond0_1 i) (hc2 : ¬cond0_2 i)
    (x0 : Vec F S128x1024 .f32) (x1 : Vec F S128x256 .f32) (x2 : Vec F S128x256 .f32) (x3 : Vec F S128x256 .f32) (x4 : Vec F S128x256 .f32) (x5 : Vec F S128x1024 .bf16) (x6 : Vec F S1x1024 .f32) (x7 : Vec F S1x256 .f32) (x8 : Vec F S4x512x128 .f32) (x9 : Vec F S4x512x256 .f32) (x10 : Vec F S1024x128 .bf16) (x11 : Vec F S128x1024 .bf16) (x12 : Vec F S256x256 .bf16) (x13 : Vec F S1024x128 .bf16) (x14 : Vec F S256x128 .bf16) (x15 : Vec F S256x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KFrame.RunB.lean ====
/- The run of the kernel's body at the grid points 1 to 31. -/
module

public import proofs.«01_k».proof.Proof.KFrame.RunA

@[expose] public section

-- the blocks' long axes are walked one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE B (`scf.if` 0 not taken, `scf.if` 1 taken, `scf.if` 2 not taken: points 1, 2, … 31: 31 of 33): on whole staging memrefs — the inputs' at their contents,
    the FORGOTTEN outputs' (16, 17, 18, 19, 20) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x256 .f32) (harg8 : arg8.IsWhole) (arg9 : Memref sig .tc .vmem S4x512x128 .f32) (harg9 : arg9.IsWhole) (arg10 : Memref sig .tc .vmem S4x512x256 .f32) (harg10 : arg10.IsWhole) (arg11 : Memref sig .tc .vmem S1024x128 .bf16) (harg11 : arg11.IsWhole) (arg12 : Memref sig .tc .vmem S128x1024 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S128x1024 .bf16) (harg17 : arg17.IsWhole) (arg18 : Memref sig .tc .vmem S128x512 .bf16) (harg18 : arg18.IsWhole) (arg19 : Memref sig .tc .vmem S1x64 .f32) (harg19 : arg19.IsWhole) (arg20 : Memref sig .tc .vmem S1x64 .f32) (harg20 : arg20.IsWhole) (arg21 : Memref sig .tc .vmem S1x16 .f32) (harg21 : arg21.IsWhole) (arg22 : Memref sig .tc .vmem S128x512 .f32) (harg22 : arg22.IsWhole) (arg23 : Memref sig .tc .vmem S128x1024 .f32) (harg23 : arg23.IsWhole) (arg24 : Memref sig .tc .vmem S256x256 .f32) (harg24 : arg24.IsWhole) (arg25 : Memref sig .tc .vmem S256x256 .f32) (harg25 : arg25.IsWhole) (hc0 : ¬cond0_0 i) (hc1 : cond0_1 i) (hc2 : ¬cond0_2 i)
    (x0 : Vec F S128x1024 .f32) (x1 : Vec F S128x256 .f32) (x2 : Vec F S128x256 .f32) (x3 : Vec F S128x256 .f32) (x4 : Vec F S128x256 .f32) (x5 : Vec F S128x1024 .bf16) (x6 : Vec F S1x1024 .f32) (x7 : Vec F S1x256 .f32) (x8 : Vec F S4x512x128 .f32) (x9 : Vec F S4x512x256 .f32) (x10 : Vec F S1024x128 .bf16) (x11 : Vec F S128x1024 .bf16) (x12 : Vec F S256x256 .bf16) (x13 : Vec F S1024x128 .bf16) (x14 : Vec F S256x128 .bf16) (x15 : Vec F S256x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KFrame.RunC.lean ====
/- The run of the kernel's body at the last grid point. -/
module

public import proofs.«01_k».proof.Proof.KFrame.RunB

@[expose] public section

-- the blocks' long axes are walked one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE C (`scf.if` 0 not taken, `scf.if` 1 not taken, `scf.if` 2 taken: points 32): on whole staging memrefs — the inputs' at their contents,
    the FORGOTTEN outputs' (16, 17, 18, 19, 20) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x256 .f32) (harg8 : arg8.IsWhole) (arg9 : Memref sig .tc .vmem S4x512x128 .f32) (harg9 : arg9.IsWhole) (arg10 : Memref sig .tc .vmem S4x512x256 .f32) (harg10 : arg10.IsWhole) (arg11 : Memref sig .tc .vmem S1024x128 .bf16) (harg11 : arg11.IsWhole) (arg12 : Memref sig .tc .vmem S128x1024 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S128x1024 .bf16) (harg17 : arg17.IsWhole) (arg18 : Memref sig .tc .vmem S128x512 .bf16) (harg18 : arg18.IsWhole) (arg19 : Memref sig .tc .vmem S1x64 .f32) (harg19 : arg19.IsWhole) (arg20 : Memref sig .tc .vmem S1x64 .f32) (harg20 : arg20.IsWhole) (arg21 : Memref sig .tc .vmem S1x16 .f32) (harg21 : arg21.IsWhole) (arg22 : Memref sig .tc .vmem S128x512 .f32) (harg22 : arg22.IsWhole) (arg23 : Memref sig .tc .vmem S128x1024 .f32) (harg23 : arg23.IsWhole) (arg24 : Memref sig .tc .vmem S256x256 .f32) (harg24 : arg24.IsWhole) (arg25 : Memref sig .tc .vmem S256x256 .f32) (harg25 : arg25.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .bf16) (x6 : Vec F S1x1024 .f32) (x7 : Vec F S1x256 .f32) (x8 : Vec F S4x512x128 .f32) (x9 : Vec F S4x512x256 .f32) (x10 : Vec F S1024x128 .bf16) (x11 : Vec F S128x1024 .bf16) (x12 : Vec F S256x256 .bf16) (x13 : Vec F S1024x128 .bf16) (x14 : Vec F S256x128 .bf16) (x15 : Vec F S256x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KFrame.Frame.lean ====
/- The frame of the kernel over the machine's words: the contents of its outputs are not named. -/
module

public import proofs.«01_k».proof.Proof.KFrame.RunC
public import Idealize.ShloMosaic.Lib.Claim

@[expose] public section

-- the blocks' long axes are walked one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (16, 17, 18, 19, 20): nothing reads what the kernel leaves in them, so nothing
    of it is named (Lib/Pipeline/Dat.lean `Dat.toRForget`). -/
def forgets0 : Fin 21 → Bool := fun w => w.val == 16 || w.val == 17 || w.val == 18 || w.val == 19 || w.val == 20

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 7200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 33 := lt_of_lt_of_eq t.isLt (show cfg0.N = 33 from N_0)
  by_cases h0 : t.val % 33 = 0
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, H20, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
    · exfalso; omega
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, H20, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
    · by_cases h2 : t.val % 33 = 32
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, H20, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 16, 17, 18, 19, 20) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.AttnRuns.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

/-! Where the attention's backward body takes each of its three branches, where it leaves a window idle,
    and the memrefs it runs on at a point. The first point clears the running sums, the points before the last
    do the work, the last point hands out the carried half block. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond0_0 (i : grid0.Coords) : Prop := k0_cond1 i = 1#1
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

abbrev cond0_1 (i : grid0.Coords) : Prop := k0_cond2 i = 1#1
theorem hcond0_1 : ∀ t : Fin cfg0.N, cond0_1 (grid0.coords t) ↔ t.val < 32 :=
  (by decide +kernel : ∀ t : Fin grid0.N, cond0_1 (grid0.coords t) ↔ t.val < 32)

abbrev cond0_2 (i : grid0.Coords) : Prop := k0_cond3 i = 1#1
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16_A : ∀ t : Fin cfg0.N, cond0_0 (grid0.coords t) → cond0_1 (grid0.coords t) → ¬cond0_2 (grid0.coords t) → cfg0.idle 16 (grid0.coords t) = false := by decide +kernel
theorem liveAt0_16_B : ∀ t : Fin cfg0.N, ¬cond0_0 (grid0.coords t) → cond0_1 (grid0.coords t) → ¬cond0_2 (grid0.coords t) → cfg0.idle 16 (grid0.coords t) = false := by decide +kernel
theorem liveAt0_17_A : ∀ t : Fin cfg0.N, cond0_0 (grid0.coords t) → cond0_1 (grid0.coords t) → ¬cond0_2 (grid0.coords t) → cfg0.idle 17 (grid0.coords t) = false := by decide +kernel
theorem liveAt0_17_B : ∀ t : Fin cfg0.N, ¬cond0_0 (grid0.coords t) → cond0_1 (grid0.coords t) → ¬cond0_2 (grid0.coords t) → cfg0.idle 17 (grid0.coords t) = false := by decide +kernel
theorem liveAt0_17_C : ∀ t : Fin cfg0.N, ¬cond0_0 (grid0.coords t) → ¬cond0_1 (grid0.coords t) → cond0_2 (grid0.coords t) → cfg0.idle 17 (grid0.coords t) = false := by decide +kernel
def freshTab0_18 : ℕ → Bool
  | 0 => true
  | n + 1 => (0x100000000 : ℕ).testBit n
theorem freshTab0_18_step : ∀ t : Fin cfg0.N,
    freshTab0_18 (t.val + 1) = ((cfg0.win 18).flush t || (cfg0.idle 18 (cfg0.grid.coords t) && freshTab0_18 t.val)) := by decide +kernel
theorem fresh0_18_eq (t : Fin cfg0.N) : cfg0.fresh 18 t.val = freshTab0_18 t.val :=
  Pipeline.Cfg.fresh_tab cfg0 18 freshTab0_18 rfl freshTab0_18_step t.val (Nat.le_of_lt t.isLt)
theorem liveAt0_18_A : ∀ t : Fin cfg0.N, cond0_0 (grid0.coords t) → cond0_1 (grid0.coords t) → ¬cond0_2 (grid0.coords t) → cfg0.idle 18 (grid0.coords t) = false := by decide +kernel
theorem liveAt0_18_B : ∀ t : Fin cfg0.N, ¬cond0_0 (grid0.coords t) → cond0_1 (grid0.coords t) → ¬cond0_2 (grid0.coords t) → cfg0.idle 18 (grid0.coords t) = false := by decide +kernel
theorem notFresh0_18_B : ∀ t : Fin cfg0.N, ¬cond0_0 (grid0.coords t) → cond0_1 (grid0.coords t) → ¬cond0_2 (grid0.coords t) → cfg0.fresh 18 t.val = false := by
  intro t; rw [fresh0_18_eq t]; revert t; decide +kernel
theorem notFresh0_18_C : ∀ t : Fin cfg0.N, ¬cond0_0 (grid0.coords t) → ¬cond0_1 (grid0.coords t) → cond0_2 (grid0.coords t) → cfg0.fresh 18 t.val = false := by
  intro t; rw [fresh0_18_eq t]; revert t; decide +kernel
def freshTab0_19 : ℕ → Bool
  | 0 => true
  | n + 1 => (0x100000000 : ℕ).testBit n
theorem freshTab0_19_step : ∀ t : Fin cfg0.N,
    freshTab0_19 (t.val + 1) = ((cfg0.win 19).flush t || (cfg0.idle 19 (cfg0.grid.coords t) && freshTab0_19 t.val)) := by decide +kernel
theorem fresh0_19_eq (t : Fin cfg0.N) : cfg0.fresh 19 t.val = freshTab0_19 t.val :=
  Pipeline.Cfg.fresh_tab cfg0 19 freshTab0_19 rfl freshTab0_19_step t.val (Nat.le_of_lt t.isLt)
theorem liveAt0_19_A : ∀ t : Fin cfg0.N, cond0_0 (grid0.coords t) → cond0_1 (grid0.coords t) → ¬cond0_2 (grid0.coords t) → cfg0.idle 19 (grid0.coords t) = false := by decide +kernel
theorem liveAt0_19_B : ∀ t : Fin cfg0.N, ¬cond0_0 (grid0.coords t) → cond0_1 (grid0.coords t) → ¬cond0_2 (grid0.coords t) → cfg0.idle 19 (grid0.coords t) = false := by decide +kernel
theorem notFresh0_19_B : ∀ t : Fin cfg0.N, ¬cond0_0 (grid0.coords t) → cond0_1 (grid0.coords t) → ¬cond0_2 (grid0.coords t) → cfg0.fresh 19 t.val = false := by
  intro t; rw [fresh0_19_eq t]; revert t; decide +kernel
theorem notFresh0_19_C : ∀ t : Fin cfg0.N, ¬cond0_0 (grid0.coords t) → ¬cond0_1 (grid0.coords t) → cond0_2 (grid0.coords t) → cfg0.fresh 19 t.val = false := by
  intro t; rw [fresh0_19_eq t]; revert t; decide +kernel
def freshTab0_20 : ℕ → Bool
  | 0 => true
  | n + 1 => (0x100000000 : ℕ).testBit n
theorem freshTab0_20_step : ∀ t : Fin cfg0.N,
    freshTab0_20 (t.val + 1) = ((cfg0.win 20).flush t || (cfg0.idle 20 (cfg0.grid.coords t) && freshTab0_20 t.val)) := by decide +kernel
theorem fresh0_20_eq (t : Fin cfg0.N) : cfg0.fresh 20 t.val = freshTab0_20 t.val :=
  Pipeline.Cfg.fresh_tab cfg0 20 freshTab0_20 rfl freshTab0_20_step t.val (Nat.le_of_lt t.isLt)
theorem liveAt0_20_A : ∀ t : Fin cfg0.N, cond0_0 (grid0.coords t) → cond0_1 (grid0.coords t) → ¬cond0_2 (grid0.coords t) → cfg0.idle 20 (grid0.coords t) = false := by decide +kernel
theorem liveAt0_20_B : ∀ t : Fin cfg0.N, ¬cond0_0 (grid0.coords t) → cond0_1 (grid0.coords t) → ¬cond0_2 (grid0.coords t) → cfg0.idle 20 (grid0.coords t) = false := by decide +kernel
theorem notFresh0_20_B : ∀ t : Fin cfg0.N, ¬cond0_0 (grid0.coords t) → cond0_1 (grid0.coords t) → ¬cond0_2 (grid0.coords t) → cfg0.fresh 20 t.val = false := by
  intro t; rw [fresh0_20_eq t]; revert t; decide +kernel
theorem notFresh0_20_C : ∀ t : Fin cfg0.N, ¬cond0_0 (grid0.coords t) → ¬cond0_1 (grid0.coords t) → cond0_2 (grid0.coords t) → cfg0.fresh 20 t.val = false := by
  intro t; rw [fresh0_20_eq t]; revert t; decide +kernel

abbrev VO0_16 : View sig .tc .vmem S128x1024 .bf16 := (Memref.whole cc0_stg16_0 : Memref sig .tc .vmem S128x1024 .bf16).view
abbrev VO0_17 : View sig .tc .vmem S128x512 .bf16 := (Memref.whole cc0_stg17_0 : Memref sig .tc .vmem S128x512 .bf16).view
abbrev VO0_18 : View sig .tc .vmem S1x64 .f32 := (Memref.whole cc0_stg18_0 : Memref sig .tc .vmem S1x64 .f32).view
abbrev VO0_19 : View sig .tc .vmem S1x64 .f32 := (Memref.whole cc0_stg19_0 : Memref sig .tc .vmem S1x64 .f32).view
abbrev VO0_20 : View sig .tc .vmem S1x16 .f32 := (Memref.whole cc0_stg20_0 : Memref sig .tc .vmem S1x16 .f32).view
abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x512x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x64 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x64 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x16 .f32 := win0_20.stage (cfg0.slots t 20)
abbrev hs0_20 (t : Fin cfg0.N) : (ms0_20 t).IsWhole := hstage0_20 ((cfg0.slots t 20).cast nbuf0_20)
abbrev scM0_0 : Memref sig .tc .vmem S128x512 .f32 := Memref.whole cc0_scratch0
abbrev scM0_1 : Memref sig .tc .vmem S128x1024 .f32 := Memref.whole cc0_scratch1
abbrev scM0_2 : Memref sig .tc .vmem S256x256 .f32 := Memref.whole cc0_scratch2
abbrev scM0_3 : Memref sig .tc .vmem S256x256 .f32 := Memref.whole cc0_scratch3
abbrev VS0_0 : View sig .tc .vmem S128x512 .f32 := scM0_0.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

theorem idleAt0_16 : ∀ t : Fin cfg0.N, ¬cond0_1 (grid0.coords t) → cfg0.idle 16 (grid0.coords t) = true := by decide +kernel
theorem idleAt0_18 : ∀ t : Fin cfg0.N, ¬cond0_1 (grid0.coords t) → cfg0.idle 18 (grid0.coords t) = true := by decide +kernel
theorem idleAt0_19 : ∀ t : Fin cfg0.N, ¬cond0_1 (grid0.coords t) → cfg0.idle 19 (grid0.coords t) = true := by decide +kernel
theorem idleAt0_20 : ∀ t : Fin cfg0.N, ¬cond0_1 (grid0.coords t) → cfg0.idle 20 (grid0.coords t) = true := by decide +kernel

end Cert.KernelIdeal.Gen

end
-- ==== Proof.AttnIns.lean ====
module

public import proofs.«01_k».proof.Proof.AttnRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The blocks the sixteen input windows hold at a point. -/
structure Ins (F : FTy → Type) where
  x0 : Vec F S128x1024 .f32
  x1 : Vec F S128x256 .f32
  x2 : Vec F S128x256 .f32
  x3 : Vec F S128x256 .f32
  x4 : Vec F S128x256 .f32
  x5 : Vec F S128x1024 .bf16
  x6 : Vec F S1x1024 .f32
  x7 : Vec F S1x256 .f32
  x8 : Vec F S4x512x128 .f32
  x9 : Vec F S4x512x256 .f32
  x10 : Vec F S1024x128 .bf16
  x11 : Vec F S128x1024 .bf16
  x12 : Vec F S256x256 .bf16
  x13 : Vec F S1024x128 .bf16
  x14 : Vec F S256x128 .bf16
  x15 : Vec F S256x128 .bf16

/-- The input windows' staging memrefs at a point, held at given blocks. -/
def ownsIns (c : Dev nD) (t : Fin cfg0.N) (X : Ins F) : sProp 𝕄 :=
  iprop(owns (c : Thread nD τ) (ms0_0 t) fullShare X.x0 ∗ owns (c : Thread nD τ) (ms0_1 t) fullShare X.x1
    ∗ owns (c : Thread nD τ) (ms0_2 t) fullShare X.x2 ∗ owns (c : Thread nD τ) (ms0_3 t) fullShare X.x3
    ∗ owns (c : Thread nD τ) (ms0_4 t) fullShare X.x4 ∗ owns (c : Thread nD τ) (ms0_5 t) fullShare X.x5
    ∗ owns (c : Thread nD τ) (ms0_6 t) fullShare X.x6 ∗ owns (c : Thread nD τ) (ms0_7 t) fullShare X.x7
    ∗ owns (c : Thread nD τ) (ms0_8 t) fullShare X.x8 ∗ owns (c : Thread nD τ) (ms0_9 t) fullShare X.x9
    ∗ owns (c : Thread nD τ) (ms0_10 t) fullShare X.x10 ∗ owns (c : Thread nD τ) (ms0_11 t) fullShare X.x11
    ∗ owns (c : Thread nD τ) (ms0_12 t) fullShare X.x12 ∗ owns (c : Thread nD τ) (ms0_13 t) fullShare X.x13
    ∗ owns (c : Thread nD τ) (ms0_14 t) fullShare X.x14 ∗ owns (c : Thread nD τ) (ms0_15 t) fullShare X.x15)

end Cert.KernelIdeal.Gen

end
-- ==== Proof.AttnRunA.lean ====
module

public import proofs.«01_k».proof.Proof.AttnIns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The run of the first point, which finds nothing: the pieces its stores leave in each output and in the carried half block. -/
noncomputable def runA (c : Dev nD) (t : Fin cfg0.N) (hc0 : cond0_0 (grid0.coords t)) (hc1 : cond0_1 (grid0.coords t)) (hc2 : ¬cond0_2 (grid0.coords t)) (X : Ins F)
    :
    Σ' (L16 : List (View.Piece (Elt F) S128x1024 .bf16)), Σ' (L17 : List (View.Piece (Elt F) S128x512 .bf16)), Σ' (L18 : List (View.Piece (Elt F) S1x64 .f32)), Σ' (L19 : List (View.Piece (Elt F) S1x64 .f32)), Σ' (L20 : List (View.Piece (Elt F) S1x16 .f32)), { LS0 : List (View.Piece (Elt F) S128x512 .f32) //
      ∀ (E : Set ℕ) (K : PUnit → sProp 𝕄),
        iprop(ownsIns c t X ∗ (∃ d, owns (c : Thread nD τ) (ms0_16 t) fullShare d) ∗ (∃ d, owns (c : Thread nD τ) (ms0_17 t) fullShare d)
            ∗ (∃ d, owns (c : Thread nD τ) (ms0_18 t) fullShare d)
            ∗ (∃ d, owns (c : Thread nD τ) (ms0_19 t) fullShare d)
            ∗ (∃ d, owns (c : Thread nD τ) (ms0_20 t) fullShare d)
            ∗ (∃ d, owns (c : Thread nD τ) scM0_0 fullShare d)
            ∗ (∃ d, owns (c : Thread nD τ) scM0_1 fullShare d) ∗ (∃ d, owns (c : Thread nD τ) scM0_2 fullShare d)
            ∗ (∃ d, owns (c : Thread nD τ) scM0_3 fullShare d)
            ∗ (iprop(ownsIns c t X
                ∗ (∃ f, ((ms0_16 t).view.loc (c : Thread nD τ)) ↦[(ms0_16 t).view.set]{fullShare} (ms0_16 t).view.writes (Elt F) f L16)
                ∗ (∃ f, ((ms0_17 t).view.loc (c : Thread nD τ)) ↦[(ms0_17 t).view.set]{fullShare} (ms0_17 t).view.writes (Elt F) f L17)
                ∗ (∃ f, ((ms0_18 t).view.loc (c : Thread nD τ)) ↦[(ms0_18 t).view.set]{fullShare} (ms0_18 t).view.writes (Elt F) f L18)
                ∗ (∃ f, ((ms0_19 t).view.loc (c : Thread nD τ)) ↦[(ms0_19 t).view.set]{fullShare} (ms0_19 t).view.writes (Elt F) f L19)
                ∗ (∃ f, ((ms0_20 t).view.loc (c : Thread nD τ)) ↦[(ms0_20 t).view.set]{fullShare} (ms0_20 t).view.writes (Elt F) f L20)
                ∗ (∃ f, (scM0_0.view.loc (c : Thread nD τ)) ↦[scM0_0.view.set]{fullShare} scM0_0.view.writes (Elt F) f LS0)
                ∗ (∃ d, owns (c : Thread nD τ) scM0_1 fullShare d) ∗ (∃ d, owns (c : Thread nD τ) scM0_2 fullShare d)
                ∗ (∃ d, owns (c : Thread nD τ) scM0_3 fullShare d)) -∗ K ⟨⟩))
          ⊢ wp frame (wpE (defs₀ (F := F)) Variants.none c none) E (bodyAt0 t) K } := by
  refine ⟨?_, ?_, ?_, ?_, ?_, ?_, fun E K => ?run⟩
  case run =>
    unfold bodyAt0
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold ownsIns owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, Hk⟩
    obtain rfl := (hs0_0 t).eq_unread hf0
    obtain rfl := (hs0_1 t).eq_unread hf1
    obtain rfl := (hs0_2 t).eq_unread hf2
    obtain rfl := (hs0_3 t).eq_unread hf3
    obtain rfl := (hs0_4 t).eq_unread hf4
    obtain rfl := (hs0_5 t).eq_unread hf5
    obtain rfl := (hs0_6 t).eq_unread hf6
    obtain rfl := (hs0_7 t).eq_unread hf7
    obtain rfl := (hs0_8 t).eq_unread hf8
    obtain rfl := (hs0_9 t).eq_unread hf9
    obtain rfl := (hs0_10 t).eq_unread hf10
    obtain rfl := (hs0_11 t).eq_unread hf11
    obtain rfl := (hs0_12 t).eq_unread hf12
    obtain rfl := (hs0_13 t).eq_unread hf13
    obtain rfl := (hs0_14 t).eq_unread hf14
    obtain rfl := (hs0_15 t).eq_unread hf15
    sl_exec (disch := first | sl_exact hc0 | sl_exact hc1 | sl_exact hc2)
    sl_step
    iapply Hk
    isplitl [H0 H1 H2 H3 H4 H5 H6 H7 H8 H9 H10 H11 H12 H13 H14 H15]
    · isplitl [H0]
      · iexists _; isplitr; · ipureintro; exact (hs0_0 t).read_unread _
        iexact H0
      isplitl [H1]
      · iexists _; isplitr; · ipureintro; exact (hs0_1 t).read_unread _
        iexact H1
      isplitl [H2]
      · iexists _; isplitr; · ipureintro; exact (hs0_2 t).read_unread _
        iexact H2
      isplitl [H3]
      · iexists _; isplitr; · ipureintro; exact (hs0_3 t).read_unread _
        iexact H3
      isplitl [H4]
      · iexists _; isplitr; · ipureintro; exact (hs0_4 t).read_unread _
        iexact H4
      isplitl [H5]
      · iexists _; isplitr; · ipureintro; exact (hs0_5 t).read_unread _
        iexact H5
      isplitl [H6]
      · iexists _; isplitr; · ipureintro; exact (hs0_6 t).read_unread _
        iexact H6
      isplitl [H7]
      · iexists _; isplitr; · ipureintro; exact (hs0_7 t).read_unread _
        iexact H7
      isplitl [H8]
      · iexists _; isplitr; · ipureintro; exact (hs0_8 t).read_unread _
        iexact H8
      isplitl [H9]
      · iexists _; isplitr; · ipureintro; exact (hs0_9 t).read_unread _
        iexact H9
      isplitl [H10]
      · iexists _; isplitr; · ipureintro; exact (hs0_10 t).read_unread _
        iexact H10
      isplitl [H11]
      · iexists _; isplitr; · ipureintro; exact (hs0_11 t).read_unread _
        iexact H11
      isplitl [H12]
      · iexists _; isplitr; · ipureintro; exact (hs0_12 t).read_unread _
        iexact H12
      isplitl [H13]
      · iexists _; isplitr; · ipureintro; exact (hs0_13 t).read_unread _
        iexact H13
      isplitl [H14]
      · iexists _; isplitr; · ipureintro; exact (hs0_14 t).read_unread _
        iexact H14
      iexists _; isplitr; · ipureintro; exact (hs0_15 t).read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexists _; iexact HS0
    isplitl [HS1]
    · iexists _; iexists _; isplitr
      swap; · iexact HS1
      ipureintro; rfl
    isplitl [HS2]
    · iexists _; iexists _; isplitr
      swap; · iexact HS2
      ipureintro; rfl
    iexists _; iexists _; isplitr
    swap; · iexact HS3
    ipureintro; rfl

end Cert.KernelIdeal.Gen

end
-- ==== Proof.AttnRunB.lean ====
module

public import proofs.«01_k».proof.Proof.AttnIns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The run of a point after the first and before the last, which finds the running sums and the carried half block: the pieces its stores leave in each output and in the carried half block. -/
noncomputable def runB (c : Dev nD) (t : Fin cfg0.N) (hc0 : ¬cond0_0 (grid0.coords t)) (hc1 : cond0_1 (grid0.coords t)) (hc2 : ¬cond0_2 (grid0.coords t)) (X : Ins F)
    (xo18 : Vec F S1x64 .f32) (xo19 : Vec F S1x64 .f32) (xo20 : Vec F S1x16 .f32) (xs0 : Vec F S128x512 .f32) :
    Σ' (L16 : List (View.Piece (Elt F) S128x1024 .bf16)), Σ' (L17 : List (View.Piece (Elt F) S128x512 .bf16)), Σ' (L18 : List (View.Piece (Elt F) S1x64 .f32)), Σ' (L19 : List (View.Piece (Elt F) S1x64 .f32)), Σ' (L20 : List (View.Piece (Elt F) S1x16 .f32)), { LS0 : List (View.Piece (Elt F) S128x512 .f32) //
      ∀ (E : Set ℕ) (K : PUnit → sProp 𝕄),
        iprop(ownsIns c t X ∗ (∃ d, owns (c : Thread nD τ) (ms0_16 t) fullShare d) ∗ (∃ d, owns (c : Thread nD τ) (ms0_17 t) fullShare d)
            ∗ owns (c : Thread nD τ) (ms0_18 t) fullShare xo18
            ∗ owns (c : Thread nD τ) (ms0_19 t) fullShare xo19
            ∗ owns (c : Thread nD τ) (ms0_20 t) fullShare xo20
            ∗ owns (c : Thread nD τ) scM0_0 fullShare xs0
            ∗ (∃ d, owns (c : Thread nD τ) scM0_1 fullShare d) ∗ (∃ d, owns (c : Thread nD τ) scM0_2 fullShare d)
            ∗ (∃ d, owns (c : Thread nD τ) scM0_3 fullShare d)
            ∗ (iprop(ownsIns c t X
                ∗ (∃ f, ((ms0_16 t).view.loc (c : Thread nD τ)) ↦[(ms0_16 t).view.set]{fullShare} (ms0_16 t).view.writes (Elt F) f L16)
                ∗ (∃ f, ((ms0_17 t).view.loc (c : Thread nD τ)) ↦[(ms0_17 t).view.set]{fullShare} (ms0_17 t).view.writes (Elt F) f L17)
                ∗ (∃ f, ((ms0_18 t).view.loc (c : Thread nD τ)) ↦[(ms0_18 t).view.set]{fullShare} (ms0_18 t).view.writes (Elt F) f L18)
                ∗ (∃ f, ((ms0_19 t).view.loc (c : Thread nD τ)) ↦[(ms0_19 t).view.set]{fullShare} (ms0_19 t).view.writes (Elt F) f L19)
                ∗ (∃ f, ((ms0_20 t).view.loc (c : Thread nD τ)) ↦[(ms0_20 t).view.set]{fullShare} (ms0_20 t).view.writes (Elt F) f L20)
                ∗ (∃ f, (scM0_0.view.loc (c : Thread nD τ)) ↦[scM0_0.view.set]{fullShare} scM0_0.view.writes (Elt F) f LS0)
                ∗ (∃ d, owns (c : Thread nD τ) scM0_1 fullShare d) ∗ (∃ d, owns (c : Thread nD τ) scM0_2 fullShare d)
                ∗ (∃ d, owns (c : Thread nD τ) scM0_3 fullShare d)) -∗ K ⟨⟩))
          ⊢ wp frame (wpE (defs₀ (F := F)) Variants.none c none) E (bodyAt0 t) K } := by
  refine ⟨?_, ?_, ?_, ?_, ?_, ?_, fun E K => ?run⟩
  case run =>
    unfold bodyAt0
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold ownsIns owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, ⟨%d16, %f16, -, H16⟩, ⟨%d17, %f17, -, H17⟩, ⟨%f18, %hf18, H18⟩, ⟨%f19, %hf19, H19⟩, ⟨%f20, %hf20, H20⟩, ⟨%fs0, %hfs0, HS0⟩, ⟨%ds1, %fs1, -, HS1⟩, ⟨%ds2, %fs2, -, HS2⟩, ⟨%ds3, %fs3, -, HS3⟩, Hk⟩
    obtain rfl := (hs0_0 t).eq_unread hf0
    obtain rfl := (hs0_1 t).eq_unread hf1
    obtain rfl := (hs0_2 t).eq_unread hf2
    obtain rfl := (hs0_3 t).eq_unread hf3
    obtain rfl := (hs0_4 t).eq_unread hf4
    obtain rfl := (hs0_5 t).eq_unread hf5
    obtain rfl := (hs0_6 t).eq_unread hf6
    obtain rfl := (hs0_7 t).eq_unread hf7
    obtain rfl := (hs0_8 t).eq_unread hf8
    obtain rfl := (hs0_9 t).eq_unread hf9
    obtain rfl := (hs0_10 t).eq_unread hf10
    obtain rfl := (hs0_11 t).eq_unread hf11
    obtain rfl := (hs0_12 t).eq_unread hf12
    obtain rfl := (hs0_13 t).eq_unread hf13
    obtain rfl := (hs0_14 t).eq_unread hf14
    obtain rfl := (hs0_15 t).eq_unread hf15
    obtain rfl := (hs0_18 t).eq_unread hf18
    obtain rfl := (hs0_19 t).eq_unread hf19
    obtain rfl := (hs0_20 t).eq_unread hf20
    obtain rfl := (Memref.isWhole_whole _).eq_unread hfs0
    sl_exec (disch := first | sl_exact hc0 | sl_exact hc1 | sl_exact hc2)
    sl_step
    iapply Hk
    isplitl [H0 H1 H2 H3 H4 H5 H6 H7 H8 H9 H10 H11 H12 H13 H14 H15]
    · isplitl [H0]
      · iexists _; isplitr; · ipureintro; exact (hs0_0 t).read_unread _
        iexact H0
      isplitl [H1]
      · iexists _; isplitr; · ipureintro; exact (hs0_1 t).read_unread _
        iexact H1
      isplitl [H2]
      · iexists _; isplitr; · ipureintro; exact (hs0_2 t).read_unread _
        iexact H2
      isplitl [H3]
      · iexists _; isplitr; · ipureintro; exact (hs0_3 t).read_unread _
        iexact H3
      isplitl [H4]
      · iexists _; isplitr; · ipureintro; exact (hs0_4 t).read_unread _
        iexact H4
      isplitl [H5]
      · iexists _; isplitr; · ipureintro; exact (hs0_5 t).read_unread _
        iexact H5
      isplitl [H6]
      · iexists _; isplitr; · ipureintro; exact (hs0_6 t).read_unread _
        iexact H6
      isplitl [H7]
      · iexists _; isplitr; · ipureintro; exact (hs0_7 t).read_unread _
        iexact H7
      isplitl [H8]
      · iexists _; isplitr; · ipureintro; exact (hs0_8 t).read_unread _
        iexact H8
      isplitl [H9]
      · iexists _; isplitr; · ipureintro; exact (hs0_9 t).read_unread _
        iexact H9
      isplitl [H10]
      · iexists _; isplitr; · ipureintro; exact (hs0_10 t).read_unread _
        iexact H10
      isplitl [H11]
      · iexists _; isplitr; · ipureintro; exact (hs0_11 t).read_unread _
        iexact H11
      isplitl [H12]
      · iexists _; isplitr; · ipureintro; exact (hs0_12 t).read_unread _
        iexact H12
      isplitl [H13]
      · iexists _; isplitr; · ipureintro; exact (hs0_13 t).read_unread _
        iexact H13
      isplitl [H14]
      · iexists _; isplitr; · ipureintro; exact (hs0_14 t).read_unread _
        iexact H14
      iexists _; isplitr; · ipureintro; exact (hs0_15 t).read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexists _; iexact HS0
    isplitl [HS1]
    · iexists _; iexists _; isplitr
      swap; · iexact HS1
      ipureintro; rfl
    isplitl [HS2]
    · iexists _; iexists _; isplitr
      swap; · iexact HS2
      ipureintro; rfl
    iexists _; iexists _; isplitr
    swap; · iexact HS3
    ipureintro; rfl

end Cert.KernelIdeal.Gen

end
-- ==== Proof.AttnRunC.lean ====
module

public import proofs.«01_k».proof.Proof.AttnIns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The last point's run: the carried half block, rounded, is the output's pieces. -/
noncomputable def runC (c : Dev nD) (t : Fin cfg0.N) (hc0 : ¬cond0_0 (grid0.coords t)) (hc1 : ¬cond0_1 (grid0.coords t)) (hc2 : cond0_2 (grid0.coords t))
    (xs0 : Vec F S128x512 .f32) :
    { L17 : List (View.Piece (Elt F) S128x512 .bf16) //
      ∀ (E : Set ℕ) (K : PUnit → sProp 𝕄),
        iprop((∃ d, owns (c : Thread nD τ) (ms0_17 t) fullShare d) ∗ owns (c : Thread nD τ) scM0_0 fullShare xs0
            ∗ (iprop((∃ f, ((ms0_17 t).view.loc (c : Thread nD τ)) ↦[(ms0_17 t).view.set]{fullShare} (ms0_17 t).view.writes (Elt F) f L17)
                ∗ owns (c : Thread nD τ) scM0_0 fullShare xs0) -∗ K ⟨⟩))
          ⊢ wp frame (wpE (defs₀ (F := F)) Variants.none c none) E (bodyAt0 t) K } := by
  refine ⟨?_, fun E K => ?run⟩
  case run =>
    unfold bodyAt0
    simp only [cc0_attn_bwd_eq_skeleton]; unfold cc0_attn_bwd_skel
    unfold owns
    iintro ⟨⟨%d17, %f17, -, H17⟩, ⟨%fs0, %hfs0, HS0⟩, Hk⟩
    obtain rfl := (Memref.isWhole_whole _).eq_unread hfs0
    sl_exec (disch := first | sl_exact hc0 | sl_exact hc1 | sl_exact hc2)
    sl_step
    iapply Hk
    isplitl [H17]; · iexists _; iexact H17
    iexists _; isplitr; · ipureintro; exact (Memref.isWhole_whole _).read_unread _
    iexact HS0

end Cert.KernelIdeal.Gen

end
-- ==== Proof.AttnFrame.lean ====
module

public import proofs.«01_k».proof.Proof.AttnRunA
public import proofs.«01_k».proof.Proof.AttnRunB
public import proofs.«01_k».proof.Proof.AttnRunC
public import Idealize.ShloMosaic.Lib.Pipeline.FrameBody
public import Idealize.ShloMosaic.Lib.Pipeline.TableIdle
public import Idealize.ShloMosaic.Lib.Ring
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! What each point of the attention's backward pass leaves in the five outputs and the carried half block, the
    proof data this gives the launch, the body's triple at each point, and the frame. -/

/-- What the outputs' staging buffers and the carried half block hold after a point. -/
structure Outs (F : FTy → Type) where
  dq : Vec F S128x1024 .bf16
  dkv : Vec F S128x512 .bf16
  dqg : Vec F S1x64 .f32
  dkg : Vec F S1x64 .f32
  dsink : Vec F S1x16 .f32
  carry : Vec F S128x512 .f32

theorem c0_of {t : Fin cfg0.N} (h : t.val = 0) : cond0_0 (grid0.coords t) := (hcond0_0 t).mpr (by omega)
theorem nc0_of {t : Fin cfg0.N} (h : t.val ≠ 0) : ¬cond0_0 (grid0.coords t) := fun k => h (by
  have := (hcond0_0 t).mp k; have hN : t.val < 33 := lt_of_lt_of_eq t.isLt (show cfg0.N = 33 from N_0); omega)
theorem c1_of {t : Fin cfg0.N} (h : t.val < 32) : cond0_1 (grid0.coords t) := (hcond0_1 t).mpr h
theorem nc1_of {t : Fin cfg0.N} (h : ¬t.val < 32) : ¬cond0_1 (grid0.coords t) := fun k => h ((hcond0_1 t).mp k)
theorem c2_of {t : Fin cfg0.N} (h : ¬t.val < 32) : cond0_2 (grid0.coords t) := (hcond0_2 t).mpr (by
  have hN : t.val < 33 := lt_of_lt_of_eq t.isLt (show cfg0.N = 33 from N_0); omega)
theorem nc2_of {t : Fin cfg0.N} (h : t.val < 32) : ¬cond0_2 (grid0.coords t) := fun k => by
  have := (hcond0_2 t).mp k; omega

theorem coverA_16 (c : Dev nD) (t : Fin cfg0.N) (hc0 : cond0_0 (grid0.coords t)) (hc1 : cond0_1 (grid0.coords t)) (hc2 : ¬cond0_2 (grid0.coords t)) (X : Ins F) (y : S128x1024.Idx) :
    ∃ pc ∈ (runA c t hc0 hc1 hc2 X).1, y ∈ pc.1.set :=
  View.cover_of_tiledL (runA c t hc0 hc1 hc2 X).1 S128x1024.size (by sl_kernel_rfl) y
theorem coverA_17 (c : Dev nD) (t : Fin cfg0.N) (hc0 : cond0_0 (grid0.coords t)) (hc1 : cond0_1 (grid0.coords t)) (hc2 : ¬cond0_2 (grid0.coords t)) (X : Ins F) (y : S128x512.Idx) :
    ∃ pc ∈ (runA c t hc0 hc1 hc2 X).2.1, y ∈ pc.1.set :=
  View.cover_of_tiledL (runA c t hc0 hc1 hc2 X).2.1 S128x256.size (by sl_kernel_rfl) y
theorem coverA_18 (c : Dev nD) (t : Fin cfg0.N) (hc0 : cond0_0 (grid0.coords t)) (hc1 : cond0_1 (grid0.coords t)) (hc2 : ¬cond0_2 (grid0.coords t)) (X : Ins F) (y : S1x64.Idx) :
    ∃ pc ∈ (runA c t hc0 hc1 hc2 X).2.2.1, y ∈ pc.1.set :=
  View.cover_of_tiledL (runA c t hc0 hc1 hc2 X).2.2.1 S1x64.size (by sl_kernel_rfl) y
theorem coverA_19 (c : Dev nD) (t : Fin cfg0.N) (hc0 : cond0_0 (grid0.coords t)) (hc1 : cond0_1 (grid0.coords t)) (hc2 : ¬cond0_2 (grid0.coords t)) (X : Ins F) (y : S1x64.Idx) :
    ∃ pc ∈ (runA c t hc0 hc1 hc2 X).2.2.2.1, y ∈ pc.1.set :=
  View.cover_of_tiledL (runA c t hc0 hc1 hc2 X).2.2.2.1 S1x64.size (by sl_kernel_rfl) y
theorem coverA_20 (c : Dev nD) (t : Fin cfg0.N) (hc0 : cond0_0 (grid0.coords t)) (hc1 : cond0_1 (grid0.coords t)) (hc2 : ¬cond0_2 (grid0.coords t)) (X : Ins F) (y : S1x16.Idx) :
    ∃ pc ∈ (runA c t hc0 hc1 hc2 X).2.2.2.2.1, y ∈ pc.1.set :=
  View.cover_of_tiledL (runA c t hc0 hc1 hc2 X).2.2.2.2.1 S1x16.size (by sl_kernel_rfl) y
theorem scoverA (c : Dev nD) (t : Fin cfg0.N) (hc0 : cond0_0 (grid0.coords t)) (hc1 : cond0_1 (grid0.coords t)) (hc2 : ¬cond0_2 (grid0.coords t)) (X : Ins F) (y : S128x512.Idx) :
    ∃ pc ∈ (runA c t hc0 hc1 hc2 X).2.2.2.2.2.1, y ∈ pc.1.set :=
  View.cover_of_tiledL (runA c t hc0 hc1 hc2 X).2.2.2.2.2.1 S128x256.size (by sl_kernel_rfl) y

/-- What the first point leaves: the pieces of the run, read back. -/
def outsA (c : Dev nD) (t : Fin cfg0.N) (hc0 : cond0_0 (grid0.coords t)) (hc1 : cond0_1 (grid0.coords t)) (hc2 : ¬cond0_2 (grid0.coords t)) (X : Ins F) : Outs F where
  dq := VO0_16.read (Elt F) (VO0_16.writes (Elt F) VO0_16.junk (runA c t hc0 hc1 hc2 X).1)
  dkv := VO0_17.read (Elt F) (VO0_17.writes (Elt F) VO0_17.junk (runA c t hc0 hc1 hc2 X).2.1)
  dqg := VO0_18.read (Elt F) (VO0_18.writes (Elt F) VO0_18.junk (runA c t hc0 hc1 hc2 X).2.2.1)
  dkg := VO0_19.read (Elt F) (VO0_19.writes (Elt F) VO0_19.junk (runA c t hc0 hc1 hc2 X).2.2.2.1)
  dsink := VO0_20.read (Elt F) (VO0_20.writes (Elt F) VO0_20.junk (runA c t hc0 hc1 hc2 X).2.2.2.2.1)
  carry := VS0_0.read (Elt F) (VS0_0.writes (Elt F) VS0_0.junk (runA c t hc0 hc1 hc2 X).2.2.2.2.2.1)

theorem coverB_16 (c : Dev nD) (t : Fin cfg0.N) (hc0 : ¬cond0_0 (grid0.coords t)) (hc1 : cond0_1 (grid0.coords t)) (hc2 : ¬cond0_2 (grid0.coords t)) (X : Ins F) (xo18 : Vec F S1x64 .f32) (xo19 : Vec F S1x64 .f32) (xo20 : Vec F S1x16 .f32) (xs0 : Vec F S128x512 .f32) (y : S128x1024.Idx) :
    ∃ pc ∈ (runB c t hc0 hc1 hc2 X xo18 xo19 xo20 xs0).1, y ∈ pc.1.set :=
  View.cover_of_tiledL (runB c t hc0 hc1 hc2 X xo18 xo19 xo20 xs0).1 S128x1024.size (by sl_kernel_rfl) y
theorem coverB_17 (c : Dev nD) (t : Fin cfg0.N) (hc0 : ¬cond0_0 (grid0.coords t)) (hc1 : cond0_1 (grid0.coords t)) (hc2 : ¬cond0_2 (grid0.coords t)) (X : Ins F) (xo18 : Vec F S1x64 .f32) (xo19 : Vec F S1x64 .f32) (xo20 : Vec F S1x16 .f32) (xs0 : Vec F S128x512 .f32) (y : S128x512.Idx) :
    ∃ pc ∈ (runB c t hc0 hc1 hc2 X xo18 xo19 xo20 xs0).2.1, y ∈ pc.1.set :=
  View.cover_of_tiledL (runB c t hc0 hc1 hc2 X xo18 xo19 xo20 xs0).2.1 S128x256.size (by sl_kernel_rfl) y
theorem coverB_18 (c : Dev nD) (t : Fin cfg0.N) (hc0 : ¬cond0_0 (grid0.coords t)) (hc1 : cond0_1 (grid0.coords t)) (hc2 : ¬cond0_2 (grid0.coords t)) (X : Ins F) (xo18 : Vec F S1x64 .f32) (xo19 : Vec F S1x64 .f32) (xo20 : Vec F S1x16 .f32) (xs0 : Vec F S128x512 .f32) (y : S1x64.Idx) :
    ∃ pc ∈ (runB c t hc0 hc1 hc2 X xo18 xo19 xo20 xs0).2.2.1, y ∈ pc.1.set :=
  View.cover_of_tiledL (runB c t hc0 hc1 hc2 X xo18 xo19 xo20 xs0).2.2.1 S1x64.size (by sl_kernel_rfl) y
theorem coverB_19 (c : Dev nD) (t : Fin cfg0.N) (hc0 : ¬cond0_0 (grid0.coords t)) (hc1 : cond0_1 (grid0.coords t)) (hc2 : ¬cond0_2 (grid0.coords t)) (X : Ins F) (xo18 : Vec F S1x64 .f32) (xo19 : Vec F S1x64 .f32) (xo20 : Vec F S1x16 .f32) (xs0 : Vec F S128x512 .f32) (y : S1x64.Idx) :
    ∃ pc ∈ (runB c t hc0 hc1 hc2 X xo18 xo19 xo20 xs0).2.2.2.1, y ∈ pc.1.set :=
  View.cover_of_tiledL (runB c t hc0 hc1 hc2 X xo18 xo19 xo20 xs0).2.2.2.1 S1x64.size (by sl_kernel_rfl) y
theorem coverB_20 (c : Dev nD) (t : Fin cfg0.N) (hc0 : ¬cond0_0 (grid0.coords t)) (hc1 : cond0_1 (grid0.coords t)) (hc2 : ¬cond0_2 (grid0.coords t)) (X : Ins F) (xo18 : Vec F S1x64 .f32) (xo19 : Vec F S1x64 .f32) (xo20 : Vec F S1x16 .f32) (xs0 : Vec F S128x512 .f32) (y : S1x16.Idx) :
    ∃ pc ∈ (runB c t hc0 hc1 hc2 X xo18 xo19 xo20 xs0).2.2.2.2.1, y ∈ pc.1.set :=
  View.cover_of_tiledL (runB c t hc0 hc1 hc2 X xo18 xo19 xo20 xs0).2.2.2.2.1 S1x16.size (by sl_kernel_rfl) y
theorem scoverB (c : Dev nD) (t : Fin cfg0.N) (hc0 : ¬cond0_0 (grid0.coords t)) (hc1 : cond0_1 (grid0.coords t)) (hc2 : ¬cond0_2 (grid0.coords t)) (X : Ins F) (xo18 : Vec F S1x64 .f32) (xo19 : Vec F S1x64 .f32) (xo20 : Vec F S1x16 .f32) (xs0 : Vec F S128x512 .f32) (y : S128x512.Idx) :
    ∃ pc ∈ (runB c t hc0 hc1 hc2 X xo18 xo19 xo20 xs0).2.2.2.2.2.1, y ∈ pc.1.set :=
  View.cover_of_tiledL (runB c t hc0 hc1 hc2 X xo18 xo19 xo20 xs0).2.2.2.2.2.1 S128x256.size (by sl_kernel_rfl) y

/-- What the points between leave: the pieces of the run, read back. -/
def outsB (c : Dev nD) (t : Fin cfg0.N) (hc0 : ¬cond0_0 (grid0.coords t)) (hc1 : cond0_1 (grid0.coords t)) (hc2 : ¬cond0_2 (grid0.coords t)) (X : Ins F) (xo18 : Vec F S1x64 .f32) (xo19 : Vec F S1x64 .f32) (xo20 : Vec F S1x16 .f32) (xs0 : Vec F S128x512 .f32) : Outs F where
  dq := VO0_16.read (Elt F) (VO0_16.writes (Elt F) VO0_16.junk (runB c t hc0 hc1 hc2 X xo18 xo19 xo20 xs0).1)
  dkv := VO0_17.read (Elt F) (VO0_17.writes (Elt F) VO0_17.junk (runB c t hc0 hc1 hc2 X xo18 xo19 xo20 xs0).2.1)
  dqg := VO0_18.read (Elt F) (VO0_18.writes (Elt F) VO0_18.junk (runB c t hc0 hc1 hc2 X xo18 xo19 xo20 xs0).2.2.1)
  dkg := VO0_19.read (Elt F) (VO0_19.writes (Elt F) VO0_19.junk (runB c t hc0 hc1 hc2 X xo18 xo19 xo20 xs0).2.2.2.1)
  dsink := VO0_20.read (Elt F) (VO0_20.writes (Elt F) VO0_20.junk (runB c t hc0 hc1 hc2 X xo18 xo19 xo20 xs0).2.2.2.2.1)
  carry := VS0_0.read (Elt F) (VS0_0.writes (Elt F) VS0_0.junk (runB c t hc0 hc1 hc2 X xo18 xo19 xo20 xs0).2.2.2.2.2.1)

theorem coverC_17 (c : Dev nD) (t : Fin cfg0.N) (hc0 : ¬cond0_0 (grid0.coords t)) (hc1 : ¬cond0_1 (grid0.coords t)) (hc2 : cond0_2 (grid0.coords t)) (xs0 : Vec F S128x512 .f32) (y : S128x512.Idx) :
    ∃ pc ∈ (runC c t hc0 hc1 hc2 xs0).1, y ∈ pc.1.set :=
  View.cover_of_tiledL (runC c t hc0 hc1 hc2 xs0).1 S128x512.size (by sl_kernel_rfl) y

/-- The last block of the keys' and values' gradient. -/
def outC (c : Dev nD) (t : Fin cfg0.N) (hc0 : ¬cond0_0 (grid0.coords t)) (hc1 : ¬cond0_1 (grid0.coords t)) (hc2 : cond0_2 (grid0.coords t)) (xs0 : Vec F S128x512 .f32) : Vec F S128x512 .bf16 :=
  VO0_17.read (Elt F) (VO0_17.writes (Elt F) VO0_17.junk (runC c t hc0 hc1 hc2 xs0).1)

variable (m : (ℓ : Loc nD τ sig) → Buf (Elt F) ℓ) (ρ : Dev nD → PrngReg)

/-- The input blocks at a point. -/
def insAt (c : Dev nD) (t : Fin cfg0.N) : Ins F where
  x0 := X0_0 m c t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t

/-- What the buffers hold after point `n`, from what they held after the point before. -/
def outsAt (c : Dev nD) : (n : ℕ) → n < cfg0.N → Outs F
  | 0, hn => outsA c ⟨0, hn⟩ (c0_of rfl) (c1_of (t := ⟨0, hn⟩) (Nat.zero_lt_succ 31)) (nc2_of (t := ⟨0, hn⟩) (Nat.zero_lt_succ 31)) (insAt m c ⟨0, hn⟩)
  | n + 1, hn =>
    if h : n + 1 < 32 then
      outsB c ⟨n + 1, hn⟩ (nc0_of (Nat.succ_ne_zero n)) (c1_of h) (nc2_of h) (insAt m c ⟨n + 1, hn⟩)
        (outsAt c n (Nat.lt_of_succ_lt hn)).dqg (outsAt c n (Nat.lt_of_succ_lt hn)).dkg
        (outsAt c n (Nat.lt_of_succ_lt hn)).dsink (outsAt c n (Nat.lt_of_succ_lt hn)).carry
    else
      { outsAt c n (Nat.lt_of_succ_lt hn) with
        dkv := outC c ⟨n + 1, hn⟩ (nc0_of (Nat.succ_ne_zero n)) (nc1_of h) (c2_of h)
          (outsAt c n (Nat.lt_of_succ_lt hn)).carry }

/-- What they held after the point before `t`. -/
abbrev prevAt (c : Dev nD) (t : Fin cfg0.N) : Outs F := outsAt m c (t.val - 1) (Nat.lt_of_le_of_lt (Nat.sub_le _ _) t.isLt)

theorem outsAt_A (c : Dev nD) (t : Fin cfg0.N) (h : t.val = 0) (h1 : t.val < 32) :
    outsAt m c t.val t.isLt = outsA c t (c0_of h) (c1_of h1) (nc2_of h1) (insAt m c t) := by
  obtain ⟨n, hn⟩ := t
  cases n with
  | zero => rfl
  | succ n => exact absurd h (Nat.succ_ne_zero n)

theorem outsAt_B (c : Dev nD) (t : Fin cfg0.N) (h : t.val ≠ 0) (h1 : t.val < 32) :
    outsAt m c t.val t.isLt = outsB c t (nc0_of h) (c1_of h1) (nc2_of h1) (insAt m c t)
      (prevAt m c t).dqg (prevAt m c t).dkg (prevAt m c t).dsink (prevAt m c t).carry := by
  obtain ⟨n, hn⟩ := t
  cases n with
  | zero => exact absurd rfl h
  | succ n => exact dif_pos h1

theorem outsAt_C (c : Dev nD) (t : Fin cfg0.N) (h : t.val ≠ 0) (h1 : ¬t.val < 32) :
    outsAt m c t.val t.isLt = { prevAt m c t with
        dkv := outC c t (nc0_of h) (nc1_of h1) (c2_of h1) (prevAt m c t).carry } := by
  obtain ⟨n, hn⟩ := t
  cases n with
  | zero => exact absurd rfl h
  | succ n => exact dif_neg h1

/-- Between points: the carried half block at what the point before left, the other scratch at anything. -/
def PhiS (c : Dev nD) : (n : ℕ) → n ≤ cfg0.N → sProp 𝕄
  | 0, _ => Pipeline.ΦA spec0 c
  | n + 1, hn => iprop(iprop(owns (c : Thread nD τ) scM0_0 fullShare (outsAt m c n hn).carry
      ∗ (∃ d, owns (c : Thread nD τ) scM0_1 fullShare d) ∗ (∃ d, owns (c : Thread nD τ) scM0_2 fullShare d)
      ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt m c n hn).carry
      ∗ (∃ d, owns (c : Thread nD τ) scM0_1 fullShare d) ∗ (∃ d, owns (c : Thread nD τ) scM0_2 fullShare d)
      ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt m c (n - 1) (by omega)).carry
      ∗ (∃ d, owns (c : Thread nD τ) scM0_1 fullShare d) ∗ (∃ d, owns (c : Thread nD τ) scM0_2 fullShare d)
      ∗ (∃ d, owns (c : Thread nD τ) scM0_3 fullShare d)) ∗ (∃ r, prngReg c r)) := by
  cases n with
  | zero => exact absurd rfl hz
  | succ n => rfl

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).dq
    | ⟨17, _⟩ => (outsAt m c t.val t.isLt).dkv
    | ⟨18, _⟩ => (outsAt m c t.val t.isLt).dqg
    | ⟨19, _⟩ => (outsAt m c t.val t.isLt).dkg
    | ⟨20, _⟩ => (outsAt m c t.val t.isLt).dsink
    | ⟨_ + 21, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt m c t.val t.isLt).dq := by dsimp only [dats]
theorem after0_17 (c : Dev nD) (t : Fin cfg0.N) : (dats m 0 c).after 17 t = (outsAt m c t.val t.isLt).dkv := by dsimp only [dats]
theorem after0_18 (c : Dev nD) (t : Fin cfg0.N) : (dats m 0 c).after 18 t = (outsAt m c t.val t.isLt).dqg := by dsimp only [dats]
theorem after0_19 (c : Dev nD) (t : Fin cfg0.N) : (dats m 0 c).after 19 t = (outsAt m c t.val t.isLt).dkg := by dsimp only [dats]
theorem after0_20 (c : Dev nD) (t : Fin cfg0.N) : (dats m 0 c).after 20 t = (outsAt m c t.val t.isLt).dsink := by dsimp only [dats]
theorem before0_0 (c : Dev nD) (t : Fin cfg0.N) (d) : (dats m 0 c).before 0 t d = X0_0 m c t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d
theorem before0_15 (c : Dev nD) (t : Fin cfg0.N) (d) : (dats m 0 c).before 15 t d = iblk m c 15 t := before0_15_of m (dats m 0 c) (A_eq m c 15) (after0_15 m c) t d

/-- Window 16 is stored at every point but the last, and written back at all but the last of those. -/
def freshTab0_16 : ℕ → Bool
  | 0 => true
  | n + 1 => (0x17fffffff : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
theorem notFresh0_16_C : ∀ t : Fin cfg0.N, ¬cond0_0 (grid0.coords t) → ¬cond0_1 (grid0.coords t) → cond0_2 (grid0.coords t) → cfg0.fresh 16 t.val = false := by
  intro t; rw [fresh0_16_eq t]; revert t; decide +kernel
theorem flushLast0_16 : ∀ t : Fin cfg0.N, ¬cond0_1 (grid0.coords t) → (cfg0.win 16).flush t = true := by decide +kernel
theorem flushLast0_18 : ∀ t : Fin cfg0.N, ¬cond0_1 (grid0.coords t) → (cfg0.win 18).flush t = true := by decide +kernel
theorem flushLast0_19 : ∀ t : Fin cfg0.N, ¬cond0_1 (grid0.coords t) → (cfg0.win 19).flush t = true := by decide +kernel
theorem flushLast0_20 : ∀ t : Fin cfg0.N, ¬cond0_1 (grid0.coords t) → (cfg0.win 20).flush t = true := by decide +kernel

theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t hz hi _
  by_cases h1 : t.val < 32
  · rw [liveAt0_16_B t (nc0_of hz) (c1_of h1) (nc2_of h1)] at hi
    exact absurd hi Bool.false_ne_true
  · rw [after0_16, after0_16, outsAt_C m c t hz h1]
theorem before0_16_C (c : Dev nD) (t : Fin cfg0.N) (h : t.val ≠ 0) (h1 : ¬t.val < 32) (d) :
    (dats m 0 c).before 16 t d = (prevAt m c t).dq := by
  rw [Dat.before_out_traj _ 16 rfl (fun _ _ => rfl) (hcarry0_16 m c) t.val t rfl d,
    if_neg (by rw [notFresh0_16_C t (nc0_of h) (nc1_of h1) (c2_of h1)]; exact Bool.false_ne_true)]
  dsimp only [dats]

theorem hcarry0_18 (c : Dev nD) : ∀ (t : Fin cfg0.N) (_ : t.val ≠ 0), cfg0.idle 18 (grid0.coords t) = true → cfg0.fresh 18 t.val = false →
    (dats m 0 c).after 18 t = (dats m 0 c).after 18 ⟨t.val - 1, by omega⟩ := by
  intro t hz hi _
  by_cases h1 : t.val < 32
  · rw [liveAt0_18_B t (nc0_of hz) (c1_of h1) (nc2_of h1)] at hi
    exact absurd hi Bool.false_ne_true
  · rw [after0_18, after0_18, outsAt_C m c t hz h1]
theorem before0_18_B (c : Dev nD) (t : Fin cfg0.N) (h : t.val ≠ 0) (h1 : t.val < 32) (d) :
    (dats m 0 c).before 18 t d = (prevAt m c t).dqg := by
  rw [Dat.before_out_traj _ 18 rfl (fun _ _ => rfl) (hcarry0_18 m c) t.val t rfl d,
    if_neg (by rw [notFresh0_18_B t (nc0_of h) (c1_of h1) (nc2_of h1)]; exact Bool.false_ne_true)]
  dsimp only [dats]
theorem before0_18_C (c : Dev nD) (t : Fin cfg0.N) (h : t.val ≠ 0) (h1 : ¬t.val < 32) (d) :
    (dats m 0 c).before 18 t d = (prevAt m c t).dqg := by
  rw [Dat.before_out_traj _ 18 rfl (fun _ _ => rfl) (hcarry0_18 m c) t.val t rfl d,
    if_neg (by rw [notFresh0_18_C t (nc0_of h) (nc1_of h1) (c2_of h1)]; exact Bool.false_ne_true)]
  dsimp only [dats]

theorem hcarry0_19 (c : Dev nD) : ∀ (t : Fin cfg0.N) (_ : t.val ≠ 0), cfg0.idle 19 (grid0.coords t) = true → cfg0.fresh 19 t.val = false →
    (dats m 0 c).after 19 t = (dats m 0 c).after 19 ⟨t.val - 1, by omega⟩ := by
  intro t hz hi _
  by_cases h1 : t.val < 32
  · rw [liveAt0_19_B t (nc0_of hz) (c1_of h1) (nc2_of h1)] at hi
    exact absurd hi Bool.false_ne_true
  · rw [after0_19, after0_19, outsAt_C m c t hz h1]
theorem before0_19_B (c : Dev nD) (t : Fin cfg0.N) (h : t.val ≠ 0) (h1 : t.val < 32) (d) :
    (dats m 0 c).before 19 t d = (prevAt m c t).dkg := by
  rw [Dat.before_out_traj _ 19 rfl (fun _ _ => rfl) (hcarry0_19 m c) t.val t rfl d,
    if_neg (by rw [notFresh0_19_B t (nc0_of h) (c1_of h1) (nc2_of h1)]; exact Bool.false_ne_true)]
  dsimp only [dats]
theorem before0_19_C (c : Dev nD) (t : Fin cfg0.N) (h : t.val ≠ 0) (h1 : ¬t.val < 32) (d) :
    (dats m 0 c).before 19 t d = (prevAt m c t).dkg := by
  rw [Dat.before_out_traj _ 19 rfl (fun _ _ => rfl) (hcarry0_19 m c) t.val t rfl d,
    if_neg (by rw [notFresh0_19_C t (nc0_of h) (nc1_of h1) (c2_of h1)]; exact Bool.false_ne_true)]
  dsimp only [dats]

theorem hcarry0_20 (c : Dev nD) : ∀ (t : Fin cfg0.N) (_ : t.val ≠ 0), cfg0.idle 20 (grid0.coords t) = true → cfg0.fresh 20 t.val = false →
    (dats m 0 c).after 20 t = (dats m 0 c).after 20 ⟨t.val - 1, by omega⟩ := by
  intro t hz hi _
  by_cases h1 : t.val < 32
  · rw [liveAt0_20_B t (nc0_of hz) (c1_of h1) (nc2_of h1)] at hi
    exact absurd hi Bool.false_ne_true
  · rw [after0_20, after0_20, outsAt_C m c t hz h1]
theorem before0_20_B (c : Dev nD) (t : Fin cfg0.N) (h : t.val ≠ 0) (h1 : t.val < 32) (d) :
    (dats m 0 c).before 20 t d = (prevAt m c t).dsink := by
  rw [Dat.before_out_traj _ 20 rfl (fun _ _ => rfl) (hcarry0_20 m c) t.val t rfl d,
    if_neg (by rw [notFresh0_20_B t (nc0_of h) (c1_of h1) (nc2_of h1)]; exact Bool.false_ne_true)]
  dsimp only [dats]
theorem before0_20_C (c : Dev nD) (t : Fin cfg0.N) (h : t.val ≠ 0) (h1 : ¬t.val < 32) (d) :
    (dats m 0 c).before 20 t d = (prevAt m c t).dsink := by
  rw [Dat.before_out_traj _ 20 rfl (fun _ _ => rfl) (hcarry0_20 m c) t.val t rfl d,
    if_neg (by rw [notFresh0_20_C t (nc0_of h) (nc1_of h1) (c2_of h1)]; exact Bool.false_ne_true)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

theorem leaves0_0 (c : Dev nD) (t : Fin cfg0.N) : (dats m 0 c).leavesExact 0 t = owns (c : Thread nD τ) (ms0_0 t) fullShare (X0_0 m c t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem leaves0_13 (c : Dev nD) (t : Fin cfg0.N) : (dats m 0 c).leavesExact 13 t = owns (c : Thread nD τ) (ms0_13 t) fullShare (iblk m c 13 t) := by
  unfold Dat.leavesExact; rw [liveAt0_13 t, after0_13]
theorem leaves0_14 (c : Dev nD) (t : Fin cfg0.N) : (dats m 0 c).leavesExact 14 t = owns (c : Thread nD τ) (ms0_14 t) fullShare (iblk m c 14 t) := by
  unfold Dat.leavesExact; rw [liveAt0_14 t, after0_14]
theorem leaves0_15 (c : Dev nD) (t : Fin cfg0.N) : (dats m 0 c).leavesExact 15 t = owns (c : Thread nD τ) (ms0_15 t) fullShare (iblk m c 15 t) := by
  unfold Dat.leavesExact; rw [liveAt0_15 t, after0_15]

set_option maxHeartbeats 28800000 in
theorem sound_A (c : Dev nD) (t : Fin cfg0.N) (h : t.val = 0) (h1 : t.val < 32) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12, leaves0_13, leaves0_14, leaves0_15]
  rw [show (dats m 0 c).leavesExact 16 t = owns (c : Thread nD τ) (ms0_16 t) fullShare ((dats m 0 c).after 16 t) from by
    unfold Dat.leavesExact; rw [liveAt0_16_A t (c0_of h) (c1_of h1) (nc2_of h1)], after0_16]
  rw [show (dats m 0 c).leavesExact 17 t = owns (c : Thread nD τ) (ms0_17 t) fullShare ((dats m 0 c).after 17 t) from by
    unfold Dat.leavesExact; rw [liveAt0_17_A t (c0_of h) (c1_of h1) (nc2_of h1)], after0_17]
  rw [show (dats m 0 c).leavesExact 18 t = owns (c : Thread nD τ) (ms0_18 t) fullShare ((dats m 0 c).after 18 t) from by
    unfold Dat.leavesExact; rw [liveAt0_18_A t (c0_of h) (c1_of h1) (nc2_of h1)], after0_18]
  rw [show (dats m 0 c).leavesExact 19 t = owns (c : Thread nD τ) (ms0_19 t) fullShare ((dats m 0 c).after 19 t) from by
    unfold Dat.leavesExact; rw [liveAt0_19_A t (c0_of h) (c1_of h1) (nc2_of h1)], after0_19]
  rw [show (dats m 0 c).leavesExact 20 t = owns (c : Thread nD τ) (ms0_20 t) fullShare ((dats m 0 c).after 20 t) from by
    unfold Dat.leavesExact; rw [liveAt0_20_A t (c0_of h) (c1_of h1) (nc2_of h1)], after0_20]
  rw [PhiS_castSucc m c t, PhiS_zero m c _ _ h, PhiA0_eq, outsAt_A m c t h h1]
  unfold outsA; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runA c t (c0_of h) (c1_of h1) (nc2_of h1) (insAt m c t)).2.2.2.2.2.2 Set.univ (fun _ => _))
  isplitl [H0 H1 H2 H3 H4 H5 H6 H7 H8 H9 H10 H11 H12 H13 H14 H15]
  · unfold ownsIns insAt; dsimp only
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  unfold ownsIns insAt; dsimp only
  iintro ⟨⟨H0, H1, H2, H3, H4, H5, H6, H7, H8, H9, H10, H11, H12, H13, H14, H15⟩, ⟨%e16, H16⟩, ⟨%e17, H17⟩, ⟨%e18, H18⟩, ⟨%e19, H19⟩, ⟨%e20, H20⟩, ⟨%es0, HS0⟩, HS1, HS2, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scoverA c t (c0_of h) (c1_of h1) (nc2_of h1) (insAt m c t))
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverA_16 c t (c0_of h) (c1_of h1) (nc2_of h1) (insAt m c t))
  isplitl [H17]
  · unfold owns; iexists _; isplitr
    swap; · iexact H17
    ipureintro; exact View.read_writes_of_cover _ _ _ _ _ (coverA_17 c t (c0_of h) (c1_of h1) (nc2_of h1) (insAt m c t))
  isplitl [H18]
  · unfold owns; iexists _; isplitr
    swap; · iexact H18
    ipureintro; exact View.read_writes_of_cover _ _ _ _ _ (coverA_18 c t (c0_of h) (c1_of h1) (nc2_of h1) (insAt m c t))
  isplitl [H19]
  · unfold owns; iexists _; isplitr
    swap; · iexact H19
    ipureintro; exact View.read_writes_of_cover _ _ _ _ _ (coverA_19 c t (c0_of h) (c1_of h1) (nc2_of h1) (insAt m c t))
  unfold owns; iexists _; isplitr
  swap; · iexact H20
  ipureintro; exact View.read_writes_of_cover _ _ _ _ _ (coverA_20 c t (c0_of h) (c1_of h1) (nc2_of h1) (insAt m c t))

set_option maxHeartbeats 28800000 in
theorem sound_B (c : Dev nD) (t : Fin cfg0.N) (h : t.val ≠ 0) (h1 : t.val < 32) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12, leaves0_13, leaves0_14, leaves0_15]
  rw [show (dats m 0 c).leavesExact 16 t = owns (c : Thread nD τ) (ms0_16 t) fullShare ((dats m 0 c).after 16 t) from by
    unfold Dat.leavesExact; rw [liveAt0_16_B t (nc0_of h) (c1_of h1) (nc2_of h1)], after0_16]
  rw [show (dats m 0 c).leavesExact 17 t = owns (c : Thread nD τ) (ms0_17 t) fullShare ((dats m 0 c).after 17 t) from by
    unfold Dat.leavesExact; rw [liveAt0_17_B t (nc0_of h) (c1_of h1) (nc2_of h1)], after0_17]
  rw [show (dats m 0 c).leavesExact 18 t = owns (c : Thread nD τ) (ms0_18 t) fullShare ((dats m 0 c).after 18 t) from by
    unfold Dat.leavesExact; rw [liveAt0_18_B t (nc0_of h) (c1_of h1) (nc2_of h1)], after0_18]
  rw [show (dats m 0 c).leavesExact 19 t = owns (c : Thread nD τ) (ms0_19 t) fullShare ((dats m 0 c).after 19 t) from by
    unfold Dat.leavesExact; rw [liveAt0_19_B t (nc0_of h) (c1_of h1) (nc2_of h1)], after0_19]
  rw [show (dats m 0 c).leavesExact 20 t = owns (c : Thread nD τ) (ms0_20 t) fullShare ((dats m 0 c).after 20 t) from by
    unfold Dat.leavesExact; rw [liveAt0_20_B t (nc0_of h) (c1_of h1) (nc2_of h1)], after0_20]
  rw [PhiS_castSucc m c t, PhiS_pos m c _ _ h, outsAt_B m c t h h1]
  simp only [before0_18_B m c t h h1, before0_19_B m c t h h1, before0_20_B m c t h h1]
  unfold outsB; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runB c t (nc0_of h) (c1_of h1) (nc2_of h1) (insAt m c t) (prevAt m c t).dqg (prevAt m c t).dkg (prevAt m c t).dsink (prevAt m c t).carry).2.2.2.2.2.2 Set.univ (fun _ => _))
  isplitl [H0 H1 H2 H3 H4 H5 H6 H7 H8 H9 H10 H11 H12 H13 H14 H15]
  · unfold ownsIns insAt; dsimp only
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H16]; · iexists _; iexact H16
  isplitl [H17]; · iexists _; iexact H17
  isplitl [H18]; · iexact H18
  isplitl [H19]; · iexact H19
  isplitl [H20]; · iexact H20
  isplitl [HS0]; · iexact HS0
  isplitl [HS1]; · iexact HS1
  isplitl [HS2]; · iexact HS2
  isplitl [HS3]; · iexact HS3
  unfold ownsIns insAt; dsimp only
  iintro ⟨⟨H0, H1, H2, H3, H4, H5, H6, H7, H8, H9, H10, H11, H12, H13, H14, H15⟩, ⟨%e16, H16⟩, ⟨%e17, H17⟩, ⟨%e18, H18⟩, ⟨%e19, H19⟩, ⟨%e20, H20⟩, ⟨%es0, HS0⟩, HS1, HS2, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (scoverB c t (nc0_of h) (c1_of h1) (nc2_of h1) (insAt m c t) (prevAt m c t).dqg (prevAt m c t).dkg (prevAt m c t).dsink (prevAt m c t).carry)
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverB_16 c t (nc0_of h) (c1_of h1) (nc2_of h1) (insAt m c t) (prevAt m c t).dqg (prevAt m c t).dkg (prevAt m c t).dsink (prevAt m c t).carry)
  isplitl [H17]
  · unfold owns; iexists _; isplitr
    swap; · iexact H17
    ipureintro; exact View.read_writes_of_cover _ _ _ _ _ (coverB_17 c t (nc0_of h) (c1_of h1) (nc2_of h1) (insAt m c t) (prevAt m c t).dqg (prevAt m c t).dkg (prevAt m c t).dsink (prevAt m c t).carry)
  isplitl [H18]
  · unfold owns; iexists _; isplitr
    swap; · iexact H18
    ipureintro; exact View.read_writes_of_cover _ _ _ _ _ (coverB_18 c t (nc0_of h) (c1_of h1) (nc2_of h1) (insAt m c t) (prevAt m c t).dqg (prevAt m c t).dkg (prevAt m c t).dsink (prevAt m c t).carry)
  isplitl [H19]
  · unfold owns; iexists _; isplitr
    swap; · iexact H19
    ipureintro; exact View.read_writes_of_cover _ _ _ _ _ (coverB_19 c t (nc0_of h) (c1_of h1) (nc2_of h1) (insAt m c t) (prevAt m c t).dqg (prevAt m c t).dkg (prevAt m c t).dsink (prevAt m c t).carry)
  unfold owns; iexists _; isplitr
  swap; · iexact H20
  ipureintro; exact View.read_writes_of_cover _ _ _ _ _ (coverB_20 c t (nc0_of h) (c1_of h1) (nc2_of h1) (insAt m c t) (prevAt m c t).dqg (prevAt m c t).dkg (prevAt m c t).dsink (prevAt m c t).carry)

set_option maxHeartbeats 28800000 in
theorem sound_C (c : Dev nD) (t : Fin cfg0.N) (h : t.val ≠ 0) (h1 : ¬t.val < 32) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12, leaves0_13, leaves0_14, leaves0_15]
  rw [show (dats m 0 c).leavesExact 16 t = owns (c : Thread nD τ) (ms0_16 t) fullShare ((dats m 0 c).after 16 t) from by
    unfold Dat.leavesExact; rw [idleAt0_16 t (nc1_of h1), flushLast0_16 t (nc1_of h1)], after0_16]
  rw [show (dats m 0 c).leavesExact 17 t = owns (c : Thread nD τ) (ms0_17 t) fullShare ((dats m 0 c).after 17 t) from by
    unfold Dat.leavesExact; rw [liveAt0_17_C t (nc0_of h) (nc1_of h1) (c2_of h1)], after0_17]
  rw [show (dats m 0 c).leavesExact 18 t = owns (c : Thread nD τ) (ms0_18 t) fullShare ((dats m 0 c).after 18 t) from by
    unfold Dat.leavesExact; rw [idleAt0_18 t (nc1_of h1), flushLast0_18 t (nc1_of h1)], after0_18]
  rw [show (dats m 0 c).leavesExact 19 t = owns (c : Thread nD τ) (ms0_19 t) fullShare ((dats m 0 c).after 19 t) from by
    unfold Dat.leavesExact; rw [idleAt0_19 t (nc1_of h1), flushLast0_19 t (nc1_of h1)], after0_19]
  rw [show (dats m 0 c).leavesExact 20 t = owns (c : Thread nD τ) (ms0_20 t) fullShare ((dats m 0 c).after 20 t) from by
    unfold Dat.leavesExact; rw [idleAt0_20 t (nc1_of h1), flushLast0_20 t (nc1_of h1)], after0_20]
  rw [PhiS_castSucc m c t, PhiS_pos m c _ _ h, outsAt_C m c t h h1]
  simp only [before0_16_C m c t h h1, before0_18_C m c t h h1, before0_19_C m c t h h1, before0_20_C m c t h h1]
  unfold outC; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runC c t (nc0_of h) (nc1_of h1) (c2_of h1) (prevAt m c t).carry).2 Set.univ (fun _ => _))
  isplitl [H17]; · iexists _; iexact H17
  isplitl [HS0]; · iexact HS0
  iintro ⟨⟨%e17, H17⟩, HS0⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (coverC_17 c t (nc0_of h) (nc1_of h1) (c2_of h1) (prevAt m c t).carry)
  isplitl [H18]; · iexact H18
  isplitl [H19]; · iexact H19
  iexact H20

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h (by omega)
  · by_cases h1 : t.val < 32
    · exact sound_B m c t h h1
    · exact sound_C m c t h h1

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 33 := N_0; omega), PhiA0_eq]
  iintro ⟨⟨HS0, HS1, HS2, HS3⟩, Hg⟩
  isplitl [HS0 HS1 HS2 HS3]
  · isplitl [HS0]; · iexists _; iexact HS0
    isplitl [HS1]; · iexact HS1
    isplitl [HS2]; · iexact HS2
    iexact HS3
  iexact Hg

set_option backward.isDefEq.respectTransparency.types false in
/-- The launch from any memory: every array at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.DactValue.lean ====
/- The gradient of the second feed-forward product with respect to its left factor. -/
module

public import proofs.«01_k».proof.Defs
public import proofs.«01_k».proof.Proof.Gen.DactKernelIdeal.Value
public import proofs.«01_k».proof.Proof.Gen.DactReferenceIdeal.Run
public import Idealize.ShloMosaic.Lib.Pointwise

@[expose] public section

set_option maxRecDepth 16384

noncomputable section

namespace Cert.DactKernelIdeal.Value

open Cert.DactKernelIdeal Cert.DactKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with the transpose of `w`. -/
def prod (x : Vec Ideal S4096x2048 .bf16) (w : Vec Ideal S1x1x5632x2048 .bf16) : Vec Ideal S4096x5632 .bf16 := fun j =>
  ∑ k : Fin 2048, x (ix2 (j 0) k) * w (ix4 0 0 (j 1) k)

/-- Where the blocks of the windows lie at a grid point. -/
theorem index_eq : ∀ t : Fin grid0.N,
    win0_0.index t 0 = t.val % 4 ∧ win0_0.index t 1 = 0 ∧ win0_1.index t 0 = 0
    ∧ win0_1.index t 1 = 0 ∧ win0_1.index t 2 = t.val / 4 ∧ win0_1.index t 3 = 0
    ∧ win0_2.index t 0 = t.val % 4 ∧ win0_2.index t 1 = t.val / 4 := by
  decide +kernel

/-- An entry of window 0's block is the entry of its array at the block's offset. -/
theorem blk0 (c : Dev nD) (t : Fin cfg0.N) (y : S1024x2048.Idx) (i : S4096x2048.Idx)
    (h : ∀ a, (i a : Nat) = win0_0.index t a * S1024x2048.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S1x1x1408x2048.Idx) (i : S1x1x5632x2048.Idx)
    (h : ∀ a, (i a : Nat) = win0_1.index t a * S1x1x1408x2048.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S1024x2048 .bf16) (w : Vec Ideal S1x1x1408x2048 .bf16) (r : Fin 1024) (n : Fin 1408) :
    out0_2 (F := Ideal) x w (ix2 r n) = ∑ k : Fin 2048, x (ix2 r k) * w (ix4 0 0 n k) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz2, View.ld_unit_zero hz2, View.ld_unit_zero hz4]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 1024) (n : Fin 1408), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 1024 + r.val := win0_2.rect_emb_val t (ix2 r n) 0
    have e1 : ((win0_2.rect t).emb (ix2 r n) 1 : Nat) = win0_2.index t 1 * 1408 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 5632 := (j 1).isLt
    have ht : t.val < 16 := N_0 ▸ t.isLt
    have hr := r.isLt; have hn := n.isLt
    refine Finset.sum_congr rfl fun k _ => congrArg₂ (· * ·) (blk0 m c t _ _ fun a => ?_) (blk1 m c t _ _ fun a => ?_)
    · fin_cases a
      · show (j 0 : Nat) = win0_0.index t 0 * 1024 + r.val; omega
      · show k.val = win0_0.index t 1 * 2048 + k.val; omega
    · fin_cases a
      · show 0 = win0_1.index t 0 * 1 + 0; omega
      · show 0 = win0_1.index t 1 * 1 + 0; omega
      · show (j 1 : Nat) = win0_1.index t 2 * 1408 + n.val; omega
      · show k.val = win0_1.index t 3 * 2048 + k.val; omega
  · have i0 : (i 0 : Nat) < 4096 := (i 0).isLt
    have i1 : (i 1 : Nat) < 5632 := (i 1).isLt
    have hN : grid0.N = 16 := N_0
    refine ⟨⟨(i 1 : Nat) / 1408 * 4 + (i 0 : Nat) / 1024, by show _ < grid0.N; omega⟩, flush0_2 _, ?_⟩
    generalize ht : (⟨(i 1 : Nat) / 1408 * 4 + (i 0 : Nat) / 1024, _⟩ : Fin cfg0.N) = t
    have hv : t.val = (i 1 : Nat) / 1408 * 4 + (i 0 : Nat) / 1024 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 1024 ≤ (i 0 : Nat) ∧ (i 0 : Nat) < win0_2.index t 0 * 1024 + 1024; rw [h20]; omega
    · show win0_2.index t 1 * 1408 ≤ (i 1 : Nat) ∧ (i 1 : Nat) < win0_2.index t 1 * 1408 + 1408; rw [h21]; omega

end Cert.DactKernelIdeal.Value

namespace Cert.DactReferenceIdeal.Value

open Cert.DactReferenceIdeal Cert.DactReferenceIdeal.Gen Idealize.ShloMosaic Idealize.ShloMosaic.TcCoe Idealize.SL.Sem

/-- The reference's composed term is the product. -/
theorem ref_eq (x : Vec Ideal S4096x2048 .bf16) (w : Vec Ideal S1x1x5632x2048 .bf16) :
    (truncf .bf16 (Host.dotGeneral dot_S4096x2048_S5632x2048_S4096x5632_1_1_0_0_n_n none (extf .f32 x bitsLt_bf16_f32) (extf .f32 (shapeCast _ w shapeCasts_S1x1x5632x2048_S5632x2048) bitsLt_bf16_f32)) bitsLt_bf16_f32 : FVec Ideal S4096x5632 .bf16)
      = Cert.DactKernelIdeal.Value.prod x w := by
  funext j
  idx_vars j
  pointwise [Cert.DactKernelIdeal.Value.prod]

end Cert.DactReferenceIdeal.Value

namespace Cert.Proof

open Idealize.ShloMosaic Idealize.SL.Sem

/-- The kernel and the reference compute the same array. -/
theorem algebraic_dact : Cert.algebraic_DactKernelIdeal_DactReferenceIdeal := by
  intro m g m' g' _ hm
  refine ⟨fun c => Cert.DactKernelIdeal.Value.prod (m ((c.tc : Thread _ _).loc Cert.DactKernelIdeal.main_arg0)) (m ((c.tc : Thread _ _).loc Cert.DactKernelIdeal.main_arg1)), ?_, ?_⟩
  · exact (θ_run _ _ _).mono (fun r h c => ⟨(h c).1.trans (Cert.DactKernelIdeal.Value.final m c), (h c).2⟩)
      (Cert.DactKernelIdeal.Value.run_blocks m g)
  · refine (θ_run _ _ _).mono (fun r h c => ⟨(h c).1.trans ?_, (h c).2⟩) (Cert.DactReferenceIdeal.Value.run m' g')
    rw [(hm c).1, (hm c).2]
    exact Cert.DactReferenceIdeal.Value.ref_eq _ _

end Cert.Proof

end
-- ==== Proof.DwoValue.lean ====
/- The gradient of the second feed-forward product with respect to its weight. -/
module

public import proofs.«01_k».proof.Defs
public import proofs.«01_k».proof.Proof.Gen.DwoKernelIdeal.Value
public import proofs.«01_k».proof.Proof.Gen.DwoReferenceIdeal.Run
public import Idealize.ShloMosaic.Lib.Pointwise

@[expose] public section

set_option maxRecDepth 16384

noncomputable section

namespace Cert.DwoKernelIdeal.Value

open Cert.DwoKernelIdeal Cert.DwoKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (0, 0, r, n) of the product of the transpose of `x` with `w`. -/
def prod (x : Vec Ideal S4096x5632 .bf16) (w : Vec Ideal S4096x2048 .bf16) : Vec Ideal S1x1x5632x2048 .f32 := fun j =>
  ∑ k : Fin 4096, x (ix2 k (j 2)) * w (ix2 k (j 3))

/-- Where the blocks of the windows lie at a grid point. -/
theorem index_eq : ∀ t : Fin grid0.N,
    win0_0.index t 0 = 0 ∧ win0_0.index t 1 = t.val / 2 ∧ win0_1.index t 0 = 0
    ∧ win0_1.index t 1 = t.val % 2 ∧ win0_2.index t 0 = 0 ∧ win0_2.index t 1 = 0
    ∧ win0_2.index t 2 = t.val / 2 ∧ win0_2.index t 3 = t.val % 2 := by
  decide +kernel

/-- An entry of window 0's block is the entry of its array at the block's offset. -/
theorem blk0 (c : Dev nD) (t : Fin cfg0.N) (y : S4096x512.Idx) (i : S4096x5632.Idx)
    (h : ∀ a, (i a : Nat) = win0_0.index t a * S4096x512.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S4096x1024.Idx) (i : S4096x2048.Idx)
    (h : ∀ a, (i a : Nat) = win0_1.index t a * S4096x1024.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S4096x512 .bf16) (w : Vec Ideal S4096x1024 .bf16) (r : Fin 512) (n : Fin 1024) :
    out0_2 (F := Ideal) x w (ix4 0 0 r n) = ∑ k : Fin 4096, x (ix2 k r) * w (ix2 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz4, View.ld_unit_zero hz2, View.ld_unit_zero hz2]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 512) (n : Fin 1024), y = (ix4 0 0 r n) := ⟨y 2, y 3, (eq_ix4 y).trans (congrArg₂ (fun a b => ix4 a b (y 2) (y 3))
      (Subsingleton.elim (α := Fin 1) (y 0) 0) (Subsingleton.elim (α := Fin 1) (y 1) 0))⟩
    obtain ⟨h00, h01, h10, h11, h20, h21, h22, h23⟩ := index_eq t
    refine (out_apply _ _ r n).trans ?_
    show _ = prod _ _ ((win0_2.rect t).emb ((ix4 0 0 r n)))
    have e0 : ((win0_2.rect t).emb (ix4 0 0 r n) 0 : Nat) = win0_2.index t 0 * 1 + 0 := win0_2.rect_emb_val t (ix4 0 0 r n) 0
    have e1 : ((win0_2.rect t).emb (ix4 0 0 r n) 1 : Nat) = win0_2.index t 1 * 1 + 0 := win0_2.rect_emb_val t (ix4 0 0 r n) 1
    have e2 : ((win0_2.rect t).emb (ix4 0 0 r n) 2 : Nat) = win0_2.index t 2 * 512 + r.val := win0_2.rect_emb_val t (ix4 0 0 r n) 2
    have e3 : ((win0_2.rect t).emb (ix4 0 0 r n) 3 : Nat) = win0_2.index t 3 * 1024 + n.val := win0_2.rect_emb_val t (ix4 0 0 r n) 3
    generalize (win0_2.rect t).emb ((ix4 0 0 r n)) = j at e0 e1 e2 e3 ⊢
    unfold prod
    rw [h20] at e0; rw [h21] at e1; rw [h22] at e2; rw [h23] at e3
    have l0 : (j 0 : Nat) < 1 := (j 0).isLt
    have l1 : (j 1 : Nat) < 1 := (j 1).isLt
    have l2 : (j 2 : Nat) < 5632 := (j 2).isLt
    have l3 : (j 3 : Nat) < 2048 := (j 3).isLt
    have ht : t.val < 22 := N_0 ▸ t.isLt
    have hr := r.isLt; have hn := n.isLt
    refine Finset.sum_congr rfl fun k _ => congrArg₂ (· * ·) (blk0 m c t _ _ fun a => ?_) (blk1 m c t _ _ fun a => ?_)
    · fin_cases a
      · show k.val = win0_0.index t 0 * 4096 + k.val; omega
      · show (j 2 : Nat) = win0_0.index t 1 * 512 + r.val; omega
    · fin_cases a
      · show k.val = win0_1.index t 0 * 4096 + k.val; omega
      · show (j 3 : Nat) = win0_1.index t 1 * 1024 + n.val; omega
  · have i0 : (i 0 : Nat) < 1 := (i 0).isLt
    have i1 : (i 1 : Nat) < 1 := (i 1).isLt
    have i2 : (i 2 : Nat) < 5632 := (i 2).isLt
    have i3 : (i 3 : Nat) < 2048 := (i 3).isLt
    have hN : grid0.N = 22 := N_0
    refine ⟨⟨(i 2 : Nat) / 512 * 2 + (i 3 : Nat) / 1024, by show _ < grid0.N; omega⟩, flush0_2 _, ?_⟩
    generalize ht : (⟨(i 2 : Nat) / 512 * 2 + (i 3 : Nat) / 1024, _⟩ : Fin cfg0.N) = t
    have hv : t.val = (i 2 : Nat) / 512 * 2 + (i 3 : Nat) / 1024 := by rw [← ht]
    obtain ⟨h00, h01, h10, h11, h20, h21, h22, h23⟩ := index_eq t
    show i ∈ ((View.whole main_v0).slice (win0_2.rect t)).set
    rw [View.set_slice_whole, Rect.mem_set_unit]
    intro a
    fin_cases a
    · show win0_2.index t 0 * 1 ≤ (i 0 : Nat) ∧ (i 0 : Nat) < win0_2.index t 0 * 1 + 1; rw [h20]; omega
    · show win0_2.index t 1 * 1 ≤ (i 1 : Nat) ∧ (i 1 : Nat) < win0_2.index t 1 * 1 + 1; rw [h21]; omega
    · show win0_2.index t 2 * 512 ≤ (i 2 : Nat) ∧ (i 2 : Nat) < win0_2.index t 2 * 512 + 512; rw [h22]; omega
    · show win0_2.index t 3 * 1024 ≤ (i 3 : Nat) ∧ (i 3 : Nat) < win0_2.index t 3 * 1024 + 1024; rw [h23]; omega

end Cert.DwoKernelIdeal.Value

namespace Cert.DwoReferenceIdeal.Value

open Cert.DwoReferenceIdeal Cert.DwoReferenceIdeal.Gen Idealize.ShloMosaic Idealize.ShloMosaic.TcCoe Idealize.SL.Sem

/-- The reference's composed term is the product. -/
theorem ref_eq (x : Vec Ideal S4096x5632 .bf16) (w : Vec Ideal S4096x2048 .bf16) :
    (broadcastInDim S1x1x5632x2048 ![2, 3] bcast_S5632x2048_S1x1x5632x2048_2_3 (transpose S5632x2048 [1, 0] (Host.dotGeneral dot_S4096x2048_S4096x5632_S2048x5632_0_0_1_1_n_n none (extf .f32 w bitsLt_bf16_f32) (extf .f32 x bitsLt_bf16_f32)) transposes_S2048x5632_S5632x2048_1_0) : FVec Ideal S1x1x5632x2048 .f32)
      = Cert.DwoKernelIdeal.Value.prod x w := by
  funext j
  idx_vars j
  pointwise [Cert.DwoKernelIdeal.Value.prod]
  exact Finset.sum_congr rfl fun k _ => mul_comm _ _

end Cert.DwoReferenceIdeal.Value

namespace Cert.Proof

open Idealize.ShloMosaic Idealize.SL.Sem

/-- The kernel and the reference compute the same array. -/
theorem algebraic_dwo : Cert.algebraic_DwoKernelIdeal_DwoReferenceIdeal := by
  intro m g m' g' _ hm
  refine ⟨fun c => Cert.DwoKernelIdeal.Value.prod (m ((c.tc : Thread _ _).loc Cert.DwoKernelIdeal.main_arg0)) (m ((c.tc : Thread _ _).loc Cert.DwoKernelIdeal.main_arg1)), ?_, ?_⟩
  · exact (θ_run _ _ _).mono (fun r h c => ⟨(h c).1.trans (Cert.DwoKernelIdeal.Value.final m c), (h c).2⟩)
      (Cert.DwoKernelIdeal.Value.run_blocks m g)
  · refine (θ_run _ _ _).mono (fun r h c => ⟨(h c).1.trans ?_, (h c).2⟩) (Cert.DwoReferenceIdeal.Value.run m' g')
    rw [(hm c).1, (hm c).2]
    exact Cert.DwoReferenceIdeal.Value.ref_eq _ _

end Cert.Proof

end
-- ==== Proof.DhValue.lean ====
/- The gradient of the first feed-forward product with respect to its left factor. -/
module

public import proofs.«01_k».proof.Defs
public import proofs.«01_k».proof.Proof.Gen.DhKernelIdeal.Value
public import proofs.«01_k».proof.Proof.Gen.DhReferenceIdeal.Run
public import Idealize.ShloMosaic.Lib.Pointwise

@[expose] public section

set_option maxRecDepth 16384

noncomputable section

namespace Cert.DhKernelIdeal.Value

open Cert.DhKernelIdeal Cert.DhKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with the transpose of the matrix whose columns are those of the 4 shards of `w` side by side. -/
def prod (x : Vec Ideal S4096x11264 .bf16) (w : Vec Ideal S4x1x2048x2816 .bf16) : Vec Ideal S4096x2048 .f32 := fun j =>
  ∑ s : Fin 4, ∑ b : Fin 2, ∑ k : Fin 1408, x (ix2 (j 0) ⟨((2 * s.val + b.val) % 4 * 2 + (2 * s.val + b.val) / 4) * 1408 + k.val, by omega⟩)
    * w (ix4 s 0 (j 1) ⟨b.val * 1408 + k.val, by omega⟩)

/-- Where the blocks of the windows lie at a grid point. -/
theorem index_eq : ∀ t : Fin grid0.N,
    win0_0.index t 0 = t.val % 8 ∧ win0_0.index t 1 = 0 ∧ win0_1.index t 0 = 0
    ∧ win0_1.index t 1 = 0 ∧ win0_1.index t 2 = t.val / 8 ∧ win0_1.index t 3 = 0
    ∧ win0_2.index t 0 = t.val % 8 ∧ win0_2.index t 1 = t.val / 8 := by
  decide +kernel

/-- An entry of window 0's block is the entry of its array at the block's offset. -/
theorem blk0 (c : Dev nD) (t : Fin cfg0.N) (y : S512x11264.Idx) (i : S4096x11264.Idx)
    (h : ∀ a, (i a : Nat) = win0_0.index t a * S512x11264.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S4x1x512x2816.Idx) (i : S4x1x2048x2816.Idx)
    (h : ∀ a, (i a : Nat) = win0_1.index t a * S4x1x512x2816.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S512x11264 .bf16) (w : Vec Ideal S4x1x512x2816 .bf16) (r : Fin 512) (n : Fin 512) :
    out0_2 (F := Ideal) x w (ix2 r n) = ∑ s : Fin 4, ∑ b : Fin 2, ∑ k : Fin 1408, x (ix2 r ⟨((2 * s.val + b.val) % 4 * 2 + (2 * s.val + b.val) / 4) * 1408 + k.val, by omega⟩)
    * w (ix4 s 0 n ⟨b.val * 1408 + k.val, by omega⟩) := by
  have hz2 : (![0, 0] : Fin 2 → Nat) = fun _ => 0 := funext fun a => by fin_cases a <;> rfl
  unfold out0_2
  rw [View.canon_unit_zero hz2]
  pointwise [k0_pay1, k0_pay2, k0_pay3]
  simp only [Fin.sum_univ_four, Fin.sum_univ_two, ← add_assoc]
  exact (congrArg₂ (· + ·) (congrArg₂ (· + ·) (congrArg₂ (· + ·) (congrArg₂ (· + ·) (congrArg₂ (· + ·) (congrArg₂ (· + ·) (congrArg₂ (· + ·) (Finset.sum_congr rfl fun k _ => congrArg₂ (fun a b => x (ix2 r a) * w (ix4 0 0 n b))
      (Fin.ext (by show k.val = ((2 * 0 + 0) % 4 * 2 + (2 * 0 + 0) / 4) * 1408 + k.val; omega)) (Fin.ext (by show k.val = 0 * 1408 + k.val; omega)))
    (Finset.sum_congr rfl fun k _ => congrArg₂ (fun a b => x (ix2 r a) * w (ix4 0 0 n b))
      (Fin.ext (by show 2816 + k.val = ((2 * 0 + 1) % 4 * 2 + (2 * 0 + 1) / 4) * 1408 + k.val; omega)) (Fin.ext (by show 1408 + k.val = 1 * 1408 + k.val; omega))))
    (Finset.sum_congr rfl fun k _ => congrArg₂ (fun a b => x (ix2 r a) * w (ix4 1 0 n b))
      (Fin.ext (by show 5632 + k.val = ((2 * 1 + 0) % 4 * 2 + (2 * 1 + 0) / 4) * 1408 + k.val; omega)) (Fin.ext (by show k.val = 0 * 1408 + k.val; omega))))
    (Finset.sum_congr rfl fun k _ => congrArg₂ (fun a b => x (ix2 r a) * w (ix4 1 0 n b))
      (Fin.ext (by show 8448 + k.val = ((2 * 1 + 1) % 4 * 2 + (2 * 1 + 1) / 4) * 1408 + k.val; omega)) (Fin.ext (by show 1408 + k.val = 1 * 1408 + k.val; omega))))
    (Finset.sum_congr rfl fun k _ => congrArg₂ (fun a b => x (ix2 r a) * w (ix4 2 0 n b))
      (Fin.ext (by show 1408 + k.val = ((2 * 2 + 0) % 4 * 2 + (2 * 2 + 0) / 4) * 1408 + k.val; omega)) (Fin.ext (by show k.val = 0 * 1408 + k.val; omega))))
    (Finset.sum_congr rfl fun k _ => congrArg₂ (fun a b => x (ix2 r a) * w (ix4 2 0 n b))
      (Fin.ext (by show 4224 + k.val = ((2 * 2 + 1) % 4 * 2 + (2 * 2 + 1) / 4) * 1408 + k.val; omega)) (Fin.ext (by show 1408 + k.val = 1 * 1408 + k.val; omega))))
    (Finset.sum_congr rfl fun k _ => congrArg₂ (fun a b => x (ix2 r a) * w (ix4 3 0 n b))
      (Fin.ext (by show 7040 + k.val = ((2 * 3 + 0) % 4 * 2 + (2 * 3 + 0) / 4) * 1408 + k.val; omega)) (Fin.ext (by show k.val = 0 * 1408 + k.val; omega))))
    (Finset.sum_congr rfl fun k _ => congrArg₂ (fun a b => x (ix2 r a) * w (ix4 3 0 n b))
      (Fin.ext (by show 9856 + k.val = ((2 * 3 + 1) % 4 * 2 + (2 * 3 + 1) / 4) * 1408 + k.val; omega)) (Fin.ext (by show 1408 + k.val = 1 * 1408 + k.val; omega))))

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 512) (n : Fin 512), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 512 + r.val := win0_2.rect_emb_val t (ix2 r n) 0
    have e1 : ((win0_2.rect t).emb (ix2 r n) 1 : Nat) = win0_2.index t 1 * 512 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 2048 := (j 1).isLt
    have ht : t.val < 32 := N_0 ▸ t.isLt
    have hr := r.isLt; have hn := n.isLt
    refine Finset.sum_congr rfl fun s _ => Finset.sum_congr rfl fun b _ => Finset.sum_congr rfl fun k _ => congrArg₂ (· * ·) (blk0 m c t _ _ fun a => ?_) (blk1 m c t _ _ fun a => ?_)
    · fin_cases a
      · show (j 0 : Nat) = win0_0.index t 0 * 512 + r.val; omega
      · show ((2 * s.val + b.val) % 4 * 2 + (2 * s.val + b.val) / 4) * 1408 + k.val = win0_0.index t 1 * 11264 + (((2 * s.val + b.val) % 4 * 2 + (2 * s.val + b.val) / 4) * 1408 + k.val); omega
    · fin_cases a
      · show s.val = win0_1.index t 0 * 4 + s.val; omega
      · show 0 = win0_1.index t 1 * 1 + 0; omega
      · show (j 1 : Nat) = win0_1.index t 2 * 512 + n.val; omega
      · show b.val * 1408 + k.val = win0_1.index t 3 * 2816 + (b.val * 1408 + k.val); omega
  · have i0 : (i 0 : Nat) < 4096 := (i 0).isLt
    have i1 : (i 1 : Nat) < 2048 := (i 1).isLt
    have hN : grid0.N = 32 := N_0
    refine ⟨⟨(i 1 : Nat) / 512 * 8 + (i 0 : Nat) / 512, by show _ < grid0.N; omega⟩, flush0_2 _, ?_⟩
    generalize ht : (⟨(i 1 : Nat) / 512 * 8 + (i 0 : Nat) / 512, _⟩ : Fin cfg0.N) = t
    have hv : t.val = (i 1 : Nat) / 512 * 8 + (i 0 : Nat) / 512 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 512 ≤ (i 0 : Nat) ∧ (i 0 : Nat) < win0_2.index t 0 * 512 + 512; rw [h20]; omega
    · show win0_2.index t 1 * 512 ≤ (i 1 : Nat) ∧ (i 1 : Nat) < win0_2.index t 1 * 512 + 512; rw [h21]; omega

end Cert.DhKernelIdeal.Value

namespace Cert.DhReferenceIdeal.Value

open Cert.DhReferenceIdeal Cert.DhReferenceIdeal.Gen Idealize.ShloMosaic Idealize.ShloMosaic.TcCoe Idealize.SL.Sem

/-- The reference's composed term is the product. -/
theorem ref_eq (x : Vec Ideal S4096x11264 .bf16) (w : Vec Ideal S4x1x2048x2816 .bf16) :
    (Host.dotGeneral dot_S4096x11264_S2048x11264_S4096x2048_1_1_0_0_n_n none (extf .f32 (shapeCast _ (transpose S4096x2x4x1408 [0, 2, 1, 3] (shapeCast _ x shapeCasts_S4096x11264_S4096x4x2x1408) transposes_S4096x4x2x1408_S4096x2x4x1408_0_2_1_3) shapeCasts_S4096x2x4x1408_S4096x11264) bitsLt_bf16_f32) (extf .f32 (shapeCast _ (transpose S2048x4x2816 [1, 0, 2] (shapeCast _ w shapeCasts_S4x1x2048x2816_S4x2048x2816) transposes_S4x2048x2816_S2048x4x2816_1_0_2) shapeCasts_S2048x4x2816_S2048x11264) bitsLt_bf16_f32) : FVec Ideal S4096x2048 .f32)
      = Cert.DhKernelIdeal.Value.prod x w := by
  funext j
  idx_vars j
  pointwise [Cert.DhKernelIdeal.Value.prod]
  refine (Fin.sum_univ_tiles 4 2816 rfl _).trans (Finset.sum_congr rfl fun s _ =>
    (Fin.sum_univ_tiles 2 1408 rfl _).trans (Finset.sum_congr rfl fun b _ => Finset.sum_congr rfl fun k _ => ?_))
  refine congrArg₂ (fun a b => x (ix2 j0 a) * b) (Fin.ext ?_) (congrArg₂ (fun a b => w (ix4 a 0 j1 b)) (Fin.ext ?_) (Fin.ext ?_))
  · show (s.val * 2816 + (b.val * 1408 + k.val)) / 1408 % 4 * 2816 + (s.val * 2816 + (b.val * 1408 + k.val)) / 5632 * 1408
      + (s.val * 2816 + (b.val * 1408 + k.val)) % 1408 = ((2 * s.val + b.val) % 4 * 2 + (2 * s.val + b.val) / 4) * 1408 + k.val
    omega
  · show (s.val * 2816 + (b.val * 1408 + k.val)) / 2816 = s.val; omega
  · show (s.val * 2816 + (b.val * 1408 + k.val)) % 2816 = b.val * 1408 + k.val; omega

end Cert.DhReferenceIdeal.Value

namespace Cert.Proof

open Idealize.ShloMosaic Idealize.SL.Sem

/-- The kernel and the reference compute the same array. -/
theorem algebraic_dh : Cert.algebraic_DhKernelIdeal_DhReferenceIdeal := by
  intro m g m' g' _ hm
  refine ⟨fun c => Cert.DhKernelIdeal.Value.prod (m ((c.tc : Thread _ _).loc Cert.DhKernelIdeal.main_arg0)) (m ((c.tc : Thread _ _).loc Cert.DhKernelIdeal.main_arg1)), ?_, ?_⟩
  · exact (θ_run _ _ _).mono (fun r h c => ⟨(h c).1.trans (Cert.DhKernelIdeal.Value.final m c), (h c).2⟩)
      (Cert.DhKernelIdeal.Value.run_blocks m g)
  · refine (θ_run _ _ _).mono (fun r h c => ⟨(h c).1.trans ?_, (h c).2⟩) (Cert.DhReferenceIdeal.Value.run m' g')
    rw [(hm c).1, (hm c).2]
    exact Cert.DhReferenceIdeal.Value.ref_eq _ _

end Cert.Proof

end
-- ==== Proof.DwiValue.lean ====
/- The gradient of the first feed-forward product with respect to its weight. -/
module

public import proofs.«01_k».proof.Defs
public import proofs.«01_k».proof.Proof.Gen.DwiKernelIdeal.Value
public import proofs.«01_k».proof.Proof.Gen.DwiReferenceIdeal.Run
public import Idealize.ShloMosaic.Lib.Pointwise

@[expose] public section

set_option maxRecDepth 16384

noncomputable section

namespace Cert.DwiKernelIdeal.Value

open Cert.DwiKernelIdeal Cert.DwiKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (0, s, r, n) of the product of the transpose of `x` with `w`, its columns cut in 4 shards. -/
def prod (x : Vec Ideal S4096x2048 .bf16) (w : Vec Ideal S4096x11264 .bf16) : Vec Ideal S1x4x2048x2816 .f32 := fun j =>
  ∑ k : Fin 4096, x (ix2 k (j 2)) * w (ix2 k ⟨((j 1 : Nat) * 2816 + (j 3 : Nat)) / 1408 % 4 * 2816 + ((j 1 : Nat) * 2816 + (j 3 : Nat)) / 5632 * 1408 + ((j 1 : Nat) * 2816 + (j 3 : Nat)) % 1408, by
    have h1 : (j 1 : Nat) < 4 := (j 1).isLt; have h3 : (j 3 : Nat) < 2816 := (j 3).isLt; omega⟩)

/-- Where the blocks of the windows lie at a grid point. -/
theorem index_eq : ∀ t : Fin grid0.N,
    win0_0.index t 0 = 0 ∧ win0_0.index t 1 = t.val / 8 ∧ win0_1.index t 0 = 0
    ∧ win0_1.index t 1 = t.val % 8 % 4 * 2 + t.val % 8 / 4 ∧ win0_2.index t 0 = 0 ∧ win0_2.index t 1 = t.val % 8 / 2
    ∧ win0_2.index t 2 = t.val / 8 ∧ win0_2.index t 3 = t.val % 8 % 2 := by
  decide +kernel

/-- An entry of window 0's block is the entry of its array at the block's offset. -/
theorem blk0 (c : Dev nD) (t : Fin cfg0.N) (y : S4096x512.Idx) (i : S4096x2048.Idx)
    (h : ∀ a, (i a : Nat) = win0_0.index t a * S4096x512.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S4096x1408.Idx) (i : S4096x11264.Idx)
    (h : ∀ a, (i a : Nat) = win0_1.index t a * S4096x1408.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S4096x512 .bf16) (w : Vec Ideal S4096x1408 .bf16) (r : Fin 512) (n : Fin 1408) :
    out0_2 (F := Ideal) x w (ix4 0 0 r n) = ∑ k : Fin 4096, x (ix2 k r) * w (ix2 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz4, View.ld_unit_zero hz2, View.ld_unit_zero hz2]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 512) (n : Fin 1408), y = (ix4 0 0 r n) := ⟨y 2, y 3, (eq_ix4 y).trans (congrArg₂ (fun a b => ix4 a b (y 2) (y 3))
      (Subsingleton.elim (α := Fin 1) (y 0) 0) (Subsingleton.elim (α := Fin 1) (y 1) 0))⟩
    obtain ⟨h00, h01, h10, h11, h20, h21, h22, h23⟩ := index_eq t
    refine (out_apply _ _ r n).trans ?_
    show _ = prod _ _ ((win0_2.rect t).emb ((ix4 0 0 r n)))
    have e0 : ((win0_2.rect t).emb (ix4 0 0 r n) 0 : Nat) = win0_2.index t 0 * 1 + 0 := win0_2.rect_emb_val t (ix4 0 0 r n) 0
    have e1 : ((win0_2.rect t).emb (ix4 0 0 r n) 1 : Nat) = win0_2.index t 1 * 1 + 0 := win0_2.rect_emb_val t (ix4 0 0 r n) 1
    have e2 : ((win0_2.rect t).emb (ix4 0 0 r n) 2 : Nat) = win0_2.index t 2 * 512 + r.val := win0_2.rect_emb_val t (ix4 0 0 r n) 2
    have e3 : ((win0_2.rect t).emb (ix4 0 0 r n) 3 : Nat) = win0_2.index t 3 * 1408 + n.val := win0_2.rect_emb_val t (ix4 0 0 r n) 3
    generalize (win0_2.rect t).emb ((ix4 0 0 r n)) = j at e0 e1 e2 e3 ⊢
    unfold prod
    rw [h20] at e0; rw [h21] at e1; rw [h22] at e2; rw [h23] at e3
    have l0 : (j 0 : Nat) < 1 := (j 0).isLt
    have l1 : (j 1 : Nat) < 4 := (j 1).isLt
    have l2 : (j 2 : Nat) < 2048 := (j 2).isLt
    have l3 : (j 3 : Nat) < 2816 := (j 3).isLt
    have ht : t.val < 32 := N_0 ▸ t.isLt
    have hr := r.isLt; have hn := n.isLt
    refine Finset.sum_congr rfl fun k _ => congrArg₂ (· * ·) (blk0 m c t _ _ fun a => ?_) (blk1 m c t _ _ fun a => ?_)
    · fin_cases a
      · show k.val = win0_0.index t 0 * 4096 + k.val; omega
      · show (j 2 : Nat) = win0_0.index t 1 * 512 + r.val; omega
    · fin_cases a
      · show k.val = win0_1.index t 0 * 4096 + k.val; omega
      · show ((j 1 : Nat) * 2816 + (j 3 : Nat)) / 1408 % 4 * 2816 + ((j 1 : Nat) * 2816 + (j 3 : Nat)) / 5632 * 1408 + ((j 1 : Nat) * 2816 + (j 3 : Nat)) % 1408 = win0_1.index t 1 * 1408 + n.val; omega
  · have i0 : (i 0 : Nat) < 1 := (i 0).isLt
    have i1 : (i 1 : Nat) < 4 := (i 1).isLt
    have i2 : (i 2 : Nat) < 2048 := (i 2).isLt
    have i3 : (i 3 : Nat) < 2816 := (i 3).isLt
    have hN : grid0.N = 32 := N_0
    refine ⟨⟨(i 2 : Nat) / 512 * 8 + ((i 1 : Nat) * 2 + (i 3 : Nat) / 1408), by show _ < grid0.N; omega⟩, flush0_2 _, ?_⟩
    generalize ht : (⟨(i 2 : Nat) / 512 * 8 + ((i 1 : Nat) * 2 + (i 3 : Nat) / 1408), _⟩ : Fin cfg0.N) = t
    have hv : t.val = (i 2 : Nat) / 512 * 8 + ((i 1 : Nat) * 2 + (i 3 : Nat) / 1408) := by rw [← ht]
    obtain ⟨h00, h01, h10, h11, h20, h21, h22, h23⟩ := index_eq t
    show i ∈ ((View.whole main_v0).slice (win0_2.rect t)).set
    rw [View.set_slice_whole, Rect.mem_set_unit]
    intro a
    fin_cases a
    · show win0_2.index t 0 * 1 ≤ (i 0 : Nat) ∧ (i 0 : Nat) < win0_2.index t 0 * 1 + 1; rw [h20]; omega
    · show win0_2.index t 1 * 1 ≤ (i 1 : Nat) ∧ (i 1 : Nat) < win0_2.index t 1 * 1 + 1; rw [h21]; omega
    · show win0_2.index t 2 * 512 ≤ (i 2 : Nat) ∧ (i 2 : Nat) < win0_2.index t 2 * 512 + 512; rw [h22]; omega
    · show win0_2.index t 3 * 1408 ≤ (i 3 : Nat) ∧ (i 3 : Nat) < win0_2.index t 3 * 1408 + 1408; rw [h23]; omega

end Cert.DwiKernelIdeal.Value

namespace Cert.DwiReferenceIdeal.Value

open Cert.DwiReferenceIdeal Cert.DwiReferenceIdeal.Gen Idealize.ShloMosaic Idealize.ShloMosaic.TcCoe Idealize.SL.Sem

/-- The reference's composed term is the product. -/
theorem ref_eq (x : Vec Ideal S4096x2048 .bf16) (w : Vec Ideal S4096x11264 .bf16) :
    (broadcastInDim S1x4x2048x2816 ![1, 2, 3] bcast_S4x2048x2816_S1x4x2048x2816_1_2_3 (transpose S4x2048x2816 [1, 0, 2] (shapeCast _ (transpose S2048x11264 [1, 0] (Host.dotGeneral dot_S4096x11264_S4096x2048_S11264x2048_0_0_1_1_n_n none (extf .f32 (shapeCast _ (transpose S4096x2x4x1408 [0, 2, 1, 3] (shapeCast _ w shapeCasts_S4096x11264_S4096x4x2x1408) transposes_S4096x4x2x1408_S4096x2x4x1408_0_2_1_3) shapeCasts_S4096x2x4x1408_S4096x11264) bitsLt_bf16_f32) (extf .f32 x bitsLt_bf16_f32)) transposes_S11264x2048_S2048x11264_1_0) shapeCasts_S2048x11264_S2048x4x2816) transposes_S2048x4x2816_S4x2048x2816_1_0_2) : FVec Ideal S1x4x2048x2816 .f32)
      = Cert.DwiKernelIdeal.Value.prod x w := by
  funext j
  idx_vars j
  pointwise [Cert.DwiKernelIdeal.Value.prod]
  exact Finset.sum_congr rfl fun k _ => mul_comm _ _

end Cert.DwiReferenceIdeal.Value

namespace Cert.Proof

open Idealize.ShloMosaic Idealize.SL.Sem

/-- The kernel and the reference compute the same array. -/
theorem algebraic_dwi : Cert.algebraic_DwiKernelIdeal_DwiReferenceIdeal := by
  intro m g m' g' _ hm
  refine ⟨fun c => Cert.DwiKernelIdeal.Value.prod (m ((c.tc : Thread _ _).loc Cert.DwiKernelIdeal.main_arg0)) (m ((c.tc : Thread _ _).loc Cert.DwiKernelIdeal.main_arg1)), ?_, ?_⟩
  · exact (θ_run _ _ _).mono (fun r h c => ⟨(h c).1.trans (Cert.DwiKernelIdeal.Value.final m c), (h c).2⟩)
      (Cert.DwiKernelIdeal.Value.run_blocks m g)
  · refine (θ_run _ _ _).mono (fun r h c => ⟨(h c).1.trans ?_, (h c).2⟩) (Cert.DwiReferenceIdeal.Value.run m' g')
    rw [(hm c).1, (hm c).2]
    exact Cert.DwiReferenceIdeal.Value.ref_eq _ _

end Cert.Proof

end
-- ==== Proof.DmValue.lean ====
/- The gradient of the output projection with respect to its left factor. -/
module

public import proofs.«01_k».proof.Defs
public import proofs.«01_k».proof.Proof.Gen.DmKernelIdeal.Value
public import proofs.«01_k».proof.Proof.Gen.DmReferenceIdeal.Run
public import Idealize.ShloMosaic.Lib.Pointwise

@[expose] public section

set_option maxRecDepth 16384

noncomputable section

namespace Cert.DmKernelIdeal.Value

open Cert.DmKernelIdeal Cert.DmKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with the transpose of `w`. -/
def prod (x : Vec Ideal S4096x2048 .bf16) (w : Vec Ideal S1x1x2048x2048 .bf16) : Vec Ideal S4096x2048 .bf16 := fun j =>
  ∑ k : Fin 2048, x (ix2 (j 0) k) * w (ix4 0 0 (j 1) k)

/-- Where the blocks of the windows lie at a grid point. -/
theorem index_eq : ∀ t : Fin grid0.N,
    win0_0.index t 0 = t.val % 4 ∧ win0_0.index t 1 = 0 ∧ win0_1.index t 0 = 0
    ∧ win0_1.index t 1 = 0 ∧ win0_1.index t 2 = t.val / 4 ∧ win0_1.index t 3 = 0
    ∧ win0_2.index t 0 = t.val % 4 ∧ win0_2.index t 1 = t.val / 4 := by
  decide +kernel

/-- An entry of window 0's block is the entry of its array at the block's offset. -/
theorem blk0 (c : Dev nD) (t : Fin cfg0.N) (y : S1024x2048.Idx) (i : S4096x2048.Idx)
    (h : ∀ a, (i a : Nat) = win0_0.index t a * S1024x2048.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S1x1x1024x2048.Idx) (i : S1x1x2048x2048.Idx)
    (h : ∀ a, (i a : Nat) = win0_1.index t a * S1x1x1024x2048.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S1024x2048 .bf16) (w : Vec Ideal S1x1x1024x2048 .bf16) (r : Fin 1024) (n : Fin 1024) :
    out0_2 (F := Ideal) x w (ix2 r n) = ∑ k : Fin 2048, x (ix2 r k) * w (ix4 0 0 n k) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz2, View.ld_unit_zero hz2, View.ld_unit_zero hz4]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 1024) (n : Fin 1024), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 1024 + r.val := win0_2.rect_emb_val t (ix2 r n) 0
    have e1 : ((win0_2.rect t).emb (ix2 r n) 1 : Nat) = win0_2.index t 1 * 1024 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 2048 := (j 1).isLt
    have ht : t.val < 8 := N_0 ▸ t.isLt
    have hr := r.isLt; have hn := n.isLt
    refine Finset.sum_congr rfl fun k _ => congrArg₂ (· * ·) (blk0 m c t _ _ fun a => ?_) (blk1 m c t _ _ fun a => ?_)
    · fin_cases a
      · show (j 0 : Nat) = win0_0.index t 0 * 1024 + r.val; omega
      · show k.val = win0_0.index t 1 * 2048 + k.val; omega
    · fin_cases a
      · show 0 = win0_1.index t 0 * 1 + 0; omega
      · show 0 = win0_1.index t 1 * 1 + 0; omega
      · show (j 1 : Nat) = win0_1.index t 2 * 1024 + n.val; omega
      · show k.val = win0_1.index t 3 * 2048 + k.val; omega
  · have i0 : (i 0 : Nat) < 4096 := (i 0).isLt
    have i1 : (i 1 : Nat) < 2048 := (i 1).isLt
    have hN : grid0.N = 8 := N_0
    refine ⟨⟨(i 1 : Nat) / 1024 * 4 + (i 0 : Nat) / 1024, by show _ < grid0.N; omega⟩, flush0_2 _, ?_⟩
    generalize ht : (⟨(i 1 : Nat) / 1024 * 4 + (i 0 : Nat) / 1024, _⟩ : Fin cfg0.N) = t
    have hv : t.val = (i 1 : Nat) / 1024 * 4 + (i 0 : Nat) / 1024 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 1024 ≤ (i 0 : Nat) ∧ (i 0 : Nat) < win0_2.index t 0 * 1024 + 1024; rw [h20]; omega
    · show win0_2.index t 1 * 1024 ≤ (i 1 : Nat) ∧ (i 1 : Nat) < win0_2.index t 1 * 1024 + 1024; rw [h21]; omega

end Cert.DmKernelIdeal.Value

namespace Cert.DmReferenceIdeal.Value

open Cert.DmReferenceIdeal Cert.DmReferenceIdeal.Gen Idealize.ShloMosaic Idealize.ShloMosaic.TcCoe Idealize.SL.Sem

/-- The reference's composed term is the product. -/
theorem ref_eq (x : Vec Ideal S4096x2048 .bf16) (w : Vec Ideal S1x1x2048x2048 .bf16) :
    (truncf .bf16 (Host.dotGeneral dot_S4096x2048_S2048x2048_S4096x2048_1_1_0_0_n_n none (extf .f32 x bitsLt_bf16_f32) (extf .f32 (shapeCast _ w shapeCasts_S1x1x2048x2048_S2048x2048) bitsLt_bf16_f32)) bitsLt_bf16_f32 : FVec Ideal S4096x2048 .bf16)
      = Cert.DmKernelIdeal.Value.prod x w := by
  funext j
  idx_vars j
  pointwise [Cert.DmKernelIdeal.Value.prod]

end Cert.DmReferenceIdeal.Value

namespace Cert.Proof

open Idealize.ShloMosaic Idealize.SL.Sem

/-- The kernel and the reference compute the same array. -/
theorem algebraic_dm : Cert.algebraic_DmKernelIdeal_DmReferenceIdeal := by
  intro m g m' g' _ hm
  refine ⟨fun c => Cert.DmKernelIdeal.Value.prod (m ((c.tc : Thread _ _).loc Cert.DmKernelIdeal.main_arg0)) (m ((c.tc : Thread _ _).loc Cert.DmKernelIdeal.main_arg1)), ?_, ?_⟩
  · exact (θ_run _ _ _).mono (fun r h c => ⟨(h c).1.trans (Cert.DmKernelIdeal.Value.final m c), (h c).2⟩)
      (Cert.DmKernelIdeal.Value.run_blocks m g)
  · refine (θ_run _ _ _).mono (fun r h c => ⟨(h c).1.trans ?_, (h c).2⟩) (Cert.DmReferenceIdeal.Value.run m' g')
    rw [(hm c).1, (hm c).2]
    exact Cert.DmReferenceIdeal.Value.ref_eq _ _

end Cert.Proof

end
-- ==== Proof.DwmValue.lean ====
/- The gradient of the output projection with respect to its weight. -/
module

public import proofs.«01_k».proof.Defs
public import proofs.«01_k».proof.Proof.Gen.DwmKernelIdeal.Value
public import proofs.«01_k».proof.Proof.Gen.DwmReferenceIdeal.Run
public import Idealize.ShloMosaic.Lib.Pointwise

@[expose] public section

set_option maxRecDepth 16384

noncomputable section

namespace Cert.DwmKernelIdeal.Value

open Cert.DwmKernelIdeal Cert.DwmKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (0, 0, r, n) of the product of the transpose of `x` with `w`. -/
def prod (x : Vec Ideal S4096x2048 .bf16) (w : Vec Ideal S4096x2048 .bf16) : Vec Ideal S1x1x2048x2048 .f32 := fun j =>
  ∑ k : Fin 4096, x (ix2 k (j 2)) * w (ix2 k (j 3))

/-- Where the blocks of the windows lie at a grid point. -/
theorem index_eq : ∀ t : Fin grid0.N,
    win0_0.index t 0 = 0 ∧ win0_0.index t 1 = t.val / 2 ∧ win0_1.index t 0 = 0
    ∧ win0_1.index t 1 = t.val % 2 ∧ win0_2.index t 0 = 0 ∧ win0_2.index t 1 = 0
    ∧ win0_2.index t 2 = t.val / 2 ∧ win0_2.index t 3 = t.val % 2 := by
  decide +kernel

/-- An entry of window 0's block is the entry of its array at the block's offset. -/
theorem blk0 (c : Dev nD) (t : Fin cfg0.N) (y : S4096x512.Idx) (i : S4096x2048.Idx)
    (h : ∀ a, (i a : Nat) = win0_0.index t a * S4096x512.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S4096x1024.Idx) (i : S4096x2048.Idx)
    (h : ∀ a, (i a : Nat) = win0_1.index t a * S4096x1024.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S4096x512 .bf16) (w : Vec Ideal S4096x1024 .bf16) (r : Fin 512) (n : Fin 1024) :
    out0_2 (F := Ideal) x w (ix4 0 0 r n) = ∑ k : Fin 4096, x (ix2 k r) * w (ix2 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz4, View.ld_unit_zero hz2, View.ld_unit_zero hz2]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 512) (n : Fin 1024), y = (ix4 0 0 r n) := ⟨y 2, y 3, (eq_ix4 y).trans (congrArg₂ (fun a b => ix4 a b (y 2) (y 3))
      (Subsingleton.elim (α := Fin 1) (y 0) 0) (Subsingleton.elim (α := Fin 1) (y 1) 0))⟩
    obtain ⟨h00, h01, h10, h11, h20, h21, h22, h23⟩ := index_eq t
    refine (out_apply _ _ r n).trans ?_
    show _ = prod _ _ ((win0_2.rect t).emb ((ix4 0 0 r n)))
    have e0 : ((win0_2.rect t).emb (ix4 0 0 r n) 0 : Nat) = win0_2.index t 0 * 1 + 0 := win0_2.rect_emb_val t (ix4 0 0 r n) 0
    have e1 : ((win0_2.rect t).emb (ix4 0 0 r n) 1 : Nat) = win0_2.index t 1 * 1 + 0 := win0_2.rect_emb_val t (ix4 0 0 r n) 1
    have e2 : ((win0_2.rect t).emb (ix4 0 0 r n) 2 : Nat) = win0_2.index t 2 * 512 + r.val := win0_2.rect_emb_val t (ix4 0 0 r n) 2
    have e3 : ((win0_2.rect t).emb (ix4 0 0 r n) 3 : Nat) = win0_2.index t 3 * 1024 + n.val := win0_2.rect_emb_val t (ix4 0 0 r n) 3
    generalize (win0_2.rect t).emb ((ix4 0 0 r n)) = j at e0 e1 e2 e3 ⊢
    unfold prod
    rw [h20] at e0; rw [h21] at e1; rw [h22] at e2; rw [h23] at e3
    have l0 : (j 0 : Nat) < 1 := (j 0).isLt
    have l1 : (j 1 : Nat) < 1 := (j 1).isLt
    have l2 : (j 2 : Nat) < 2048 := (j 2).isLt
    have l3 : (j 3 : Nat) < 2048 := (j 3).isLt
    have ht : t.val < 8 := N_0 ▸ t.isLt
    have hr := r.isLt; have hn := n.isLt
    refine Finset.sum_congr rfl fun k _ => congrArg₂ (· * ·) (blk0 m c t _ _ fun a => ?_) (blk1 m c t _ _ fun a => ?_)
    · fin_cases a
      · show k.val = win0_0.index t 0 * 4096 + k.val; omega
      · show (j 2 : Nat) = win0_0.index t 1 * 512 + r.val; omega
    · fin_cases a
      · show k.val = win0_1.index t 0 * 4096 + k.val; omega
      · show (j 3 : Nat) = win0_1.index t 1 * 1024 + n.val; omega
  · have i0 : (i 0 : Nat) < 1 := (i 0).isLt
    have i1 : (i 1 : Nat) < 1 := (i 1).isLt
    have i2 : (i 2 : Nat) < 2048 := (i 2).isLt
    have i3 : (i 3 : Nat) < 2048 := (i 3).isLt
    have hN : grid0.N = 8 := N_0
    refine ⟨⟨(i 2 : Nat) / 512 * 2 + (i 3 : Nat) / 1024, by show _ < grid0.N; omega⟩, flush0_2 _, ?_⟩
    generalize ht : (⟨(i 2 : Nat) / 512 * 2 + (i 3 : Nat) / 1024, _⟩ : Fin cfg0.N) = t
    have hv : t.val = (i 2 : Nat) / 512 * 2 + (i 3 : Nat) / 1024 := by rw [← ht]
    obtain ⟨h00, h01, h10, h11, h20, h21, h22, h23⟩ := index_eq t
    show i ∈ ((View.whole main_v0).slice (win0_2.rect t)).set
    rw [View.set_slice_whole, Rect.mem_set_unit]
    intro a
    fin_cases a
    · show win0_2.index t 0 * 1 ≤ (i 0 : Nat) ∧ (i 0 : Nat) < win0_2.index t 0 * 1 + 1; rw [h20]; omega
    · show win0_2.index t 1 * 1 ≤ (i 1 : Nat) ∧ (i 1 : Nat) < win0_2.index t 1 * 1 + 1; rw [h21]; omega
    · show win0_2.index t 2 * 512 ≤ (i 2 : Nat) ∧ (i 2 : Nat) < win0_2.index t 2 * 512 + 512; rw [h22]; omega
    · show win0_2.index t 3 * 1024 ≤ (i 3 : Nat) ∧ (i 3 : Nat) < win0_2.index t 3 * 1024 + 1024; rw [h23]; omega

end Cert.DwmKernelIdeal.Value

namespace Cert.DwmReferenceIdeal.Value

open Cert.DwmReferenceIdeal Cert.DwmReferenceIdeal.Gen Idealize.ShloMosaic Idealize.ShloMosaic.TcCoe Idealize.SL.Sem

/-- The reference's composed term is the product. -/
theorem ref_eq (x : Vec Ideal S4096x2048 .bf16) (w : Vec Ideal S4096x2048 .bf16) :
    (broadcastInDim S1x1x2048x2048 ![2, 3] bcast_S2048x2048_S1x1x2048x2048_2_3 (transpose S2048x2048 [1, 0] (Host.dotGeneral dot_S4096x2048_S4096x2048_S2048x2048_0_0_1_1_n_n none (extf .f32 w bitsLt_bf16_f32) (extf .f32 x bitsLt_bf16_f32)) transposes_S2048x2048_S2048x2048_1_0) : FVec Ideal S1x1x2048x2048 .f32)
      = Cert.DwmKernelIdeal.Value.prod x w := by
  funext j
  idx_vars j
  pointwise [Cert.DwmKernelIdeal.Value.prod]
  exact Finset.sum_congr rfl fun k _ => mul_comm _ _

end Cert.DwmReferenceIdeal.Value

namespace Cert.Proof

open Idealize.ShloMosaic Idealize.SL.Sem

/-- The kernel and the reference compute the same array. -/
theorem algebraic_dwm : Cert.algebraic_DwmKernelIdeal_DwmReferenceIdeal := by
  intro m g m' g' _ hm
  refine ⟨fun c => Cert.DwmKernelIdeal.Value.prod (m ((c.tc : Thread _ _).loc Cert.DwmKernelIdeal.main_arg0)) (m ((c.tc : Thread _ _).loc Cert.DwmKernelIdeal.main_arg1)), ?_, ?_⟩
  · exact (θ_run _ _ _).mono (fun r h c => ⟨(h c).1.trans (Cert.DwmKernelIdeal.Value.final m c), (h c).2⟩)
      (Cert.DwmKernelIdeal.Value.run_blocks m g)
  · refine (θ_run _ _ _).mono (fun r h c => ⟨(h c).1.trans ?_, (h c).2⟩) (Cert.DwmReferenceIdeal.Value.run m' g')
    rw [(hm c).1, (hm c).2]
    exact Cert.DwmReferenceIdeal.Value.ref_eq _ _

end Cert.Proof

end
-- ==== Proof.DyaValue.lean ====
/- The gradient of the projection of a branch to the model width with respect to its left factor. -/
module

public import proofs.«01_k».proof.Defs
public import proofs.«01_k».proof.Proof.Gen.DyaKernelIdeal.Value
public import proofs.«01_k».proof.Proof.Gen.DyaReferenceIdeal.Run
public import Idealize.ShloMosaic.Lib.Pointwise

@[expose] public section

set_option maxRecDepth 16384

noncomputable section

namespace Cert.DyaKernelIdeal.Value

open Cert.DyaKernelIdeal Cert.DyaKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with the transpose of the matrix whose columns are those of the 4 shards of `w` side by side. -/
def prod (x : Vec Ideal S4096x2048 .bf16) (w : Vec Ideal S4x1x1024x512 .bf16) : Vec Ideal S4096x1024 .bf16 := fun j =>
  ∑ s : Fin 4, ∑ k : Fin 512, x (ix2 (j 0) ⟨s.val * 512 + k.val, by omega⟩) * w (ix4 s 0 (j 1) k)

/-- Where the blocks of the windows lie at a grid point. -/
theorem index_eq : ∀ t : Fin grid0.N,
    win0_0.index t 0 = t.val % 4 ∧ win0_0.index t 1 = 0 ∧ win0_1.index t 0 = 0
    ∧ win0_1.index t 1 = 0 ∧ win0_1.index t 2 = t.val / 4 ∧ win0_1.index t 3 = 0
    ∧ win0_2.index t 0 = t.val % 4 ∧ win0_2.index t 1 = t.val / 4 := by
  decide +kernel

/-- An entry of window 0's block is the entry of its array at the block's offset. -/
theorem blk0 (c : Dev nD) (t : Fin cfg0.N) (y : S1024x2048.Idx) (i : S4096x2048.Idx)
    (h : ∀ a, (i a : Nat) = win0_0.index t a * S1024x2048.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S4x1x1024x512.Idx) (i : S4x1x1024x512.Idx)
    (h : ∀ a, (i a : Nat) = win0_1.index t a * S4x1x1024x512.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S1024x2048 .bf16) (w : Vec Ideal S4x1x1024x512 .bf16) (r : Fin 1024) (n : Fin 1024) :
    out0_2 (F := Ideal) x w (ix2 r n) = ∑ s : Fin 4, ∑ k : Fin 512, x (ix2 r ⟨s.val * 512 + k.val, by omega⟩) * w (ix4 s 0 n k) := by
  have hz2 : (![0, 0] : Fin 2 → Nat) = fun _ => 0 := funext fun a => by fin_cases a <;> rfl
  unfold out0_2
  rw [View.canon_unit_zero hz2]
  pointwise [k0_pay1]
  rw [Fin.sum_univ_four]
  exact (congrArg₂ (· + ·) (congrArg₂ (· + ·) (congrArg₂ (· + ·) (Finset.sum_congr rfl fun k _ => congrArg (fun a => x (ix2 r a) * w (ix4 0 0 n k))
      (Fin.ext (by show k.val = 0 * 512 + k.val; omega)))
    (Finset.sum_congr rfl fun k _ => congrArg (fun a => x (ix2 r a) * w (ix4 1 0 n k))
      (Fin.ext (by show 512 + k.val = 1 * 512 + k.val; omega))))
    (Finset.sum_congr rfl fun k _ => congrArg (fun a => x (ix2 r a) * w (ix4 2 0 n k))
      (Fin.ext (by show 1024 + k.val = 2 * 512 + k.val; omega))))
    (Finset.sum_congr rfl fun k _ => congrArg (fun a => x (ix2 r a) * w (ix4 3 0 n k))
      (Fin.ext (by show 1536 + k.val = 3 * 512 + k.val; omega))))

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 1024) (n : Fin 1024), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 1024 + r.val := win0_2.rect_emb_val t (ix2 r n) 0
    have e1 : ((win0_2.rect t).emb (ix2 r n) 1 : Nat) = win0_2.index t 1 * 1024 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 1024 := (j 1).isLt
    have ht : t.val < 4 := N_0 ▸ t.isLt
    have hr := r.isLt; have hn := n.isLt
    refine Finset.sum_congr rfl fun s _ => Finset.sum_congr rfl fun k _ => congrArg₂ (· * ·) (blk0 m c t _ _ fun a => ?_) (blk1 m c t _ _ fun a => ?_)
    · fin_cases a
      · show (j 0 : Nat) = win0_0.index t 0 * 1024 + r.val; omega
      · show s.val * 512 + k.val = win0_0.index t 1 * 2048 + (s.val * 512 + k.val); omega
    · fin_cases a
      · show s.val = win0_1.index t 0 * 4 + s.val; omega
      · show 0 = win0_1.index t 1 * 1 + 0; omega
      · show (j 1 : Nat) = win0_1.index t 2 * 1024 + n.val; omega
      · show k.val = win0_1.index t 3 * 512 + k.val; omega
  · have i0 : (i 0 : Nat) < 4096 := (i 0).isLt
    have i1 : (i 1 : Nat) < 1024 := (i 1).isLt
    have hN : grid0.N = 4 := N_0
    refine ⟨⟨(i 1 : Nat) / 1024 * 4 + (i 0 : Nat) / 1024, by show _ < grid0.N; omega⟩, flush0_2 _, ?_⟩
    generalize ht : (⟨(i 1 : Nat) / 1024 * 4 + (i 0 : Nat) / 1024, _⟩ : Fin cfg0.N) = t
    have hv : t.val = (i 1 : Nat) / 1024 * 4 + (i 0 : Nat) / 1024 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 1024 ≤ (i 0 : Nat) ∧ (i 0 : Nat) < win0_2.index t 0 * 1024 + 1024; rw [h20]; omega
    · show win0_2.index t 1 * 1024 ≤ (i 1 : Nat) ∧ (i 1 : Nat) < win0_2.index t 1 * 1024 + 1024; rw [h21]; omega

end Cert.DyaKernelIdeal.Value

namespace Cert.DyaReferenceIdeal.Value

open Cert.DyaReferenceIdeal Cert.DyaReferenceIdeal.Gen Idealize.ShloMosaic Idealize.ShloMosaic.TcCoe Idealize.SL.Sem

/-- The reference's composed term is the product. -/
theorem ref_eq (x : Vec Ideal S4096x2048 .bf16) (w : Vec Ideal S4x1x1024x512 .bf16) :
    (truncf .bf16 (Host.dotGeneral dot_S4096x2048_S1024x2048_S4096x1024_1_1_0_0_n_n none (extf .f32 x bitsLt_bf16_f32) (extf .f32 (shapeCast _ (transpose S1024x4x512 [1, 0, 2] (shapeCast _ w shapeCasts_S4x1x1024x512_S4x1024x512) transposes_S4x1024x512_S1024x4x512_1_0_2) shapeCasts_S1024x4x512_S1024x2048) bitsLt_bf16_f32)) bitsLt_bf16_f32 : FVec Ideal S4096x1024 .bf16)
      = Cert.DyaKernelIdeal.Value.prod x w := by
  funext j
  idx_vars j
  pointwise [Cert.DyaKernelIdeal.Value.prod]
  refine (Fin.sum_univ_tiles 4 512 rfl _).trans (Finset.sum_congr rfl fun s _ => Finset.sum_congr rfl fun k _ => ?_)
  exact congrArg₂ (fun a b => x _ * w (ix4 a 0 j1 b)) (Fin.ext (by show (s.val * 512 + k.val) / 512 = s.val; omega))
    (Fin.ext (by show (s.val * 512 + k.val) % 512 = k.val; omega))

end Cert.DyaReferenceIdeal.Value

namespace Cert.Proof

open Idealize.ShloMosaic Idealize.SL.Sem

/-- The kernel and the reference compute the same array. -/
theorem algebraic_dya : Cert.algebraic_DyaKernelIdeal_DyaReferenceIdeal := by
  intro m g m' g' _ hm
  refine ⟨fun c => Cert.DyaKernelIdeal.Value.prod (m ((c.tc : Thread _ _).loc Cert.DyaKernelIdeal.main_arg0)) (m ((c.tc : Thread _ _).loc Cert.DyaKernelIdeal.main_arg1)), ?_, ?_⟩
  · exact (θ_run _ _ _).mono (fun r h c => ⟨(h c).1.trans (Cert.DyaKernelIdeal.Value.final m c), (h c).2⟩)
      (Cert.DyaKernelIdeal.Value.run_blocks m g)
  · refine (θ_run _ _ _).mono (fun r h c => ⟨(h c).1.trans ?_, (h c).2⟩) (Cert.DyaReferenceIdeal.Value.run m' g')
    rw [(hm c).1, (hm c).2]
    exact Cert.DyaReferenceIdeal.Value.ref_eq _ _

end Cert.Proof

end
-- ==== Proof.DwaValue.lean ====
/- The gradient of the projection of a branch to the model width with respect to its weight. -/
module

public import proofs.«01_k».proof.Defs
public import proofs.«01_k».proof.Proof.Gen.DwaKernelIdeal.Value
public import proofs.«01_k».proof.Proof.Gen.DwaReferenceIdeal.Run
public import Idealize.ShloMosaic.Lib.Pointwise

@[expose] public section

set_option maxRecDepth 16384

noncomputable section

namespace Cert.DwaKernelIdeal.Value

open Cert.DwaKernelIdeal Cert.DwaKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (0, s, r, n) of the product of the transpose of `x` with `w`, its columns cut in 4 shards. -/
def prod (x : Vec Ideal S4096x1024 .bf16) (w : Vec Ideal S4096x2048 .bf16) : Vec Ideal S1x4x1024x512 .f32 := fun j =>
  ∑ k : Fin 4096, x (ix2 k (j 2)) * w (ix2 k ⟨(j 1 : Nat) * 512 + (j 3 : Nat), by
    have h1 : (j 1 : Nat) < 4 := (j 1).isLt; have h3 : (j 3 : Nat) < 512 := (j 3).isLt; omega⟩)

/-- Where the blocks of the windows lie at a grid point. -/
theorem index_eq : ∀ t : Fin grid0.N,
    win0_0.index t 0 = 0 ∧ win0_0.index t 1 = t.val / 4 ∧ win0_1.index t 0 = 0
    ∧ win0_1.index t 1 = t.val % 4 ∧ win0_2.index t 0 = 0 ∧ win0_2.index t 1 = t.val % 4
    ∧ win0_2.index t 2 = t.val / 4 ∧ win0_2.index t 3 = 0 := by
  decide +kernel

/-- An entry of window 0's block is the entry of its array at the block's offset. -/
theorem blk0 (c : Dev nD) (t : Fin cfg0.N) (y : S4096x512.Idx) (i : S4096x1024.Idx)
    (h : ∀ a, (i a : Nat) = win0_0.index t a * S4096x512.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S4096x512.Idx) (i : S4096x2048.Idx)
    (h : ∀ a, (i a : Nat) = win0_1.index t a * S4096x512.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S4096x512 .bf16) (w : Vec Ideal S4096x512 .bf16) (r : Fin 512) (n : Fin 512) :
    out0_2 (F := Ideal) x w (ix4 0 0 r n) = ∑ k : Fin 4096, x (ix2 k r) * w (ix2 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz4, View.ld_unit_zero hz2]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 512) (n : Fin 512), y = (ix4 0 0 r n) := ⟨y 2, y 3, (eq_ix4 y).trans (congrArg₂ (fun a b => ix4 a b (y 2) (y 3))
      (Subsingleton.elim (α := Fin 1) (y 0) 0) (Subsingleton.elim (α := Fin 1) (y 1) 0))⟩
    obtain ⟨h00, h01, h10, h11, h20, h21, h22, h23⟩ := index_eq t
    refine (out_apply _ _ r n).trans ?_
    show _ = prod _ _ ((win0_2.rect t).emb ((ix4 0 0 r n)))
    have e0 : ((win0_2.rect t).emb (ix4 0 0 r n) 0 : Nat) = win0_2.index t 0 * 1 + 0 := win0_2.rect_emb_val t (ix4 0 0 r n) 0
    have e1 : ((win0_2.rect t).emb (ix4 0 0 r n) 1 : Nat) = win0_2.index t 1 * 1 + 0 := win0_2.rect_emb_val t (ix4 0 0 r n) 1
    have e2 : ((win0_2.rect t).emb (ix4 0 0 r n) 2 : Nat) = win0_2.index t 2 * 512 + r.val := win0_2.rect_emb_val t (ix4 0 0 r n) 2
    have e3 : ((win0_2.rect t).emb (ix4 0 0 r n) 3 : Nat) = win0_2.index t 3 * 512 + n.val := win0_2.rect_emb_val t (ix4 0 0 r n) 3
    generalize (win0_2.rect t).emb ((ix4 0 0 r n)) = j at e0 e1 e2 e3 ⊢
    unfold prod
    rw [h20] at e0; rw [h21] at e1; rw [h22] at e2; rw [h23] at e3
    have l0 : (j 0 : Nat) < 1 := (j 0).isLt
    have l1 : (j 1 : Nat) < 4 := (j 1).isLt
    have l2 : (j 2 : Nat) < 1024 := (j 2).isLt
    have l3 : (j 3 : Nat) < 512 := (j 3).isLt
    have ht : t.val < 8 := N_0 ▸ t.isLt
    have hr := r.isLt; have hn := n.isLt
    refine Finset.sum_congr rfl fun k _ => congrArg₂ (· * ·) (blk0 m c t _ _ fun a => ?_) (blk1 m c t _ _ fun a => ?_)
    · fin_cases a
      · show k.val = win0_0.index t 0 * 4096 + k.val; omega
      · show (j 2 : Nat) = win0_0.index t 1 * 512 + r.val; omega
    · fin_cases a
      · show k.val = win0_1.index t 0 * 4096 + k.val; omega
      · show (j 1 : Nat) * 512 + (j 3 : Nat) = win0_1.index t 1 * 512 + n.val; omega
  · have i0 : (i 0 : Nat) < 1 := (i 0).isLt
    have i1 : (i 1 : Nat) < 4 := (i 1).isLt
    have i2 : (i 2 : Nat) < 1024 := (i 2).isLt
    have i3 : (i 3 : Nat) < 512 := (i 3).isLt
    have hN : grid0.N = 8 := N_0
    refine ⟨⟨(i 2 : Nat) / 512 * 4 + (i 1 : Nat), by show _ < grid0.N; omega⟩, flush0_2 _, ?_⟩
    generalize ht : (⟨(i 2 : Nat) / 512 * 4 + (i 1 : Nat), _⟩ : Fin cfg0.N) = t
    have hv : t.val = (i 2 : Nat) / 512 * 4 + (i 1 : Nat) := by rw [← ht]
    obtain ⟨h00, h01, h10, h11, h20, h21, h22, h23⟩ := index_eq t
    show i ∈ ((View.whole main_v0).slice (win0_2.rect t)).set
    rw [View.set_slice_whole, Rect.mem_set_unit]
    intro a
    fin_cases a
    · show win0_2.index t 0 * 1 ≤ (i 0 : Nat) ∧ (i 0 : Nat) < win0_2.index t 0 * 1 + 1; rw [h20]; omega
    · show win0_2.index t 1 * 1 ≤ (i 1 : Nat) ∧ (i 1 : Nat) < win0_2.index t 1 * 1 + 1; rw [h21]; omega
    · show win0_2.index t 2 * 512 ≤ (i 2 : Nat) ∧ (i 2 : Nat) < win0_2.index t 2 * 512 + 512; rw [h22]; omega
    · show win0_2.index t 3 * 512 ≤ (i 3 : Nat) ∧ (i 3 : Nat) < win0_2.index t 3 * 512 + 512; rw [h23]; omega

end Cert.DwaKernelIdeal.Value

namespace Cert.DwaReferenceIdeal.Value

open Cert.DwaReferenceIdeal Cert.DwaReferenceIdeal.Gen Idealize.ShloMosaic Idealize.ShloMosaic.TcCoe Idealize.SL.Sem

/-- The reference's composed term is the product. -/
theorem ref_eq (x : Vec Ideal S4096x1024 .bf16) (w : Vec Ideal S4096x2048 .bf16) :
    (broadcastInDim S1x4x1024x512 ![1, 2, 3] bcast_S4x1024x512_S1x4x1024x512_1_2_3 (transpose S4x1024x512 [1, 0, 2] (shapeCast _ (transpose S1024x2048 [1, 0] (Host.dotGeneral dot_S4096x2048_S4096x1024_S2048x1024_0_0_1_1_n_n none (extf .f32 w bitsLt_bf16_f32) (extf .f32 x bitsLt_bf16_f32)) transposes_S2048x1024_S1024x2048_1_0) shapeCasts_S1024x2048_S1024x4x512) transposes_S1024x4x512_S4x1024x512_1_0_2) : FVec Ideal S1x4x1024x512 .f32)
      = Cert.DwaKernelIdeal.Value.prod x w := by
  funext j
  idx_vars j
  pointwise [Cert.DwaKernelIdeal.Value.prod]
  exact Finset.sum_congr rfl fun k _ => mul_comm _ _

end Cert.DwaReferenceIdeal.Value

namespace Cert.Proof

open Idealize.ShloMosaic Idealize.SL.Sem

/-- The kernel and the reference compute the same array. -/
theorem algebraic_dwa : Cert.algebraic_DwaKernelIdeal_DwaReferenceIdeal := by
  intro m g m' g' _ hm
  refine ⟨fun c => Cert.DwaKernelIdeal.Value.prod (m ((c.tc : Thread _ _).loc Cert.DwaKernelIdeal.main_arg0)) (m ((c.tc : Thread _ _).loc Cert.DwaKernelIdeal.main_arg1)), ?_, ?_⟩
  · exact (θ_run _ _ _).mono (fun r h c => ⟨(h c).1.trans (Cert.DwaKernelIdeal.Value.final m c), (h c).2⟩)
      (Cert.DwaKernelIdeal.Value.run_blocks m g)
  · refine (θ_run _ _ _).mono (fun r h c => ⟨(h c).1.trans ?_, (h c).2⟩) (Cert.DwaReferenceIdeal.Value.run m' g')
    rw [(hm c).1, (hm c).2]
    exact Cert.DwaReferenceIdeal.Value.ref_eq _ _

end Cert.Proof

end
-- ==== Proof.DygValue.lean ====
/- The gradient of the gate product of the state-space branch with respect to its left factor. -/
module

public import proofs.«01_k».proof.Defs
public import proofs.«01_k».proof.Proof.Gen.DygKernelIdeal.Value
public import proofs.«01_k».proof.Proof.Gen.DygReferenceIdeal.Run
public import Idealize.ShloMosaic.Lib.Pointwise

@[expose] public section

set_option maxRecDepth 16384

noncomputable section

namespace Cert.DygKernelIdeal.Value

open Cert.DygKernelIdeal Cert.DygKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with the transpose of `w`. -/
def prod (x : Vec Ideal S4096x1024 .bf16) (w : Vec Ideal S1x1x1024x1024 .bf16) : Vec Ideal S4096x1024 .f32 := fun j =>
  ∑ k : Fin 1024, x (ix2 (j 0) k) * w (ix4 0 0 (j 1) k)

/-- Where the blocks of the windows lie at a grid point. -/
theorem index_eq : ∀ t : Fin grid0.N,
    win0_0.index t 0 = t.val % 4 ∧ win0_0.index t 1 = 0 ∧ win0_1.index t 0 = 0
    ∧ win0_1.index t 1 = 0 ∧ win0_1.index t 2 = t.val / 4 ∧ win0_1.index t 3 = 0
    ∧ win0_2.index t 0 = t.val % 4 ∧ win0_2.index t 1 = t.val / 4 := by
  decide +kernel

/-- An entry of window 0's block is the entry of its array at the block's offset. -/
theorem blk0 (c : Dev nD) (t : Fin cfg0.N) (y : S1024x1024.Idx) (i : S4096x1024.Idx)
    (h : ∀ a, (i a : Nat) = win0_0.index t a * S1024x1024.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S1x1x1024x1024.Idx) (i : S1x1x1024x1024.Idx)
    (h : ∀ a, (i a : Nat) = win0_1.index t a * S1x1x1024x1024.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S1024x1024 .bf16) (w : Vec Ideal S1x1x1024x1024 .bf16) (r : Fin 1024) (n : Fin 1024) :
    out0_2 (F := Ideal) x w (ix2 r n) = ∑ k : Fin 1024, x (ix2 r k) * w (ix4 0 0 n k) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz2, View.ld_unit_zero hz2, View.ld_unit_zero hz4]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 1024) (n : Fin 1024), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 1024 + r.val := win0_2.rect_emb_val t (ix2 r n) 0
    have e1 : ((win0_2.rect t).emb (ix2 r n) 1 : Nat) = win0_2.index t 1 * 1024 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 1024 := (j 1).isLt
    have ht : t.val < 4 := N_0 ▸ t.isLt
    have hr := r.isLt; have hn := n.isLt
    refine Finset.sum_congr rfl fun k _ => congrArg₂ (· * ·) (blk0 m c t _ _ fun a => ?_) (blk1 m c t _ _ fun a => ?_)
    · fin_cases a
      · show (j 0 : Nat) = win0_0.index t 0 * 1024 + r.val; omega
      · show k.val = win0_0.index t 1 * 1024 + k.val; omega
    · fin_cases a
      · show 0 = win0_1.index t 0 * 1 + 0; omega
      · show 0 = win0_1.index t 1 * 1 + 0; omega
      · show (j 1 : Nat) = win0_1.index t 2 * 1024 + n.val; omega
      · show k.val = win0_1.index t 3 * 1024 + k.val; omega
  · have i0 : (i 0 : Nat) < 4096 := (i 0).isLt
    have i1 : (i 1 : Nat) < 1024 := (i 1).isLt
    have hN : grid0.N = 4 := N_0
    refine ⟨⟨(i 1 : Nat) / 1024 * 4 + (i 0 : Nat) / 1024, by show _ < grid0.N; omega⟩, flush0_2 _, ?_⟩
    generalize ht : (⟨(i 1 : Nat) / 1024 * 4 + (i 0 : Nat) / 1024, _⟩ : Fin cfg0.N) = t
    have hv : t.val = (i 1 : Nat) / 1024 * 4 + (i 0 : Nat) / 1024 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 1024 ≤ (i 0 : Nat) ∧ (i 0 : Nat) < win0_2.index t 0 * 1024 + 1024; rw [h20]; omega
    · show win0_2.index t 1 * 1024 ≤ (i 1 : Nat) ∧ (i 1 : Nat) < win0_2.index t 1 * 1024 + 1024; rw [h21]; omega

end Cert.DygKernelIdeal.Value

namespace Cert.DygReferenceIdeal.Value

open Cert.DygReferenceIdeal Cert.DygReferenceIdeal.Gen Idealize.ShloMosaic Idealize.ShloMosaic.TcCoe Idealize.SL.Sem

/-- The reference's composed term is the product. -/
theorem ref_eq (x : Vec Ideal S4096x1024 .bf16) (w : Vec Ideal S1x1x1024x1024 .bf16) :
    (Host.dotGeneral dot_S4096x1024_S1024x1024_S4096x1024_1_1_0_0_n_n none (extf .f32 x bitsLt_bf16_f32) (extf .f32 (shapeCast _ w shapeCasts_S1x1x1024x1024_S1024x1024) bitsLt_bf16_f32) : FVec Ideal S4096x1024 .f32)
      = Cert.DygKernelIdeal.Value.prod x w := by
  funext j
  idx_vars j
  pointwise [Cert.DygKernelIdeal.Value.prod]

end Cert.DygReferenceIdeal.Value

namespace Cert.Proof

open Idealize.ShloMosaic Idealize.SL.Sem

/-- The kernel and the reference compute the same array. -/
theorem algebraic_dyg : Cert.algebraic_DygKernelIdeal_DygReferenceIdeal := by
  intro m g m' g' _ hm
  refine ⟨fun c => Cert.DygKernelIdeal.Value.prod (m ((c.tc : Thread _ _).loc Cert.DygKernelIdeal.main_arg0)) (m ((c.tc : Thread _ _).loc Cert.DygKernelIdeal.main_arg1)), ?_, ?_⟩
  · exact (θ_run _ _ _).mono (fun r h c => ⟨(h c).1.trans (Cert.DygKernelIdeal.Value.final m c), (h c).2⟩)
      (Cert.DygKernelIdeal.Value.run_blocks m g)
  · refine (θ_run _ _ _).mono (fun r h c => ⟨(h c).1.trans ?_, (h c).2⟩) (Cert.DygReferenceIdeal.Value.run m' g')
    rw [(hm c).1, (hm c).2]
    exact Cert.DygReferenceIdeal.Value.ref_eq _ _

end Cert.Proof

end
-- ==== Proof.DwgValue.lean ====
/- The gradient of the gate product of the state-space branch with respect to its weight. -/
module

public import proofs.«01_k».proof.Defs
public import proofs.«01_k».proof.Proof.Gen.DwgKernelIdeal.Value
public import proofs.«01_k».proof.Proof.Gen.DwgReferenceIdeal.Run
public import Idealize.ShloMosaic.Lib.Pointwise

@[expose] public section

set_option maxRecDepth 16384

noncomputable section

namespace Cert.DwgKernelIdeal.Value

open Cert.DwgKernelIdeal Cert.DwgKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (0, 0, r, n) of the product of the transpose of `x` with `w`. -/
def prod (x : Vec Ideal S4096x1024 .bf16) (w : Vec Ideal S4096x1024 .bf16) : Vec Ideal S1x1x1024x1024 .f32 := fun j =>
  ∑ k : Fin 4096, x (ix2 k (j 2)) * w (ix2 k (j 3))

/-- Where the blocks of the windows lie at a grid point. -/
theorem index_eq : ∀ t : Fin grid0.N,
    win0_0.index t 0 = 0 ∧ win0_0.index t 1 = t.val / 1 ∧ win0_1.index t 0 = 0
    ∧ win0_1.index t 1 = t.val % 1 ∧ win0_2.index t 0 = 0 ∧ win0_2.index t 1 = 0
    ∧ win0_2.index t 2 = t.val / 1 ∧ win0_2.index t 3 = t.val % 1 := by
  decide +kernel

/-- An entry of window 0's block is the entry of its array at the block's offset. -/
theorem blk0 (c : Dev nD) (t : Fin cfg0.N) (y : S4096x512.Idx) (i : S4096x1024.Idx)
    (h : ∀ a, (i a : Nat) = win0_0.index t a * S4096x512.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S4096x1024.Idx) (i : S4096x1024.Idx)
    (h : ∀ a, (i a : Nat) = win0_1.index t a * S4096x1024.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S4096x512 .bf16) (w : Vec Ideal S4096x1024 .bf16) (r : Fin 512) (n : Fin 1024) :
    out0_2 (F := Ideal) x w (ix4 0 0 r n) = ∑ k : Fin 4096, x (ix2 k r) * w (ix2 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz4, View.ld_unit_zero hz2, View.ld_unit_zero hz2]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 512) (n : Fin 1024), y = (ix4 0 0 r n) := ⟨y 2, y 3, (eq_ix4 y).trans (congrArg₂ (fun a b => ix4 a b (y 2) (y 3))
      (Subsingleton.elim (α := Fin 1) (y 0) 0) (Subsingleton.elim (α := Fin 1) (y 1) 0))⟩
    obtain ⟨h00, h01, h10, h11, h20, h21, h22, h23⟩ := index_eq t
    refine (out_apply _ _ r n).trans ?_
    show _ = prod _ _ ((win0_2.rect t).emb ((ix4 0 0 r n)))
    have e0 : ((win0_2.rect t).emb (ix4 0 0 r n) 0 : Nat) = win0_2.index t 0 * 1 + 0 := win0_2.rect_emb_val t (ix4 0 0 r n) 0
    have e1 : ((win0_2.rect t).emb (ix4 0 0 r n) 1 : Nat) = win0_2.index t 1 * 1 + 0 := win0_2.rect_emb_val t (ix4 0 0 r n) 1
    have e2 : ((win0_2.rect t).emb (ix4 0 0 r n) 2 : Nat) = win0_2.index t 2 * 512 + r.val := win0_2.rect_emb_val t (ix4 0 0 r n) 2
    have e3 : ((win0_2.rect t).emb (ix4 0 0 r n) 3 : Nat) = win0_2.index t 3 * 1024 + n.val := win0_2.rect_emb_val t (ix4 0 0 r n) 3
    generalize (win0_2.rect t).emb ((ix4 0 0 r n)) = j at e0 e1 e2 e3 ⊢
    unfold prod
    rw [h20] at e0; rw [h21] at e1; rw [h22] at e2; rw [h23] at e3
    have l0 : (j 0 : Nat) < 1 := (j 0).isLt
    have l1 : (j 1 : Nat) < 1 := (j 1).isLt
    have l2 : (j 2 : Nat) < 1024 := (j 2).isLt
    have l3 : (j 3 : Nat) < 1024 := (j 3).isLt
    have ht : t.val < 2 := N_0 ▸ t.isLt
    have hr := r.isLt; have hn := n.isLt
    refine Finset.sum_congr rfl fun k _ => congrArg₂ (· * ·) (blk0 m c t _ _ fun a => ?_) (blk1 m c t _ _ fun a => ?_)
    · fin_cases a
      · show k.val = win0_0.index t 0 * 4096 + k.val; omega
      · show (j 2 : Nat) = win0_0.index t 1 * 512 + r.val; omega
    · fin_cases a
      · show k.val = win0_1.index t 0 * 4096 + k.val; omega
      · show (j 3 : Nat) = win0_1.index t 1 * 1024 + n.val; omega
  · have i0 : (i 0 : Nat) < 1 := (i 0).isLt
    have i1 : (i 1 : Nat) < 1 := (i 1).isLt
    have i2 : (i 2 : Nat) < 1024 := (i 2).isLt
    have i3 : (i 3 : Nat) < 1024 := (i 3).isLt
    have hN : grid0.N = 2 := N_0
    refine ⟨⟨(i 2 : Nat) / 512 * 1 + (i 3 : Nat) / 1024, by show _ < grid0.N; omega⟩, flush0_2 _, ?_⟩
    generalize ht : (⟨(i 2 : Nat) / 512 * 1 + (i 3 : Nat) / 1024, _⟩ : Fin cfg0.N) = t
    have hv : t.val = (i 2 : Nat) / 512 * 1 + (i 3 : Nat) / 1024 := by rw [← ht]
    obtain ⟨h00, h01, h10, h11, h20, h21, h22, h23⟩ := index_eq t
    show i ∈ ((View.whole main_v0).slice (win0_2.rect t)).set
    rw [View.set_slice_whole, Rect.mem_set_unit]
    intro a
    fin_cases a
    · show win0_2.index t 0 * 1 ≤ (i 0 : Nat) ∧ (i 0 : Nat) < win0_2.index t 0 * 1 + 1; rw [h20]; omega
    · show win0_2.index t 1 * 1 ≤ (i 1 : Nat) ∧ (i 1 : Nat) < win0_2.index t 1 * 1 + 1; rw [h21]; omega
    · show win0_2.index t 2 * 512 ≤ (i 2 : Nat) ∧ (i 2 : Nat) < win0_2.index t 2 * 512 + 512; rw [h22]; omega
    · show win0_2.index t 3 * 1024 ≤ (i 3 : Nat) ∧ (i 3 : Nat) < win0_2.index t 3 * 1024 + 1024; rw [h23]; omega

end Cert.DwgKernelIdeal.Value

namespace Cert.DwgReferenceIdeal.Value

open Cert.DwgReferenceIdeal Cert.DwgReferenceIdeal.Gen Idealize.ShloMosaic Idealize.ShloMosaic.TcCoe Idealize.SL.Sem

/-- The reference's composed term is the product. -/
theorem ref_eq (x : Vec Ideal S4096x1024 .bf16) (w : Vec Ideal S4096x1024 .bf16) :
    (broadcastInDim S1x1x1024x1024 ![2, 3] bcast_S1024x1024_S1x1x1024x1024_2_3 (transpose S1024x1024 [1, 0] (Host.dotGeneral dot_S4096x1024_S4096x1024_S1024x1024_0_0_1_1_n_n none (extf .f32 w bitsLt_bf16_f32) (extf .f32 x bitsLt_bf16_f32)) transposes_S1024x1024_S1024x1024_1_0) : FVec Ideal S1x1x1024x1024 .f32)
      = Cert.DwgKernelIdeal.Value.prod x w := by
  funext j
  idx_vars j
  pointwise [Cert.DwgKernelIdeal.Value.prod]
  exact Finset.sum_congr rfl fun k _ => mul_comm _ _

end Cert.DwgReferenceIdeal.Value

namespace Cert.Proof

open Idealize.ShloMosaic Idealize.SL.Sem

/-- The kernel and the reference compute the same array. -/
theorem algebraic_dwg : Cert.algebraic_DwgKernelIdeal_DwgReferenceIdeal := by
  intro m g m' g' _ hm
  refine ⟨fun c => Cert.DwgKernelIdeal.Value.prod (m ((c.tc : Thread _ _).loc Cert.DwgKernelIdeal.main_arg0)) (m ((c.tc : Thread _ _).loc Cert.DwgKernelIdeal.main_arg1)), ?_, ?_⟩
  · exact (θ_run _ _ _).mono (fun r h c => ⟨(h c).1.trans (Cert.DwgKernelIdeal.Value.final m c), (h c).2⟩)
      (Cert.DwgKernelIdeal.Value.run_blocks m g)
  · refine (θ_run _ _ _).mono (fun r h c => ⟨(h c).1.trans ?_, (h c).2⟩) (Cert.DwgReferenceIdeal.Value.run m' g')
    rw [(hm c).1, (hm c).2]
    exact Cert.DwgReferenceIdeal.Value.ref_eq _ _

end Cert.Proof

end
-- ==== Proof.DzValue.lean ====
/- The gradient of the input projection with respect to its left factor. -/
module

public import proofs.«01_k».proof.Defs
public import proofs.«01_k».proof.Proof.Gen.DzKernelIdeal.Value
public import proofs.«01_k».proof.Proof.Gen.DzReferenceIdeal.Run
public import Idealize.ShloMosaic.Lib.Pointwise

@[expose] public section

set_option maxRecDepth 16384

noncomputable section

namespace Cert.DzKernelIdeal.Value

open Cert.DzKernelIdeal Cert.DzKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with the transpose of the matrix whose columns are those of the 4 shards of `w` side by side. -/
def prod (x : Vec Ideal S4096x6656 .bf16) (w : Vec Ideal S4x1x2048x1664 .bf16) : Vec Ideal S4096x2048 .f32 := fun j =>
  ∑ s : Fin 4, ∑ k : Fin 1664, x (ix2 (j 0) ⟨s.val * 1664 + k.val, by omega⟩) * w (ix4 s 0 (j 1) k)

/-- Where the blocks of the windows lie at a grid point. -/
theorem index_eq : ∀ t : Fin grid0.N,
    win0_0.index t 0 = t.val % 4 ∧ win0_0.index t 1 = 0 ∧ win0_1.index t 0 = 0
    ∧ win0_1.index t 1 = 0 ∧ win0_1.index t 2 = t.val / 4 ∧ win0_1.index t 3 = 0
    ∧ win0_2.index t 0 = t.val % 4 ∧ win0_2.index t 1 = t.val / 4 := by
  decide +kernel

/-- An entry of window 0's block is the entry of its array at the block's offset. -/
theorem blk0 (c : Dev nD) (t : Fin cfg0.N) (y : S1024x6656.Idx) (i : S4096x6656.Idx)
    (h : ∀ a, (i a : Nat) = win0_0.index t a * S1024x6656.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S4x1x512x1664.Idx) (i : S4x1x2048x1664.Idx)
    (h : ∀ a, (i a : Nat) = win0_1.index t a * S4x1x512x1664.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S1024x6656 .bf16) (w : Vec Ideal S4x1x512x1664 .bf16) (r : Fin 1024) (n : Fin 512) :
    out0_2 (F := Ideal) x w (ix2 r n) = ∑ s : Fin 4, ∑ k : Fin 1664, x (ix2 r ⟨s.val * 1664 + k.val, by omega⟩) * w (ix4 s 0 n k) := by
  have hz2 : (![0, 0] : Fin 2 → Nat) = fun _ => 0 := funext fun a => by fin_cases a <;> rfl
  unfold out0_2
  rw [View.canon_unit_zero hz2]
  pointwise [k0_pay1]
  rw [Fin.sum_univ_four]
  exact (congrArg₂ (· + ·) (congrArg₂ (· + ·) (congrArg₂ (· + ·) (Finset.sum_congr rfl fun k _ => congrArg (fun a => x (ix2 r a) * w (ix4 0 0 n k))
      (Fin.ext (by show k.val = 0 * 1664 + k.val; omega)))
    (Finset.sum_congr rfl fun k _ => congrArg (fun a => x (ix2 r a) * w (ix4 1 0 n k))
      (Fin.ext (by show 1664 + k.val = 1 * 1664 + k.val; omega))))
    (Finset.sum_congr rfl fun k _ => congrArg (fun a => x (ix2 r a) * w (ix4 2 0 n k))
      (Fin.ext (by show 3328 + k.val = 2 * 1664 + k.val; omega))))
    (Finset.sum_congr rfl fun k _ => congrArg (fun a => x (ix2 r a) * w (ix4 3 0 n k))
      (Fin.ext (by show 4992 + k.val = 3 * 1664 + k.val; omega))))

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 1024) (n : Fin 512), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 1024 + r.val := win0_2.rect_emb_val t (ix2 r n) 0
    have e1 : ((win0_2.rect t).emb (ix2 r n) 1 : Nat) = win0_2.index t 1 * 512 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 2048 := (j 1).isLt
    have ht : t.val < 16 := N_0 ▸ t.isLt
    have hr := r.isLt; have hn := n.isLt
    refine Finset.sum_congr rfl fun s _ => Finset.sum_congr rfl fun k _ => congrArg₂ (· * ·) (blk0 m c t _ _ fun a => ?_) (blk1 m c t _ _ fun a => ?_)
    · fin_cases a
      · show (j 0 : Nat) = win0_0.index t 0 * 1024 + r.val; omega
      · show s.val * 1664 + k.val = win0_0.index t 1 * 6656 + (s.val * 1664 + k.val); omega
    · fin_cases a
      · show s.val = win0_1.index t 0 * 4 + s.val; omega
      · show 0 = win0_1.index t 1 * 1 + 0; omega
      · show (j 1 : Nat) = win0_1.index t 2 * 512 + n.val; omega
      · show k.val = win0_1.index t 3 * 1664 + k.val; omega
  · have i0 : (i 0 : Nat) < 4096 := (i 0).isLt
    have i1 : (i 1 : Nat) < 2048 := (i 1).isLt
    have hN : grid0.N = 16 := N_0
    refine ⟨⟨(i 1 : Nat) / 512 * 4 + (i 0 : Nat) / 1024, by show _ < grid0.N; omega⟩, flush0_2 _, ?_⟩
    generalize ht : (⟨(i 1 : Nat) / 512 * 4 + (i 0 : Nat) / 1024, _⟩ : Fin cfg0.N) = t
    have hv : t.val = (i 1 : Nat) / 512 * 4 + (i 0 : Nat) / 1024 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 1024 ≤ (i 0 : Nat) ∧ (i 0 : Nat) < win0_2.index t 0 * 1024 + 1024; rw [h20]; omega
    · show win0_2.index t 1 * 512 ≤ (i 1 : Nat) ∧ (i 1 : Nat) < win0_2.index t 1 * 512 + 512; rw [h21]; omega

end Cert.DzKernelIdeal.Value

namespace Cert.DzReferenceIdeal.Value

open Cert.DzReferenceIdeal Cert.DzReferenceIdeal.Gen Idealize.ShloMosaic Idealize.ShloMosaic.TcCoe Idealize.SL.Sem

/-- The reference's composed term is the product. -/
theorem ref_eq (x : Vec Ideal S4096x6656 .bf16) (w : Vec Ideal S4x1x2048x1664 .bf16) :
    (Host.dotGeneral dot_S4096x6656_S2048x6656_S4096x2048_1_1_0_0_n_n none (extf .f32 x bitsLt_bf16_f32) (extf .f32 (shapeCast _ (transpose S2048x4x1664 [1, 0, 2] (shapeCast _ w shapeCasts_S4x1x2048x1664_S4x2048x1664) transposes_S4x2048x1664_S2048x4x1664_1_0_2) shapeCasts_S2048x4x1664_S2048x6656) bitsLt_bf16_f32) : FVec Ideal S4096x2048 .f32)
      = Cert.DzKernelIdeal.Value.prod x w := by
  funext j
  idx_vars j
  pointwise [Cert.DzKernelIdeal.Value.prod]
  refine (Fin.sum_univ_tiles 4 1664 rfl _).trans (Finset.sum_congr rfl fun s _ => Finset.sum_congr rfl fun k _ => ?_)
  exact congrArg₂ (fun a b => x _ * w (ix4 a 0 j1 b)) (Fin.ext (by show (s.val * 1664 + k.val) / 1664 = s.val; omega))
    (Fin.ext (by show (s.val * 1664 + k.val) % 1664 = k.val; omega))

end Cert.DzReferenceIdeal.Value

namespace Cert.Proof

open Idealize.ShloMosaic Idealize.SL.Sem

/-- The kernel and the reference compute the same array. -/
theorem algebraic_dz : Cert.algebraic_DzKernelIdeal_DzReferenceIdeal := by
  intro m g m' g' _ hm
  refine ⟨fun c => Cert.DzKernelIdeal.Value.prod (m ((c.tc : Thread _ _).loc Cert.DzKernelIdeal.main_arg0)) (m ((c.tc : Thread _ _).loc Cert.DzKernelIdeal.main_arg1)), ?_, ?_⟩
  · exact (θ_run _ _ _).mono (fun r h c => ⟨(h c).1.trans (Cert.DzKernelIdeal.Value.final m c), (h c).2⟩)
      (Cert.DzKernelIdeal.Value.run_blocks m g)
  · refine (θ_run _ _ _).mono (fun r h c => ⟨(h c).1.trans ?_, (h c).2⟩) (Cert.DzReferenceIdeal.Value.run m' g')
    rw [(hm c).1, (hm c).2]
    exact Cert.DzReferenceIdeal.Value.ref_eq _ _

end Cert.Proof

end
-- ==== Proof.DwzValue.lean ====
/- The gradient of the input projection with respect to its weight. -/
module

public import proofs.«01_k».proof.Defs
public import proofs.«01_k».proof.Proof.Gen.DwzKernelIdeal.Value
public import proofs.«01_k».proof.Proof.Gen.DwzReferenceIdeal.Run
public import Idealize.ShloMosaic.Lib.Pointwise

@[expose] public section

set_option maxRecDepth 16384

noncomputable section

namespace Cert.DwzKernelIdeal.Value

open Cert.DwzKernelIdeal Cert.DwzKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (0, s, r, n) of the product of the transpose of `x` with `w`, its columns cut in 4 shards. -/
def prod (x : Vec Ideal S4096x2048 .bf16) (w : Vec Ideal S4096x6656 .bf16) : Vec Ideal S1x4x2048x1664 .f32 := fun j =>
  ∑ k : Fin 4096, x (ix2 k (j 2)) * w (ix2 k ⟨(j 1 : Nat) * 1664 + (j 3 : Nat), by
    have h1 : (j 1 : Nat) < 4 := (j 1).isLt; have h3 : (j 3 : Nat) < 1664 := (j 3).isLt; omega⟩)

/-- Where the blocks of the windows lie at a grid point. -/
theorem index_eq : ∀ t : Fin grid0.N,
    win0_0.index t 0 = 0 ∧ win0_0.index t 1 = t.val / 4 ∧ win0_1.index t 0 = 0
    ∧ win0_1.index t 1 = t.val % 4 ∧ win0_2.index t 0 = 0 ∧ win0_2.index t 1 = t.val % 4
    ∧ win0_2.index t 2 = t.val / 4 ∧ win0_2.index t 3 = 0 := by
  decide +kernel

/-- An entry of window 0's block is the entry of its array at the block's offset. -/
theorem blk0 (c : Dev nD) (t : Fin cfg0.N) (y : S4096x512.Idx) (i : S4096x2048.Idx)
    (h : ∀ a, (i a : Nat) = win0_0.index t a * S4096x512.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S4096x1664.Idx) (i : S4096x6656.Idx)
    (h : ∀ a, (i a : Nat) = win0_1.index t a * S4096x1664.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S4096x512 .bf16) (w : Vec Ideal S4096x1664 .bf16) (r : Fin 512) (n : Fin 1664) :
    out0_2 (F := Ideal) x w (ix4 0 0 r n) = ∑ k : Fin 4096, x (ix2 k r) * w (ix2 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz4, View.ld_unit_zero hz2, View.ld_unit_zero hz2]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 512) (n : Fin 1664), y = (ix4 0 0 r n) := ⟨y 2, y 3, (eq_ix4 y).trans (congrArg₂ (fun a b => ix4 a b (y 2) (y 3))
      (Subsingleton.elim (α := Fin 1) (y 0) 0) (Subsingleton.elim (α := Fin 1) (y 1) 0))⟩
    obtain ⟨h00, h01, h10, h11, h20, h21, h22, h23⟩ := index_eq t
    refine (out_apply _ _ r n).trans ?_
    show _ = prod _ _ ((win0_2.rect t).emb ((ix4 0 0 r n)))
    have e0 : ((win0_2.rect t).emb (ix4 0 0 r n) 0 : Nat) = win0_2.index t 0 * 1 + 0 := win0_2.rect_emb_val t (ix4 0 0 r n) 0
    have e1 : ((win0_2.rect t).emb (ix4 0 0 r n) 1 : Nat) = win0_2.index t 1 * 1 + 0 := win0_2.rect_emb_val t (ix4 0 0 r n) 1
    have e2 : ((win0_2.rect t).emb (ix4 0 0 r n) 2 : Nat) = win0_2.index t 2 * 512 + r.val := win0_2.rect_emb_val t (ix4 0 0 r n) 2
    have e3 : ((win0_2.rect t).emb (ix4 0 0 r n) 3 : Nat) = win0_2.index t 3 * 1664 + n.val := win0_2.rect_emb_val t (ix4 0 0 r n) 3
    generalize (win0_2.rect t).emb ((ix4 0 0 r n)) = j at e0 e1 e2 e3 ⊢
    unfold prod
    rw [h20] at e0; rw [h21] at e1; rw [h22] at e2; rw [h23] at e3
    have l0 : (j 0 : Nat) < 1 := (j 0).isLt
    have l1 : (j 1 : Nat) < 4 := (j 1).isLt
    have l2 : (j 2 : Nat) < 2048 := (j 2).isLt
    have l3 : (j 3 : Nat) < 1664 := (j 3).isLt
    have ht : t.val < 16 := N_0 ▸ t.isLt
    have hr := r.isLt; have hn := n.isLt
    refine Finset.sum_congr rfl fun k _ => congrArg₂ (· * ·) (blk0 m c t _ _ fun a => ?_) (blk1 m c t _ _ fun a => ?_)
    · fin_cases a
      · show k.val = win0_0.index t 0 * 4096 + k.val; omega
      · show (j 2 : Nat) = win0_0.index t 1 * 512 + r.val; omega
    · fin_cases a
      · show k.val = win0_1.index t 0 * 4096 + k.val; omega
      · show (j 1 : Nat) * 1664 + (j 3 : Nat) = win0_1.index t 1 * 1664 + n.val; omega
  · have i0 : (i 0 : Nat) < 1 := (i 0).isLt
    have i1 : (i 1 : Nat) < 4 := (i 1).isLt
    have i2 : (i 2 : Nat) < 2048 := (i 2).isLt
    have i3 : (i 3 : Nat) < 1664 := (i 3).isLt
    have hN : grid0.N = 16 := N_0
    refine ⟨⟨(i 2 : Nat) / 512 * 4 + (i 1 : Nat), by show _ < grid0.N; omega⟩, flush0_2 _, ?_⟩
    generalize ht : (⟨(i 2 : Nat) / 512 * 4 + (i 1 : Nat), _⟩ : Fin cfg0.N) = t
    have hv : t.val = (i 2 : Nat) / 512 * 4 + (i 1 : Nat) := by rw [← ht]
    obtain ⟨h00, h01, h10, h11, h20, h21, h22, h23⟩ := index_eq t
    show i ∈ ((View.whole main_v0).slice (win0_2.rect t)).set
    rw [View.set_slice_whole, Rect.mem_set_unit]
    intro a
    fin_cases a
    · show win0_2.index t 0 * 1 ≤ (i 0 : Nat) ∧ (i 0 : Nat) < win0_2.index t 0 * 1 + 1; rw [h20]; omega
    · show win0_2.index t 1 * 1 ≤ (i 1 : Nat) ∧ (i 1 : Nat) < win0_2.index t 1 * 1 + 1; rw [h21]; omega
    · show win0_2.index t 2 * 512 ≤ (i 2 : Nat) ∧ (i 2 : Nat) < win0_2.index t 2 * 512 + 512; rw [h22]; omega
    · show win0_2.index t 3 * 1664 ≤ (i 3 : Nat) ∧ (i 3 : Nat) < win0_2.index t 3 * 1664 + 1664; rw [h23]; omega

end Cert.DwzKernelIdeal.Value

namespace Cert.DwzReferenceIdeal.Value

open Cert.DwzReferenceIdeal Cert.DwzReferenceIdeal.Gen Idealize.ShloMosaic Idealize.ShloMosaic.TcCoe Idealize.SL.Sem

/-- The reference's composed term is the product. -/
theorem ref_eq (x : Vec Ideal S4096x2048 .bf16) (w : Vec Ideal S4096x6656 .bf16) :
    (broadcastInDim S1x4x2048x1664 ![1, 2, 3] bcast_S4x2048x1664_S1x4x2048x1664_1_2_3 (transpose S4x2048x1664 [1, 0, 2] (shapeCast _ (transpose S2048x6656 [1, 0] (Host.dotGeneral dot_S4096x6656_S4096x2048_S6656x2048_0_0_1_1_n_n none (extf .f32 w bitsLt_bf16_f32) (extf .f32 x bitsLt_bf16_f32)) transposes_S6656x2048_S2048x6656_1_0) shapeCasts_S2048x6656_S2048x4x1664) transposes_S2048x4x1664_S4x2048x1664_1_0_2) : FVec Ideal S1x4x2048x1664 .f32)
      = Cert.DwzKernelIdeal.Value.prod x w := by
  funext j
  idx_vars j
  pointwise [Cert.DwzKernelIdeal.Value.prod]
  exact Finset.sum_congr rfl fun k _ => mul_comm _ _

end Cert.DwzReferenceIdeal.Value

namespace Cert.Proof

open Idealize.ShloMosaic Idealize.SL.Sem

/-- The kernel and the reference compute the same array. -/
theorem algebraic_dwz : Cert.algebraic_DwzKernelIdeal_DwzReferenceIdeal := by
  intro m g m' g' _ hm
  refine ⟨fun c => Cert.DwzKernelIdeal.Value.prod (m ((c.tc : Thread _ _).loc Cert.DwzKernelIdeal.main_arg0)) (m ((c.tc : Thread _ _).loc Cert.DwzKernelIdeal.main_arg1)), ?_, ?_⟩
  · exact (θ_run _ _ _).mono (fun r h c => ⟨(h c).1.trans (Cert.DwzKernelIdeal.Value.final m c), (h c).2⟩)
      (Cert.DwzKernelIdeal.Value.run_blocks m g)
  · refine (θ_run _ _ _).mono (fun r h c => ⟨(h c).1.trans ?_, (h c).2⟩) (Cert.DwzReferenceIdeal.Value.run m' g')
    rw [(hm c).1, (hm c).2]
    exact Cert.DwzReferenceIdeal.Value.ref_eq _ _

end Cert.Proof

end
-- ==== Proof.FzValue.lean ====
/- The input projection. -/
module

public import proofs.«01_k».proof.Defs
public import proofs.«01_k».proof.Proof.Gen.FzKernelIdeal.Value
public import proofs.«01_k».proof.Proof.Gen.FzReferenceIdeal.Run
public import Idealize.ShloMosaic.Lib.Pointwise

@[expose] public section

set_option maxRecDepth 16384

noncomputable section

namespace Cert.FzKernelIdeal.Value

open Cert.FzKernelIdeal Cert.FzKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with the matrix whose columns are those of the 4 shards of `w` side by side. -/
def prod (x : Vec Ideal S4096x2048 .bf16) (w : Vec Ideal S4x1x2048x1664 .bf16) : Vec Ideal S4096x6656 .f32 := fun j =>
  ∑ k : Fin 2048, x (ix2 (j 0) k) * w (ix4 ⟨(j 1 : Nat) / 1664, by have h : (j 1 : Nat) < 6656 := (j 1).isLt; omega⟩ 0 k
    ⟨(j 1 : Nat) % 1664, Nat.mod_lt _ (by omega)⟩)

/-- Where the blocks of the windows lie at a grid point. -/
theorem index_eq : ∀ t : Fin grid0.N,
    win0_0.index t 0 = t.val % 4 ∧ win0_0.index t 1 = 0 ∧ win0_1.index t 0 = t.val / 4
    ∧ win0_1.index t 1 = 0 ∧ win0_1.index t 2 = 0 ∧ win0_1.index t 3 = 0
    ∧ win0_2.index t 0 = t.val % 4 ∧ win0_2.index t 1 = t.val / 4 := by
  decide +kernel

/-- An entry of window 0's block is the entry of its array at the block's offset. -/
theorem blk0 (c : Dev nD) (t : Fin cfg0.N) (y : S1024x2048.Idx) (i : S4096x2048.Idx)
    (h : ∀ a, (i a : Nat) = win0_0.index t a * S1024x2048.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S1x1x2048x1664.Idx) (i : S4x1x2048x1664.Idx)
    (h : ∀ a, (i a : Nat) = win0_1.index t a * S1x1x2048x1664.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S1024x2048 .bf16) (w : Vec Ideal S1x1x2048x1664 .bf16) (r : Fin 1024) (n : Fin 1664) :
    out0_2 (F := Ideal) x w (ix2 r n) = ∑ k : Fin 2048, x (ix2 r k) * w (ix4 0 0 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz2, View.ld_unit_zero hz2, View.ld_unit_zero hz4]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 1024) (n : Fin 1664), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 1024 + r.val := win0_2.rect_emb_val t (ix2 r n) 0
    have e1 : ((win0_2.rect t).emb (ix2 r n) 1 : Nat) = win0_2.index t 1 * 1664 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 6656 := (j 1).isLt
    have ht : t.val < 16 := N_0 ▸ t.isLt
    have hr := r.isLt; have hn := n.isLt
    refine Finset.sum_congr rfl fun k _ => congrArg₂ (· * ·) (blk0 m c t _ _ fun a => ?_) (blk1 m c t _ _ fun a => ?_)
    · fin_cases a
      · show (j 0 : Nat) = win0_0.index t 0 * 1024 + r.val; omega
      · show k.val = win0_0.index t 1 * 2048 + k.val; omega
    · fin_cases a
      · show (j 1 : Nat) / 1664 = win0_1.index t 0 * 1 + 0; omega
      · show 0 = win0_1.index t 1 * 1 + 0; omega
      · show k.val = win0_1.index t 2 * 2048 + k.val; omega
      · show (j 1 : Nat) % 1664 = win0_1.index t 3 * 1664 + n.val; omega
  · have i0 : (i 0 : Nat) < 4096 := (i 0).isLt
    have i1 : (i 1 : Nat) < 6656 := (i 1).isLt
    have hN : grid0.N = 16 := N_0
    refine ⟨⟨(i 1 : Nat) / 1664 * 4 + (i 0 : Nat) / 1024, by show _ < grid0.N; omega⟩, flush0_2 _, ?_⟩
    generalize ht : (⟨(i 1 : Nat) / 1664 * 4 + (i 0 : Nat) / 1024, _⟩ : Fin cfg0.N) = t
    have hv : t.val = (i 1 : Nat) / 1664 * 4 + (i 0 : Nat) / 1024 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 1024 ≤ (i 0 : Nat) ∧ (i 0 : Nat) < win0_2.index t 0 * 1024 + 1024; rw [h20]; omega
    · show win0_2.index t 1 * 1664 ≤ (i 1 : Nat) ∧ (i 1 : Nat) < win0_2.index t 1 * 1664 + 1664; rw [h21]; omega

end Cert.FzKernelIdeal.Value

namespace Cert.FzReferenceIdeal.Value

open Cert.FzReferenceIdeal Cert.FzReferenceIdeal.Gen Idealize.ShloMosaic Idealize.ShloMosaic.TcCoe Idealize.SL.Sem

/-- The reference's composed term is the product. -/
theorem ref_eq (x : Vec Ideal S4096x2048 .bf16) (w : Vec Ideal S4x1x2048x1664 .bf16) :
    (Host.dotGeneral dot_S4096x2048_S2048x6656_S4096x6656_1_0_0_1_n_n none (extf .f32 x bitsLt_bf16_f32) (extf .f32 (shapeCast _ (transpose S2048x4x1664 [1, 0, 2] (shapeCast _ w shapeCasts_S4x1x2048x1664_S4x2048x1664) transposes_S4x2048x1664_S2048x4x1664_1_0_2) shapeCasts_S2048x4x1664_S2048x6656) bitsLt_bf16_f32) : FVec Ideal S4096x6656 .f32)
      = Cert.FzKernelIdeal.Value.prod x w := by
  funext j
  idx_vars j
  pointwise [Cert.FzKernelIdeal.Value.prod]

end Cert.FzReferenceIdeal.Value

namespace Cert.Proof

open Idealize.ShloMosaic Idealize.SL.Sem

/-- The kernel and the reference compute the same array. -/
theorem algebraic_fz : Cert.algebraic_FzKernelIdeal_FzReferenceIdeal := by
  intro m g m' g' _ hm
  refine ⟨fun c => Cert.FzKernelIdeal.Value.prod (m ((c.tc : Thread _ _).loc Cert.FzKernelIdeal.main_arg0)) (m ((c.tc : Thread _ _).loc Cert.FzKernelIdeal.main_arg1)), ?_, ?_⟩
  · exact (θ_run _ _ _).mono (fun r h c => ⟨(h c).1.trans (Cert.FzKernelIdeal.Value.final m c), (h c).2⟩)
      (Cert.FzKernelIdeal.Value.run_blocks m g)
  · refine (θ_run _ _ _).mono (fun r h c => ⟨(h c).1.trans ?_, (h c).2⟩) (Cert.FzReferenceIdeal.Value.run m' g')
    rw [(hm c).1, (hm c).2]
    exact Cert.FzReferenceIdeal.Value.ref_eq _ _

end Cert.Proof

end
-- ==== Proof.FgValue.lean ====
/- The gate product of the state-space branch. -/
module

public import proofs.«01_k».proof.Defs
public import proofs.«01_k».proof.Proof.Gen.FgKernelIdeal.Value
public import proofs.«01_k».proof.Proof.Gen.FgReferenceIdeal.Run
public import Idealize.ShloMosaic.Lib.Pointwise

@[expose] public section

set_option maxRecDepth 16384

noncomputable section

namespace Cert.FgKernelIdeal.Value

open Cert.FgKernelIdeal Cert.FgKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with `w`. -/
def prod (x : Vec Ideal S4096x1024 .bf16) (w : Vec Ideal S1x1x1024x1024 .bf16) : Vec Ideal S4096x1024 .f32 := fun j =>
  ∑ k : Fin 1024, x (ix2 (j 0) k) * w (ix4 0 0 k (j 1))

/-- Where the blocks of the windows lie at a grid point. -/
theorem index_eq : ∀ t : Fin grid0.N,
    win0_0.index t 0 = t.val % 4 ∧ win0_0.index t 1 = 0 ∧ win0_1.index t 0 = 0
    ∧ win0_1.index t 1 = 0 ∧ win0_1.index t 2 = 0 ∧ win0_1.index t 3 = t.val / 4
    ∧ win0_2.index t 0 = t.val % 4 ∧ win0_2.index t 1 = t.val / 4 := by
  decide +kernel

/-- An entry of window 0's block is the entry of its array at the block's offset. -/
theorem blk0 (c : Dev nD) (t : Fin cfg0.N) (y : S1024x1024.Idx) (i : S4096x1024.Idx)
    (h : ∀ a, (i a : Nat) = win0_0.index t a * S1024x1024.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S1x1x1024x1024.Idx) (i : S1x1x1024x1024.Idx)
    (h : ∀ a, (i a : Nat) = win0_1.index t a * S1x1x1024x1024.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S1024x1024 .bf16) (w : Vec Ideal S1x1x1024x1024 .bf16) (r : Fin 1024) (n : Fin 1024) :
    out0_2 (F := Ideal) x w (ix2 r n) = ∑ k : Fin 1024, x (ix2 r k) * w (ix4 0 0 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz2, View.ld_unit_zero hz2, View.ld_unit_zero hz4]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 1024) (n : Fin 1024), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 1024 + r.val := win0_2.rect_emb_val t (ix2 r n) 0
    have e1 : ((win0_2.rect t).emb (ix2 r n) 1 : Nat) = win0_2.index t 1 * 1024 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 1024 := (j 1).isLt
    have ht : t.val < 4 := N_0 ▸ t.isLt
    have hr := r.isLt; have hn := n.isLt
    refine Finset.sum_congr rfl fun k _ => congrArg₂ (· * ·) (blk0 m c t _ _ fun a => ?_) (blk1 m c t _ _ fun a => ?_)
    · fin_cases a
      · show (j 0 : Nat) = win0_0.index t 0 * 1024 + r.val; omega
      · show k.val = win0_0.index t 1 * 1024 + k.val; omega
    · fin_cases a
      · show 0 = win0_1.index t 0 * 1 + 0; omega
      · show 0 = win0_1.index t 1 * 1 + 0; omega
      · show k.val = win0_1.index t 2 * 1024 + k.val; omega
      · show (j 1 : Nat) = win0_1.index t 3 * 1024 + n.val; omega
  · have i0 : (i 0 : Nat) < 4096 := (i 0).isLt
    have i1 : (i 1 : Nat) < 1024 := (i 1).isLt
    have hN : grid0.N = 4 := N_0
    refine ⟨⟨(i 1 : Nat) / 1024 * 4 + (i 0 : Nat) / 1024, by show _ < grid0.N; omega⟩, flush0_2 _, ?_⟩
    generalize ht : (⟨(i 1 : Nat) / 1024 * 4 + (i 0 : Nat) / 1024, _⟩ : Fin cfg0.N) = t
    have hv : t.val = (i 1 : Nat) / 1024 * 4 + (i 0 : Nat) / 1024 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 1024 ≤ (i 0 : Nat) ∧ (i 0 : Nat) < win0_2.index t 0 * 1024 + 1024; rw [h20]; omega
    · show win0_2.index t 1 * 1024 ≤ (i 1 : Nat) ∧ (i 1 : Nat) < win0_2.index t 1 * 1024 + 1024; rw [h21]; omega

end Cert.FgKernelIdeal.Value

namespace Cert.FgReferenceIdeal.Value

open Cert.FgReferenceIdeal Cert.FgReferenceIdeal.Gen Idealize.ShloMosaic Idealize.ShloMosaic.TcCoe Idealize.SL.Sem

/-- The reference's composed term is the product. -/
theorem ref_eq (x : Vec Ideal S4096x1024 .bf16) (w : Vec Ideal S1x1x1024x1024 .bf16) :
    (Host.dotGeneral dot_S4096x1024_S1024x1024_S4096x1024_1_0_0_1_n_n none (extf .f32 x bitsLt_bf16_f32) (extf .f32 (shapeCast _ w shapeCasts_S1x1x1024x1024_S1024x1024) bitsLt_bf16_f32) : FVec Ideal S4096x1024 .f32)
      = Cert.FgKernelIdeal.Value.prod x w := by
  funext j
  idx_vars j
  pointwise [Cert.FgKernelIdeal.Value.prod]

end Cert.FgReferenceIdeal.Value

namespace Cert.Proof

open Idealize.ShloMosaic Idealize.SL.Sem

/-- The kernel and the reference compute the same array. -/
theorem algebraic_fg : Cert.algebraic_FgKernelIdeal_FgReferenceIdeal := by
  intro m g m' g' _ hm
  refine ⟨fun c => Cert.FgKernelIdeal.Value.prod (m ((c.tc : Thread _ _).loc Cert.FgKernelIdeal.main_arg0)) (m ((c.tc : Thread _ _).loc Cert.FgKernelIdeal.main_arg1)), ?_, ?_⟩
  · exact (θ_run _ _ _).mono (fun r h c => ⟨(h c).1.trans (Cert.FgKernelIdeal.Value.final m c), (h c).2⟩)
      (Cert.FgKernelIdeal.Value.run_blocks m g)
  · refine (θ_run _ _ _).mono (fun r h c => ⟨(h c).1.trans ?_, (h c).2⟩) (Cert.FgReferenceIdeal.Value.run m' g')
    rw [(hm c).1, (hm c).2]
    exact Cert.FgReferenceIdeal.Value.ref_eq _ _

end Cert.Proof

end
-- ==== Proof.FaValue.lean ====
/- The projection of a branch to the model width. -/
module

public import proofs.«01_k».proof.Defs
public import proofs.«01_k».proof.Proof.Gen.FaKernelIdeal.Value
public import proofs.«01_k».proof.Proof.Gen.FaReferenceIdeal.Run
public import Idealize.ShloMosaic.Lib.Pointwise

@[expose] public section

set_option maxRecDepth 16384

noncomputable section

namespace Cert.FaKernelIdeal.Value

open Cert.FaKernelIdeal Cert.FaKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with the matrix whose columns are those of the 4 shards of `w` side by side. -/
def prod (x : Vec Ideal S4096x1024 .bf16) (w : Vec Ideal S4x1x1024x512 .bf16) : Vec Ideal S4096x2048 .bf16 := fun j =>
  ∑ k : Fin 1024, x (ix2 (j 0) k) * w (ix4 ⟨(j 1 : Nat) / 512, by have h : (j 1 : Nat) < 2048 := (j 1).isLt; omega⟩ 0 k
    ⟨(j 1 : Nat) % 512, Nat.mod_lt _ (by omega)⟩)

/-- Where the blocks of the windows lie at a grid point. -/
theorem index_eq : ∀ t : Fin grid0.N,
    win0_0.index t 0 = t.val % 4 ∧ win0_0.index t 1 = 0 ∧ win0_1.index t 0 = t.val / 4
    ∧ win0_1.index t 1 = 0 ∧ win0_1.index t 2 = 0 ∧ win0_1.index t 3 = 0
    ∧ win0_2.index t 0 = t.val % 4 ∧ win0_2.index t 1 = t.val / 4 := by
  decide +kernel

/-- An entry of window 0's block is the entry of its array at the block's offset. -/
theorem blk0 (c : Dev nD) (t : Fin cfg0.N) (y : S1024x1024.Idx) (i : S4096x1024.Idx)
    (h : ∀ a, (i a : Nat) = win0_0.index t a * S1024x1024.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S1x1x1024x512.Idx) (i : S4x1x1024x512.Idx)
    (h : ∀ a, (i a : Nat) = win0_1.index t a * S1x1x1024x512.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S1024x1024 .bf16) (w : Vec Ideal S1x1x1024x512 .bf16) (r : Fin 1024) (n : Fin 512) :
    out0_2 (F := Ideal) x w (ix2 r n) = ∑ k : Fin 1024, x (ix2 r k) * w (ix4 0 0 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz2, View.ld_unit_zero hz2, View.ld_unit_zero hz4]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 1024) (n : Fin 512), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 1024 + r.val := win0_2.rect_emb_val t (ix2 r n) 0
    have e1 : ((win0_2.rect t).emb (ix2 r n) 1 : Nat) = win0_2.index t 1 * 512 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 2048 := (j 1).isLt
    have ht : t.val < 16 := N_0 ▸ t.isLt
    have hr := r.isLt; have hn := n.isLt
    refine Finset.sum_congr rfl fun k _ => congrArg₂ (· * ·) (blk0 m c t _ _ fun a => ?_) (blk1 m c t _ _ fun a => ?_)
    · fin_cases a
      · show (j 0 : Nat) = win0_0.index t 0 * 1024 + r.val; omega
      · show k.val = win0_0.index t 1 * 1024 + k.val; omega
    · fin_cases a
      · show (j 1 : Nat) / 512 = win0_1.index t 0 * 1 + 0; omega
      · show 0 = win0_1.index t 1 * 1 + 0; omega
      · show k.val = win0_1.index t 2 * 1024 + k.val; omega
      · show (j 1 : Nat) % 512 = win0_1.index t 3 * 512 + n.val; omega
  · have i0 : (i 0 : Nat) < 4096 := (i 0).isLt
    have i1 : (i 1 : Nat) < 2048 := (i 1).isLt
    have hN : grid0.N = 16 := N_0
    refine ⟨⟨(i 1 : Nat) / 512 * 4 + (i 0 : Nat) / 1024, by show _ < grid0.N; omega⟩, flush0_2 _, ?_⟩
    generalize ht : (⟨(i 1 : Nat) / 512 * 4 + (i 0 : Nat) / 1024, _⟩ : Fin cfg0.N) = t
    have hv : t.val = (i 1 : Nat) / 512 * 4 + (i 0 : Nat) / 1024 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 1024 ≤ (i 0 : Nat) ∧ (i 0 : Nat) < win0_2.index t 0 * 1024 + 1024; rw [h20]; omega
    · show win0_2.index t 1 * 512 ≤ (i 1 : Nat) ∧ (i 1 : Nat) < win0_2.index t 1 * 512 + 512; rw [h21]; omega

end Cert.FaKernelIdeal.Value

namespace Cert.FaReferenceIdeal.Value

open Cert.FaReferenceIdeal Cert.FaReferenceIdeal.Gen Idealize.ShloMosaic Idealize.ShloMosaic.TcCoe Idealize.SL.Sem

/-- The reference's composed term is the product. -/
theorem ref_eq (x : Vec Ideal S4096x1024 .bf16) (w : Vec Ideal S4x1x1024x512 .bf16) :
    (truncf .bf16 (Host.dotGeneral dot_S4096x1024_S1024x2048_S4096x2048_1_0_0_1_n_n none (extf .f32 x bitsLt_bf16_f32) (extf .f32 (shapeCast _ (transpose S1024x4x512 [1, 0, 2] (shapeCast _ w shapeCasts_S4x1x1024x512_S4x1024x512) transposes_S4x1024x512_S1024x4x512_1_0_2) shapeCasts_S1024x4x512_S1024x2048) bitsLt_bf16_f32)) bitsLt_bf16_f32 : FVec Ideal S4096x2048 .bf16)
      = Cert.FaKernelIdeal.Value.prod x w := by
  funext j
  idx_vars j
  pointwise [Cert.FaKernelIdeal.Value.prod]

end Cert.FaReferenceIdeal.Value

namespace Cert.Proof

open Idealize.ShloMosaic Idealize.SL.Sem

/-- The kernel and the reference compute the same array. -/
theorem algebraic_fa : Cert.algebraic_FaKernelIdeal_FaReferenceIdeal := by
  intro m g m' g' _ hm
  refine ⟨fun c => Cert.FaKernelIdeal.Value.prod (m ((c.tc : Thread _ _).loc Cert.FaKernelIdeal.main_arg0)) (m ((c.tc : Thread _ _).loc Cert.FaKernelIdeal.main_arg1)), ?_, ?_⟩
  · exact (θ_run _ _ _).mono (fun r h c => ⟨(h c).1.trans (Cert.FaKernelIdeal.Value.final m c), (h c).2⟩)
      (Cert.FaKernelIdeal.Value.run_blocks m g)
  · refine (θ_run _ _ _).mono (fun r h c => ⟨(h c).1.trans ?_, (h c).2⟩) (Cert.FaReferenceIdeal.Value.run m' g')
    rw [(hm c).1, (hm c).2]
    exact Cert.FaReferenceIdeal.Value.ref_eq _ _

end Cert.Proof

end
-- ==== Proof.FmValue.lean ====
/- The output projection, added to the residual. -/
module

public import proofs.«01_k».proof.Defs
public import proofs.«01_k».proof.Proof.Gen.FmKernelIdeal.Value
public import proofs.«01_k».proof.Proof.Gen.FmReferenceIdeal.Run
public import Idealize.ShloMosaic.Lib.Pointwise

@[expose] public section

set_option maxRecDepth 16384

noncomputable section

namespace Cert.FmKernelIdeal.Value

open Cert.FmKernelIdeal Cert.FmKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with `w`. -/
def prod (x : Vec Ideal S4096x2048 .bf16) (w : Vec Ideal S1x1x2048x2048 .bf16) (z : Vec Ideal S4096x2048 .f32) : Vec Ideal S4096x2048 .f32 := fun j =>
  (∑ k : Fin 2048, x (ix2 (j 0) k) * w (ix4 0 0 k (j 1))) + z j

/-- Where the blocks of the windows lie at a grid point. -/
theorem index_eq : ∀ t : Fin grid0.N,
    win0_0.index t 0 = t.val % 4 ∧ win0_0.index t 1 = 0 ∧ win0_1.index t 0 = 0
    ∧ win0_1.index t 1 = 0 ∧ win0_1.index t 2 = 0 ∧ win0_1.index t 3 = t.val / 4
    ∧ win0_2.index t 0 = t.val % 4 ∧ win0_2.index t 1 = t.val / 4 ∧ win0_3.index t 0 = t.val % 4
    ∧ win0_3.index t 1 = t.val / 4 := by
  decide +kernel

/-- An entry of window 0's block is the entry of its array at the block's offset. -/
theorem blk0 (c : Dev nD) (t : Fin cfg0.N) (y : S1024x2048.Idx) (i : S4096x2048.Idx)
    (h : ∀ a, (i a : Nat) = win0_0.index t a * S1024x2048.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S1x1x2048x1024.Idx) (i : S1x1x2048x2048.Idx)
    (h : ∀ a, (i a : Nat) = win0_1.index t a * S1x1x2048x1024.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- An entry of window 2's block is the entry of its array at the block's offset. -/
theorem blk2 (c : Dev nD) (t : Fin cfg0.N) (y : S1024x1024.Idx) (i : S4096x2048.Idx)
    (h : ∀ a, (i a : Nat) = win0_2.index t a * S1024x1024.size a + y a) :
    iblk m c 2 t y = m ((c : Thread nD τ).loc main_arg2) i := by
  show V m c main_arg2 ((win0_2.rect t).emb y) = _
  refine congrArg (m ((c : Thread nD τ).loc main_arg2)) (funext fun a => Fin.ext ?_)
  rw [h a]; exact win0_2.rect_emb_val t y a

/-- The block that the body computes, at an index. -/
theorem out_apply (x : Vec Ideal S1024x2048 .bf16) (w : Vec Ideal S1x1x2048x1024 .bf16) (z : Vec Ideal S1024x1024 .f32) (r : Fin 1024) (n : Fin 1024) :
    out0_3 (F := Ideal) x w z (ix2 r n) = (∑ k : Fin 2048, x (ix2 r k) * w (ix4 0 0 k n)) + z (ix2 r n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_3
  rw [View.canon_unit_zero hz2, View.ld_unit_zero hz2, View.ld_unit_zero hz4, View.ld_unit_zero hz2]
  pointwise [k0_pay1]

/-- The result array after the run is the product. -/
theorem final (c : Dev nD) : (dats m 0 c).arrAt 3 cfg0.N
    = prod (m ((c : Thread nD τ).loc main_arg0)) (m ((c : Thread nD τ).loc main_arg1)) (m ((c : Thread nD τ).loc main_arg2)) := by
  refine (dats m 0 c).arrAt_eq_of_cover 3 _ (fun t _ => ?_) (fun i => ?_)
  · rw [flushed3]
    funext y
    obtain ⟨r, n, rfl⟩ : ∃ (r : Fin 1024) (n : Fin 1024), y = (ix2 r n) := ⟨y 0, y 1, eq_ix2 y⟩
    obtain ⟨h00, h01, h10, h11, h12, h13, h20, h21, h30, h31⟩ := index_eq t
    refine (out_apply _ _ _ r n).trans ?_
    show _ = prod _ _ _ ((win0_3.rect t).emb ((ix2 r n)))
    have e0 : ((win0_3.rect t).emb (ix2 r n) 0 : Nat) = win0_3.index t 0 * 1024 + r.val := win0_3.rect_emb_val t (ix2 r n) 0
    have e1 : ((win0_3.rect t).emb (ix2 r n) 1 : Nat) = win0_3.index t 1 * 1024 + n.val := win0_3.rect_emb_val t (ix2 r n) 1
    generalize (win0_3.rect t).emb ((ix2 r n)) = j at e0 e1 ⊢
    unfold prod
    rw [h30] at e0; rw [h31] at e1
    have l0 : (j 0 : Nat) < 4096 := (j 0).isLt
    have l1 : (j 1 : Nat) < 2048 := (j 1).isLt
    have ht : t.val < 8 := N_0 ▸ t.isLt
    have hr := r.isLt; have hn := n.isLt
    refine congrArg₂ (· + ·) (Finset.sum_congr rfl fun k _ => congrArg₂ (· * ·) (blk0 m c t _ _ fun a => ?_) (blk1 m c t _ _ fun a => ?_)) (blk2 m c t _ _ fun a => ?_)
    · fin_cases a
      · show (j 0 : Nat) = win0_0.index t 0 * 1024 + r.val; omega
      · show k.val = win0_0.index t 1 * 2048 + k.val; omega
    · fin_cases a
      · show 0 = win0_1.index t 0 * 1 + 0; omega
      · show 0 = win0_1.index t 1 * 1 + 0; omega
      · show k.val = win0_1.index t 2 * 2048 + k.val; omega
      · show (j 1 : Nat) = win0_1.index t 3 * 1024 + n.val; omega
    · fin_cases a
      · show (j 0 : Nat) = win0_2.index t 0 * 1024 + r.val; omega
      · show (j 1 : Nat) = win0_2.index t 1 * 1024 + n.val; omega
  · have i0 : (i 0 : Nat) < 4096 := (i 0).isLt
    have i1 : (i 1 : Nat) < 2048 := (i 1).isLt
    have hN : grid0.N = 8 := N_0
    refine ⟨⟨(i 1 : Nat) / 1024 * 4 + (i 0 : Nat) / 1024, by show _ < grid0.N; omega⟩, flush0_3 _, ?_⟩
    generalize ht : (⟨(i 1 : Nat) / 1024 * 4 + (i 0 : Nat) / 1024, _⟩ : Fin cfg0.N) = t
    have hv : t.val = (i 1 : Nat) / 1024 * 4 + (i 0 : Nat) / 1024 := by rw [← ht]
    obtain ⟨h00, h01, h10, h11, h12, h13, h20, h21, h30, h31⟩ := index_eq t
    show i ∈ ((View.whole main_v0).slice (win0_3.rect t)).set
    rw [View.set_slice_whole, Rect.mem_set_unit]
    intro a
    fin_cases a
    · show win0_3.index t 0 * 1024 ≤ (i 0 : Nat) ∧ (i 0 : Nat) < win0_3.index t 0 * 1024 + 1024; rw [h30]; omega
    · show win0_3.index t 1 * 1024 ≤ (i 1 : Nat) ∧ (i 1 : Nat) < win0_3.index t 1 * 1024 + 1024; rw [h31]; omega

end Cert.FmKernelIdeal.Value

namespace Cert.FmReferenceIdeal.Value

open Cert.FmReferenceIdeal Cert.FmReferenceIdeal.Gen Idealize.ShloMosaic Idealize.ShloMosaic.TcCoe Idealize.SL.Sem

/-- The reference's composed term is the product. -/
theorem ref_eq (x : Vec Ideal S4096x2048 .bf16) (w : Vec Ideal S1x1x2048x2048 .bf16) (z : Vec Ideal S4096x2048 .f32) :
    (addf z (Host.dotGeneral dot_S4096x2048_S2048x2048_S4096x2048_1_0_0_1_n_n none (extf .f32 x bitsLt_bf16_f32) (extf .f32 (shapeCast _ w shapeCasts_S1x1x2048x2048_S2048x2048) bitsLt_bf16_f32)) : FVec Ideal S4096x2048 .f32)
      = Cert.FmKernelIdeal.Value.prod x w z := by
  funext j
  idx_vars j
  pointwise [Cert.FmKernelIdeal.Value.prod]
  exact add_comm _ _

end Cert.FmReferenceIdeal.Value

namespace Cert.Proof

open Idealize.ShloMosaic Idealize.SL.Sem

/-- The kernel and the reference compute the same array. -/
theorem algebraic_fm : Cert.algebraic_FmKernelIdeal_FmReferenceIdeal := by
  intro m g m' g' _ hm
  refine ⟨fun c => Cert.FmKernelIdeal.Value.prod (m ((c.tc : Thread _ _).loc Cert.FmKernelIdeal.main_arg0)) (m ((c.tc : Thread _ _).loc Cert.FmKernelIdeal.main_arg1)) (m ((c.tc : Thread _ _).loc Cert.FmKernelIdeal.main_arg2)), ?_, ?_⟩
  · exact (θ_run _ _ _).mono (fun r h c => ⟨(h c).1.trans (Cert.FmKernelIdeal.Value.final m c), (h c).2⟩)
      (Cert.FmKernelIdeal.Value.run_blocks m g)
  · refine (θ_run _ _ _).mono (fun r h c => ⟨(h c).1.trans ?_, (h c).2⟩) (Cert.FmReferenceIdeal.Value.run m' g')
    rw [(hm c).1, (hm c).2.1, (hm c).2.2]
    exact Cert.FmReferenceIdeal.Value.ref_eq _ _ _

end Cert.Proof

end
-- ==== Proof.FiValue.lean ====
/- The first feed-forward product. -/
module

public import proofs.«01_k».proof.Defs
public import proofs.«01_k».proof.Proof.Gen.FiKernelIdeal.Value
public import proofs.«01_k».proof.Proof.Gen.FiReferenceIdeal.Run
public import Idealize.ShloMosaic.Lib.Pointwise

@[expose] public section

set_option maxRecDepth 16384

noncomputable section

namespace Cert.FiKernelIdeal.Value

open Cert.FiKernelIdeal Cert.FiKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with the matrix whose columns are those of the 4 shards of `w` side by side. -/
def prod (x : Vec Ideal S4096x2048 .bf16) (w : Vec Ideal S4x1x2048x2816 .bf16) : Vec Ideal S4096x11264 .bf16 := fun j =>
  ∑ k : Fin 2048, x (ix2 (j 0) k) * w (ix4 ⟨(j 1 : Nat) / 2816, by have h : (j 1 : Nat) < 11264 := (j 1).isLt; omega⟩ 0 k
    ⟨(j 1 : Nat) % 2816, Nat.mod_lt _ (by omega)⟩)

/-- Where the blocks of the windows lie at a grid point. -/
theorem index_eq : ∀ t : Fin grid0.N,
    win0_0.index t 0 = t.val % 4 ∧ win0_0.index t 1 = 0 ∧ win0_1.index t 0 = t.val / 4 / 2
    ∧ win0_1.index t 1 = 0 ∧ win0_1.index t 2 = 0 ∧ win0_1.index t 3 = t.val / 4 % 2
    ∧ win0_2.index t 0 = t.val % 4 ∧ win0_2.index t 1 = t.val / 4 := by
  decide +kernel

/-- An entry of window 0's block is the entry of its array at the block's offset. -/
theorem blk0 (c : Dev nD) (t : Fin cfg0.N) (y : S1024x2048.Idx) (i : S4096x2048.Idx)
    (h : ∀ a, (i a : Nat) = win0_0.index t a * S1024x2048.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S1x1x2048x1408.Idx) (i : S4x1x2048x2816.Idx)
    (h : ∀ a, (i a : Nat) = win0_1.index t a * S1x1x2048x1408.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- The block that the body computes, at an index. -/
theorem out_apply (x : Vec Ideal S1024x2048 .bf16) (w : Vec Ideal S1x1x2048x1408 .bf16) (r : Fin 1024) (n : Fin 1408) :
    out0_2 (F := Ideal) x w (ix2 r n) = ∑ k : Fin 2048, x (ix2 r k) * w (ix4 0 0 k n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_2
  rw [View.canon_unit_zero hz2, View.ld_unit_zero hz2, View.ld_unit_zero hz4]
  pointwise [k0_pay1]

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_cover 2 _ (fun t _ => ?_) (fun i => ?_)
  · rw [flushed2]
    funext y
    obtain ⟨r, n, rfl⟩ : ∃ (r : Fin 1024) (n : Fin 1408), y = (ix2 r n) := ⟨y 0, y 1, eq_ix2 y⟩
    obtain ⟨h00, h01, h10, h11, h12, h13, h20, h21⟩ := index_eq t
    refine (out_apply _ _ r n).trans ?_
    show _ = prod _ _ ((win0_2.rect t).emb ((ix2 r n)))
    have e0 : ((win0_2.rect t).emb (ix2 r n) 0 : Nat) = win0_2.index t 0 * 1024 + r.val := win0_2.rect_emb_val t (ix2 r n) 0
    have e1 : ((win0_2.rect t).emb (ix2 r n) 1 : Nat) = win0_2.index t 1 * 1408 + n.val := win0_2.rect_emb_val t (ix2 r n) 1
    generalize (win0_2.rect t).emb ((ix2 r n)) = j at e0 e1 ⊢
    unfold prod
    rw [h20] at e0; rw [h21] at e1
    have l0 : (j 0 : Nat) < 4096 := (j 0).isLt
    have l1 : (j 1 : Nat) < 11264 := (j 1).isLt
    have ht : t.val < 32 := N_0 ▸ t.isLt
    have hr := r.isLt; have hn := n.isLt
    refine Finset.sum_congr rfl fun k _ => congrArg₂ (· * ·) (blk0 m c t _ _ fun a => ?_) (blk1 m c t _ _ fun a => ?_)
    · fin_cases a
      · show (j 0 : Nat) = win0_0.index t 0 * 1024 + r.val; omega
      · show k.val = win0_0.index t 1 * 2048 + k.val; omega
    · fin_cases a
      · show (j 1 : Nat) / 2816 = win0_1.index t 0 * 1 + 0; omega
      · show 0 = win0_1.index t 1 * 1 + 0; omega
      · show k.val = win0_1.index t 2 * 2048 + k.val; omega
      · show (j 1 : Nat) % 2816 = win0_1.index t 3 * 1408 + n.val; omega
  · have i0 : (i 0 : Nat) < 4096 := (i 0).isLt
    have i1 : (i 1 : Nat) < 11264 := (i 1).isLt
    have hN : grid0.N = 32 := N_0
    refine ⟨⟨(i 1 : Nat) / 1408 * 4 + (i 0 : Nat) / 1024, by show _ < grid0.N; omega⟩, flush0_2 _, ?_⟩
    generalize ht : (⟨(i 1 : Nat) / 1408 * 4 + (i 0 : Nat) / 1024, _⟩ : Fin cfg0.N) = t
    have hv : t.val = (i 1 : Nat) / 1408 * 4 + (i 0 : Nat) / 1024 := by rw [← ht]
    obtain ⟨h00, h01, h10, h11, h12, h13, h20, h21⟩ := index_eq t
    show i ∈ ((View.whole main_v0).slice (win0_2.rect t)).set
    rw [View.set_slice_whole, Rect.mem_set_unit]
    intro a
    fin_cases a
    · show win0_2.index t 0 * 1024 ≤ (i 0 : Nat) ∧ (i 0 : Nat) < win0_2.index t 0 * 1024 + 1024; rw [h20]; omega
    · show win0_2.index t 1 * 1408 ≤ (i 1 : Nat) ∧ (i 1 : Nat) < win0_2.index t 1 * 1408 + 1408; rw [h21]; omega

end Cert.FiKernelIdeal.Value

namespace Cert.FiReferenceIdeal.Value

open Cert.FiReferenceIdeal Cert.FiReferenceIdeal.Gen Idealize.ShloMosaic Idealize.ShloMosaic.TcCoe Idealize.SL.Sem

/-- The reference's composed term is the product. -/
theorem ref_eq (x : Vec Ideal S4096x2048 .bf16) (w : Vec Ideal S4x1x2048x2816 .bf16) :
    (truncf .bf16 (Host.dotGeneral dot_S4096x2048_S2048x11264_S4096x11264_1_0_0_1_n_n none (extf .f32 x bitsLt_bf16_f32) (extf .f32 (shapeCast _ (transpose S2048x4x2816 [1, 0, 2] (shapeCast _ w shapeCasts_S4x1x2048x2816_S4x2048x2816) transposes_S4x2048x2816_S2048x4x2816_1_0_2) shapeCasts_S2048x4x2816_S2048x11264) bitsLt_bf16_f32)) bitsLt_bf16_f32 : FVec Ideal S4096x11264 .bf16)
      = Cert.FiKernelIdeal.Value.prod x w := by
  funext j
  idx_vars j
  pointwise [Cert.FiKernelIdeal.Value.prod]

end Cert.FiReferenceIdeal.Value

namespace Cert.Proof

open Idealize.ShloMosaic Idealize.SL.Sem

/-- The kernel and the reference compute the same array. -/
theorem algebraic_fi : Cert.algebraic_FiKernelIdeal_FiReferenceIdeal := by
  intro m g m' g' _ hm
  refine ⟨fun c => Cert.FiKernelIdeal.Value.prod (m ((c.tc : Thread _ _).loc Cert.FiKernelIdeal.main_arg0)) (m ((c.tc : Thread _ _).loc Cert.FiKernelIdeal.main_arg1)), ?_, ?_⟩
  · exact (θ_run _ _ _).mono (fun r h c => ⟨(h c).1.trans (Cert.FiKernelIdeal.Value.final m c), (h c).2⟩)
      (Cert.FiKernelIdeal.Value.run_blocks m g)
  · refine (θ_run _ _ _).mono (fun r h c => ⟨(h c).1.trans ?_, (h c).2⟩) (Cert.FiReferenceIdeal.Value.run m' g')
    rw [(hm c).1, (hm c).2]
    exact Cert.FiReferenceIdeal.Value.ref_eq _ _

end Cert.Proof

end
-- ==== Proof.FoValue.lean ====
/- The second feed-forward product, added to the residual. -/
module

public import proofs.«01_k».proof.Defs
public import proofs.«01_k».proof.Proof.Gen.FoKernelIdeal.Value
public import proofs.«01_k».proof.Proof.Gen.FoReferenceIdeal.Run
public import Idealize.ShloMosaic.Lib.Pointwise

@[expose] public section

set_option maxRecDepth 16384

noncomputable section

namespace Cert.FoKernelIdeal.Value

open Cert.FoKernelIdeal Cert.FoKernelIdeal.Gen Idealize.ShloMosaic Idealize.ShloMosaic.TcCoe Idealize.SL.Sem
open Idealize.ShloMosaic.Pipeline (Dat)

variable (m : (ℓ : Loc nD τ sig) → Buf (Elt Ideal) ℓ)

/-- Entry (r, n) of the product of `x` with `w`. -/
def prod (x : Vec Ideal S4096x5632 .bf16) (w : Vec Ideal S1x1x5632x2048 .bf16) (z : Vec Ideal S4096x2048 .f32) : Vec Ideal S4096x2048 .f32 := fun j =>
  (∑ k : Fin 5632, x (ix2 (j 0) k) * w (ix4 0 0 k (j 1))) + z j

/-- Where the blocks of the windows lie at a grid point. -/
theorem index_eq : ∀ t : Fin grid0.N,
    win0_0.index t 0 = t.val % 4 ∧ win0_0.index t 1 = 0 ∧ win0_1.index t 0 = 0
    ∧ win0_1.index t 1 = 0 ∧ win0_1.index t 2 = 0 ∧ win0_1.index t 3 = t.val / 4
    ∧ win0_2.index t 0 = t.val % 4 ∧ win0_2.index t 1 = t.val / 4 ∧ win0_3.index t 0 = t.val % 4
    ∧ win0_3.index t 1 = t.val / 4 := by
  decide +kernel

/-- An entry of window 0's block is the entry of its array at the block's offset. -/
theorem blk0 (c : Dev nD) (t : Fin cfg0.N) (y : S1024x5632.Idx) (i : S4096x5632.Idx)
    (h : ∀ a, (i a : Nat) = win0_0.index t a * S1024x5632.size a + y a) :
    iblk m c 0 t y = m ((c : Thread nD τ).loc main_arg0) i := by
  show V m c main_arg0 ((win0_0.rect t).emb y) = _
  refine congrArg (m ((c : Thread nD τ).loc main_arg0)) (funext fun a => Fin.ext ?_)
  rw [h a]; exact win0_0.rect_emb_val t y a

/-- An entry of window 1's block is the entry of its array at the block's offset. -/
theorem blk1 (c : Dev nD) (t : Fin cfg0.N) (y : S1x1x5632x512.Idx) (i : S1x1x5632x2048.Idx)
    (h : ∀ a, (i a : Nat) = win0_1.index t a * S1x1x5632x512.size a + y a) :
    iblk m c 1 t y = m ((c : Thread nD τ).loc main_arg1) i := by
  show V m c main_arg1 ((win0_1.rect t).emb y) = _
  refine congrArg (m ((c : Thread nD τ).loc main_arg1)) (funext fun a => Fin.ext ?_)
  rw [h a]; exact win0_1.rect_emb_val t y a

/-- An entry of window 2's block is the entry of its array at the block's offset. -/
theorem blk2 (c : Dev nD) (t : Fin cfg0.N) (y : S1024x512.Idx) (i : S4096x2048.Idx)
    (h : ∀ a, (i a : Nat) = win0_2.index t a * S1024x512.size a + y a) :
    iblk m c 2 t y = m ((c : Thread nD τ).loc main_arg2) i := by
  show V m c main_arg2 ((win0_2.rect t).emb y) = _
  refine congrArg (m ((c : Thread nD τ).loc main_arg2)) (funext fun a => Fin.ext ?_)
  rw [h a]; exact win0_2.rect_emb_val t y a

/-- The block that the body computes, at an index. -/
theorem out_apply (x : Vec Ideal S1024x5632 .bf16) (w : Vec Ideal S1x1x5632x512 .bf16) (z : Vec Ideal S1024x512 .f32) (r : Fin 1024) (n : Fin 512) :
    out0_3 (F := Ideal) x w z (ix2 r n) = (∑ k : Fin 5632, x (ix2 r k) * w (ix4 0 0 k n)) + z (ix2 r n) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_3
  rw [View.canon_unit_zero hz2, View.ld_unit_zero hz2, View.ld_unit_zero hz4, View.ld_unit_zero hz2]
  pointwise [k0_pay1]

/-- The result array after the run is the product. -/
theorem final (c : Dev nD) : (dats m 0 c).arrAt 3 cfg0.N
    = prod (m ((c : Thread nD τ).loc main_arg0)) (m ((c : Thread nD τ).loc main_arg1)) (m ((c : Thread nD τ).loc main_arg2)) := by
  refine (dats m 0 c).arrAt_eq_of_cover 3 _ (fun t _ => ?_) (fun i => ?_)
  · rw [flushed3]
    funext y
    obtain ⟨r, n, rfl⟩ : ∃ (r : Fin 1024) (n : Fin 512), y = (ix2 r n) := ⟨y 0, y 1, eq_ix2 y⟩
    obtain ⟨h00, h01, h10, h11, h12, h13, h20, h21, h30, h31⟩ := index_eq t
    refine (out_apply _ _ _ r n).trans ?_
    show _ = prod _ _ _ ((win0_3.rect t).emb ((ix2 r n)))
    have e0 : ((win0_3.rect t).emb (ix2 r n) 0 : Nat) = win0_3.index t 0 * 1024 + r.val := win0_3.rect_emb_val t (ix2 r n) 0
    have e1 : ((win0_3.rect t).emb (ix2 r n) 1 : Nat) = win0_3.index t 1 * 512 + n.val := win0_3.rect_emb_val t (ix2 r n) 1
    generalize (win0_3.rect t).emb ((ix2 r n)) = j at e0 e1 ⊢
    unfold prod
    rw [h30] at e0; rw [h31] at e1
    have l0 : (j 0 : Nat) < 4096 := (j 0).isLt
    have l1 : (j 1 : Nat) < 2048 := (j 1).isLt
    have ht : t.val < 16 := N_0 ▸ t.isLt
    have hr := r.isLt; have hn := n.isLt
    refine congrArg₂ (· + ·) (Finset.sum_congr rfl fun k _ => congrArg₂ (· * ·) (blk0 m c t _ _ fun a => ?_) (blk1 m c t _ _ fun a => ?_)) (blk2 m c t _ _ fun a => ?_)
    · fin_cases a
      · show (j 0 : Nat) = win0_0.index t 0 * 1024 + r.val; omega
      · show k.val = win0_0.index t 1 * 5632 + k.val; omega
    · fin_cases a
      · show 0 = win0_1.index t 0 * 1 + 0; omega
      · show 0 = win0_1.index t 1 * 1 + 0; omega
      · show k.val = win0_1.index t 2 * 5632 + k.val; omega
      · show (j 1 : Nat) = win0_1.index t 3 * 512 + n.val; omega
    · fin_cases a
      · show (j 0 : Nat) = win0_2.index t 0 * 1024 + r.val; omega
      · show (j 1 : Nat) = win0_2.index t 1 * 512 + n.val; omega
  · have i0 : (i 0 : Nat) < 4096 := (i 0).isLt
    have i1 : (i 1 : Nat) < 2048 := (i 1).isLt
    have hN : grid0.N = 16 := N_0
    refine ⟨⟨(i 1 : Nat) / 512 * 4 + (i 0 : Nat) / 1024, by show _ < grid0.N; omega⟩, flush0_3 _, ?_⟩
    generalize ht : (⟨(i 1 : Nat) / 512 * 4 + (i 0 : Nat) / 1024, _⟩ : Fin cfg0.N) = t
    have hv : t.val = (i 1 : Nat) / 512 * 4 + (i 0 : Nat) / 1024 := by rw [← ht]
    obtain ⟨h00, h01, h10, h11, h12, h13, h20, h21, h30, h31⟩ := index_eq t
    show i ∈ ((View.whole main_v0).slice (win0_3.rect t)).set
    rw [View.set_slice_whole, Rect.mem_set_unit]
    intro a
    fin_cases a
    · show win0_3.index t 0 * 1024 ≤ (i 0 : Nat) ∧ (i 0 : Nat) < win0_3.index t 0 * 1024 + 1024; rw [h30]; omega
    · show win0_3.index t 1 * 512 ≤ (i 1 : Nat) ∧ (i 1 : Nat) < win0_3.index t 1 * 512 + 512; rw [h31]; omega

end Cert.FoKernelIdeal.Value

namespace Cert.FoReferenceIdeal.Value

open Cert.FoReferenceIdeal Cert.FoReferenceIdeal.Gen Idealize.ShloMosaic Idealize.ShloMosaic.TcCoe Idealize.SL.Sem

/-- The reference's composed term is the product. -/
theorem ref_eq (x : Vec Ideal S4096x5632 .bf16) (w : Vec Ideal S1x1x5632x2048 .bf16) (z : Vec Ideal S4096x2048 .f32) :
    (addf z (Host.dotGeneral dot_S4096x5632_S5632x2048_S4096x2048_1_0_0_1_n_n none (extf .f32 x bitsLt_bf16_f32) (extf .f32 (shapeCast _ w shapeCasts_S1x1x5632x2048_S5632x2048) bitsLt_bf16_f32)) : FVec Ideal S4096x2048 .f32)
      = Cert.FoKernelIdeal.Value.prod x w z := by
  funext j
  idx_vars j
  pointwise [Cert.FoKernelIdeal.Value.prod]
  exact add_comm _ _

end Cert.FoReferenceIdeal.Value

namespace Cert.Proof

open Idealize.ShloMosaic Idealize.SL.Sem

/-- The kernel and the reference compute the same array. -/
theorem algebraic_fo : Cert.algebraic_FoKernelIdeal_FoReferenceIdeal := by
  intro m g m' g' _ hm
  refine ⟨fun c => Cert.FoKernelIdeal.Value.prod (m ((c.tc : Thread _ _).loc Cert.FoKernelIdeal.main_arg0)) (m ((c.tc : Thread _ _).loc Cert.FoKernelIdeal.main_arg1)) (m ((c.tc : Thread _ _).loc Cert.FoKernelIdeal.main_arg2)), ?_, ?_⟩
  · exact (θ_run _ _ _).mono (fun r h c => ⟨(h c).1.trans (Cert.FoKernelIdeal.Value.final m c), (h c).2⟩)
      (Cert.FoKernelIdeal.Value.run_blocks m g)
  · refine (θ_run _ _ _).mono (fun r h c => ⟨(h c).1.trans ?_, (h c).2⟩) (Cert.FoReferenceIdeal.Value.run m' g')
    rw [(hm c).1, (hm c).2.1, (hm c).2.2]
    exact Cert.FoReferenceIdeal.Value.ref_eq _ _ _

end Cert.Proof

end
-- ==== Proof.Rows.lean ====
/- The scalar functions of the row-wise kernels, over the extended reals. -/
module

public import proofs.«01_k».proof.Defs
public import Idealize.ShloMosaic.Lib.Pipeline.ValueKit

@[expose] public section

noncomputable section

namespace Cert.Rows

open Idealize.ShloMosaic

/-- The GELU in its tanh form; the four constants are the program's own words. -/
def gelu (y : EReal) : EReal :=
  y * (Ideal.ofBits .f32 0x3F000000#32 * (1 + Ideal.tanh (Ideal.ofBits .f32 0x3F4C422A#32
    * (y + Ideal.ofBits .f32 0x3D372713#32 * (y * (y * y))))))

/-- The derivative of the logistic function through its value, at `x`. -/
def logistic' (x : EReal) : EReal := Ideal.logistic x * (1 - Ideal.logistic x)

/-- One entry of the gradient to a gate's input: the GELU's value, the gradient that came in, the gate's derivative. -/
def gateGrad (y p b d : EReal) : EReal := gelu y * d * logistic' (p + b)

/-- The mean square of a row of 2048 entries, plus the norm's epsilon. -/
def meanSq (x : Fin 2048 → EReal) : EReal :=
  Ideal.div (∑ k, x k * x k) (Ideal.ofBits .f32 0x45000000#32) + Ideal.ofBits .f32 0x358637BD#32

end Cert.Rows

end
-- ==== Proof.GateValue.lean ====
/- The backward pass of the two gates that mix the streams: to the streams, to the gates' inputs and to their biases. -/
module

public import proofs.«01_k».proof.Proof.Rows
public import proofs.«01_k».proof.Proof.Gen.GateKernelIdeal.Value
public import proofs.«01_k».proof.Proof.Gen.GateReferenceIdeal.Run

@[expose] public section

set_option maxRecDepth 16384

noncomputable section

namespace Cert.GateKernelIdeal.Value

open Cert.GateKernelIdeal Cert.GateKernelIdeal.Gen Idealize.ShloMosaic Idealize.ShloMosaic.TcCoe Idealize.SL.Sem
open Idealize.ShloMosaic.Pipeline (Dat)

variable (m : (ℓ : Loc nD τ sig) → Buf (Elt Ideal) ℓ)

/-- The gradient to a gate's input: the mixed gradient, the gate's value, its stream, the rest of its derivative. -/
def logitGrad (d x s : EReal) : EReal := d * Ideal.logistic x * s * (1 - Ideal.logistic x)

/-- The same product in the order in which the derivative is taken first. -/
theorem logitGrad_eq (d x s : EReal) : logitGrad d x s = d * s * Rows.logistic' x :=
  (mul_assoc _ _ _).trans (mul_mul_mul_comm _ _ _ _)

/-- A gate's input: a column of the projection from `oz` on plus a bias from `ob` on. -/
def gateIn (oz ob : ℕ) (hz : oz + 2048 ≤ 6656) (hb : ob + 2048 ≤ 4096) (z : Vec Ideal S4096x6656 .f32)
    (b : Vec Ideal S1x4096 .f32) (r : Fin 4096) (n : Fin 2048) : EReal :=
  z (ix2 r ⟨oz + n.val, by omega⟩) + b (ix2 0 ⟨ob + n.val, by omega⟩)

/-- The gradient to a stream. -/
def toStream (oz ob : ℕ) (hz : oz + 2048 ≤ 6656) (hb : ob + 2048 ≤ 4096) (z : Vec Ideal S4096x6656 .f32)
    (b : Vec Ideal S1x4096 .f32) (d : Vec Ideal S4096x2048 .bf16) : Vec Ideal S4096x2048 .bf16 := fun j =>
  d (ix2 (j 0) (j 1)) * Ideal.logistic (gateIn oz ob hz hb z b (j 0) (j 1))

/-- The gradient to a gate's input. -/
def toGate (oz ob : ℕ) (hz : oz + 2048 ≤ 6656) (hb : ob + 2048 ≤ 4096) (z : Vec Ideal S4096x6656 .f32)
    (b : Vec Ideal S1x4096 .f32) (s d : Vec Ideal S4096x2048 .bf16) : Vec Ideal S4096x2048 .bf16 := fun j =>
  logitGrad (d (ix2 (j 0) (j 1))) (gateIn oz ob hz hb z b (j 0) (j 1)) (s (ix2 (j 0) (j 1)))

/-- The gradient to a gate's bias: the column sums of the gradient to its input. -/
def toBias (oz ob : ℕ) (hz : oz + 2048 ≤ 6656) (hb : ob + 2048 ≤ 4096) (z : Vec Ideal S4096x6656 .f32)
    (b : Vec Ideal S1x4096 .f32) (s d : Vec Ideal S4096x2048 .bf16) : Vec Ideal S1x2048 .f32 := fun j =>
  ∑ r : Fin 4096, logitGrad (d (ix2 r (j 1))) (gateIn oz ob hz hb z b r (j 1)) (s (ix2 r (j 1)))

/-- The bias gradients start from zero. -/
theorem start_zero (j : S1x512.Idx) : k0_pay3 (F := Ideal) j = 0 ∧ k0_pay5 (F := Ideal) j = 0 :=
  ⟨by pointwise [k0_pay3], by pointwise [k0_pay5]⟩

/-- A grid point adds its rows' column sums to the first bias gradient. -/
theorem step_sum1 (acc : Vec Ideal S1x512 .f32) (z : Vec Ideal S512x512 .f32) (b : Vec Ideal S1x512 .f32)
    (s d : Vec Ideal S512x512 .bf16) (j : S1x512.Idx) :
    k0_pay4 (k0_pay14 z b s d) acc j = acc j
      + ∑ k : Fin 512, logitGrad (d (ix2 k (j 1))) (z (ix2 k (j 1)) + b (ix2 0 (j 1))) (s (ix2 k (j 1))) := by
  idx_vars j
  pointwise [k0_pay4, k0_pay14, k0_pay12, k0_pay10, k0_pay8, k0_pay7, logitGrad]

/-- A grid point adds its rows' column sums to the second bias gradient. -/
theorem step_sum2 (acc : Vec Ideal S1x512 .f32) (z : Vec Ideal S512x512 .f32) (b : Vec Ideal S1x512 .f32)
    (s d : Vec Ideal S512x512 .bf16) (j : S1x512.Idx) :
    k0_pay6 (k0_pay15 z b s d) acc j = acc j
      + ∑ k : Fin 512, logitGrad (d (ix2 k (j 1))) (z (ix2 k (j 1)) + b (ix2 0 (j 1))) (s (ix2 k (j 1))) := by
  idx_vars j
  pointwise [k0_pay6, k0_pay15, k0_pay13, k0_pay11, k0_pay9, k0_pay7, logitGrad]

/-- Where the blocks of the windows lie at a grid point. -/
theorem index_eq : ∀ t : Fin cfg0.N,
    win0_0.index t = ![t.val % 8, 5 + t.val / 8] ∧ win0_1.index t = ![t.val % 8, 9 + t.val / 8]
    ∧ win0_2.index t = ![0, t.val / 8] ∧ win0_3.index t = ![0, 4 + t.val / 8]
    ∧ win0_4.index t = ![t.val % 8, t.val / 8] ∧ win0_5.index t = ![t.val % 8, t.val / 8]
    ∧ win0_6.index t = ![t.val % 8, t.val / 8] ∧ win0_7.index t = ![t.val % 8, t.val / 8]
    ∧ win0_8.index t = ![t.val % 8, t.val / 8] ∧ win0_9.index t = ![t.val % 8, t.val / 8]
    ∧ win0_10.index t = ![t.val % 8, t.val / 8] ∧ win0_11.index t = ![0, t.val / 8]
    ∧ win0_12.index t = ![0, t.val / 8] ∧ t.val < 32 :=
  (by decide +kernel : ∀ t : Fin grid0.N, _)

/-- The gradient to the first stream after the run. -/
theorem final7 (c : Dev nD) : (dats m 0 c).arrAt 7 cfg0.N
    = toStream 2560 0 (by decide) (by decide) (m ((c : Thread nD τ).loc main_arg0)) (m ((c : Thread nD τ).loc main_arg1))
        (m ((c : Thread nD τ).loc main_arg4)) := by
  refine (dats m 0 c).arrAt_eq_of_covers 7 _ (by decide +kernel) fun t _ y => ?_
  blk_simp
  by_cases h0 : t.val % 8 = 0
  all_goals
    first
      | rw [after0_7, outsAt0_A m c t h0 h0]
      | rw [after0_7, outsAt0_B m c t h0 h0]
    frame_out
    pointwise [k0_pay16, k0_pay10, k0_pay8, k0_pay7, toStream, gateIn]
    blk_point [iblk, V, index_eq t]

/-- The gradient to the second stream after the run. -/
theorem final8 (c : Dev nD) : (dats m 0 c).arrAt 8 cfg0.N
    = toStream 4608 2048 (by decide) (by decide) (m ((c : Thread nD τ).loc main_arg0)) (m ((c : Thread nD τ).loc main_arg1))
        (m ((c : Thread nD τ).loc main_arg4)) := by
  refine (dats m 0 c).arrAt_eq_of_covers 8 _ (by decide +kernel) fun t _ y => ?_
  blk_simp
  by_cases h0 : t.val % 8 = 0
  all_goals
    first
      | rw [after0_8, outsAt0_A m c t h0 h0]
      | rw [after0_8, outsAt0_B m c t h0 h0]
    frame_out
    pointwise [k0_pay17, k0_pay11, k0_pay9, k0_pay7, toStream, gateIn]
    blk_point [iblk, V, index_eq t]

/-- The gradient to the first gate's input after the run. -/
theorem final9 (c : Dev nD) : (dats m 0 c).arrAt 9 cfg0.N
    = toGate 2560 0 (by decide) (by decide) (m ((c : Thread nD τ).loc main_arg0)) (m ((c : Thread nD τ).loc main_arg1))
        (m ((c : Thread nD τ).loc main_arg2)) (m ((c : Thread nD τ).loc main_arg4)) := by
  refine (dats m 0 c).arrAt_eq_of_covers 9 _ (by decide +kernel) fun t _ y => ?_
  blk_simp
  by_cases h0 : t.val % 8 = 0
  all_goals
    first
      | rw [after0_9, outsAt0_A m c t h0 h0]
      | rw [after0_9, outsAt0_B m c t h0 h0]
    frame_out
    pointwise [k0_pay1, k0_pay12, k0_pay10, k0_pay8, k0_pay7, toGate, gateIn, logitGrad]
    blk_point [iblk, V, index_eq t]

/-- The gradient to the second gate's input after the run. -/
theorem final10 (c : Dev nD) : (dats m 0 c).arrAt 10 cfg0.N
    = toGate 4608 2048 (by decide) (by decide) (m ((c : Thread nD τ).loc main_arg0)) (m ((c : Thread nD τ).loc main_arg1))
        (m ((c : Thread nD τ).loc main_arg3)) (m ((c : Thread nD τ).loc main_arg4)) := by
  refine (dats m 0 c).arrAt_eq_of_covers 10 _ (by decide +kernel) fun t _ y => ?_
  blk_simp
  by_cases h0 : t.val % 8 = 0
  all_goals
    first
      | rw [after0_10, outsAt0_A m c t h0 h0]
      | rw [after0_10, outsAt0_B m c t h0 h0]
    frame_out
    pointwise [k0_pay2, k0_pay13, k0_pay11, k0_pay9, k0_pay7, toGate, gateIn, logitGrad]
    blk_point [iblk, V, index_eq t]

/-- The gradient to the first bias after the run. -/
theorem final11 (c : Dev nD) : (dats m 0 c).arrAt 11 cfg0.N
    = toBias 2560 0 (by decide) (by decide) (m ((c : Thread nD τ).loc main_arg0)) (m ((c : Thread nD τ).loc main_arg1))
        (m ((c : Thread nD τ).loc main_arg2)) (m ((c : Thread nD τ).loc main_arg4)) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 8 (fun _ => 0) _
    (fun t h j => by rw [outsAt0_A m c t h h]; frame_out; rw [step_sum1, (start_zero _).1])
    (fun t h j => by rw [outsAt0_B m c t h h]; frame_out; rw [step_sum1])
    t ((flush0_11 t).mp hf) _, zero_add]
  unfold toBias
  refine Fin.sum_mul_add_congr fun s k hl => ?_
  unfold logitGrad gateIn
  blk_point [iblk, V, index_eq t, index_eq ⟨_, Pipeline.run_point_lt_of_flush t ((flush0_11 t).mp hf) s⟩]

/-- The gradient to the second bias after the run. -/
theorem final12 (c : Dev nD) : (dats m 0 c).arrAt 12 cfg0.N
    = toBias 4608 2048 (by decide) (by decide) (m ((c : Thread nD τ).loc main_arg0)) (m ((c : Thread nD τ).loc main_arg1))
        (m ((c : Thread nD τ).loc main_arg3)) (m ((c : Thread nD τ).loc main_arg4)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 8 (fun _ => 0) _
    (fun t h j => by rw [outsAt0_A m c t h h]; frame_out; rw [step_sum2, (start_zero _).2])
    (fun t h j => by rw [outsAt0_B m c t h h]; frame_out; rw [step_sum2])
    t ((flush0_12 t).mp hf) _, zero_add]
  unfold toBias
  refine Fin.sum_mul_add_congr fun s k hl => ?_
  unfold logitGrad gateIn
  blk_point [iblk, V, index_eq t, index_eq ⟨_, Pipeline.run_point_lt_of_flush t ((flush0_12 t).mp hf) s⟩]

end Cert.GateKernelIdeal.Value

namespace Cert.Proof

open Idealize.ShloMosaic Idealize.SL.Sem
open Cert.GateKernelIdeal.Value (toStream toGate toBias gateIn logitGrad_eq)

/-- The kernel and the reference compute the same six arrays. -/
theorem algebraic_gate : Cert.algebraic_GateKernelIdeal_GateReferenceIdeal := by
  intro m g m' g' _ hm
  refine ⟨fun c => toStream 2560 0 (by decide) (by decide) (m ((c.tc : Thread _ _).loc Cert.GateKernelIdeal.main_arg0))
      (m ((c.tc : Thread _ _).loc Cert.GateKernelIdeal.main_arg1)) (m ((c.tc : Thread _ _).loc Cert.GateKernelIdeal.main_arg4)),
    fun c => toStream 4608 2048 (by decide) (by decide) (m ((c.tc : Thread _ _).loc Cert.GateKernelIdeal.main_arg0))
      (m ((c.tc : Thread _ _).loc Cert.GateKernelIdeal.main_arg1)) (m ((c.tc : Thread _ _).loc Cert.GateKernelIdeal.main_arg4)),
    fun c => toGate 2560 0 (by decide) (by decide) (m ((c.tc : Thread _ _).loc Cert.GateKernelIdeal.main_arg0))
      (m ((c.tc : Thread _ _).loc Cert.GateKernelIdeal.main_arg1)) (m ((c.tc : Thread _ _).loc Cert.GateKernelIdeal.main_arg2))
      (m ((c.tc : Thread _ _).loc Cert.GateKernelIdeal.main_arg4)),
    fun c => toGate 4608 2048 (by decide) (by decide) (m ((c.tc : Thread _ _).loc Cert.GateKernelIdeal.main_arg0))
      (m ((c.tc : Thread _ _).loc Cert.GateKernelIdeal.main_arg1)) (m ((c.tc : Thread _ _).loc Cert.GateKernelIdeal.main_arg3))
      (m ((c.tc : Thread _ _).loc Cert.GateKernelIdeal.main_arg4)),
    fun c => toBias 2560 0 (by decide) (by decide) (m ((c.tc : Thread _ _).loc Cert.GateKernelIdeal.main_arg0))
      (m ((c.tc : Thread _ _).loc Cert.GateKernelIdeal.main_arg1)) (m ((c.tc : Thread _ _).loc Cert.GateKernelIdeal.main_arg2))
      (m ((c.tc : Thread _ _).loc Cert.GateKernelIdeal.main_arg4)),
    fun c => toBias 4608 2048 (by decide) (by decide) (m ((c.tc : Thread _ _).loc Cert.GateKernelIdeal.main_arg0))
      (m ((c.tc : Thread _ _).loc Cert.GateKernelIdeal.main_arg1)) (m ((c.tc : Thread _ _).loc Cert.GateKernelIdeal.main_arg3))
      (m ((c.tc : Thread _ _).loc Cert.GateKernelIdeal.main_arg4)), ?_, ?_⟩
  · exact (θ_run _ _ _).mono (fun r h c => ⟨(h c).1.trans (Cert.GateKernelIdeal.Value.final7 m c),
      (h c).2.1.trans (Cert.GateKernelIdeal.Value.final8 m c), (h c).2.2.1.trans (Cert.GateKernelIdeal.Value.final9 m c),
      (h c).2.2.2.1.trans (Cert.GateKernelIdeal.Value.final10 m c), (h c).2.2.2.2.1.trans (Cert.GateKernelIdeal.Value.final11 m c),
      (h c).2.2.2.2.2.1.trans (Cert.GateKernelIdeal.Value.final12 m c), (h c).2.2.2.2.2.2⟩)
      (Cert.GateKernelIdeal.Value.run_blocks m g)
  · refine (θ_run _ _ _).mono (fun r h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
      (Cert.GateReferenceIdeal.Value.run m' g')
    · rw [(hm c).1, (hm c).2.1, (hm c).2.2.2.2]
      funext j
      idx_vars j
      pointwise [toStream, gateIn]
      exact mul_comm (_ : EReal) _
    · rw [(hm c).1, (hm c).2.1, (hm c).2.2.2.2]
      funext j
      idx_vars j
      pointwise [toStream, gateIn]
      exact mul_comm (_ : EReal) _
    · rw [(hm c).1, (hm c).2.1, (hm c).2.2.1, (hm c).2.2.2.2]
      funext j
      idx_vars j
      pointwise [toGate, gateIn]
      exact (logitGrad_eq _ _ _).symm
    · rw [(hm c).1, (hm c).2.1, (hm c).2.2.2.1, (hm c).2.2.2.2]
      funext j
      idx_vars j
      pointwise [toGate, gateIn]
      exact (logitGrad_eq _ _ _).symm
    · rw [(hm c).1, (hm c).2.1, (hm c).2.2.1, (hm c).2.2.2.2]
      funext j
      idx_vars j
      pointwise [toBias, gateIn]
      refine Fin.sum_fin_congr fun r => ?_
      exact (logitGrad_eq _ _ _).symm
    · rw [(hm c).1, (hm c).2.1, (hm c).2.2.2.1, (hm c).2.2.2.2]
      funext j
      idx_vars j
      pointwise [toBias, gateIn]
      refine Fin.sum_fin_congr fun r => ?_
      exact (logitGrad_eq _ _ _).symm

end Cert.Proof

end
-- ==== Proof.SwbValue.lean ====
/- The backward pass of the gated linear unit's activation. -/
module

public import proofs.«01_k».proof.Proof.Rows
public import proofs.«01_k».proof.Proof.Gen.SwbKernelIdeal.Value
public import proofs.«01_k».proof.Proof.Gen.SwbReferenceIdeal.Run

@[expose] public section

set_option maxRecDepth 16384

noncomputable section

namespace Cert.Rows

open Idealize.ShloMosaic

/-- The logistic function's values are real numbers, at the infinities too. -/
theorem logistic_real (x : EReal) : ∃ r : ℝ, Ideal.logistic x = r := by
  induction x with
  | bot => exact ⟨0, Ideal.logistic_bot⟩
  | top => exact ⟨1, Ideal.logistic_top⟩
  | coe r => exact ⟨_, Ideal.logistic_coe r⟩

/-- A real factor distributes over a sum of which one term is real. -/
theorem mul_add_real (w r : ℝ) (b : EReal) : (w : EReal) * (r + b) = w * r + w * b := by
  induction b with
  | bot =>
    rw [EReal.add_bot]
    rcases lt_trichotomy w 0 with h | h | h
    · rw [EReal.coe_mul_bot_of_neg h, ← EReal.coe_mul, EReal.coe_add_top]
    · simp [h]
    · rw [EReal.coe_mul_bot_of_pos h, EReal.add_bot]
  | top =>
    rw [EReal.coe_add_top]
    rcases lt_trichotomy w 0 with h | h | h
    · rw [EReal.coe_mul_top_of_neg h, EReal.add_bot]
    · simp [h]
    · rw [EReal.coe_mul_top_of_pos h, ← EReal.coe_mul, EReal.coe_add_top]
  | coe b => exact_mod_cast mul_add w r b

/-- An extended real whose size is at most that of the largest narrow float is a real number. -/
theorem real_of_abs_le {x : EReal} (h : max x (-x) ≤ Ideal.ofBits .f32 0x7F7F0000#32) : ∃ r : ℝ, x = r := by
  have ht : Ideal.ofBits .f32 0x7F7F0000#32 ≠ ⊤ := by
    simp [Ideal.ofBits, Ideal.ieee, -EReal.coe_mul]
  induction x with
  | bot => exact absurd (top_le_iff.mp (by simpa using h)) ht
  | top => exact absurd (top_le_iff.mp (by simpa using h)) ht
  | coe r => exact ⟨r, rfl⟩

/-- A sum of two padded terms where only the second is inside. -/
theorem pad_left {p q : Prop} {ip : Decidable p} {iq : Decidable q} {a : p → EReal} {b : q → EReal} {z : EReal}
    (hp : ¬p) (hq : q) (h : b hq = z) : @dite _ p ip a (fun _ => 0) + @dite _ q iq b (fun _ => 0) = z := by
  rw [dif_neg hp, dif_pos hq, zero_add, h]

/-- A sum of two padded terms where only the first is inside. -/
theorem pad_right {p q : Prop} {ip : Decidable p} {iq : Decidable q} {a : p → EReal} {b : q → EReal} {z : EReal}
    (hp : p) (hq : ¬q) (h : a hp = z) : @dite _ p ip a (fun _ => 0) + @dite _ q iq b (fun _ => 0) = z := by
  rw [dif_pos hp, dif_neg hq, add_zero, h]

/-- Both conditions hold where the conjunction of their bits is one. -/
theorem and_of_andi (p q : Prop) [Decidable p] [Decidable q]
    (h : IntOp.andi (BitVec.ofBool (decide p)) (BitVec.ofBool (decide q)) = 1#1) : p ∧ q := by
  by_cases hp : p <;> by_cases hq : q <;> simp [hp, hq, IntOp.andi] at h ⊢

/-- The gradient to a gate, its two terms gathered: the factor they share is real. -/
theorem gather (g u d : EReal) (hu : ∃ r : ℝ, u = r) (hd : ∃ r : ℝ, d = r) :
    d * u * Ideal.logistic g + g * (d * u) * (Ideal.logistic g * (1 - Ideal.logistic g))
      = d * u * (Ideal.logistic g + g * Ideal.logistic g * (1 - Ideal.logistic g)) := by
  obtain ⟨u, rfl⟩ := hu
  obtain ⟨d, rfl⟩ := hd
  obtain ⟨s, hs⟩ := logistic_real g
  rw [hs, ← EReal.coe_mul, mul_add_real, mul_comm g, mul_assoc, mul_assoc g]

end Cert.Rows

namespace Cert.SwbKernelIdeal.Value

open Cert.SwbKernelIdeal Cert.SwbKernelIdeal.Gen Idealize.ShloMosaic Idealize.ShloMosaic.TcCoe Idealize.SL.Sem
open Idealize.ShloMosaic.Pipeline (Dat)

variable (m : (ℓ : Loc nD τ sig) → Buf (Elt Ideal) ℓ)

/-- The gradient to one entry of the gate half. -/
def gateGrad (g u d : EReal) : EReal :=
  d * u * (Ideal.logistic g + g * Ideal.logistic g * (1 - Ideal.logistic g))

/-- The gradient to one entry of the up half. -/
def upGrad (g d : EReal) : EReal := d * (g * Ideal.logistic g)

/-- The two halves' gradients in blocks of 1408 columns, turn by turn. -/
def turns (gu : Vec Ideal S4096x11264 .bf16) (d : Vec Ideal S4096x5632 .bf16) : Vec Ideal S4096x11264 .bf16 := fun j =>
  have hj : (j 1).val < 11264 := (j 1).isLt
  if h : (j 1).val % 2816 < 1408 then
    gateGrad (gu (ix2 (j 0) ⟨(j 1).val / 2816 * 1408 + (j 1).val % 2816, by omega⟩))
      (gu (ix2 (j 0) ⟨5632 + ((j 1).val / 2816 * 1408 + (j 1).val % 2816), by omega⟩))
      (d (ix2 (j 0) ⟨(j 1).val / 2816 * 1408 + (j 1).val % 2816, by omega⟩))
  else
    upGrad (gu (ix2 (j 0) ⟨(j 1).val / 2816 * 1408 + ((j 1).val % 2816 - 1408), by omega⟩))
      (d (ix2 (j 0) ⟨(j 1).val / 2816 * 1408 + ((j 1).val % 2816 - 1408), by omega⟩))

/-- Where the blocks of the windows lie at a grid point. -/
theorem index_eq : ∀ t : Fin cfg0.N,
    win0_0.index t = ![t.val % 16, t.val / 16] ∧ win0_1.index t = ![t.val % 16, 4 + t.val / 16]
    ∧ win0_2.index t = ![t.val % 16, t.val / 16] ∧ win0_3.index t = ![t.val % 16, t.val / 16] ∧ t.val < 64 :=
  (by decide +kernel : ∀ t : Fin grid0.N, _)

/-- The result array after the run. -/
theorem final (c : Dev nD) : (dats m 0 c).arrAt 3 cfg0.N
    = turns (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay1, turns, gateGrad, upGrad]
  blk_point [iblk, V, index_eq t]
  all_goals
    rename_i h1 h2 _
    blk_simp [index_eq t] at h2
    exfalso
    omega

end Cert.SwbKernelIdeal.Value

namespace Cert.Proof

open Idealize.ShloMosaic Idealize.SL.Sem

/-- The facts the precondition's text states. -/
instance facts_finite_swb : Cert.Pre_finite_swb.Facts where
  slices_S4096x11264_S4096x5632_0_5632 := by decide
  bitsLt_bf16_f32 := by decide
  bcast_S_S4096x5632 := by decide

/-- What the precondition says of one entry: the up half and the gradient that came in are real there. -/
theorem real_of_finite_swb (gu : Vec Ideal Cert.SwbReferenceIdeal.S4096x11264 .bf16)
    (d : Vec Ideal Cert.SwbReferenceIdeal.S4096x5632 .bf16)
    (h : Cert.Pre_finite_swb.fn (F := Ideal) gu d = (fun _ => 1#1)) (r : Fin 4096) (n : Fin 5632) :
    (∃ x : ℝ, gu (ix2 r ⟨5632 + n.val, by omega⟩) = (x : EReal)) ∧ ∃ x : ℝ, d (ix2 r n) = (x : EReal) := by
  have := congrFun h (ix2 r n)
  pointwise [Cert.Pre_finite_swb.fn] at this
  exact (Rows.and_of_andi _ _ this).imp Rows.real_of_abs_le Rows.real_of_abs_le

/-- The kernel and the reference compute the same array where the up half and the gradient that came in are finite. -/
theorem algebraic_swb : Cert.algebraic_SwbKernelIdeal_SwbReferenceIdeal_pre_finite_swb := by
  intro m g m' g' hp hm
  refine ⟨fun c => Cert.SwbKernelIdeal.Value.turns (m ((c.tc : Thread _ _).loc Cert.SwbKernelIdeal.main_arg0))
    (m ((c.tc : Thread _ _).loc Cert.SwbKernelIdeal.main_arg1)), ?_, ?_⟩
  · exact (θ_run _ _ _).mono (fun r h c => ⟨(h c).1.trans (Cert.SwbKernelIdeal.Value.final m c), (h c).2⟩)
      (Cert.SwbKernelIdeal.Value.run_blocks m g)
  · refine (θ_run _ _ _).mono (fun r h c => ⟨(h c).1.trans ?_, (h c).2⟩) (Cert.SwbReferenceIdeal.Value.run m' g')
    rw [(hm c).1, (hm c).2]
    clear h
    have hf := real_of_finite_swb _ _ (hp c)
    funext j
    idx_vars j
    pointwise [Cert.SwbKernelIdeal.Value.turns, Cert.SwbKernelIdeal.Value.gateGrad, Cert.SwbKernelIdeal.Value.upGrad]
    by_cases h : j1.val % 2816 < 1408
    · have hin : j1.val / 1408 % 2 * 5632 + j1.val / 2816 * 1408 + j1.val % 1408 < 5632 := by omega
      refine Eq.trans ?_ (dif_pos h).symm
      refine Rows.pad_left (by omega) (fun a => ?_) ?_
      · match a with
        | 0 => simp [Nat.mod_one]
        | 1 => simpa [Nat.mod_one] using hin
      · refine (Rows.gather _ _ _ (hf j0 ⟨_, hin⟩).1 (hf j0 ⟨_, hin⟩).2).trans ?_
        blk_point []
    · refine Eq.trans ?_ (dif_neg h).symm
      refine Rows.pad_right (by omega) (fun hc => ?_) ?_
      · have := (hc 1).2.2
        simp at this
        omega
      · refine (mul_comm (_ : EReal) _).trans ?_
        show _ = (_ * (_ * Ideal.div 1 (1 + Ideal.exp (-_))) : EReal)
        blk_point []

end Cert.Proof

end
-- ==== Proof.NbValue.lean ====
/- The backward pass of the root-mean-square norm: to its input, joined with the residual, and to its weight. -/
module

public import proofs.«01_k».proof.Proof.Rows
public import proofs.«01_k».proof.Proof.Gen.NbKernelIdeal.Value
public import proofs.«01_k».proof.Proof.Gen.NbReferenceIdeal.Run

@[expose] public section

set_option maxRecDepth 16384

noncomputable section

namespace Cert.NbKernelIdeal.Value

open Cert.NbKernelIdeal Cert.NbKernelIdeal.Gen Idealize.ShloMosaic Idealize.ShloMosaic.TcCoe Idealize.SL.Sem
open Idealize.ShloMosaic.Pipeline (Dat)

variable (m : (ℓ : Loc nD τ sig) → Buf (Elt Ideal) ℓ)

/-- Half of the gradient to a row's mean square, for the row, the weight and the gradient that came in. -/
def squareGrad (x g d : Fin 2048 → EReal) : EReal :=
  Ideal.div ((∑ k, x k * (d k * g k))
    * (Ideal.ofBits .f32 0xBF000000#32 * Ideal.div (Ideal.rsqrt (Rows.meanSq x)) (Rows.meanSq x)))
    (Ideal.ofBits .f32 0x45000000#32)

/-- One entry of the gradient to the norm's input: through the scale, through the mean square, and the residual's. -/
def rowGrad (x g d : Fin 2048 → EReal) (r : EReal) (n : Fin 2048) : EReal :=
  d n * g n * Ideal.rsqrt (Rows.meanSq x) + x n * squareGrad x g d + squareGrad x g d * x n + r

/-- The gradient to the norm's input. -/
def toInput (x : Vec Ideal S4096x2048 .f32) (g : Vec Ideal S1x2048 .f32) (d r : Vec Ideal S4096x2048 .f32) :
    Vec Ideal S4096x2048 .f32 := fun j =>
  rowGrad (fun k => x (ix2 (j 0) k)) (fun k => g (ix2 0 k)) (fun k => d (ix2 (j 0) k)) (r (ix2 (j 0) (j 1))) (j 1)

/-- The gradient to the norm's input, for the narrower result. -/
def toInput' (x : Vec Ideal S4096x2048 .f32) (g : Vec Ideal S1x2048 .f32) (d r : Vec Ideal S4096x2048 .f32) :
    Vec Ideal S4096x2048 .bf16 := fun j =>
  rowGrad (fun k => x (ix2 (j 0) k)) (fun k => g (ix2 0 k)) (fun k => d (ix2 (j 0) k)) (r (ix2 (j 0) (j 1))) (j 1)

/-- The gradient to the weight: the column sums of the normed input times the gradient that came in. -/
def toWeight (x d : Vec Ideal S4096x2048 .f32) : Vec Ideal S1x2048 .f32 := fun j =>
  ∑ r : Fin 4096, x (ix2 r (j 1)) * Ideal.rsqrt (Rows.meanSq fun k => x (ix2 r k)) * d (ix2 r (j 1))

/-- The weight's gradient starts from zero. -/
theorem start_zero (j : S1x2048.Idx) : k0_pay2 (F := Ideal) j = 0 := by pointwise [k0_pay2]

/-- A grid point adds its rows' column sums to the weight's gradient. -/
theorem step_sum (acc : Vec Ideal S1x2048 .f32) (x d : Vec Ideal S128x2048 .f32) (j : S1x2048.Idx) :
    k0_pay3 (k0_pay6 x d) acc j = acc j
      + ∑ k : Fin 128, x (ix2 k (j 1)) * Ideal.rsqrt (Rows.meanSq fun l => x (ix2 k l)) * d (ix2 k (j 1)) := by
  idx_vars j
  pointwise [k0_pay3, k0_pay6, k0_pay5, k0_pay4, Rows.meanSq]

/-- What a grid point computes for the gradient to the norm's input. -/
theorem step_row (x : Vec Ideal S128x2048 .f32) (g : Vec Ideal S1x2048 .f32) (d r : Vec Ideal S128x2048 .f32)
    (j : S128x2048.Idx) :
    k0_pay7 x g d r j = rowGrad (fun k => x (ix2 (j 0) k)) (fun k => g (ix2 0 k)) (fun k => d (ix2 (j 0) k))
      (r (ix2 (j 0) (j 1))) (j 1) := by
  idx_vars j
  pointwise [k0_pay7, k0_pay5, k0_pay4, rowGrad, squareGrad, Rows.meanSq]
  simp only [Fin.sum_univ_one]

/-- Where the blocks of the windows lie at a grid point. -/
theorem index_eq : ∀ t : Fin cfg0.N,
    win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] ∧ t.val < 32 :=
  (by decide +kernel : ∀ t : Fin grid0.N, _)

/-- The first result after the run. -/
theorem final4 (c : Dev nD) : (dats m 0 c).arrAt 4 cfg0.N
    = toInput (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  by_cases h0 : t.val % 32 = 0
  all_goals
    first
      | rw [after0_4, outsAt0_A m c t h0]
      | rw [after0_4, outsAt0_B m c t h0]
    frame_out
    rw [step_row]
    unfold toInput rowGrad squareGrad Rows.meanSq
    beta_reduce
    blk_point [iblk, V, index_eq t]

/-- The second result after the run. -/
theorem final5 (c : Dev nD) : (dats m 0 c).arrAt 5 cfg0.N
    = toInput' (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  by_cases h0 : t.val % 32 = 0
  all_goals
    first
      | rw [after0_5, outsAt0_A m c t h0]
      | rw [after0_5, outsAt0_B m c t h0]
    frame_out
    unfold k0_pay1
    refine (step_row _ _ _ _ _).trans ?_
    unfold toInput' rowGrad squareGrad Rows.meanSq
    beta_reduce
    blk_point [iblk, V, index_eq t]

/-- The third result after the run. -/
theorem final6 (c : Dev nD) : (dats m 0 c).arrAt 6 cfg0.N
    = toWeight (m ((c : Thread nD τ).loc main_arg0)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2) 32 (fun _ => 0) _
    (fun t h j => by rw [outsAt0_A m c t h]; frame_out; rw [step_sum, start_zero])
    (fun t h j => by rw [outsAt0_B m c t h]; frame_out; rw [step_sum])
    t ((flush0_6 t).mp hf) _, zero_add]
  unfold toWeight
  refine Fin.sum_mul_add_congr fun s k hl => ?_
  unfold Rows.meanSq
  beta_reduce
  blk_point [iblk, V, index_eq t, index_eq ⟨_, Pipeline.run_point_lt_of_flush t ((flush0_6 t).mp hf) s⟩]

end Cert.NbKernelIdeal.Value

namespace Cert.Proof

open Idealize.ShloMosaic Idealize.SL.Sem

/-- The kernel and the reference compute the same three arrays. -/
theorem algebraic_nb : Cert.algebraic_NbKernelIdeal_NbReferenceIdeal := by
  intro m g m' g' _ hm
  refine ⟨fun c => Cert.NbKernelIdeal.Value.toInput (m ((c.tc : Thread _ _).loc Cert.NbKernelIdeal.main_arg0))
      (m ((c.tc : Thread _ _).loc Cert.NbKernelIdeal.main_arg1)) (m ((c.tc : Thread _ _).loc Cert.NbKernelIdeal.main_arg2))
      (m ((c.tc : Thread _ _).loc Cert.NbKernelIdeal.main_arg3)),
    fun c => Cert.NbKernelIdeal.Value.toInput' (m ((c.tc : Thread _ _).loc Cert.NbKernelIdeal.main_arg0))
      (m ((c.tc : Thread _ _).loc Cert.NbKernelIdeal.main_arg1)) (m ((c.tc : Thread _ _).loc Cert.NbKernelIdeal.main_arg2))
      (m ((c.tc : Thread _ _).loc Cert.NbKernelIdeal.main_arg3)),
    fun c => Cert.NbKernelIdeal.Value.toWeight (m ((c.tc : Thread _ _).loc Cert.NbKernelIdeal.main_arg0))
      (m ((c.tc : Thread _ _).loc Cert.NbKernelIdeal.main_arg2)), ?_, ?_⟩
  · exact (θ_run _ _ _).mono (fun r h c => ⟨(h c).1.trans (Cert.NbKernelIdeal.Value.final4 m c),
      (h c).2.1.trans (Cert.NbKernelIdeal.Value.final5 m c), (h c).2.2.1.trans (Cert.NbKernelIdeal.Value.final6 m c), (h c).2.2.2⟩)
      (Cert.NbKernelIdeal.Value.run_blocks m g)
  · refine (θ_run _ _ _).mono (fun r h c => ⟨(h c).1.trans ?_, (h c).2.1.trans ?_, (h c).2.2.1.trans ?_, (h c).2.2.2⟩)
      (Cert.NbReferenceIdeal.Value.run m' g')
    · rw [(hm c).1, (hm c).2.1, (hm c).2.2.1, (hm c).2.2.2]
      funext j
      idx_vars j
      pointwise [Cert.NbKernelIdeal.Value.toInput, Cert.NbKernelIdeal.Value.rowGrad, Cert.NbKernelIdeal.Value.squareGrad, Rows.meanSq]
      simp only [Fin.sum_univ_one]
    · rw [(hm c).1, (hm c).2.1, (hm c).2.2.1, (hm c).2.2.2]
      funext j
      idx_vars j
      pointwise [Cert.NbKernelIdeal.Value.toInput', Cert.NbKernelIdeal.Value.rowGrad, Cert.NbKernelIdeal.Value.squareGrad, Rows.meanSq]
      simp only [Fin.sum_univ_one]
    · rw [(hm c).1, (hm c).2.2.1]
      funext j
      idx_vars j
      pointwise [Cert.NbKernelIdeal.Value.toWeight, Rows.meanSq]

end Cert.Proof

end
-- ==== Proof.GbValue.lean ====
/- The backward pass of the gated output: to the recurrence, to the gate's input and to its bias. -/
module

public import proofs.«01_k».proof.Proof.Rows
public import proofs.«01_k».proof.Proof.Gen.GbKernelIdeal.Value
public import proofs.«01_k».proof.Proof.Gen.GbReferenceIdeal.Run

@[expose] public section

set_option maxRecDepth 16384

noncomputable section

namespace Cert.GbKernelIdeal.Value

open Cert.GbKernelIdeal Cert.GbKernelIdeal.Gen Idealize.ShloMosaic Idealize.ShloMosaic.TcCoe Idealize.SL.Sem
open Idealize.ShloMosaic.Pipeline (Dat)

variable (m : (ℓ : Loc nD τ sig) → Buf (Elt Ideal) ℓ)

/-- The gradient through the gate: the gradient that came in times the gate's value. -/
def toGelu (p : Vec Ideal S4096x1024 .f32) (b : Vec Ideal S1x1024 .f32) (d : Vec Ideal S4096x1024 .bf16) :
    Vec Ideal S4096x1024 .f32 := fun j =>
  d (ix2 (j 0) (j 1)) * Ideal.logistic (p (ix2 (j 0) (j 1)) + b (ix2 0 (j 1)))

/-- The gradient to the gate's input. -/
def toGate (y p : Vec Ideal S4096x1024 .f32) (b : Vec Ideal S1x1024 .f32) (d : Vec Ideal S4096x1024 .bf16) :
    Vec Ideal S4096x1024 .bf16 := fun j =>
  Rows.gateGrad (y (ix2 (j 0) (j 1))) (p (ix2 (j 0) (j 1))) (b (ix2 0 (j 1))) (d (ix2 (j 0) (j 1)))

/-- The gradient to the bias: the column sums of the gradient to the gate's input. -/
def toBias (y p : Vec Ideal S4096x1024 .f32) (b : Vec Ideal S1x1024 .f32) (d : Vec Ideal S4096x1024 .bf16) :
    Vec Ideal S1x1024 .f32 := fun j =>
  ∑ r : Fin 4096, Rows.gateGrad (y (ix2 r (j 1))) (p (ix2 r (j 1))) (b (ix2 0 (j 1))) (d (ix2 r (j 1)))

/-- The bias gradient starts from zero. -/
theorem start_zero (j : S1x1024.Idx) : k0_pay8 (F := Ideal) j = 0 := by pointwise [k0_pay8]

/-- A grid point adds its rows' column sums to the bias gradient. -/
theorem step_sum (acc : Vec Ideal S1x1024 .f32) (y p : Vec Ideal S256x1024 .f32) (b : Vec Ideal S1x1024 .f32)
    (d : Vec Ideal S256x1024 .bf16) (j : S1x1024.Idx) :
    k0_pay1 (k0_pay6 y p b d) acc j = acc j
      + ∑ k : Fin 256, Rows.gateGrad (y (ix2 k (j 1))) (p (ix2 k (j 1))) (b (ix2 0 (j 1))) (d (ix2 k (j 1))) := by
  idx_vars j
  pointwise [k0_pay1, k0_pay6, k0_pay5, k0_pay2, k0_pay3, Rows.gateGrad, Rows.gelu, Rows.logistic']

/-- Where the blocks of the windows lie at a grid point. -/
theorem index_eq : ∀ t : Fin cfg0.N,
    win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ t.val < 16 :=
  (by decide +kernel : ∀ t : Fin grid0.N, _)

/-- The first result after the run. -/
theorem final4 (c : Dev nD) : (dats m 0 c).arrAt 4 cfg0.N
    = toGelu (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  by_cases h0 : t.val % 16 = 0
  all_goals
    first
      | rw [after0_4, outsAt0_A m c t h0]
      | rw [after0_4, outsAt0_B m c t h0]
    frame_out
    pointwise [k0_pay4, k0_pay2, k0_pay3, toGelu]
    blk_point [iblk, V, index_eq t]

/-- The second result after the run. -/
theorem final5 (c : Dev nD) : (dats m 0 c).arrAt 5 cfg0.N
    = toGate (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  by_cases h0 : t.val % 16 = 0
  all_goals
    first
      | rw [after0_5, outsAt0_A m c t h0]
      | rw [after0_5, outsAt0_B m c t h0]
    frame_out
    pointwise [k0_pay7, k0_pay5, k0_pay2, k0_pay3, toGate, Rows.gateGrad, Rows.gelu, Rows.logistic']
    blk_point [iblk, V, index_eq t]

/-- The third result after the run. -/
theorem final6 (c : Dev nD) : (dats m 0 c).arrAt 6 cfg0.N
    = toBias (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0) _
    (fun t h j => by rw [outsAt0_A m c t h]; frame_out; rw [step_sum, start_zero])
    (fun t h j => by rw [outsAt0_B m c t h]; frame_out; rw [step_sum])
    t ((flush0_6 t).mp hf) _, zero_add]
  unfold toBias
  refine Fin.sum_mul_add_congr fun s k hl => ?_
  unfold Rows.gateGrad Rows.gelu Rows.logistic'
  blk_point [iblk, V, index_eq t, index_eq ⟨_, Pipeline.run_point_lt_of_flush t ((flush0_6 t).mp hf) s⟩]

end Cert.GbKernelIdeal.Value

namespace Cert.Proof

open Idealize.ShloMosaic Idealize.SL.Sem

/-- The kernel and the reference compute the same three arrays. -/
theorem algebraic_gb : Cert.algebraic_GbKernelIdeal_GbReferenceIdeal := by
  intro m g m' g' _ hm
  refine ⟨fun c => Cert.GbKernelIdeal.Value.toGelu (m ((c.tc : Thread _ _).loc Cert.GbKernelIdeal.main_arg1))
      (m ((c.tc : Thread _ _).loc Cert.GbKernelIdeal.main_arg2)) (m ((c.tc : Thread _ _).loc Cert.GbKernelIdeal.main_arg3)),
    fun c => Cert.GbKernelIdeal.Value.toGate (m ((c.tc : Thread _ _).loc Cert.GbKernelIdeal.main_arg0))
      (m ((c.tc : Thread _ _).loc Cert.GbKernelIdeal.main_arg1)) (m ((c.tc : Thread _ _).loc Cert.GbKernelIdeal.main_arg2))
      (m ((c.tc : Thread _ _).loc Cert.GbKernelIdeal.main_arg3)),
    fun c => Cert.GbKernelIdeal.Value.toBias (m ((c.tc : Thread _ _).loc Cert.GbKernelIdeal.main_arg0))
      (m ((c.tc : Thread _ _).loc Cert.GbKernelIdeal.main_arg1)) (m ((c.tc : Thread _ _).loc Cert.GbKernelIdeal.main_arg2))
      (m ((c.tc : Thread _ _).loc Cert.GbKernelIdeal.main_arg3)), ?_, ?_⟩
  · exact (θ_run _ _ _).mono (fun r h c => ⟨(h c).1.trans (Cert.GbKernelIdeal.Value.final4 m c),
      (h c).2.1.trans (Cert.GbKernelIdeal.Value.final5 m c), (h c).2.2.1.trans (Cert.GbKernelIdeal.Value.final6 m c), (h c).2.2.2⟩)
      (Cert.GbKernelIdeal.Value.run_blocks m g)
  · refine (θ_run _ _ _).mono (fun r h c => ⟨(h c).1.trans ?_, (h c).2.1.trans ?_, (h c).2.2.1.trans ?_, (h c).2.2.2⟩)
      (Cert.GbReferenceIdeal.Value.run m' g')
    · rw [(hm c).2.1, (hm c).2.2.1, (hm c).2.2.2]
      funext j
      idx_vars j
      pointwise [Cert.GbKernelIdeal.Value.toGelu]
      rfl
    · rw [(hm c).1, (hm c).2.1, (hm c).2.2.1, (hm c).2.2.2]
      funext j
      idx_vars j
      pointwise [Cert.GbKernelIdeal.Value.toGate, Rows.gateGrad, Rows.gelu, Rows.logistic']
      generalize (m ((c.tc : Thread _ _).loc Cert.GbKernelIdeal.main_arg0) : Vec Ideal Cert.GbKernelIdeal.S4096x1024 .f32) (ix2 j0 j1) = y
      revert y
      intro (y : EReal)
      simp only [mul_assoc y y y]
      rfl
    · rw [(hm c).1, (hm c).2.1, (hm c).2.2.1, (hm c).2.2.2]
      funext j
      idx_vars j
      pointwise [Cert.GbKernelIdeal.Value.toBias, Rows.gateGrad, Rows.gelu, Rows.logistic']
      refine Fin.sum_fin_congr fun r => ?_
      generalize (m ((c.tc : Thread _ _).loc Cert.GbKernelIdeal.main_arg0) : Vec Ideal Cert.GbKernelIdeal.S4096x1024 .f32) (ix2 r j1) = y
      revert y
      intro (y : EReal)
      simp only [mul_assoc y y y]
      rfl

end Cert.Proof

end
-- ==== Proof.GebValue.lean ====
/- The gradient of the GELU. -/
module

public import proofs.«01_k».proof.Defs
public import proofs.«01_k».proof.Proof.Gen.GebKernelIdeal.Value
public import proofs.«01_k».proof.Proof.Gen.GebReferenceIdeal.Run
public import Idealize.ShloMosaic.Lib.Pointwise

@[expose] public section

set_option maxRecDepth 16384

noncomputable section

namespace Cert.Proof

open Idealize.ShloMosaic Idealize.SL.Sem

/-- The kernel and the reference compute the same array. -/
theorem algebraic_geb : Cert.algebraic_GebKernelIdeal_GebReferenceIdeal := by
  intro m g m' g' _ hm
  refine ⟨fun c => Cert.GebKernelIdeal.Value.G3 (m ((c.tc : Thread _ _).loc Cert.GebKernelIdeal.main_arg0)) (m ((c.tc : Thread _ _).loc Cert.GebKernelIdeal.main_arg1)) (m ((c.tc : Thread _ _).loc Cert.GebKernelIdeal.main_arg2)), ?_, ?_⟩
  · exact Cert.GebKernelIdeal.Value.run m g
  · refine (θ_run _ _ _).mono (fun r h c => ⟨(h c).1.trans ?_, (h c).2⟩) (Cert.GebReferenceIdeal.Value.run m' g')
    rw [(hm c).1, (hm c).2.1, (hm c).2.2]
    funext i
    idx_vars i
    pointwise
    generalize (m ((c.tc : Thread _ _).loc Cert.GebKernelIdeal.main_arg0) : Vec Ideal Cert.GebKernelIdeal.S4096x1024 .f32) (ix2 i0 i1) = y
    generalize (m ((c.tc : Thread _ _).loc Cert.GebKernelIdeal.main_arg1) : Vec Ideal Cert.GebKernelIdeal.S4096x1024 .f32) (ix2 i0 i1) = d
    generalize (m ((c.tc : Thread _ _).loc Cert.GebKernelIdeal.main_arg2) : Vec Ideal Cert.GebKernelIdeal.S4096x1024 .f32) (ix2 i0 i1) = e
    revert y d e
    intro (y : EReal) (d : EReal) (e : EReal)
    simp only [mul_assoc y y y]

end Cert.Proof

end
-- ==== Proof.NormValue.lean ====
/- The root-mean-square norm of the rows. -/
module

public import proofs.«01_k».proof.Proof.Rows
public import proofs.«01_k».proof.Proof.Gen.NormKernelIdeal.Value
public import proofs.«01_k».proof.Proof.Gen.NormReferenceIdeal.Run

@[expose] public section

set_option maxRecDepth 16384

noncomputable section

namespace Cert.NormKernelIdeal.Value

open Cert.NormKernelIdeal Cert.NormKernelIdeal.Gen Idealize.ShloMosaic Idealize.ShloMosaic.TcCoe Idealize.SL.Sem
open Idealize.ShloMosaic.Pipeline (Dat)

variable (m : (ℓ : Loc nD τ sig) → Buf (Elt Ideal) ℓ)

/-- Each entry over the root of its row's mean square, times the column's weight. -/
def normed (x : Vec Ideal S4096x2048 .f32) (g : Vec Ideal S1x2048 .f32) : Vec Ideal S4096x2048 .bf16 := fun j =>
  x (ix2 (j 0) (j 1)) * Ideal.rsqrt (Rows.meanSq fun k => x (ix2 (j 0) k)) * g (ix2 0 (j 1))

/-- Where the blocks of the windows lie at a grid point. -/
theorem index_eq : ∀ t : Fin cfg0.N,
    win0_0.index t = ![t.val, 0] ∧ win0_1.index t = ![0, 0] ∧ win0_2.index t = ![t.val, 0] ∧ t.val < 8 :=
  (by decide +kernel : ∀ t : Fin grid0.N, _)

/-- The result array after the run. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, normed, Rows.meanSq]
  blk_point [iblk, V, index_eq t]

end Cert.NormKernelIdeal.Value

namespace Cert.Proof

open Idealize.ShloMosaic Idealize.SL.Sem

/-- The kernel and the reference compute the same array. -/
theorem algebraic_norm : Cert.algebraic_NormKernelIdeal_NormReferenceIdeal := by
  intro m g m' g' _ hm
  refine ⟨fun c => Cert.NormKernelIdeal.Value.normed (m ((c.tc : Thread _ _).loc Cert.NormKernelIdeal.main_arg0))
    (m ((c.tc : Thread _ _).loc Cert.NormKernelIdeal.main_arg1)), ?_, ?_⟩
  · exact (θ_run _ _ _).mono (fun r h c => ⟨(h c).1.trans (Cert.NormKernelIdeal.Value.final m c), (h c).2⟩)
      (Cert.NormKernelIdeal.Value.run_blocks m g)
  · refine (θ_run _ _ _).mono (fun r h c => ⟨(h c).1.trans ?_, (h c).2⟩) (Cert.NormReferenceIdeal.Value.run m' g')
    rw [(hm c).1, (hm c).2]
    funext j
    idx_vars j
    pointwise [Cert.NormKernelIdeal.Value.normed, Rows.meanSq]

end Cert.Proof

end
-- ==== Proof.GeluValue.lean ====
/- The GELU of the recurrence's output. -/
module

public import proofs.«01_k».proof.Defs
public import proofs.«01_k».proof.Proof.Gen.GeluKernelIdeal.Value
public import proofs.«01_k».proof.Proof.Gen.GeluReferenceIdeal.Run
public import Idealize.ShloMosaic.Lib.Pointwise

@[expose] public section

set_option maxRecDepth 16384

noncomputable section

namespace Cert.Proof

open Idealize.ShloMosaic Idealize.SL.Sem

/-- The kernel and the reference compute the same array. -/
theorem algebraic_gelu : Cert.algebraic_GeluKernelIdeal_GeluReferenceIdeal := by
  intro m g m' g' _ hm
  refine ⟨fun c => Cert.GeluKernelIdeal.Value.G1 (m ((c.tc : Thread _ _).loc Cert.GeluKernelIdeal.main_arg0)), ?_, ?_⟩
  · exact Cert.GeluKernelIdeal.Value.run m g
  · refine (θ_run _ _ _).mono (fun r h c => ⟨(h c).1.trans ?_, (h c).2⟩) (Cert.GeluReferenceIdeal.Value.run m' g')
    rw [hm c]
    funext i
    idx_vars i
    pointwise
    generalize (m ((c.tc : Thread _ _).loc Cert.GeluKernelIdeal.main_arg0) : Vec Ideal Cert.GeluKernelIdeal.S4096x1024 .f32) (ix2 i0 i1) = y
    revert y
    intro (y : EReal)
    simp only [mul_assoc y y y]

end Cert.Proof

end
-- ==== Proof.GluValue.lean ====
/- The gated output of the recurrence: its GELU times the logistic gate. -/
module

public import proofs.«01_k».proof.Proof.Rows
public import proofs.«01_k».proof.Proof.Gen.GluKernelIdeal.Value
public import proofs.«01_k».proof.Proof.Gen.GluReferenceIdeal.Run

@[expose] public section

set_option maxRecDepth 16384

noncomputable section

namespace Cert.GluKernelIdeal.Value

open Cert.GluKernelIdeal Cert.GluKernelIdeal.Gen Idealize.ShloMosaic Idealize.ShloMosaic.TcCoe Idealize.SL.Sem
open Idealize.ShloMosaic.Pipeline (Dat)

variable (m : (ℓ : Loc nD τ sig) → Buf (Elt Ideal) ℓ)

/-- The GELU of `y` times the logistic function of the gate's input plus its bias. -/
def gated (y p : Vec Ideal S4096x1024 .f32) (b : Vec Ideal S1x1024 .f32) : Vec Ideal S4096x1024 .bf16 := fun j =>
  Rows.gelu (y (ix2 (j 0) (j 1))) * Ideal.logistic (p (ix2 (j 0) (j 1)) + b (ix2 0 (j 1)))

/-- Where the blocks of the windows lie at a grid point. -/
theorem index_eq : ∀ t : Fin cfg0.N,
    win0_0.index t = ![t.val, 0] ∧ win0_1.index t = ![t.val, 0] ∧ win0_2.index t = ![0, 0]
    ∧ win0_3.index t = ![t.val, 0] ∧ t.val < 8 :=
  (by decide +kernel : ∀ t : Fin grid0.N, _)

/-- The result array after the run. -/
theorem final (c : Dev nD) : (dats m 0 c).arrAt 3 cfg0.N
    = gated (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, gated, Rows.gelu]
  blk_point [iblk, V, index_eq t]

end Cert.GluKernelIdeal.Value

namespace Cert.Proof

open Idealize.ShloMosaic Idealize.SL.Sem

/-- The kernel and the reference compute the same array. -/
theorem algebraic_glu : Cert.algebraic_GluKernelIdeal_GluReferenceIdeal := by
  intro m g m' g' _ hm
  refine ⟨fun c => Cert.GluKernelIdeal.Value.gated (m ((c.tc : Thread _ _).loc Cert.GluKernelIdeal.main_arg0))
    (m ((c.tc : Thread _ _).loc Cert.GluKernelIdeal.main_arg1)) (m ((c.tc : Thread _ _).loc Cert.GluKernelIdeal.main_arg2)), ?_, ?_⟩
  · exact (θ_run _ _ _).mono (fun r h c => ⟨(h c).1.trans (Cert.GluKernelIdeal.Value.final m c), (h c).2⟩)
      (Cert.GluKernelIdeal.Value.run_blocks m g)
  · refine (θ_run _ _ _).mono (fun r h c => ⟨(h c).1.trans ?_, (h c).2⟩) (Cert.GluReferenceIdeal.Value.run m' g')
    rw [(hm c).1, (hm c).2.1, (hm c).2.2]
    funext j
    idx_vars j
    pointwise [Cert.GluKernelIdeal.Value.gated, Rows.gelu]
    generalize (m ((c.tc : Thread _ _).loc Cert.GluKernelIdeal.main_arg0) : Vec Ideal Cert.GluKernelIdeal.S4096x1024 .f32) (ix2 j0 j1) = y
    revert y
    intro (y : EReal)
    simp only [mul_assoc y y y]
    rfl

end Cert.Proof

end
-- ==== Proof.MergeValue.lean ====
/- The merge of the two branches through their gates. -/
module

public import proofs.«01_k».proof.Defs
public import proofs.«01_k».proof.Proof.Gen.MergeKernelIdeal.Value
public import proofs.«01_k».proof.Proof.Gen.MergeReferenceIdeal.Run
public import Idealize.ShloMosaic.Lib.Pipeline.ValueKit

@[expose] public section

set_option maxRecDepth 16384

noncomputable section

namespace Cert.MergeKernelIdeal.Value

open Cert.MergeKernelIdeal Cert.MergeKernelIdeal.Gen Idealize.ShloMosaic Idealize.ShloMosaic.TcCoe Idealize.SL.Sem
open Idealize.ShloMosaic.Pipeline (Dat)

variable (m : (ℓ : Loc nD τ sig) → Buf (Elt Ideal) ℓ)

/-- The two branches, each times its gate, added: the gates are columns 2560 to 6655 of `z` plus their bias. -/
def merged (z : Vec Ideal S4096x6656 .f32) (b : Vec Ideal S1x4096 .f32) (p q : Vec Ideal S4096x2048 .bf16) :
    Vec Ideal S4096x2048 .bf16 := fun j =>
  have hj : (j 1 : Nat) < 2048 := (j 1).isLt
  Ideal.logistic (z (ix2 (j 0) ⟨2560 + (j 1 : Nat), by omega⟩) + b (ix2 0 ⟨(j 1 : Nat), by omega⟩)) * p (ix2 (j 0) (j 1))
    + Ideal.logistic (z (ix2 (j 0) ⟨4608 + (j 1 : Nat), by omega⟩) + b (ix2 0 ⟨2048 + (j 1 : Nat), by omega⟩)) * q (ix2 (j 0) (j 1))

/-- Where the blocks of the windows lie at a grid point. -/
theorem index_eq : ∀ t : Fin cfg0.N,
    win0_0.index t = ![t.val % 4, 5 + t.val / 4] ∧ win0_1.index t = ![t.val % 4, 9 + t.val / 4]
    ∧ win0_2.index t = ![0, t.val / 4] ∧ win0_3.index t = ![0, 4 + t.val / 4]
    ∧ win0_4.index t = ![t.val % 4, t.val / 4] ∧ win0_5.index t = ![t.val % 4, t.val / 4]
    ∧ win0_6.index t = ![t.val % 4, t.val / 4] ∧ t.val < 16 :=
  (by decide +kernel : ∀ t : Fin grid0.N, _)

/-- The result array after the run. -/
theorem final (c : Dev nD) : (dats m 0 c).arrAt 6 cfg0.N
    = merged (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t _ y => ?_
  blk_simp
  rw [after0_6]
  frame_out
  pointwise [k0_pay1, merged]
  blk_point [iblk, V, index_eq t]

end Cert.MergeKernelIdeal.Value

namespace Cert.Proof

open Idealize.ShloMosaic Idealize.SL.Sem

/-- The kernel and the reference compute the same array. -/
theorem algebraic_merge : Cert.algebraic_MergeKernelIdeal_MergeReferenceIdeal := by
  intro m g m' g' _ hm
  refine ⟨fun c => Cert.MergeKernelIdeal.Value.merged (m ((c.tc : Thread _ _).loc Cert.MergeKernelIdeal.main_arg0))
    (m ((c.tc : Thread _ _).loc Cert.MergeKernelIdeal.main_arg1)) (m ((c.tc : Thread _ _).loc Cert.MergeKernelIdeal.main_arg2))
    (m ((c.tc : Thread _ _).loc Cert.MergeKernelIdeal.main_arg3)), ?_, ?_⟩
  · exact (θ_run _ _ _).mono (fun r h c => ⟨(h c).1.trans (Cert.MergeKernelIdeal.Value.final m c), (h c).2⟩)
      (Cert.MergeKernelIdeal.Value.run_blocks m g)
  · refine (θ_run _ _ _).mono (fun r h c => ⟨(h c).1.trans ?_, (h c).2⟩) (Cert.MergeReferenceIdeal.Value.run m' g')
    rw [(hm c).1, (hm c).2.1, (hm c).2.2.1, (hm c).2.2.2]
    funext j
    idx_vars j
    pointwise [Cert.MergeKernelIdeal.Value.merged]
    rfl

end Cert.Proof

end
-- ==== Proof.SwfValue.lean ====
/- The SwiGLU of the channel mixer. -/
module

public import proofs.«01_k».proof.Defs
public import proofs.«01_k».proof.Proof.Gen.SwfKernelIdeal.Value
public import proofs.«01_k».proof.Proof.Gen.SwfReferenceIdeal.Run
public import Idealize.ShloMosaic.Lib.Pointwise

@[expose] public section

set_option maxRecDepth 16384

noncomputable section

namespace Cert.Proof

open Idealize.ShloMosaic Idealize.SL.Sem

/-- The kernel and the reference compute the same array. -/
theorem algebraic_swf : Cert.algebraic_SwfKernelIdeal_SwfReferenceIdeal := by
  intro m g m' g' _ hm
  refine ⟨fun c => Cert.SwfKernelIdeal.Value.G2 (m ((c.tc : Thread _ _).loc Cert.SwfKernelIdeal.main_arg0)) (m ((c.tc : Thread _ _).loc Cert.SwfKernelIdeal.main_arg0)), ?_, ?_⟩
  · exact Cert.SwfKernelIdeal.Value.run m g
  · refine (θ_run _ _ _).mono (fun r h c => ⟨(h c).1.trans ?_, (h c).2⟩) (Cert.SwfReferenceIdeal.Value.run m' g')
    rw [hm c]
    funext i
    idx_vars i
    pointwise
    have e0 : Cert.SwfKernelIdeal.Value.inIdx2_0 (ix2 i0 i1) = ix2 i0 ⟨i1.val, by omega⟩ := by
      funext a; fin_cases a <;> rfl
    have e1 : Cert.SwfKernelIdeal.Value.inIdx2_1 (ix2 i0 i1) = ix2 i0 ⟨5632 + i1.val, by omega⟩ := by
      funext a
      fin_cases a
      · rfl
      · exact Fin.ext (by show i1.val + 5632 = 5632 + i1.val; omega)
    rw [e0, e1]
    rfl

end Cert.Proof

end
-- ==== Proof.AdamValue.lean ====
/- The AdamW step of the small weights: the change, the new mean and the new variance. -/
module

public import proofs.«01_k».proof.Defs
public import proofs.«01_k».proof.Proof.Gen.UaKernelIdeal.Value
public import proofs.«01_k».proof.Proof.Gen.UaReferenceIdeal.Run
public import proofs.«01_k».proof.Proof.Gen.UbKernelIdeal.Value
public import proofs.«01_k».proof.Proof.Gen.UbReferenceIdeal.Run
public import proofs.«01_k».proof.Proof.Gen.UcKernelIdeal.Value
public import proofs.«01_k».proof.Proof.Gen.UcReferenceIdeal.Run
public import proofs.«01_k».proof.Proof.Gen.UdKernelIdeal.Value
public import proofs.«01_k».proof.Proof.Gen.UdReferenceIdeal.Run
public import proofs.«01_k».proof.Proof.Gen.UeKernelIdeal.Value
public import proofs.«01_k».proof.Proof.Gen.UeReferenceIdeal.Run
public import proofs.«01_k».proof.Proof.Gen.UfKernelIdeal.Value
public import proofs.«01_k».proof.Proof.Gen.UfReferenceIdeal.Run
public import proofs.«01_k».proof.Proof.Gen.UgKernelIdeal.Value
public import proofs.«01_k».proof.Proof.Gen.UgReferenceIdeal.Run
public import proofs.«01_k».proof.Proof.Gen.UhKernelIdeal.Value
public import proofs.«01_k».proof.Proof.Gen.UhReferenceIdeal.Run

@[expose] public section

set_option maxRecDepth 16384

noncomputable section

namespace Cert.Proof

open Idealize.ShloMosaic Idealize.SL.Sem

/-- The new mean of the gradients, one entry. -/
def adamMean (g μ : EReal) : EReal :=
  Ideal.ofBits .f32 0x3F666666#32 * μ + Ideal.ofBits .f32 0x3DCCCCCD#32 * g

/-- The new mean of the gradients' squares, one entry. -/
def adamVar (g ν : EReal) : EReal :=
  Ideal.ofBits .f32 0x3F7FBE77#32 * ν + Ideal.ofBits .f32 0x3A83126F#32 * (g * g)

/-- The change of the weight, one entry. -/
def adamDelta (w g μ ν : EReal) : EReal :=
  Ideal.ofBits .f32 0xBA83126F#32
    * (Ideal.div (Ideal.div (adamMean g μ) (Ideal.ofBits .f32 0x3F26BD02#32))
        (Ideal.sqrt (Ideal.div (adamVar g ν) (Ideal.ofBits .f32 0x3C231ACC#32)) + Ideal.ofBits .f32 0x322BCC77#32)
      + Ideal.ofBits .f32 0x3C23D70A#32 * w)

/-- The AdamW step of the norms' weights. -/
theorem algebraic_ua : Cert.algebraic_UaKernelIdeal_UaReferenceIdeal := by
  intro m g m' g' _ hm
  refine ⟨fun c i => adamDelta (m ((c.tc : Thread _ _).loc Cert.UaKernelIdeal.main_arg0) i) (m ((c.tc : Thread _ _).loc Cert.UaKernelIdeal.main_arg1) i)
      (m ((c.tc : Thread _ _).loc Cert.UaKernelIdeal.main_arg2) i) (m ((c.tc : Thread _ _).loc Cert.UaKernelIdeal.main_arg3) i),
    fun c i => adamMean (m ((c.tc : Thread _ _).loc Cert.UaKernelIdeal.main_arg1) i) (m ((c.tc : Thread _ _).loc Cert.UaKernelIdeal.main_arg2) i),
    fun c i => adamVar (m ((c.tc : Thread _ _).loc Cert.UaKernelIdeal.main_arg1) i) (m ((c.tc : Thread _ _).loc Cert.UaKernelIdeal.main_arg3) i),
    Cert.UaKernelIdeal.Value.run m g, (θ_run _ _ _).mono (fun r h c => ?_) (Cert.UaReferenceIdeal.Value.run m' g')⟩
  have e := h c
  rw [(hm c).1, (hm c).2.1, (hm c).2.2.1, (hm c).2.2.2] at e ⊢
  exact e

/-- The AdamW step of the gate's bias. -/
theorem algebraic_ub : Cert.algebraic_UbKernelIdeal_UbReferenceIdeal := by
  intro m g m' g' _ hm
  refine ⟨fun c i => adamDelta (m ((c.tc : Thread _ _).loc Cert.UbKernelIdeal.main_arg0) i) (m ((c.tc : Thread _ _).loc Cert.UbKernelIdeal.main_arg1) i)
      (m ((c.tc : Thread _ _).loc Cert.UbKernelIdeal.main_arg2) i) (m ((c.tc : Thread _ _).loc Cert.UbKernelIdeal.main_arg3) i),
    fun c i => adamMean (m ((c.tc : Thread _ _).loc Cert.UbKernelIdeal.main_arg1) i) (m ((c.tc : Thread _ _).loc Cert.UbKernelIdeal.main_arg2) i),
    fun c i => adamVar (m ((c.tc : Thread _ _).loc Cert.UbKernelIdeal.main_arg1) i) (m ((c.tc : Thread _ _).loc Cert.UbKernelIdeal.main_arg3) i),
    Cert.UbKernelIdeal.Value.run m g, (θ_run _ _ _).mono (fun r h c => ?_) (Cert.UbReferenceIdeal.Value.run m' g')⟩
  have e := h c
  rw [(hm c).1, (hm c).2.1, (hm c).2.2.1, (hm c).2.2.2] at e ⊢
  exact e

/-- The AdamW step of the head norms' weights and the time steps. -/
theorem algebraic_uc : Cert.algebraic_UcKernelIdeal_UcReferenceIdeal := by
  intro m g m' g' _ hm
  refine ⟨fun c i => adamDelta (m ((c.tc : Thread _ _).loc Cert.UcKernelIdeal.main_arg0) i) (m ((c.tc : Thread _ _).loc Cert.UcKernelIdeal.main_arg1) i)
      (m ((c.tc : Thread _ _).loc Cert.UcKernelIdeal.main_arg2) i) (m ((c.tc : Thread _ _).loc Cert.UcKernelIdeal.main_arg3) i),
    fun c i => adamMean (m ((c.tc : Thread _ _).loc Cert.UcKernelIdeal.main_arg1) i) (m ((c.tc : Thread _ _).loc Cert.UcKernelIdeal.main_arg2) i),
    fun c i => adamVar (m ((c.tc : Thread _ _).loc Cert.UcKernelIdeal.main_arg1) i) (m ((c.tc : Thread _ _).loc Cert.UcKernelIdeal.main_arg3) i),
    Cert.UcKernelIdeal.Value.run m g, (θ_run _ _ _).mono (fun r h c => ?_) (Cert.UcReferenceIdeal.Value.run m' g')⟩
  have e := h c
  rw [(hm c).1, (hm c).2.1, (hm c).2.2.1, (hm c).2.2.2] at e ⊢
  exact e

/-- The AdamW step of the attention sinks. -/
theorem algebraic_ud : Cert.algebraic_UdKernelIdeal_UdReferenceIdeal := by
  intro m g m' g' _ hm
  refine ⟨fun c i => adamDelta (m ((c.tc : Thread _ _).loc Cert.UdKernelIdeal.main_arg0) i) (m ((c.tc : Thread _ _).loc Cert.UdKernelIdeal.main_arg1) i)
      (m ((c.tc : Thread _ _).loc Cert.UdKernelIdeal.main_arg2) i) (m ((c.tc : Thread _ _).loc Cert.UdKernelIdeal.main_arg3) i),
    fun c i => adamMean (m ((c.tc : Thread _ _).loc Cert.UdKernelIdeal.main_arg1) i) (m ((c.tc : Thread _ _).loc Cert.UdKernelIdeal.main_arg2) i),
    fun c i => adamVar (m ((c.tc : Thread _ _).loc Cert.UdKernelIdeal.main_arg1) i) (m ((c.tc : Thread _ _).loc Cert.UdKernelIdeal.main_arg3) i),
    Cert.UdKernelIdeal.Value.run m g, (θ_run _ _ _).mono (fun r h c => ?_) (Cert.UdReferenceIdeal.Value.run m' g')⟩
  have e := h c
  rw [(hm c).1, (hm c).2.1, (hm c).2.2.1, (hm c).2.2.2] at e ⊢
  exact e

/-- The AdamW step of the poles. -/
theorem algebraic_ue : Cert.algebraic_UeKernelIdeal_UeReferenceIdeal := by
  intro m g m' g' _ hm
  refine ⟨fun c i => adamDelta (m ((c.tc : Thread _ _).loc Cert.UeKernelIdeal.main_arg0) i) (m ((c.tc : Thread _ _).loc Cert.UeKernelIdeal.main_arg1) i)
      (m ((c.tc : Thread _ _).loc Cert.UeKernelIdeal.main_arg2) i) (m ((c.tc : Thread _ _).loc Cert.UeKernelIdeal.main_arg3) i),
    fun c i => adamMean (m ((c.tc : Thread _ _).loc Cert.UeKernelIdeal.main_arg1) i) (m ((c.tc : Thread _ _).loc Cert.UeKernelIdeal.main_arg2) i),
    fun c i => adamVar (m ((c.tc : Thread _ _).loc Cert.UeKernelIdeal.main_arg1) i) (m ((c.tc : Thread _ _).loc Cert.UeKernelIdeal.main_arg3) i),
    Cert.UeKernelIdeal.Value.run m g, (θ_run _ _ _).mono (fun r h c => ?_) (Cert.UeReferenceIdeal.Value.run m' g')⟩
  have e := h c
  rw [(hm c).1, (hm c).2.1, (hm c).2.2.1, (hm c).2.2.2] at e ⊢
  exact e

/-- The AdamW step of the recurrence's input weights. -/
theorem algebraic_uf : Cert.algebraic_UfKernelIdeal_UfReferenceIdeal := by
  intro m g m' g' _ hm
  refine ⟨fun c i => adamDelta (m ((c.tc : Thread _ _).loc Cert.UfKernelIdeal.main_arg0) i) (m ((c.tc : Thread _ _).loc Cert.UfKernelIdeal.main_arg1) i)
      (m ((c.tc : Thread _ _).loc Cert.UfKernelIdeal.main_arg2) i) (m ((c.tc : Thread _ _).loc Cert.UfKernelIdeal.main_arg3) i),
    fun c i => adamMean (m ((c.tc : Thread _ _).loc Cert.UfKernelIdeal.main_arg1) i) (m ((c.tc : Thread _ _).loc Cert.UfKernelIdeal.main_arg2) i),
    fun c i => adamVar (m ((c.tc : Thread _ _).loc Cert.UfKernelIdeal.main_arg1) i) (m ((c.tc : Thread _ _).loc Cert.UfKernelIdeal.main_arg3) i),
    Cert.UfKernelIdeal.Value.run m g, (θ_run _ _ _).mono (fun r h c => ?_) (Cert.UfReferenceIdeal.Value.run m' g')⟩
  have e := h c
  rw [(hm c).1, (hm c).2.1, (hm c).2.2.1, (hm c).2.2.2] at e ⊢
  exact e

/-- The AdamW step of the recurrence's output weights. -/
theorem algebraic_ug : Cert.algebraic_UgKernelIdeal_UgReferenceIdeal := by
  intro m g m' g' _ hm
  refine ⟨fun c i => adamDelta (m ((c.tc : Thread _ _).loc Cert.UgKernelIdeal.main_arg0) i) (m ((c.tc : Thread _ _).loc Cert.UgKernelIdeal.main_arg1) i)
      (m ((c.tc : Thread _ _).loc Cert.UgKernelIdeal.main_arg2) i) (m ((c.tc : Thread _ _).loc Cert.UgKernelIdeal.main_arg3) i),
    fun c i => adamMean (m ((c.tc : Thread _ _).loc Cert.UgKernelIdeal.main_arg1) i) (m ((c.tc : Thread _ _).loc Cert.UgKernelIdeal.main_arg2) i),
    fun c i => adamVar (m ((c.tc : Thread _ _).loc Cert.UgKernelIdeal.main_arg1) i) (m ((c.tc : Thread _ _).loc Cert.UgKernelIdeal.main_arg3) i),
    Cert.UgKernelIdeal.Value.run m g, (θ_run _ _ _).mono (fun r h c => ?_) (Cert.UgReferenceIdeal.Value.run m' g')⟩
  have e := h c
  rw [(hm c).1, (hm c).2.1, (hm c).2.2.1, (hm c).2.2.2] at e ⊢
  exact e

/-- The AdamW step of the skip weights and the output gate's bias. -/
theorem algebraic_uh : Cert.algebraic_UhKernelIdeal_UhReferenceIdeal := by
  intro m g m' g' _ hm
  refine ⟨fun c i => adamDelta (m ((c.tc : Thread _ _).loc Cert.UhKernelIdeal.main_arg0) i) (m ((c.tc : Thread _ _).loc Cert.UhKernelIdeal.main_arg1) i)
      (m ((c.tc : Thread _ _).loc Cert.UhKernelIdeal.main_arg2) i) (m ((c.tc : Thread _ _).loc Cert.UhKernelIdeal.main_arg3) i),
    fun c i => adamMean (m ((c.tc : Thread _ _).loc Cert.UhKernelIdeal.main_arg1) i) (m ((c.tc : Thread _ _).loc Cert.UhKernelIdeal.main_arg2) i),
    fun c i => adamVar (m ((c.tc : Thread _ _).loc Cert.UhKernelIdeal.main_arg1) i) (m ((c.tc : Thread _ _).loc Cert.UhKernelIdeal.main_arg3) i),
    Cert.UhKernelIdeal.Value.run m g, (θ_run _ _ _).mono (fun r h c => ?_) (Cert.UhReferenceIdeal.Value.run m' g')⟩
  have e := h c
  rw [(hm c).1, (hm c).2.1, (hm c).2.2.1, (hm c).2.2.2] at e ⊢
  exact e

end Cert.Proof

end
-- ==== Proof.RefFrames.lean ====
module

public import proofs.«01_k».proof.Defs
public import proofs.«01_k».proof.Proof.Gen.DactReferenceIdeal.Run
public import proofs.«01_k».proof.Proof.Gen.DwoReferenceIdeal.Run
public import proofs.«01_k».proof.Proof.Gen.DhReferenceIdeal.Run
public import proofs.«01_k».proof.Proof.Gen.DwiReferenceIdeal.Run
public import proofs.«01_k».proof.Proof.Gen.DmReferenceIdeal.Run
public import proofs.«01_k».proof.Proof.Gen.DwmReferenceIdeal.Run
public import proofs.«01_k».proof.Proof.Gen.DyaReferenceIdeal.Run
public import proofs.«01_k».proof.Proof.Gen.DwaReferenceIdeal.Run
public import proofs.«01_k».proof.Proof.Gen.DygReferenceIdeal.Run
public import proofs.«01_k».proof.Proof.Gen.DwgReferenceIdeal.Run
public import proofs.«01_k».proof.Proof.Gen.DzReferenceIdeal.Run
public import proofs.«01_k».proof.Proof.Gen.DwzReferenceIdeal.Run
public import proofs.«01_k».proof.Proof.Gen.FzReferenceIdeal.Run
public import proofs.«01_k».proof.Proof.Gen.FgReferenceIdeal.Run
public import proofs.«01_k».proof.Proof.Gen.FaReferenceIdeal.Run
public import proofs.«01_k».proof.Proof.Gen.FmReferenceIdeal.Run
public import proofs.«01_k».proof.Proof.Gen.FiReferenceIdeal.Run
public import proofs.«01_k».proof.Proof.Gen.FoReferenceIdeal.Run
public import proofs.«01_k».proof.Proof.Gen.GateReferenceIdeal.Run
public import proofs.«01_k».proof.Proof.Gen.SwbReferenceIdeal.Run
public import proofs.«01_k».proof.Proof.Gen.NbReferenceIdeal.Run
public import proofs.«01_k».proof.Proof.Gen.GbReferenceIdeal.Run
public import proofs.«01_k».proof.Proof.Gen.GebReferenceIdeal.Run
public import proofs.«01_k».proof.Proof.Gen.NormReferenceIdeal.Run
public import proofs.«01_k».proof.Proof.Gen.GeluReferenceIdeal.Run
public import proofs.«01_k».proof.Proof.Gen.GluReferenceIdeal.Run
public import proofs.«01_k».proof.Proof.Gen.MergeReferenceIdeal.Run
public import proofs.«01_k».proof.Proof.Gen.SwfReferenceIdeal.Run
public import proofs.«01_k».proof.Proof.Gen.UaReferenceIdeal.Run
public import proofs.«01_k».proof.Proof.Gen.UbReferenceIdeal.Run
public import proofs.«01_k».proof.Proof.Gen.UcReferenceIdeal.Run
public import proofs.«01_k».proof.Proof.Gen.UdReferenceIdeal.Run
public import proofs.«01_k».proof.Proof.Gen.UeReferenceIdeal.Run
public import proofs.«01_k».proof.Proof.Gen.UfReferenceIdeal.Run
public import proofs.«01_k».proof.Proof.Gen.UgReferenceIdeal.Run
public import proofs.«01_k».proof.Proof.Gen.UhReferenceIdeal.Run
public import Idealize.ShloMosaic.Lib.Quiescent

/-! The references declare no semaphore, so their runs end with every counter at zero: each frame is the run read at
   the arguments. -/

@[expose] public section

noncomputable section

namespace Cert.Proof

open Idealize.ShloMosaic Idealize.SL.Sem

/-- The reference of `Dact` runs and keeps its arguments. -/
theorem frame_ri_dact : Cert.quiescent_DactReferenceIdeal := fun m ρ _ =>
  (θ_run Cert.DactReferenceIdeal.defs _ _).mono (fun r h => ⟨fun c => (h c).2, sem_eq_zero_of_no_sems (by decide) r.2⟩)
    (Cert.DactReferenceIdeal.Value.run (F := Ideal) m ρ)

/-- The reference of `Dwo` runs and keeps its arguments. -/
theorem frame_ri_dwo : Cert.quiescent_DwoReferenceIdeal := fun m ρ _ =>
  (θ_run Cert.DwoReferenceIdeal.defs _ _).mono (fun r h => ⟨fun c => (h c).2, sem_eq_zero_of_no_sems (by decide) r.2⟩)
    (Cert.DwoReferenceIdeal.Value.run (F := Ideal) m ρ)

/-- The reference of `Dh` runs and keeps its arguments. -/
theorem frame_ri_dh : Cert.quiescent_DhReferenceIdeal := fun m ρ _ =>
  (θ_run Cert.DhReferenceIdeal.defs _ _).mono (fun r h => ⟨fun c => (h c).2, sem_eq_zero_of_no_sems (by decide) r.2⟩)
    (Cert.DhReferenceIdeal.Value.run (F := Ideal) m ρ)

/-- The reference of `Dwi` runs and keeps its arguments. -/
theorem frame_ri_dwi : Cert.quiescent_DwiReferenceIdeal := fun m ρ _ =>
  (θ_run Cert.DwiReferenceIdeal.defs _ _).mono (fun r h => ⟨fun c => (h c).2, sem_eq_zero_of_no_sems (by decide) r.2⟩)
    (Cert.DwiReferenceIdeal.Value.run (F := Ideal) m ρ)

/-- The reference of `Dm` runs and keeps its arguments. -/
theorem frame_ri_dm : Cert.quiescent_DmReferenceIdeal := fun m ρ _ =>
  (θ_run Cert.DmReferenceIdeal.defs _ _).mono (fun r h => ⟨fun c => (h c).2, sem_eq_zero_of_no_sems (by decide) r.2⟩)
    (Cert.DmReferenceIdeal.Value.run (F := Ideal) m ρ)

/-- The reference of `Dwm` runs and keeps its arguments. -/
theorem frame_ri_dwm : Cert.quiescent_DwmReferenceIdeal := fun m ρ _ =>
  (θ_run Cert.DwmReferenceIdeal.defs _ _).mono (fun r h => ⟨fun c => (h c).2, sem_eq_zero_of_no_sems (by decide) r.2⟩)
    (Cert.DwmReferenceIdeal.Value.run (F := Ideal) m ρ)

/-- The reference of `Dya` runs and keeps its arguments. -/
theorem frame_ri_dya : Cert.quiescent_DyaReferenceIdeal := fun m ρ _ =>
  (θ_run Cert.DyaReferenceIdeal.defs _ _).mono (fun r h => ⟨fun c => (h c).2, sem_eq_zero_of_no_sems (by decide) r.2⟩)
    (Cert.DyaReferenceIdeal.Value.run (F := Ideal) m ρ)

/-- The reference of `Dwa` runs and keeps its arguments. -/
theorem frame_ri_dwa : Cert.quiescent_DwaReferenceIdeal := fun m ρ _ =>
  (θ_run Cert.DwaReferenceIdeal.defs _ _).mono (fun r h => ⟨fun c => (h c).2, sem_eq_zero_of_no_sems (by decide) r.2⟩)
    (Cert.DwaReferenceIdeal.Value.run (F := Ideal) m ρ)

/-- The reference of `Dyg` runs and keeps its arguments. -/
theorem frame_ri_dyg : Cert.quiescent_DygReferenceIdeal := fun m ρ _ =>
  (θ_run Cert.DygReferenceIdeal.defs _ _).mono (fun r h => ⟨fun c => (h c).2, sem_eq_zero_of_no_sems (by decide) r.2⟩)
    (Cert.DygReferenceIdeal.Value.run (F := Ideal) m ρ)

/-- The reference of `Dwg` runs and keeps its arguments. -/
theorem frame_ri_dwg : Cert.quiescent_DwgReferenceIdeal := fun m ρ _ =>
  (θ_run Cert.DwgReferenceIdeal.defs _ _).mono (fun r h => ⟨fun c => (h c).2, sem_eq_zero_of_no_sems (by decide) r.2⟩)
    (Cert.DwgReferenceIdeal.Value.run (F := Ideal) m ρ)

/-- The reference of `Dz` runs and keeps its arguments. -/
theorem frame_ri_dz : Cert.quiescent_DzReferenceIdeal := fun m ρ _ =>
  (θ_run Cert.DzReferenceIdeal.defs _ _).mono (fun r h => ⟨fun c => (h c).2, sem_eq_zero_of_no_sems (by decide) r.2⟩)
    (Cert.DzReferenceIdeal.Value.run (F := Ideal) m ρ)

/-- The reference of `Dwz` runs and keeps its arguments. -/
theorem frame_ri_dwz : Cert.quiescent_DwzReferenceIdeal := fun m ρ _ =>
  (θ_run Cert.DwzReferenceIdeal.defs _ _).mono (fun r h => ⟨fun c => (h c).2, sem_eq_zero_of_no_sems (by decide) r.2⟩)
    (Cert.DwzReferenceIdeal.Value.run (F := Ideal) m ρ)

/-- The reference of `Fz` runs and keeps its arguments. -/
theorem frame_ri_fz : Cert.quiescent_FzReferenceIdeal := fun m ρ _ =>
  (θ_run Cert.FzReferenceIdeal.defs _ _).mono (fun r h => ⟨fun c => (h c).2, sem_eq_zero_of_no_sems (by decide) r.2⟩)
    (Cert.FzReferenceIdeal.Value.run (F := Ideal) m ρ)

/-- The reference of `Fg` runs and keeps its arguments. -/
theorem frame_ri_fg : Cert.quiescent_FgReferenceIdeal := fun m ρ _ =>
  (θ_run Cert.FgReferenceIdeal.defs _ _).mono (fun r h => ⟨fun c => (h c).2, sem_eq_zero_of_no_sems (by decide) r.2⟩)
    (Cert.FgReferenceIdeal.Value.run (F := Ideal) m ρ)

/-- The reference of `Fa` runs and keeps its arguments. -/
theorem frame_ri_fa : Cert.quiescent_FaReferenceIdeal := fun m ρ _ =>
  (θ_run Cert.FaReferenceIdeal.defs _ _).mono (fun r h => ⟨fun c => (h c).2, sem_eq_zero_of_no_sems (by decide) r.2⟩)
    (Cert.FaReferenceIdeal.Value.run (F := Ideal) m ρ)

/-- The reference of `Fm` runs and keeps its arguments. -/
theorem frame_ri_fm : Cert.quiescent_FmReferenceIdeal := fun m ρ _ =>
  (θ_run Cert.FmReferenceIdeal.defs _ _).mono (fun r h => ⟨fun c => (h c).2, sem_eq_zero_of_no_sems (by decide) r.2⟩)
    (Cert.FmReferenceIdeal.Value.run (F := Ideal) m ρ)

/-- The reference of `Fi` runs and keeps its arguments. -/
theorem frame_ri_fi : Cert.quiescent_FiReferenceIdeal := fun m ρ _ =>
  (θ_run Cert.FiReferenceIdeal.defs _ _).mono (fun r h => ⟨fun c => (h c).2, sem_eq_zero_of_no_sems (by decide) r.2⟩)
    (Cert.FiReferenceIdeal.Value.run (F := Ideal) m ρ)

/-- The reference of `Fo` runs and keeps its arguments. -/
theorem frame_ri_fo : Cert.quiescent_FoReferenceIdeal := fun m ρ _ =>
  (θ_run Cert.FoReferenceIdeal.defs _ _).mono (fun r h => ⟨fun c => (h c).2, sem_eq_zero_of_no_sems (by decide) r.2⟩)
    (Cert.FoReferenceIdeal.Value.run (F := Ideal) m ρ)

/-- The reference of `Gate` runs and keeps its arguments. -/
theorem frame_ri_gate : Cert.quiescent_GateReferenceIdeal := fun m ρ _ =>
  (θ_run Cert.GateReferenceIdeal.defs _ _).mono (fun r h => ⟨fun c => (h c).2.2.2.2.2.2, sem_eq_zero_of_no_sems (by decide) r.2⟩)
    (Cert.GateReferenceIdeal.Value.run (F := Ideal) m ρ)

/-- The reference of `Swb` runs and keeps its arguments. -/
theorem frame_ri_swb : Cert.quiescent_SwbReferenceIdeal := fun m ρ _ =>
  (θ_run Cert.SwbReferenceIdeal.defs _ _).mono (fun r h => ⟨fun c => (h c).2, sem_eq_zero_of_no_sems (by decide) r.2⟩)
    (Cert.SwbReferenceIdeal.Value.run (F := Ideal) m ρ)

/-- The reference of `Nb` runs and keeps its arguments. -/
theorem frame_ri_nb : Cert.quiescent_NbReferenceIdeal := fun m ρ _ =>
  (θ_run Cert.NbReferenceIdeal.defs _ _).mono (fun r h => ⟨fun c => (h c).2.2.2, sem_eq_zero_of_no_sems (by decide) r.2⟩)
    (Cert.NbReferenceIdeal.Value.run (F := Ideal) m ρ)

/-- The reference of `Gb` runs and keeps its arguments. -/
theorem frame_ri_gb : Cert.quiescent_GbReferenceIdeal := fun m ρ _ =>
  (θ_run Cert.GbReferenceIdeal.defs _ _).mono (fun r h => ⟨fun c => (h c).2.2.2, sem_eq_zero_of_no_sems (by decide) r.2⟩)
    (Cert.GbReferenceIdeal.Value.run (F := Ideal) m ρ)

/-- The reference of `Geb` runs and keeps its arguments. -/
theorem frame_ri_geb : Cert.quiescent_GebReferenceIdeal := fun m ρ _ =>
  (θ_run Cert.GebReferenceIdeal.defs _ _).mono (fun r h => ⟨fun c => (h c).2, sem_eq_zero_of_no_sems (by decide) r.2⟩)
    (Cert.GebReferenceIdeal.Value.run (F := Ideal) m ρ)

/-- The reference of `Norm` runs and keeps its arguments. -/
theorem frame_ri_norm : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

/-- The reference of `Gelu` runs and keeps its arguments. -/
theorem frame_ri_gelu : Cert.quiescent_GeluReferenceIdeal := fun m ρ _ =>
  (θ_run Cert.GeluReferenceIdeal.defs _ _).mono (fun r h => ⟨fun c => (h c).2, sem_eq_zero_of_no_sems (by decide) r.2⟩)
    (Cert.GeluReferenceIdeal.Value.run (F := Ideal) m ρ)

/-- The reference of `Glu` runs and keeps its arguments. -/
theorem frame_ri_glu : Cert.quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run (F := Ideal) m ρ)

/-- The reference of `Merge` runs and keeps its arguments. -/
theorem frame_ri_merge : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The reference of `Swf` runs and keeps its arguments. -/
theorem frame_ri_swf : Cert.quiescent_SwfReferenceIdeal := fun m ρ _ =>
  (θ_run Cert.SwfReferenceIdeal.defs _ _).mono (fun r h => ⟨fun c => (h c).2, sem_eq_zero_of_no_sems (by decide) r.2⟩)
    (Cert.SwfReferenceIdeal.Value.run (F := Ideal) m ρ)

/-- The reference of `Ua` runs and keeps its arguments. -/
theorem frame_ri_ua : Cert.quiescent_UaReferenceIdeal := fun m ρ _ =>
  (θ_run Cert.UaReferenceIdeal.defs _ _).mono (fun r h => ⟨fun c => (h c).2.2.2, sem_eq_zero_of_no_sems (by decide) r.2⟩)
    (Cert.UaReferenceIdeal.Value.run (F := Ideal) m ρ)

/-- The reference of `Ub` runs and keeps its arguments. -/
theorem frame_ri_ub : Cert.quiescent_UbReferenceIdeal := fun m ρ _ =>
  (θ_run Cert.UbReferenceIdeal.defs _ _).mono (fun r h => ⟨fun c => (h c).2.2.2, sem_eq_zero_of_no_sems (by decide) r.2⟩)
    (Cert.UbReferenceIdeal.Value.run (F := Ideal) m ρ)

/-- The reference of `Uc` runs and keeps its arguments. -/
theorem frame_ri_uc : Cert.quiescent_UcReferenceIdeal := fun m ρ _ =>
  (θ_run Cert.UcReferenceIdeal.defs _ _).mono (fun r h => ⟨fun c => (h c).2.2.2, sem_eq_zero_of_no_sems (by decide) r.2⟩)
    (Cert.UcReferenceIdeal.Value.run (F := Ideal) m ρ)

/-- The reference of `Ud` runs and keeps its arguments. -/
theorem frame_ri_ud : Cert.quiescent_UdReferenceIdeal := fun m ρ _ =>
  (θ_run Cert.UdReferenceIdeal.defs _ _).mono (fun r h => ⟨fun c => (h c).2.2.2, sem_eq_zero_of_no_sems (by decide) r.2⟩)
    (Cert.UdReferenceIdeal.Value.run (F := Ideal) m ρ)

/-- The reference of `Ue` runs and keeps its arguments. -/
theorem frame_ri_ue : Cert.quiescent_UeReferenceIdeal := fun m ρ _ =>
  (θ_run Cert.UeReferenceIdeal.defs _ _).mono (fun r h => ⟨fun c => (h c).2.2.2, sem_eq_zero_of_no_sems (by decide) r.2⟩)
    (Cert.UeReferenceIdeal.Value.run (F := Ideal) m ρ)

/-- The reference of `Uf` runs and keeps its arguments. -/
theorem frame_ri_uf : Cert.quiescent_UfReferenceIdeal := fun m ρ _ =>
  (θ_run Cert.UfReferenceIdeal.defs _ _).mono (fun r h => ⟨fun c => (h c).2.2.2, sem_eq_zero_of_no_sems (by decide) r.2⟩)
    (Cert.UfReferenceIdeal.Value.run (F := Ideal) m ρ)

/-- The reference of `Ug` runs and keeps its arguments. -/
theorem frame_ri_ug : Cert.quiescent_UgReferenceIdeal := fun m ρ _ =>
  (θ_run Cert.UgReferenceIdeal.defs _ _).mono (fun r h => ⟨fun c => (h c).2.2.2, sem_eq_zero_of_no_sems (by decide) r.2⟩)
    (Cert.UgReferenceIdeal.Value.run (F := Ideal) m ρ)

/-- The reference of `Uh` runs and keeps its arguments. -/
theorem frame_ri_uh : Cert.quiescent_UhReferenceIdeal := fun m ρ _ =>
  (θ_run Cert.UhReferenceIdeal.defs _ _).mono (fun r h => ⟨fun c => (h c).2.2.2, sem_eq_zero_of_no_sems (by decide) r.2⟩)
    (Cert.UhReferenceIdeal.Value.run (F := Ideal) m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KFrame.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.AttnFrame
public import proofs.«01_k».proof.Proof.Gen.DactKernel
public import proofs.«01_k».proof.Proof.Gen.DactKernel.Skeleton
public import proofs.«01_k».proof.Proof.Gen.DactKernel.Launch
public import proofs.«01_k».proof.Proof.Gen.DactKernel.Points
public import proofs.«01_k».proof.Proof.Gen.DactKernel.Frame
public import proofs.«01_k».proof.Proof.Gen.DactKernelIdeal
public import proofs.«01_k».proof.Proof.Gen.DactKernelIdeal.Skeleton
public import proofs.«01_k».proof.Proof.Gen.DactKernelIdeal.Launch
public import proofs.«01_k».proof.Proof.Gen.DactKernelIdeal.Points
public import proofs.«01_k».proof.Proof.Gen.DactKernelIdeal.Frame
public import proofs.«01_k».proof.Proof.Gen.DactReferenceIdeal
public import proofs.«01_k».proof.Proof.Gen.DwoKernel
public import proofs.«01_k».proof.Proof.Gen.DwoKernel.Skeleton
public import proofs.«01_k».proof.Proof.Gen.DwoKernel.Launch
public import proofs.«01_k».proof.Proof.Gen.DwoKernel.Points
public import proofs.«01_k».proof.Proof.Gen.DwoKernel.Frame
public import proofs.«01_k».proof.Proof.Gen.DwoKernelIdeal
public import proofs.«01_k».proof.Proof.Gen.DwoKernelIdeal.Skeleton
public import proofs.«01_k».proof.Proof.Gen.DwoKernelIdeal.Launch
public import proofs.«01_k».proof.Proof.Gen.DwoKernelIdeal.Points
public import proofs.«01_k».proof.Proof.Gen.DwoKernelIdeal.Frame
public import proofs.«01_k».proof.Proof.Gen.DwoReferenceIdeal
public import proofs.«01_k».proof.Proof.Gen.DhKernel
public import proofs.«01_k».proof.Proof.Gen.DhKernel.Skeleton
public import proofs.«01_k».proof.Proof.Gen.DhKernel.Launch
public import proofs.«01_k».proof.Proof.Gen.DhKernel.Points
public import proofs.«01_k».proof.Proof.Gen.DhKernel.Frame
public import proofs.«01_k».proof.Proof.Gen.DhKernelIdeal
public import proofs.«01_k».proof.Proof.Gen.DhKernelIdeal.Skeleton
public import proofs.«01_k».proof.Proof.Gen.DhKernelIdeal.Launch
public import proofs.«01_k».proof.Proof.Gen.DhKernelIdeal.Points
public import proofs.«01_k».proof.Proof.Gen.DhKernelIdeal.Frame
public import proofs.«01_k».proof.Proof.Gen.DhReferenceIdeal
public import proofs.«01_k».proof.Proof.Gen.DwiKernel
public import proofs.«01_k».proof.Proof.Gen.DwiKernel.Skeleton
public import proofs.«01_k».proof.Proof.Gen.DwiKernel.Launch
public import proofs.«01_k».proof.Proof.Gen.DwiKernel.Points
public import proofs.«01_k».proof.Proof.Gen.DwiKernel.Frame
public import proofs.«01_k».proof.Proof.Gen.DwiKernelIdeal
public import proofs.«01_k».proof.Proof.Gen.DwiKernelIdeal.Skeleton
public import proofs.«01_k».proof.Proof.Gen.DwiKernelIdeal.Launch
public import proofs.«01_k».proof.Proof.Gen.DwiKernelIdeal.Points
public import proofs.«01_k».proof.Proof.Gen.DwiKernelIdeal.Frame
public import proofs.«01_k».proof.Proof.Gen.DwiReferenceIdeal
public import proofs.«01_k».proof.Proof.Gen.DmKernel
public import proofs.«01_k».proof.Proof.Gen.DmKernel.Skeleton
public import proofs.«01_k».proof.Proof.Gen.DmKernel.Launch
public import proofs.«01_k».proof.Proof.Gen.DmKernel.Points
public import proofs.«01_k».proof.Proof.Gen.DmKernel.Frame
public import proofs.«01_k».proof.Proof.Gen.DmKernelIdeal
public import proofs.«01_k».proof.Proof.Gen.DmKernelIdeal.Skeleton
public import proofs.«01_k».proof.Proof.Gen.DmKernelIdeal.Launch
public import proofs.«01_k».proof.Proof.Gen.DmKernelIdeal.Points
public import proofs.«01_k».proof.Proof.Gen.DmKernelIdeal.Frame
public import proofs.«01_k».proof.Proof.Gen.DmReferenceIdeal
public import proofs.«01_k».proof.Proof.Gen.DwmKernel
public import proofs.«01_k».proof.Proof.Gen.DwmKernel.Skeleton
public import proofs.«01_k».proof.Proof.Gen.DwmKernel.Launch
public import proofs.«01_k».proof.Proof.Gen.DwmKernel.Points
public import proofs.«01_k».proof.Proof.Gen.DwmKernel.Frame
public import proofs.«01_k».proof.Proof.Gen.DwmKernelIdeal
public import proofs.«01_k».proof.Proof.Gen.DwmKernelIdeal.Skeleton
public import proofs.«01_k».proof.Proof.Gen.DwmKernelIdeal.Launch
public import proofs.«01_k».proof.Proof.Gen.DwmKernelIdeal.Points
public import proofs.«01_k».proof.Proof.Gen.DwmKernelIdeal.Frame
public import proofs.«01_k».proof.Proof.Gen.DwmReferenceIdeal
public import proofs.«01_k».proof.Proof.Gen.DyaKernel
public import proofs.«01_k».proof.Proof.Gen.DyaKernel.Skeleton
public import proofs.«01_k».proof.Proof.Gen.DyaKernel.Launch
public import proofs.«01_k».proof.Proof.Gen.DyaKernel.Points
public import proofs.«01_k».proof.Proof.Gen.DyaKernel.Frame
public import proofs.«01_k».proof.Proof.Gen.DyaKernelIdeal
public import proofs.«01_k».proof.Proof.Gen.DyaKernelIdeal.Skeleton
public import proofs.«01_k».proof.Proof.Gen.DyaKernelIdeal.Launch
public import proofs.«01_k».proof.Proof.Gen.DyaKernelIdeal.Points
public import proofs.«01_k».proof.Proof.Gen.DyaKernelIdeal.Frame
public import proofs.«01_k».proof.Proof.Gen.DyaReferenceIdeal
public import proofs.«01_k».proof.Proof.Gen.DwaKernel
public import proofs.«01_k».proof.Proof.Gen.DwaKernel.Skeleton
public import proofs.«01_k».proof.Proof.Gen.DwaKernel.Launch
public import proofs.«01_k».proof.Proof.Gen.DwaKernel.Points
public import proofs.«01_k».proof.Proof.Gen.DwaKernel.Frame
public import proofs.«01_k».proof.Proof.Gen.DwaKernelIdeal
public import proofs.«01_k».proof.Proof.Gen.DwaKernelIdeal.Skeleton
public import proofs.«01_k».proof.Proof.Gen.DwaKernelIdeal.Launch
public import proofs.«01_k».proof.Proof.Gen.DwaKernelIdeal.Points
public import proofs.«01_k».proof.Proof.Gen.DwaKernelIdeal.Frame
public import proofs.«01_k».proof.Proof.Gen.DwaReferenceIdeal
public import proofs.«01_k».proof.Proof.Gen.DygKernel
public import proofs.«01_k».proof.Proof.Gen.DygKernel.Skeleton
public import proofs.«01_k».proof.Proof.Gen.DygKernel.Launch
public import proofs.«01_k».proof.Proof.Gen.DygKernel.Points
public import proofs.«01_k».proof.Proof.Gen.DygKernel.Frame
public import proofs.«01_k».proof.Proof.Gen.DygKernelIdeal
public import proofs.«01_k».proof.Proof.Gen.DygKernelIdeal.Skeleton
public import proofs.«01_k».proof.Proof.Gen.DygKernelIdeal.Launch
public import proofs.«01_k».proof.Proof.Gen.DygKernelIdeal.Points
public import proofs.«01_k».proof.Proof.Gen.DygKernelIdeal.Frame
public import proofs.«01_k».proof.Proof.Gen.DygReferenceIdeal
public import proofs.«01_k».proof.Proof.Gen.DwgKernel
public import proofs.«01_k».proof.Proof.Gen.DwgKernel.Skeleton
public import proofs.«01_k».proof.Proof.Gen.DwgKernel.Launch
public import proofs.«01_k».proof.Proof.Gen.DwgKernel.Points
public import proofs.«01_k».proof.Proof.Gen.DwgKernel.Frame
public import proofs.«01_k».proof.Proof.Gen.DwgKernelIdeal
public import proofs.«01_k».proof.Proof.Gen.DwgKernelIdeal.Skeleton
public import proofs.«01_k».proof.Proof.Gen.DwgKernelIdeal.Launch
public import proofs.«01_k».proof.Proof.Gen.DwgKernelIdeal.Points
public import proofs.«01_k».proof.Proof.Gen.DwgKernelIdeal.Frame
public import proofs.«01_k».proof.Proof.Gen.DwgReferenceIdeal
public import proofs.«01_k».proof.Proof.Gen.DzKernel
public import proofs.«01_k».proof.Proof.Gen.DzKernel.Skeleton
public import proofs.«01_k».proof.Proof.Gen.DzKernel.Launch
public import proofs.«01_k».proof.Proof.Gen.DzKernel.Points
public import proofs.«01_k».proof.Proof.Gen.DzKernel.Frame
public import proofs.«01_k».proof.Proof.Gen.DzKernelIdeal
public import proofs.«01_k».proof.Proof.Gen.DzKernelIdeal.Skeleton
public import proofs.«01_k».proof.Proof.Gen.DzKernelIdeal.Launch
public import proofs.«01_k».proof.Proof.Gen.DzKernelIdeal.Points
public import proofs.«01_k».proof.Proof.Gen.DzKernelIdeal.Frame
public import proofs.«01_k».proof.Proof.Gen.DzReferenceIdeal
public import proofs.«01_k».proof.Proof.Gen.DwzKernel
public import proofs.«01_k».proof.Proof.Gen.DwzKernel.Skeleton
public import proofs.«01_k».proof.Proof.Gen.DwzKernel.Launch
public import proofs.«01_k».proof.Proof.Gen.DwzKernel.Points
public import proofs.«01_k».proof.Proof.Gen.DwzKernel.Frame
public import proofs.«01_k».proof.Proof.Gen.DwzKernelIdeal
public import proofs.«01_k».proof.Proof.Gen.DwzKernelIdeal.Skeleton
public import proofs.«01_k».proof.Proof.Gen.DwzKernelIdeal.Launch
public import proofs.«01_k».proof.Proof.Gen.DwzKernelIdeal.Points
public import proofs.«01_k».proof.Proof.Gen.DwzKernelIdeal.Frame
public import proofs.«01_k».proof.Proof.Gen.DwzReferenceIdeal
public import proofs.«01_k».proof.Proof.Gen.FzKernel
public import proofs.«01_k».proof.Proof.Gen.FzKernel.Skeleton
public import proofs.«01_k».proof.Proof.Gen.FzKernel.Launch
public import proofs.«01_k».proof.Proof.Gen.FzKernel.Points
public import proofs.«01_k».proof.Proof.Gen.FzKernel.Frame
public import proofs.«01_k».proof.Proof.Gen.FzKernelIdeal
public import proofs.«01_k».proof.Proof.Gen.FzKernelIdeal.Skeleton
public import proofs.«01_k».proof.Proof.Gen.FzKernelIdeal.Launch
public import proofs.«01_k».proof.Proof.Gen.FzKernelIdeal.Points
public import proofs.«01_k».proof.Proof.Gen.FzKernelIdeal.Frame
public import proofs.«01_k».proof.Proof.Gen.FzReferenceIdeal
public import proofs.«01_k».proof.Proof.Gen.FgKernel
public import proofs.«01_k».proof.Proof.Gen.FgKernel.Skeleton
public import proofs.«01_k».proof.Proof.Gen.FgKernel.Launch
public import proofs.«01_k».proof.Proof.Gen.FgKernel.Points
public import proofs.«01_k».proof.Proof.Gen.FgKernel.Frame
public import proofs.«01_k».proof.Proof.Gen.FgKernelIdeal
public import proofs.«01_k».proof.Proof.Gen.FgKernelIdeal.Skeleton
public import proofs.«01_k».proof.Proof.Gen.FgKernelIdeal.Launch
public import proofs.«01_k».proof.Proof.Gen.FgKernelIdeal.Points
public import proofs.«01_k».proof.Proof.Gen.FgKernelIdeal.Frame
public import proofs.«01_k».proof.Proof.Gen.FgReferenceIdeal
public import proofs.«01_k».proof.Proof.Gen.FaKernel
public import proofs.«01_k».proof.Proof.Gen.FaKernel.Skeleton
public import proofs.«01_k».proof.Proof.Gen.FaKernel.Launch
public import proofs.«01_k».proof.Proof.Gen.FaKernel.Points
public import proofs.«01_k».proof.Proof.Gen.FaKernel.Frame
public import proofs.«01_k».proof.Proof.Gen.FaKernelIdeal
public import proofs.«01_k».proof.Proof.Gen.FaKernelIdeal.Skeleton
public import proofs.«01_k».proof.Proof.Gen.FaKernelIdeal.Launch
public import proofs.«01_k».proof.Proof.Gen.FaKernelIdeal.Points
public import proofs.«01_k».proof.Proof.Gen.FaKernelIdeal.Frame
public import proofs.«01_k».proof.Proof.Gen.FaReferenceIdeal
public import proofs.«01_k».proof.Proof.Gen.FmKernel
public import proofs.«01_k».proof.Proof.Gen.FmKernel.Skeleton
public import proofs.«01_k».proof.Proof.Gen.FmKernel.Launch
public import proofs.«01_k».proof.Proof.Gen.FmKernel.Points
public import proofs.«01_k».proof.Proof.Gen.FmKernel.Frame
public import proofs.«01_k».proof.Proof.Gen.FmKernelIdeal
public import proofs.«01_k».proof.Proof.Gen.FmKernelIdeal.Skeleton
public import proofs.«01_k».proof.Proof.Gen.FmKernelIdeal.Launch
public import proofs.«01_k».proof.Proof.Gen.FmKernelIdeal.Points
public import proofs.«01_k».proof.Proof.Gen.FmKernelIdeal.Frame
public import proofs.«01_k».proof.Proof.Gen.FmReferenceIdeal
public import proofs.«01_k».proof.Proof.Gen.FiKernel
public import proofs.«01_k».proof.Proof.Gen.FiKernel.Skeleton
public import proofs.«01_k».proof.Proof.Gen.FiKernel.Launch
public import proofs.«01_k».proof.Proof.Gen.FiKernel.Points
public import proofs.«01_k».proof.Proof.Gen.FiKernel.Frame
public import proofs.«01_k».proof.Proof.Gen.FiKernelIdeal
public import proofs.«01_k».proof.Proof.Gen.FiKernelIdeal.Skeleton
public import proofs.«01_k».proof.Proof.Gen.FiKernelIdeal.Launch
public import proofs.«01_k».proof.Proof.Gen.FiKernelIdeal.Points
public import proofs.«01_k».proof.Proof.Gen.FiKernelIdeal.Frame
public import proofs.«01_k».proof.Proof.Gen.FiReferenceIdeal
public import proofs.«01_k».proof.Proof.Gen.FoKernel
public import proofs.«01_k».proof.Proof.Gen.FoKernel.Skeleton
public import proofs.«01_k».proof.Proof.Gen.FoKernel.Launch
public import proofs.«01_k».proof.Proof.Gen.FoKernel.Points
public import proofs.«01_k».proof.Proof.Gen.FoKernel.Frame
public import proofs.«01_k».proof.Proof.Gen.FoKernelIdeal
public import proofs.«01_k».proof.Proof.Gen.FoKernelIdeal.Skeleton
public import proofs.«01_k».proof.Proof.Gen.FoKernelIdeal.Launch
public import proofs.«01_k».proof.Proof.Gen.FoKernelIdeal.Points
public import proofs.«01_k».proof.Proof.Gen.FoKernelIdeal.Frame
public import proofs.«01_k».proof.Proof.Gen.FoReferenceIdeal
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.SwbKernel
public import proofs.«01_k».proof.Proof.Gen.SwbKernel.Skeleton
public import proofs.«01_k».proof.Proof.Gen.SwbKernel.Launch
public import proofs.«01_k».proof.Proof.Gen.SwbKernel.Points
public import proofs.«01_k».proof.Proof.Gen.SwbKernel.Frame
public import proofs.«01_k».proof.Proof.Gen.SwbKernelIdeal
public import proofs.«01_k».proof.Proof.Gen.SwbKernelIdeal.Skeleton
public import proofs.«01_k».proof.Proof.Gen.SwbKernelIdeal.Launch
public import proofs.«01_k».proof.Proof.Gen.SwbKernelIdeal.Points
public import proofs.«01_k».proof.Proof.Gen.SwbKernelIdeal.Frame
public import proofs.«01_k».proof.Proof.Gen.SwbReferenceIdeal
public import proofs.«01_k».proof.Proof.Gen.NbKernel
public import proofs.«01_k».proof.Proof.Gen.NbKernel.Skeleton
public import proofs.«01_k».proof.Proof.Gen.NbKernel.Launch
public import proofs.«01_k».proof.Proof.Gen.NbKernel.Points
public import proofs.«01_k».proof.Proof.Gen.NbKernel.Frame
public import proofs.«01_k».proof.Proof.Gen.NbKernelIdeal
public import proofs.«01_k».proof.Proof.Gen.NbKernelIdeal.Skeleton
public import proofs.«01_k».proof.Proof.Gen.NbKernelIdeal.Launch
public import proofs.«01_k».proof.Proof.Gen.NbKernelIdeal.Points
public import proofs.«01_k».proof.Proof.Gen.NbKernelIdeal.Frame
public import proofs.«01_k».proof.Proof.Gen.NbReferenceIdeal
public import proofs.«01_k».proof.Proof.Gen.GbKernel
public import proofs.«01_k».proof.Proof.Gen.GbKernel.Skeleton
public import proofs.«01_k».proof.Proof.Gen.GbKernel.Launch
public import proofs.«01_k».proof.Proof.Gen.GbKernel.Points
public import proofs.«01_k».proof.Proof.Gen.GbKernel.Frame
public import proofs.«01_k».proof.Proof.Gen.GbKernelIdeal
public import proofs.«01_k».proof.Proof.Gen.GbKernelIdeal.Skeleton
public import proofs.«01_k».proof.Proof.Gen.GbKernelIdeal.Launch
public import proofs.«01_k».proof.Proof.Gen.GbKernelIdeal.Points
public import proofs.«01_k».proof.Proof.Gen.GbKernelIdeal.Frame
public import proofs.«01_k».proof.Proof.Gen.GbReferenceIdeal
public import proofs.«01_k».proof.Proof.Gen.GebKernel
public import proofs.«01_k».proof.Proof.Gen.GebKernel.Skeleton
public import proofs.«01_k».proof.Proof.Gen.GebKernel.Launch
public import proofs.«01_k».proof.Proof.Gen.GebKernel.Points
public import proofs.«01_k».proof.Proof.Gen.GebKernel.Frame
public import proofs.«01_k».proof.Proof.Gen.GebKernelIdeal
public import proofs.«01_k».proof.Proof.Gen.GebKernelIdeal.Skeleton
public import proofs.«01_k».proof.Proof.Gen.GebKernelIdeal.Launch
public import proofs.«01_k».proof.Proof.Gen.GebKernelIdeal.Points
public import proofs.«01_k».proof.Proof.Gen.GebKernelIdeal.Frame
public import proofs.«01_k».proof.Proof.Gen.GebReferenceIdeal
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.GeluKernel
public import proofs.«01_k».proof.Proof.Gen.GeluKernel.Skeleton
public import proofs.«01_k».proof.Proof.Gen.GeluKernel.Launch
public import proofs.«01_k».proof.Proof.Gen.GeluKernel.Points
public import proofs.«01_k».proof.Proof.Gen.GeluKernel.Frame
public import proofs.«01_k».proof.Proof.Gen.GeluKernelIdeal
public import proofs.«01_k».proof.Proof.Gen.GeluKernelIdeal.Skeleton
public import proofs.«01_k».proof.Proof.Gen.GeluKernelIdeal.Launch
public import proofs.«01_k».proof.Proof.Gen.GeluKernelIdeal.Points
public import proofs.«01_k».proof.Proof.Gen.GeluKernelIdeal.Frame
public import proofs.«01_k».proof.Proof.Gen.GeluReferenceIdeal
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.SwfKernel
public import proofs.«01_k».proof.Proof.Gen.SwfKernel.Skeleton
public import proofs.«01_k».proof.Proof.Gen.SwfKernel.Launch
public import proofs.«01_k».proof.Proof.Gen.SwfKernel.Points
public import proofs.«01_k».proof.Proof.Gen.SwfKernel.Frame
public import proofs.«01_k».proof.Proof.Gen.SwfKernelIdeal
public import proofs.«01_k».proof.Proof.Gen.SwfKernelIdeal.Skeleton
public import proofs.«01_k».proof.Proof.Gen.SwfKernelIdeal.Launch
public import proofs.«01_k».proof.Proof.Gen.SwfKernelIdeal.Points
public import proofs.«01_k».proof.Proof.Gen.SwfKernelIdeal.Frame
public import proofs.«01_k».proof.Proof.Gen.SwfReferenceIdeal
public import proofs.«01_k».proof.Proof.Gen.UaKernel
public import proofs.«01_k».proof.Proof.Gen.UaKernel.Skeleton
public import proofs.«01_k».proof.Proof.Gen.UaKernel.Launch
public import proofs.«01_k».proof.Proof.Gen.UaKernel.Points
public import proofs.«01_k».proof.Proof.Gen.UaKernel.Frame
public import proofs.«01_k».proof.Proof.Gen.UaKernelIdeal
public import proofs.«01_k».proof.Proof.Gen.UaKernelIdeal.Skeleton
public import proofs.«01_k».proof.Proof.Gen.UaKernelIdeal.Launch
public import proofs.«01_k».proof.Proof.Gen.UaKernelIdeal.Points
public import proofs.«01_k».proof.Proof.Gen.UaKernelIdeal.Frame
public import proofs.«01_k».proof.Proof.Gen.UaReferenceIdeal
public import proofs.«01_k».proof.Proof.Gen.UbKernel
public import proofs.«01_k».proof.Proof.Gen.UbKernel.Skeleton
public import proofs.«01_k».proof.Proof.Gen.UbKernel.Launch
public import proofs.«01_k».proof.Proof.Gen.UbKernel.Points
public import proofs.«01_k».proof.Proof.Gen.UbKernel.Frame
public import proofs.«01_k».proof.Proof.Gen.UbKernelIdeal
public import proofs.«01_k».proof.Proof.Gen.UbKernelIdeal.Skeleton
public import proofs.«01_k».proof.Proof.Gen.UbKernelIdeal.Launch
public import proofs.«01_k».proof.Proof.Gen.UbKernelIdeal.Points
public import proofs.«01_k».proof.Proof.Gen.UbKernelIdeal.Frame
public import proofs.«01_k».proof.Proof.Gen.UbReferenceIdeal
public import proofs.«01_k».proof.Proof.Gen.UcKernel
public import proofs.«01_k».proof.Proof.Gen.UcKernel.Skeleton
public import proofs.«01_k».proof.Proof.Gen.UcKernel.Launch
public import proofs.«01_k».proof.Proof.Gen.UcKernel.Points
public import proofs.«01_k».proof.Proof.Gen.UcKernel.Frame
public import proofs.«01_k».proof.Proof.Gen.UcKernelIdeal
public import proofs.«01_k».proof.Proof.Gen.UcKernelIdeal.Skeleton
public import proofs.«01_k».proof.Proof.Gen.UcKernelIdeal.Launch
public import proofs.«01_k».proof.Proof.Gen.UcKernelIdeal.Points
public import proofs.«01_k».proof.Proof.Gen.UcKernelIdeal.Frame
public import proofs.«01_k».proof.Proof.Gen.UcReferenceIdeal
public import proofs.«01_k».proof.Proof.Gen.UdKernel
public import proofs.«01_k».proof.Proof.Gen.UdKernel.Skeleton
public import proofs.«01_k».proof.Proof.Gen.UdKernel.Launch
public import proofs.«01_k».proof.Proof.Gen.UdKernel.Points
public import proofs.«01_k».proof.Proof.Gen.UdKernel.Frame
public import proofs.«01_k».proof.Proof.Gen.UdKernelIdeal
public import proofs.«01_k».proof.Proof.Gen.UdKernelIdeal.Skeleton
public import proofs.«01_k».proof.Proof.Gen.UdKernelIdeal.Launch
public import proofs.«01_k».proof.Proof.Gen.UdKernelIdeal.Points
public import proofs.«01_k».proof.Proof.Gen.UdKernelIdeal.Frame
public import proofs.«01_k».proof.Proof.Gen.UdReferenceIdeal
public import proofs.«01_k».proof.Proof.Gen.UeKernel
public import proofs.«01_k».proof.Proof.Gen.UeKernel.Skeleton
public import proofs.«01_k».proof.Proof.Gen.UeKernel.Launch
public import proofs.«01_k».proof.Proof.Gen.UeKernel.Points
public import proofs.«01_k».proof.Proof.Gen.UeKernel.Frame
public import proofs.«01_k».proof.Proof.Gen.UeKernelIdeal
public import proofs.«01_k».proof.Proof.Gen.UeKernelIdeal.Skeleton
public import proofs.«01_k».proof.Proof.Gen.UeKernelIdeal.Launch
public import proofs.«01_k».proof.Proof.Gen.UeKernelIdeal.Points
public import proofs.«01_k».proof.Proof.Gen.UeKernelIdeal.Frame
public import proofs.«01_k».proof.Proof.Gen.UeReferenceIdeal
public import proofs.«01_k».proof.Proof.Gen.UfKernel
public import proofs.«01_k».proof.Proof.Gen.UfKernel.Skeleton
public import proofs.«01_k».proof.Proof.Gen.UfKernel.Launch
public import proofs.«01_k».proof.Proof.Gen.UfKernel.Points
public import proofs.«01_k».proof.Proof.Gen.UfKernel.Frame
public import proofs.«01_k».proof.Proof.Gen.UfKernelIdeal
public import proofs.«01_k».proof.Proof.Gen.UfKernelIdeal.Skeleton
public import proofs.«01_k».proof.Proof.Gen.UfKernelIdeal.Launch
public import proofs.«01_k».proof.Proof.Gen.UfKernelIdeal.Points
public import proofs.«01_k».proof.Proof.Gen.UfKernelIdeal.Frame
public import proofs.«01_k».proof.Proof.Gen.UfReferenceIdeal
public import proofs.«01_k».proof.Proof.Gen.UgKernel
public import proofs.«01_k».proof.Proof.Gen.UgKernel.Skeleton
public import proofs.«01_k».proof.Proof.Gen.UgKernel.Launch
public import proofs.«01_k».proof.Proof.Gen.UgKernel.Points
public import proofs.«01_k».proof.Proof.Gen.UgKernel.Frame
public import proofs.«01_k».proof.Proof.Gen.UgKernelIdeal
public import proofs.«01_k».proof.Proof.Gen.UgKernelIdeal.Skeleton
public import proofs.«01_k».proof.Proof.Gen.UgKernelIdeal.Launch
public import proofs.«01_k».proof.Proof.Gen.UgKernelIdeal.Points
public import proofs.«01_k».proof.Proof.Gen.UgKernelIdeal.Frame
public import proofs.«01_k».proof.Proof.Gen.UgReferenceIdeal
public import proofs.«01_k».proof.Proof.Gen.UhKernel
public import proofs.«01_k».proof.Proof.Gen.UhKernel.Skeleton
public import proofs.«01_k».proof.Proof.Gen.UhKernel.Launch
public import proofs.«01_k».proof.Proof.Gen.UhKernel.Points
public import proofs.«01_k».proof.Proof.Gen.UhKernel.Frame
public import proofs.«01_k».proof.Proof.Gen.UhKernelIdeal
public import proofs.«01_k».proof.Proof.Gen.UhKernelIdeal.Skeleton
public import proofs.«01_k».proof.Proof.Gen.UhKernelIdeal.Launch
public import proofs.«01_k».proof.Proof.Gen.UhKernelIdeal.Points
public import proofs.«01_k».proof.Proof.Gen.UhKernelIdeal.Frame
public import proofs.«01_k».proof.Proof.Gen.UhReferenceIdeal
public import proofs.«01_k».proof.Proof.DactValue
public import proofs.«01_k».proof.Proof.DwoValue
public import proofs.«01_k».proof.Proof.DhValue
public import proofs.«01_k».proof.Proof.DwiValue
public import proofs.«01_k».proof.Proof.DmValue
public import proofs.«01_k».proof.Proof.DwmValue
public import proofs.«01_k».proof.Proof.DyaValue
public import proofs.«01_k».proof.Proof.DwaValue
public import proofs.«01_k».proof.Proof.DygValue
public import proofs.«01_k».proof.Proof.DwgValue
public import proofs.«01_k».proof.Proof.DzValue
public import proofs.«01_k».proof.Proof.DwzValue
public import proofs.«01_k».proof.Proof.FzValue
public import proofs.«01_k».proof.Proof.FgValue
public import proofs.«01_k».proof.Proof.FaValue
public import proofs.«01_k».proof.Proof.FmValue
public import proofs.«01_k».proof.Proof.FiValue
public import proofs.«01_k».proof.Proof.FoValue
public import proofs.«01_k».proof.Proof.GateValue
public import proofs.«01_k».proof.Proof.SwbValue
public import proofs.«01_k».proof.Proof.NbValue
public import proofs.«01_k».proof.Proof.GbValue
public import proofs.«01_k».proof.Proof.GebValue
public import proofs.«01_k».proof.Proof.NormValue
public import proofs.«01_k».proof.Proof.GeluValue
public import proofs.«01_k».proof.Proof.GluValue
public import proofs.«01_k».proof.Proof.MergeValue
public import proofs.«01_k».proof.Proof.SwfValue
public import proofs.«01_k».proof.Proof.AdamValue
public import proofs.«01_k».proof.Proof.RefFrames
public import Idealize.ShloMosaic.Adequacy
public import Idealize.ShloMosaic.Init

@[expose] public section

noncomputable section

namespace Cert.Proof

open Idealize.ShloMosaic Idealize.SL.Sem

/-- The attention kernel runs and keeps its arguments. -/
theorem frame_p : Cert.quiescent_Kernel := fun m ρ _ => Cert.Kernel.Gen.frame m ρ

/-- So does the same kernel read over the reals. -/
theorem frame_pi : Cert.quiescent_KernelIdeal := fun m ρ _ => Cert.KernelIdeal.Gen.frame m ρ

/-- The one change between the two: the mask entry `-1e30` is read as minus infinity. -/
theorem preserves_attention : Cert.preserves_Kernel_KernelIdeal :=
  IdealRules.named_const.statement Cert.KernelIdeal.κ "mask" .f32 0xF149F2CA#32 ⊥ rfl

theorem frame_p_dact : Cert.quiescent_DactKernel := fun m ρ _ => Cert.DactKernel.Gen.frame m ρ

theorem frame_pi_dact : Cert.quiescent_DactKernelIdeal := fun m ρ _ => Cert.DactKernelIdeal.Gen.frame m ρ

theorem preserves_dact : Cert.preserves_DactKernel_DactKernelIdeal := trivial

theorem frame_p_dwo : Cert.quiescent_DwoKernel := fun m ρ _ => Cert.DwoKernel.Gen.frame m ρ

theorem frame_pi_dwo : Cert.quiescent_DwoKernelIdeal := fun m ρ _ => Cert.DwoKernelIdeal.Gen.frame m ρ

theorem preserves_dwo : Cert.preserves_DwoKernel_DwoKernelIdeal := trivial

theorem frame_p_dh : Cert.quiescent_DhKernel := fun m ρ _ => Cert.DhKernel.Gen.frame m ρ

theorem frame_pi_dh : Cert.quiescent_DhKernelIdeal := fun m ρ _ => Cert.DhKernelIdeal.Gen.frame m ρ

theorem preserves_dh : Cert.preserves_DhKernel_DhKernelIdeal := trivial

theorem frame_p_dwi : Cert.quiescent_DwiKernel := fun m ρ _ => Cert.DwiKernel.Gen.frame m ρ

theorem frame_pi_dwi : Cert.quiescent_DwiKernelIdeal := fun m ρ _ => Cert.DwiKernelIdeal.Gen.frame m ρ

theorem preserves_dwi : Cert.preserves_DwiKernel_DwiKernelIdeal := trivial

theorem frame_p_dm : Cert.quiescent_DmKernel := fun m ρ _ => Cert.DmKernel.Gen.frame m ρ

theorem frame_pi_dm : Cert.quiescent_DmKernelIdeal := fun m ρ _ => Cert.DmKernelIdeal.Gen.frame m ρ

theorem preserves_dm : Cert.preserves_DmKernel_DmKernelIdeal := trivial

theorem frame_p_dwm : Cert.quiescent_DwmKernel := fun m ρ _ => Cert.DwmKernel.Gen.frame m ρ

theorem frame_pi_dwm : Cert.quiescent_DwmKernelIdeal := fun m ρ _ => Cert.DwmKernelIdeal.Gen.frame m ρ

theorem preserves_dwm : Cert.preserves_DwmKernel_DwmKernelIdeal := trivial

theorem frame_p_dya : Cert.quiescent_DyaKernel := fun m ρ _ => Cert.DyaKernel.Gen.frame m ρ

theorem frame_pi_dya : Cert.quiescent_DyaKernelIdeal := fun m ρ _ => Cert.DyaKernelIdeal.Gen.frame m ρ

theorem preserves_dya : Cert.preserves_DyaKernel_DyaKernelIdeal := trivial

theorem frame_p_dwa : Cert.quiescent_DwaKernel := fun m ρ _ => Cert.DwaKernel.Gen.frame m ρ

theorem frame_pi_dwa : Cert.quiescent_DwaKernelIdeal := fun m ρ _ => Cert.DwaKernelIdeal.Gen.frame m ρ

theorem preserves_dwa : Cert.preserves_DwaKernel_DwaKernelIdeal := trivial

theorem frame_p_dyg : Cert.quiescent_DygKernel := fun m ρ _ => Cert.DygKernel.Gen.frame m ρ

theorem frame_pi_dyg : Cert.quiescent_DygKernelIdeal := fun m ρ _ => Cert.DygKernelIdeal.Gen.frame m ρ

theorem preserves_dyg : Cert.preserves_DygKernel_DygKernelIdeal := trivial

theorem frame_p_dwg : Cert.quiescent_DwgKernel := fun m ρ _ => Cert.DwgKernel.Gen.frame m ρ

theorem frame_pi_dwg : Cert.quiescent_DwgKernelIdeal := fun m ρ _ => Cert.DwgKernelIdeal.Gen.frame m ρ

theorem preserves_dwg : Cert.preserves_DwgKernel_DwgKernelIdeal := trivial

theorem frame_p_dz : Cert.quiescent_DzKernel := fun m ρ _ => Cert.DzKernel.Gen.frame m ρ

theorem frame_pi_dz : Cert.quiescent_DzKernelIdeal := fun m ρ _ => Cert.DzKernelIdeal.Gen.frame m ρ

theorem preserves_dz : Cert.preserves_DzKernel_DzKernelIdeal := trivial

theorem frame_p_dwz : Cert.quiescent_DwzKernel := fun m ρ _ => Cert.DwzKernel.Gen.frame m ρ

theorem frame_pi_dwz : Cert.quiescent_DwzKernelIdeal := fun m ρ _ => Cert.DwzKernelIdeal.Gen.frame m ρ

theorem preserves_dwz : Cert.preserves_DwzKernel_DwzKernelIdeal := trivial

theorem frame_p_fz : Cert.quiescent_FzKernel := fun m ρ _ => Cert.FzKernel.Gen.frame m ρ

theorem frame_pi_fz : Cert.quiescent_FzKernelIdeal := fun m ρ _ => Cert.FzKernelIdeal.Gen.frame m ρ

theorem preserves_fz : Cert.preserves_FzKernel_FzKernelIdeal := trivial

theorem frame_p_fg : Cert.quiescent_FgKernel := fun m ρ _ => Cert.FgKernel.Gen.frame m ρ

theorem frame_pi_fg : Cert.quiescent_FgKernelIdeal := fun m ρ _ => Cert.FgKernelIdeal.Gen.frame m ρ

theorem preserves_fg : Cert.preserves_FgKernel_FgKernelIdeal := trivial

theorem frame_p_fa : Cert.quiescent_FaKernel := fun m ρ _ => Cert.FaKernel.Gen.frame m ρ

theorem frame_pi_fa : Cert.quiescent_FaKernelIdeal := fun m ρ _ => Cert.FaKernelIdeal.Gen.frame m ρ

theorem preserves_fa : Cert.preserves_FaKernel_FaKernelIdeal := trivial

theorem frame_p_fm : Cert.quiescent_FmKernel := fun m ρ _ => Cert.FmKernel.Gen.frame m ρ

theorem frame_pi_fm : Cert.quiescent_FmKernelIdeal := fun m ρ _ => Cert.FmKernelIdeal.Gen.frame m ρ

theorem preserves_fm : Cert.preserves_FmKernel_FmKernelIdeal := trivial

theorem frame_p_fi : Cert.quiescent_FiKernel := fun m ρ _ => Cert.FiKernel.Gen.frame m ρ

theorem frame_pi_fi : Cert.quiescent_FiKernelIdeal := fun m ρ _ => Cert.FiKernelIdeal.Gen.frame m ρ

theorem preserves_fi : Cert.preserves_FiKernel_FiKernelIdeal := trivial

theorem frame_p_fo : Cert.quiescent_FoKernel := fun m ρ _ => Cert.FoKernel.Gen.frame m ρ

theorem frame_pi_fo : Cert.quiescent_FoKernelIdeal := fun m ρ _ => Cert.FoKernelIdeal.Gen.frame m ρ

theorem preserves_fo : Cert.preserves_FoKernel_FoKernelIdeal := trivial

theorem frame_p_gate : Cert.quiescent_GateKernel := fun m ρ _ => Cert.GateKernel.Gen.frame m ρ

theorem frame_pi_gate : Cert.quiescent_GateKernelIdeal := fun m ρ _ => Cert.GateKernelIdeal.Gen.frame m ρ

theorem preserves_gate : Cert.preserves_GateKernel_GateKernelIdeal := trivial

theorem frame_p_swb : Cert.quiescent_SwbKernel := fun m ρ _ => Cert.SwbKernel.Gen.frame m ρ

theorem frame_pi_swb : Cert.quiescent_SwbKernelIdeal := fun m ρ _ => Cert.SwbKernelIdeal.Gen.frame m ρ

theorem preserves_swb : Cert.preserves_SwbKernel_SwbKernelIdeal := trivial

theorem frame_p_nb : Cert.quiescent_NbKernel := fun m ρ _ => Cert.NbKernel.Gen.frame m ρ

theorem frame_pi_nb : Cert.quiescent_NbKernelIdeal := fun m ρ _ => Cert.NbKernelIdeal.Gen.frame m ρ

theorem preserves_nb : Cert.preserves_NbKernel_NbKernelIdeal := trivial

theorem frame_p_gb : Cert.quiescent_GbKernel := fun m ρ _ => Cert.GbKernel.Gen.frame m ρ

theorem frame_pi_gb : Cert.quiescent_GbKernelIdeal := fun m ρ _ => Cert.GbKernelIdeal.Gen.frame m ρ

theorem preserves_gb : Cert.preserves_GbKernel_GbKernelIdeal := trivial

theorem frame_p_geb : Cert.quiescent_GebKernel := fun m ρ _ => Cert.GebKernel.Gen.frame m ρ

theorem frame_pi_geb : Cert.quiescent_GebKernelIdeal := fun m ρ _ => Cert.GebKernelIdeal.Gen.frame m ρ

theorem preserves_geb : Cert.preserves_GebKernel_GebKernelIdeal := trivial

theorem frame_p_norm : Cert.quiescent_NormKernel := fun m ρ _ => Cert.NormKernel.Gen.frame m ρ

theorem frame_pi_norm : Cert.quiescent_NormKernelIdeal := fun m ρ _ => Cert.NormKernelIdeal.Gen.frame m ρ

theorem preserves_norm : Cert.preserves_NormKernel_NormKernelIdeal := trivial

theorem frame_p_gelu : Cert.quiescent_GeluKernel := fun m ρ _ => Cert.GeluKernel.Gen.frame m ρ

theorem frame_pi_gelu : Cert.quiescent_GeluKernelIdeal := fun m ρ _ => Cert.GeluKernelIdeal.Gen.frame m ρ

theorem preserves_gelu : Cert.preserves_GeluKernel_GeluKernelIdeal := trivial

theorem frame_p_glu : Cert.quiescent_GluKernel := fun m ρ _ => Cert.GluKernel.Gen.frame m ρ

theorem frame_pi_glu : Cert.quiescent_GluKernelIdeal := fun m ρ _ => Cert.GluKernelIdeal.Gen.frame m ρ

theorem preserves_glu : Cert.preserves_GluKernel_GluKernelIdeal := trivial

theorem frame_p_merge : Cert.quiescent_MergeKernel := fun m ρ _ => Cert.MergeKernel.Gen.frame m ρ

theorem frame_pi_merge : Cert.quiescent_MergeKernelIdeal := fun m ρ _ => Cert.MergeKernelIdeal.Gen.frame m ρ

theorem preserves_merge : Cert.preserves_MergeKernel_MergeKernelIdeal := trivial

theorem frame_p_swf : Cert.quiescent_SwfKernel := fun m ρ _ => Cert.SwfKernel.Gen.frame m ρ

theorem frame_pi_swf : Cert.quiescent_SwfKernelIdeal := fun m ρ _ => Cert.SwfKernelIdeal.Gen.frame m ρ

theorem preserves_swf : Cert.preserves_SwfKernel_SwfKernelIdeal := trivial

theorem frame_p_ua : Cert.quiescent_UaKernel := fun m ρ _ => Cert.UaKernel.Gen.frame m ρ

theorem frame_pi_ua : Cert.quiescent_UaKernelIdeal := fun m ρ _ => Cert.UaKernelIdeal.Gen.frame m ρ

theorem preserves_ua : Cert.preserves_UaKernel_UaKernelIdeal := trivial

theorem frame_p_ub : Cert.quiescent_UbKernel := fun m ρ _ => Cert.UbKernel.Gen.frame m ρ

theorem frame_pi_ub : Cert.quiescent_UbKernelIdeal := fun m ρ _ => Cert.UbKernelIdeal.Gen.frame m ρ

theorem preserves_ub : Cert.preserves_UbKernel_UbKernelIdeal := trivial

theorem frame_p_uc : Cert.quiescent_UcKernel := fun m ρ _ => Cert.UcKernel.Gen.frame m ρ

theorem frame_pi_uc : Cert.quiescent_UcKernelIdeal := fun m ρ _ => Cert.UcKernelIdeal.Gen.frame m ρ

theorem preserves_uc : Cert.preserves_UcKernel_UcKernelIdeal := trivial

theorem frame_p_ud : Cert.quiescent_UdKernel := fun m ρ _ => Cert.UdKernel.Gen.frame m ρ

theorem frame_pi_ud : Cert.quiescent_UdKernelIdeal := fun m ρ _ => Cert.UdKernelIdeal.Gen.frame m ρ

theorem preserves_ud : Cert.preserves_UdKernel_UdKernelIdeal := trivial

theorem frame_p_ue : Cert.quiescent_UeKernel := fun m ρ _ => Cert.UeKernel.Gen.frame m ρ

theorem frame_pi_ue : Cert.quiescent_UeKernelIdeal := fun m ρ _ => Cert.UeKernelIdeal.Gen.frame m ρ

theorem preserves_ue : Cert.preserves_UeKernel_UeKernelIdeal := trivial

theorem frame_p_uf : Cert.quiescent_UfKernel := fun m ρ _ => Cert.UfKernel.Gen.frame m ρ

theorem frame_pi_uf : Cert.quiescent_UfKernelIdeal := fun m ρ _ => Cert.UfKernelIdeal.Gen.frame m ρ

theorem preserves_uf : Cert.preserves_UfKernel_UfKernelIdeal := trivial

theorem frame_p_ug : Cert.quiescent_UgKernel := fun m ρ _ => Cert.UgKernel.Gen.frame m ρ

theorem frame_pi_ug : Cert.quiescent_UgKernelIdeal := fun m ρ _ => Cert.UgKernelIdeal.Gen.frame m ρ

theorem preserves_ug : Cert.preserves_UgKernel_UgKernelIdeal := trivial

theorem frame_p_uh : Cert.quiescent_UhKernel := fun m ρ _ => Cert.UhKernel.Gen.frame m ρ

theorem frame_pi_uh : Cert.quiescent_UhKernelIdeal := fun m ρ _ => Cert.UhKernelIdeal.Gen.frame m ρ

theorem preserves_uh : Cert.preserves_UhKernel_UhKernelIdeal := trivial

theorem claim : Cert.Claim :=
  ⟨Cert.Kernel.Gen.facts,
    Cert.KernelIdeal.Gen.facts,
    Cert.DactKernel.Gen.facts,
    Cert.DactKernelIdeal.Gen.facts,
    Cert.DactReferenceIdeal.Gen.facts,
    Cert.DwoKernel.Gen.facts,
    Cert.DwoKernelIdeal.Gen.facts,
    Cert.DwoReferenceIdeal.Gen.facts,
    Cert.DhKernel.Gen.facts,
    Cert.DhKernelIdeal.Gen.facts,
    Cert.DhReferenceIdeal.Gen.facts,
    Cert.DwiKernel.Gen.facts,
    Cert.DwiKernelIdeal.Gen.facts,
    Cert.DwiReferenceIdeal.Gen.facts,
    Cert.DmKernel.Gen.facts,
    Cert.DmKernelIdeal.Gen.facts,
    Cert.DmReferenceIdeal.Gen.facts,
    Cert.DwmKernel.Gen.facts,
    Cert.DwmKernelIdeal.Gen.facts,
    Cert.DwmReferenceIdeal.Gen.facts,
    Cert.DyaKernel.Gen.facts,
    Cert.DyaKernelIdeal.Gen.facts,
    Cert.DyaReferenceIdeal.Gen.facts,
    Cert.DwaKernel.Gen.facts,
    Cert.DwaKernelIdeal.Gen.facts,
    Cert.DwaReferenceIdeal.Gen.facts,
    Cert.DygKernel.Gen.facts,
    Cert.DygKernelIdeal.Gen.facts,
    Cert.DygReferenceIdeal.Gen.facts,
    Cert.DwgKernel.Gen.facts,
    Cert.DwgKernelIdeal.Gen.facts,
    Cert.DwgReferenceIdeal.Gen.facts,
    Cert.DzKernel.Gen.facts,
    Cert.DzKernelIdeal.Gen.facts,
    Cert.DzReferenceIdeal.Gen.facts,
    Cert.DwzKernel.Gen.facts,
    Cert.DwzKernelIdeal.Gen.facts,
    Cert.DwzReferenceIdeal.Gen.facts,
    Cert.FzKernel.Gen.facts,
    Cert.FzKernelIdeal.Gen.facts,
    Cert.FzReferenceIdeal.Gen.facts,
    Cert.FgKernel.Gen.facts,
    Cert.FgKernelIdeal.Gen.facts,
    Cert.FgReferenceIdeal.Gen.facts,
    Cert.FaKernel.Gen.facts,
    Cert.FaKernelIdeal.Gen.facts,
    Cert.FaReferenceIdeal.Gen.facts,
    Cert.FmKernel.Gen.facts,
    Cert.FmKernelIdeal.Gen.facts,
    Cert.FmReferenceIdeal.Gen.facts,
    Cert.FiKernel.Gen.facts,
    Cert.FiKernelIdeal.Gen.facts,
    Cert.FiReferenceIdeal.Gen.facts,
    Cert.FoKernel.Gen.facts,
    Cert.FoKernelIdeal.Gen.facts,
    Cert.FoReferenceIdeal.Gen.facts,
    Cert.GateKernel.Gen.facts,
    Cert.GateKernelIdeal.Gen.facts,
    Cert.GateReferenceIdeal.Gen.facts,
    Cert.SwbKernel.Gen.facts,
    Cert.SwbKernelIdeal.Gen.facts,
    Cert.SwbReferenceIdeal.Gen.facts,
    Cert.NbKernel.Gen.facts,
    Cert.NbKernelIdeal.Gen.facts,
    Cert.NbReferenceIdeal.Gen.facts,
    Cert.GbKernel.Gen.facts,
    Cert.GbKernelIdeal.Gen.facts,
    Cert.GbReferenceIdeal.Gen.facts,
    Cert.GebKernel.Gen.facts,
    Cert.GebKernelIdeal.Gen.facts,
    Cert.GebReferenceIdeal.Gen.facts,
    Cert.NormKernel.Gen.facts,
    Cert.NormKernelIdeal.Gen.facts,
    Cert.NormReferenceIdeal.Gen.facts,
    Cert.GeluKernel.Gen.facts,
    Cert.GeluKernelIdeal.Gen.facts,
    Cert.GeluReferenceIdeal.Gen.facts,
    Cert.GluKernel.Gen.facts,
    Cert.GluKernelIdeal.Gen.facts,
    Cert.GluReferenceIdeal.Gen.facts,
    Cert.MergeKernel.Gen.facts,
    Cert.MergeKernelIdeal.Gen.facts,
    Cert.MergeReferenceIdeal.Gen.facts,
    Cert.SwfKernel.Gen.facts,
    Cert.SwfKernelIdeal.Gen.facts,
    Cert.SwfReferenceIdeal.Gen.facts,
    Cert.UaKernel.Gen.facts,
    Cert.UaKernelIdeal.Gen.facts,
    Cert.UaReferenceIdeal.Gen.facts,
    Cert.UbKernel.Gen.facts,
    Cert.UbKernelIdeal.Gen.facts,
    Cert.UbReferenceIdeal.Gen.facts,
    Cert.UcKernel.Gen.facts,
    Cert.UcKernelIdeal.Gen.facts,
    Cert.UcReferenceIdeal.Gen.facts,
    Cert.UdKernel.Gen.facts,
    Cert.UdKernelIdeal.Gen.facts,
    Cert.UdReferenceIdeal.Gen.facts,
    Cert.UeKernel.Gen.facts,
    Cert.UeKernelIdeal.Gen.facts,
    Cert.UeReferenceIdeal.Gen.facts,
    Cert.UfKernel.Gen.facts,
    Cert.UfKernelIdeal.Gen.facts,
    Cert.UfReferenceIdeal.Gen.facts,
    Cert.UgKernel.Gen.facts,
    Cert.UgKernelIdeal.Gen.facts,
    Cert.UgReferenceIdeal.Gen.facts,
    Cert.UhKernel.Gen.facts,
    Cert.UhKernelIdeal.Gen.facts,
    Cert.UhReferenceIdeal.Gen.facts,
    facts_finite_swb,
    frame_p,
    frame_pi,
    frame_p_dact,
    frame_pi_dact,
    frame_ri_dact,
    frame_p_dwo,
    frame_pi_dwo,
    frame_ri_dwo,
    frame_p_dh,
    frame_pi_dh,
    frame_ri_dh,
    frame_p_dwi,
    frame_pi_dwi,
    frame_ri_dwi,
    frame_p_dm,
    frame_pi_dm,
    frame_ri_dm,
    frame_p_dwm,
    frame_pi_dwm,
    frame_ri_dwm,
    frame_p_dya,
    frame_pi_dya,
    frame_ri_dya,
    frame_p_dwa,
    frame_pi_dwa,
    frame_ri_dwa,
    frame_p_dyg,
    frame_pi_dyg,
    frame_ri_dyg,
    frame_p_dwg,
    frame_pi_dwg,
    frame_ri_dwg,
    frame_p_dz,
    frame_pi_dz,
    frame_ri_dz,
    frame_p_dwz,
    frame_pi_dwz,
    frame_ri_dwz,
    frame_p_fz,
    frame_pi_fz,
    frame_ri_fz,
    frame_p_fg,
    frame_pi_fg,
    frame_ri_fg,
    frame_p_fa,
    frame_pi_fa,
    frame_ri_fa,
    frame_p_fm,
    frame_pi_fm,
    frame_ri_fm,
    frame_p_fi,
    frame_pi_fi,
    frame_ri_fi,
    frame_p_fo,
    frame_pi_fo,
    frame_ri_fo,
    frame_p_gate,
    frame_pi_gate,
    frame_ri_gate,
    frame_p_swb,
    frame_pi_swb,
    fun m ρ _ => frame_pi_swb m ρ trivial,
    frame_ri_swb,
    fun m ρ _ => frame_ri_swb m ρ trivial,
    frame_p_nb,
    frame_pi_nb,
    frame_ri_nb,
    frame_p_gb,
    frame_pi_gb,
    frame_ri_gb,
    frame_p_geb,
    frame_pi_geb,
    frame_ri_geb,
    frame_p_norm,
    frame_pi_norm,
    frame_ri_norm,
    frame_p_gelu,
    frame_pi_gelu,
    frame_ri_gelu,
    frame_p_glu,
    frame_pi_glu,
    frame_ri_glu,
    frame_p_merge,
    frame_pi_merge,
    frame_ri_merge,
    frame_p_swf,
    frame_pi_swf,
    frame_ri_swf,
    frame_p_ua,
    frame_pi_ua,
    frame_ri_ua,
    frame_p_ub,
    frame_pi_ub,
    frame_ri_ub,
    frame_p_uc,
    frame_pi_uc,
    frame_ri_uc,
    frame_p_ud,
    frame_pi_ud,
    frame_ri_ud,
    frame_p_ue,
    frame_pi_ue,
    frame_ri_ue,
    frame_p_uf,
    frame_pi_uf,
    frame_ri_uf,
    frame_p_ug,
    frame_pi_ug,
    frame_ri_ug,
    frame_p_uh,
    frame_pi_uh,
    frame_ri_uh,
    preserves_attention,
    preserves_dact,
    algebraic_dact,
    preserves_dwo,
    algebraic_dwo,
    preserves_dh,
    algebraic_dh,
    preserves_dwi,
    algebraic_dwi,
    preserves_dm,
    algebraic_dm,
    preserves_dwm,
    algebraic_dwm,
    preserves_dya,
    algebraic_dya,
    preserves_dwa,
    algebraic_dwa,
    preserves_dyg,
    algebraic_dyg,
    preserves_dwg,
    algebraic_dwg,
    preserves_dz,
    algebraic_dz,
    preserves_dwz,
    algebraic_dwz,
    preserves_fz,
    algebraic_fz,
    preserves_fg,
    algebraic_fg,
    preserves_fa,
    algebraic_fa,
    preserves_fm,
    algebraic_fm,
    preserves_fi,
    algebraic_fi,
    preserves_fo,
    algebraic_fo,
    preserves_gate,
    algebraic_gate,
    preserves_swb,
    algebraic_swb,
    preserves_nb,
    algebraic_nb,
    preserves_gb,
    algebraic_gb,
    preserves_geb,
    algebraic_geb,
    preserves_norm,
    algebraic_norm,
    preserves_gelu,
    algebraic_gelu,
    preserves_glu,
    algebraic_glu,
    preserves_merge,
    algebraic_merge,
    preserves_swf,
    algebraic_swf,
    preserves_ua,
    algebraic_ua,
    preserves_ub,
    algebraic_ub,
    preserves_uc,
    algebraic_uc,
    preserves_ud,
    algebraic_ud,
    preserves_ue,
    algebraic_ue,
    preserves_uf,
    algebraic_uf,
    preserves_ug,
    algebraic_ug,
    preserves_uh,
    algebraic_uh⟩

end Cert.Proof

end
